-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_DInMain (m : (ℓ : Loc Cert.DInMain.nD Cert.DInMain.τ Cert.DInMain.sig) → Buf (Elt Bits) ℓ) : Prop :=
  True

def Pre_DInMainIdeal (m : (ℓ : Loc Cert.DInMainIdeal.nD Cert.DInMainIdeal.τ Cert.DInMainIdeal.sig) → Buf (Elt Ideal) ℓ) : Prop :=
  True

def Pre_DInMainRefIdeal (m : (ℓ : Loc Cert.DInMainRefIdeal.nD Cert.DInMainRefIdeal.τ Cert.DInMainRefIdeal.sig) → Buf (Elt Ideal) ℓ) : Prop :=
  True

def Pre_DhMix (m : (ℓ : Loc Cert.DhMix.nD Cert.DhMix.τ Cert.DhMix.sig) → Buf (Elt Bits) ℓ) : Prop :=
  True

def Pre_DhMixIdeal (m : (ℓ : Loc Cert.DhMixIdeal.nD Cert.DhMixIdeal.τ Cert.DhMixIdeal.sig) → Buf (Elt Ideal) ℓ) : Prop :=
  True

def Pre_DhMixRefIdeal (m : (ℓ : Loc Cert.DhMixRefIdeal.nD Cert.DhMixRefIdeal.τ Cert.DhMixRefIdeal.sig) → Buf (Elt Ideal) ℓ) : Prop :=
  True

def Pre_ProjMain (m : (ℓ : Loc Cert.ProjMain.nD Cert.ProjMain.τ Cert.ProjMain.sig) → Buf (Elt Bits) ℓ) : Prop :=
  True

def Pre_ProjMainIdeal (m : (ℓ : Loc Cert.ProjMainIdeal.nD Cert.ProjMainIdeal.τ Cert.ProjMainIdeal.sig) → Buf (Elt Ideal) ℓ) : Prop :=
  True

def Pre_ProjMainRefIdeal (m : (ℓ : Loc Cert.ProjMainRefIdeal.nD Cert.ProjMainRefIdeal.τ Cert.ProjMainRefIdeal.sig) → Buf (Elt Ideal) ℓ) : Prop :=
  True

def Pre_DFfnUp (m : (ℓ : Loc Cert.DFfnUp.nD Cert.DFfnUp.τ Cert.DFfnUp.sig) → Buf (Elt Bits) ℓ) : Prop :=
  True

def Pre_DFfnUpIdeal (m : (ℓ : Loc Cert.DFfnUpIdeal.nD Cert.DFfnUpIdeal.τ Cert.DFfnUpIdeal.sig) → Buf (Elt Ideal) ℓ) : Prop :=
  True

def Pre_DFfnUpRefIdeal (m : (ℓ : Loc Cert.DFfnUpRefIdeal.nD Cert.DFfnUpRefIdeal.τ Cert.DFfnUpRefIdeal.sig) → Buf (Elt Ideal) ℓ) : Prop :=
  True

def Pre_DhFfnG (m : (ℓ : Loc Cert.DhFfnG.nD Cert.DhFfnG.τ Cert.DhFfnG.sig) → Buf (Elt Bits) ℓ) : Prop :=
  True

def Pre_DhFfnGIdeal (m : (ℓ : Loc Cert.DhFfnGIdeal.nD Cert.DhFfnGIdeal.τ Cert.DhFfnGIdeal.sig) → Buf (Elt Ideal) ℓ) : Prop :=
  True

def Pre_DhFfnGRefIdeal (m : (ℓ : Loc Cert.DhFfnGRefIdeal.nD Cert.DhFfnGRefIdeal.τ Cert.DhFfnGRefIdeal.sig) → Buf (Elt Ideal) ℓ) : Prop :=
  True

def Pre_DhFfnV (m : (ℓ : Loc Cert.DhFfnV.nD Cert.DhFfnV.τ Cert.DhFfnV.sig) → Buf (Elt Bits) ℓ) : Prop :=
  True

def Pre_DhFfnVIdeal (m : (ℓ : Loc Cert.DhFfnVIdeal.nD Cert.DhFfnVIdeal.τ Cert.DhFfnVIdeal.sig) → Buf (Elt Ideal) ℓ) : Prop :=
  True

def Pre_DhFfnVRefIdeal (m : (ℓ : Loc Cert.DhFfnVRefIdeal.nD Cert.DhFfnVRefIdeal.τ Cert.DhFfnVRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DFfnDown (m : (ℓ : Loc Cert.DFfnDown.nD Cert.DFfnDown.τ Cert.DFfnDown.sig) → Buf (Elt Bits) ℓ) : Prop :=
  True

def Pre_DFfnDownIdeal (m : (ℓ : Loc Cert.DFfnDownIdeal.nD Cert.DFfnDownIdeal.τ Cert.DFfnDownIdeal.sig) → Buf (Elt Ideal) ℓ) : Prop :=
  True

def Pre_DFfnDownRefIdeal (m : (ℓ : Loc Cert.DFfnDownRefIdeal.nD Cert.DFfnDownRefIdeal.τ Cert.DFfnDownRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DOn (m : (ℓ : Loc Cert.DOn.nD Cert.DOn.τ Cert.DOn.sig) → Buf (Elt Bits) ℓ) : Prop :=
  True

def Pre_DOnIdeal (m : (ℓ : Loc Cert.DOnIdeal.nD Cert.DOnIdeal.τ Cert.DOnIdeal.sig) → Buf (Elt Ideal) ℓ) : Prop :=
  True

def Pre_DOnRefIdeal (m : (ℓ : Loc Cert.DOnRefIdeal.nD Cert.DOnRefIdeal.τ Cert.DOnRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DBranchA (m : (ℓ : Loc Cert.DBranchA.nD Cert.DBranchA.τ Cert.DBranchA.sig) → Buf (Elt Bits) ℓ) : Prop :=
  True

def Pre_DBranchAIdeal (m : (ℓ : Loc Cert.DBranchAIdeal.nD Cert.DBranchAIdeal.τ Cert.DBranchAIdeal.sig) → Buf (Elt Ideal) ℓ) : Prop :=
  True

def Pre_DBranchARefIdeal (m : (ℓ : Loc Cert.DBranchARefIdeal.nD Cert.DBranchARefIdeal.τ Cert.DBranchARefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBRefIdeal (m : (ℓ : Loc Cert.BranchBRefIdeal.nD Cert.BranchBRefIdeal.τ Cert.BranchBRefIdeal.sig) → Buf (Elt Ideal) ℓ) : Prop :=
  True

def Pre_DSgu (m : (ℓ : Loc Cert.DSgu.nD Cert.DSgu.τ Cert.DSgu.sig) → Buf (Elt Bits) ℓ) : Prop :=
  True

def Pre_DSguIdeal (m : (ℓ : Loc Cert.DSguIdeal.nD Cert.DSguIdeal.τ Cert.DSguIdeal.sig) → Buf (Elt Ideal) ℓ) : Prop :=
  True

def Pre_DSguRefIdeal (m : (ℓ : Loc Cert.DSguRefIdeal.nD Cert.DSguRefIdeal.τ Cert.DSguRefIdeal.sig) → Buf (Elt Ideal) ℓ) : Prop :=
  True

def Pre_DBranchB (m : (ℓ : Loc Cert.DBranchB.nD Cert.DBranchB.τ Cert.DBranchB.sig) → Buf (Elt Bits) ℓ) : Prop :=
  True

def Pre_DBranchBIdeal (m : (ℓ : Loc Cert.DBranchBIdeal.nD Cert.DBranchBIdeal.τ Cert.DBranchBIdeal.sig) → Buf (Elt Ideal) ℓ) : Prop :=
  True

def Pre_DBranchBRefIdeal (m : (ℓ : Loc Cert.DBranchBRefIdeal.nD Cert.DBranchBRefIdeal.τ Cert.DBranchBRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_DPleProj (m : (ℓ : Loc Cert.DPleProj.nD Cert.DPleProj.τ Cert.DPleProj.sig) → Buf (Elt Bits) ℓ) : Prop :=
  True

def Pre_DPleProjIdeal (m : (ℓ : Loc Cert.DPleProjIdeal.nD Cert.DPleProjIdeal.τ Cert.DPleProjIdeal.sig) → Buf (Elt Ideal) ℓ) : Prop :=
  True

def Pre_DPleProjRefIdeal (m : (ℓ : Loc Cert.DPleProjRefIdeal.nD Cert.DPleProjRefIdeal.τ Cert.DPleProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DInMain [hDInMain : Cert.DInMain.Facts] : Prop :=
  ∀ (m : (ℓ : Loc Cert.DInMain.nD Cert.DInMain.τ Cert.DInMain.sig) → Buf (Elt Bits) ℓ) (g : Dev Cert.DInMain.nD → PrngReg), Pre_DInMain m →
    θ_run (Cert.DInMain.defs (F := Bits)) (onTc (τ := Cert.DInMain.τ) (Cert.DInMain.main (F := Bits))) ⟨m, fun _ => 0, g⟩ (fun r => (∀ c : Dev Cert.DInMain.nD,
      r.2.mem ((c.tc : Thread Cert.DInMain.nD Cert.DInMain.τ).loc Cert.DInMain.main_arg0) = m ((c.tc : Thread Cert.DInMain.nD Cert.DInMain.τ).loc Cert.DInMain.main_arg0)
      ∧ r.2.mem ((c.tc : Thread Cert.DInMain.nD Cert.DInMain.τ).loc Cert.DInMain.main_arg1) = m ((c.tc : Thread Cert.DInMain.nD Cert.DInMain.τ).loc Cert.DInMain.main_arg1))
      ∧ r.2.sem = fun _ => 0)

def quiescent_DInMainIdeal [hDInMainIdeal : Cert.DInMainIdeal.Facts] : Prop :=
  ∀ (m : (ℓ : Loc Cert.DInMainIdeal.nD Cert.DInMainIdeal.τ Cert.DInMainIdeal.sig) → Buf (Elt Ideal) ℓ) (g : Dev Cert.DInMainIdeal.nD → PrngReg), Pre_DInMainIdeal m →
    θ_run (Cert.DInMainIdeal.defs (F := Ideal)) (onTc (τ := Cert.DInMainIdeal.τ) (Cert.DInMainIdeal.main (F := Ideal))) ⟨m, fun _ => 0, g⟩ (fun r => (∀ c : Dev Cert.DInMainIdeal.nD,
      r.2.mem ((c.tc : Thread Cert.DInMainIdeal.nD Cert.DInMainIdeal.τ).loc Cert.DInMainIdeal.main_arg0) = m ((c.tc : Thread Cert.DInMainIdeal.nD Cert.DInMainIdeal.τ).loc Cert.DInMainIdeal.main_arg0)
      ∧ r.2.mem ((c.tc : Thread Cert.DInMainIdeal.nD Cert.DInMainIdeal.τ).loc Cert.DInMainIdeal.main_arg1) = m ((c.tc : Thread Cert.DInMainIdeal.nD Cert.DInMainIdeal.τ).loc Cert.DInMainIdeal.main_arg1))
      ∧ r.2.sem = fun _ => 0)

def quiescent_DInMainRefIdeal [hDInMainRefIdeal : Cert.DInMainRefIdeal.Facts] : Prop :=
  ∀ (m : (ℓ : Loc Cert.DInMainRefIdeal.nD Cert.DInMainRefIdeal.τ Cert.DInMainRefIdeal.sig) → Buf (Elt Ideal) ℓ) (g : Dev Cert.DInMainRefIdeal.nD → PrngReg), Pre_DInMainRefIdeal m →
    θ_run (Cert.DInMainRefIdeal.defs (F := Ideal)) (onTc (τ := Cert.DInMainRefIdeal.τ) (Cert.DInMainRefIdeal.main (F := Ideal))) ⟨m, fun _ => 0, g⟩ (fun r => (∀ c : Dev Cert.DInMainRefIdeal.nD,
      r.2.mem ((c.tc : Thread Cert.DInMainRefIdeal.nD Cert.DInMainRefIdeal.τ).loc Cert.DInMainRefIdeal.main_arg0) = m ((c.tc : Thread Cert.DInMainRefIdeal.nD Cert.DInMainRefIdeal.τ).loc Cert.DInMainRefIdeal.main_arg0)
      ∧ r.2.mem ((c.tc : Thread Cert.DInMainRefIdeal.nD Cert.DInMainRefIdeal.τ).loc Cert.DInMainRefIdeal.main_arg1) = m ((c.tc : Thread Cert.DInMainRefIdeal.nD Cert.DInMainRefIdeal.τ).loc Cert.DInMainRefIdeal.main_arg1))
      ∧ r.2.sem = fun _ => 0)

def quiescent_DhMix [hDhMix : Cert.DhMix.Facts] : Prop :=
  ∀ (m : (ℓ : Loc Cert.DhMix.nD Cert.DhMix.τ Cert.DhMix.sig) → Buf (Elt Bits) ℓ) (g : Dev Cert.DhMix.nD → PrngReg), Pre_DhMix m →
    θ_run (Cert.DhMix.defs (F := Bits)) (onTc (τ := Cert.DhMix.τ) (Cert.DhMix.main (F := Bits))) ⟨m, fun _ => 0, g⟩ (fun r => (∀ c : Dev Cert.DhMix.nD,
      r.2.mem ((c.tc : Thread Cert.DhMix.nD Cert.DhMix.τ).loc Cert.DhMix.main_arg0) = m ((c.tc : Thread Cert.DhMix.nD Cert.DhMix.τ).loc Cert.DhMix.main_arg0)
      ∧ r.2.mem ((c.tc : Thread Cert.DhMix.nD Cert.DhMix.τ).loc Cert.DhMix.main_arg1) = m ((c.tc : Thread Cert.DhMix.nD Cert.DhMix.τ).loc Cert.DhMix.main_arg1)
      ∧ r.2.mem ((c.tc : Thread Cert.DhMix.nD Cert.DhMix.τ).loc Cert.DhMix.main_arg2) = m ((c.tc : Thread Cert.DhMix.nD Cert.DhMix.τ).loc Cert.DhMix.main_arg2))
      ∧ r.2.sem = fun _ => 0)

def quiescent_DhMixIdeal [hDhMixIdeal : Cert.DhMixIdeal.Facts] : Prop :=
  ∀ (m : (ℓ : Loc Cert.DhMixIdeal.nD Cert.DhMixIdeal.τ Cert.DhMixIdeal.sig) → Buf (Elt Ideal) ℓ) (g : Dev Cert.DhMixIdeal.nD → PrngReg), Pre_DhMixIdeal m →
    θ_run (Cert.DhMixIdeal.defs (F := Ideal)) (onTc (τ := Cert.DhMixIdeal.τ) (Cert.DhMixIdeal.main (F := Ideal))) ⟨m, fun _ => 0, g⟩ (fun r => (∀ c : Dev Cert.DhMixIdeal.nD,
      r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
      ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1)
      ∧ r.2.mem ((c.tc : Thread Cert.DhMixIdeal.nD Cert.DhMixIdeal.τ).loc Cert.DhMixIdeal.main_arg2) = m ((c.tc : Thread Cert.DhMixIdeal.nD Cert.DhMixIdeal.τ).loc Cert.DhMixIdeal.main_arg2))
      ∧ r.2.sem = fun _ => 0)

def quiescent_DhMixRefIdeal [hDhMixRefIdeal : Cert.DhMixRefIdeal.Facts] : Prop :=
  ∀ (m : (ℓ : Loc Cert.DhMixRefIdeal.nD Cert.DhMixRefIdeal.τ Cert.DhMixRefIdeal.sig) → Buf (Elt Ideal) ℓ) (g : Dev Cert.DhMixRefIdeal.nD → PrngReg), Pre_DhMixRefIdeal m →
    θ_run (Cert.DhMixRefIdeal.defs (F := Ideal)) (onTc (τ := Cert.DhMixRefIdeal.τ) (Cert.DhMixRefIdeal.main (F := Ideal))) ⟨m, fun _ => 0, g⟩ (fun r => (∀ c : Dev Cert.DhMixRefIdeal.nD,
      r.2.mem ((c.tc : Thread Cert.DhMixRefIdeal.nD Cert.DhMixRefIdeal.τ).loc Cert.DhMixRefIdeal.main_arg0) = m ((c.tc : Thread Cert.DhMixRefIdeal.nD Cert.DhMixRefIdeal.τ).loc Cert.DhMixRefIdeal.main_arg0)
      ∧ r.2.mem ((c.tc : Thread Cert.DhMixRefIdeal.nD Cert.DhMixRefIdeal.τ).loc Cert.DhMixRefIdeal.main_arg1) = m ((c.tc : Thread Cert.DhMixRefIdeal.nD Cert.DhMixRefIdeal.τ).loc Cert.DhMixRefIdeal.main_arg1)
      ∧ r.2.mem ((c.tc : Thread Cert.DhMixRefIdeal.nD Cert.DhMixRefIdeal.τ).loc Cert.DhMixRefIdeal.main_arg2) = m ((c.tc : Thread Cert.DhMixRefIdeal.nD Cert.DhMixRefIdeal.τ).loc Cert.DhMixRefIdeal.main_arg2))
      ∧ r.2.sem = fun _ => 0)

def quiescent_ProjMain [hProjMain : Cert.ProjMain.Facts] : Prop :=
  ∀ (m : (ℓ : Loc Cert.ProjMain.nD Cert.ProjMain.τ Cert.ProjMain.sig) → Buf (Elt Bits) ℓ) (g : Dev Cert.ProjMain.nD → PrngReg), Pre_ProjMain m →
    θ_run (Cert.ProjMain.defs (F := Bits)) (onTc (τ := Cert.ProjMain.τ) (Cert.ProjMain.main (F := Bits))) ⟨m, fun _ => 0, g⟩ (fun r => (∀ c : Dev Cert.ProjMain.nD,
      r.2.mem ((c.tc : Thread Cert.ProjMain.nD Cert.ProjMain.τ).loc Cert.ProjMain.main_arg0) = m ((c.tc : Thread Cert.ProjMain.nD Cert.ProjMain.τ).loc Cert.ProjMain.main_arg0)
      ∧ r.2.mem ((c.tc : Thread Cert.ProjMain.nD Cert.ProjMain.τ).loc Cert.ProjMain.main_arg1) = m ((c.tc : Thread Cert.ProjMain.nD Cert.ProjMain.τ).loc Cert.ProjMain.main_arg1))
      ∧ r.2.sem = fun _ => 0)

def quiescent_ProjMainIdeal [hProjMainIdeal : Cert.ProjMainIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg), Pre_ProjMainIdeal m →
    θ_run (Cert.ProjMainIdeal.defs (F := Ideal)) (onTc (τ := Cert.ProjMainIdeal.τ) (Cert.ProjMainIdeal.main (F := Ideal))) ⟨m, fun _ => 0, g⟩ (fun r => (∀ c : Dev Cert.ProjMainIdeal.nD,
      r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
      ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ r.2.sem = fun _ => 0)

def quiescent_ProjMainRefIdeal [hProjMainRefIdeal : Cert.ProjMainRefIdeal.Facts] : Prop :=
  ∀ (m : (ℓ : Loc Cert.ProjMainRefIdeal.nD Cert.ProjMainRefIdeal.τ Cert.ProjMainRefIdeal.sig) → Buf (Elt Ideal) ℓ) (g : Dev Cert.ProjMainRefIdeal.nD → PrngReg), Pre_ProjMainRefIdeal m →
    θ_run (Cert.ProjMainRefIdeal.defs (F := Ideal)) (onTc (τ := Cert.ProjMainRefIdeal.τ) (Cert.ProjMainRefIdeal.main (F := Ideal))) ⟨m, fun _ => 0, g⟩ (fun r => (∀ c : Dev Cert.ProjMainRefIdeal.nD,
      r.2.mem ((c.tc : Thread Cert.ProjMainRefIdeal.nD Cert.ProjMainRefIdeal.τ).loc Cert.ProjMainRefIdeal.main_arg0) = m ((c.tc : Thread Cert.ProjMainRefIdeal.nD Cert.ProjMainRefIdeal.τ).loc Cert.ProjMainRefIdeal.main_arg0)
      ∧ r.2.mem ((c.tc : Thread Cert.ProjMainRefIdeal.nD Cert.ProjMainRefIdeal.τ).loc Cert.ProjMainRefIdeal.main_arg1) = m ((c.tc : Thread Cert.ProjMainRefIdeal.nD Cert.ProjMainRefIdeal.τ).loc Cert.ProjMainRefIdeal.main_arg1))
      ∧ r.2.sem = fun _ => 0)

def quiescent_DFfnUp [hDFfnUp : Cert.DFfnUp.Facts] : Prop :=
  ∀ (m : (ℓ : Loc Cert.DFfnUp.nD Cert.DFfnUp.τ Cert.DFfnUp.sig) → Buf (Elt Bits) ℓ) (g : Dev Cert.DFfnUp.nD → PrngReg), Pre_DFfnUp m →
    θ_run (Cert.DFfnUp.defs (F := Bits)) (onTc (τ := Cert.DFfnUp.τ) (Cert.DFfnUp.main (F := Bits))) ⟨m, fun _ => 0, g⟩ (fun r => (∀ c : Dev Cert.DFfnUp.nD,
      r.2.mem ((c.tc : Thread Cert.DFfnUp.nD Cert.DFfnUp.τ).loc Cert.DFfnUp.main_arg0) = m ((c.tc : Thread Cert.DFfnUp.nD Cert.DFfnUp.τ).loc Cert.DFfnUp.main_arg0)
      ∧ r.2.mem ((c.tc : Thread Cert.DFfnUp.nD Cert.DFfnUp.τ).loc Cert.DFfnUp.main_arg1) = m ((c.tc : Thread Cert.DFfnUp.nD Cert.DFfnUp.τ).loc Cert.DFfnUp.main_arg1))
      ∧ r.2.sem = fun _ => 0)

def quiescent_DFfnUpIdeal [hDFfnUpIdeal : Cert.DFfnUpIdeal.Facts] : Prop :=
  ∀ (m : (ℓ : Loc Cert.DFfnUpIdeal.nD Cert.DFfnUpIdeal.τ Cert.DFfnUpIdeal.sig) → Buf (Elt Ideal) ℓ) (g : Dev Cert.DFfnUpIdeal.nD → PrngReg), Pre_DFfnUpIdeal m →
    θ_run (Cert.DFfnUpIdeal.defs (F := Ideal)) (onTc (τ := Cert.DFfnUpIdeal.τ) (Cert.DFfnUpIdeal.main (F := Ideal))) ⟨m, fun _ => 0, g⟩ (fun r => (∀ c : Dev Cert.DFfnUpIdeal.nD,
      r.2.mem ((c.tc : Thread Cert.DFfnUpIdeal.nD Cert.DFfnUpIdeal.τ).loc Cert.DFfnUpIdeal.main_arg0) = m ((c.tc : Thread Cert.DFfnUpIdeal.nD Cert.DFfnUpIdeal.τ).loc Cert.DFfnUpIdeal.main_arg0)
      ∧ r.2.mem ((c.tc : Thread Cert.DFfnUpIdeal.nD Cert.DFfnUpIdeal.τ).loc Cert.DFfnUpIdeal.main_arg1) = m ((c.tc : Thread Cert.DFfnUpIdeal.nD Cert.DFfnUpIdeal.τ).loc Cert.DFfnUpIdeal.main_arg1))
      ∧ r.2.sem = fun _ => 0)

def quiescent_DFfnUpRefIdeal [hDFfnUpRefIdeal : Cert.DFfnUpRefIdeal.Facts] : Prop :=
  ∀ (m : (ℓ : Loc Cert.DFfnUpRefIdeal.nD Cert.DFfnUpRefIdeal.τ Cert.DFfnUpRefIdeal.sig) → Buf (Elt Ideal) ℓ) (g : Dev Cert.DFfnUpRefIdeal.nD → PrngReg), Pre_DFfnUpRefIdeal m →
    θ_run (Cert.DFfnUpRefIdeal.defs (F := Ideal)) (onTc (τ := Cert.DFfnUpRefIdeal.τ) (Cert.DFfnUpRefIdeal.main (F := Ideal))) ⟨m, fun _ => 0, g⟩ (fun r => (∀ c : Dev Cert.DFfnUpRefIdeal.nD,
      r.2.mem ((c.tc : Thread Cert.DFfnUpRefIdeal.nD Cert.DFfnUpRefIdeal.τ).loc Cert.DFfnUpRefIdeal.main_arg0) = m ((c.tc : Thread Cert.DFfnUpRefIdeal.nD Cert.DFfnUpRefIdeal.τ).loc Cert.DFfnUpRefIdeal.main_arg0)
      ∧ r.2.mem ((c.tc : Thread Cert.DFfnUpRefIdeal.nD Cert.DFfnUpRefIdeal.τ).loc Cert.DFfnUpRefIdeal.main_arg1) = m ((c.tc : Thread Cert.DFfnUpRefIdeal.nD Cert.DFfnUpRefIdeal.τ).loc Cert.DFfnUpRefIdeal.main_arg1))
      ∧ r.2.sem = fun _ => 0)

def quiescent_DhFfnG [hDhFfnG : Cert.DhFfnG.Facts] : Prop :=
  ∀ (m : (ℓ : Loc Cert.DhFfnG.nD Cert.DhFfnG.τ Cert.DhFfnG.sig) → Buf (Elt Bits) ℓ) (g : Dev Cert.DhFfnG.nD → PrngReg), Pre_DhFfnG m →
    θ_run (Cert.DhFfnG.defs (F := Bits)) (onTc (τ := Cert.DhFfnG.τ) (Cert.DhFfnG.main (F := Bits))) ⟨m, fun _ => 0, g⟩ (fun r => (∀ c : Dev Cert.DhFfnG.nD,
      r.2.mem ((c.tc : Thread Cert.DhFfnG.nD Cert.DhFfnG.τ).loc Cert.DhFfnG.main_arg0) = m ((c.tc : Thread Cert.DhFfnG.nD Cert.DhFfnG.τ).loc Cert.DhFfnG.main_arg0)
      ∧ r.2.mem ((c.tc : Thread Cert.DhFfnG.nD Cert.DhFfnG.τ).loc Cert.DhFfnG.main_arg1) = m ((c.tc : Thread Cert.DhFfnG.nD Cert.DhFfnG.τ).loc Cert.DhFfnG.main_arg1))
      ∧ r.2.sem = fun _ => 0)

def quiescent_DhFfnGIdeal [hDhFfnGIdeal : Cert.DhFfnGIdeal.Facts] : Prop :=
  ∀ (m : (ℓ : Loc Cert.DhFfnGIdeal.nD Cert.DhFfnGIdeal.τ Cert.DhFfnGIdeal.sig) → Buf (Elt Ideal) ℓ) (g : Dev Cert.DhFfnGIdeal.nD → PrngReg), Pre_DhFfnGIdeal m →
    θ_run (Cert.DhFfnGIdeal.defs (F := Ideal)) (onTc (τ := Cert.DhFfnGIdeal.τ) (Cert.DhFfnGIdeal.main (F := Ideal))) ⟨m, fun _ => 0, g⟩ (fun r => (∀ c : Dev Cert.DhFfnGIdeal.nD,
      r.2.mem ((c.tc : Thread Cert.DhFfnGIdeal.nD Cert.DhFfnGIdeal.τ).loc Cert.DhFfnGIdeal.main_arg0) = m ((c.tc : Thread Cert.DhFfnGIdeal.nD Cert.DhFfnGIdeal.τ).loc Cert.DhFfnGIdeal.main_arg0)
      ∧ r.2.mem ((c.tc : Thread Cert.DhFfnGIdeal.nD Cert.DhFfnGIdeal.τ).loc Cert.DhFfnGIdeal.main_arg1) = m ((c.tc : Thread Cert.DhFfnGIdeal.nD Cert.DhFfnGIdeal.τ).loc Cert.DhFfnGIdeal.main_arg1))
      ∧ r.2.sem = fun _ => 0)

def quiescent_DhFfnGRefIdeal [hDhFfnGRefIdeal : Cert.DhFfnGRefIdeal.Facts] : Prop :=
  ∀ (m : (ℓ : Loc Cert.DhFfnGRefIdeal.nD Cert.DhFfnGRefIdeal.τ Cert.DhFfnGRefIdeal.sig) → Buf (Elt Ideal) ℓ) (g : Dev Cert.DhFfnGRefIdeal.nD → PrngReg), Pre_DhFfnGRefIdeal m →
    θ_run (Cert.DhFfnGRefIdeal.defs (F := Ideal)) (onTc (τ := Cert.DhFfnGRefIdeal.τ) (Cert.DhFfnGRefIdeal.main (F := Ideal))) ⟨m, fun _ => 0, g⟩ (fun r => (∀ c : Dev Cert.DhFfnGRefIdeal.nD,
      r.2.mem ((c.tc : Thread Cert.DhFfnGRefIdeal.nD Cert.DhFfnGRefIdeal.τ).loc Cert.DhFfnGRefIdeal.main_arg0) = m ((c.tc : Thread Cert.DhFfnGRefIdeal.nD Cert.DhFfnGRefIdeal.τ).loc Cert.DhFfnGRefIdeal.main_arg0)
      ∧ r.2.mem ((c.tc : Thread Cert.DhFfnGRefIdeal.nD Cert.DhFfnGRefIdeal.τ).loc Cert.DhFfnGRefIdeal.main_arg1) = m ((c.tc : Thread Cert.DhFfnGRefIdeal.nD Cert.DhFfnGRefIdeal.τ).loc Cert.DhFfnGRefIdeal.main_arg1))
      ∧ r.2.sem = fun _ => 0)

def quiescent_DhFfnV [hDhFfnV : Cert.DhFfnV.Facts] : Prop :=
  ∀ (m : (ℓ : Loc Cert.DhFfnV.nD Cert.DhFfnV.τ Cert.DhFfnV.sig) → Buf (Elt Bits) ℓ) (g : Dev Cert.DhFfnV.nD → PrngReg), Pre_DhFfnV m →
    θ_run (Cert.DhFfnV.defs (F := Bits)) (onTc (τ := Cert.DhFfnV.τ) (Cert.DhFfnV.main (F := Bits))) ⟨m, fun _ => 0, g⟩ (fun r => (∀ c : Dev Cert.DhFfnV.nD,
      r.2.mem ((c.tc : Thread Cert.DhFfnV.nD Cert.DhFfnV.τ).loc Cert.DhFfnV.main_arg0) = m ((c.tc : Thread Cert.DhFfnV.nD Cert.DhFfnV.τ).loc Cert.DhFfnV.main_arg0)
      ∧ r.2.mem ((c.tc : Thread Cert.DhFfnV.nD Cert.DhFfnV.τ).loc Cert.DhFfnV.main_arg1) = m ((c.tc : Thread Cert.DhFfnV.nD Cert.DhFfnV.τ).loc Cert.DhFfnV.main_arg1)
      ∧ r.2.mem ((c.tc : Thread Cert.DhFfnV.nD Cert.DhFfnV.τ).loc Cert.DhFfnV.main_arg2) = m ((c.tc : Thread Cert.DhFfnV.nD Cert.DhFfnV.τ).loc Cert.DhFfnV.main_arg2))
      ∧ r.2.sem = fun _ => 0)

def quiescent_DhFfnVIdeal [hDhFfnVIdeal : Cert.DhFfnVIdeal.Facts] : Prop :=
  ∀ (m : (ℓ : Loc Cert.DhFfnVIdeal.nD Cert.DhFfnVIdeal.τ Cert.DhFfnVIdeal.sig) → Buf (Elt Ideal) ℓ) (g : Dev Cert.DhFfnVIdeal.nD → PrngReg), Pre_DhFfnVIdeal m →
    θ_run (Cert.DhFfnVIdeal.defs (F := Ideal)) (onTc (τ := Cert.DhFfnVIdeal.τ) (Cert.DhFfnVIdeal.main (F := Ideal))) ⟨m, fun _ => 0, g⟩ (fun r => (∀ c : Dev Cert.DhFfnVIdeal.nD,
      r.2.mem ((c.tc : Thread Cert.DhFfnVIdeal.nD Cert.DhFfnVIdeal.τ).loc Cert.DhFfnVIdeal.main_arg0) = m ((c.tc : Thread Cert.DhFfnVIdeal.nD Cert.DhFfnVIdeal.τ).loc Cert.DhFfnVIdeal.main_arg0)
      ∧ r.2.mem ((c.tc : Thread Cert.DhFfnVIdeal.nD Cert.DhFfnVIdeal.τ).loc Cert.DhFfnVIdeal.main_arg1) = m ((c.tc : Thread Cert.DhFfnVIdeal.nD Cert.DhFfnVIdeal.τ).loc Cert.DhFfnVIdeal.main_arg1)
      ∧ r.2.mem ((c.tc : Thread Cert.DhFfnVIdeal.nD Cert.DhFfnVIdeal.τ).loc Cert.DhFfnVIdeal.main_arg2) = m ((c.tc : Thread Cert.DhFfnVIdeal.nD Cert.DhFfnVIdeal.τ).loc Cert.DhFfnVIdeal.main_arg2))
      ∧ r.2.sem = fun _ => 0)

def quiescent_DhFfnVRefIdeal [hDhFfnVRefIdeal : Cert.DhFfnVRefIdeal.Facts] : Prop :=
  ∀ (m : (ℓ : Loc Cert.DhFfnVRefIdeal.nD Cert.DhFfnVRefIdeal.τ Cert.DhFfnVRefIdeal.sig) → Buf (Elt Ideal) ℓ) (g : Dev Cert.DhFfnVRefIdeal.nD → PrngReg), Pre_DhFfnVRefIdeal m →
    θ_run (Cert.DhFfnVRefIdeal.defs (F := Ideal)) (onTc (τ := Cert.DhFfnVRefIdeal.τ) (Cert.DhFfnVRefIdeal.main (F := Ideal))) ⟨m, fun _ => 0, g⟩ (fun r => (∀ c : Dev Cert.DhFfnVRefIdeal.nD,
      r.2.mem ((c.tc : Thread Cert.DhFfnVRefIdeal.nD Cert.DhFfnVRefIdeal.τ).loc Cert.DhFfnVRefIdeal.main_arg0) = m ((c.tc : Thread Cert.DhFfnVRefIdeal.nD Cert.DhFfnVRefIdeal.τ).loc Cert.DhFfnVRefIdeal.main_arg0)
      ∧ r.2.mem ((c.tc : Thread Cert.DhFfnVRefIdeal.nD Cert.DhFfnVRefIdeal.τ).loc Cert.DhFfnVRefIdeal.main_arg1) = m ((c.tc : Thread Cert.DhFfnVRefIdeal.nD Cert.DhFfnVRefIdeal.τ).loc Cert.DhFfnVRefIdeal.main_arg1)
      ∧ r.2.mem ((c.tc : Thread Cert.DhFfnVRefIdeal.nD Cert.DhFfnVRefIdeal.τ).loc Cert.DhFfnVRefIdeal.main_arg2) = m ((c.tc : Thread Cert.DhFfnVRefIdeal.nD Cert.DhFfnVRefIdeal.τ).loc Cert.DhFfnVRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DFfnDown [hDFfnDown : Cert.DFfnDown.Facts] : Prop :=
  ∀ (m : (ℓ : Loc Cert.DFfnDown.nD Cert.DFfnDown.τ Cert.DFfnDown.sig) → Buf (Elt Bits) ℓ) (g : Dev Cert.DFfnDown.nD → PrngReg), Pre_DFfnDown m →
    θ_run (Cert.DFfnDown.defs (F := Bits)) (onTc (τ := Cert.DFfnDown.τ) (Cert.DFfnDown.main (F := Bits))) ⟨m, fun _ => 0, g⟩ (fun r => (∀ c : Dev Cert.DFfnDown.nD,
      r.2.mem ((c.tc : Thread Cert.DFfnDown.nD Cert.DFfnDown.τ).loc Cert.DFfnDown.main_arg0) = m ((c.tc : Thread Cert.DFfnDown.nD Cert.DFfnDown.τ).loc Cert.DFfnDown.main_arg0)
      ∧ r.2.mem ((c.tc : Thread Cert.DFfnDown.nD Cert.DFfnDown.τ).loc Cert.DFfnDown.main_arg1) = m ((c.tc : Thread Cert.DFfnDown.nD Cert.DFfnDown.τ).loc Cert.DFfnDown.main_arg1))
      ∧ r.2.sem = fun _ => 0)

def quiescent_DFfnDownIdeal [hDFfnDownIdeal : Cert.DFfnDownIdeal.Facts] : Prop :=
  ∀ (m : (ℓ : Loc Cert.DFfnDownIdeal.nD Cert.DFfnDownIdeal.τ Cert.DFfnDownIdeal.sig) → Buf (Elt Ideal) ℓ) (g : Dev Cert.DFfnDownIdeal.nD → PrngReg), Pre_DFfnDownIdeal m →
    θ_run (Cert.DFfnDownIdeal.defs (F := Ideal)) (onTc (τ := Cert.DFfnDownIdeal.τ) (Cert.DFfnDownIdeal.main (F := Ideal))) ⟨m, fun _ => 0, g⟩ (fun r => (∀ c : Dev Cert.DFfnDownIdeal.nD,
      r.2.mem ((c.tc : Thread Cert.DFfnDownIdeal.nD Cert.DFfnDownIdeal.τ).loc Cert.DFfnDownIdeal.main_arg0) = m ((c.tc : Thread Cert.DFfnDownIdeal.nD Cert.DFfnDownIdeal.τ).loc Cert.DFfnDownIdeal.main_arg0)
      ∧ r.2.mem ((c.tc : Thread Cert.DFfnDownIdeal.nD Cert.DFfnDownIdeal.τ).loc Cert.DFfnDownIdeal.main_arg1) = m ((c.tc : Thread Cert.DFfnDownIdeal.nD Cert.DFfnDownIdeal.τ).loc Cert.DFfnDownIdeal.main_arg1))
      ∧ r.2.sem = fun _ => 0)

def quiescent_DFfnDownRefIdeal [hDFfnDownRefIdeal : Cert.DFfnDownRefIdeal.Facts] : Prop :=
  ∀ (m : (ℓ : Loc Cert.DFfnDownRefIdeal.nD Cert.DFfnDownRefIdeal.τ Cert.DFfnDownRefIdeal.sig) → Buf (Elt Ideal) ℓ) (g : Dev Cert.DFfnDownRefIdeal.nD → PrngReg), Pre_DFfnDownRefIdeal m →
    θ_run (Cert.DFfnDownRefIdeal.defs (F := Ideal)) (onTc (τ := Cert.DFfnDownRefIdeal.τ) (Cert.DFfnDownRefIdeal.main (F := Ideal))) ⟨m, fun _ => 0, g⟩ (fun r => (∀ c : Dev Cert.DFfnDownRefIdeal.nD,
      r.2.mem ((c.tc : Thread Cert.DFfnDownRefIdeal.nD Cert.DFfnDownRefIdeal.τ).loc Cert.DFfnDownRefIdeal.main_arg0) = m ((c.tc : Thread Cert.DFfnDownRefIdeal.nD Cert.DFfnDownRefIdeal.τ).loc Cert.DFfnDownRefIdeal.main_arg0)
      ∧ r.2.mem ((c.tc : Thread Cert.DFfnDownRefIdeal.nD Cert.DFfnDownRefIdeal.τ).loc Cert.DFfnDownRefIdeal.main_arg1) = m ((c.tc : Thread Cert.DFfnDownRefIdeal.nD Cert.DFfnDownRefIdeal.τ).loc Cert.DFfnDownRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DOn [hDOn : Cert.DOn.Facts] : Prop :=
  ∀ (m : (ℓ : Loc Cert.DOn.nD Cert.DOn.τ Cert.DOn.sig) → Buf (Elt Bits) ℓ) (g : Dev Cert.DOn.nD → PrngReg), Pre_DOn m →
    θ_run (Cert.DOn.defs (F := Bits)) (onTc (τ := Cert.DOn.τ) (Cert.DOn.main (F := Bits))) ⟨m, fun _ => 0, g⟩ (fun r => (∀ c : Dev Cert.DOn.nD,
      r.2.mem ((c.tc : Thread Cert.DOn.nD Cert.DOn.τ).loc Cert.DOn.main_arg0) = m ((c.tc : Thread Cert.DOn.nD Cert.DOn.τ).loc Cert.DOn.main_arg0)
      ∧ r.2.mem ((c.tc : Thread Cert.DOn.nD Cert.DOn.τ).loc Cert.DOn.main_arg1) = m ((c.tc : Thread Cert.DOn.nD Cert.DOn.τ).loc Cert.DOn.main_arg1))
      ∧ r.2.sem = fun _ => 0)

def quiescent_DOnIdeal [hDOnIdeal : Cert.DOnIdeal.Facts] : Prop :=
  ∀ (m : (ℓ : Loc Cert.DOnIdeal.nD Cert.DOnIdeal.τ Cert.DOnIdeal.sig) → Buf (Elt Ideal) ℓ) (g : Dev Cert.DOnIdeal.nD → PrngReg), Pre_DOnIdeal m →
    θ_run (Cert.DOnIdeal.defs (F := Ideal)) (onTc (τ := Cert.DOnIdeal.τ) (Cert.DOnIdeal.main (F := Ideal))) ⟨m, fun _ => 0, g⟩ (fun r => (∀ c : Dev Cert.DOnIdeal.nD,
      r.2.mem ((c.tc : Thread Cert.DOnIdeal.nD Cert.DOnIdeal.τ).loc Cert.DOnIdeal.main_arg0) = m ((c.tc : Thread Cert.DOnIdeal.nD Cert.DOnIdeal.τ).loc Cert.DOnIdeal.main_arg0)
      ∧ r.2.mem ((c.tc : Thread Cert.DOnIdeal.nD Cert.DOnIdeal.τ).loc Cert.DOnIdeal.main_arg1) = m ((c.tc : Thread Cert.DOnIdeal.nD Cert.DOnIdeal.τ).loc Cert.DOnIdeal.main_arg1))
      ∧ r.2.sem = fun _ => 0)

def quiescent_DOnRefIdeal [hDOnRefIdeal : Cert.DOnRefIdeal.Facts] : Prop :=
  ∀ (m : (ℓ : Loc Cert.DOnRefIdeal.nD Cert.DOnRefIdeal.τ Cert.DOnRefIdeal.sig) → Buf (Elt Ideal) ℓ) (g : Dev Cert.DOnRefIdeal.nD → PrngReg), Pre_DOnRefIdeal m →
    θ_run (Cert.DOnRefIdeal.defs (F := Ideal)) (onTc (τ := Cert.DOnRefIdeal.τ) (Cert.DOnRefIdeal.main (F := Ideal))) ⟨m, fun _ => 0, g⟩ (fun r => (∀ c : Dev Cert.DOnRefIdeal.nD,
      r.2.mem ((c.tc : Thread Cert.DOnRefIdeal.nD Cert.DOnRefIdeal.τ).loc Cert.DOnRefIdeal.main_arg0) = m ((c.tc : Thread Cert.DOnRefIdeal.nD Cert.DOnRefIdeal.τ).loc Cert.DOnRefIdeal.main_arg0)
      ∧ r.2.mem ((c.tc : Thread Cert.DOnRefIdeal.nD Cert.DOnRefIdeal.τ).loc Cert.DOnRefIdeal.main_arg1) = m ((c.tc : Thread Cert.DOnRefIdeal.nD Cert.DOnRefIdeal.τ).loc Cert.DOnRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DBranchA [hDBranchA : Cert.DBranchA.Facts] : Prop :=
  ∀ (m : (ℓ : Loc Cert.DBranchA.nD Cert.DBranchA.τ Cert.DBranchA.sig) → Buf (Elt Bits) ℓ) (g : Dev Cert.DBranchA.nD → PrngReg), Pre_DBranchA m →
    θ_run (Cert.DBranchA.defs (F := Bits)) (onTc (τ := Cert.DBranchA.τ) (Cert.DBranchA.main (F := Bits))) ⟨m, fun _ => 0, g⟩ (fun r => (∀ c : Dev Cert.DBranchA.nD,
      r.2.mem ((c.tc : Thread Cert.DBranchA.nD Cert.DBranchA.τ).loc Cert.DBranchA.main_arg0) = m ((c.tc : Thread Cert.DBranchA.nD Cert.DBranchA.τ).loc Cert.DBranchA.main_arg0)
      ∧ r.2.mem ((c.tc : Thread Cert.DBranchA.nD Cert.DBranchA.τ).loc Cert.DBranchA.main_arg1) = m ((c.tc : Thread Cert.DBranchA.nD Cert.DBranchA.τ).loc Cert.DBranchA.main_arg1))
      ∧ r.2.sem = fun _ => 0)

def quiescent_DBranchAIdeal [hDBranchAIdeal : Cert.DBranchAIdeal.Facts] : Prop :=
  ∀ (m : (ℓ : Loc Cert.DBranchAIdeal.nD Cert.DBranchAIdeal.τ Cert.DBranchAIdeal.sig) → Buf (Elt Ideal) ℓ) (g : Dev Cert.DBranchAIdeal.nD → PrngReg), Pre_DBranchAIdeal m →
    θ_run (Cert.DBranchAIdeal.defs (F := Ideal)) (onTc (τ := Cert.DBranchAIdeal.τ) (Cert.DBranchAIdeal.main (F := Ideal))) ⟨m, fun _ => 0, g⟩ (fun r => (∀ c : Dev Cert.DBranchAIdeal.nD,
      r.2.mem ((c.tc : Thread Cert.DBranchAIdeal.nD Cert.DBranchAIdeal.τ).loc Cert.DBranchAIdeal.main_arg0) = m ((c.tc : Thread Cert.DBranchAIdeal.nD Cert.DBranchAIdeal.τ).loc Cert.DBranchAIdeal.main_arg0)
      ∧ r.2.mem ((c.tc : Thread Cert.DBranchAIdeal.nD Cert.DBranchAIdeal.τ).loc Cert.DBranchAIdeal.main_arg1) = m ((c.tc : Thread Cert.DBranchAIdeal.nD Cert.DBranchAIdeal.τ).loc Cert.DBranchAIdeal.main_arg1))
      ∧ r.2.sem = fun _ => 0)

def quiescent_DBranchARefIdeal [hDBranchARefIdeal : Cert.DBranchARefIdeal.Facts] : Prop :=
  ∀ (m : (ℓ : Loc Cert.DBranchARefIdeal.nD Cert.DBranchARefIdeal.τ Cert.DBranchARefIdeal.sig) → Buf (Elt Ideal) ℓ) (g : Dev Cert.DBranchARefIdeal.nD → PrngReg), Pre_DBranchARefIdeal m →
    θ_run (Cert.DBranchARefIdeal.defs (F := Ideal)) (onTc (τ := Cert.DBranchARefIdeal.τ) (Cert.DBranchARefIdeal.main (F := Ideal))) ⟨m, fun _ => 0, g⟩ (fun r => (∀ c : Dev Cert.DBranchARefIdeal.nD,
      r.2.mem ((c.tc : Thread Cert.DBranchARefIdeal.nD Cert.DBranchARefIdeal.τ).loc Cert.DBranchARefIdeal.main_arg0) = m ((c.tc : Thread Cert.DBranchARefIdeal.nD Cert.DBranchARefIdeal.τ).loc Cert.DBranchARefIdeal.main_arg0)
      ∧ r.2.mem ((c.tc : Thread Cert.DBranchARefIdeal.nD Cert.DBranchARefIdeal.τ).loc Cert.DBranchARefIdeal.main_arg1) = m ((c.tc : Thread Cert.DBranchARefIdeal.nD Cert.DBranchARefIdeal.τ).loc Cert.DBranchARefIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_BranchBRefIdeal [hBranchBRefIdeal : Cert.BranchBRefIdeal.Facts] : Prop :=
  ∀ (m : (ℓ : Loc Cert.BranchBRefIdeal.nD Cert.BranchBRefIdeal.τ Cert.BranchBRefIdeal.sig) → Buf (Elt Ideal) ℓ) (g : Dev Cert.BranchBRefIdeal.nD → PrngReg), Pre_BranchBRefIdeal m →
    θ_run (Cert.BranchBRefIdeal.defs (F := Ideal)) (onTc (τ := Cert.BranchBRefIdeal.τ) (Cert.BranchBRefIdeal.main (F := Ideal))) ⟨m, fun _ => 0, g⟩ (fun r => (∀ c : Dev Cert.BranchBRefIdeal.nD,
      r.2.mem ((c.tc : Thread Cert.BranchBRefIdeal.nD Cert.BranchBRefIdeal.τ).loc Cert.BranchBRefIdeal.main_arg0) = m ((c.tc : Thread Cert.BranchBRefIdeal.nD Cert.BranchBRefIdeal.τ).loc Cert.BranchBRefIdeal.main_arg0)
      ∧ r.2.mem ((c.tc : Thread Cert.BranchBRefIdeal.nD Cert.BranchBRefIdeal.τ).loc Cert.BranchBRefIdeal.main_arg1) = m ((c.tc : Thread Cert.BranchBRefIdeal.nD Cert.BranchBRefIdeal.τ).loc Cert.BranchBRefIdeal.main_arg1))
      ∧ r.2.sem = fun _ => 0)

def quiescent_DSgu [hDSgu : Cert.DSgu.Facts] : Prop :=
  ∀ (m : (ℓ : Loc Cert.DSgu.nD Cert.DSgu.τ Cert.DSgu.sig) → Buf (Elt Bits) ℓ) (g : Dev Cert.DSgu.nD → PrngReg), Pre_DSgu m →
    θ_run (Cert.DSgu.defs (F := Bits)) (onTc (τ := Cert.DSgu.τ) (Cert.DSgu.main (F := Bits))) ⟨m, fun _ => 0, g⟩ (fun r => (∀ c : Dev Cert.DSgu.nD,
      r.2.mem ((c.tc : Thread Cert.DSgu.nD Cert.DSgu.τ).loc Cert.DSgu.main_arg0) = m ((c.tc : Thread Cert.DSgu.nD Cert.DSgu.τ).loc Cert.DSgu.main_arg0)
      ∧ r.2.mem ((c.tc : Thread Cert.DSgu.nD Cert.DSgu.τ).loc Cert.DSgu.main_arg1) = m ((c.tc : Thread Cert.DSgu.nD Cert.DSgu.τ).loc Cert.DSgu.main_arg1))
      ∧ r.2.sem = fun _ => 0)

def quiescent_DSguIdeal [hDSguIdeal : Cert.DSguIdeal.Facts] : Prop :=
  ∀ (m : (ℓ : Loc Cert.DSguIdeal.nD Cert.DSguIdeal.τ Cert.DSguIdeal.sig) → Buf (Elt Ideal) ℓ) (g : Dev Cert.DSguIdeal.nD → PrngReg), Pre_DSguIdeal m →
    θ_run (Cert.DSguIdeal.defs (F := Ideal)) (onTc (τ := Cert.DSguIdeal.τ) (Cert.DSguIdeal.main (F := Ideal))) ⟨m, fun _ => 0, g⟩ (fun r => (∀ c : Dev Cert.DSguIdeal.nD,
      r.2.mem ((c.tc : Thread Cert.DSguIdeal.nD Cert.DSguIdeal.τ).loc Cert.DSguIdeal.main_arg0) = m ((c.tc : Thread Cert.DSguIdeal.nD Cert.DSguIdeal.τ).loc Cert.DSguIdeal.main_arg0)
      ∧ r.2.mem ((c.tc : Thread Cert.DSguIdeal.nD Cert.DSguIdeal.τ).loc Cert.DSguIdeal.main_arg1) = m ((c.tc : Thread Cert.DSguIdeal.nD Cert.DSguIdeal.τ).loc Cert.DSguIdeal.main_arg1))
      ∧ r.2.sem = fun _ => 0)

def quiescent_DSguRefIdeal [hDSguRefIdeal : Cert.DSguRefIdeal.Facts] : Prop :=
  ∀ (m : (ℓ : Loc Cert.DSguRefIdeal.nD Cert.DSguRefIdeal.τ Cert.DSguRefIdeal.sig) → Buf (Elt Ideal) ℓ) (g : Dev Cert.DSguRefIdeal.nD → PrngReg), Pre_DSguRefIdeal m →
    θ_run (Cert.DSguRefIdeal.defs (F := Ideal)) (onTc (τ := Cert.DSguRefIdeal.τ) (Cert.DSguRefIdeal.main (F := Ideal))) ⟨m, fun _ => 0, g⟩ (fun r => (∀ c : Dev Cert.DSguRefIdeal.nD,
      r.2.mem ((c.tc : Thread Cert.DSguRefIdeal.nD Cert.DSguRefIdeal.τ).loc Cert.DSguRefIdeal.main_arg0) = m ((c.tc : Thread Cert.DSguRefIdeal.nD Cert.DSguRefIdeal.τ).loc Cert.DSguRefIdeal.main_arg0)
      ∧ r.2.mem ((c.tc : Thread Cert.DSguRefIdeal.nD Cert.DSguRefIdeal.τ).loc Cert.DSguRefIdeal.main_arg1) = m ((c.tc : Thread Cert.DSguRefIdeal.nD Cert.DSguRefIdeal.τ).loc Cert.DSguRefIdeal.main_arg1))
      ∧ r.2.sem = fun _ => 0)

def quiescent_DBranchB [hDBranchB : Cert.DBranchB.Facts] : Prop :=
  ∀ (m : (ℓ : Loc Cert.DBranchB.nD Cert.DBranchB.τ Cert.DBranchB.sig) → Buf (Elt Bits) ℓ) (g : Dev Cert.DBranchB.nD → PrngReg), Pre_DBranchB m →
    θ_run (Cert.DBranchB.defs (F := Bits)) (onTc (τ := Cert.DBranchB.τ) (Cert.DBranchB.main (F := Bits))) ⟨m, fun _ => 0, g⟩ (fun r => (∀ c : Dev Cert.DBranchB.nD,
      r.2.mem ((c.tc : Thread Cert.DBranchB.nD Cert.DBranchB.τ).loc Cert.DBranchB.main_arg0) = m ((c.tc : Thread Cert.DBranchB.nD Cert.DBranchB.τ).loc Cert.DBranchB.main_arg0)
      ∧ r.2.mem ((c.tc : Thread Cert.DBranchB.nD Cert.DBranchB.τ).loc Cert.DBranchB.main_arg1) = m ((c.tc : Thread Cert.DBranchB.nD Cert.DBranchB.τ).loc Cert.DBranchB.main_arg1))
      ∧ r.2.sem = fun _ => 0)

def quiescent_DBranchBIdeal [hDBranchBIdeal : Cert.DBranchBIdeal.Facts] : Prop :=
  ∀ (m : (ℓ : Loc Cert.DBranchBIdeal.nD Cert.DBranchBIdeal.τ Cert.DBranchBIdeal.sig) → Buf (Elt Ideal) ℓ) (g : Dev Cert.DBranchBIdeal.nD → PrngReg), Pre_DBranchBIdeal m →
    θ_run (Cert.DBranchBIdeal.defs (F := Ideal)) (onTc (τ := Cert.DBranchBIdeal.τ) (Cert.DBranchBIdeal.main (F := Ideal))) ⟨m, fun _ => 0, g⟩ (fun r => (∀ c : Dev Cert.DBranchBIdeal.nD,
      r.2.mem ((c.tc : Thread Cert.DBranchBIdeal.nD Cert.DBranchBIdeal.τ).loc Cert.DBranchBIdeal.main_arg0) = m ((c.tc : Thread Cert.DBranchBIdeal.nD Cert.DBranchBIdeal.τ).loc Cert.DBranchBIdeal.main_arg0)
      ∧ r.2.mem ((c.tc : Thread Cert.DBranchBIdeal.nD Cert.DBranchBIdeal.τ).loc Cert.DBranchBIdeal.main_arg1) = m ((c.tc : Thread Cert.DBranchBIdeal.nD Cert.DBranchBIdeal.τ).loc Cert.DBranchBIdeal.main_arg1))
      ∧ r.2.sem = fun _ => 0)

def quiescent_DBranchBRefIdeal [hDBranchBRefIdeal : Cert.DBranchBRefIdeal.Facts] : Prop :=
  ∀ (m : (ℓ : Loc Cert.DBranchBRefIdeal.nD Cert.DBranchBRefIdeal.τ Cert.DBranchBRefIdeal.sig) → Buf (Elt Ideal) ℓ) (g : Dev Cert.DBranchBRefIdeal.nD → PrngReg), Pre_DBranchBRefIdeal m →
    θ_run (Cert.DBranchBRefIdeal.defs (F := Ideal)) (onTc (τ := Cert.DBranchBRefIdeal.τ) (Cert.DBranchBRefIdeal.main (F := Ideal))) ⟨m, fun _ => 0, g⟩ (fun r => (∀ c : Dev Cert.DBranchBRefIdeal.nD,
      r.2.mem ((c.tc : Thread Cert.DBranchBRefIdeal.nD Cert.DBranchBRefIdeal.τ).loc Cert.DBranchBRefIdeal.main_arg0) = m ((c.tc : Thread Cert.DBranchBRefIdeal.nD Cert.DBranchBRefIdeal.τ).loc Cert.DBranchBRefIdeal.main_arg0)
      ∧ r.2.mem ((c.tc : Thread Cert.DBranchBRefIdeal.nD Cert.DBranchBRefIdeal.τ).loc Cert.DBranchBRefIdeal.main_arg1) = m ((c.tc : Thread Cert.DBranchBRefIdeal.nD Cert.DBranchBRefIdeal.τ).loc Cert.DBranchBRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_DPleProj [hDPleProj : Cert.DPleProj.Facts] : Prop :=
  ∀ (m : (ℓ : Loc Cert.DPleProj.nD Cert.DPleProj.τ Cert.DPleProj.sig) → Buf (Elt Bits) ℓ) (g : Dev Cert.DPleProj.nD → PrngReg), Pre_DPleProj m →
    θ_run (Cert.DPleProj.defs (F := Bits)) (onTc (τ := Cert.DPleProj.τ) (Cert.DPleProj.main (F := Bits))) ⟨m, fun _ => 0, g⟩ (fun r => (∀ c : Dev Cert.DPleProj.nD,
      r.2.mem ((c.tc : Thread Cert.DPleProj.nD Cert.DPleProj.τ).loc Cert.DPleProj.main_arg0) = m ((c.tc : Thread Cert.DPleProj.nD Cert.DPleProj.τ).loc Cert.DPleProj.main_arg0)
      ∧ r.2.mem ((c.tc : Thread Cert.DPleProj.nD Cert.DPleProj.τ).loc Cert.DPleProj.main_arg1) = m ((c.tc : Thread Cert.DPleProj.nD Cert.DPleProj.τ).loc Cert.DPleProj.main_arg1))
      ∧ r.2.sem = fun _ => 0)

def quiescent_DPleProjIdeal [hDPleProjIdeal : Cert.DPleProjIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg), Pre_DPleProjIdeal m →
    θ_run (Cert.DPleProjIdeal.defs (F := Ideal)) (onTc (τ := Cert.DPleProjIdeal.τ) (Cert.DPleProjIdeal.main (F := Ideal))) ⟨m, fun _ => 0, g⟩ (fun r => (∀ c : Dev Cert.DPleProjIdeal.nD,
      r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
      ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ r.2.sem = fun _ => 0)

def quiescent_DPleProjRefIdeal [hDPleProjRefIdeal : Cert.DPleProjRefIdeal.Facts] : Prop :=
  ∀ (m : (ℓ : Loc Cert.DPleProjRefIdeal.nD Cert.DPleProjRefIdeal.τ Cert.DPleProjRefIdeal.sig) → Buf (Elt Ideal) ℓ) (g : Dev Cert.DPleProjRefIdeal.nD → PrngReg), Pre_DPleProjRefIdeal m →
    θ_run (Cert.DPleProjRefIdeal.defs (F := Ideal)) (onTc (τ := Cert.DPleProjRefIdeal.τ) (Cert.DPleProjRefIdeal.main (F := Ideal))) ⟨m, fun _ => 0, g⟩ (fun r => (∀ c : Dev Cert.DPleProjRefIdeal.nD,
      r.2.mem ((c.tc : Thread Cert.DPleProjRefIdeal.nD Cert.DPleProjRefIdeal.τ).loc Cert.DPleProjRefIdeal.main_arg0) = m ((c.tc : Thread Cert.DPleProjRefIdeal.nD Cert.DPleProjRefIdeal.τ).loc Cert.DPleProjRefIdeal.main_arg0)
      ∧ r.2.mem ((c.tc : Thread Cert.DPleProjRefIdeal.nD Cert.DPleProjRefIdeal.τ).loc Cert.DPleProjRefIdeal.main_arg1) = m ((c.tc : Thread Cert.DPleProjRefIdeal.nD Cert.DPleProjRefIdeal.τ).loc Cert.DPleProjRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DInMain_DInMainIdeal : Prop :=
  True

def algebraic_DInMainIdeal_DInMainRefIdeal [hDInMainIdeal : Cert.DInMainIdeal.Facts] [hDInMainRefIdeal : Cert.DInMainRefIdeal.Facts] : Prop :=
  ∀ (m : (ℓ : Loc Cert.DInMainIdeal.nD Cert.DInMainIdeal.τ Cert.DInMainIdeal.sig) → Buf (Elt Ideal) ℓ) (g : Dev Cert.DInMainIdeal.nD → PrngReg)
    (m' : (ℓ : Loc Cert.DInMainRefIdeal.nD Cert.DInMainRefIdeal.τ Cert.DInMainRefIdeal.sig) → Buf (Elt Ideal) ℓ) (g' : Dev Cert.DInMainRefIdeal.nD → PrngReg), Pre_DInMainIdeal m →
    (∀ c : Dev Cert.DInMainIdeal.nD,
      m' ((c.tc : Thread Cert.DInMainRefIdeal.nD Cert.DInMainRefIdeal.τ).loc Cert.DInMainRefIdeal.main_arg0) = m ((c.tc : Thread Cert.DInMainIdeal.nD Cert.DInMainIdeal.τ).loc Cert.DInMainIdeal.main_arg0)
      ∧ m' ((c.tc : Thread Cert.DInMainRefIdeal.nD Cert.DInMainRefIdeal.τ).loc Cert.DInMainRefIdeal.main_arg1) = m ((c.tc : Thread Cert.DInMainIdeal.nD Cert.DInMainIdeal.τ).loc Cert.DInMainIdeal.main_arg1)) →
    ∃ (v0 : (c : Dev Cert.DInMainIdeal.nD) → Buf (Elt Ideal) ((c.tc : Thread Cert.DInMainIdeal.nD Cert.DInMainIdeal.τ).loc Cert.DInMainIdeal.main_v2)),
      θ_run (Cert.DInMainIdeal.defs (F := Ideal)) (onTc (τ := Cert.DInMainIdeal.τ) (Cert.DInMainIdeal.main (F := Ideal))) ⟨m, fun _ => 0, g⟩ (fun r => ∀ c : Dev Cert.DInMainIdeal.nD,
          r.2.mem ((c.tc : Thread Cert.DInMainIdeal.nD Cert.DInMainIdeal.τ).loc Cert.DInMainIdeal.main_v2) = v0 c
          ∧ r.2.mem ((c.tc : Thread Cert.DInMainIdeal.nD Cert.DInMainIdeal.τ).loc Cert.DInMainIdeal.main_arg0) = m ((c.tc : Thread Cert.DInMainIdeal.nD Cert.DInMainIdeal.τ).loc Cert.DInMainIdeal.main_arg0)
          ∧ r.2.mem ((c.tc : Thread Cert.DInMainIdeal.nD Cert.DInMainIdeal.τ).loc Cert.DInMainIdeal.main_arg1) = m ((c.tc : Thread Cert.DInMainIdeal.nD Cert.DInMainIdeal.τ).loc Cert.DInMainIdeal.main_arg1))
      ∧ θ_run (Cert.DInMainRefIdeal.defs (F := Ideal)) (onTc (τ := Cert.DInMainRefIdeal.τ) (Cert.DInMainRefIdeal.main (F := Ideal))) ⟨m', fun _ => 0, g'⟩ (fun r => ∀ c : Dev Cert.DInMainRefIdeal.nD,
          r.2.mem ((c.tc : Thread Cert.DInMainRefIdeal.nD Cert.DInMainRefIdeal.τ).loc Cert.DInMainRefIdeal.main_v4) = v0 c
          ∧ r.2.mem ((c.tc : Thread Cert.DInMainRefIdeal.nD Cert.DInMainRefIdeal.τ).loc Cert.DInMainRefIdeal.main_arg0) = m' ((c.tc : Thread Cert.DInMainRefIdeal.nD Cert.DInMainRefIdeal.τ).loc Cert.DInMainRefIdeal.main_arg0)
          ∧ r.2.mem ((c.tc : Thread Cert.DInMainRefIdeal.nD Cert.DInMainRefIdeal.τ).loc Cert.DInMainRefIdeal.main_arg1) = m' ((c.tc : Thread Cert.DInMainRefIdeal.nD Cert.DInMainRefIdeal.τ).loc Cert.DInMainRefIdeal.main_arg1))

def preserves_DhMix_DhMixIdeal : Prop :=
  True

def algebraic_DhMixIdeal_DhMixRefIdeal [hDhMixIdeal : Cert.DhMixIdeal.Facts] [hDhMixRefIdeal : Cert.DhMixRefIdeal.Facts] : Prop :=
  ∀ (m : (ℓ : Loc Cert.DhMixIdeal.nD Cert.DhMixIdeal.τ Cert.DhMixIdeal.sig) → Buf (Elt Ideal) ℓ) (g : Dev Cert.DhMixIdeal.nD → PrngReg)
    (m' : (ℓ : Loc Cert.DhMixRefIdeal.nD Cert.DhMixRefIdeal.τ Cert.DhMixRefIdeal.sig) → Buf (Elt Ideal) ℓ) (g' : Dev Cert.DhMixRefIdeal.nD → PrngReg), Pre_DhMixIdeal m →
    (∀ c : Dev Cert.DhMixIdeal.nD,
      m' ((c.tc : Thread Cert.DhMixRefIdeal.nD Cert.DhMixRefIdeal.τ).loc Cert.DhMixRefIdeal.main_arg0) = m ((c.tc : Thread Cert.DhMixIdeal.nD Cert.DhMixIdeal.τ).loc Cert.DhMixIdeal.main_arg0)
      ∧ m' ((c.tc : Thread Cert.DhMixRefIdeal.nD Cert.DhMixRefIdeal.τ).loc Cert.DhMixRefIdeal.main_arg1) = m ((c.tc : Thread Cert.DhMixIdeal.nD Cert.DhMixIdeal.τ).loc Cert.DhMixIdeal.main_arg1)
      ∧ m' ((c.tc : Thread Cert.DhMixRefIdeal.nD Cert.DhMixRefIdeal.τ).loc Cert.DhMixRefIdeal.main_arg2) = m ((c.tc : Thread Cert.DhMixIdeal.nD Cert.DhMixIdeal.τ).loc Cert.DhMixIdeal.main_arg2)) →
    ∃ (v0 : (c : Dev Cert.DhMixIdeal.nD) → Buf (Elt Ideal) ((c.tc : Thread Cert.DhMixIdeal.nD Cert.DhMixIdeal.τ).loc Cert.DhMixIdeal.main_v2)),
      θ_run (Cert.DhMixIdeal.defs (F := Ideal)) (onTc (τ := Cert.DhMixIdeal.τ) (Cert.DhMixIdeal.main (F := Ideal))) ⟨m, fun _ => 0, g⟩ (fun r => ∀ c : Dev Cert.DhMixIdeal.nD,
          r.2.mem ((c.tc : Thread Cert.DhMixIdeal.nD Cert.DhMixIdeal.τ).loc Cert.DhMixIdeal.main_v2) = v0 c
          ∧ r.2.mem ((c.tc : Thread Cert.DhMixIdeal.nD Cert.DhMixIdeal.τ).loc Cert.DhMixIdeal.main_arg0) = m ((c.tc : Thread Cert.DhMixIdeal.nD Cert.DhMixIdeal.τ).loc Cert.DhMixIdeal.main_arg0)
          ∧ r.2.mem ((c.tc : Thread Cert.DhMixIdeal.nD Cert.DhMixIdeal.τ).loc Cert.DhMixIdeal.main_arg1) = m ((c.tc : Thread Cert.DhMixIdeal.nD Cert.DhMixIdeal.τ).loc Cert.DhMixIdeal.main_arg1)
          ∧ r.2.mem ((c.tc : Thread Cert.DhMixIdeal.nD Cert.DhMixIdeal.τ).loc Cert.DhMixIdeal.main_arg2) = m ((c.tc : Thread Cert.DhMixIdeal.nD Cert.DhMixIdeal.τ).loc Cert.DhMixIdeal.main_arg2))
      ∧ θ_run (Cert.DhMixRefIdeal.defs (F := Ideal)) (onTc (τ := Cert.DhMixRefIdeal.τ) (Cert.DhMixRefIdeal.main (F := Ideal))) ⟨m', fun _ => 0, g'⟩ (fun r => ∀ c : Dev Cert.DhMixRefIdeal.nD,
          r.2.mem ((c.tc : Thread Cert.DhMixRefIdeal.nD Cert.DhMixRefIdeal.τ).loc Cert.DhMixRefIdeal.main_v3) = v0 c
          ∧ r.2.mem ((c.tc : Thread Cert.DhMixRefIdeal.nD Cert.DhMixRefIdeal.τ).loc Cert.DhMixRefIdeal.main_arg0) = m' ((c.tc : Thread Cert.DhMixRefIdeal.nD Cert.DhMixRefIdeal.τ).loc Cert.DhMixRefIdeal.main_arg0)
          ∧ r.2.mem ((c.tc : Thread Cert.DhMixRefIdeal.nD Cert.DhMixRefIdeal.τ).loc Cert.DhMixRefIdeal.main_arg1) = m' ((c.tc : Thread Cert.DhMixRefIdeal.nD Cert.DhMixRefIdeal.τ).loc Cert.DhMixRefIdeal.main_arg1)
          ∧ r.2.mem ((c.tc : Thread Cert.DhMixRefIdeal.nD Cert.DhMixRefIdeal.τ).loc Cert.DhMixRefIdeal.main_arg2) = m' ((c.tc : Thread Cert.DhMixRefIdeal.nD Cert.DhMixRefIdeal.τ).loc Cert.DhMixRefIdeal.main_arg2))

def preserves_ProjMain_ProjMainIdeal : Prop :=
  True

def algebraic_ProjMainIdeal_ProjMainRefIdeal [hProjMainIdeal : Cert.ProjMainIdeal.Facts] [hProjMainRefIdeal : Cert.ProjMainRefIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg)
    (m' : (ℓ : Loc Cert.ProjMainRefIdeal.nD Cert.ProjMainRefIdeal.τ Cert.ProjMainRefIdeal.sig) → Buf (Elt Ideal) ℓ) (g' : Dev Cert.ProjMainRefIdeal.nD → PrngReg), Pre_ProjMainIdeal m →
    (∀ c : Dev Cert.ProjMainIdeal.nD,
      m' ((c.tc : Thread Cert.ProjMainRefIdeal.nD Cert.ProjMainRefIdeal.τ).loc Cert.ProjMainRefIdeal.main_arg0) = m ((c.tc : Thread Cert.ProjMainIdeal.nD Cert.ProjMainIdeal.τ).loc Cert.ProjMainIdeal.main_arg0)
      ∧ m' ((c.tc : Thread Cert.ProjMainRefIdeal.nD Cert.ProjMainRefIdeal.τ).loc Cert.ProjMainRefIdeal.main_arg1) = m ((c.tc : Thread Cert.ProjMainIdeal.nD Cert.ProjMainIdeal.τ).loc Cert.ProjMainIdeal.main_arg1)) →
    ∃ (v0 : (c : Dev Cert.ProjMainIdeal.nD) → Buf (Elt Ideal) ((c.tc : Thread Cert.ProjMainIdeal.nD Cert.ProjMainIdeal.τ).loc Cert.ProjMainIdeal.main_v2)),
      θ_run (Cert.ProjMainIdeal.defs (F := Ideal)) (onTc (τ := Cert.ProjMainIdeal.τ) (Cert.ProjMainIdeal.main (F := Ideal))) ⟨m, fun _ => 0, g⟩ (fun r => ∀ c : Dev Cert.ProjMainIdeal.nD,
          r.2.mem ((c.tc : Thread Cert.ProjMainIdeal.nD Cert.ProjMainIdeal.τ).loc Cert.ProjMainIdeal.main_v2) = v0 c
          ∧ r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
          ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ θ_run (Cert.ProjMainRefIdeal.defs (F := Ideal)) (onTc (τ := Cert.ProjMainRefIdeal.τ) (Cert.ProjMainRefIdeal.main (F := Ideal))) ⟨m', fun _ => 0, g'⟩ (fun r => ∀ c : Dev Cert.ProjMainRefIdeal.nD,
          r.2.mem ((c.tc : Thread Cert.ProjMainRefIdeal.nD Cert.ProjMainRefIdeal.τ).loc Cert.ProjMainRefIdeal.main_v0) = v0 c
          ∧ r.2.mem ((c.tc : Thread Cert.ProjMainRefIdeal.nD Cert.ProjMainRefIdeal.τ).loc Cert.ProjMainRefIdeal.main_arg0) = m' ((c.tc : Thread Cert.ProjMainRefIdeal.nD Cert.ProjMainRefIdeal.τ).loc Cert.ProjMainRefIdeal.main_arg0)
          ∧ r.2.mem ((c.tc : Thread Cert.ProjMainRefIdeal.nD Cert.ProjMainRefIdeal.τ).loc Cert.ProjMainRefIdeal.main_arg1) = m' ((c.tc : Thread Cert.ProjMainRefIdeal.nD Cert.ProjMainRefIdeal.τ).loc Cert.ProjMainRefIdeal.main_arg1))

def preserves_DFfnUp_DFfnUpIdeal : Prop :=
  True

def algebraic_DFfnUpIdeal_DFfnUpRefIdeal [hDFfnUpIdeal : Cert.DFfnUpIdeal.Facts] [hDFfnUpRefIdeal : Cert.DFfnUpRefIdeal.Facts] : Prop :=
  ∀ (m : (ℓ : Loc Cert.DFfnUpIdeal.nD Cert.DFfnUpIdeal.τ Cert.DFfnUpIdeal.sig) → Buf (Elt Ideal) ℓ) (g : Dev Cert.DFfnUpIdeal.nD → PrngReg)
    (m' : (ℓ : Loc Cert.DFfnUpRefIdeal.nD Cert.DFfnUpRefIdeal.τ Cert.DFfnUpRefIdeal.sig) → Buf (Elt Ideal) ℓ) (g' : Dev Cert.DFfnUpRefIdeal.nD → PrngReg), Pre_DFfnUpIdeal m →
    (∀ c : Dev Cert.DFfnUpIdeal.nD,
      m' ((c.tc : Thread Cert.DFfnUpRefIdeal.nD Cert.DFfnUpRefIdeal.τ).loc Cert.DFfnUpRefIdeal.main_arg0) = m ((c.tc : Thread Cert.DFfnUpIdeal.nD Cert.DFfnUpIdeal.τ).loc Cert.DFfnUpIdeal.main_arg0)
      ∧ m' ((c.tc : Thread Cert.DFfnUpRefIdeal.nD Cert.DFfnUpRefIdeal.τ).loc Cert.DFfnUpRefIdeal.main_arg1) = m ((c.tc : Thread Cert.DFfnUpIdeal.nD Cert.DFfnUpIdeal.τ).loc Cert.DFfnUpIdeal.main_arg1)) →
    ∃ (v0 : (c : Dev Cert.DFfnUpIdeal.nD) → Buf (Elt Ideal) ((c.tc : Thread Cert.DFfnUpIdeal.nD Cert.DFfnUpIdeal.τ).loc Cert.DFfnUpIdeal.main_v2)),
      θ_run (Cert.DFfnUpIdeal.defs (F := Ideal)) (onTc (τ := Cert.DFfnUpIdeal.τ) (Cert.DFfnUpIdeal.main (F := Ideal))) ⟨m, fun _ => 0, g⟩ (fun r => ∀ c : Dev Cert.DFfnUpIdeal.nD,
          r.2.mem ((c.tc : Thread Cert.DFfnUpIdeal.nD Cert.DFfnUpIdeal.τ).loc Cert.DFfnUpIdeal.main_v2) = v0 c
          ∧ r.2.mem ((c.tc : Thread Cert.DFfnUpIdeal.nD Cert.DFfnUpIdeal.τ).loc Cert.DFfnUpIdeal.main_arg0) = m ((c.tc : Thread Cert.DFfnUpIdeal.nD Cert.DFfnUpIdeal.τ).loc Cert.DFfnUpIdeal.main_arg0)
          ∧ r.2.mem ((c.tc : Thread Cert.DFfnUpIdeal.nD Cert.DFfnUpIdeal.τ).loc Cert.DFfnUpIdeal.main_arg1) = m ((c.tc : Thread Cert.DFfnUpIdeal.nD Cert.DFfnUpIdeal.τ).loc Cert.DFfnUpIdeal.main_arg1))
      ∧ θ_run (Cert.DFfnUpRefIdeal.defs (F := Ideal)) (onTc (τ := Cert.DFfnUpRefIdeal.τ) (Cert.DFfnUpRefIdeal.main (F := Ideal))) ⟨m', fun _ => 0, g'⟩ (fun r => ∀ c : Dev Cert.DFfnUpRefIdeal.nD,
          r.2.mem ((c.tc : Thread Cert.DFfnUpRefIdeal.nD Cert.DFfnUpRefIdeal.τ).loc Cert.DFfnUpRefIdeal.main_v4) = v0 c
          ∧ r.2.mem ((c.tc : Thread Cert.DFfnUpRefIdeal.nD Cert.DFfnUpRefIdeal.τ).loc Cert.DFfnUpRefIdeal.main_arg0) = m' ((c.tc : Thread Cert.DFfnUpRefIdeal.nD Cert.DFfnUpRefIdeal.τ).loc Cert.DFfnUpRefIdeal.main_arg0)
          ∧ r.2.mem ((c.tc : Thread Cert.DFfnUpRefIdeal.nD Cert.DFfnUpRefIdeal.τ).loc Cert.DFfnUpRefIdeal.main_arg1) = m' ((c.tc : Thread Cert.DFfnUpRefIdeal.nD Cert.DFfnUpRefIdeal.τ).loc Cert.DFfnUpRefIdeal.main_arg1))

def preserves_DhFfnG_DhFfnGIdeal : Prop :=
  True

def algebraic_DhFfnGIdeal_DhFfnGRefIdeal [hDhFfnGIdeal : Cert.DhFfnGIdeal.Facts] [hDhFfnGRefIdeal : Cert.DhFfnGRefIdeal.Facts] : Prop :=
  ∀ (m : (ℓ : Loc Cert.DhFfnGIdeal.nD Cert.DhFfnGIdeal.τ Cert.DhFfnGIdeal.sig) → Buf (Elt Ideal) ℓ) (g : Dev Cert.DhFfnGIdeal.nD → PrngReg)
    (m' : (ℓ : Loc Cert.DhFfnGRefIdeal.nD Cert.DhFfnGRefIdeal.τ Cert.DhFfnGRefIdeal.sig) → Buf (Elt Ideal) ℓ) (g' : Dev Cert.DhFfnGRefIdeal.nD → PrngReg), Pre_DhFfnGIdeal m →
    (∀ c : Dev Cert.DhFfnGIdeal.nD,
      m' ((c.tc : Thread Cert.DhFfnGRefIdeal.nD Cert.DhFfnGRefIdeal.τ).loc Cert.DhFfnGRefIdeal.main_arg0) = m ((c.tc : Thread Cert.DhFfnGIdeal.nD Cert.DhFfnGIdeal.τ).loc Cert.DhFfnGIdeal.main_arg0)
      ∧ m' ((c.tc : Thread Cert.DhFfnGRefIdeal.nD Cert.DhFfnGRefIdeal.τ).loc Cert.DhFfnGRefIdeal.main_arg1) = m ((c.tc : Thread Cert.DhFfnGIdeal.nD Cert.DhFfnGIdeal.τ).loc Cert.DhFfnGIdeal.main_arg1)) →
    ∃ (v0 : (c : Dev Cert.DhFfnGIdeal.nD) → Buf (Elt Ideal) ((c.tc : Thread Cert.DhFfnGIdeal.nD Cert.DhFfnGIdeal.τ).loc Cert.DhFfnGIdeal.main_v2)),
      θ_run (Cert.DhFfnGIdeal.defs (F := Ideal)) (onTc (τ := Cert.DhFfnGIdeal.τ) (Cert.DhFfnGIdeal.main (F := Ideal))) ⟨m, fun _ => 0, g⟩ (fun r => ∀ c : Dev Cert.DhFfnGIdeal.nD,
          r.2.mem ((c.tc : Thread Cert.DhFfnGIdeal.nD Cert.DhFfnGIdeal.τ).loc Cert.DhFfnGIdeal.main_v2) = v0 c
          ∧ r.2.mem ((c.tc : Thread Cert.DhFfnGIdeal.nD Cert.DhFfnGIdeal.τ).loc Cert.DhFfnGIdeal.main_arg0) = m ((c.tc : Thread Cert.DhFfnGIdeal.nD Cert.DhFfnGIdeal.τ).loc Cert.DhFfnGIdeal.main_arg0)
          ∧ r.2.mem ((c.tc : Thread Cert.DhFfnGIdeal.nD Cert.DhFfnGIdeal.τ).loc Cert.DhFfnGIdeal.main_arg1) = m ((c.tc : Thread Cert.DhFfnGIdeal.nD Cert.DhFfnGIdeal.τ).loc Cert.DhFfnGIdeal.main_arg1))
      ∧ θ_run (Cert.DhFfnGRefIdeal.defs (F := Ideal)) (onTc (τ := Cert.DhFfnGRefIdeal.τ) (Cert.DhFfnGRefIdeal.main (F := Ideal))) ⟨m', fun _ => 0, g'⟩ (fun r => ∀ c : Dev Cert.DhFfnGRefIdeal.nD,
          r.2.mem ((c.tc : Thread Cert.DhFfnGRefIdeal.nD Cert.DhFfnGRefIdeal.τ).loc Cert.DhFfnGRefIdeal.main_v2) = v0 c
          ∧ r.2.mem ((c.tc : Thread Cert.DhFfnGRefIdeal.nD Cert.DhFfnGRefIdeal.τ).loc Cert.DhFfnGRefIdeal.main_arg0) = m' ((c.tc : Thread Cert.DhFfnGRefIdeal.nD Cert.DhFfnGRefIdeal.τ).loc Cert.DhFfnGRefIdeal.main_arg0)
          ∧ r.2.mem ((c.tc : Thread Cert.DhFfnGRefIdeal.nD Cert.DhFfnGRefIdeal.τ).loc Cert.DhFfnGRefIdeal.main_arg1) = m' ((c.tc : Thread Cert.DhFfnGRefIdeal.nD Cert.DhFfnGRefIdeal.τ).loc Cert.DhFfnGRefIdeal.main_arg1))

def preserves_DhFfnV_DhFfnVIdeal : Prop :=
  True

def algebraic_DhFfnVIdeal_DhFfnVRefIdeal [hDhFfnVIdeal : Cert.DhFfnVIdeal.Facts] [hDhFfnVRefIdeal : Cert.DhFfnVRefIdeal.Facts] : Prop :=
  ∀ (m : (ℓ : Loc Cert.DhFfnVIdeal.nD Cert.DhFfnVIdeal.τ Cert.DhFfnVIdeal.sig) → Buf (Elt Ideal) ℓ) (g : Dev Cert.DhFfnVIdeal.nD → PrngReg)
    (m' : (ℓ : Loc Cert.DhFfnVRefIdeal.nD Cert.DhFfnVRefIdeal.τ Cert.DhFfnVRefIdeal.sig) → Buf (Elt Ideal) ℓ) (g' : Dev Cert.DhFfnVRefIdeal.nD → PrngReg), Pre_DhFfnVIdeal m →
    (∀ c : Dev Cert.DhFfnVIdeal.nD,
      m' ((c.tc : Thread Cert.DhFfnVRefIdeal.nD Cert.DhFfnVRefIdeal.τ).loc Cert.DhFfnVRefIdeal.main_arg0) = m ((c.tc : Thread Cert.DhFfnVIdeal.nD Cert.DhFfnVIdeal.τ).loc Cert.DhFfnVIdeal.main_arg0)
      ∧ m' ((c.tc : Thread Cert.DhFfnVRefIdeal.nD Cert.DhFfnVRefIdeal.τ).loc Cert.DhFfnVRefIdeal.main_arg1) = m ((c.tc : Thread Cert.DhFfnVIdeal.nD Cert.DhFfnVIdeal.τ).loc Cert.DhFfnVIdeal.main_arg1)
      ∧ m' ((c.tc : Thread Cert.DhFfnVRefIdeal.nD Cert.DhFfnVRefIdeal.τ).loc Cert.DhFfnVRefIdeal.main_arg2) = m ((c.tc : Thread Cert.DhFfnVIdeal.nD Cert.DhFfnVIdeal.τ).loc Cert.DhFfnVIdeal.main_arg2)) →
    ∃ (v0 : (c : Dev Cert.DhFfnVIdeal.nD) → Buf (Elt Ideal) ((c.tc : Thread Cert.DhFfnVIdeal.nD Cert.DhFfnVIdeal.τ).loc Cert.DhFfnVIdeal.main_v2)),
      θ_run (Cert.DhFfnVIdeal.defs (F := Ideal)) (onTc (τ := Cert.DhFfnVIdeal.τ) (Cert.DhFfnVIdeal.main (F := Ideal))) ⟨m, fun _ => 0, g⟩ (fun r => ∀ c : Dev Cert.DhFfnVIdeal.nD,
          r.2.mem ((c.tc : Thread Cert.DhFfnVIdeal.nD Cert.DhFfnVIdeal.τ).loc Cert.DhFfnVIdeal.main_v2) = v0 c
          ∧ r.2.mem ((c.tc : Thread Cert.DhFfnVIdeal.nD Cert.DhFfnVIdeal.τ).loc Cert.DhFfnVIdeal.main_arg0) = m ((c.tc : Thread Cert.DhFfnVIdeal.nD Cert.DhFfnVIdeal.τ).loc Cert.DhFfnVIdeal.main_arg0)
          ∧ r.2.mem ((c.tc : Thread Cert.DhFfnVIdeal.nD Cert.DhFfnVIdeal.τ).loc Cert.DhFfnVIdeal.main_arg1) = m ((c.tc : Thread Cert.DhFfnVIdeal.nD Cert.DhFfnVIdeal.τ).loc Cert.DhFfnVIdeal.main_arg1)
          ∧ r.2.mem ((c.tc : Thread Cert.DhFfnVIdeal.nD Cert.DhFfnVIdeal.τ).loc Cert.DhFfnVIdeal.main_arg2) = m ((c.tc : Thread Cert.DhFfnVIdeal.nD Cert.DhFfnVIdeal.τ).loc Cert.DhFfnVIdeal.main_arg2))
      ∧ θ_run (Cert.DhFfnVRefIdeal.defs (F := Ideal)) (onTc (τ := Cert.DhFfnVRefIdeal.τ) (Cert.DhFfnVRefIdeal.main (F := Ideal))) ⟨m', fun _ => 0, g'⟩ (fun r => ∀ c : Dev Cert.DhFfnVRefIdeal.nD,
          r.2.mem ((c.tc : Thread Cert.DhFfnVRefIdeal.nD Cert.DhFfnVRefIdeal.τ).loc Cert.DhFfnVRefIdeal.main_v3) = v0 c
          ∧ r.2.mem ((c.tc : Thread Cert.DhFfnVRefIdeal.nD Cert.DhFfnVRefIdeal.τ).loc Cert.DhFfnVRefIdeal.main_arg0) = m' ((c.tc : Thread Cert.DhFfnVRefIdeal.nD Cert.DhFfnVRefIdeal.τ).loc Cert.DhFfnVRefIdeal.main_arg0)
          ∧ r.2.mem ((c.tc : Thread Cert.DhFfnVRefIdeal.nD Cert.DhFfnVRefIdeal.τ).loc Cert.DhFfnVRefIdeal.main_arg1) = m' ((c.tc : Thread Cert.DhFfnVRefIdeal.nD Cert.DhFfnVRefIdeal.τ).loc Cert.DhFfnVRefIdeal.main_arg1)
          ∧ r.2.mem ((c.tc : Thread Cert.DhFfnVRefIdeal.nD Cert.DhFfnVRefIdeal.τ).loc Cert.DhFfnVRefIdeal.main_arg2) = m' ((c.tc : Thread Cert.DhFfnVRefIdeal.nD Cert.DhFfnVRefIdeal.τ).loc Cert.DhFfnVRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v0) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v1) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v2) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DFfnDown_DFfnDownIdeal : Prop :=
  True

def algebraic_DFfnDownIdeal_DFfnDownRefIdeal [hDFfnDownIdeal : Cert.DFfnDownIdeal.Facts] [hDFfnDownRefIdeal : Cert.DFfnDownRefIdeal.Facts] : Prop :=
  ∀ (m : (ℓ : Loc Cert.DFfnDownIdeal.nD Cert.DFfnDownIdeal.τ Cert.DFfnDownIdeal.sig) → Buf (Elt Ideal) ℓ) (g : Dev Cert.DFfnDownIdeal.nD → PrngReg)
    (m' : (ℓ : Loc Cert.DFfnDownRefIdeal.nD Cert.DFfnDownRefIdeal.τ Cert.DFfnDownRefIdeal.sig) → Buf (Elt Ideal) ℓ) (g' : Dev Cert.DFfnDownRefIdeal.nD → PrngReg), Pre_DFfnDownIdeal m →
    (∀ c : Dev Cert.DFfnDownIdeal.nD,
      m' ((c.tc : Thread Cert.DFfnDownRefIdeal.nD Cert.DFfnDownRefIdeal.τ).loc Cert.DFfnDownRefIdeal.main_arg0) = m ((c.tc : Thread Cert.DFfnDownIdeal.nD Cert.DFfnDownIdeal.τ).loc Cert.DFfnDownIdeal.main_arg0)
      ∧ m' ((c.tc : Thread Cert.DFfnDownRefIdeal.nD Cert.DFfnDownRefIdeal.τ).loc Cert.DFfnDownRefIdeal.main_arg1) = m ((c.tc : Thread Cert.DFfnDownIdeal.nD Cert.DFfnDownIdeal.τ).loc Cert.DFfnDownIdeal.main_arg1)) →
    ∃ (v0 : (c : Dev Cert.DFfnDownIdeal.nD) → Buf (Elt Ideal) ((c.tc : Thread Cert.DFfnDownIdeal.nD Cert.DFfnDownIdeal.τ).loc Cert.DFfnDownIdeal.main_v1)),
      θ_run (Cert.DFfnDownIdeal.defs (F := Ideal)) (onTc (τ := Cert.DFfnDownIdeal.τ) (Cert.DFfnDownIdeal.main (F := Ideal))) ⟨m, fun _ => 0, g⟩ (fun r => ∀ c : Dev Cert.DFfnDownIdeal.nD,
          r.2.mem ((c.tc : Thread Cert.DFfnDownIdeal.nD Cert.DFfnDownIdeal.τ).loc Cert.DFfnDownIdeal.main_v1) = v0 c
          ∧ r.2.mem ((c.tc : Thread Cert.DFfnDownIdeal.nD Cert.DFfnDownIdeal.τ).loc Cert.DFfnDownIdeal.main_arg0) = m ((c.tc : Thread Cert.DFfnDownIdeal.nD Cert.DFfnDownIdeal.τ).loc Cert.DFfnDownIdeal.main_arg0)
          ∧ r.2.mem ((c.tc : Thread Cert.DFfnDownIdeal.nD Cert.DFfnDownIdeal.τ).loc Cert.DFfnDownIdeal.main_arg1) = m ((c.tc : Thread Cert.DFfnDownIdeal.nD Cert.DFfnDownIdeal.τ).loc Cert.DFfnDownIdeal.main_arg1))
      ∧ θ_run (Cert.DFfnDownRefIdeal.defs (F := Ideal)) (onTc (τ := Cert.DFfnDownRefIdeal.τ) (Cert.DFfnDownRefIdeal.main (F := Ideal))) ⟨m', fun _ => 0, g'⟩ (fun r => ∀ c : Dev Cert.DFfnDownRefIdeal.nD,
          r.2.mem ((c.tc : Thread Cert.DFfnDownRefIdeal.nD Cert.DFfnDownRefIdeal.τ).loc Cert.DFfnDownRefIdeal.main_v4) = v0 c
          ∧ r.2.mem ((c.tc : Thread Cert.DFfnDownRefIdeal.nD Cert.DFfnDownRefIdeal.τ).loc Cert.DFfnDownRefIdeal.main_arg0) = m' ((c.tc : Thread Cert.DFfnDownRefIdeal.nD Cert.DFfnDownRefIdeal.τ).loc Cert.DFfnDownRefIdeal.main_arg0)
          ∧ r.2.mem ((c.tc : Thread Cert.DFfnDownRefIdeal.nD Cert.DFfnDownRefIdeal.τ).loc Cert.DFfnDownRefIdeal.main_arg1) = m' ((c.tc : Thread Cert.DFfnDownRefIdeal.nD Cert.DFfnDownRefIdeal.τ).loc Cert.DFfnDownRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_BranchA_BranchAIdeal : Prop :=
  True

def algebraic_BranchAIdeal_BranchARefIdeal [hBranchAIdeal : Cert.BranchAIdeal.Facts] [hBranchARefIdeal : Cert.BranchARefIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchARefIdeal.nD Cert.BranchARefIdeal.τ Cert.BranchARefIdeal.sig) → Buf (Elt Ideal) ℓ) (g' : Dev Cert.BranchARefIdeal.nD → PrngReg), Pre_BranchAIdeal m →
    (∀ c : Dev Cert.BranchAIdeal.nD,
      m' ((c.tc : Thread Cert.BranchARefIdeal.nD Cert.BranchARefIdeal.τ).loc Cert.BranchARefIdeal.main_arg0) = m ((c.tc : Thread Cert.BranchAIdeal.nD Cert.BranchAIdeal.τ).loc Cert.BranchAIdeal.main_arg0)
      ∧ m' ((c.tc : Thread Cert.BranchARefIdeal.nD Cert.BranchARefIdeal.τ).loc Cert.BranchARefIdeal.main_arg1) = m ((c.tc : Thread Cert.BranchAIdeal.nD Cert.BranchAIdeal.τ).loc Cert.BranchAIdeal.main_arg1)) →
    ∃ (v0 : (c : Dev Cert.BranchAIdeal.nD) → Buf (Elt Ideal) ((c.tc : Thread Cert.BranchAIdeal.nD Cert.BranchAIdeal.τ).loc Cert.BranchAIdeal.main_v2)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v2) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ θ_run (Cert.BranchARefIdeal.defs (F := Ideal)) (onTc (τ := Cert.BranchARefIdeal.τ) (Cert.BranchARefIdeal.main (F := Ideal))) ⟨m', fun _ => 0, g'⟩ (fun r => ∀ c : Dev Cert.BranchARefIdeal.nD,
          r.2.mem ((c.tc : Thread Cert.BranchARefIdeal.nD Cert.BranchARefIdeal.τ).loc Cert.BranchARefIdeal.main_v0) = v0 c
          ∧ r.2.mem ((c.tc : Thread Cert.BranchARefIdeal.nD Cert.BranchARefIdeal.τ).loc Cert.BranchARefIdeal.main_arg0) = m' ((c.tc : Thread Cert.BranchARefIdeal.nD Cert.BranchARefIdeal.τ).loc Cert.BranchARefIdeal.main_arg0)
          ∧ r.2.mem ((c.tc : Thread Cert.BranchARefIdeal.nD Cert.BranchARefIdeal.τ).loc Cert.BranchARefIdeal.main_arg1) = m' ((c.tc : Thread Cert.BranchARefIdeal.nD Cert.BranchARefIdeal.τ).loc Cert.BranchARefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DOn_DOnIdeal : Prop :=
  True

def algebraic_DOnIdeal_DOnRefIdeal [hDOnIdeal : Cert.DOnIdeal.Facts] [hDOnRefIdeal : Cert.DOnRefIdeal.Facts] : Prop :=
  ∀ (m : (ℓ : Loc Cert.DOnIdeal.nD Cert.DOnIdeal.τ Cert.DOnIdeal.sig) → Buf (Elt Ideal) ℓ) (g : Dev Cert.DOnIdeal.nD → PrngReg)
    (m' : (ℓ : Loc Cert.DOnRefIdeal.nD Cert.DOnRefIdeal.τ Cert.DOnRefIdeal.sig) → Buf (Elt Ideal) ℓ) (g' : Dev Cert.DOnRefIdeal.nD → PrngReg), Pre_DOnIdeal m →
    (∀ c : Dev Cert.DOnIdeal.nD,
      m' ((c.tc : Thread Cert.DOnRefIdeal.nD Cert.DOnRefIdeal.τ).loc Cert.DOnRefIdeal.main_arg0) = m ((c.tc : Thread Cert.DOnIdeal.nD Cert.DOnIdeal.τ).loc Cert.DOnIdeal.main_arg0)
      ∧ m' ((c.tc : Thread Cert.DOnRefIdeal.nD Cert.DOnRefIdeal.τ).loc Cert.DOnRefIdeal.main_arg1) = m ((c.tc : Thread Cert.DOnIdeal.nD Cert.DOnIdeal.τ).loc Cert.DOnIdeal.main_arg1)) →
    ∃ (v0 : (c : Dev Cert.DOnIdeal.nD) → Buf (Elt Ideal) ((c.tc : Thread Cert.DOnIdeal.nD Cert.DOnIdeal.τ).loc Cert.DOnIdeal.main_v2)),
      θ_run (Cert.DOnIdeal.defs (F := Ideal)) (onTc (τ := Cert.DOnIdeal.τ) (Cert.DOnIdeal.main (F := Ideal))) ⟨m, fun _ => 0, g⟩ (fun r => ∀ c : Dev Cert.DOnIdeal.nD,
          r.2.mem ((c.tc : Thread Cert.DOnIdeal.nD Cert.DOnIdeal.τ).loc Cert.DOnIdeal.main_v2) = v0 c
          ∧ r.2.mem ((c.tc : Thread Cert.DOnIdeal.nD Cert.DOnIdeal.τ).loc Cert.DOnIdeal.main_arg0) = m ((c.tc : Thread Cert.DOnIdeal.nD Cert.DOnIdeal.τ).loc Cert.DOnIdeal.main_arg0)
          ∧ r.2.mem ((c.tc : Thread Cert.DOnIdeal.nD Cert.DOnIdeal.τ).loc Cert.DOnIdeal.main_arg1) = m ((c.tc : Thread Cert.DOnIdeal.nD Cert.DOnIdeal.τ).loc Cert.DOnIdeal.main_arg1))
      ∧ θ_run (Cert.DOnRefIdeal.defs (F := Ideal)) (onTc (τ := Cert.DOnRefIdeal.τ) (Cert.DOnRefIdeal.main (F := Ideal))) ⟨m', fun _ => 0, g'⟩ (fun r => ∀ c : Dev Cert.DOnRefIdeal.nD,
          r.2.mem ((c.tc : Thread Cert.DOnRefIdeal.nD Cert.DOnRefIdeal.τ).loc Cert.DOnRefIdeal.main_v2) = v0 c
          ∧ r.2.mem ((c.tc : Thread Cert.DOnRefIdeal.nD Cert.DOnRefIdeal.τ).loc Cert.DOnRefIdeal.main_arg0) = m' ((c.tc : Thread Cert.DOnRefIdeal.nD Cert.DOnRefIdeal.τ).loc Cert.DOnRefIdeal.main_arg0)
          ∧ r.2.mem ((c.tc : Thread Cert.DOnRefIdeal.nD Cert.DOnRefIdeal.τ).loc Cert.DOnRefIdeal.main_arg1) = m' ((c.tc : Thread Cert.DOnRefIdeal.nD Cert.DOnRefIdeal.τ).loc Cert.DOnRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v1)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v1) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v2) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DBranchA_DBranchAIdeal : Prop :=
  True

def algebraic_DBranchAIdeal_DBranchARefIdeal [hDBranchAIdeal : Cert.DBranchAIdeal.Facts] [hDBranchARefIdeal : Cert.DBranchARefIdeal.Facts] : Prop :=
  ∀ (m : (ℓ : Loc Cert.DBranchAIdeal.nD Cert.DBranchAIdeal.τ Cert.DBranchAIdeal.sig) → Buf (Elt Ideal) ℓ) (g : Dev Cert.DBranchAIdeal.nD → PrngReg)
    (m' : (ℓ : Loc Cert.DBranchARefIdeal.nD Cert.DBranchARefIdeal.τ Cert.DBranchARefIdeal.sig) → Buf (Elt Ideal) ℓ) (g' : Dev Cert.DBranchARefIdeal.nD → PrngReg), Pre_DBranchAIdeal m →
    (∀ c : Dev Cert.DBranchAIdeal.nD,
      m' ((c.tc : Thread Cert.DBranchARefIdeal.nD Cert.DBranchARefIdeal.τ).loc Cert.DBranchARefIdeal.main_arg0) = m ((c.tc : Thread Cert.DBranchAIdeal.nD Cert.DBranchAIdeal.τ).loc Cert.DBranchAIdeal.main_arg0)
      ∧ m' ((c.tc : Thread Cert.DBranchARefIdeal.nD Cert.DBranchARefIdeal.τ).loc Cert.DBranchARefIdeal.main_arg1) = m ((c.tc : Thread Cert.DBranchAIdeal.nD Cert.DBranchAIdeal.τ).loc Cert.DBranchAIdeal.main_arg1)) →
    ∃ (v0 : (c : Dev Cert.DBranchAIdeal.nD) → Buf (Elt Ideal) ((c.tc : Thread Cert.DBranchAIdeal.nD Cert.DBranchAIdeal.τ).loc Cert.DBranchAIdeal.main_v2)),
      θ_run (Cert.DBranchAIdeal.defs (F := Ideal)) (onTc (τ := Cert.DBranchAIdeal.τ) (Cert.DBranchAIdeal.main (F := Ideal))) ⟨m, fun _ => 0, g⟩ (fun r => ∀ c : Dev Cert.DBranchAIdeal.nD,
          r.2.mem ((c.tc : Thread Cert.DBranchAIdeal.nD Cert.DBranchAIdeal.τ).loc Cert.DBranchAIdeal.main_v2) = v0 c
          ∧ r.2.mem ((c.tc : Thread Cert.DBranchAIdeal.nD Cert.DBranchAIdeal.τ).loc Cert.DBranchAIdeal.main_arg0) = m ((c.tc : Thread Cert.DBranchAIdeal.nD Cert.DBranchAIdeal.τ).loc Cert.DBranchAIdeal.main_arg0)
          ∧ r.2.mem ((c.tc : Thread Cert.DBranchAIdeal.nD Cert.DBranchAIdeal.τ).loc Cert.DBranchAIdeal.main_arg1) = m ((c.tc : Thread Cert.DBranchAIdeal.nD Cert.DBranchAIdeal.τ).loc Cert.DBranchAIdeal.main_arg1))
      ∧ θ_run (Cert.DBranchARefIdeal.defs (F := Ideal)) (onTc (τ := Cert.DBranchARefIdeal.τ) (Cert.DBranchARefIdeal.main (F := Ideal))) ⟨m', fun _ => 0, g'⟩ (fun r => ∀ c : Dev Cert.DBranchARefIdeal.nD,
          r.2.mem ((c.tc : Thread Cert.DBranchARefIdeal.nD Cert.DBranchARefIdeal.τ).loc Cert.DBranchARefIdeal.main_v4) = v0 c
          ∧ r.2.mem ((c.tc : Thread Cert.DBranchARefIdeal.nD Cert.DBranchARefIdeal.τ).loc Cert.DBranchARefIdeal.main_arg0) = m' ((c.tc : Thread Cert.DBranchARefIdeal.nD Cert.DBranchARefIdeal.τ).loc Cert.DBranchARefIdeal.main_arg0)
          ∧ r.2.mem ((c.tc : Thread Cert.DBranchARefIdeal.nD Cert.DBranchARefIdeal.τ).loc Cert.DBranchARefIdeal.main_arg1) = m' ((c.tc : Thread Cert.DBranchARefIdeal.nD Cert.DBranchARefIdeal.τ).loc Cert.DBranchARefIdeal.main_arg1))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v1)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v1) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v4) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_BranchB_BranchBIdeal : Prop :=
  True

def algebraic_BranchBIdeal_BranchBRefIdeal [hBranchBIdeal : Cert.BranchBIdeal.Facts] [hBranchBRefIdeal : Cert.BranchBRefIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBRefIdeal.nD Cert.BranchBRefIdeal.τ Cert.BranchBRefIdeal.sig) → Buf (Elt Ideal) ℓ) (g' : Dev Cert.BranchBRefIdeal.nD → PrngReg), Pre_BranchBIdeal m →
    (∀ c : Dev Cert.BranchBIdeal.nD,
      m' ((c.tc : Thread Cert.BranchBRefIdeal.nD Cert.BranchBRefIdeal.τ).loc Cert.BranchBRefIdeal.main_arg0) = m ((c.tc : Thread Cert.BranchBIdeal.nD Cert.BranchBIdeal.τ).loc Cert.BranchBIdeal.main_arg0)
      ∧ m' ((c.tc : Thread Cert.BranchBRefIdeal.nD Cert.BranchBRefIdeal.τ).loc Cert.BranchBRefIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v2)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v2) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.BranchBRefIdeal.defs (F := Ideal)) (onTc (τ := Cert.BranchBRefIdeal.τ) (Cert.BranchBRefIdeal.main (F := Ideal))) ⟨m', fun _ => 0, g'⟩ (fun r => ∀ c : Dev Cert.BranchBRefIdeal.nD,
          r.2.mem ((c.tc : Thread Cert.BranchBRefIdeal.nD Cert.BranchBRefIdeal.τ).loc Cert.BranchBRefIdeal.main_v0) = v0 c
          ∧ r.2.mem ((c.tc : Thread Cert.BranchBRefIdeal.nD Cert.BranchBRefIdeal.τ).loc Cert.BranchBRefIdeal.main_arg0) = m' ((c.tc : Thread Cert.BranchBRefIdeal.nD Cert.BranchBRefIdeal.τ).loc Cert.BranchBRefIdeal.main_arg0)
          ∧ r.2.mem ((c.tc : Thread Cert.BranchBRefIdeal.nD Cert.BranchBRefIdeal.τ).loc Cert.BranchBRefIdeal.main_arg1) = m' ((c.tc : Thread Cert.BranchBRefIdeal.nD Cert.BranchBRefIdeal.τ).loc Cert.BranchBRefIdeal.main_arg1))

def preserves_DSgu_DSguIdeal : Prop :=
  True

def algebraic_DSguIdeal_DSguRefIdeal [hDSguIdeal : Cert.DSguIdeal.Facts] [hDSguRefIdeal : Cert.DSguRefIdeal.Facts] : Prop :=
  ∀ (m : (ℓ : Loc Cert.DSguIdeal.nD Cert.DSguIdeal.τ Cert.DSguIdeal.sig) → Buf (Elt Ideal) ℓ) (g : Dev Cert.DSguIdeal.nD → PrngReg)
    (m' : (ℓ : Loc Cert.DSguRefIdeal.nD Cert.DSguRefIdeal.τ Cert.DSguRefIdeal.sig) → Buf (Elt Ideal) ℓ) (g' : Dev Cert.DSguRefIdeal.nD → PrngReg), Pre_DSguIdeal m →
    (∀ c : Dev Cert.DSguIdeal.nD,
      m' ((c.tc : Thread Cert.DSguRefIdeal.nD Cert.DSguRefIdeal.τ).loc Cert.DSguRefIdeal.main_arg0) = m ((c.tc : Thread Cert.DSguIdeal.nD Cert.DSguIdeal.τ).loc Cert.DSguIdeal.main_arg0)
      ∧ m' ((c.tc : Thread Cert.DSguRefIdeal.nD Cert.DSguRefIdeal.τ).loc Cert.DSguRefIdeal.main_arg1) = m ((c.tc : Thread Cert.DSguIdeal.nD Cert.DSguIdeal.τ).loc Cert.DSguIdeal.main_arg1)) →
    ∃ (v0 : (c : Dev Cert.DSguIdeal.nD) → Buf (Elt Ideal) ((c.tc : Thread Cert.DSguIdeal.nD Cert.DSguIdeal.τ).loc Cert.DSguIdeal.main_v2)),
      θ_run (Cert.DSguIdeal.defs (F := Ideal)) (onTc (τ := Cert.DSguIdeal.τ) (Cert.DSguIdeal.main (F := Ideal))) ⟨m, fun _ => 0, g⟩ (fun r => ∀ c : Dev Cert.DSguIdeal.nD,
          r.2.mem ((c.tc : Thread Cert.DSguIdeal.nD Cert.DSguIdeal.τ).loc Cert.DSguIdeal.main_v2) = v0 c
          ∧ r.2.mem ((c.tc : Thread Cert.DSguIdeal.nD Cert.DSguIdeal.τ).loc Cert.DSguIdeal.main_arg0) = m ((c.tc : Thread Cert.DSguIdeal.nD Cert.DSguIdeal.τ).loc Cert.DSguIdeal.main_arg0)
          ∧ r.2.mem ((c.tc : Thread Cert.DSguIdeal.nD Cert.DSguIdeal.τ).loc Cert.DSguIdeal.main_arg1) = m ((c.tc : Thread Cert.DSguIdeal.nD Cert.DSguIdeal.τ).loc Cert.DSguIdeal.main_arg1))
      ∧ θ_run (Cert.DSguRefIdeal.defs (F := Ideal)) (onTc (τ := Cert.DSguRefIdeal.τ) (Cert.DSguRefIdeal.main (F := Ideal))) ⟨m', fun _ => 0, g'⟩ (fun r => ∀ c : Dev Cert.DSguRefIdeal.nD,
          r.2.mem ((c.tc : Thread Cert.DSguRefIdeal.nD Cert.DSguRefIdeal.τ).loc Cert.DSguRefIdeal.main_v2) = v0 c
          ∧ r.2.mem ((c.tc : Thread Cert.DSguRefIdeal.nD Cert.DSguRefIdeal.τ).loc Cert.DSguRefIdeal.main_arg0) = m' ((c.tc : Thread Cert.DSguRefIdeal.nD Cert.DSguRefIdeal.τ).loc Cert.DSguRefIdeal.main_arg0)
          ∧ r.2.mem ((c.tc : Thread Cert.DSguRefIdeal.nD Cert.DSguRefIdeal.τ).loc Cert.DSguRefIdeal.main_arg1) = m' ((c.tc : Thread Cert.DSguRefIdeal.nD Cert.DSguRefIdeal.τ).loc Cert.DSguRefIdeal.main_arg1))

def preserves_DBranchB_DBranchBIdeal : Prop :=
  True

def algebraic_DBranchBIdeal_DBranchBRefIdeal [hDBranchBIdeal : Cert.DBranchBIdeal.Facts] [hDBranchBRefIdeal : Cert.DBranchBRefIdeal.Facts] : Prop :=
  ∀ (m : (ℓ : Loc Cert.DBranchBIdeal.nD Cert.DBranchBIdeal.τ Cert.DBranchBIdeal.sig) → Buf (Elt Ideal) ℓ) (g : Dev Cert.DBranchBIdeal.nD → PrngReg)
    (m' : (ℓ : Loc Cert.DBranchBRefIdeal.nD Cert.DBranchBRefIdeal.τ Cert.DBranchBRefIdeal.sig) → Buf (Elt Ideal) ℓ) (g' : Dev Cert.DBranchBRefIdeal.nD → PrngReg), Pre_DBranchBIdeal m →
    (∀ c : Dev Cert.DBranchBIdeal.nD,
      m' ((c.tc : Thread Cert.DBranchBRefIdeal.nD Cert.DBranchBRefIdeal.τ).loc Cert.DBranchBRefIdeal.main_arg0) = m ((c.tc : Thread Cert.DBranchBIdeal.nD Cert.DBranchBIdeal.τ).loc Cert.DBranchBIdeal.main_arg0)
      ∧ m' ((c.tc : Thread Cert.DBranchBRefIdeal.nD Cert.DBranchBRefIdeal.τ).loc Cert.DBranchBRefIdeal.main_arg1) = m ((c.tc : Thread Cert.DBranchBIdeal.nD Cert.DBranchBIdeal.τ).loc Cert.DBranchBIdeal.main_arg1)) →
    ∃ (v0 : (c : Dev Cert.DBranchBIdeal.nD) → Buf (Elt Ideal) ((c.tc : Thread Cert.DBranchBIdeal.nD Cert.DBranchBIdeal.τ).loc Cert.DBranchBIdeal.main_v2)),
      θ_run (Cert.DBranchBIdeal.defs (F := Ideal)) (onTc (τ := Cert.DBranchBIdeal.τ) (Cert.DBranchBIdeal.main (F := Ideal))) ⟨m, fun _ => 0, g⟩ (fun r => ∀ c : Dev Cert.DBranchBIdeal.nD,
          r.2.mem ((c.tc : Thread Cert.DBranchBIdeal.nD Cert.DBranchBIdeal.τ).loc Cert.DBranchBIdeal.main_v2) = v0 c
          ∧ r.2.mem ((c.tc : Thread Cert.DBranchBIdeal.nD Cert.DBranchBIdeal.τ).loc Cert.DBranchBIdeal.main_arg0) = m ((c.tc : Thread Cert.DBranchBIdeal.nD Cert.DBranchBIdeal.τ).loc Cert.DBranchBIdeal.main_arg0)
          ∧ r.2.mem ((c.tc : Thread Cert.DBranchBIdeal.nD Cert.DBranchBIdeal.τ).loc Cert.DBranchBIdeal.main_arg1) = m ((c.tc : Thread Cert.DBranchBIdeal.nD Cert.DBranchBIdeal.τ).loc Cert.DBranchBIdeal.main_arg1))
      ∧ θ_run (Cert.DBranchBRefIdeal.defs (F := Ideal)) (onTc (τ := Cert.DBranchBRefIdeal.τ) (Cert.DBranchBRefIdeal.main (F := Ideal))) ⟨m', fun _ => 0, g'⟩ (fun r => ∀ c : Dev Cert.DBranchBRefIdeal.nD,
          r.2.mem ((c.tc : Thread Cert.DBranchBRefIdeal.nD Cert.DBranchBRefIdeal.τ).loc Cert.DBranchBRefIdeal.main_v4) = v0 c
          ∧ r.2.mem ((c.tc : Thread Cert.DBranchBRefIdeal.nD Cert.DBranchBRefIdeal.τ).loc Cert.DBranchBRefIdeal.main_arg0) = m' ((c.tc : Thread Cert.DBranchBRefIdeal.nD Cert.DBranchBRefIdeal.τ).loc Cert.DBranchBRefIdeal.main_arg0)
          ∧ r.2.mem ((c.tc : Thread Cert.DBranchBRefIdeal.nD Cert.DBranchBRefIdeal.τ).loc Cert.DBranchBRefIdeal.main_arg1) = m' ((c.tc : Thread Cert.DBranchBRefIdeal.nD Cert.DBranchBRefIdeal.τ).loc Cert.DBranchBRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v2)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v2) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v0) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_DPleProj_DPleProjIdeal : Prop :=
  True

def algebraic_DPleProjIdeal_DPleProjRefIdeal [hDPleProjIdeal : Cert.DPleProjIdeal.Facts] [hDPleProjRefIdeal : Cert.DPleProjRefIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg)
    (m' : (ℓ : Loc Cert.DPleProjRefIdeal.nD Cert.DPleProjRefIdeal.τ Cert.DPleProjRefIdeal.sig) → Buf (Elt Ideal) ℓ) (g' : Dev Cert.DPleProjRefIdeal.nD → PrngReg), Pre_DPleProjIdeal m →
    (∀ c : Dev Cert.DPleProjIdeal.nD,
      m' ((c.tc : Thread Cert.DPleProjRefIdeal.nD Cert.DPleProjRefIdeal.τ).loc Cert.DPleProjRefIdeal.main_arg0) = m ((c.tc : Thread Cert.DPleProjIdeal.nD Cert.DPleProjIdeal.τ).loc Cert.DPleProjIdeal.main_arg0)
      ∧ m' ((c.tc : Thread Cert.DPleProjRefIdeal.nD Cert.DPleProjRefIdeal.τ).loc Cert.DPleProjRefIdeal.main_arg1) = m ((c.tc : Thread Cert.DPleProjIdeal.nD Cert.DPleProjIdeal.τ).loc Cert.DPleProjIdeal.main_arg1)) →
    ∃ (v0 : (c : Dev Cert.DPleProjIdeal.nD) → Buf (Elt Ideal) ((c.tc : Thread Cert.DPleProjIdeal.nD Cert.DPleProjIdeal.τ).loc Cert.DPleProjIdeal.main_v2)),
      θ_run (Cert.DPleProjIdeal.defs (F := Ideal)) (onTc (τ := Cert.DPleProjIdeal.τ) (Cert.DPleProjIdeal.main (F := Ideal))) ⟨m, fun _ => 0, g⟩ (fun r => ∀ c : Dev Cert.DPleProjIdeal.nD,
          r.2.mem ((c.tc : Thread Cert.DPleProjIdeal.nD Cert.DPleProjIdeal.τ).loc Cert.DPleProjIdeal.main_v2) = v0 c
          ∧ r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
          ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ θ_run (Cert.DPleProjRefIdeal.defs (F := Ideal)) (onTc (τ := Cert.DPleProjRefIdeal.τ) (Cert.DPleProjRefIdeal.main (F := Ideal))) ⟨m', fun _ => 0, g'⟩ (fun r => ∀ c : Dev Cert.DPleProjRefIdeal.nD,
          r.2.mem ((c.tc : Thread Cert.DPleProjRefIdeal.nD Cert.DPleProjRefIdeal.τ).loc Cert.DPleProjRefIdeal.main_v4) = v0 c
          ∧ r.2.mem ((c.tc : Thread Cert.DPleProjRefIdeal.nD Cert.DPleProjRefIdeal.τ).loc Cert.DPleProjRefIdeal.main_arg0) = m' ((c.tc : Thread Cert.DPleProjRefIdeal.nD Cert.DPleProjRefIdeal.τ).loc Cert.DPleProjRefIdeal.main_arg0)
          ∧ r.2.mem ((c.tc : Thread Cert.DPleProjRefIdeal.nD Cert.DPleProjRefIdeal.τ).loc Cert.DPleProjRefIdeal.main_arg1) = m' ((c.tc : Thread Cert.DPleProjRefIdeal.nD Cert.DPleProjRefIdeal.τ).loc Cert.DPleProjRefIdeal.main_arg1))

def Claim : Prop :=
  ∃ (hKernel : Cert.Kernel.Facts) (hKernelIdeal : Cert.KernelIdeal.Facts) (hReferenceIdeal : Cert.ReferenceIdeal.Facts) (hDInMain : Cert.DInMain.Facts) (hDInMainIdeal : Cert.DInMainIdeal.Facts) (hDInMainRefIdeal : Cert.DInMainRefIdeal.Facts) (hDhMix : Cert.DhMix.Facts) (hDhMixIdeal : Cert.DhMixIdeal.Facts) (hDhMixRefIdeal : Cert.DhMixRefIdeal.Facts) (hProjMain : Cert.ProjMain.Facts) (hProjMainIdeal : Cert.ProjMainIdeal.Facts) (hProjMainRefIdeal : Cert.ProjMainRefIdeal.Facts) (hDFfnUp : Cert.DFfnUp.Facts) (hDFfnUpIdeal : Cert.DFfnUpIdeal.Facts) (hDFfnUpRefIdeal : Cert.DFfnUpRefIdeal.Facts) (hDhFfnG : Cert.DhFfnG.Facts) (hDhFfnGIdeal : Cert.DhFfnGIdeal.Facts) (hDhFfnGRefIdeal : Cert.DhFfnGRefIdeal.Facts) (hDhFfnV : Cert.DhFfnV.Facts) (hDhFfnVIdeal : Cert.DhFfnVIdeal.Facts) (hDhFfnVRefIdeal : Cert.DhFfnVRefIdeal.Facts) (hFfnUp : Cert.FfnUp.Facts) (hFfnUpIdeal : Cert.FfnUpIdeal.Facts) (hFfnUpRefIdeal : Cert.FfnUpRefIdeal.Facts) (hDAct : Cert.DAct.Facts) (hDActIdeal : Cert.DActIdeal.Facts) (hDActRefIdeal : Cert.DActRefIdeal.Facts) (hDFfnDown : Cert.DFfnDown.Facts) (hDFfnDownIdeal : Cert.DFfnDownIdeal.Facts) (hDFfnDownRefIdeal : Cert.DFfnDownRefIdeal.Facts) (hFfnDown : Cert.FfnDown.Facts) (hFfnDownIdeal : Cert.FfnDownIdeal.Facts) (hFfnDownRefIdeal : Cert.FfnDownRefIdeal.Facts) (hBranchA : Cert.BranchA.Facts) (hBranchAIdeal : Cert.BranchAIdeal.Facts) (hBranchARefIdeal : Cert.BranchARefIdeal.Facts) (hOutProj : Cert.OutProj.Facts) (hOutProjIdeal : Cert.OutProjIdeal.Facts) (hOutProjRefIdeal : Cert.OutProjRefIdeal.Facts) (hDOn : Cert.DOn.Facts) (hDOnIdeal : Cert.DOnIdeal.Facts) (hDOnRefIdeal : Cert.DOnRefIdeal.Facts) (hDMerged : Cert.DMerged.Facts) (hDMergedIdeal : Cert.DMergedIdeal.Facts) (hDMergedRefIdeal : Cert.DMergedRefIdeal.Facts) (hDBranchA : Cert.DBranchA.Facts) (hDBranchAIdeal : Cert.DBranchAIdeal.Facts) (hDBranchARefIdeal : Cert.DBranchARefIdeal.Facts) (hDWOut : Cert.DWOut.Facts) (hDWOutIdeal : Cert.DWOutIdeal.Facts) (hDWOutRefIdeal : Cert.DWOutRefIdeal.Facts) (hBranchB : Cert.BranchB.Facts) (hBranchBIdeal : Cert.BranchBIdeal.Facts) (hBranchBRefIdeal : Cert.BranchBRefIdeal.Facts) (hDSgu : Cert.DSgu.Facts) (hDSguIdeal : Cert.DSguIdeal.Facts) (hDSguRefIdeal : Cert.DSguRefIdeal.Facts) (hDBranchB : Cert.DBranchB.Facts) (hDBranchBIdeal : Cert.DBranchBIdeal.Facts) (hDBranchBRefIdeal : Cert.DBranchBRefIdeal.Facts) (hPleProj : Cert.PleProj.Facts) (hPleProjIdeal : Cert.PleProjIdeal.Facts) (hPleProjRefIdeal : Cert.PleProjRefIdeal.Facts) (hDPleProj : Cert.DPleProj.Facts) (hDPleProjIdeal : Cert.DPleProjIdeal.Facts) (hDPleProjRefIdeal : Cert.DPleProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DInMain (hDInMain := hDInMain)
    ∧ quiescent_DInMainIdeal (hDInMainIdeal := hDInMainIdeal)
    ∧ quiescent_DInMainRefIdeal (hDInMainRefIdeal := hDInMainRefIdeal)
    ∧ quiescent_DhMix (hDhMix := hDhMix)
    ∧ quiescent_DhMixIdeal (hDhMixIdeal := hDhMixIdeal)
    ∧ quiescent_DhMixRefIdeal (hDhMixRefIdeal := hDhMixRefIdeal)
    ∧ quiescent_ProjMain (hProjMain := hProjMain)
    ∧ quiescent_ProjMainIdeal (hProjMainIdeal := hProjMainIdeal)
    ∧ quiescent_ProjMainRefIdeal (hProjMainRefIdeal := hProjMainRefIdeal)
    ∧ quiescent_DFfnUp (hDFfnUp := hDFfnUp)
    ∧ quiescent_DFfnUpIdeal (hDFfnUpIdeal := hDFfnUpIdeal)
    ∧ quiescent_DFfnUpRefIdeal (hDFfnUpRefIdeal := hDFfnUpRefIdeal)
    ∧ quiescent_DhFfnG (hDhFfnG := hDhFfnG)
    ∧ quiescent_DhFfnGIdeal (hDhFfnGIdeal := hDhFfnGIdeal)
    ∧ quiescent_DhFfnGRefIdeal (hDhFfnGRefIdeal := hDhFfnGRefIdeal)
    ∧ quiescent_DhFfnV (hDhFfnV := hDhFfnV)
    ∧ quiescent_DhFfnVIdeal (hDhFfnVIdeal := hDhFfnVIdeal)
    ∧ quiescent_DhFfnVRefIdeal (hDhFfnVRefIdeal := hDhFfnVRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DAct (hDAct := hDAct)
    ∧ quiescent_DActIdeal (hDActIdeal := hDActIdeal)
    ∧ quiescent_DActRefIdeal (hDActRefIdeal := hDActRefIdeal)
    ∧ quiescent_DFfnDown (hDFfnDown := hDFfnDown)
    ∧ quiescent_DFfnDownIdeal (hDFfnDownIdeal := hDFfnDownIdeal)
    ∧ quiescent_DFfnDownRefIdeal (hDFfnDownRefIdeal := hDFfnDownRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_BranchA (hBranchA := hBranchA)
    ∧ quiescent_BranchAIdeal (hBranchAIdeal := hBranchAIdeal)
    ∧ quiescent_BranchARefIdeal (hBranchARefIdeal := hBranchARefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DOn (hDOn := hDOn)
    ∧ quiescent_DOnIdeal (hDOnIdeal := hDOnIdeal)
    ∧ quiescent_DOnRefIdeal (hDOnRefIdeal := hDOnRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DBranchA (hDBranchA := hDBranchA)
    ∧ quiescent_DBranchAIdeal (hDBranchAIdeal := hDBranchAIdeal)
    ∧ quiescent_DBranchARefIdeal (hDBranchARefIdeal := hDBranchARefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_BranchB (hBranchB := hBranchB)
    ∧ quiescent_BranchBIdeal (hBranchBIdeal := hBranchBIdeal)
    ∧ quiescent_BranchBRefIdeal (hBranchBRefIdeal := hBranchBRefIdeal)
    ∧ quiescent_DSgu (hDSgu := hDSgu)
    ∧ quiescent_DSguIdeal (hDSguIdeal := hDSguIdeal)
    ∧ quiescent_DSguRefIdeal (hDSguRefIdeal := hDSguRefIdeal)
    ∧ quiescent_DBranchB (hDBranchB := hDBranchB)
    ∧ quiescent_DBranchBIdeal (hDBranchBIdeal := hDBranchBIdeal)
    ∧ quiescent_DBranchBRefIdeal (hDBranchBRefIdeal := hDBranchBRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_DPleProj (hDPleProj := hDPleProj)
    ∧ quiescent_DPleProjIdeal (hDPleProjIdeal := hDPleProjIdeal)
    ∧ quiescent_DPleProjRefIdeal (hDPleProjRefIdeal := hDPleProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DInMain_DInMainIdeal
    ∧ algebraic_DInMainIdeal_DInMainRefIdeal (hDInMainIdeal := hDInMainIdeal) (hDInMainRefIdeal := hDInMainRefIdeal)
    ∧ preserves_DhMix_DhMixIdeal
    ∧ algebraic_DhMixIdeal_DhMixRefIdeal (hDhMixIdeal := hDhMixIdeal) (hDhMixRefIdeal := hDhMixRefIdeal)
    ∧ preserves_ProjMain_ProjMainIdeal
    ∧ algebraic_ProjMainIdeal_ProjMainRefIdeal (hProjMainIdeal := hProjMainIdeal) (hProjMainRefIdeal := hProjMainRefIdeal)
    ∧ preserves_DFfnUp_DFfnUpIdeal
    ∧ algebraic_DFfnUpIdeal_DFfnUpRefIdeal (hDFfnUpIdeal := hDFfnUpIdeal) (hDFfnUpRefIdeal := hDFfnUpRefIdeal)
    ∧ preserves_DhFfnG_DhFfnGIdeal
    ∧ algebraic_DhFfnGIdeal_DhFfnGRefIdeal (hDhFfnGIdeal := hDhFfnGIdeal) (hDhFfnGRefIdeal := hDhFfnGRefIdeal)
    ∧ preserves_DhFfnV_DhFfnVIdeal
    ∧ algebraic_DhFfnVIdeal_DhFfnVRefIdeal (hDhFfnVIdeal := hDhFfnVIdeal) (hDhFfnVRefIdeal := hDhFfnVRefIdeal)
    ∧ preserves_FfnUp_FfnUpIdeal
    ∧ algebraic_FfnUpIdeal_FfnUpRefIdeal (hFfnUpIdeal := hFfnUpIdeal) (hFfnUpRefIdeal := hFfnUpRefIdeal)
    ∧ preserves_DAct_DActIdeal
    ∧ algebraic_DActIdeal_DActRefIdeal (hDActIdeal := hDActIdeal) (hDActRefIdeal := hDActRefIdeal)
    ∧ preserves_DFfnDown_DFfnDownIdeal
    ∧ algebraic_DFfnDownIdeal_DFfnDownRefIdeal (hDFfnDownIdeal := hDFfnDownIdeal) (hDFfnDownRefIdeal := hDFfnDownRefIdeal)
    ∧ preserves_FfnDown_FfnDownIdeal
    ∧ algebraic_FfnDownIdeal_FfnDownRefIdeal (hFfnDownIdeal := hFfnDownIdeal) (hFfnDownRefIdeal := hFfnDownRefIdeal)
    ∧ preserves_BranchA_BranchAIdeal
    ∧ algebraic_BranchAIdeal_BranchARefIdeal (hBranchAIdeal := hBranchAIdeal) (hBranchARefIdeal := hBranchARefIdeal)
    ∧ preserves_OutProj_OutProjIdeal
    ∧ algebraic_OutProjIdeal_OutProjRefIdeal (hOutProjIdeal := hOutProjIdeal) (hOutProjRefIdeal := hOutProjRefIdeal)
    ∧ preserves_DOn_DOnIdeal
    ∧ algebraic_DOnIdeal_DOnRefIdeal (hDOnIdeal := hDOnIdeal) (hDOnRefIdeal := hDOnRefIdeal)
    ∧ preserves_DMerged_DMergedIdeal
    ∧ algebraic_DMergedIdeal_DMergedRefIdeal (hDMergedIdeal := hDMergedIdeal) (hDMergedRefIdeal := hDMergedRefIdeal)
    ∧ preserves_DBranchA_DBranchAIdeal
    ∧ algebraic_DBranchAIdeal_DBranchARefIdeal (hDBranchAIdeal := hDBranchAIdeal) (hDBranchARefIdeal := hDBranchARefIdeal)
    ∧ preserves_DWOut_DWOutIdeal
    ∧ algebraic_DWOutIdeal_DWOutRefIdeal (hDWOutIdeal := hDWOutIdeal) (hDWOutRefIdeal := hDWOutRefIdeal)
    ∧ preserves_BranchB_BranchBIdeal
    ∧ algebraic_BranchBIdeal_BranchBRefIdeal (hBranchBIdeal := hBranchBIdeal) (hBranchBRefIdeal := hBranchBRefIdeal)
    ∧ preserves_DSgu_DSguIdeal
    ∧ algebraic_DSguIdeal_DSguRefIdeal (hDSguIdeal := hDSguIdeal) (hDSguRefIdeal := hDSguRefIdeal)
    ∧ preserves_DBranchB_DBranchBIdeal
    ∧ algebraic_DBranchBIdeal_DBranchBRefIdeal (hDBranchBIdeal := hDBranchBIdeal) (hDBranchBRefIdeal := hDBranchBRefIdeal)
    ∧ preserves_PleProj_PleProjIdeal
    ∧ algebraic_PleProjIdeal_PleProjRefIdeal (hPleProjIdeal := hPleProjIdeal) (hPleProjRefIdeal := hPleProjRefIdeal)
    ∧ preserves_DPleProj_DPleProjIdeal
    ∧ algebraic_DPleProjIdeal_DPleProjRefIdeal (hDPleProjIdeal := hDPleProjIdeal) (hDPleProjRefIdeal := hDPleProjRefIdeal)
-- ==== Pre_finite.lean ====
abbrev S4096x2048 : Shape := ⟨2, ![4096, 2048]⟩
abbrev S64x16x64x64 : Shape := ⟨4, ![64, 16, 64, 64]⟩
abbrev S64x16 : Shape := ⟨2, ![64, 16]⟩
abbrev S_ : Shape := ⟨0, ![]⟩

class Facts : Prop where
  bcast_S_S4096x2048 : S_.BroadcastsInDim S4096x2048 (![] : Fin 0 → Fin S4096x2048.rank)
  bcast_S_S64x16x64x64 : S_.BroadcastsInDim S64x16x64x64 (![] : Fin 0 → Fin S64x16x64x64.rank)
  bcast_S_S64x16 : S_.BroadcastsInDim S64x16 (![] : Fin 0 → Fin S64x16.rank)

variable [Facts]

def fn_part1 {F : FTy → Type} [FloatOps F] (main_arg6 : FVec F S64x16 .f32) (main_v2 : IVec S4096x2048 1) (main_v5 : IVec S4096x2048 1) (main_v8 : IVec S4096x2048 1) (main_v11 : IVec S4096x2048 1) (main_v14 : IVec S4096x2048 1) (main_v17 : IVec S64x16x64x64 1) : IVec S4096x2048 1 × IVec S4096x2048 1 × IVec S4096x2048 1 × IVec S4096x2048 1 × IVec S4096x2048 1 × IVec S64x16x64x64 1 × IVec S64x16 1 :=
  let main_v18 : FVec F S64x16 .f32 := subf main_arg6 main_arg6
  let main_cst_5 : FVec F S_ .f32 := constant S_ .f32 0x00000000#32
  let main_v19 : FVec F S64x16 .f32 := broadcastInDim S64x16 ![] bcast_S_S64x16 main_cst_5
  let main_v20 : IVec S64x16 1 := cmpf .oeq main_v18 main_v19
  (main_v2, main_v5, main_v8, main_v11, main_v14, main_v17, main_v20)

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S64x16x64x64 .f32) (main_arg6 : FVec F S64x16 .f32) : IVec S4096x2048 1 × IVec S4096x2048 1 × IVec S4096x2048 1 × IVec S4096x2048 1 × IVec S4096x2048 1 × IVec S64x16x64x64 1 × IVec S64x16 1 :=
  let main_v0 : FVec F S4096x2048 .f32 := subf main_arg0 main_arg0
  let main_cst : FVec F S_ .f32 := constant S_ .f32 0x00000000#32
  let main_v1 : FVec F S4096x2048 .f32 := broadcastInDim S4096x2048 ![] bcast_S_S4096x2048 main_cst
  let main_v2 : IVec S4096x2048 1 := cmpf .oeq main_v0 main_v1
  let main_v3 : FVec F S4096x2048 .f32 := subf main_arg1 main_arg1
  let main_cst_0 : FVec F S_ .f32 := constant S_ .f32 0x00000000#32
  let main_v4 : FVec F S4096x2048 .f32 := broadcastInDim S4096x2048 ![] bcast_S_S4096x2048 main_cst_0
  let main_v5 : IVec S4096x2048 1 := cmpf .oeq main_v3 main_v4
  let main_v6 : FVec F S4096x2048 .f32 := subf main_arg2 main_arg2
  let main_cst_1 : FVec F S_ .f32 := constant S_ .f32 0x00000000#32
  let main_v7 : FVec F S4096x2048 .f32 := broadcastInDim S4096x2048 ![] bcast_S_S4096x2048 main_cst_1
  let main_v8 : IVec S4096x2048 1 := cmpf .oeq main_v6 main_v7
  let main_v9 : FVec F S4096x2048 .f32 := subf main_arg3 main_arg3
  let main_cst_2 : FVec F S_ .f32 := constant S_ .f32 0x00000000#32
  let main_v10 : FVec F S4096x2048 .f32 := broadcastInDim S4096x2048 ![] bcast_S_S4096x2048 main_cst_2
  let main_v11 : IVec S4096x2048 1 := cmpf .oeq main_v9 main_v10
  let main_v12 : FVec F S4096x2048 .f32 := subf main_arg4 main_arg4
  let main_cst_3 : FVec F S_ .f32 := constant S_ .f32 0x00000000#32
  let main_v13 : FVec F S4096x2048 .f32 := broadcastInDim S4096x2048 ![] bcast_S_S4096x2048 main_cst_3
  let main_v14 : IVec S4096x2048 1 := cmpf .oeq main_v12 main_v13
  let main_v15 : FVec F S64x16x64x64 .f32 := subf main_arg5 main_arg5
  let main_cst_4 : FVec F S_ .f32 := constant S_ .f32 0x00000000#32
  let main_v16 : FVec F S64x16x64x64 .f32 := broadcastInDim S64x16x64x64 ![] bcast_S_S64x16x64x64 main_cst_4
  let main_v17 : IVec S64x16x64x64 1 := cmpf .oeq main_v15 main_v16
  fn_part1 (F := F) main_arg6 main_v2 main_v5 main_v8 main_v11 main_v14 main_v17
-- ==== Kernel.lean ====
abbrev S4096x2048 : Shape := ⟨2, ![4096, 2048]⟩
abbrev S64x16x64x64 : Shape := ⟨4, ![64, 16, 64, 64]⟩
abbrev S64x16 : Shape := ⟨2, ![64, 16]⟩
abbrev S64x64 : Shape := ⟨2, ![64, 64]⟩
abbrev S_ : Shape := ⟨0, ![]⟩
abbrev S64x16x1x1 : Shape := ⟨4, ![64, 16, 1, 1]⟩
abbrev S64x16x1x128 : Shape := ⟨4, ![64, 16, 1, 128]⟩
abbrev S64x16x128x128 : Shape := ⟨4, ![64, 16, 128, 128]⟩
abbrev S64x2048 : Shape := ⟨2, ![64, 2048]⟩
abbrev S1x16x64x64 : Shape := ⟨4, ![1, 16, 64, 64]⟩
abbrev S1x16x1x128 : Shape := ⟨4, ![1, 16, 1, 128]⟩
abbrev S1x16x128x128 : Shape := ⟨4, ![1, 16, 128, 128]⟩
abbrev S16x128x128 : Shape := ⟨3, ![16, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S1x1x1x128 : Shape := ⟨4, ![1, 1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 30
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S64x16x64x64, .f32⟩
  | .hbm, ⟨6, _⟩ => ⟨S64x16, .f32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S_, .f32⟩
  | .hbm, ⟨11, _⟩ => ⟨S_, .f32⟩
  | .hbm, ⟨12, _⟩ => ⟨S64x16x64x64, .i1⟩
  | .hbm, ⟨13, _⟩ => ⟨S64x16x64x64, .f32⟩
  | .hbm, ⟨14, _⟩ => ⟨S64x16x64x64, .f32⟩
  | .hbm, ⟨15, _⟩ => ⟨S64x16x64x64, .bf16⟩
  | .hbm, ⟨16, _⟩ => ⟨S64x16x1x1, .f32⟩
  | .hbm, ⟨17, _⟩ => ⟨S64x16x1x128, .f32⟩
  | .hbm, ⟨18, _⟩ => ⟨S4096x2048, .bf16⟩
  | .hbm, ⟨19, _⟩ => ⟨S4096x2048, .bf16⟩
  | .hbm, ⟨20, _⟩ => ⟨S4096x2048, .bf16⟩
  | .hbm, ⟨21, _⟩ => ⟨S4096x2048, .f32⟩
  | .hbm, ⟨22, _⟩ => ⟨S64x16x128x128, .f32⟩
  | .hbm, ⟨23, _⟩ => ⟨S4096x2048, .bf16⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S64x16x64x64, .f32⟩
  | .hbm, ⟨29, _⟩ => ⟨S64x16x1x128, .f32⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .bf16⟩
  | .local _ .vmem, ⟨7, _⟩ => ⟨S64x2048, .bf16⟩
  | .local _ .vmem, ⟨8, _⟩ => ⟨S1x16x64x64, .bf16⟩
  | .local _ .vmem, ⟨9, _⟩ => ⟨S1x16x64x64, .bf16⟩
  | .local _ .vmem, ⟨10, _⟩ => ⟨S1x16x1x128, .f32⟩
  | .local _ .vmem, ⟨11, _⟩ => ⟨S1x16x1x128, .f32⟩
  | .local _ .vmem, ⟨12, _⟩ => ⟨S64x2048, .f32⟩
  | .local _ .vmem, ⟨13, _⟩ => ⟨S64x2048, .f32⟩
  | .local _ .vmem, ⟨14, _⟩ => ⟨S1x16x128x128, .f32⟩
  | .local _ .vmem, ⟨15, _⟩ => ⟨S1x16x128x128, .f32⟩
  | .local _ .vmem, ⟨16, _⟩ => ⟨S64x2048, .bf16⟩
  | .local _ .vmem, ⟨17, _⟩ => ⟨S64x2048, .bf16⟩
  | .local _ .vmem, ⟨18, _⟩ => ⟨S16x128x128, .f32⟩
  | .local _ .vmem, ⟨19, _⟩ => ⟨S64x2048, .f32⟩
  | .local _ .vmem, ⟨20, _⟩ => ⟨S64x2048, .f32⟩
  | .local _ .vmem, ⟨21, _⟩ => ⟨S64x2048, .bf16⟩
  | .local _ .vmem, ⟨22, _⟩ => ⟨S64x2048, .bf16⟩
  | .local _ .vmem, ⟨23, _⟩ => ⟨S64x2048, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S1x16x64x64, .bf16⟩
  | .local _ .vmem, ⟨28, _⟩ => ⟨S1x16x64x64, .bf16⟩
  | .local _ .vmem, ⟨29, _⟩ => ⟨S1x16x1x128, .f32⟩
  | .local _ .vmem, ⟨30, _⟩ => ⟨S1x16x1x128, .f32⟩
  | .local _ .vmem, ⟨31, _⟩ => ⟨S1x16x128x128, .f32⟩
  | .local _ .vmem, ⟨32, _⟩ => ⟨S1x16x128x128, .f32⟩
  | .local _ .vmem, ⟨33, _⟩ => ⟨S64x2048, .bf16⟩
  | .local _ .vmem, ⟨34, _⟩ => ⟨S64x2048, .bf16⟩
  | .local _ .vmem, ⟨35, _⟩ => ⟨S64x2048, .f32⟩
  | .local _ .vmem, ⟨36, _⟩ => ⟨S64x2048, .f32⟩
  | .local _ .vmem, ⟨37, _⟩ => ⟨S64x2048, .f32⟩
  | .local _ .vmem, ⟨38, _⟩ => ⟨S64x2048, .f32⟩
  | .local _ .vmem, ⟨39, _⟩ => ⟨S64x2048, .f32⟩
  | .local _ .vmem, ⟨40, _⟩ => ⟨S64x2048, .f32⟩
  | .local _ .vmem, ⟨41, _⟩ => ⟨S64x2048, .f32⟩
  | .local _ .vmem, ⟨42, _⟩ => ⟨S64x2048, .f32⟩
  | .local _ .vmem, ⟨43, _⟩ => ⟨S1x16x64x64, .f32⟩
  | .local _ .vmem, ⟨44, _⟩ => ⟨S1x16x64x64, .f32⟩
  | .local _ .vmem, ⟨45, _⟩ => ⟨S1x16x1x128, .f32⟩
  | .local _ .vmem, ⟨46, _⟩ => ⟨S1x16x1x128, .f32⟩
  | .local _ .vmem, ⟨47, _⟩ => ⟨S16x128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_4 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_5 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_12 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_13 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16x64x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x16x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x16x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x16x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4096x2048 : Shape := ⟨2, ![4096, 2048]⟩
abbrev S64x16x64x64 : Shape := ⟨4, ![64, 16, 64, 64]⟩
abbrev S64x16 : Shape := ⟨2, ![64, 16]⟩
abbrev S_ : Shape := ⟨0, ![]⟩
abbrev S64x64 : Shape := ⟨2, ![64, 64]⟩
abbrev S16x128x128 : Shape := ⟨3, ![16, 128, 128]⟩
abbrev S64x64x16x128 : Shape := ⟨4, ![64, 64, 16, 128]⟩
abbrev S64x16x64x128 : Shape := ⟨4, ![64, 16, 64, 128]⟩
abbrev S64x16x128x128 : Shape := ⟨4, ![64, 16, 128, 128]⟩
abbrev S64x16x1x1 : Shape := ⟨4, ![64, 16, 1, 1]⟩
abbrev S1x16x64x128 : Shape := ⟨4, ![1, 16, 64, 128]⟩
abbrev S16x64x128 : Shape := ⟨3, ![16, 64, 128]⟩
abbrev S1x16x64x64 : Shape := ⟨4, ![1, 16, 64, 64]⟩
abbrev S16x64x64 : Shape := ⟨3, ![16, 64, 64]⟩
abbrev S1x16 : Shape := ⟨2, ![1, 16]⟩
abbrev S16 : Shape := ⟨1, ![16]⟩
abbrev S16x1x1 : Shape := ⟨3, ![16, 1, 1]⟩
abbrev S1x16x128x128 : Shape := ⟨4, ![1, 16, 128, 128]⟩
abbrev S1x16x1x1 : Shape := ⟨4, ![1, 16, 1, 1]⟩
abbrev S16x128x64 : Shape := ⟨3, ![16, 128, 64]⟩
abbrev S64x16x1x128 : Shape := ⟨4, ![64, 16, 1, 128]⟩

abbrev nBuf : Space → Nat
  | .hbm => 269
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x2048, .f32⟩
  | 5 => ⟨S64x16x64x64, .f32⟩
  | 6 => ⟨S64x16, .f32⟩
  | 7 => ⟨S_, .i1⟩
  | 8 => ⟨S64x64, .i1⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .i1⟩
  | 16 => ⟨S64x64, .i1⟩
  | 17 => ⟨S64x64, .i1⟩
  | 18 => ⟨S_, .f32⟩
  | 19 => ⟨S_, .f32⟩
  | 20 => ⟨S64x16x64x64, .i1⟩
  | 21 => ⟨S64x16x64x64, .f32⟩
  | 22 => ⟨S64x16x64x64, .f32⟩
  | 23 => ⟨S_, .f32⟩
  | 24 => ⟨S64x16x64x64, .f32⟩
  | 25 => ⟨S_, .f32⟩
  | 26 => ⟨S16x128x128, .f32⟩
  | 27 => ⟨S64x64x16x128, .f32⟩
  | 28 => ⟨S64x16x64x128, .f32⟩
  | 29 => ⟨S64x64x16x128, .f32⟩
  | 30 => ⟨S64x16x64x128, .f32⟩
  | 31 => ⟨S64x64x16x128, .f32⟩
  | 32 => ⟨S64x16x64x128, .f32⟩
  | 33 => ⟨S64x64x16x128, .f32⟩
  | 34 => ⟨S64x16x64x128, .f32⟩
  | 35 => ⟨S_, .f32⟩
  | 36 => ⟨S64x16x64x128, .f32⟩
  | 37 => ⟨S_, .f32⟩
  | 38 => ⟨S64x16x128x128, .f32⟩
  | 39 => ⟨S_, .f32⟩
  | 40 => ⟨S64x16x64x128, .f32⟩
  | 41 => ⟨S_, .f32⟩
  | 42 => ⟨S64x16x1x1, .f32⟩
  | 43 => ⟨S_, .i32⟩
  | 44 => ⟨S64x16x64x128, .f32⟩
  | 45 => ⟨S64x16x64x128, .f32⟩
  | 46 => ⟨S64x16x64x128, .f32⟩
  | 47 => ⟨S64x16x64x128, .f32⟩
  | 48 => ⟨S64x16x64x64, .f32⟩
  | 49 => ⟨S64x16, .f32⟩
  | 50 => ⟨S_, .i32⟩
  | 51 => ⟨S16x128x128, .f32⟩
  | 52 => ⟨S64x16x64x128, .f32⟩
  | 53 => ⟨S64x16x128x128, .f32⟩
  | 54 => ⟨S64x16x64x128, .f32⟩
  | 55 => ⟨S64x16x1x1, .f32⟩
  | 56 => ⟨S_, .i32⟩
  | 57 => ⟨S_, .i1⟩
  | 58 => ⟨S_, .i32⟩
  | 59 => ⟨S_, .i32⟩
  | 60 => ⟨S_, .i32⟩
  | 61 => ⟨S1x16x64x128, .f32⟩
  | 62 => ⟨S16x64x128, .f32⟩
  | 63 => ⟨S_, .i32⟩
  | 64 => ⟨S_, .i32⟩
  | 65 => ⟨S_, .i32⟩
  | 66 => ⟨S1x16x64x128, .f32⟩
  | 67 => ⟨S16x64x128, .f32⟩
  | 68 => ⟨S_, .i32⟩
  | 69 => ⟨S_, .i32⟩
  | 70 => ⟨S_, .i32⟩
  | 71 => ⟨S1x16x64x128, .f32⟩
  | 72 => ⟨S16x64x128, .f32⟩
  | 73 => ⟨S_, .i32⟩
  | 74 => ⟨S_, .i32⟩
  | 75 => ⟨S_, .i32⟩
  | 76 => ⟨S1x16x64x128, .f32⟩
  | 77 => ⟨S16x64x128, .f32⟩
  | 78 => ⟨S_, .i32⟩
  | 79 => ⟨S_, .i32⟩
  | 80 => ⟨S_, .i32⟩
  | 81 => ⟨S1x16x64x64, .f32⟩
  | 82 => ⟨S16x64x64, .f32⟩
  | 83 => ⟨S_, .i32⟩
  | 84 => ⟨S1x16, .f32⟩
  | 85 => ⟨S16, .f32⟩
  | 86 => ⟨S16x64x128, .f32⟩
  | 87 => ⟨S16x64x128, .f32⟩
  | 88 => ⟨S16x64x128, .f32⟩
  | 89 => ⟨S16x64x128, .f32⟩
  | 90 => ⟨S16x64x128, .f32⟩
  | 91 => ⟨S16x1x1, .f32⟩
  | 92 => ⟨S16x128x128, .f32⟩
  | 93 => ⟨S16x128x128, .f32⟩
  | 94 => ⟨S16x128x128, .f32⟩
  | 95 => ⟨S16x128x128, .f32⟩
  | 96 => ⟨S1x16x64x128, .f32⟩
  | 97 => ⟨S_, .i32⟩
  | 98 => ⟨S_, .i32⟩
  | 99 => ⟨S_, .i32⟩
  | 100 => ⟨S64x16x64x128, .f32⟩
  | 101 => ⟨S1x16x128x128, .f32⟩
  | 102 => ⟨S_, .i32⟩
  | 103 => ⟨S_, .i32⟩
  | 104 => ⟨S_, .i32⟩
  | 105 => ⟨S64x16x128x128, .f32⟩
  | 106 => ⟨S1x16x64x128, .f32⟩
  | 107 => ⟨S_, .i32⟩
  | 108 => ⟨S_, .i32⟩
  | 109 => ⟨S_, .i32⟩
  | 110 => ⟨S64x16x64x128, .f32⟩
  | 111 => ⟨S1x16x1x1, .f32⟩
  | 112 => ⟨S_, .i32⟩
  | 113 => ⟨S_, .i32⟩
  | 114 => ⟨S_, .i32⟩
  | 115 => ⟨S64x16x1x1, .f32⟩
  | 116 => ⟨S_, .i32⟩
  | 117 => ⟨S_, .i32⟩
  | 118 => ⟨S64x64x16x128, .f32⟩
  | 119 => ⟨S4096x2048, .f32⟩
  | 120 => ⟨S_, .f32⟩
  | 121 => ⟨S16x128x128, .f32⟩
  | 122 => ⟨S64x64x16x128, .f32⟩
  | 123 => ⟨S64x16x64x128, .f32⟩
  | 124 => ⟨S_, .f32⟩
  | 125 => ⟨S16x128x128, .f32⟩
  | 126 => ⟨S_, .f32⟩
  | 127 => ⟨S64x16x64x128, .f32⟩
  | _ => ⟨S4096x2048, .f32⟩

abbrev hbmTy0_1 (i : Nat) : BufTy := match i % 128 with
  | 0 => ⟨S_, .f32⟩
  | 1 => ⟨S64x16x64x128, .f32⟩
  | 2 => ⟨S_, .f32⟩
  | 3 => ⟨S64x16x64x128, .f32⟩
  | 4 => ⟨S_, .f32⟩
  | 5 => ⟨S64x16x64x128, .f32⟩
  | 6 => ⟨S_, .f32⟩
  | 7 => ⟨S64x16x64x64, .f32⟩
  | 8 => ⟨S_, .f32⟩
  | 9 => ⟨S64x16, .f32⟩
  | 10 => ⟨S_, .i32⟩
  | 11 => ⟨S64x16x64x128, .f32⟩
  | 12 => ⟨S64x16x128x128, .f32⟩
  | 13 => ⟨S64x16x64x128, .f32⟩
  | 14 => ⟨S64x16x64x128, .f32⟩
  | 15 => ⟨S64x16x64x128, .f32⟩
  | 16 => ⟨S64x16x64x64, .f32⟩
  | 17 => ⟨S64x16x1x1, .f32⟩
  | 18 => ⟨S64x16x64x128, .f32⟩
  | 19 => ⟨S_, .i32⟩
  | 20 => ⟨S16x128x128, .f32⟩
  | 21 => ⟨S64x16x64x128, .f32⟩
  | 22 => ⟨S64x16x64x128, .f32⟩
  | 23 => ⟨S64x16x64x128, .f32⟩
  | 24 => ⟨S64x16x64x128, .f32⟩
  | 25 => ⟨S64x16x64x64, .f32⟩
  | 26 => ⟨S64x16, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S1x16x64x128, .f32⟩
  | 37 => ⟨S16x64x128, .f32⟩
  | 38 => ⟨S_, .i32⟩
  | 39 => ⟨S_, .i32⟩
  | 40 => ⟨S_, .i32⟩
  | 41 => ⟨S1x16x128x128, .f32⟩
  | 42 => ⟨S16x128x128, .f32⟩
  | 43 => ⟨S_, .i32⟩
  | 44 => ⟨S_, .i32⟩
  | 45 => ⟨S_, .i32⟩
  | 46 => ⟨S1x16x64x128, .f32⟩
  | 47 => ⟨S16x64x128, .f32⟩
  | 48 => ⟨S_, .i32⟩
  | 49 => ⟨S_, .i32⟩
  | 50 => ⟨S_, .i32⟩
  | 51 => ⟨S1x16x64x128, .f32⟩
  | 52 => ⟨S16x64x128, .f32⟩
  | 53 => ⟨S_, .i32⟩
  | 54 => ⟨S_, .i32⟩
  | 55 => ⟨S_, .i32⟩
  | 56 => ⟨S1x16x64x128, .f32⟩
  | 57 => ⟨S16x64x128, .f32⟩
  | 58 => ⟨S_, .i32⟩
  | 59 => ⟨S_, .i32⟩
  | 60 => ⟨S_, .i32⟩
  | 61 => ⟨S1x16x64x64, .f32⟩
  | 62 => ⟨S16x64x64, .f32⟩
  | 63 => ⟨S_, .i32⟩
  | 64 => ⟨S_, .i32⟩
  | 65 => ⟨S_, .i32⟩
  | 66 => ⟨S1x16x1x1, .f32⟩
  | 67 => ⟨S16x1x1, .f32⟩
  | 68 => ⟨S_, .i32⟩
  | 69 => ⟨S_, .i32⟩
  | 70 => ⟨S_, .i32⟩
  | 71 => ⟨S1x16x64x128, .f32⟩
  | 72 => ⟨S16x64x128, .f32⟩
  | 73 => ⟨S16x128x64, .f32⟩
  | 74 => ⟨S16x64x128, .f32⟩
  | 75 => ⟨S16x128x64, .f32⟩
  | 76 => ⟨S16x64x128, .f32⟩
  | 77 => ⟨S16x128x128, .f32⟩
  | 78 => ⟨S_, .f32⟩
  | 79 => ⟨S16, .f32⟩
  | 80 => ⟨S16x1x1, .f32⟩
  | 81 => ⟨S16x128x128, .f32⟩
  | 82 => ⟨S16x128x128, .f32⟩
  | 83 => ⟨S_, .f32⟩
  | 84 => ⟨S16, .f32⟩
  | 85 => ⟨S16x128x64, .f32⟩
  | 86 => ⟨S16x64x128, .f32⟩
  | 87 => ⟨S16x64x128, .f32⟩
  | 88 => ⟨S16x64x64, .f32⟩
  | 89 => ⟨S16x128x128, .f32⟩
  | 90 => ⟨S16x128x128, .f32⟩
  | 91 => ⟨S16x128x128, .f32⟩
  | 92 => ⟨S16x64x128, .f32⟩
  | 93 => ⟨S16x64x128, .f32⟩
  | 94 => ⟨S16x128x128, .f32⟩
  | 95 => ⟨S16x128x128, .f32⟩
  | 96 => ⟨S16x128x128, .f32⟩
  | 97 => ⟨S16x64x128, .f32⟩
  | 98 => ⟨S1x16x64x128, .f32⟩
  | 99 => ⟨S_, .i32⟩
  | 100 => ⟨S_, .i32⟩
  | 101 => ⟨S_, .i32⟩
  | 102 => ⟨S64x16x64x128, .f32⟩
  | 103 => ⟨S1x16x64x128, .f32⟩
  | 104 => ⟨S_, .i32⟩
  | 105 => ⟨S_, .i32⟩
  | 106 => ⟨S_, .i32⟩
  | 107 => ⟨S64x16x64x128, .f32⟩
  | 108 => ⟨S1x16x64x128, .f32⟩
  | 109 => ⟨S_, .i32⟩
  | 110 => ⟨S_, .i32⟩
  | 111 => ⟨S_, .i32⟩
  | 112 => ⟨S64x16x64x128, .f32⟩
  | 113 => ⟨S1x16x64x128, .f32⟩
  | 114 => ⟨S_, .i32⟩
  | 115 => ⟨S_, .i32⟩
  | 116 => ⟨S_, .i32⟩
  | 117 => ⟨S64x16x64x128, .f32⟩
  | 118 => ⟨S1x16x64x64, .f32⟩
  | 119 => ⟨S_, .i32⟩
  | 120 => ⟨S_, .i32⟩
  | 121 => ⟨S_, .i32⟩
  | 122 => ⟨S64x16x64x64, .f32⟩
  | 123 => ⟨S1x16, .f32⟩
  | 124 => ⟨S_, .i32⟩
  | 125 => ⟨S64x16, .f32⟩
  | 126 => ⟨S_, .i32⟩
  | 127 => ⟨S_, .i32⟩
  | _ => ⟨S4096x2048, .f32⟩

abbrev hbmTy0_2 (i : Nat) : BufTy := match i % 128 with
  | 0 => ⟨S64x64x16x128, .f32⟩
  | 1 => ⟨S4096x2048, .f32⟩
  | 2 => ⟨S64x64x16x128, .f32⟩
  | 3 => ⟨S4096x2048, .f32⟩
  | 4 => ⟨S64x64x16x128, .f32⟩
  | 5 => ⟨S4096x2048, .f32⟩
  | 6 => ⟨S64x64x16x128, .f32⟩
  | 7 => ⟨S4096x2048, .f32⟩
  | 8 => ⟨S_, .f32⟩
  | 9 => ⟨S64x16x64x64, .f32⟩
  | 10 => ⟨S64x16x64x64, .f32⟩
  | 11 => ⟨S64x16x1x1, .f32⟩
  | 12 => ⟨S64x16x1x128, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_cst : Ref sig .tc := ⟨.hbm, 18, rfl⟩
abbrev main_call1_v0 : Ref sig .tc := ⟨.hbm, 19, rfl⟩
abbrev main_v2_1 : Ref sig .tc := ⟨.hbm, 20, rfl⟩
abbrev main_call1_v2 : Ref sig .tc := ⟨.hbm, 21, rfl⟩
abbrev main_v2_0 : Ref sig .tc := ⟨.hbm, 22, rfl⟩
abbrev main_call1_cst : Ref sig .tc := ⟨.hbm, 23, rfl⟩
abbrev main_v2_2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_c_5 : Ref sig .tc := ⟨.hbm, 43, rfl⟩
abbrev main_v16_0 : Ref sig .tc := ⟨.hbm, 44, rfl⟩
abbrev main_v16_1 : Ref sig .tc := ⟨.hbm, 45, rfl⟩
abbrev main_v16_2 : Ref sig .tc := ⟨.hbm, 46, rfl⟩
abbrev main_v16_3 : Ref sig .tc := ⟨.hbm, 47, rfl⟩
abbrev main_v16_4 : Ref sig .tc := ⟨.hbm, 48, rfl⟩
abbrev main_v16_5 : Ref sig .tc := ⟨.hbm, 49, rfl⟩
abbrev main_v16_6 : Ref sig .tc := ⟨.hbm, 50, rfl⟩
abbrev main_v16_7 : Ref sig .tc := ⟨.hbm, 51, rfl⟩
abbrev main_v16_8 : Ref sig .tc := ⟨.hbm, 52, rfl⟩
abbrev main_v16_9 : Ref sig .tc := ⟨.hbm, 53, rfl⟩
abbrev main_v16_10 : Ref sig .tc := ⟨.hbm, 54, rfl⟩
abbrev main_v16_11 : Ref sig .tc := ⟨.hbm, 55, rfl⟩
abbrev main_while0c_c_26 : Ref sig .tc := ⟨.hbm, 56, rfl⟩
abbrev main_while0c_v41 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_c_1 : Ref sig .tc := ⟨.hbm, 60, rfl⟩
abbrev main_while0b_call2_v0 : Ref sig .tc := ⟨.hbm, 61, rfl⟩
abbrev main_while0b_v41 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_call3_c_1 : Ref sig .tc := ⟨.hbm, 65, rfl⟩
abbrev main_while0b_call3_v0 : Ref sig .tc := ⟨.hbm, 66, rfl⟩
abbrev main_while0b_v42 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_c_1 : Ref sig .tc := ⟨.hbm, 70, rfl⟩
abbrev main_while0b_call4_v0 : Ref sig .tc := ⟨.hbm, 71, rfl⟩
abbrev main_while0b_v43 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_c_1 : Ref sig .tc := ⟨.hbm, 75, rfl⟩
abbrev main_while0b_call5_v0 : Ref sig .tc := ⟨.hbm, 76, rfl⟩
abbrev main_while0b_v44 : Ref sig .tc := ⟨.hbm, 77, rfl⟩
abbrev main_while0b_call6_c : Ref sig .tc := ⟨.hbm, 78, rfl⟩
abbrev main_while0b_call6_c_0 : Ref sig .tc := ⟨.hbm, 79, rfl⟩
abbrev main_while0b_call6_c_1 : Ref sig .tc := ⟨.hbm, 80, rfl⟩
abbrev main_while0b_call6_v0 : Ref sig .tc := ⟨.hbm, 81, rfl⟩
abbrev main_while0b_v45 : Ref sig .tc := ⟨.hbm, 82, rfl⟩
abbrev main_while0b_call7_c : Ref sig .tc := ⟨.hbm, 83, rfl⟩
abbrev main_while0b_call7_v0 : Ref sig .tc := ⟨.hbm, 84, rfl⟩
abbrev main_while0b_v46 : Ref sig .tc := ⟨.hbm, 85, rfl⟩
abbrev main_while0b_v47 : Ref sig .tc := ⟨.hbm, 86, rfl⟩
abbrev main_while0b_v48 : Ref sig .tc := ⟨.hbm, 87, rfl⟩
abbrev main_while0b_v49 : Ref sig .tc := ⟨.hbm, 88, rfl⟩
abbrev main_while0b_v50 : Ref sig .tc := ⟨.hbm, 89, rfl⟩
abbrev main_while0b_v51 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_call8_v0 : Ref sig .tc := ⟨.hbm, 96, rfl⟩
abbrev main_while0b_call8_c : Ref sig .tc := ⟨.hbm, 97, rfl⟩
abbrev main_while0b_call8_c_0 : Ref sig .tc := ⟨.hbm, 98, rfl⟩
abbrev main_while0b_call8_c_1 : Ref sig .tc := ⟨.hbm, 99, rfl⟩
abbrev main_while0b_v57 : Ref sig .tc := ⟨.hbm, 100, rfl⟩
abbrev main_while0b_call9_v0 : Ref sig .tc := ⟨.hbm, 101, rfl⟩
abbrev main_while0b_call9_c : Ref sig .tc := ⟨.hbm, 102, rfl⟩
abbrev main_while0b_call9_c_0 : Ref sig .tc := ⟨.hbm, 103, rfl⟩
abbrev main_while0b_call9_c_1 : Ref sig .tc := ⟨.hbm, 104, rfl⟩
abbrev main_while0b_v58 : Ref sig .tc := ⟨.hbm, 105, rfl⟩
abbrev main_while0b_call10_v0 : Ref sig .tc := ⟨.hbm, 106, rfl⟩
abbrev main_while0b_call10_c : Ref sig .tc := ⟨.hbm, 107, rfl⟩
abbrev main_while0b_call10_c_0 : Ref sig .tc := ⟨.hbm, 108, rfl⟩
abbrev main_while0b_call10_c_1 : Ref sig .tc := ⟨.hbm, 109, rfl⟩
abbrev main_while0b_v59 : Ref sig .tc := ⟨.hbm, 110, rfl⟩
abbrev main_while0b_call11_v0 : Ref sig .tc := ⟨.hbm, 111, rfl⟩
abbrev main_while0b_call11_c : Ref sig .tc := ⟨.hbm, 112, rfl⟩
abbrev main_while0b_call11_c_0 : Ref sig .tc := ⟨.hbm, 113, rfl⟩
abbrev main_while0b_call11_c_1 : Ref sig .tc := ⟨.hbm, 114, rfl⟩
abbrev main_while0b_v60 : Ref sig .tc := ⟨.hbm, 115, rfl⟩
abbrev main_while0b_c_26 : Ref sig .tc := ⟨.hbm, 116, rfl⟩
abbrev main_while0b_v61 : Ref sig .tc := ⟨.hbm, 117, rfl⟩
abbrev main_v17 : Ref sig .tc := ⟨.hbm, 118, rfl⟩
abbrev main_v18 : Ref sig .tc := ⟨.hbm, 119, rfl⟩
abbrev main_cst_6 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_cst_7 : Ref sig .tc := ⟨.hbm, 124, rfl⟩
abbrev main_v22 : Ref sig .tc := ⟨.hbm, 125, rfl⟩
abbrev main_cst_8 : Ref sig .tc := ⟨.hbm, 126, rfl⟩
abbrev main_v23 : Ref sig .tc := ⟨.hbm, 127, rfl⟩
abbrev main_cst_9 : Ref sig .tc := ⟨.hbm, 128, rfl⟩
abbrev main_v24 : Ref sig .tc := ⟨.hbm, 129, rfl⟩
abbrev main_cst_10 : Ref sig .tc := ⟨.hbm, 130, rfl⟩
abbrev main_v25 : Ref sig .tc := ⟨.hbm, 131, rfl⟩
abbrev main_cst_11 : Ref sig .tc := ⟨.hbm, 132, rfl⟩
abbrev main_v26 : Ref sig .tc := ⟨.hbm, 133, rfl⟩
abbrev main_cst_12 : Ref sig .tc := ⟨.hbm, 134, rfl⟩
abbrev main_v27 : Ref sig .tc := ⟨.hbm, 135, rfl⟩
abbrev main_cst_13 : Ref sig .tc := ⟨.hbm, 136, rfl⟩
abbrev main_v28 : Ref sig .tc := ⟨.hbm, 137, rfl⟩
abbrev main_c_14 : Ref sig .tc := ⟨.hbm, 138, rfl⟩
abbrev main_v29_0 : Ref sig .tc := ⟨.hbm, 139, rfl⟩
abbrev main_v29_1 : Ref sig .tc := ⟨.hbm, 140, rfl⟩
abbrev main_v29_2 : Ref sig .tc := ⟨.hbm, 141, rfl⟩
abbrev main_v29_3 : Ref sig .tc := ⟨.hbm, 142, rfl⟩
abbrev main_v29_4 : Ref sig .tc := ⟨.hbm, 143, rfl⟩
abbrev main_v29_5 : Ref sig .tc := ⟨.hbm, 144, rfl⟩
abbrev main_v29_6 : Ref sig .tc := ⟨.hbm, 145, rfl⟩
abbrev main_v29_7 : Ref sig .tc := ⟨.hbm, 146, rfl⟩
abbrev main_v29_8 : Ref sig .tc := ⟨.hbm, 147, rfl⟩
abbrev main_v29_9 : Ref sig .tc := ⟨.hbm, 148, rfl⟩
abbrev main_v29_10 : Ref sig .tc := ⟨.hbm, 149, rfl⟩
abbrev main_v29_11 : Ref sig .tc := ⟨.hbm, 150, rfl⟩
abbrev main_v29_12 : Ref sig .tc := ⟨.hbm, 151, rfl⟩
abbrev main_v29_13 : Ref sig .tc := ⟨.hbm, 152, rfl⟩
abbrev main_v29_14 : Ref sig .tc := ⟨.hbm, 153, rfl⟩
abbrev main_v29_15 : Ref sig .tc := ⟨.hbm, 154, rfl⟩
abbrev main_while1c_c_30 : Ref sig .tc := ⟨.hbm, 155, rfl⟩
abbrev main_while1c_v41 : Ref sig .tc := ⟨.hbm, 156, rfl⟩
abbrev main_while1b_c_30 : Ref sig .tc := ⟨.hbm, 157, rfl⟩
abbrev main_while1b_v41 : Ref sig .tc := ⟨.hbm, 158, rfl⟩
abbrev main_while1b_c_31 : Ref sig .tc := ⟨.hbm, 159, rfl⟩
abbrev main_while1b_v42 : Ref sig .tc := ⟨.hbm, 160, rfl⟩
abbrev main_while1b_call12_c : Ref sig .tc := ⟨.hbm, 161, rfl⟩
abbrev main_while1b_call12_c_0 : Ref sig .tc := ⟨.hbm, 162, rfl⟩
abbrev main_while1b_call12_c_1 : Ref sig .tc := ⟨.hbm, 163, rfl⟩
abbrev main_while1b_call12_v0 : Ref sig .tc := ⟨.hbm, 164, rfl⟩
abbrev main_while1b_v43 : Ref sig .tc := ⟨.hbm, 165, rfl⟩
abbrev main_while1b_call13_c : Ref sig .tc := ⟨.hbm, 166, rfl⟩
abbrev main_while1b_call13_c_0 : Ref sig .tc := ⟨.hbm, 167, rfl⟩
abbrev main_while1b_call13_c_1 : Ref sig .tc := ⟨.hbm, 168, rfl⟩
abbrev main_while1b_call13_v0 : Ref sig .tc := ⟨.hbm, 169, rfl⟩
abbrev main_while1b_v44 : Ref sig .tc := ⟨.hbm, 170, rfl⟩
abbrev main_while1b_call14_c : Ref sig .tc := ⟨.hbm, 171, rfl⟩
abbrev main_while1b_call14_c_0 : Ref sig .tc := ⟨.hbm, 172, rfl⟩
abbrev main_while1b_call14_c_1 : Ref sig .tc := ⟨.hbm, 173, rfl⟩
abbrev main_while1b_call14_v0 : Ref sig .tc := ⟨.hbm, 174, rfl⟩
abbrev main_while1b_v45 : Ref sig .tc := ⟨.hbm, 175, rfl⟩
abbrev main_while1b_call15_c : Ref sig .tc := ⟨.hbm, 176, rfl⟩
abbrev main_while1b_call15_c_0 : Ref sig .tc := ⟨.hbm, 177, rfl⟩
abbrev main_while1b_call15_c_1 : Ref sig .tc := ⟨.hbm, 178, rfl⟩
abbrev main_while1b_call15_v0 : Ref sig .tc := ⟨.hbm, 179, rfl⟩
abbrev main_while1b_v46 : Ref sig .tc := ⟨.hbm, 180, rfl⟩
abbrev main_while1b_call16_c : Ref sig .tc := ⟨.hbm, 181, rfl⟩
abbrev main_while1b_call16_c_0 : Ref sig .tc := ⟨.hbm, 182, rfl⟩
abbrev main_while1b_call16_c_1 : Ref sig .tc := ⟨.hbm, 183, rfl⟩
abbrev main_while1b_call16_v0 : Ref sig .tc := ⟨.hbm, 184, rfl⟩
abbrev main_while1b_v47 : Ref sig .tc := ⟨.hbm, 185, rfl⟩
abbrev main_while1b_call17_c : Ref sig .tc := ⟨.hbm, 186, rfl⟩
abbrev main_while1b_call17_c_0 : Ref sig .tc := ⟨.hbm, 187, rfl⟩
abbrev main_while1b_call17_c_1 : Ref sig .tc := ⟨.hbm, 188, rfl⟩
abbrev main_while1b_call17_v0 : Ref sig .tc := ⟨.hbm, 189, rfl⟩
abbrev main_while1b_v48 : Ref sig .tc := ⟨.hbm, 190, rfl⟩
abbrev main_while1b_call18_c : Ref sig .tc := ⟨.hbm, 191, rfl⟩
abbrev main_while1b_call18_c_0 : Ref sig .tc := ⟨.hbm, 192, rfl⟩
abbrev main_while1b_call18_c_1 : Ref sig .tc := ⟨.hbm, 193, rfl⟩
abbrev main_while1b_call18_v0 : Ref sig .tc := ⟨.hbm, 194, rfl⟩
abbrev main_while1b_v49 : Ref sig .tc := ⟨.hbm, 195, rfl⟩
abbrev main_while1b_call19_c : Ref sig .tc := ⟨.hbm, 196, rfl⟩
abbrev main_while1b_call19_c_0 : Ref sig .tc := ⟨.hbm, 197, rfl⟩
abbrev main_while1b_call19_c_1 : Ref sig .tc := ⟨.hbm, 198, rfl⟩
abbrev main_while1b_call19_v0 : Ref sig .tc := ⟨.hbm, 199, rfl⟩
abbrev main_while1b_v50 : Ref sig .tc := ⟨.hbm, 200, rfl⟩
abbrev main_while1b_v51 : Ref sig .tc := ⟨.hbm, 201, rfl⟩
abbrev main_while1b_v52 : Ref sig .tc := ⟨.hbm, 202, rfl⟩
abbrev main_while1b_v53 : Ref sig .tc := ⟨.hbm, 203, rfl⟩
abbrev main_while1b_v54 : Ref sig .tc := ⟨.hbm, 204, rfl⟩
abbrev main_while1b_v55 : Ref sig .tc := ⟨.hbm, 205, rfl⟩
abbrev main_while1b_cst_32 : Ref sig .tc := ⟨.hbm, 206, rfl⟩
abbrev main_while1b_v56 : Ref sig .tc := ⟨.hbm, 207, rfl⟩
abbrev main_while1b_v57 : Ref sig .tc := ⟨.hbm, 208, rfl⟩
abbrev main_while1b_v58 : Ref sig .tc := ⟨.hbm, 209, rfl⟩
abbrev main_while1b_v59 : Ref sig .tc := ⟨.hbm, 210, rfl⟩
abbrev main_while1b_cst_33 : Ref sig .tc := ⟨.hbm, 211, rfl⟩
abbrev main_while1b_v60 : Ref sig .tc := ⟨.hbm, 212, rfl⟩
abbrev main_while1b_v61 : Ref sig .tc := ⟨.hbm, 213, rfl⟩
abbrev main_while1b_v62 : Ref sig .tc := ⟨.hbm, 214, rfl⟩
abbrev main_while1b_v63 : Ref sig .tc := ⟨.hbm, 215, rfl⟩
abbrev main_while1b_v64 : Ref sig .tc := ⟨.hbm, 216, rfl⟩
abbrev main_while1b_v65 : Ref sig .tc := ⟨.hbm, 217, rfl⟩
abbrev main_while1b_v66 : Ref sig .tc := ⟨.hbm, 218, rfl⟩
abbrev main_while1b_v67 : Ref sig .tc := ⟨.hbm, 219, rfl⟩
abbrev main_while1b_v68 : Ref sig .tc := ⟨.hbm, 220, rfl⟩
abbrev main_while1b_v69 : Ref sig .tc := ⟨.hbm, 221, rfl⟩
abbrev main_while1b_v70 : Ref sig .tc := ⟨.hbm, 222, rfl⟩
abbrev main_while1b_v71 : Ref sig .tc := ⟨.hbm, 223, rfl⟩
abbrev main_while1b_v72 : Ref sig .tc := ⟨.hbm, 224, rfl⟩
abbrev main_while1b_v73 : Ref sig .tc := ⟨.hbm, 225, rfl⟩
abbrev main_while1b_call20_v0 : Ref sig .tc := ⟨.hbm, 226, rfl⟩
abbrev main_while1b_call20_c : Ref sig .tc := ⟨.hbm, 227, rfl⟩
abbrev main_while1b_call20_c_0 : Ref sig .tc := ⟨.hbm, 228, rfl⟩
abbrev main_while1b_call20_c_1 : Ref sig .tc := ⟨.hbm, 229, rfl⟩
abbrev main_while1b_v74 : Ref sig .tc := ⟨.hbm, 230, rfl⟩
abbrev main_while1b_call21_v0 : Ref sig .tc := ⟨.hbm, 231, rfl⟩
abbrev main_while1b_call21_c : Ref sig .tc := ⟨.hbm, 232, rfl⟩
abbrev main_while1b_call21_c_0 : Ref sig .tc := ⟨.hbm, 233, rfl⟩
abbrev main_while1b_call21_c_1 : Ref sig .tc := ⟨.hbm, 234, rfl⟩
abbrev main_while1b_v75 : Ref sig .tc := ⟨.hbm, 235, rfl⟩
abbrev main_while1b_call22_v0 : Ref sig .tc := ⟨.hbm, 236, rfl⟩
abbrev main_while1b_call22_c : Ref sig .tc := ⟨.hbm, 237, rfl⟩
abbrev main_while1b_call22_c_0 : Ref sig .tc := ⟨.hbm, 238, rfl⟩
abbrev main_while1b_call22_c_1 : Ref sig .tc := ⟨.hbm, 239, rfl⟩
abbrev main_while1b_v76 : Ref sig .tc := ⟨.hbm, 240, rfl⟩
abbrev main_while1b_call23_v0 : Ref sig .tc := ⟨.hbm, 241, rfl⟩
abbrev main_while1b_call23_c : Ref sig .tc := ⟨.hbm, 242, rfl⟩
abbrev main_while1b_call23_c_0 : Ref sig .tc := ⟨.hbm, 243, rfl⟩
abbrev main_while1b_call23_c_1 : Ref sig .tc := ⟨.hbm, 244, rfl⟩
abbrev main_while1b_v77 : Ref sig .tc := ⟨.hbm, 245, rfl⟩
abbrev main_while1b_call24_v0 : Ref sig .tc := ⟨.hbm, 246, rfl⟩
abbrev main_while1b_call24_c : Ref sig .tc := ⟨.hbm, 247, rfl⟩
abbrev main_while1b_call24_c_0 : Ref sig .tc := ⟨.hbm, 248, rfl⟩
abbrev main_while1b_call24_c_1 : Ref sig .tc := ⟨.hbm, 249, rfl⟩
abbrev main_while1b_v78 : Ref sig .tc := ⟨.hbm, 250, rfl⟩
abbrev main_while1b_call25_v0 : Ref sig .tc := ⟨.hbm, 251, rfl⟩
abbrev main_while1b_call25_c : Ref sig .tc := ⟨.hbm, 252, rfl⟩
abbrev main_while1b_v79 : Ref sig .tc := ⟨.hbm, 253, rfl⟩
abbrev main_while1b_c_34 : Ref sig .tc := ⟨.hbm, 254, rfl⟩
abbrev main_while1b_v80 : Ref sig .tc := ⟨.hbm, 255, rfl⟩
abbrev main_v30 : Ref sig .tc := ⟨.hbm, 256, rfl⟩
abbrev main_v31 : Ref sig .tc := ⟨.hbm, 257, rfl⟩
abbrev main_v32 : Ref sig .tc := ⟨.hbm, 258, rfl⟩
abbrev main_v33 : Ref sig .tc := ⟨.hbm, 259, rfl⟩
abbrev main_v34 : Ref sig .tc := ⟨.hbm, 260, rfl⟩
abbrev main_v35 : Ref sig .tc := ⟨.hbm, 261, rfl⟩
abbrev main_v36 : Ref sig .tc := ⟨.hbm, 262, rfl⟩
abbrev main_v37 : Ref sig .tc := ⟨.hbm, 263, rfl⟩
abbrev main_call26_cst : Ref sig .tc := ⟨.hbm, 264, rfl⟩
abbrev main_call26_v0 : Ref sig .tc := ⟨.hbm, 265, rfl⟩
abbrev main_v38 : Ref sig .tc := ⟨.hbm, 266, rfl⟩
abbrev main_v39 : Ref sig .tc := ⟨.hbm, 267, rfl⟩
abbrev main_v40 : Ref sig .tc := ⟨.hbm, 268, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== DInMain.lean ====
abbrev S4096x2048 : Shape := ⟨2, ![4096, 2048]⟩
abbrev S4096x12288 : Shape := ⟨2, ![4096, 12288]⟩
abbrev S2048x12288 : Shape := ⟨2, ![2048, 12288]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x12288, .f32⟩
  | .hbm, ⟨2, _⟩ => ⟨S4096x2048, .bf16⟩
  | .hbm, ⟨3, _⟩ => ⟨S4096x12288, .bf16⟩
  | .hbm, ⟨4, _⟩ => ⟨S2048x12288, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInMainRefIdeal.lean ====
abbrev S4096x2048 : Shape := ⟨2, ![4096, 2048]⟩
abbrev S4096x12288 : Shape := ⟨2, ![4096, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x12288, .f32⟩
  | .hbm, ⟨2, _⟩ => ⟨S_, .f32⟩
  | .hbm, ⟨3, _⟩ => ⟨S2048x12288, .f32⟩
  | .hbm, ⟨4, _⟩ => ⟨S4096x12288, .f32⟩
  | .hbm, ⟨5, _⟩ => ⟨S12288x2048, .f32⟩
  | .hbm, ⟨6, _⟩ => ⟨S2048x12288, .f32⟩
  | .hbm, ⟨7, _⟩ => ⟨S2048x12288, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhMix.lean ====
abbrev S4096x12288 : Shape := ⟨2, ![4096, 12288]⟩
abbrev S2048x12288 : Shape := ⟨2, ![2048, 12288]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x12288, .f32⟩
  | .hbm, ⟨1, _⟩ => ⟨S2048x12288, .f32⟩
  | .hbm, ⟨2, _⟩ => ⟨S4096x2048, .f32⟩
  | .hbm, ⟨3, _⟩ => ⟨S4096x12288, .bf16⟩
  | .hbm, ⟨4, _⟩ => ⟨S2048x12288, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhMixRefIdeal.lean ====
abbrev S4096x12288 : Shape := ⟨2, ![4096, 12288]⟩
abbrev S2048x12288 : Shape := ⟨2, ![2048, 12288]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S2048x12288, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x12288, .f32⟩
  | .hbm, ⟨6, _⟩ => ⟨S4096x2048, .f32⟩
  | .hbm, ⟨7, _⟩ => ⟨S4096x2048, .f32⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ProjMain.lean ====
abbrev S4096x2048 : Shape := ⟨2, ![4096, 2048]⟩
abbrev S2048x12288 : Shape := ⟨2, ![2048, 12288]⟩
abbrev S4096x12288 : Shape := ⟨2, ![4096, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x12288, .f32⟩
  | .hbm, ⟨2, _⟩ => ⟨S4096x2048, .bf16⟩
  | .hbm, ⟨3, _⟩ => ⟨S2048x12288, .bf16⟩
  | .hbm, ⟨4, _⟩ => ⟨S4096x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainRefIdeal.lean ====
abbrev S4096x2048 : Shape := ⟨2, ![4096, 2048]⟩
abbrev S2048x12288 : Shape := ⟨2, ![2048, 12288]⟩
abbrev S4096x12288 : Shape := ⟨2, ![4096, 12288]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x12288, .f32⟩
  | .hbm, ⟨2, _⟩ => ⟨S4096x12288, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DFfnUp.lean ====
abbrev S4096x2048 : Shape := ⟨2, ![4096, 2048]⟩
abbrev S4096x5632 : Shape := ⟨2, ![4096, 5632]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x2048, .bf16⟩
  | .hbm, ⟨3, _⟩ => ⟨S4096x5632, .bf16⟩
  | .hbm, ⟨4, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfnUpRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S2048x5632, .f32⟩
  | .hbm, ⟨4, _⟩ => ⟨S4096x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhFfnG.lean ====
abbrev S4096x5632 : Shape := ⟨2, ![4096, 5632]⟩
abbrev S2048x5632 : Shape := ⟨2, ![2048, 5632]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S4096x5632, .bf16⟩
  | .hbm, ⟨3, _⟩ => ⟨S2048x5632, .bf16⟩
  | .hbm, ⟨4, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhFfnGRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S_, .f32⟩
  | .hbm, ⟨3, _⟩ => ⟨S4096x2048, .f32⟩
  | .hbm, ⟨4, _⟩ => ⟨S4096x5632, .f32⟩
  | .hbm, ⟨5, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DhFfnV.lean ====
abbrev S4096x5632 : Shape := ⟨2, ![4096, 5632]⟩
abbrev S2048x5632 : Shape := ⟨2, ![2048, 5632]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S4096x2048, .f32⟩
  | .hbm, ⟨3, _⟩ => ⟨S4096x5632, .bf16⟩
  | .hbm, ⟨4, _⟩ => ⟨S2048x5632, .bf16⟩
  | .hbm, ⟨5, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhFfnVRefIdeal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x5632, .f32⟩
  | .hbm, ⟨6, _⟩ => ⟨S4096x2048, .f32⟩
  | .hbm, ⟨7, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfnUp.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x2048, .bf16⟩
  | .hbm, ⟨3, _⟩ => ⟨S2048x5632, .bf16⟩
  | .hbm, ⟨4, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DAct.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S5632x2048, .bf16⟩
  | .hbm, ⟨3, _⟩ => ⟨S4096x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DFfnDown.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfnDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BranchA.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchARefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DOn.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOnRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DMerged.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DBranchA.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchARefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchB.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DSgu.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSguRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DBranchB.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchBRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleProj.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DPleProj.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x256, .bf16⟩
  | .hbm, ⟨3, _⟩ => ⟨S4096x2048, .bf16⟩
  | .hbm, ⟨4, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPleProjRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.ScanFwdRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! One chunk of the forward scan: the body run on any whole staging buffers. A chunk is the first one (the carried state is
set to zero before it is used) or a later one (the state is what the chunk before left). The body's stores are found by the
run, one list of pieces for every output and one for the carried state. -/

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the first chunk, from the grid coordinates. -/
abbrev firstFwd (i : grid0.Coords) : Prop :=
  (Scalar.cmpi .ne (Scalar.extui (Scalar.cmpi .eq (BitVec.ofNat 32 (i 0).val) 0#32)) 0#32) = 1#1

/-- The test holds at chunk 0 only. -/
theorem firstFwd_iff (t : Fin grid0.N) : firstFwd (grid0.coords t) ↔ t.val % 64 = 0 := by
  have ht : t.val < 64 := Nat.lt_of_lt_of_eq t.isLt N_0
  have e0 : (grid0.coords t 0).val = t.val / 1 % 64 := Pipeline.Grid.coords_val t 0 (by decide) rfl
  simp only [firstFwd, e0]
  word_cmp

section

variable (c : Dev nD) (i : grid0.Coords)
  (arg1 : Memref sig .tc .vmem S64x2048 .bf16) (harg1 : arg1.IsWhole)
  (arg2 : Memref sig .tc .vmem S64x2048 .bf16) (harg2 : arg2.IsWhole)
  (arg3 : Memref sig .tc .vmem S64x2048 .f32) (harg3 : arg3.IsWhole)
  (arg4 : Memref sig .tc .vmem S64x2048 .bf16) (harg4 : arg4.IsWhole)
  (arg5 : Memref sig .tc .vmem S1x16x64x64 .bf16) (harg5 : arg5.IsWhole)
  (arg6 : Memref sig .tc .vmem S1x16x1x128 .f32) (harg6 : arg6.IsWhole)
  (arg7 : Memref sig .tc .vmem S64x2048 .f32) (harg7 : arg7.IsWhole)
  (arg8 : Memref sig .tc .vmem S1x16x128x128 .f32) (harg8 : arg8.IsWhole)
  (arg9 : Memref sig .tc .vmem S64x2048 .bf16) (harg9 : arg9.IsWhole)
  (arg10 : Memref sig .tc .vmem S16x128x128 .f32) (harg10 : arg10.IsWhole)

set_option maxHeartbeats 4000000 in
/-- The first chunk of the forward scan: what the stores leave in every output and in the state, with the proof that the body runs there. -/
noncomputable def runFwdA (hc0 : firstFwd i)
    (x0 : Vec F S64x2048 .bf16) (x1 : Vec F S64x2048 .bf16) (x2 : Vec F S64x2048 .f32) (x3 : Vec F S64x2048 .bf16) (x4 : Vec F S1x16x64x64 .bf16) (x5 : Vec F S1x16x1x128 .f32) :
    Σ' (LO : List (View.Piece (Elt F) S64x2048 .f32)),
    Σ' (LS : List (View.Piece (Elt F) S1x16x128x128 .f32)),
    Σ' (LV : List (View.Piece (Elt F) S64x2048 .bf16)),
    { LSt : List (View.Piece (Elt F) S16x128x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ f, arg7.view.loc (c : Thread nD τ) ↦[arg7.view.set]{fullShare} arg7.view.writes (Elt F) f LO)
            ∗ (∃ f, arg8.view.loc (c : Thread nD τ) ↦[arg8.view.set]{fullShare} arg8.view.writes (Elt F) f LS)
            ∗ (∃ f, arg9.view.loc (c : Thread nD τ) ↦[arg9.view.set]{fullShare} arg9.view.writes (Elt F) f LV)
            ∗ (∃ f, arg10.view.loc (c : Thread nD τ) ↦[arg10.view.set]{fullShare} arg10.view.writes (Elt F) f LSt)) -∗ K ⟨⟩))
          ⊢ wp frame (wpE (defs₀ (F := F)) Variants.none c none) E (cc0_delta_scan i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_delta_scan_eq_skeleton]; unfold cc0_delta_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d_s, %f_s, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    iexists _; iexact HS

set_option maxHeartbeats 4000000 in
/-- A later chunk of the forward scan: what the stores leave in every output and in the state, with the proof that the body runs there. -/
noncomputable def runFwdB (hc0 : ¬ firstFwd i)
    (x0 : Vec F S64x2048 .bf16) (x1 : Vec F S64x2048 .bf16) (x2 : Vec F S64x2048 .f32) (x3 : Vec F S64x2048 .bf16) (x4 : Vec F S1x16x64x64 .bf16) (x5 : Vec F S1x16x1x128 .f32) (xs : Vec F S16x128x128 .f32) :
    Σ' (LO : List (View.Piece (Elt F) S64x2048 .f32)),
    Σ' (LS : List (View.Piece (Elt F) S1x16x128x128 .f32)),
    Σ' (LV : List (View.Piece (Elt F) S64x2048 .bf16)),
    { LSt : List (View.Piece (Elt F) S16x128x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ (∃ d, owns (c : Thread nD τ) arg8 fullShare d)
            ∗ (∃ d, owns (c : Thread nD τ) arg9 fullShare d)
            ∗ owns (c : Thread nD τ) arg10 fullShare xs
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ f, arg7.view.loc (c : Thread nD τ) ↦[arg7.view.set]{fullShare} arg7.view.writes (Elt F) f LO)
            ∗ (∃ f, arg8.view.loc (c : Thread nD τ) ↦[arg8.view.set]{fullShare} arg8.view.writes (Elt F) f LS)
            ∗ (∃ f, arg9.view.loc (c : Thread nD τ) ↦[arg9.view.set]{fullShare} arg9.view.writes (Elt F) f LV)
            ∗ (∃ f, arg10.view.loc (c : Thread nD τ) ↦[arg10.view.set]{fullShare} arg10.view.writes (Elt F) f LSt)) -∗ K ⟨⟩))
          ⊢ wp frame (wpE (defs₀ (F := F)) Variants.none c none) E (cc0_delta_scan i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_delta_scan_eq_skeleton]; unfold cc0_delta_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f_s, %hf_s, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf_s
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    iexists _; iexact HS

end

end Cert.KernelIdeal.Scan

end
-- ==== Proof.ScanFwdStep.lean ====
module

public import proofs.«01_k».proof.Proof.ScanFwdRun
public import Idealize.ShloMosaic.Lib.Pipeline.FrameTail

/-! The forward scan as a pipeline over the 64 chunks, entered from any contents `W` of the buffers: what every chunk leaves
in the outputs and in the carried state, the invariant between chunks, and the obligation of the body at every chunk. -/

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The stores of a chunk fill every output and the state. -/

section

variable (c : Dev nD) (i : grid0.Coords)
  (arg1 : Memref sig .tc .vmem S64x2048 .bf16) (harg1 : arg1.IsWhole)
  (arg2 : Memref sig .tc .vmem S64x2048 .bf16) (harg2 : arg2.IsWhole)
  (arg3 : Memref sig .tc .vmem S64x2048 .f32) (harg3 : arg3.IsWhole)
  (arg4 : Memref sig .tc .vmem S64x2048 .bf16) (harg4 : arg4.IsWhole)
  (arg5 : Memref sig .tc .vmem S1x16x64x64 .bf16) (harg5 : arg5.IsWhole)
  (arg6 : Memref sig .tc .vmem S1x16x1x128 .f32) (harg6 : arg6.IsWhole)
  (arg7 : Memref sig .tc .vmem S64x2048 .f32) (harg7 : arg7.IsWhole)
  (arg8 : Memref sig .tc .vmem S1x16x128x128 .f32) (harg8 : arg8.IsWhole)
  (arg9 : Memref sig .tc .vmem S64x2048 .bf16) (harg9 : arg9.IsWhole)
  (arg10 : Memref sig .tc .vmem S16x128x128 .f32) (harg10 : arg10.IsWhole)

section

variable (hc0 : firstFwd i) (x0 : Vec F S64x2048 .bf16) (x1 : Vec F S64x2048 .bf16) (x2 : Vec F S64x2048 .f32) (x3 : Vec F S64x2048 .bf16) (x4 : Vec F S1x16x64x64 .bf16) (x5 : Vec F S1x16x1x128 .f32)

theorem coverFwdAO (y : S64x2048.Idx) :
    ∃ p ∈ (runFwdA c i arg1 harg1 arg2 harg2 arg3 harg3 arg4 harg4 arg5 harg5 arg6 harg6 arg7 harg7 arg8 harg8 arg9 harg9 arg10 harg10 hc0 x0 x1 x2 x3 x4 x5).1, y ∈ p.1.set :=
  View.cover_of_tiledL (s := S64x2048) _ S64x128.size (by sl_kernel_rfl) y

theorem coverFwdAS (y : S1x16x128x128.Idx) :
    ∃ p ∈ (runFwdA c i arg1 harg1 arg2 harg2 arg3 harg3 arg4 harg4 arg5 harg5 arg6 harg6 arg7 harg7 arg8 harg8 arg9 harg9 arg10 harg10 hc0 x0 x1 x2 x3 x4 x5).2.1, y ∈ p.1.set :=
  View.cover_of_tiledL (s := S1x16x128x128) _ S1x1x128x128.size (by sl_kernel_rfl) y

theorem coverFwdAV (y : S64x2048.Idx) :
    ∃ p ∈ (runFwdA c i arg1 harg1 arg2 harg2 arg3 harg3 arg4 harg4 arg5 harg5 arg6 harg6 arg7 harg7 arg8 harg8 arg9 harg9 arg10 harg10 hc0 x0 x1 x2 x3 x4 x5).2.2.1, y ∈ p.1.set :=
  View.cover_of_tiledL (s := S64x2048) _ S64x128.size (by sl_kernel_rfl) y

theorem coverFwdASt (y : S16x128x128.Idx) :
    ∃ p ∈ (runFwdA c i arg1 harg1 arg2 harg2 arg3 harg3 arg4 harg4 arg5 harg5 arg6 harg6 arg7 harg7 arg8 harg8 arg9 harg9 arg10 harg10 hc0 x0 x1 x2 x3 x4 x5).2.2.2.1, y ∈ p.1.set :=
  View.cover_of_wholeMem (s := S16x128x128) _ (by sl_whole_mem) y

end

section

variable (hc0 : ¬ firstFwd i) (x0 : Vec F S64x2048 .bf16) (x1 : Vec F S64x2048 .bf16) (x2 : Vec F S64x2048 .f32) (x3 : Vec F S64x2048 .bf16) (x4 : Vec F S1x16x64x64 .bf16) (x5 : Vec F S1x16x1x128 .f32) (xs : Vec F S16x128x128 .f32)

theorem coverFwdBO (y : S64x2048.Idx) :
    ∃ p ∈ (runFwdB c i arg1 harg1 arg2 harg2 arg3 harg3 arg4 harg4 arg5 harg5 arg6 harg6 arg7 harg7 arg8 harg8 arg9 harg9 arg10 harg10 hc0 x0 x1 x2 x3 x4 x5 xs).1, y ∈ p.1.set :=
  View.cover_of_tiledL (s := S64x2048) _ S64x128.size (by sl_kernel_rfl) y

theorem coverFwdBS (y : S1x16x128x128.Idx) :
    ∃ p ∈ (runFwdB c i arg1 harg1 arg2 harg2 arg3 harg3 arg4 harg4 arg5 harg5 arg6 harg6 arg7 harg7 arg8 harg8 arg9 harg9 arg10 harg10 hc0 x0 x1 x2 x3 x4 x5 xs).2.1, y ∈ p.1.set :=
  View.cover_of_tiledL (s := S1x16x128x128) _ S1x1x128x128.size (by sl_kernel_rfl) y

theorem coverFwdBV (y : S64x2048.Idx) :
    ∃ p ∈ (runFwdB c i arg1 harg1 arg2 harg2 arg3 harg3 arg4 harg4 arg5 harg5 arg6 harg6 arg7 harg7 arg8 harg8 arg9 harg9 arg10 harg10 hc0 x0 x1 x2 x3 x4 x5 xs).2.2.1, y ∈ p.1.set :=
  View.cover_of_tiledL (s := S64x2048) _ S64x128.size (by sl_kernel_rfl) y

theorem coverFwdBSt (y : S16x128x128.Idx) :
    ∃ p ∈ (runFwdB c i arg1 harg1 arg2 harg2 arg3 harg3 arg4 harg4 arg5 harg5 arg6 harg6 arg7 harg7 arg8 harg8 arg9 harg9 arg10 harg10 hc0 x0 x1 x2 x3 x4 x5 xs).2.2.2.1, y ∈ p.1.set :=
  View.cover_of_tiledL (s := S16x128x128) _ S1x128x128.size (by sl_kernel_rfl) y

end

end

/-! The staging buffers of a chunk, the carried state's buffer. -/

abbrev fwdM0 (t : Fin cfg0.N) : Memref sig .tc .vmem S64x2048 .bf16 := win0_0.stage (cfg0.slots t 0)
abbrev fwdH0 (t : Fin cfg0.N) : (fwdM0 t).IsWhole := hstage0_0 ((cfg0.slots t 0).cast nbuf0_0)
abbrev fwdM1 (t : Fin cfg0.N) : Memref sig .tc .vmem S64x2048 .bf16 := win0_1.stage (cfg0.slots t 1)
abbrev fwdH1 (t : Fin cfg0.N) : (fwdM1 t).IsWhole := hstage0_1 ((cfg0.slots t 1).cast nbuf0_1)
abbrev fwdM2 (t : Fin cfg0.N) : Memref sig .tc .vmem S64x2048 .f32 := win0_2.stage (cfg0.slots t 2)
abbrev fwdH2 (t : Fin cfg0.N) : (fwdM2 t).IsWhole := hstage0_2 ((cfg0.slots t 2).cast nbuf0_2)
abbrev fwdM3 (t : Fin cfg0.N) : Memref sig .tc .vmem S64x2048 .bf16 := win0_3.stage (cfg0.slots t 3)
abbrev fwdH3 (t : Fin cfg0.N) : (fwdM3 t).IsWhole := hstage0_3 ((cfg0.slots t 3).cast nbuf0_3)
abbrev fwdM4 (t : Fin cfg0.N) : Memref sig .tc .vmem S1x16x64x64 .bf16 := win0_4.stage (cfg0.slots t 4)
abbrev fwdH4 (t : Fin cfg0.N) : (fwdM4 t).IsWhole := hstage0_4 ((cfg0.slots t 4).cast nbuf0_4)
abbrev fwdM5 (t : Fin cfg0.N) : Memref sig .tc .vmem S1x16x1x128 .f32 := win0_5.stage (cfg0.slots t 5)
abbrev fwdH5 (t : Fin cfg0.N) : (fwdM5 t).IsWhole := hstage0_5 ((cfg0.slots t 5).cast nbuf0_5)
abbrev fwdM6 (t : Fin cfg0.N) : Memref sig .tc .vmem S64x2048 .f32 := win0_6.stage (cfg0.slots t 6)
abbrev fwdH6 (t : Fin cfg0.N) : (fwdM6 t).IsWhole := hstage0_6 ((cfg0.slots t 6).cast nbuf0_6)
abbrev fwdM7 (t : Fin cfg0.N) : Memref sig .tc .vmem S1x16x128x128 .f32 := win0_7.stage (cfg0.slots t 7)
abbrev fwdH7 (t : Fin cfg0.N) : (fwdM7 t).IsWhole := hstage0_7 ((cfg0.slots t 7).cast nbuf0_7)
abbrev fwdM8 (t : Fin cfg0.N) : Memref sig .tc .vmem S64x2048 .bf16 := win0_8.stage (cfg0.slots t 8)
abbrev fwdH8 (t : Fin cfg0.N) : (fwdM8 t).IsWhole := hstage0_8 ((cfg0.slots t 8).cast nbuf0_8)
abbrev fwdSc : Memref sig .tc .vmem S16x128x128 .f32 := Memref.whole cc0_scratch0

/-- What a chunk leaves: its outputs and the state handed to the next chunk. -/
structure FwdOut (F : FTy → Type) [FloatOps F] where
  O : Vec F S64x2048 .f32
  S : Vec F S1x16x128x128 .f32
  V : Vec F S64x2048 .bf16
  St : Vec F S16x128x128 .f32

/-- The first chunk, from its input blocks. -/
def fwdOutA (c : Dev nD) (t : Fin cfg0.N) (h0 : t.val % 64 = 0) (x0 : Vec F S64x2048 .bf16) (x1 : Vec F S64x2048 .bf16) (x2 : Vec F S64x2048 .f32) (x3 : Vec F S64x2048 .bf16) (x4 : Vec F S1x16x64x64 .bf16) (x5 : Vec F S1x16x1x128 .f32) : FwdOut F :=
  let stores := runFwdA c (grid0.coords t) (fwdM0 t) (fwdH0 t) (fwdM1 t) (fwdH1 t) (fwdM2 t) (fwdH2 t) (fwdM3 t) (fwdH3 t) (fwdM4 t) (fwdH4 t) (fwdM5 t) (fwdH5 t) (fwdM6 t) (fwdH6 t) (fwdM7 t) (fwdH7 t) (fwdM8 t) (fwdH8 t) fwdSc (Memref.isWhole_whole _) ((firstFwd_iff t).mpr h0) x0 x1 x2 x3 x4 x5
  ⟨View.canon stores.1, View.canon stores.2.1, View.canon stores.2.2.1, View.canon stores.2.2.2.1⟩

/-- A later chunk, from its input blocks and the state it meets. -/
def fwdOutB (c : Dev nD) (t : Fin cfg0.N) (h0 : ¬ t.val % 64 = 0) (x0 : Vec F S64x2048 .bf16) (x1 : Vec F S64x2048 .bf16) (x2 : Vec F S64x2048 .f32) (x3 : Vec F S64x2048 .bf16) (x4 : Vec F S1x16x64x64 .bf16) (x5 : Vec F S1x16x1x128 .f32) (xs : Vec F S16x128x128 .f32) : FwdOut F :=
  let stores := runFwdB c (grid0.coords t) (fwdM0 t) (fwdH0 t) (fwdM1 t) (fwdH1 t) (fwdM2 t) (fwdH2 t) (fwdM3 t) (fwdH3 t) (fwdM4 t) (fwdH4 t) (fwdM5 t) (fwdH5 t) (fwdM6 t) (fwdH6 t) (fwdM7 t) (fwdH7 t) (fwdM8 t) (fwdH8 t) fwdSc (Memref.isWhole_whole _) (fun h => h0 ((firstFwd_iff t).mp h)) x0 x1 x2 x3 x4 x5 xs
  ⟨View.canon stores.1, View.canon stores.2.1, View.canon stores.2.2.1, View.canon stores.2.2.2.1⟩

/-- Window `w`'s block at chunk `t`. -/
def fwdBlk (W : Dev nD → Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (Pipeline.arrRef spec0 w)))

variable (W : Dev nD → Valuation τ sig (Elt F))

/-- Chunk `t` on its blocks, the state before it being `xs`. -/
def fwdStep (c : Dev nD) (t : Fin cfg0.N) (xs : Vec F S16x128x128 .f32) : FwdOut F :=
  if h0 : t.val % 64 = 0 then fwdOutA c t h0 (fwdBlk W c 0 t) (fwdBlk W c 1 t) (fwdBlk W c 2 t) (fwdBlk W c 3 t) (fwdBlk W c 4 t) (fwdBlk W c 5 t)
  else fwdOutB c t h0 (fwdBlk W c 0 t) (fwdBlk W c 1 t) (fwdBlk W c 2 t) (fwdBlk W c 3 t) (fwdBlk W c 4 t) (fwdBlk W c 5 t) xs

theorem fwdStep_first (c : Dev nD) (t : Fin cfg0.N) (xs : Vec F S16x128x128 .f32) (h0 : t.val % 64 = 0) :
    fwdStep W c t xs = fwdOutA c t h0 (fwdBlk W c 0 t) (fwdBlk W c 1 t) (fwdBlk W c 2 t) (fwdBlk W c 3 t) (fwdBlk W c 4 t) (fwdBlk W c 5 t) := dif_pos h0

theorem fwdStep_later (c : Dev nD) (t : Fin cfg0.N) (xs : Vec F S16x128x128 .f32) (h0 : ¬ t.val % 64 = 0) :
    fwdStep W c t xs = fwdOutB c t h0 (fwdBlk W c 0 t) (fwdBlk W c 1 t) (fwdBlk W c 2 t) (fwdBlk W c 3 t) (fwdBlk W c 4 t) (fwdBlk W c 5 t) xs := dif_neg h0

/-- The state before chunk `n` (before chunk 0: whatever the buffer holds, never read). -/
def fwdState (c : Dev nD) : ℕ → Vec F S16x128x128 .f32
  | 0 => View.canon []
  | n + 1 => if h : n < cfg0.N then (fwdStep W c ⟨n, h⟩ (fwdState c n)).St else fwdState c n

theorem fwdState_succ (c : Dev nD) (t : Fin cfg0.N) :
    fwdState W c (t.val + 1) = (fwdStep W c t (fwdState W c t.val)).St := dif_pos t.isLt

/-- The scoped buffers beside the carried state. -/
def fwdRest (c : Dev nD) : sProp 𝕄 :=
  Pipeline.scopedRestBut (Ix := Unit) (Name := ℕ) (U := UR sig nD τ) (Lvl := ℕ) (Val := Elt F) spec0 c [cc0_scratch0]

theorem fwdScoped_split (c : Dev nD) :
    (Pipeline.scopedRest spec0 c : sProp 𝕄) = iprop((∃ d, owns (c : Thread nD τ) fwdSc fullShare d) ∗ fwdRest (F := F) c) := by
  refine (Pipeline.scopedRest_split_of_list (Ix := Unit) (Name := ℕ) (U := UR sig nD τ) (Lvl := ℕ) (Val := Elt F) spec0 c [cc0_scratch0] (by decide) (by decide)).trans ?_
  simp only [fwdSc, owns_whole]; rfl

/-- Between chunks: the carried state at its contents (before the first chunk: at any), the other scoped buffers, the generator. -/
def fwdInv (c : Dev nD) : ℕ → sProp 𝕄
  | 0 => iprop(Pipeline.scopedRest spec0 c ∗ ∃ r, prngReg c r)
  | n + 1 => iprop((owns (c : Thread nD τ) fwdSc fullShare (fwdState W c (n + 1)) ∗ fwdRest (F := F) c) ∗ ∃ r, prngReg c r)

theorem fwdInv_pos (c : Dev nD) (n : ℕ) (h : n ≠ 0) :
    fwdInv W c n = iprop((owns (c : Thread nD τ) fwdSc fullShare (fwdState W c n) ∗ fwdRest (F := F) c) ∗ ∃ r, prngReg c r) := by
  cases n with
  | zero => exact absurd rfl h
  | succ n => rfl

/-- The pipeline's data on core `c`: the arrays as met, every input's buffer at its block, every output's at what the chunk leaves. -/
def fwdDat (c : Dev nD) : Dat τ (Elt F) Unit ℕ (UR sig nD τ) ℕ cfg0 c where
  A w := W c (Proc.devRef .tc (Pipeline.arrRef spec0 w))
  after w t := match w with
    | ⟨0, _⟩ => fwdBlk W c 0 t
    | ⟨1, _⟩ => fwdBlk W c 1 t
    | ⟨2, _⟩ => fwdBlk W c 2 t
    | ⟨3, _⟩ => fwdBlk W c 3 t
    | ⟨4, _⟩ => fwdBlk W c 4 t
    | ⟨5, _⟩ => fwdBlk W c 5 t
    | ⟨6, _⟩ => (fwdStep W c t (fwdState W c t.val)).O
    | ⟨7, _⟩ => (fwdStep W c t (fwdState W c t.val)).S
    | ⟨8, _⟩ => (fwdStep W c t (fwdState W c t.val)).V
  Φ t := fwdInv W c t.val
  q _ := fullShare
  owed _ := 0

theorem fwdDat_A (c : Dev nD) (w : Fin cfg0.W) : (fwdDat W c).A w = W c (Proc.devRef .tc (Pipeline.arrRef spec0 w)) := by
  dsimp only [fwdDat]

theorem fwdDat_castSucc (c : Dev nD) (t : Fin cfg0.N) : (fwdDat W c).Φ t.castSucc = fwdInv W c t.val := by
  dsimp only [fwdDat]; rfl

theorem fwdDat_succ (c : Dev nD) (t : Fin cfg0.N) : (fwdDat W c).Φ t.succ = fwdInv W c (t.val + 1) := by
  dsimp only [fwdDat]; rfl

theorem fwdAfter0 (c : Dev nD) (t : Fin cfg0.N) : (fwdDat W c).after 0 t = fwdBlk W c 0 t := by dsimp only [fwdDat]
theorem fwdBefore0 (c : Dev nD) (t : Fin cfg0.N) (d) : (fwdDat W c).before 0 t d = fwdBlk W c 0 t :=
  ((fwdDat W c).before_in_eq_fetched 0 rfl (fun _ => rfl) (fun _ _ _ => rfl)
    (fun t => by rw [fwdAfter0]; unfold Dat.blockOf fwdBlk; rw [fwdDat_A]; try rfl) t d).trans
    (by unfold Dat.fetched Dat.blockOf fwdBlk; rw [fwdDat_A]; try rfl)
theorem fwdAfter1 (c : Dev nD) (t : Fin cfg0.N) : (fwdDat W c).after 1 t = fwdBlk W c 1 t := by dsimp only [fwdDat]
theorem fwdBefore1 (c : Dev nD) (t : Fin cfg0.N) (d) : (fwdDat W c).before 1 t d = fwdBlk W c 1 t :=
  ((fwdDat W c).before_in_eq_fetched 1 rfl (fun _ => rfl) (fun _ _ _ => rfl)
    (fun t => by rw [fwdAfter1]; unfold Dat.blockOf fwdBlk; rw [fwdDat_A]; try rfl) t d).trans
    (by unfold Dat.fetched Dat.blockOf fwdBlk; rw [fwdDat_A]; try rfl)
theorem fwdAfter2 (c : Dev nD) (t : Fin cfg0.N) : (fwdDat W c).after 2 t = fwdBlk W c 2 t := by dsimp only [fwdDat]
theorem fwdBefore2 (c : Dev nD) (t : Fin cfg0.N) (d) : (fwdDat W c).before 2 t d = fwdBlk W c 2 t :=
  ((fwdDat W c).before_in_eq_fetched 2 rfl (fun _ => rfl) (fun _ _ _ => rfl)
    (fun t => by rw [fwdAfter2]; unfold Dat.blockOf fwdBlk; rw [fwdDat_A]; try rfl) t d).trans
    (by unfold Dat.fetched Dat.blockOf fwdBlk; rw [fwdDat_A]; try rfl)
theorem fwdAfter3 (c : Dev nD) (t : Fin cfg0.N) : (fwdDat W c).after 3 t = fwdBlk W c 3 t := by dsimp only [fwdDat]
theorem fwdBefore3 (c : Dev nD) (t : Fin cfg0.N) (d) : (fwdDat W c).before 3 t d = fwdBlk W c 3 t :=
  ((fwdDat W c).before_in_eq_fetched 3 rfl (fun _ => rfl) (fun _ _ _ => rfl)
    (fun t => by rw [fwdAfter3]; unfold Dat.blockOf fwdBlk; rw [fwdDat_A]; try rfl) t d).trans
    (by unfold Dat.fetched Dat.blockOf fwdBlk; rw [fwdDat_A]; try rfl)
theorem fwdAfter4 (c : Dev nD) (t : Fin cfg0.N) : (fwdDat W c).after 4 t = fwdBlk W c 4 t := by dsimp only [fwdDat]
theorem fwdBefore4 (c : Dev nD) (t : Fin cfg0.N) (d) : (fwdDat W c).before 4 t d = fwdBlk W c 4 t :=
  ((fwdDat W c).before_in_eq_fetched 4 rfl (fun _ => rfl) (fun _ _ _ => rfl)
    (fun t => by rw [fwdAfter4]; unfold Dat.blockOf fwdBlk; rw [fwdDat_A]; try rfl) t d).trans
    (by unfold Dat.fetched Dat.blockOf fwdBlk; rw [fwdDat_A]; try rfl)
theorem fwdAfter5 (c : Dev nD) (t : Fin cfg0.N) : (fwdDat W c).after 5 t = fwdBlk W c 5 t := by dsimp only [fwdDat]
theorem fwdBefore5 (c : Dev nD) (t : Fin cfg0.N) (d) : (fwdDat W c).before 5 t d = fwdBlk W c 5 t :=
  ((fwdDat W c).before_in_eq_fetched 5 rfl (fun _ => rfl) (fun _ _ _ => rfl)
    (fun t => by rw [fwdAfter5]; unfold Dat.blockOf fwdBlk; rw [fwdDat_A]; try rfl) t d).trans
    (by unfold Dat.fetched Dat.blockOf fwdBlk; rw [fwdDat_A]; try rfl)
theorem fwdAfter6 (c : Dev nD) (t : Fin cfg0.N) :
    (fwdDat W c).after 6 t = (fwdStep W c t (fwdState W c t.val)).O := by dsimp only [fwdDat]
theorem fwdAfter7 (c : Dev nD) (t : Fin cfg0.N) :
    (fwdDat W c).after 7 t = (fwdStep W c t (fwdState W c t.val)).S := by dsimp only [fwdDat]
theorem fwdAfter8 (c : Dev nD) (t : Fin cfg0.N) :
    (fwdDat W c).after 8 t = (fwdStep W c t (fwdState W c t.val)).V := by dsimp only [fwdDat]

/-- What the body is called with at chunk `t`, -/
def fwdPre (c : Dev nD) (t : Fin cfg0.N) : sProp 𝕄 :=
  iprop((fwdDat W c).Φ t.castSucc ∗ (fwdDat W c).owesAt () t.castSucc
    ∗ (∃ d, owns (c : Thread nD τ) (fwdM0 t) fullShare ((fwdDat W c).before 0 t d))
    ∗ (∃ d, owns (c : Thread nD τ) (fwdM1 t) fullShare ((fwdDat W c).before 1 t d))
    ∗ (∃ d, owns (c : Thread nD τ) (fwdM2 t) fullShare ((fwdDat W c).before 2 t d))
    ∗ (∃ d, owns (c : Thread nD τ) (fwdM3 t) fullShare ((fwdDat W c).before 3 t d))
    ∗ (∃ d, owns (c : Thread nD τ) (fwdM4 t) fullShare ((fwdDat W c).before 4 t d))
    ∗ (∃ d, owns (c : Thread nD τ) (fwdM5 t) fullShare ((fwdDat W c).before 5 t d))
    ∗ (∃ d, owns (c : Thread nD τ) (fwdM6 t) fullShare ((fwdDat W c).before 6 t d))
    ∗ (∃ d, owns (c : Thread nD τ) (fwdM7 t) fullShare ((fwdDat W c).before 7 t d))
    ∗ (∃ d, owns (c : Thread nD τ) (fwdM8 t) fullShare ((fwdDat W c).before 8 t d)))

/-- and what it hands back. -/
def fwdPost (c : Dev nD) (t : Fin cfg0.N) : sProp 𝕄 :=
  iprop((fwdDat W c).Φ t.succ ∗ (fwdDat W c).owesAt () t.succ
    ∗ owns (c : Thread nD τ) (fwdM0 t) fullShare ((fwdDat W c).after 0 t)
    ∗ owns (c : Thread nD τ) (fwdM1 t) fullShare ((fwdDat W c).after 1 t)
    ∗ owns (c : Thread nD τ) (fwdM2 t) fullShare ((fwdDat W c).after 2 t)
    ∗ owns (c : Thread nD τ) (fwdM3 t) fullShare ((fwdDat W c).after 3 t)
    ∗ owns (c : Thread nD τ) (fwdM4 t) fullShare ((fwdDat W c).after 4 t)
    ∗ owns (c : Thread nD τ) (fwdM5 t) fullShare ((fwdDat W c).after 5 t)
    ∗ owns (c : Thread nD τ) (fwdM6 t) fullShare ((fwdDat W c).after 6 t)
    ∗ owns (c : Thread nD τ) (fwdM7 t) fullShare ((fwdDat W c).after 7 t)
    ∗ owns (c : Thread nD τ) (fwdM8 t) fullShare ((fwdDat W c).after 8 t))

set_option maxHeartbeats 9600000 in
/-- The body at every chunk. -/
theorem fwd_body (c : Dev nD) (t : Fin cfg0.N) :
    fwdPre W c t ⊢ wp frame (wpE (defs₀ (F := F)) Variants.none c none) Set.univ (bodyAt0 t) (fun _ => fwdPost W c t) := by
  unfold fwdPre fwdPost bodyAt0
  simp only [fwdBefore0, fwdBefore1, fwdBefore2, fwdBefore3, fwdBefore4, fwdBefore5]
  rw [show (fwdDat W c).owesAt () t.succ = (fwdDat W c).owesAt () t.castSucc from rfl,
    fwdAfter0, fwdAfter1, fwdAfter2, fwdAfter3, fwdAfter4, fwdAfter5, fwdAfter6, fwdAfter7, fwdAfter8, fwdDat_succ, fwdInv_pos W c _ (Nat.succ_ne_zero _), fwdState_succ, fwdDat_castSucc]
  have hN : t.val < 64 := lt_of_lt_of_eq t.isLt (show cfg0.N = 64 from N_0)
  by_cases h0 : t.val % 64 = 0
  · rw [show fwdInv W c t.val = iprop(Pipeline.scopedRest spec0 c ∗ ∃ r, prngReg c r) by rw [show t.val = 0 by omega]; rfl,
      fwdScoped_split, fwdStep_first W c t _ h0]
    unfold fwdOutA; dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFwdA c (grid0.coords t) _ _ _ _ _ _ _ _ _ _ _ _ _ _ _ _ _ _ _ _ ((firstFwd_iff t).mpr h0) (fwdBlk W c 0 t) (fwdBlk W c 1 t) (fwdBlk W c 2 t) (fwdBlk W c 3 t) (fwdBlk W c 4 t) (fwdBlk W c 5 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, ⟨%e6, H6⟩, ⟨%e7, H7⟩, ⟨%e8, H8⟩, ⟨%es, HS⟩⟩
    isplitl [HS HR Hg]
    · isplitl [HS HR]
      · isplitl [HS]
        · unfold owns; iexists _; isplitr
          swap; · iexact HS
          ipureintro; exact View.read_writes_eq_canon _ _ _ (coverFwdASt c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverFwdAO c _ _ _ _ _ _ _ _ _ _ _ _ _ _ _ _ _ _ _ _ _ _ _ _ _ _ _ _)
    isplitl [H7]
    · unfold owns; iexists _; isplitr
      swap; · iexact H7
      ipureintro; exact View.read_writes_eq_canon _ _ _ (coverFwdAS c _ _ _ _ _ _ _ _ _ _ _ _ _ _ _ _ _ _ _ _ _ _ _ _ _ _ _ _)
    unfold owns; iexists _; isplitr
    swap; · iexact H8
    ipureintro; exact View.read_writes_eq_canon _ _ _ (coverFwdAV c _ _ _ _ _ _ _ _ _ _ _ _ _ _ _ _ _ _ _ _ _ _ _ _ _ _ _ _)
  · rw [fwdInv_pos W c t.val (by omega), fwdStep_later W c t _ h0]
    unfold fwdOutB; dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFwdB c (grid0.coords t) _ _ _ _ _ _ _ _ _ _ _ _ _ _ _ _ _ _ _ _ (fun h => h0 ((firstFwd_iff t).mp h)) (fwdBlk W c 0 t) (fwdBlk W c 1 t) (fwdBlk W c 2 t) (fwdBlk W c 3 t) (fwdBlk W c 4 t) (fwdBlk W c 5 t) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, ⟨%e6, H6⟩, ⟨%e7, H7⟩, ⟨%e8, H8⟩, ⟨%es, HS⟩⟩
    isplitl [HS HR Hg]
    · isplitl [HS HR]
      · isplitl [HS]
        · unfold owns; iexists _; isplitr
          swap; · iexact HS
          ipureintro; exact View.read_writes_eq_canon _ _ _ (coverFwdBSt c _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (coverFwdBO c _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (coverFwdBS c _ _ _ _ _ _ _ _ _ _ _ _ _ _ _ _ _ _ _ _ _ _ _ _ _ _ _ _ _)
    unfold owns; iexists _; isplitr
    swap; · iexact H8
    ipureintro; exact View.read_writes_eq_canon _ _ _ (coverFwdBV c _ _ _ _ _ _ _ _ _ _ _ _ _ _ _ _ _ _ _ _ _ _ _ _ _ _ _ _ _)

theorem fwd_row (t : Fin cfg0.N) : defs₀ (F := F) .tc cfg0.body (cfg0.bodyArgs t (cfg0.slots t)) = bodyAt0 t := by
  unfold defs₀; rw [Defs.onTc_tc]

theorem fwd_obligation (c : Dev nD) : BodyObligation (fwdDat W c) (defs₀ (F := F)) Variants.none () Set.univ := fun t => by
  rw [bigSep_W0, bigSep_W0, fwd_row]
  exact triple_restated (fwd_body W c t) rfl .rfl fun _ => .rfl

/-- The region is entered from the scoped buffers and the generator, -/
theorem fwd_in (c : Dev nD) : iprop(Pipeline.scopedRest spec0 c ∗ ∃ r, prngReg c r) ⊢ (fwdDat W c).Φ 0 :=
  Idealize.SL.BI.Entails.refl _

/-- and hands them back. -/
theorem fwd_out (c : Dev nD) : (fwdDat W c).Φ (Fin.last cfg0.N) ⊢ iprop(Pipeline.scopedRest spec0 c ∗ ∃ r, prngReg c r) := by
  rw [show (fwdDat W c).Φ (Fin.last cfg0.N) = fwdInv W c cfg0.N from rfl,
    fwdInv_pos W c _ (by rw [show cfg0.N = 64 from N_0]; decide), fwdScoped_split]
  iintro ⟨⟨HS, HR⟩, Hg⟩
  isplitr [Hg]
  · isplitl [HS]
    · iexists _; iexact HS
    iexact HR
  iexact Hg

end Cert.KernelIdeal.Scan

end
-- ==== Proof.ScanBwdRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! One chunk of the reverse scan: the body run on any whole staging buffers. A chunk is the first one (the carried state is
set to zero before it is used) or a later one (the state is what the chunk before left). The body's stores are found by the
run, one list of pieces for every output and one for the carried state. -/

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the first chunk, from the grid coordinates. -/
abbrev firstBwd (i : grid1.Coords) : Prop :=
  (Scalar.cmpi .ne (Scalar.extui (Scalar.cmpi .eq (BitVec.ofNat 32 (i 0).val) 0#32)) 0#32) = 1#1

/-- The test holds at chunk 0 only. -/
theorem firstBwd_iff (t : Fin grid1.N) : firstBwd (grid1.coords t) ↔ t.val % 64 = 0 := by
  have ht : t.val < 64 := Nat.lt_of_lt_of_eq t.isLt N_1
  have e0 : (grid1.coords t 0).val = t.val / 1 % 64 := Pipeline.Grid.coords_val t 0 (by decide) rfl
  simp only [firstBwd, e0]
  word_cmp

section

variable (c : Dev nD) (i : grid1.Coords)
  (arg1 : Memref sig .tc .vmem S64x2048 .f32) (harg1 : arg1.IsWhole)
  (arg2 : Memref sig .tc .vmem S64x2048 .bf16) (harg2 : arg2.IsWhole)
  (arg3 : Memref sig .tc .vmem S64x2048 .bf16) (harg3 : arg3.IsWhole)
  (arg4 : Memref sig .tc .vmem S64x2048 .bf16) (harg4 : arg4.IsWhole)
  (arg5 : Memref sig .tc .vmem S1x16x64x64 .bf16) (harg5 : arg5.IsWhole)
  (arg6 : Memref sig .tc .vmem S1x16x1x128 .f32) (harg6 : arg6.IsWhole)
  (arg7 : Memref sig .tc .vmem S1x16x128x128 .f32) (harg7 : arg7.IsWhole)
  (arg8 : Memref sig .tc .vmem S64x2048 .bf16) (harg8 : arg8.IsWhole)
  (arg9 : Memref sig .tc .vmem S64x2048 .f32) (harg9 : arg9.IsWhole)
  (arg10 : Memref sig .tc .vmem S64x2048 .f32) (harg10 : arg10.IsWhole)
  (arg11 : Memref sig .tc .vmem S64x2048 .f32) (harg11 : arg11.IsWhole)
  (arg12 : Memref sig .tc .vmem S64x2048 .f32) (harg12 : arg12.IsWhole)
  (arg13 : Memref sig .tc .vmem S1x16x64x64 .f32) (harg13 : arg13.IsWhole)
  (arg14 : Memref sig .tc .vmem S1x16x1x128 .f32) (harg14 : arg14.IsWhole)
  (arg15 : Memref sig .tc .vmem S16x128x128 .f32) (harg15 : arg15.IsWhole)

set_option maxHeartbeats 4000000 in
/-- The first chunk of the reverse scan: what the stores leave in every output and in the state, with the proof that the body runs there. -/
noncomputable def runBwdA (hc0 : firstBwd i)
    (x0 : Vec F S64x2048 .f32) (x1 : Vec F S64x2048 .bf16) (x2 : Vec F S64x2048 .bf16) (x3 : Vec F S64x2048 .bf16) (x4 : Vec F S1x16x64x64 .bf16) (x5 : Vec F S1x16x1x128 .f32) (x6 : Vec F S1x16x128x128 .f32) (x7 : Vec F S64x2048 .bf16) :
    Σ' (LDqd : List (View.Piece (Elt F) S64x2048 .f32)),
    Σ' (LDkd : List (View.Piece (Elt F) S64x2048 .f32)),
    Σ' (LDu : List (View.Piece (Elt F) S64x2048 .f32)),
    Σ' (LDw : List (View.Piece (Elt F) S64x2048 .f32)),
    Σ' (LDa : List (View.Piece (Elt F) S1x16x64x64 .f32)),
    Σ' (LDc : List (View.Piece (Elt F) S1x16x1x128 .f32)),
    { LSt : List (View.Piece (Elt F) S16x128x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ f, arg9.view.loc (c : Thread nD τ) ↦[arg9.view.set]{fullShare} arg9.view.writes (Elt F) f LDqd)
            ∗ (∃ f, arg10.view.loc (c : Thread nD τ) ↦[arg10.view.set]{fullShare} arg10.view.writes (Elt F) f LDkd)
            ∗ (∃ f, arg11.view.loc (c : Thread nD τ) ↦[arg11.view.set]{fullShare} arg11.view.writes (Elt F) f LDu)
            ∗ (∃ f, arg12.view.loc (c : Thread nD τ) ↦[arg12.view.set]{fullShare} arg12.view.writes (Elt F) f LDw)
            ∗ (∃ f, arg13.view.loc (c : Thread nD τ) ↦[arg13.view.set]{fullShare} arg13.view.writes (Elt F) f LDa)
            ∗ (∃ f, arg14.view.loc (c : Thread nD τ) ↦[arg14.view.set]{fullShare} arg14.view.writes (Elt F) f LDc)
            ∗ (∃ f, arg15.view.loc (c : Thread nD τ) ↦[arg15.view.set]{fullShare} arg15.view.writes (Elt F) f LSt)) -∗ K ⟨⟩))
          ⊢ wp frame (wpE (defs₀ (F := F)) Variants.none c none) E (cc1_delta_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_delta_scan_bwd_eq_skeleton]; unfold cc1_delta_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d_s, %f_s, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _; iexact HS

set_option maxHeartbeats 4000000 in
/-- A later chunk of the reverse scan: what the stores leave in every output and in the state, with the proof that the body runs there. -/
noncomputable def runBwdB (hc0 : ¬ firstBwd i)
    (x0 : Vec F S64x2048 .f32) (x1 : Vec F S64x2048 .bf16) (x2 : Vec F S64x2048 .bf16) (x3 : Vec F S64x2048 .bf16) (x4 : Vec F S1x16x64x64 .bf16) (x5 : Vec F S1x16x1x128 .f32) (x6 : Vec F S1x16x128x128 .f32) (x7 : Vec F S64x2048 .bf16) (xs : Vec F S16x128x128 .f32) :
    Σ' (LDqd : List (View.Piece (Elt F) S64x2048 .f32)),
    Σ' (LDkd : List (View.Piece (Elt F) S64x2048 .f32)),
    Σ' (LDu : List (View.Piece (Elt F) S64x2048 .f32)),
    Σ' (LDw : List (View.Piece (Elt F) S64x2048 .f32)),
    Σ' (LDa : List (View.Piece (Elt F) S1x16x64x64 .f32)),
    Σ' (LDc : List (View.Piece (Elt F) S1x16x1x128 .f32)),
    { LSt : List (View.Piece (Elt F) S16x128x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ f, arg9.view.loc (c : Thread nD τ) ↦[arg9.view.set]{fullShare} arg9.view.writes (Elt F) f LDqd)
            ∗ (∃ f, arg10.view.loc (c : Thread nD τ) ↦[arg10.view.set]{fullShare} arg10.view.writes (Elt F) f LDkd)
            ∗ (∃ f, arg11.view.loc (c : Thread nD τ) ↦[arg11.view.set]{fullShare} arg11.view.writes (Elt F) f LDu)
            ∗ (∃ f, arg12.view.loc (c : Thread nD τ) ↦[arg12.view.set]{fullShare} arg12.view.writes (Elt F) f LDw)
            ∗ (∃ f, arg13.view.loc (c : Thread nD τ) ↦[arg13.view.set]{fullShare} arg13.view.writes (Elt F) f LDa)
            ∗ (∃ f, arg14.view.loc (c : Thread nD τ) ↦[arg14.view.set]{fullShare} arg14.view.writes (Elt F) f LDc)
            ∗ (∃ f, arg15.view.loc (c : Thread nD τ) ↦[arg15.view.set]{fullShare} arg15.view.writes (Elt F) f LSt)) -∗ K ⟨⟩))
          ⊢ wp frame (wpE (defs₀ (F := F)) Variants.none c none) E (cc1_delta_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_delta_scan_bwd_eq_skeleton]; unfold cc1_delta_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f_s, %hf_s, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hf_s
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _; iexact HS

end

end Cert.KernelIdeal.Scan

end
-- ==== Proof.ScanBwdStep.lean ====
module

public import proofs.«01_k».proof.Proof.ScanBwdRun
public import Idealize.ShloMosaic.Lib.Pipeline.FrameTail

/-! The reverse scan as a pipeline over the 64 chunks, entered from any contents `W` of the buffers: what every chunk leaves
in the outputs and in the carried state, the invariant between chunks, and the obligation of the body at every chunk. -/

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The stores of a chunk fill every output and the state. -/

section

variable (c : Dev nD) (i : grid1.Coords)
  (arg1 : Memref sig .tc .vmem S64x2048 .f32) (harg1 : arg1.IsWhole)
  (arg2 : Memref sig .tc .vmem S64x2048 .bf16) (harg2 : arg2.IsWhole)
  (arg3 : Memref sig .tc .vmem S64x2048 .bf16) (harg3 : arg3.IsWhole)
  (arg4 : Memref sig .tc .vmem S64x2048 .bf16) (harg4 : arg4.IsWhole)
  (arg5 : Memref sig .tc .vmem S1x16x64x64 .bf16) (harg5 : arg5.IsWhole)
  (arg6 : Memref sig .tc .vmem S1x16x1x128 .f32) (harg6 : arg6.IsWhole)
  (arg7 : Memref sig .tc .vmem S1x16x128x128 .f32) (harg7 : arg7.IsWhole)
  (arg8 : Memref sig .tc .vmem S64x2048 .bf16) (harg8 : arg8.IsWhole)
  (arg9 : Memref sig .tc .vmem S64x2048 .f32) (harg9 : arg9.IsWhole)
  (arg10 : Memref sig .tc .vmem S64x2048 .f32) (harg10 : arg10.IsWhole)
  (arg11 : Memref sig .tc .vmem S64x2048 .f32) (harg11 : arg11.IsWhole)
  (arg12 : Memref sig .tc .vmem S64x2048 .f32) (harg12 : arg12.IsWhole)
  (arg13 : Memref sig .tc .vmem S1x16x64x64 .f32) (harg13 : arg13.IsWhole)
  (arg14 : Memref sig .tc .vmem S1x16x1x128 .f32) (harg14 : arg14.IsWhole)
  (arg15 : Memref sig .tc .vmem S16x128x128 .f32) (harg15 : arg15.IsWhole)

section

variable (hc0 : firstBwd i) (x0 : Vec F S64x2048 .f32) (x1 : Vec F S64x2048 .bf16) (x2 : Vec F S64x2048 .bf16) (x3 : Vec F S64x2048 .bf16) (x4 : Vec F S1x16x64x64 .bf16) (x5 : Vec F S1x16x1x128 .f32) (x6 : Vec F S1x16x128x128 .f32) (x7 : Vec F S64x2048 .bf16)

theorem coverBwdADqd (y : S64x2048.Idx) :
    ∃ p ∈ (runBwdA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ p.1.set :=
  View.cover_of_tiledL (s := S64x2048) _ S64x128.size (by sl_kernel_rfl) y

theorem coverBwdADkd (y : S64x2048.Idx) :
    ∃ p ∈ (runBwdA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ p.1.set :=
  View.cover_of_tiledL (s := S64x2048) _ S64x128.size (by sl_kernel_rfl) y

theorem coverBwdADu (y : S64x2048.Idx) :
    ∃ p ∈ (runBwdA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ p.1.set :=
  View.cover_of_tiledL (s := S64x2048) _ S64x128.size (by sl_kernel_rfl) y

theorem coverBwdADw (y : S64x2048.Idx) :
    ∃ p ∈ (runBwdA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ p.1.set :=
  View.cover_of_tiledL (s := S64x2048) _ S64x128.size (by sl_kernel_rfl) y

theorem coverBwdADa (y : S1x16x64x64.Idx) :
    ∃ p ∈ (runBwdA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ p.1.set :=
  View.cover_of_tiledL (s := S1x16x64x64) _ S1x1x64x64.size (by sl_kernel_rfl) y

theorem coverBwdADc (y : S1x16x1x128.Idx) :
    ∃ p ∈ (runBwdA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ p.1.set :=
  View.cover_of_tiledL (s := S1x16x1x128) _ S1x1x1x128.size (by sl_kernel_rfl) y

theorem coverBwdASt (y : S16x128x128.Idx) :
    ∃ p ∈ (runBwdA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1, y ∈ p.1.set :=
  View.cover_of_wholeMem (s := S16x128x128) _ (by sl_whole_mem) y

end

section

variable (hc0 : ¬ firstBwd i) (x0 : Vec F S64x2048 .f32) (x1 : Vec F S64x2048 .bf16) (x2 : Vec F S64x2048 .bf16) (x3 : Vec F S64x2048 .bf16) (x4 : Vec F S1x16x64x64 .bf16) (x5 : Vec F S1x16x1x128 .f32) (x6 : Vec F S1x16x128x128 .f32) (x7 : Vec F S64x2048 .bf16) (xs : Vec F S16x128x128 .f32)

theorem coverBwdBDqd (y : S64x2048.Idx) :
    ∃ p ∈ (runBwdB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).1, y ∈ p.1.set :=
  View.cover_of_tiledL (s := S64x2048) _ S64x128.size (by sl_kernel_rfl) y

theorem coverBwdBDkd (y : S64x2048.Idx) :
    ∃ p ∈ (runBwdB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.1, y ∈ p.1.set :=
  View.cover_of_tiledL (s := S64x2048) _ S64x128.size (by sl_kernel_rfl) y

theorem coverBwdBDu (y : S64x2048.Idx) :
    ∃ p ∈ (runBwdB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.1, y ∈ p.1.set :=
  View.cover_of_tiledL (s := S64x2048) _ S64x128.size (by sl_kernel_rfl) y

theorem coverBwdBDw (y : S64x2048.Idx) :
    ∃ p ∈ (runBwdB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.1, y ∈ p.1.set :=
  View.cover_of_tiledL (s := S64x2048) _ S64x128.size (by sl_kernel_rfl) y

theorem coverBwdBDa (y : S1x16x64x64.Idx) :
    ∃ p ∈ (runBwdB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.1, y ∈ p.1.set :=
  View.cover_of_tiledL (s := S1x16x64x64) _ S1x1x64x64.size (by sl_kernel_rfl) y

theorem coverBwdBDc (y : S1x16x1x128.Idx) :
    ∃ p ∈ (runBwdB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.1, y ∈ p.1.set :=
  View.cover_of_tiledL (s := S1x16x1x128) _ S1x1x1x128.size (by sl_kernel_rfl) y

theorem coverBwdBSt (y : S16x128x128.Idx) :
    ∃ p ∈ (runBwdB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.2.1, y ∈ p.1.set :=
  View.cover_of_tiledL (s := S16x128x128) _ S1x128x128.size (by sl_kernel_rfl) y

end

end

/-! The staging buffers of a chunk, the carried state's buffer. -/

abbrev bwdM0 (t : Fin cfg1.N) : Memref sig .tc .vmem S64x2048 .f32 := win1_0.stage (cfg1.slots t 0)
abbrev bwdH0 (t : Fin cfg1.N) : (bwdM0 t).IsWhole := hstage1_0 ((cfg1.slots t 0).cast nbuf1_0)
abbrev bwdM1 (t : Fin cfg1.N) : Memref sig .tc .vmem S64x2048 .bf16 := win1_1.stage (cfg1.slots t 1)
abbrev bwdH1 (t : Fin cfg1.N) : (bwdM1 t).IsWhole := hstage1_1 ((cfg1.slots t 1).cast nbuf1_1)
abbrev bwdM2 (t : Fin cfg1.N) : Memref sig .tc .vmem S64x2048 .bf16 := win1_2.stage (cfg1.slots t 2)
abbrev bwdH2 (t : Fin cfg1.N) : (bwdM2 t).IsWhole := hstage1_2 ((cfg1.slots t 2).cast nbuf1_2)
abbrev bwdM3 (t : Fin cfg1.N) : Memref sig .tc .vmem S64x2048 .bf16 := win1_3.stage (cfg1.slots t 3)
abbrev bwdH3 (t : Fin cfg1.N) : (bwdM3 t).IsWhole := hstage1_3 ((cfg1.slots t 3).cast nbuf1_3)
abbrev bwdM4 (t : Fin cfg1.N) : Memref sig .tc .vmem S1x16x64x64 .bf16 := win1_4.stage (cfg1.slots t 4)
abbrev bwdH4 (t : Fin cfg1.N) : (bwdM4 t).IsWhole := hstage1_4 ((cfg1.slots t 4).cast nbuf1_4)
abbrev bwdM5 (t : Fin cfg1.N) : Memref sig .tc .vmem S1x16x1x128 .f32 := win1_5.stage (cfg1.slots t 5)
abbrev bwdH5 (t : Fin cfg1.N) : (bwdM5 t).IsWhole := hstage1_5 ((cfg1.slots t 5).cast nbuf1_5)
abbrev bwdM6 (t : Fin cfg1.N) : Memref sig .tc .vmem S1x16x128x128 .f32 := win1_6.stage (cfg1.slots t 6)
abbrev bwdH6 (t : Fin cfg1.N) : (bwdM6 t).IsWhole := hstage1_6 ((cfg1.slots t 6).cast nbuf1_6)
abbrev bwdM7 (t : Fin cfg1.N) : Memref sig .tc .vmem S64x2048 .bf16 := win1_7.stage (cfg1.slots t 7)
abbrev bwdH7 (t : Fin cfg1.N) : (bwdM7 t).IsWhole := hstage1_7 ((cfg1.slots t 7).cast nbuf1_7)
abbrev bwdM8 (t : Fin cfg1.N) : Memref sig .tc .vmem S64x2048 .f32 := win1_8.stage (cfg1.slots t 8)
abbrev bwdH8 (t : Fin cfg1.N) : (bwdM8 t).IsWhole := hstage1_8 ((cfg1.slots t 8).cast nbuf1_8)
abbrev bwdM9 (t : Fin cfg1.N) : Memref sig .tc .vmem S64x2048 .f32 := win1_9.stage (cfg1.slots t 9)
abbrev bwdH9 (t : Fin cfg1.N) : (bwdM9 t).IsWhole := hstage1_9 ((cfg1.slots t 9).cast nbuf1_9)
abbrev bwdM10 (t : Fin cfg1.N) : Memref sig .tc .vmem S64x2048 .f32 := win1_10.stage (cfg1.slots t 10)
abbrev bwdH10 (t : Fin cfg1.N) : (bwdM10 t).IsWhole := hstage1_10 ((cfg1.slots t 10).cast nbuf1_10)
abbrev bwdM11 (t : Fin cfg1.N) : Memref sig .tc .vmem S64x2048 .f32 := win1_11.stage (cfg1.slots t 11)
abbrev bwdH11 (t : Fin cfg1.N) : (bwdM11 t).IsWhole := hstage1_11 ((cfg1.slots t 11).cast nbuf1_11)
abbrev bwdM12 (t : Fin cfg1.N) : Memref sig .tc .vmem S1x16x64x64 .f32 := win1_12.stage (cfg1.slots t 12)
abbrev bwdH12 (t : Fin cfg1.N) : (bwdM12 t).IsWhole := hstage1_12 ((cfg1.slots t 12).cast nbuf1_12)
abbrev bwdM13 (t : Fin cfg1.N) : Memref sig .tc .vmem S1x16x1x128 .f32 := win1_13.stage (cfg1.slots t 13)
abbrev bwdH13 (t : Fin cfg1.N) : (bwdM13 t).IsWhole := hstage1_13 ((cfg1.slots t 13).cast nbuf1_13)
abbrev bwdSc : Memref sig .tc .vmem S16x128x128 .f32 := Memref.whole cc1_scratch0

/-- What a chunk leaves: its outputs and the state handed to the next chunk. -/
structure BwdOut (F : FTy → Type) [FloatOps F] where
  Dqd : Vec F S64x2048 .f32
  Dkd : Vec F S64x2048 .f32
  Du : Vec F S64x2048 .f32
  Dw : Vec F S64x2048 .f32
  Da : Vec F S1x16x64x64 .f32
  Dc : Vec F S1x16x1x128 .f32
  St : Vec F S16x128x128 .f32

/-- The first chunk, from its input blocks. -/
def bwdOutA (c : Dev nD) (t : Fin cfg1.N) (h0 : t.val % 64 = 0) (x0 : Vec F S64x2048 .f32) (x1 : Vec F S64x2048 .bf16) (x2 : Vec F S64x2048 .bf16) (x3 : Vec F S64x2048 .bf16) (x4 : Vec F S1x16x64x64 .bf16) (x5 : Vec F S1x16x1x128 .f32) (x6 : Vec F S1x16x128x128 .f32) (x7 : Vec F S64x2048 .bf16) : BwdOut F :=
  let stores := runBwdA c (grid1.coords t) (bwdM0 t) (bwdH0 t) (bwdM1 t) (bwdH1 t) (bwdM2 t) (bwdH2 t) (bwdM3 t) (bwdH3 t) (bwdM4 t) (bwdH4 t) (bwdM5 t) (bwdH5 t) (bwdM6 t) (bwdH6 t) (bwdM7 t) (bwdH7 t) (bwdM8 t) (bwdH8 t) (bwdM9 t) (bwdH9 t) (bwdM10 t) (bwdH10 t) (bwdM11 t) (bwdH11 t) (bwdM12 t) (bwdH12 t) (bwdM13 t) (bwdH13 t) bwdSc (Memref.isWhole_whole _) ((firstBwd_iff t).mpr h0) x0 x1 x2 x3 x4 x5 x6 x7
  ⟨View.canon stores.1, View.canon stores.2.1, View.canon stores.2.2.1, View.canon stores.2.2.2.1, View.canon stores.2.2.2.2.1, View.canon stores.2.2.2.2.2.1, View.canon stores.2.2.2.2.2.2.1⟩

/-- A later chunk, from its input blocks and the state it meets. -/
def bwdOutB (c : Dev nD) (t : Fin cfg1.N) (h0 : ¬ t.val % 64 = 0) (x0 : Vec F S64x2048 .f32) (x1 : Vec F S64x2048 .bf16) (x2 : Vec F S64x2048 .bf16) (x3 : Vec F S64x2048 .bf16) (x4 : Vec F S1x16x64x64 .bf16) (x5 : Vec F S1x16x1x128 .f32) (x6 : Vec F S1x16x128x128 .f32) (x7 : Vec F S64x2048 .bf16) (xs : Vec F S16x128x128 .f32) : BwdOut F :=
  let stores := runBwdB c (grid1.coords t) (bwdM0 t) (bwdH0 t) (bwdM1 t) (bwdH1 t) (bwdM2 t) (bwdH2 t) (bwdM3 t) (bwdH3 t) (bwdM4 t) (bwdH4 t) (bwdM5 t) (bwdH5 t) (bwdM6 t) (bwdH6 t) (bwdM7 t) (bwdH7 t) (bwdM8 t) (bwdH8 t) (bwdM9 t) (bwdH9 t) (bwdM10 t) (bwdH10 t) (bwdM11 t) (bwdH11 t) (bwdM12 t) (bwdH12 t) (bwdM13 t) (bwdH13 t) bwdSc (Memref.isWhole_whole _) (fun h => h0 ((firstBwd_iff t).mp h)) x0 x1 x2 x3 x4 x5 x6 x7 xs
  ⟨View.canon stores.1, View.canon stores.2.1, View.canon stores.2.2.1, View.canon stores.2.2.2.1, View.canon stores.2.2.2.2.1, View.canon stores.2.2.2.2.2.1, View.canon stores.2.2.2.2.2.2.1⟩

/-- Window `w`'s block at chunk `t`. -/
def bwdBlk (W : Dev nD → Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (W c (Proc.devRef .tc (Pipeline.arrRef spec1 w)))

variable (W : Dev nD → Valuation τ sig (Elt F))

/-- Chunk `t` on its blocks, the state before it being `xs`. -/
def bwdStep (c : Dev nD) (t : Fin cfg1.N) (xs : Vec F S16x128x128 .f32) : BwdOut F :=
  if h0 : t.val % 64 = 0 then bwdOutA c t h0 (bwdBlk W c 0 t) (bwdBlk W c 1 t) (bwdBlk W c 2 t) (bwdBlk W c 3 t) (bwdBlk W c 4 t) (bwdBlk W c 5 t) (bwdBlk W c 6 t) (bwdBlk W c 7 t)
  else bwdOutB c t h0 (bwdBlk W c 0 t) (bwdBlk W c 1 t) (bwdBlk W c 2 t) (bwdBlk W c 3 t) (bwdBlk W c 4 t) (bwdBlk W c 5 t) (bwdBlk W c 6 t) (bwdBlk W c 7 t) xs

theorem bwdStep_first (c : Dev nD) (t : Fin cfg1.N) (xs : Vec F S16x128x128 .f32) (h0 : t.val % 64 = 0) :
    bwdStep W c t xs = bwdOutA c t h0 (bwdBlk W c 0 t) (bwdBlk W c 1 t) (bwdBlk W c 2 t) (bwdBlk W c 3 t) (bwdBlk W c 4 t) (bwdBlk W c 5 t) (bwdBlk W c 6 t) (bwdBlk W c 7 t) := dif_pos h0

theorem bwdStep_later (c : Dev nD) (t : Fin cfg1.N) (xs : Vec F S16x128x128 .f32) (h0 : ¬ t.val % 64 = 0) :
    bwdStep W c t xs = bwdOutB c t h0 (bwdBlk W c 0 t) (bwdBlk W c 1 t) (bwdBlk W c 2 t) (bwdBlk W c 3 t) (bwdBlk W c 4 t) (bwdBlk W c 5 t) (bwdBlk W c 6 t) (bwdBlk W c 7 t) xs := dif_neg h0

/-- The state before chunk `n` (before chunk 0: whatever the buffer holds, never read). -/
def bwdState (c : Dev nD) : ℕ → Vec F S16x128x128 .f32
  | 0 => View.canon []
  | n + 1 => if h : n < cfg1.N then (bwdStep W c ⟨n, h⟩ (bwdState c n)).St else bwdState c n

theorem bwdState_succ (c : Dev nD) (t : Fin cfg1.N) :
    bwdState W c (t.val + 1) = (bwdStep W c t (bwdState W c t.val)).St := dif_pos t.isLt

/-- The scoped buffers beside the carried state. -/
def bwdRest (c : Dev nD) : sProp 𝕄 :=
  Pipeline.scopedRestBut (Ix := Unit) (Name := ℕ) (U := UR sig nD τ) (Lvl := ℕ) (Val := Elt F) spec1 c [cc1_scratch0]

theorem bwdScoped_split (c : Dev nD) :
    (Pipeline.scopedRest spec1 c : sProp 𝕄) = iprop((∃ d, owns (c : Thread nD τ) bwdSc fullShare d) ∗ bwdRest (F := F) c) := by
  refine (Pipeline.scopedRest_split_of_list (Ix := Unit) (Name := ℕ) (U := UR sig nD τ) (Lvl := ℕ) (Val := Elt F) spec1 c [cc1_scratch0] (by decide) (by decide)).trans ?_
  simp only [bwdSc, owns_whole]; rfl

/-- Between chunks: the carried state at its contents (before the first chunk: at any), the other scoped buffers, the generator. -/
def bwdInv (c : Dev nD) : ℕ → sProp 𝕄
  | 0 => iprop(Pipeline.scopedRest spec1 c ∗ ∃ r, prngReg c r)
  | n + 1 => iprop((owns (c : Thread nD τ) bwdSc fullShare (bwdState W c (n + 1)) ∗ bwdRest (F := F) c) ∗ ∃ r, prngReg c r)

theorem bwdInv_pos (c : Dev nD) (n : ℕ) (h : n ≠ 0) :
    bwdInv W c n = iprop((owns (c : Thread nD τ) bwdSc fullShare (bwdState W c n) ∗ bwdRest (F := F) c) ∗ ∃ r, prngReg c r) := by
  cases n with
  | zero => exact absurd rfl h
  | succ n => rfl

/-- The pipeline's data on core `c`: the arrays as met, every input's buffer at its block, every output's at what the chunk leaves. -/
def bwdDat (c : Dev nD) : Dat τ (Elt F) Unit ℕ (UR sig nD τ) ℕ cfg1 c where
  A w := W c (Proc.devRef .tc (Pipeline.arrRef spec1 w))
  after w t := match w with
    | ⟨0, _⟩ => bwdBlk W c 0 t
    | ⟨1, _⟩ => bwdBlk W c 1 t
    | ⟨2, _⟩ => bwdBlk W c 2 t
    | ⟨3, _⟩ => bwdBlk W c 3 t
    | ⟨4, _⟩ => bwdBlk W c 4 t
    | ⟨5, _⟩ => bwdBlk W c 5 t
    | ⟨6, _⟩ => bwdBlk W c 6 t
    | ⟨7, _⟩ => bwdBlk W c 7 t
    | ⟨8, _⟩ => (bwdStep W c t (bwdState W c t.val)).Dqd
    | ⟨9, _⟩ => (bwdStep W c t (bwdState W c t.val)).Dkd
    | ⟨10, _⟩ => (bwdStep W c t (bwdState W c t.val)).Du
    | ⟨11, _⟩ => (bwdStep W c t (bwdState W c t.val)).Dw
    | ⟨12, _⟩ => (bwdStep W c t (bwdState W c t.val)).Da
    | ⟨13, _⟩ => (bwdStep W c t (bwdState W c t.val)).Dc
  Φ t := bwdInv W c t.val
  q _ := fullShare
  owed _ := 0

theorem bwdDat_A (c : Dev nD) (w : Fin cfg1.W) : (bwdDat W c).A w = W c (Proc.devRef .tc (Pipeline.arrRef spec1 w)) := by
  dsimp only [bwdDat]

theorem bwdDat_castSucc (c : Dev nD) (t : Fin cfg1.N) : (bwdDat W c).Φ t.castSucc = bwdInv W c t.val := by
  dsimp only [bwdDat]; rfl

theorem bwdDat_succ (c : Dev nD) (t : Fin cfg1.N) : (bwdDat W c).Φ t.succ = bwdInv W c (t.val + 1) := by
  dsimp only [bwdDat]; rfl

theorem bwdAfter0 (c : Dev nD) (t : Fin cfg1.N) : (bwdDat W c).after 0 t = bwdBlk W c 0 t := by dsimp only [bwdDat]
theorem bwdBefore0 (c : Dev nD) (t : Fin cfg1.N) (d) : (bwdDat W c).before 0 t d = bwdBlk W c 0 t :=
  ((bwdDat W c).before_in_eq_fetched 0 rfl (fun _ => rfl) (fun _ _ _ => rfl)
    (fun t => by rw [bwdAfter0]; unfold Dat.blockOf bwdBlk; rw [bwdDat_A]; try rfl) t d).trans
    (by unfold Dat.fetched Dat.blockOf bwdBlk; rw [bwdDat_A]; try rfl)
theorem bwdAfter1 (c : Dev nD) (t : Fin cfg1.N) : (bwdDat W c).after 1 t = bwdBlk W c 1 t := by dsimp only [bwdDat]
theorem bwdBefore1 (c : Dev nD) (t : Fin cfg1.N) (d) : (bwdDat W c).before 1 t d = bwdBlk W c 1 t :=
  ((bwdDat W c).before_in_eq_fetched 1 rfl (fun _ => rfl) (fun _ _ _ => rfl)
    (fun t => by rw [bwdAfter1]; unfold Dat.blockOf bwdBlk; rw [bwdDat_A]; try rfl) t d).trans
    (by unfold Dat.fetched Dat.blockOf bwdBlk; rw [bwdDat_A]; try rfl)
theorem bwdAfter2 (c : Dev nD) (t : Fin cfg1.N) : (bwdDat W c).after 2 t = bwdBlk W c 2 t := by dsimp only [bwdDat]
theorem bwdBefore2 (c : Dev nD) (t : Fin cfg1.N) (d) : (bwdDat W c).before 2 t d = bwdBlk W c 2 t :=
  ((bwdDat W c).before_in_eq_fetched 2 rfl (fun _ => rfl) (fun _ _ _ => rfl)
    (fun t => by rw [bwdAfter2]; unfold Dat.blockOf bwdBlk; rw [bwdDat_A]; try rfl) t d).trans
    (by unfold Dat.fetched Dat.blockOf bwdBlk; rw [bwdDat_A]; try rfl)
theorem bwdAfter3 (c : Dev nD) (t : Fin cfg1.N) : (bwdDat W c).after 3 t = bwdBlk W c 3 t := by dsimp only [bwdDat]
theorem bwdBefore3 (c : Dev nD) (t : Fin cfg1.N) (d) : (bwdDat W c).before 3 t d = bwdBlk W c 3 t :=
  ((bwdDat W c).before_in_eq_fetched 3 rfl (fun _ => rfl) (fun _ _ _ => rfl)
    (fun t => by rw [bwdAfter3]; unfold Dat.blockOf bwdBlk; rw [bwdDat_A]; try rfl) t d).trans
    (by unfold Dat.fetched Dat.blockOf bwdBlk; rw [bwdDat_A]; try rfl)
theorem bwdAfter4 (c : Dev nD) (t : Fin cfg1.N) : (bwdDat W c).after 4 t = bwdBlk W c 4 t := by dsimp only [bwdDat]
theorem bwdBefore4 (c : Dev nD) (t : Fin cfg1.N) (d) : (bwdDat W c).before 4 t d = bwdBlk W c 4 t :=
  ((bwdDat W c).before_in_eq_fetched 4 rfl (fun _ => rfl) (fun _ _ _ => rfl)
    (fun t => by rw [bwdAfter4]; unfold Dat.blockOf bwdBlk; rw [bwdDat_A]; try rfl) t d).trans
    (by unfold Dat.fetched Dat.blockOf bwdBlk; rw [bwdDat_A]; try rfl)
theorem bwdAfter5 (c : Dev nD) (t : Fin cfg1.N) : (bwdDat W c).after 5 t = bwdBlk W c 5 t := by dsimp only [bwdDat]
theorem bwdBefore5 (c : Dev nD) (t : Fin cfg1.N) (d) : (bwdDat W c).before 5 t d = bwdBlk W c 5 t :=
  ((bwdDat W c).before_in_eq_fetched 5 rfl (fun _ => rfl) (fun _ _ _ => rfl)
    (fun t => by rw [bwdAfter5]; unfold Dat.blockOf bwdBlk; rw [bwdDat_A]; try rfl) t d).trans
    (by unfold Dat.fetched Dat.blockOf bwdBlk; rw [bwdDat_A]; try rfl)
theorem bwdAfter6 (c : Dev nD) (t : Fin cfg1.N) : (bwdDat W c).after 6 t = bwdBlk W c 6 t := by dsimp only [bwdDat]
theorem bwdBefore6 (c : Dev nD) (t : Fin cfg1.N) (d) : (bwdDat W c).before 6 t d = bwdBlk W c 6 t :=
  ((bwdDat W c).before_in_eq_fetched 6 rfl (fun _ => rfl) (fun _ _ _ => rfl)
    (fun t => by rw [bwdAfter6]; unfold Dat.blockOf bwdBlk; rw [bwdDat_A]; try rfl) t d).trans
    (by unfold Dat.fetched Dat.blockOf bwdBlk; rw [bwdDat_A]; try rfl)
theorem bwdAfter7 (c : Dev nD) (t : Fin cfg1.N) : (bwdDat W c).after 7 t = bwdBlk W c 7 t := by dsimp only [bwdDat]
theorem bwdBefore7 (c : Dev nD) (t : Fin cfg1.N) (d) : (bwdDat W c).before 7 t d = bwdBlk W c 7 t :=
  ((bwdDat W c).before_in_eq_fetched 7 rfl (fun _ => rfl) (fun _ _ _ => rfl)
    (fun t => by rw [bwdAfter7]; unfold Dat.blockOf bwdBlk; rw [bwdDat_A]; try rfl) t d).trans
    (by unfold Dat.fetched Dat.blockOf bwdBlk; rw [bwdDat_A]; try rfl)
theorem bwdAfter8 (c : Dev nD) (t : Fin cfg1.N) :
    (bwdDat W c).after 8 t = (bwdStep W c t (bwdState W c t.val)).Dqd := by dsimp only [bwdDat]
theorem bwdAfter9 (c : Dev nD) (t : Fin cfg1.N) :
    (bwdDat W c).after 9 t = (bwdStep W c t (bwdState W c t.val)).Dkd := by dsimp only [bwdDat]
theorem bwdAfter10 (c : Dev nD) (t : Fin cfg1.N) :
    (bwdDat W c).after 10 t = (bwdStep W c t (bwdState W c t.val)).Du := by dsimp only [bwdDat]
theorem bwdAfter11 (c : Dev nD) (t : Fin cfg1.N) :
    (bwdDat W c).after 11 t = (bwdStep W c t (bwdState W c t.val)).Dw := by dsimp only [bwdDat]
theorem bwdAfter12 (c : Dev nD) (t : Fin cfg1.N) :
    (bwdDat W c).after 12 t = (bwdStep W c t (bwdState W c t.val)).Da := by dsimp only [bwdDat]
theorem bwdAfter13 (c : Dev nD) (t : Fin cfg1.N) :
    (bwdDat W c).after 13 t = (bwdStep W c t (bwdState W c t.val)).Dc := by dsimp only [bwdDat]

/-- What the body is called with at chunk `t`, -/
def bwdPre (c : Dev nD) (t : Fin cfg1.N) : sProp 𝕄 :=
  iprop((bwdDat W c).Φ t.castSucc ∗ (bwdDat W c).owesAt () t.castSucc
    ∗ (∃ d, owns (c : Thread nD τ) (bwdM0 t) fullShare ((bwdDat W c).before 0 t d))
    ∗ (∃ d, owns (c : Thread nD τ) (bwdM1 t) fullShare ((bwdDat W c).before 1 t d))
    ∗ (∃ d, owns (c : Thread nD τ) (bwdM2 t) fullShare ((bwdDat W c).before 2 t d))
    ∗ (∃ d, owns (c : Thread nD τ) (bwdM3 t) fullShare ((bwdDat W c).before 3 t d))
    ∗ (∃ d, owns (c : Thread nD τ) (bwdM4 t) fullShare ((bwdDat W c).before 4 t d))
    ∗ (∃ d, owns (c : Thread nD τ) (bwdM5 t) fullShare ((bwdDat W c).before 5 t d))
    ∗ (∃ d, owns (c : Thread nD τ) (bwdM6 t) fullShare ((bwdDat W c).before 6 t d))
    ∗ (∃ d, owns (c : Thread nD τ) (bwdM7 t) fullShare ((bwdDat W c).before 7 t d))
    ∗ (∃ d, owns (c : Thread nD τ) (bwdM8 t) fullShare ((bwdDat W c).before 8 t d))
    ∗ (∃ d, owns (c : Thread nD τ) (bwdM9 t) fullShare ((bwdDat W c).before 9 t d))
    ∗ (∃ d, owns (c : Thread nD τ) (bwdM10 t) fullShare ((bwdDat W c).before 10 t d))
    ∗ (∃ d, owns (c : Thread nD τ) (bwdM11 t) fullShare ((bwdDat W c).before 11 t d))
    ∗ (∃ d, owns (c : Thread nD τ) (bwdM12 t) fullShare ((bwdDat W c).before 12 t d))
    ∗ (∃ d, owns (c : Thread nD τ) (bwdM13 t) fullShare ((bwdDat W c).before 13 t d)))

/-- and what it hands back. -/
def bwdPost (c : Dev nD) (t : Fin cfg1.N) : sProp 𝕄 :=
  iprop((bwdDat W c).Φ t.succ ∗ (bwdDat W c).owesAt () t.succ
    ∗ owns (c : Thread nD τ) (bwdM0 t) fullShare ((bwdDat W c).after 0 t)
    ∗ owns (c : Thread nD τ) (bwdM1 t) fullShare ((bwdDat W c).after 1 t)
    ∗ owns (c : Thread nD τ) (bwdM2 t) fullShare ((bwdDat W c).after 2 t)
    ∗ owns (c : Thread nD τ) (bwdM3 t) fullShare ((bwdDat W c).after 3 t)
    ∗ owns (c : Thread nD τ) (bwdM4 t) fullShare ((bwdDat W c).after 4 t)
    ∗ owns (c : Thread nD τ) (bwdM5 t) fullShare ((bwdDat W c).after 5 t)
    ∗ owns (c : Thread nD τ) (bwdM6 t) fullShare ((bwdDat W c).after 6 t)
    ∗ owns (c : Thread nD τ) (bwdM7 t) fullShare ((bwdDat W c).after 7 t)
    ∗ owns (c : Thread nD τ) (bwdM8 t) fullShare ((bwdDat W c).after 8 t)
    ∗ owns (c : Thread nD τ) (bwdM9 t) fullShare ((bwdDat W c).after 9 t)
    ∗ owns (c : Thread nD τ) (bwdM10 t) fullShare ((bwdDat W c).after 10 t)
    ∗ owns (c : Thread nD τ) (bwdM11 t) fullShare ((bwdDat W c).after 11 t)
    ∗ owns (c : Thread nD τ) (bwdM12 t) fullShare ((bwdDat W c).after 12 t)
    ∗ owns (c : Thread nD τ) (bwdM13 t) fullShare ((bwdDat W c).after 13 t))

set_option maxHeartbeats 9600000 in
/-- The body at every chunk. -/
theorem bwd_body (c : Dev nD) (t : Fin cfg1.N) :
    bwdPre W c t ⊢ wp frame (wpE (defs₀ (F := F)) Variants.none c none) Set.univ (bodyAt1 t) (fun _ => bwdPost W c t) := by
  unfold bwdPre bwdPost bodyAt1
  simp only [bwdBefore0, bwdBefore1, bwdBefore2, bwdBefore3, bwdBefore4, bwdBefore5, bwdBefore6, bwdBefore7]
  rw [show (bwdDat W c).owesAt () t.succ = (bwdDat W c).owesAt () t.castSucc from rfl,
    bwdAfter0, bwdAfter1, bwdAfter2, bwdAfter3, bwdAfter4, bwdAfter5, bwdAfter6, bwdAfter7, bwdAfter8, bwdAfter9, bwdAfter10, bwdAfter11, bwdAfter12, bwdAfter13, bwdDat_succ, bwdInv_pos W c _ (Nat.succ_ne_zero _), bwdState_succ, bwdDat_castSucc]
  have hN : t.val < 64 := lt_of_lt_of_eq t.isLt (show cfg1.N = 64 from N_1)
  by_cases h0 : t.val % 64 = 0
  · rw [show bwdInv W c t.val = iprop(Pipeline.scopedRest spec1 c ∗ ∃ r, prngReg c r) by rw [show t.val = 0 by omega]; rfl,
      bwdScoped_split, bwdStep_first W c t _ h0]
    unfold bwdOutA; dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runBwdA c (grid1.coords t) _ _ _ _ _ _ _ _ _ _ _ _ _ _ _ _ _ _ _ _ _ _ _ _ _ _ _ _ _ _ ((firstBwd_iff t).mpr h0) (bwdBlk W c 0 t) (bwdBlk W c 1 t) (bwdBlk W c 2 t) (bwdBlk W c 3 t) (bwdBlk W c 4 t) (bwdBlk W c 5 t) (bwdBlk W c 6 t) (bwdBlk W c 7 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
    isplitl [HS HR Hg]
    · isplitl [HS HR]
      · isplitl [HS]
        · unfold owns; iexists _; isplitr
          swap; · iexact HS
          ipureintro; exact View.read_writes_eq_canon _ _ _ (coverBwdASt c _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (coverBwdADqd c _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_eq_canon _ _ _ (coverBwdADkd c _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_eq_canon _ _ _ (coverBwdADu c _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_eq_canon _ _ _ (coverBwdADw c _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_eq_canon _ _ _ (coverBwdADa c _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_eq_canon _ _ _ (coverBwdADc c _ _ _ _ _ _ _ _ _ _ _ _ _ _ _ _ _ _ _ _ _ _ _ _ _ _ _ _ _ _ _ _ _ _ _ _ _ _ _ _)
  · rw [bwdInv_pos W c t.val (by omega), bwdStep_later W c t _ h0]
    unfold bwdOutB; dsimp only
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runBwdB c (grid1.coords t) _ _ _ _ _ _ _ _ _ _ _ _ _ _ _ _ _ _ _ _ _ _ _ _ _ _ _ _ _ _ (fun h => h0 ((firstBwd_iff t).mp h)) (bwdBlk W c 0 t) (bwdBlk W c 1 t) (bwdBlk W c 2 t) (bwdBlk W c 3 t) (bwdBlk W c 4 t) (bwdBlk W c 5 t) (bwdBlk W c 6 t) (bwdBlk W c 7 t) _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
    isplitl [HS HR Hg]
    · isplitl [HS HR]
      · isplitl [HS]
        · unfold owns; iexists _; isplitr
          swap; · iexact HS
          ipureintro; exact View.read_writes_eq_canon _ _ _ (coverBwdBSt c _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (coverBwdBDqd c _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_eq_canon _ _ _ (coverBwdBDkd c _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_eq_canon _ _ _ (coverBwdBDu c _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_eq_canon _ _ _ (coverBwdBDw c _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_eq_canon _ _ _ (coverBwdBDa c _ _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_eq_canon _ _ _ (coverBwdBDc c _ _ _ _ _ _ _ _ _ _ _ _ _ _ _ _ _ _ _ _ _ _ _ _ _ _ _ _ _ _ _ _ _ _ _ _ _ _ _ _ _)

theorem bwd_row (t : Fin cfg1.N) : defs₀ (F := F) .tc cfg1.body (cfg1.bodyArgs t (cfg1.slots t)) = bodyAt1 t := by
  unfold defs₀; rw [Defs.onTc_tc]

theorem bwd_obligation (c : Dev nD) : BodyObligation (bwdDat W c) (defs₀ (F := F)) Variants.none () Set.univ := fun t => by
  rw [bigSep_W1, bigSep_W1, bwd_row]
  exact triple_restated (bwd_body W c t) rfl .rfl fun _ => .rfl

/-- The region is entered from the scoped buffers and the generator, -/
theorem bwd_in (c : Dev nD) : iprop(Pipeline.scopedRest spec1 c ∗ ∃ r, prngReg c r) ⊢ (bwdDat W c).Φ 0 :=
  Idealize.SL.BI.Entails.refl _

/-- and hands them back. -/
theorem bwd_out (c : Dev nD) : (bwdDat W c).Φ (Fin.last cfg1.N) ⊢ iprop(Pipeline.scopedRest spec1 c ∗ ∃ r, prngReg c r) := by
  rw [show (bwdDat W c).Φ (Fin.last cfg1.N) = bwdInv W c cfg1.N from rfl,
    bwdInv_pos W c _ (by rw [show cfg1.N = 64 from N_1]; decide), bwdScoped_split]
  iintro ⟨⟨HS, HR⟩, Hg⟩
  isplitr [Hg]
  · isplitl [HS]
    · iexists _; iexact HS
    iexact HR
  iexact Hg

end Cert.KernelIdeal.Scan

end
-- ==== Proof.ScanLaunch.lean ====
module

public import proofs.«01_k».proof.Proof.ScanFwdStep
public import proofs.«01_k».proof.Proof.ScanBwdStep
public import proofs.«01_k».proof.Proof.Gen.KernelIdeal.Regions
public import Idealize.ShloMosaic.Lib.Pipeline.RegionArraysS

/-! The whole program: the host operations, the forward scan, the reverse scan. Every buffer outside the regions ends at
`W5`: the contents after the host operations, changed by each scan at its output arrays only. The program runs to that state
for any float values; the frame and the values are read off it. -/

@[expose] public section

noncomputable section

namespace Cert.KernelIdeal.Scan

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the forward scan is entered, -/
abbrev W3 (c : Dev nD) : Valuation τ sig (Elt F) := V3 m c
/-- after it, -/
def W4 (c : Dev nD) : Valuation τ sig (Elt F) := Pipeline.afterRegion (fwdDat (W3 m) c) (W3 m c)
/-- and after the reverse scan. -/
def W5 (c : Dev nD) : Valuation τ sig (Elt F) := Pipeline.afterRegion (bwdDat (W4 m) c) (W4 m c)

/-- Both pipelines' data. -/
def dats : (p : Fin 2) → (c : Dev nD) → Dat τ (Elt F) Unit ℕ (UR sig nD τ) ℕ (cfgs p) c
  | ⟨0, _⟩ => fwdDat (W3 m)
  | ⟨1, _⟩ => bwdDat (W4 m)
  | ⟨_ + 2, h⟩ => absurd h (Nat.not_lt.2 (Nat.le_add_left _ _))

/-- One index per TensorCore cell, all at one level: nothing waits on anything but the staging copies. -/
def lvls (g : GSem nD τ sig) : Finset Unit := if g.1.2 = .tc then {()} else ∅

theorem cut (p : Fin 2) : Pipeline.LevelCut (pcfgs (F := F)) adm () lvls (fun _ _ => (0 : ℕ)) p (0 : Dev nD → CellTallies nD τ sig Unit) (fun _ => 0) where
  hι c w s := by simp [lvls]
  hιb c w s := Nat.le_refl _
  hD c g i h := absurd h (lt_irrefl _)

/-- What rides beside the buffers: nothing owed, the generator at some state. -/
def ride (c : Dev nD) : sProp 𝕄 :=
  iprop((∃ Wd, owes (c : Thread nD τ) ((0 : Dev nD → CellTallies nD τ sig Unit) c) Wd) ∗ (∃ r, prngReg c r) ∗ emp)

def fwdReg : RegionSeg (pcfgs (F := F)) adm (dats m) () defs₀ Variants.none lvls (fun _ _ => 0) 0 :=
  RegionSeg.ofHeldIn pcfgs adm (dats m) () defs₀ Variants.none lvls (fun _ _ => 0) 0 0 (Pipeline.ucRefs τ sig)
    (fun c => iprop(∃ r, prngReg c r)) (fun c => iprop(∃ r, prngReg c r)) launch0.toP rfl
    (fun c => (fwd_obligation (W3 m) c).loose) (fun _ _ => rfl) (fun _ => rfl) (fun c => (fwdDat (W3 m) c).share_full fun _ => rfl)
    (fwd_in (W3 m)) (fwd_out (W3 m)) (fun _ => 0) (cut 0) (fun _ => iprop(emp)) (W3 m) (fun c w => fwdDat_A (W3 m) c w)

def bwdReg : RegionSeg (pcfgs (F := F)) adm (dats m) () defs₀ Variants.none lvls (fun _ _ => 0) 1 :=
  RegionSeg.ofHeldIn pcfgs adm (dats m) () defs₀ Variants.none lvls (fun _ _ => 0) 1 0 (Pipeline.ucRefs τ sig)
    (fun c => iprop(∃ r, prngReg c r)) (fun c => iprop(∃ r, prngReg c r)) launch1.toP rfl
    (fun c => (bwd_obligation (W4 m) c).loose) (fun _ _ => rfl) (fun _ => rfl) (fun c => (bwdDat (W4 m) c).share_full fun _ => rfl)
    (bwd_in (W4 m)) (bwd_out (W4 m)) (fun _ => 0) (cut 1) (fun _ => iprop(emp)) (W4 m) (fun c w => bwdDat_A (W4 m) c w)

theorem fwdArr : Pipeline.arrRefs (τ := τ) (pcfgs (F := F) 0).spec ⊆ Pipeline.ucRefs τ sig :=
  Pipeline.arrRefs_sub_ucRefs _ (show ∀ w, (Pipeline.arrRef spec0 w).isScoped = false by decide)
theorem bwdArr : Pipeline.arrRefs (τ := τ) (pcfgs (F := F) 1).spec ⊆ Pipeline.ucRefs τ sig :=
  Pipeline.arrRefs_sub_ucRefs _ (show ∀ w, (Pipeline.arrRef spec1 w).isScoped = false by decide)

theorem fwd_pre (c : Dev nD) :
    iprop(StableHlo.held (c : Thread nD τ) (Pipeline.ucRefs τ sig) (W3 m c) ∗ ride (F := F) c) ⊢ (fwdReg m).pre c := by
  unfold fwdReg ride
  exact RegionSeg.ofHeldIn_pre (pcs := pcfgs (F := F)) (a := adm) (pdats := dats m) (ι := ()) (defs₀ := defs₀) (𝒱₀ := Variants.none) (L := lvls) (lv := fun _ _ => (0 : ℕ)) (p := 0) (D := 0) fwdArr (X := fun c => iprop(∃ r, prngReg c r)) (Y := fun c => iprop(∃ r, prngReg c r)) (R := fun _ => iprop(emp)) (W := W3 m)
    (kit := launch0.toP) (hK := rfl) (hbody := fun c => (fwd_obligation (W3 m) c).loose) (howed := fun _ _ => rfl) (hrec := fun _ => rfl) (hshare := fun c => (fwdDat (W3 m) c).share_full fun _ => rfl)
    (hin := fwd_in (W3 m)) (hout := fwd_out (W3 m)) (b := fun _ => 0) (hcut := cut 0) (hW := fun c w => fwdDat_A (W3 m) c w) c

theorem fwd_post (c : Dev nD) :
    (fwdReg m).post c ⊢ iprop(StableHlo.held (c : Thread nD τ) (Pipeline.ucRefs τ sig) (W4 m c) ∗ ride (F := F) c) := by
  unfold fwdReg ride
  exact RegionSeg.ofHeldIn_post (pcs := pcfgs (F := F)) (a := adm) (pdats := dats m) (ι := ()) (defs₀ := defs₀) (𝒱₀ := Variants.none) (L := lvls) (lv := fun _ _ => (0 : ℕ)) (p := 0) (D := 0) fwdArr (X := fun c => iprop(∃ r, prngReg c r)) (Y := fun c => iprop(∃ r, prngReg c r)) (R := fun _ => iprop(emp)) (W := W3 m)
    (kit := launch0.toP) (hK := rfl) (hbody := fun c => (fwd_obligation (W3 m) c).loose) (howed := fun _ _ => rfl) (hrec := fun _ => rfl) (hshare := fun c => (fwdDat (W3 m) c).share_full fun _ => rfl)
    (hin := fwd_in (W3 m)) (hout := fwd_out (W3 m)) (b := fun _ => 0) (hcut := cut 0) (hW := fun c w => fwdDat_A (W3 m) c w) c

theorem bwd_pre (c : Dev nD) :
    iprop(StableHlo.held (c : Thread nD τ) (Pipeline.ucRefs τ sig) (W4 m c) ∗ ride (F := F) c) ⊢ (bwdReg m).pre c := by
  unfold bwdReg ride
  exact RegionSeg.ofHeldIn_pre (pcs := pcfgs (F := F)) (a := adm) (pdats := dats m) (ι := ()) (defs₀ := defs₀) (𝒱₀ := Variants.none) (L := lvls) (lv := fun _ _ => (0 : ℕ)) (p := 1) (D := 0) bwdArr (X := fun c => iprop(∃ r, prngReg c r)) (Y := fun c => iprop(∃ r, prngReg c r)) (R := fun _ => iprop(emp)) (W := W4 m)
    (kit := launch1.toP) (hK := rfl) (hbody := fun c => (bwd_obligation (W4 m) c).loose) (howed := fun _ _ => rfl) (hrec := fun _ => rfl) (hshare := fun c => (bwdDat (W4 m) c).share_full fun _ => rfl)
    (hin := bwd_in (W4 m)) (hout := bwd_out (W4 m)) (b := fun _ => 0) (hcut := cut 1) (hW := fun c w => bwdDat_A (W4 m) c w) c

theorem bwd_post (c : Dev nD) :
    (bwdReg m).post c ⊢ iprop(StableHlo.held (c : Thread nD τ) (Pipeline.ucRefs τ sig) (W5 m c) ∗ ride (F := F) c) := by
  unfold bwdReg ride
  exact RegionSeg.ofHeldIn_post (pcs := pcfgs (F := F)) (a := adm) (pdats := dats m) (ι := ()) (defs₀ := defs₀) (𝒱₀ := Variants.none) (L := lvls) (lv := fun _ _ => (0 : ℕ)) (p := 1) (D := 0) bwdArr (X := fun c => iprop(∃ r, prngReg c r)) (Y := fun c => iprop(∃ r, prngReg c r)) (R := fun _ => iprop(emp)) (W := W4 m)
    (kit := launch1.toP) (hK := rfl) (hbody := fun c => (bwd_obligation (W4 m) c).loose) (howed := fun _ _ => rfl) (hrec := fun _ => rfl) (hshare := fun c => (bwdDat (W4 m) c).share_full fun _ => rfl)
    (hin := bwd_in (W4 m)) (hout := bwd_out (W4 m)) (b := fun _ => 0) (hcut := cut 1) (hW := fun c w => bwdDat_A (W4 m) c w) c

theorem ride_end (c : Dev nD) : ride (F := F) c ⊢ (iprop(∃ Wd, owes (c.tc : Thread nD τ) (0 : CellTallies nD τ sig Unit) Wd) : sProp 𝕄) := by
  unfold ride
  iintro ⟨H, -⟩; iexact H

theorem chains (c : Dev nD) :
    Seg.ChainsAt c (fun c => iprop(StableHlo.held (c : Thread nD τ) (Pipeline.ucRefs τ sig) (V0 m c) ∗ ride (F := F) c))
      (segs m Variants.none lvls (fun _ _ => 0) (fun _ => ride) () (dats m) (fwdReg m) (bwdReg m) c)
      (fun c => iprop(StableHlo.held (c : Thread nD τ) (Pipeline.ucRefs τ sig) (W5 m c)
        ∗ ∃ Wd, owes (c.tc : Thread nD τ) (0 : CellTallies nD τ sig Unit) Wd)) :=
  ⟨.rfl, .rfl, .rfl, fwd_pre m c, (fwd_post m c).trans (bwd_pre m c), (bwd_post m c).trans (sep_mono .rfl (ride_end c))⟩

/-- Every unscoped buffer ends at `W5`, every counter at zero. -/
def Ends (r : PUnit × MemSt nD τ sig (Elt F)) : Prop :=
  (∀ c : Dev nD, ∀ b ∈ Pipeline.ucRefs τ sig, r.2.mem (c, b) = W5 m c b) ∧ r.2.sem = fun _ => 0

set_option backward.isDefEq.respectTransparency.types false in
/-- The run. -/
theorem run_main : θ_run defs (onTc (τ := τ) (main (F := F))) ⟨m, fun _ => 0, ρ⟩ (Ends m) := by
  refine Pipeline.θ_run_regions_kit_dev_sems (pcfgs (F := F)) adm (dats m) () cellOf_inj emb₁ defs₀ Variants.none lvls (fun _ _ => 0) m ρ main
    (segs m Variants.none lvls (fun _ _ => 0) (fun _ => ride) () (dats m) (fwdReg m) (bwdReg m))
    (fun c Q => by
      rewrite [main_chain c, Seg.run_eq_chain,
        show (segs m Variants.none lvls (fun _ _ => 0) (fun _ => ride) () (dats m) (fwdReg m) (bwdReg m) c).map Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (fun c => by simp only [segs, Seg.pipes_host, Seg.pipes_region, Seg.pipes_nil]; decide) 0
    (fun g hg => by simp [lvls, hg]) (fun _ => iprop(emp)) (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun c => iprop(StableHlo.held (c : Thread nD τ) (Pipeline.ucRefs τ sig) (V0 m c) ∗ ride (F := F) c))
    (fun c => StableHlo.held (c : Thread nD τ) (Pipeline.ucRefs τ sig) (W5 m c)) (chains m)
    (by
      refine Pipeline.initEach lvls (fun _ _ => 0) fun c => ?_
      rw [show unscopedBufs c (fun b => m ((c : Thread nD τ).loc b)) = StableHlo.held (c : Thread nD τ) (Pipeline.ucRefs τ sig) (V0 m c)
        from Pipeline.unscopedBufs_held (Ix := Unit) (Name := ℕ) (U := UR sig nD τ) (Lvl := ℕ) c (V0 m c)]
      unfold ride
      iintro ⟨⟨Hh, -, HO, -, Hg, -⟩, -⟩
      imodintro
      isplitl [Hh]; · iexact Hh
      isplitl [HO]; · iexists ∅; iexact HO
      isplitl [Hg]; · iexists _; iexact Hg
      iempintro)
    (fun c s => ∀ b ∈ Pipeline.ucRefs τ sig, s.mem (c, b) = W5 m c b)
    (fun c s' => ?_)
    (fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W5 m c) s') $$ [Hh HSI]
  · isplitl [Hh] <;> iassumption
  icases Hr with ⟨%h, HSI⟩
  imodintro
  isplitr
  · ipureintro; exact h
  · iexact HSI

theorem mem_ucRefs (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by simp [h]⟩

end Cert.KernelIdeal.Scan

end
-- ==== Proof.ScanFrame.lean ====
module

public import proofs.«01_k».proof.Proof.ScanLaunch

/-! The arguments at the end of the run: none of them is written. -/

@[expose] public section

noncomputable section

namespace Cert.KernelIdeal.Scan

open Cert.KernelIdeal.Gen
open Idealize.ShloMosaic Idealize.ShloMosaic.TcCoe Idealize.SL.Sem

variable {F : FTy → Type} [FloatOps F] (m : (ℓ : Loc nD τ sig) → Buf (Elt F) ℓ)

/-- A reference that is no output of a scan and no host operation's result holds its launch contents at the end. -/
theorem arg_keep (c : Dev nD) (r : Ref sig .tc)
    (h₀ : ∀ w, Pipeline.arrRef spec0 w = r → ((cfgs 0).win w).isOut = false)
    (h₁ : ∀ w, Pipeline.arrRef spec1 w = r → ((cfgs 1).win w).isOut = false)
    (k₀ : r ∉ hostOps0_W) (k₁ : r ∉ hostOps0_1_W) (k₂ : r ∉ hostOps0_2_W) :
    W5 m c (Proc.devRef .tc r) = m ((c.tc : Thread nD τ).loc r) := by
  refine (Pipeline.afterRegion_keeps (bwdDat (W4 m) c) (W4 m c) (launch1.toP (Val := Elt F)).win.arr_inj (fun w => bwdDat_A (W4 m) c w) r h₁).trans ?_
  refine (Pipeline.afterRegion_keeps (fwdDat (W3 m) c) (W3 m c) (launch0.toP (Val := Elt F)).win.arr_inj (fun w => fwdDat_A (W3 m) c w) r h₀).trans ?_
  show V3 m c _ = _
  rw [V3_of m c r k₂, V2_of m c r k₁, V1_of m c r k₀]

theorem final_arg0 (c : Dev nD) : W5 m c (Proc.devRef .tc main_arg0) = m ((c.tc : Thread nD τ).loc main_arg0) :=
  arg_keep m c main_arg0 (by decide) (by decide) (by decide +kernel) (by decide +kernel) (by decide +kernel)
theorem final_arg1 (c : Dev nD) : W5 m c (Proc.devRef .tc main_arg1) = m ((c.tc : Thread nD τ).loc main_arg1) :=
  arg_keep m c main_arg1 (by decide) (by decide) (by decide +kernel) (by decide +kernel) (by decide +kernel)
theorem final_arg2 (c : Dev nD) : W5 m c (Proc.devRef .tc main_arg2) = m ((c.tc : Thread nD τ).loc main_arg2) :=
  arg_keep m c main_arg2 (by decide) (by decide) (by decide +kernel) (by decide +kernel) (by decide +kernel)
theorem final_arg3 (c : Dev nD) : W5 m c (Proc.devRef .tc main_arg3) = m ((c.tc : Thread nD τ).loc main_arg3) :=
  arg_keep m c main_arg3 (by decide) (by decide) (by decide +kernel) (by decide +kernel) (by decide +kernel)
theorem final_arg4 (c : Dev nD) : W5 m c (Proc.devRef .tc main_arg4) = m ((c.tc : Thread nD τ).loc main_arg4) :=
  arg_keep m c main_arg4 (by decide) (by decide) (by decide +kernel) (by decide +kernel) (by decide +kernel)
theorem final_arg5 (c : Dev nD) : W5 m c (Proc.devRef .tc main_arg5) = m ((c.tc : Thread nD τ).loc main_arg5) :=
  arg_keep m c main_arg5 (by decide) (by decide) (by decide +kernel) (by decide +kernel) (by decide +kernel)
theorem final_arg6 (c : Dev nD) : W5 m c (Proc.devRef .tc main_arg6) = m ((c.tc : Thread nD τ).loc main_arg6) :=
  arg_keep m c main_arg6 (by decide) (by decide) (by decide +kernel) (by decide +kernel) (by decide +kernel)

/-- The frame, for any float values. -/
theorem frame_any (ρ : Dev nD → PrngReg) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun _ h => ⟨fun c => ⟨(h.1 c _ (mem_ucRefs main_arg0 (by decide))).trans (final_arg0 m c), (h.1 c _ (mem_ucRefs main_arg1 (by decide))).trans (final_arg1 m c), (h.1 c _ (mem_ucRefs main_arg2 (by decide))).trans (final_arg2 m c), (h.1 c _ (mem_ucRefs main_arg3 (by decide))).trans (final_arg3 m c), (h.1 c _ (mem_ucRefs main_arg4 (by decide))).trans (final_arg4 m c), (h.1 c _ (mem_ucRefs main_arg5 (by decide))).trans (final_arg5 m c), (h.1 c _ (mem_ucRefs main_arg6 (by decide))).trans (final_arg6 m c)⟩, h.2⟩) (run_main m ρ)

/-- The frame of a program equal to this one. -/
theorem frame_of {d} {mn} (hd : d = defs (F := F)) (hm : mn = main (F := F)) (ρ : Dev nD → PrngReg) : θ_run d (onTc (τ := τ) mn) ⟨m, fun _ => 0, ρ⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) := by
  subst hd hm; exact frame_any m ρ

end Cert.KernelIdeal.Scan

end
-- ==== Proof.RefLists.lean ====
module

public import proofs.«01_k».proof.Proof.Gen.ReferenceIdeal
public import Idealize.ShloMosaic.Lib.StableHlo.RunLoop
public import Idealize.ShloMosaic.Lib.Pipeline.Regions

/-!
The reference as lists of host operations: the stretches before, between and after its two loops over the chunks,
and of the two loops' bodies, a called function a stretch of its own. Each list comes with the references it writes.
-/

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen

variable {F : FTy → Type} [FloatOps F]

/-- A reference to a buffer of shape `s` and element `e`. -/
abbrev At (s : Shape) (e : EltTy) := StableHlo.TRef sig ⟨s, e⟩
/-- The contents of a buffer of shape `s` and element `e`. -/
abbrev Cont (F : FTy → Type) (s : Shape) (e : EltTy) := (⟨s, e⟩ : BufTy).Contents (Elt F)
/-- A list of operations. -/
abbrev Ops (F : FTy → Type) := List (HloOp τ sig (Elt F))
/-- Every operation of the list reads and writes the program's buffers. -/
abbrev Within (l : Ops F) : Prop := l.Forall fun op => op.bufs ⊆ tcRefs τ sig
/-- Every operation of the list writes references of `W` alone. -/
abbrev WritesIn (l : Ops F) (W : List (Ref sig .tc)) : Prop := l.Forall fun op => op.writes ⊆ (W.map (Proc.devRef (τ := τ) .tc)).toFinset

/-- Operations before the first loop. -/
abbrev pre0 : Ops F :=
  [ nullary main_c (constantI S_ 1 1#1),
    unary main_c main_v0 (broadcastInDim S64x64 ![] bcast_S_S64x64 : Cont F S_ .i1 → Cont F S64x64 .i1) ]
theorem pre0_sub : Within (pre0 : Ops F) :=
  ⟨nullary_bufs_sub .., unary_bufs_sub ..⟩
abbrev pre0_W : List (Ref sig .tc) := [main_c, main_v0]
theorem pre0_writes : WritesIn (pre0 : Ops F) pre0_W :=
  forall_writes_sub_of_map rfl

/-- Operations before the first loop. -/
abbrev pre1 : Ops F :=
  [ TRef.nullary (.of main_call0_v0 : At S64x64 .i32) (iotaInDim S64x64 32 0),
    TRef.nullary (.of main_call0_c : At S_ .i32) (constantI S_ 32 0#32),
    TRef.unary (.of main_call0_c : At S_ .i32) (.of main_call0_v1 : At S64x64 .i32) (broadcastInDim S64x64 ![] bcast_S_S64x64),
    TRef.binary (.of main_call0_v0 : At S64x64 .i32) (.of main_call0_v1 : At S64x64 .i32) (.of main_call0_v2 : At S64x64 .i32) addi,
    TRef.nullary (.of main_call0_v3 : At S64x64 .i32) (iotaInDim S64x64 32 1),
    TRef.binary (.of main_call0_v2 : At S64x64 .i32) (.of main_call0_v3 : At S64x64 .i32) (.of main_call0_v4 : At S64x64 .i1) (cmpi .sge),
    TRef.nullary (.of main_call0_c_0 : At S_ .i1) (constantI S_ 1 0#1),
    TRef.unary (.of main_call0_c_0 : At S_ .i1) (.of main_call0_v5 : At S64x64 .i1) (broadcastInDim S64x64 ![] bcast_S_S64x64),
    TRef.ternary (.of main_call0_v4 : At S64x64 .i1) (.of main_v0 : At S64x64 .i1) (.of main_call0_v5 : At S64x64 .i1) (.of main_v1 : At S64x64 .i1) select ]
theorem pre1_sub : Within (pre1 : Ops F) :=
  ⟨nullary_bufs_sub .., nullary_bufs_sub .., unary_bufs_sub .., binary_bufs_sub .., nullary_bufs_sub .., binary_bufs_sub .., nullary_bufs_sub .., unary_bufs_sub .., ternary_bufs_sub ..⟩
abbrev pre1_W : List (Ref sig .tc) := [main_call0_v0, main_call0_c, main_call0_v1, main_call0_v2, main_call0_v3, main_call0_v4, main_call0_c_0, main_call0_v5, main_v1]
theorem pre1_writes : WritesIn (pre1 : Ops F) pre1_W :=
  forall_writes_sub_of_map rfl

/-- Operations before the first loop. -/
abbrev pre2 : Ops F :=
  [ nullary main_cst (constant S_ .f32 0x00000000#32) ]
theorem pre2_sub : Within (pre2 : Ops F) :=
  nullary_bufs_sub ..
abbrev pre2_W : List (Ref sig .tc) := [main_cst]
theorem pre2_writes : WritesIn (pre2 : Ops F) pre2_W :=
  forall_writes_sub_of_map rfl

/-- Operations before the first loop. -/
abbrev pre3 : Ops F :=
  [ TRef.unary (.of main_cst : At S_ .f32) (.of main_call1_v0 : At S_ .f32) id,
    TRef.unary (.of main_v1 : At S64x64 .i1) (.of main_v2_1 : At S64x16x64x64 .i1) (broadcastInDim S64x16x64x64 ![2, 3] bcast_S64x64_S64x16x64x64_2_3),
    TRef.unary (.of main_call1_v0 : At S_ .f32) (.of main_call1_v2 : At S64x16x64x64 .f32) (broadcastInDim S64x16x64x64 ![] bcast_S_S64x16x64x64),
    TRef.ternary (.of main_v2_1 : At S64x16x64x64 .i1) (.of main_arg5 : At S64x16x64x64 .f32) (.of main_call1_v2 : At S64x16x64x64 .f32) (.of main_v2_0 : At S64x16x64x64 .f32) select,
    TRef.nullary (.of main_call1_cst : At S_ .f32) (constant S_ .f32 0x00000000#32),
    TRef.unary (.of main_call1_cst : At S_ .f32) (.of main_v2_2 : At S64x16x64x64 .f32) (broadcastInDim S64x16x64x64 ![] bcast_S_S64x16x64x64) ]
theorem pre3_sub : Within (pre3 : Ops F) :=
  ⟨unary_bufs_sub .., unary_bufs_sub .., unary_bufs_sub .., ternary_bufs_sub .., nullary_bufs_sub .., unary_bufs_sub ..⟩
abbrev pre3_W : List (Ref sig .tc) := [main_call1_v0, main_v2_1, main_call1_v2, main_v2_0, main_call1_cst, main_v2_2]
theorem pre3_writes : WritesIn (pre3 : Ops F) pre3_W :=
  forall_writes_sub_of_map rfl

/-- Operations before the first loop. -/
abbrev pre4 : Ops F :=
  [ nullary main_cst_0 (constant S_ .f32 0x00000000#32),
    unary main_cst_0 main_v3 (broadcastInDim S16x128x128 ![] bcast_S_S16x128x128 : Cont F S_ .f32 → Cont F S16x128x128 .f32),
    reshape main_arg1 main_v4 (rfl : (.f32 : EltTy) = .f32) shapeCasts_S4096x2048_S64x64x16x128,
    unary main_v4 main_v5 ((transpose S64x16x64x128 [0, 2, 1, 3] · transposes_S64x64x16x128_S64x16x64x128_0_2_1_3) : Cont F S64x64x16x128 .f32 → Cont F S64x16x64x128 .f32),
    reshape main_arg2 main_v6 (rfl : (.f32 : EltTy) = .f32) shapeCasts_S4096x2048_S64x64x16x128,
    unary main_v6 main_v7 ((transpose S64x16x64x128 [0, 2, 1, 3] · transposes_S64x64x16x128_S64x16x64x128_0_2_1_3) : Cont F S64x64x16x128 .f32 → Cont F S64x16x64x128 .f32),
    reshape main_arg3 main_v8 (rfl : (.f32 : EltTy) = .f32) shapeCasts_S4096x2048_S64x64x16x128,
    unary main_v8 main_v9 ((transpose S64x16x64x128 [0, 2, 1, 3] · transposes_S64x64x16x128_S64x16x64x128_0_2_1_3) : Cont F S64x64x16x128 .f32 → Cont F S64x16x64x128 .f32),
    reshape main_arg4 main_v10 (rfl : (.f32 : EltTy) = .f32) shapeCasts_S4096x2048_S64x64x16x128,
    unary main_v10 main_v11 ((transpose S64x16x64x128 [0, 2, 1, 3] · transposes_S64x64x16x128_S64x16x64x128_0_2_1_3) : Cont F S64x64x16x128 .f32 → Cont F S64x16x64x128 .f32),
    nullary main_cst_1 (constant S_ .f32 0x00000000#32),
    unary main_cst_1 main_v12 (broadcastInDim S64x16x64x128 ![] bcast_S_S64x16x64x128 : Cont F S_ .f32 → Cont F S64x16x64x128 .f32),
    nullary main_cst_2 (constant S_ .f32 0x00000000#32),
    unary main_cst_2 main_v13 (broadcastInDim S64x16x128x128 ![] bcast_S_S64x16x128x128 : Cont F S_ .f32 → Cont F S64x16x128x128 .f32),
    nullary main_cst_3 (constant S_ .f32 0x00000000#32),
    unary main_cst_3 main_v14 (broadcastInDim S64x16x64x128 ![] bcast_S_S64x16x64x128 : Cont F S_ .f32 → Cont F S64x16x64x128 .f32),
    nullary main_cst_4 (constant S_ .f32 0x00000000#32),
    unary main_cst_4 main_v15 (broadcastInDim S64x16x1x1 ![] bcast_S_S64x16x1x1 : Cont F S_ .f32 → Cont F S64x16x1x1 .f32),
    nullary main_c_5 (constantI S_ 32 0#32),
    unary main_v5 main_v16_0 id,
    unary main_v7 main_v16_1 id,
    unary main_v9 main_v16_2 id,
    unary main_v11 main_v16_3 id,
    unary main_v2_0 main_v16_4 id,
    unary main_arg6 main_v16_5 id,
    unary main_c_5 main_v16_6 id,
    unary main_v3 main_v16_7 id,
    unary main_v12 main_v16_8 id,
    unary main_v13 main_v16_9 id,
    unary main_v14 main_v16_10 id,
    unary main_v15 main_v16_11 id ]
theorem pre4_sub : Within (pre4 : Ops F) :=
  ⟨nullary_bufs_sub .., unary_bufs_sub .., reshape_bufs_sub .., unary_bufs_sub .., reshape_bufs_sub .., unary_bufs_sub .., reshape_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev pre4_W : List (Ref sig .tc) := [main_cst_0, main_v3, main_v4, main_v5, main_v6, main_v7, main_v8, main_v9, main_v10, main_v11, main_cst_1, main_v12, main_cst_2, main_v13, main_cst_3, main_v14, main_cst_4, main_v15, main_c_5, main_v16_0, main_v16_1, main_v16_2, main_v16_3, main_v16_4, main_v16_5, main_v16_6, main_v16_7, main_v16_8, main_v16_9, main_v16_10, main_v16_11]
theorem pre4_writes : WritesIn (pre4 : Ops F) pre4_W :=
  forall_writes_sub_of_map rfl

/-- Operations between the loops. -/
abbrev mid0 : Ops F :=
  [ unary main_v16_8 main_v17 ((transpose S64x64x16x128 [0, 2, 1, 3] · transposes_S64x16x64x128_S64x64x16x128_0_2_1_3) : Cont F S64x16x64x128 .f32 → Cont F S64x64x16x128 .f32),
    reshape main_v17 main_v18 (rfl : (.f32 : EltTy) = .f32) shapeCasts_S64x64x16x128_S4096x2048,
    nullary main_cst_6 (constant S_ .f32 0x00000000#32),
    unary main_cst_6 main_v19 (broadcastInDim S16x128x128 ![] bcast_S_S16x128x128 : Cont F S_ .f32 → Cont F S16x128x128 .f32),
    reshape main_arg0 main_v20 (rfl : (.f32 : EltTy) = .f32) shapeCasts_S4096x2048_S64x64x16x128,
    unary main_v20 main_v21 ((transpose S64x16x64x128 [0, 2, 1, 3] · transposes_S64x64x16x128_S64x16x64x128_0_2_1_3) : Cont F S64x64x16x128 .f32 → Cont F S64x16x64x128 .f32),
    nullary main_cst_7 (constant S_ .f32 0x00000000#32),
    unary main_cst_7 main_v22 (broadcastInDim S16x128x128 ![] bcast_S_S16x128x128 : Cont F S_ .f32 → Cont F S16x128x128 .f32),
    nullary main_cst_8 (constant S_ .f32 0x00000000#32),
    unary main_cst_8 main_v23 (broadcastInDim S64x16x64x128 ![] bcast_S_S64x16x64x128 : Cont F S_ .f32 → Cont F S64x16x64x128 .f32),
    nullary main_cst_9 (constant S_ .f32 0x00000000#32),
    unary main_cst_9 main_v24 (broadcastInDim S64x16x64x128 ![] bcast_S_S64x16x64x128 : Cont F S_ .f32 → Cont F S64x16x64x128 .f32),
    nullary main_cst_10 (constant S_ .f32 0x00000000#32),
    unary main_cst_10 main_v25 (broadcastInDim S64x16x64x128 ![] bcast_S_S64x16x64x128 : Cont F S_ .f32 → Cont F S64x16x64x128 .f32),
    nullary main_cst_11 (constant S_ .f32 0x00000000#32),
    unary main_cst_11 main_v26 (broadcastInDim S64x16x64x128 ![] bcast_S_S64x16x64x128 : Cont F S_ .f32 → Cont F S64x16x64x128 .f32),
    nullary main_cst_12 (constant S_ .f32 0x00000000#32),
    unary main_cst_12 main_v27 (broadcastInDim S64x16x64x64 ![] bcast_S_S64x16x64x64 : Cont F S_ .f32 → Cont F S64x16x64x64 .f32),
    nullary main_cst_13 (constant S_ .f32 0x00000000#32),
    unary main_cst_13 main_v28 (broadcastInDim S64x16 ![] bcast_S_S64x16 : Cont F S_ .f32 → Cont F S64x16 .f32),
    nullary main_c_14 (constantI S_ 32 0#32),
    unary main_v21 main_v29_0 id,
    unary main_v16_9 main_v29_1 id,
    unary main_v11 main_v29_2 id,
    unary main_v5 main_v29_3 id,
    unary main_v16_10 main_v29_4 id,
    unary main_v2_0 main_v29_5 id,
    unary main_v16_11 main_v29_6 id,
    unary main_v7 main_v29_7 id,
    unary main_c_14 main_v29_8 id,
    unary main_v22 main_v29_9 id,
    unary main_v23 main_v29_10 id,
    unary main_v24 main_v29_11 id,
    unary main_v25 main_v29_12 id,
    unary main_v26 main_v29_13 id,
    unary main_v27 main_v29_14 id,
    unary main_v28 main_v29_15 id ]
theorem mid0_sub : Within (mid0 : Ops F) :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev mid0_W : List (Ref sig .tc) := [main_v17, main_v18, main_cst_6, main_v19, main_v20, main_v21, main_cst_7, main_v22, main_cst_8, main_v23, main_cst_9, main_v24, main_cst_10, main_v25, main_cst_11, main_v26, main_cst_12, main_v27, main_cst_13, main_v28, main_c_14, main_v29_0, main_v29_1, main_v29_2, main_v29_3, main_v29_4, main_v29_5, main_v29_6, main_v29_7, main_v29_8, main_v29_9, main_v29_10, main_v29_11, main_v29_12, main_v29_13, main_v29_14, main_v29_15]
theorem mid0_writes : WritesIn (mid0 : Ops F) mid0_W :=
  forall_writes_sub_of_map rfl

/-- Operations after the second loop. -/
abbrev post0 : Ops F :=
  [ unary main_v29_13 main_v30 ((transpose S64x64x16x128 [0, 2, 1, 3] · transposes_S64x16x64x128_S64x64x16x128_0_2_1_3) : Cont F S64x16x64x128 .f32 → Cont F S64x64x16x128 .f32),
    reshape main_v30 main_v31 (rfl : (.f32 : EltTy) = .f32) shapeCasts_S64x64x16x128_S4096x2048,
    unary main_v29_12 main_v32 ((transpose S64x64x16x128 [0, 2, 1, 3] · transposes_S64x16x64x128_S64x64x16x128_0_2_1_3) : Cont F S64x16x64x128 .f32 → Cont F S64x64x16x128 .f32),
    reshape main_v32 main_v33 (rfl : (.f32 : EltTy) = .f32) shapeCasts_S64x64x16x128_S4096x2048,
    unary main_v29_11 main_v34 ((transpose S64x64x16x128 [0, 2, 1, 3] · transposes_S64x16x64x128_S64x64x16x128_0_2_1_3) : Cont F S64x16x64x128 .f32 → Cont F S64x64x16x128 .f32),
    reshape main_v34 main_v35 (rfl : (.f32 : EltTy) = .f32) shapeCasts_S64x64x16x128_S4096x2048,
    unary main_v29_10 main_v36 ((transpose S64x64x16x128 [0, 2, 1, 3] · transposes_S64x16x64x128_S64x64x16x128_0_2_1_3) : Cont F S64x16x64x128 .f32 → Cont F S64x64x16x128 .f32),
    reshape main_v36 main_v37 (rfl : (.f32 : EltTy) = .f32) shapeCasts_S64x64x16x128_S4096x2048 ]
theorem post0_sub : Within (post0 : Ops F) :=
  ⟨unary_bufs_sub .., reshape_bufs_sub .., unary_bufs_sub .., reshape_bufs_sub .., unary_bufs_sub .., reshape_bufs_sub .., unary_bufs_sub .., reshape_bufs_sub ..⟩
abbrev post0_W : List (Ref sig .tc) := [main_v30, main_v31, main_v32, main_v33, main_v34, main_v35, main_v36, main_v37]
theorem post0_writes : WritesIn (post0 : Ops F) post0_W :=
  forall_writes_sub_of_map rfl

/-- Operations after the second loop. -/
abbrev post1 : Ops F :=
  [ TRef.nullary (.of main_call26_cst : At S_ .f32) (constant S_ .f32 0x00000000#32),
    TRef.unary (.of main_call26_cst : At S_ .f32) (.of main_call26_v0 : At S64x16x64x64 .f32) (broadcastInDim S64x16x64x64 ![] bcast_S_S64x16x64x64),
    TRef.ternary (.of main_v2_1 : At S64x16x64x64 .i1) (.of main_v29_14 : At S64x16x64x64 .f32) (.of main_call26_v0 : At S64x16x64x64 .f32) (.of main_v38 : At S64x16x64x64 .f32) select ]
theorem post1_sub : Within (post1 : Ops F) :=
  ⟨nullary_bufs_sub .., unary_bufs_sub .., ternary_bufs_sub ..⟩
abbrev post1_W : List (Ref sig .tc) := [main_call26_cst, main_call26_v0, main_v38]
theorem post1_writes : WritesIn (post1 : Ops F) post1_W :=
  forall_writes_sub_of_map rfl

/-- Operations after the second loop. -/
abbrev post2 : Ops F :=
  [ unary main_v29_15 main_v39 (broadcastInDim S64x16x1x1 ![0, 1] bcast_S64x16_S64x16x1x1_0_1 : Cont F S64x16 .f32 → Cont F S64x16x1x1 .f32),
    unary main_v39 main_v40 (broadcastInDim S64x16x1x128 ![0, 1, 2, 3] bcast_S64x16x1x1_S64x16x1x128_0_1_2_3 : Cont F S64x16x1x1 .f32 → Cont F S64x16x1x128 .f32) ]
theorem post2_sub : Within (post2 : Ops F) :=
  ⟨unary_bufs_sub .., unary_bufs_sub ..⟩
abbrev post2_W : List (Ref sig .tc) := [main_v39, main_v40]
theorem post2_writes : WritesIn (post2 : Ops F) post2_W :=
  forall_writes_sub_of_map rfl

/-- Operations of the forward loop's body. -/
abbrev fwd0 : Ops F :=
  [ TRef.nullary (.of main_while0b_call2_c : At S_ .i32) (constantI S_ 32 0#32),
    TRef.nullary (.of main_while0b_call2_c_0 : At S_ .i32) (constantI S_ 32 0#32),
    TRef.nullary (.of main_while0b_call2_c_1 : At S_ .i32) (constantI S_ 32 0#32),
    TRef.unaryIndexed (.of main_v16_0 : At S64x16x64x128 .f32) ![(.of main_v16_6 : At S_ .i32), (.of main_while0b_call2_c : At S_ .i32), (.of main_while0b_call2_c_0 : At S_ .i32), (.of main_while0b_call2_c_1 : At S_ .i32)] (.of main_while0b_call2_v0 : At S1x16x64x128 .f32) (fun x i => Host.dynamicSlice S1x16x64x128 x (fun k => (i k (Shape.Idx.first h_S_)).toInt) sliceFits_S64x16x64x128_S1x16x64x128),
    TRef.reshape (.of main_while0b_call2_v0 : At S1x16x64x128 .f32) (.of main_while0b_v41 : At S16x64x128 .f32) (rfl : (.f32 : EltTy) = .f32) shapeCasts_S1x16x64x128_S16x64x128 ]
theorem fwd0_sub : Within (fwd0 : Ops F) :=
  ⟨nullary_bufs_sub .., nullary_bufs_sub .., nullary_bufs_sub .., unaryIndexed_bufs_sub .., reshape_bufs_sub ..⟩
abbrev fwd0_W : List (Ref sig .tc) := [main_while0b_call2_c, main_while0b_call2_c_0, main_while0b_call2_c_1, main_while0b_call2_v0, main_while0b_v41]
theorem fwd0_writes : WritesIn (fwd0 : Ops F) fwd0_W :=
  forall_writes_sub_of_map rfl

/-- Operations of the forward loop's body. -/
abbrev fwd1 : Ops F :=
  [ TRef.nullary (.of main_while0b_call3_c : At S_ .i32) (constantI S_ 32 0#32),
    TRef.nullary (.of main_while0b_call3_c_0 : At S_ .i32) (constantI S_ 32 0#32),
    TRef.nullary (.of main_while0b_call3_c_1 : At S_ .i32) (constantI S_ 32 0#32),
    TRef.unaryIndexed (.of main_v16_1 : At S64x16x64x128 .f32) ![(.of main_v16_6 : At S_ .i32), (.of main_while0b_call3_c : At S_ .i32), (.of main_while0b_call3_c_0 : At S_ .i32), (.of main_while0b_call3_c_1 : At S_ .i32)] (.of main_while0b_call3_v0 : At S1x16x64x128 .f32) (fun x i => Host.dynamicSlice S1x16x64x128 x (fun k => (i k (Shape.Idx.first h_S_)).toInt) sliceFits_S64x16x64x128_S1x16x64x128),
    TRef.reshape (.of main_while0b_call3_v0 : At S1x16x64x128 .f32) (.of main_while0b_v42 : At S16x64x128 .f32) (rfl : (.f32 : EltTy) = .f32) shapeCasts_S1x16x64x128_S16x64x128 ]
theorem fwd1_sub : Within (fwd1 : Ops F) :=
  ⟨nullary_bufs_sub .., nullary_bufs_sub .., nullary_bufs_sub .., unaryIndexed_bufs_sub .., reshape_bufs_sub ..⟩
abbrev fwd1_W : List (Ref sig .tc) := [main_while0b_call3_c, main_while0b_call3_c_0, main_while0b_call3_c_1, main_while0b_call3_v0, main_while0b_v42]
theorem fwd1_writes : WritesIn (fwd1 : Ops F) fwd1_W :=
  forall_writes_sub_of_map rfl

/-- Operations of the forward loop's body. -/
abbrev fwd2 : Ops F :=
  [ TRef.nullary (.of main_while0b_call4_c : At S_ .i32) (constantI S_ 32 0#32),
    TRef.nullary (.of main_while0b_call4_c_0 : At S_ .i32) (constantI S_ 32 0#32),
    TRef.nullary (.of main_while0b_call4_c_1 : At S_ .i32) (constantI S_ 32 0#32),
    TRef.unaryIndexed (.of main_v16_2 : At S64x16x64x128 .f32) ![(.of main_v16_6 : At S_ .i32), (.of main_while0b_call4_c : At S_ .i32), (.of main_while0b_call4_c_0 : At S_ .i32), (.of main_while0b_call4_c_1 : At S_ .i32)] (.of main_while0b_call4_v0 : At S1x16x64x128 .f32) (fun x i => Host.dynamicSlice S1x16x64x128 x (fun k => (i k (Shape.Idx.first h_S_)).toInt) sliceFits_S64x16x64x128_S1x16x64x128),
    TRef.reshape (.of main_while0b_call4_v0 : At S1x16x64x128 .f32) (.of main_while0b_v43 : At S16x64x128 .f32) (rfl : (.f32 : EltTy) = .f32) shapeCasts_S1x16x64x128_S16x64x128 ]
theorem fwd2_sub : Within (fwd2 : Ops F) :=
  ⟨nullary_bufs_sub .., nullary_bufs_sub .., nullary_bufs_sub .., unaryIndexed_bufs_sub .., reshape_bufs_sub ..⟩
abbrev fwd2_W : List (Ref sig .tc) := [main_while0b_call4_c, main_while0b_call4_c_0, main_while0b_call4_c_1, main_while0b_call4_v0, main_while0b_v43]
theorem fwd2_writes : WritesIn (fwd2 : Ops F) fwd2_W :=
  forall_writes_sub_of_map rfl

/-- Operations of the forward loop's body. -/
abbrev fwd3 : Ops F :=
  [ TRef.nullary (.of main_while0b_call5_c : At S_ .i32) (constantI S_ 32 0#32),
    TRef.nullary (.of main_while0b_call5_c_0 : At S_ .i32) (constantI S_ 32 0#32),
    TRef.nullary (.of main_while0b_call5_c_1 : At S_ .i32) (constantI S_ 32 0#32),
    TRef.unaryIndexed (.of main_v16_3 : At S64x16x64x128 .f32) ![(.of main_v16_6 : At S_ .i32), (.of main_while0b_call5_c : At S_ .i32), (.of main_while0b_call5_c_0 : At S_ .i32), (.of main_while0b_call5_c_1 : At S_ .i32)] (.of main_while0b_call5_v0 : At S1x16x64x128 .f32) (fun x i => Host.dynamicSlice S1x16x64x128 x (fun k => (i k (Shape.Idx.first h_S_)).toInt) sliceFits_S64x16x64x128_S1x16x64x128),
    TRef.reshape (.of main_while0b_call5_v0 : At S1x16x64x128 .f32) (.of main_while0b_v44 : At S16x64x128 .f32) (rfl : (.f32 : EltTy) = .f32) shapeCasts_S1x16x64x128_S16x64x128 ]
theorem fwd3_sub : Within (fwd3 : Ops F) :=
  ⟨nullary_bufs_sub .., nullary_bufs_sub .., nullary_bufs_sub .., unaryIndexed_bufs_sub .., reshape_bufs_sub ..⟩
abbrev fwd3_W : List (Ref sig .tc) := [main_while0b_call5_c, main_while0b_call5_c_0, main_while0b_call5_c_1, main_while0b_call5_v0, main_while0b_v44]
theorem fwd3_writes : WritesIn (fwd3 : Ops F) fwd3_W :=
  forall_writes_sub_of_map rfl

/-- Operations of the forward loop's body. -/
abbrev fwd4 : Ops F :=
  [ TRef.nullary (.of main_while0b_call6_c : At S_ .i32) (constantI S_ 32 0#32),
    TRef.nullary (.of main_while0b_call6_c_0 : At S_ .i32) (constantI S_ 32 0#32),
    TRef.nullary (.of main_while0b_call6_c_1 : At S_ .i32) (constantI S_ 32 0#32),
    TRef.unaryIndexed (.of main_v16_4 : At S64x16x64x64 .f32) ![(.of main_v16_6 : At S_ .i32), (.of main_while0b_call6_c : At S_ .i32), (.of main_while0b_call6_c_0 : At S_ .i32), (.of main_while0b_call6_c_1 : At S_ .i32)] (.of main_while0b_call6_v0 : At S1x16x64x64 .f32) (fun x i => Host.dynamicSlice S1x16x64x64 x (fun k => (i k (Shape.Idx.first h_S_)).toInt) sliceFits_S64x16x64x64_S1x16x64x64),
    TRef.reshape (.of main_while0b_call6_v0 : At S1x16x64x64 .f32) (.of main_while0b_v45 : At S16x64x64 .f32) (rfl : (.f32 : EltTy) = .f32) shapeCasts_S1x16x64x64_S16x64x64 ]
theorem fwd4_sub : Within (fwd4 : Ops F) :=
  ⟨nullary_bufs_sub .., nullary_bufs_sub .., nullary_bufs_sub .., unaryIndexed_bufs_sub .., reshape_bufs_sub ..⟩
abbrev fwd4_W : List (Ref sig .tc) := [main_while0b_call6_c, main_while0b_call6_c_0, main_while0b_call6_c_1, main_while0b_call6_v0, main_while0b_v45]
theorem fwd4_writes : WritesIn (fwd4 : Ops F) fwd4_W :=
  forall_writes_sub_of_map rfl

/-- Operations of the forward loop's body. -/
abbrev fwd5 : Ops F :=
  [ TRef.nullary (.of main_while0b_call7_c : At S_ .i32) (constantI S_ 32 0#32),
    TRef.unaryIndexed (.of main_v16_5 : At S64x16 .f32) ![(.of main_v16_6 : At S_ .i32), (.of main_while0b_call7_c : At S_ .i32)] (.of main_while0b_call7_v0 : At S1x16 .f32) (fun x i => Host.dynamicSlice S1x16 x (fun k => (i k (Shape.Idx.first h_S_)).toInt) sliceFits_S64x16_S1x16),
    TRef.reshape (.of main_while0b_call7_v0 : At S1x16 .f32) (.of main_while0b_v46 : At S16 .f32) (rfl : (.f32 : EltTy) = .f32) shapeCasts_S1x16_S16 ]
theorem fwd5_sub : Within (fwd5 : Ops F) :=
  ⟨nullary_bufs_sub .., unaryIndexed_bufs_sub .., reshape_bufs_sub ..⟩
abbrev fwd5_W : List (Ref sig .tc) := [main_while0b_call7_c, main_while0b_call7_v0, main_while0b_v46]
theorem fwd5_writes : WritesIn (fwd5 : Ops F) fwd5_W :=
  forall_writes_sub_of_map rfl

/-- Operations of the forward loop's body. -/
abbrev fwd6 : Ops F :=
  [ binary main_while0b_v44 main_v16_7 main_while0b_v47 ((fun l r => Host.dotGeneral dot_S16x64x128_S16x128x128_S16x64x128_2_1_1_2_0_0 none l r) : Cont F S16x64x128 .f32 → Cont F S16x128x128 .f32 → Cont F S16x64x128 .f32),
    binary main_while0b_v43 main_while0b_v47 main_while0b_v48 (subf : Cont F S16x64x128 .f32 → Cont F S16x64x128 .f32 → Cont F S16x64x128 .f32),
    binary main_while0b_v41 main_v16_7 main_while0b_v49 ((fun l r => Host.dotGeneral dot_S16x64x128_S16x128x128_S16x64x128_2_1_1_2_0_0 none l r) : Cont F S16x64x128 .f32 → Cont F S16x128x128 .f32 → Cont F S16x64x128 .f32),
    binary main_while0b_v45 main_while0b_v48 main_while0b_v50 ((fun l r => Host.dotGeneral dot_S16x64x64_S16x64x128_S16x64x128_2_1_1_2_0_0 none l r) : Cont F S16x64x64 .f32 → Cont F S16x64x128 .f32 → Cont F S16x64x128 .f32),
    binary main_while0b_v49 main_while0b_v50 main_while0b_v51 (addf : Cont F S16x64x128 .f32 → Cont F S16x64x128 .f32 → Cont F S16x64x128 .f32),
    unary main_while0b_v46 main_while0b_v52 (broadcastInDim S16x1x1 ![0] bcast_S16_S16x1x1_0 : Cont F S16 .f32 → Cont F S16x1x1 .f32),
    unary main_while0b_v52 main_while0b_v53 (broadcastInDim S16x128x128 ![0, 1, 2] bcast_S16x1x1_S16x128x128_0_1_2 : Cont F S16x1x1 .f32 → Cont F S16x128x128 .f32),
    binary main_v16_7 main_while0b_v53 main_while0b_v54 (mulf : Cont F S16x128x128 .f32 → Cont F S16x128x128 .f32 → Cont F S16x128x128 .f32),
    binary main_while0b_v42 main_while0b_v48 main_while0b_v55 ((fun l r => Host.dotGeneral dot_S16x64x128_S16x64x128_S16x128x128_1_1_2_2_0_0 none l r) : Cont F S16x64x128 .f32 → Cont F S16x64x128 .f32 → Cont F S16x128x128 .f32),
    binary main_while0b_v54 main_while0b_v55 main_while0b_v56 (addf : Cont F S16x128x128 .f32 → Cont F S16x128x128 .f32 → Cont F S16x128x128 .f32) ]
theorem fwd6_sub : Within (fwd6 : Ops F) :=
  ⟨binary_bufs_sub .., binary_bufs_sub .., binary_bufs_sub .., binary_bufs_sub .., binary_bufs_sub .., unary_bufs_sub .., unary_bufs_sub .., binary_bufs_sub .., binary_bufs_sub .., binary_bufs_sub ..⟩
abbrev fwd6_W : List (Ref sig .tc) := [main_while0b_v47, main_while0b_v48, main_while0b_v49, main_while0b_v50, main_while0b_v51, main_while0b_v52, main_while0b_v53, main_while0b_v54, main_while0b_v55, main_while0b_v56]
theorem fwd6_writes : WritesIn (fwd6 : Ops F) fwd6_W :=
  forall_writes_sub_of_map rfl

/-- Operations of the forward loop's body. -/
abbrev fwd7 : Ops F :=
  [ TRef.unary (.of main_while0b_v51 : At S16x64x128 .f32) (.of main_while0b_call8_v0 : At S1x16x64x128 .f32) (broadcastInDim S1x16x64x128 ![1, 2, 3] bcast_S16x64x128_S1x16x64x128_1_2_3),
    TRef.nullary (.of main_while0b_call8_c : At S_ .i32) (constantI S_ 32 0#32),
    TRef.nullary (.of main_while0b_call8_c_0 : At S_ .i32) (constantI S_ 32 0#32),
    TRef.nullary (.of main_while0b_call8_c_1 : At S_ .i32) (constantI S_ 32 0#32),
    TRef.binaryIndexed (.of main_v16_8 : At S64x16x64x128 .f32) (.of main_while0b_call8_v0 : At S1x16x64x128 .f32) ![(.of main_v16_6 : At S_ .i32), (.of main_while0b_call8_c : At S_ .i32), (.of main_while0b_call8_c_0 : At S_ .i32), (.of main_while0b_call8_c_1 : At S_ .i32)] (.of main_while0b_v57 : At S64x16x64x128 .f32) (fun x u i => Host.dynamicUpdateSlice x u (fun k => (i k (Shape.Idx.first h_S_)).toInt) updateFits_S64x16x64x128_S1x16x64x128) ]
theorem fwd7_sub : Within (fwd7 : Ops F) :=
  ⟨unary_bufs_sub .., nullary_bufs_sub .., nullary_bufs_sub .., nullary_bufs_sub .., binaryIndexed_bufs_sub ..⟩
abbrev fwd7_W : List (Ref sig .tc) := [main_while0b_call8_v0, main_while0b_call8_c, main_while0b_call8_c_0, main_while0b_call8_c_1, main_while0b_v57]
theorem fwd7_writes : WritesIn (fwd7 : Ops F) fwd7_W :=
  forall_writes_sub_of_map rfl

/-- Operations of the forward loop's body. -/
abbrev fwd8 : Ops F :=
  [ TRef.unary (.of main_v16_7 : At S16x128x128 .f32) (.of main_while0b_call9_v0 : At S1x16x128x128 .f32) (broadcastInDim S1x16x128x128 ![1, 2, 3] bcast_S16x128x128_S1x16x128x128_1_2_3),
    TRef.nullary (.of main_while0b_call9_c : At S_ .i32) (constantI S_ 32 0#32),
    TRef.nullary (.of main_while0b_call9_c_0 : At S_ .i32) (constantI S_ 32 0#32),
    TRef.nullary (.of main_while0b_call9_c_1 : At S_ .i32) (constantI S_ 32 0#32),
    TRef.binaryIndexed (.of main_v16_9 : At S64x16x128x128 .f32) (.of main_while0b_call9_v0 : At S1x16x128x128 .f32) ![(.of main_v16_6 : At S_ .i32), (.of main_while0b_call9_c : At S_ .i32), (.of main_while0b_call9_c_0 : At S_ .i32), (.of main_while0b_call9_c_1 : At S_ .i32)] (.of main_while0b_v58 : At S64x16x128x128 .f32) (fun x u i => Host.dynamicUpdateSlice x u (fun k => (i k (Shape.Idx.first h_S_)).toInt) updateFits_S64x16x128x128_S1x16x128x128) ]
theorem fwd8_sub : Within (fwd8 : Ops F) :=
  ⟨unary_bufs_sub .., nullary_bufs_sub .., nullary_bufs_sub .., nullary_bufs_sub .., binaryIndexed_bufs_sub ..⟩
abbrev fwd8_W : List (Ref sig .tc) := [main_while0b_call9_v0, main_while0b_call9_c, main_while0b_call9_c_0, main_while0b_call9_c_1, main_while0b_v58]
theorem fwd8_writes : WritesIn (fwd8 : Ops F) fwd8_W :=
  forall_writes_sub_of_map rfl

/-- Operations of the forward loop's body. -/
abbrev fwd9 : Ops F :=
  [ TRef.unary (.of main_while0b_v48 : At S16x64x128 .f32) (.of main_while0b_call10_v0 : At S1x16x64x128 .f32) (broadcastInDim S1x16x64x128 ![1, 2, 3] bcast_S16x64x128_S1x16x64x128_1_2_3),
    TRef.nullary (.of main_while0b_call10_c : At S_ .i32) (constantI S_ 32 0#32),
    TRef.nullary (.of main_while0b_call10_c_0 : At S_ .i32) (constantI S_ 32 0#32),
    TRef.nullary (.of main_while0b_call10_c_1 : At S_ .i32) (constantI S_ 32 0#32),
    TRef.binaryIndexed (.of main_v16_10 : At S64x16x64x128 .f32) (.of main_while0b_call10_v0 : At S1x16x64x128 .f32) ![(.of main_v16_6 : At S_ .i32), (.of main_while0b_call10_c : At S_ .i32), (.of main_while0b_call10_c_0 : At S_ .i32), (.of main_while0b_call10_c_1 : At S_ .i32)] (.of main_while0b_v59 : At S64x16x64x128 .f32) (fun x u i => Host.dynamicUpdateSlice x u (fun k => (i k (Shape.Idx.first h_S_)).toInt) updateFits_S64x16x64x128_S1x16x64x128) ]
theorem fwd9_sub : Within (fwd9 : Ops F) :=
  ⟨unary_bufs_sub .., nullary_bufs_sub .., nullary_bufs_sub .., nullary_bufs_sub .., binaryIndexed_bufs_sub ..⟩
abbrev fwd9_W : List (Ref sig .tc) := [main_while0b_call10_v0, main_while0b_call10_c, main_while0b_call10_c_0, main_while0b_call10_c_1, main_while0b_v59]
theorem fwd9_writes : WritesIn (fwd9 : Ops F) fwd9_W :=
  forall_writes_sub_of_map rfl

/-- Operations of the forward loop's body. -/
abbrev fwd10 : Ops F :=
  [ TRef.unary (.of main_while0b_v52 : At S16x1x1 .f32) (.of main_while0b_call11_v0 : At S1x16x1x1 .f32) (broadcastInDim S1x16x1x1 ![1, 2, 3] bcast_S16x1x1_S1x16x1x1_1_2_3),
    TRef.nullary (.of main_while0b_call11_c : At S_ .i32) (constantI S_ 32 0#32),
    TRef.nullary (.of main_while0b_call11_c_0 : At S_ .i32) (constantI S_ 32 0#32),
    TRef.nullary (.of main_while0b_call11_c_1 : At S_ .i32) (constantI S_ 32 0#32),
    TRef.binaryIndexed (.of main_v16_11 : At S64x16x1x1 .f32) (.of main_while0b_call11_v0 : At S1x16x1x1 .f32) ![(.of main_v16_6 : At S_ .i32), (.of main_while0b_call11_c : At S_ .i32), (.of main_while0b_call11_c_0 : At S_ .i32), (.of main_while0b_call11_c_1 : At S_ .i32)] (.of main_while0b_v60 : At S64x16x1x1 .f32) (fun x u i => Host.dynamicUpdateSlice x u (fun k => (i k (Shape.Idx.first h_S_)).toInt) updateFits_S64x16x1x1_S1x16x1x1) ]
theorem fwd10_sub : Within (fwd10 : Ops F) :=
  ⟨unary_bufs_sub .., nullary_bufs_sub .., nullary_bufs_sub .., nullary_bufs_sub .., binaryIndexed_bufs_sub ..⟩
abbrev fwd10_W : List (Ref sig .tc) := [main_while0b_call11_v0, main_while0b_call11_c, main_while0b_call11_c_0, main_while0b_call11_c_1, main_while0b_v60]
theorem fwd10_writes : WritesIn (fwd10 : Ops F) fwd10_W :=
  forall_writes_sub_of_map rfl

/-- Operations of the forward loop's body. -/
abbrev fwd11 : Ops F :=
  [ nullary main_while0b_c_26 (constantI S_ 32 1#32),
    binary main_v16_6 main_while0b_c_26 main_while0b_v61 (addi : Cont F S_ .i32 → Cont F S_ .i32 → Cont F S_ .i32),
    unary main_while0b_v61 main_v16_6 id,
    unary main_while0b_v56 main_v16_7 id,
    unary main_while0b_v57 main_v16_8 id,
    unary main_while0b_v58 main_v16_9 id,
    unary main_while0b_v59 main_v16_10 id,
    unary main_while0b_v60 main_v16_11 id ]
theorem fwd11_sub : Within (fwd11 : Ops F) :=
  ⟨nullary_bufs_sub .., binary_bufs_sub .., unary_bufs_sub .., unary_bufs_sub .., unary_bufs_sub .., unary_bufs_sub .., unary_bufs_sub .., unary_bufs_sub ..⟩
abbrev fwd11_W : List (Ref sig .tc) := [main_while0b_c_26, main_while0b_v61, main_v16_6, main_v16_7, main_v16_8, main_v16_9, main_v16_10, main_v16_11]
theorem fwd11_writes : WritesIn (fwd11 : Ops F) fwd11_W :=
  forall_writes_sub_of_map rfl

/-- Operations of the backward loop's body. -/
abbrev back0 : Ops F :=
  [ nullary main_while1b_c_30 (constantI S_ 32 64#32),
    binary main_while1b_c_30 main_v29_8 main_while1b_v41 (subi : Cont F S_ .i32 → Cont F S_ .i32 → Cont F S_ .i32),
    nullary main_while1b_c_31 (constantI S_ 32 1#32),
    binary main_while1b_v41 main_while1b_c_31 main_while1b_v42 (subi : Cont F S_ .i32 → Cont F S_ .i32 → Cont F S_ .i32) ]
theorem back0_sub : Within (back0 : Ops F) :=
  ⟨nullary_bufs_sub .., binary_bufs_sub .., nullary_bufs_sub .., binary_bufs_sub ..⟩
abbrev back0_W : List (Ref sig .tc) := [main_while1b_c_30, main_while1b_v41, main_while1b_c_31, main_while1b_v42]
theorem back0_writes : WritesIn (back0 : Ops F) back0_W :=
  forall_writes_sub_of_map rfl

/-- Operations of the backward loop's body. -/
abbrev back1 : Ops F :=
  [ TRef.nullary (.of main_while1b_call12_c : At S_ .i32) (constantI S_ 32 0#32),
    TRef.nullary (.of main_while1b_call12_c_0 : At S_ .i32) (constantI S_ 32 0#32),
    TRef.nullary (.of main_while1b_call12_c_1 : At S_ .i32) (constantI S_ 32 0#32),
    TRef.unaryIndexed (.of main_v29_0 : At S64x16x64x128 .f32) ![(.of main_while1b_v42 : At S_ .i32), (.of main_while1b_call12_c : At S_ .i32), (.of main_while1b_call12_c_0 : At S_ .i32), (.of main_while1b_call12_c_1 : At S_ .i32)] (.of main_while1b_call12_v0 : At S1x16x64x128 .f32) (fun x i => Host.dynamicSlice S1x16x64x128 x (fun k => (i k (Shape.Idx.first h_S_)).toInt) sliceFits_S64x16x64x128_S1x16x64x128),
    TRef.reshape (.of main_while1b_call12_v0 : At S1x16x64x128 .f32) (.of main_while1b_v43 : At S16x64x128 .f32) (rfl : (.f32 : EltTy) = .f32) shapeCasts_S1x16x64x128_S16x64x128 ]
theorem back1_sub : Within (back1 : Ops F) :=
  ⟨nullary_bufs_sub .., nullary_bufs_sub .., nullary_bufs_sub .., unaryIndexed_bufs_sub .., reshape_bufs_sub ..⟩
abbrev back1_W : List (Ref sig .tc) := [main_while1b_call12_c, main_while1b_call12_c_0, main_while1b_call12_c_1, main_while1b_call12_v0, main_while1b_v43]
theorem back1_writes : WritesIn (back1 : Ops F) back1_W :=
  forall_writes_sub_of_map rfl

/-- Operations of the backward loop's body. -/
abbrev back2 : Ops F :=
  [ TRef.nullary (.of main_while1b_call13_c : At S_ .i32) (constantI S_ 32 0#32),
    TRef.nullary (.of main_while1b_call13_c_0 : At S_ .i32) (constantI S_ 32 0#32),
    TRef.nullary (.of main_while1b_call13_c_1 : At S_ .i32) (constantI S_ 32 0#32),
    TRef.unaryIndexed (.of main_v29_1 : At S64x16x128x128 .f32) ![(.of main_while1b_v42 : At S_ .i32), (.of main_while1b_call13_c : At S_ .i32), (.of main_while1b_call13_c_0 : At S_ .i32), (.of main_while1b_call13_c_1 : At S_ .i32)] (.of main_while1b_call13_v0 : At S1x16x128x128 .f32) (fun x i => Host.dynamicSlice S1x16x128x128 x (fun k => (i k (Shape.Idx.first h_S_)).toInt) sliceFits_S64x16x128x128_S1x16x128x128),
    TRef.reshape (.of main_while1b_call13_v0 : At S1x16x128x128 .f32) (.of main_while1b_v44 : At S16x128x128 .f32) (rfl : (.f32 : EltTy) = .f32) shapeCasts_S1x16x128x128_S16x128x128 ]
theorem back2_sub : Within (back2 : Ops F) :=
  ⟨nullary_bufs_sub .., nullary_bufs_sub .., nullary_bufs_sub .., unaryIndexed_bufs_sub .., reshape_bufs_sub ..⟩
abbrev back2_W : List (Ref sig .tc) := [main_while1b_call13_c, main_while1b_call13_c_0, main_while1b_call13_c_1, main_while1b_call13_v0, main_while1b_v44]
theorem back2_writes : WritesIn (back2 : Ops F) back2_W :=
  forall_writes_sub_of_map rfl

/-- Operations of the backward loop's body. -/
abbrev back3 : Ops F :=
  [ TRef.nullary (.of main_while1b_call14_c : At S_ .i32) (constantI S_ 32 0#32),
    TRef.nullary (.of main_while1b_call14_c_0 : At S_ .i32) (constantI S_ 32 0#32),
    TRef.nullary (.of main_while1b_call14_c_1 : At S_ .i32) (constantI S_ 32 0#32),
    TRef.unaryIndexed (.of main_v29_2 : At S64x16x64x128 .f32) ![(.of main_while1b_v42 : At S_ .i32), (.of main_while1b_call14_c : At S_ .i32), (.of main_while1b_call14_c_0 : At S_ .i32), (.of main_while1b_call14_c_1 : At S_ .i32)] (.of main_while1b_call14_v0 : At S1x16x64x128 .f32) (fun x i => Host.dynamicSlice S1x16x64x128 x (fun k => (i k (Shape.Idx.first h_S_)).toInt) sliceFits_S64x16x64x128_S1x16x64x128),
    TRef.reshape (.of main_while1b_call14_v0 : At S1x16x64x128 .f32) (.of main_while1b_v45 : At S16x64x128 .f32) (rfl : (.f32 : EltTy) = .f32) shapeCasts_S1x16x64x128_S16x64x128 ]
theorem back3_sub : Within (back3 : Ops F) :=
  ⟨nullary_bufs_sub .., nullary_bufs_sub .., nullary_bufs_sub .., unaryIndexed_bufs_sub .., reshape_bufs_sub ..⟩
abbrev back3_W : List (Ref sig .tc) := [main_while1b_call14_c, main_while1b_call14_c_0, main_while1b_call14_c_1, main_while1b_call14_v0, main_while1b_v45]
theorem back3_writes : WritesIn (back3 : Ops F) back3_W :=
  forall_writes_sub_of_map rfl

/-- Operations of the backward loop's body. -/
abbrev back4 : Ops F :=
  [ TRef.nullary (.of main_while1b_call15_c : At S_ .i32) (constantI S_ 32 0#32),
    TRef.nullary (.of main_while1b_call15_c_0 : At S_ .i32) (constantI S_ 32 0#32),
    TRef.nullary (.of main_while1b_call15_c_1 : At S_ .i32) (constantI S_ 32 0#32),
    TRef.unaryIndexed (.of main_v29_3 : At S64x16x64x128 .f32) ![(.of main_while1b_v42 : At S_ .i32), (.of main_while1b_call15_c : At S_ .i32), (.of main_while1b_call15_c_0 : At S_ .i32), (.of main_while1b_call15_c_1 : At S_ .i32)] (.of main_while1b_call15_v0 : At S1x16x64x128 .f32) (fun x i => Host.dynamicSlice S1x16x64x128 x (fun k => (i k (Shape.Idx.first h_S_)).toInt) sliceFits_S64x16x64x128_S1x16x64x128),
    TRef.reshape (.of main_while1b_call15_v0 : At S1x16x64x128 .f32) (.of main_while1b_v46 : At S16x64x128 .f32) (rfl : (.f32 : EltTy) = .f32) shapeCasts_S1x16x64x128_S16x64x128 ]
theorem back4_sub : Within (back4 : Ops F) :=
  ⟨nullary_bufs_sub .., nullary_bufs_sub .., nullary_bufs_sub .., unaryIndexed_bufs_sub .., reshape_bufs_sub ..⟩
abbrev back4_W : List (Ref sig .tc) := [main_while1b_call15_c, main_while1b_call15_c_0, main_while1b_call15_c_1, main_while1b_call15_v0, main_while1b_v46]
theorem back4_writes : WritesIn (back4 : Ops F) back4_W :=
  forall_writes_sub_of_map rfl

/-- Operations of the backward loop's body. -/
abbrev back5 : Ops F :=
  [ TRef.nullary (.of main_while1b_call16_c : At S_ .i32) (constantI S_ 32 0#32),
    TRef.nullary (.of main_while1b_call16_c_0 : At S_ .i32) (constantI S_ 32 0#32),
    TRef.nullary (.of main_while1b_call16_c_1 : At S_ .i32) (constantI S_ 32 0#32),
    TRef.unaryIndexed (.of main_v29_4 : At S64x16x64x128 .f32) ![(.of main_while1b_v42 : At S_ .i32), (.of main_while1b_call16_c : At S_ .i32), (.of main_while1b_call16_c_0 : At S_ .i32), (.of main_while1b_call16_c_1 : At S_ .i32)] (.of main_while1b_call16_v0 : At S1x16x64x128 .f32) (fun x i => Host.dynamicSlice S1x16x64x128 x (fun k => (i k (Shape.Idx.first h_S_)).toInt) sliceFits_S64x16x64x128_S1x16x64x128),
    TRef.reshape (.of main_while1b_call16_v0 : At S1x16x64x128 .f32) (.of main_while1b_v47 : At S16x64x128 .f32) (rfl : (.f32 : EltTy) = .f32) shapeCasts_S1x16x64x128_S16x64x128 ]
theorem back5_sub : Within (back5 : Ops F) :=
  ⟨nullary_bufs_sub .., nullary_bufs_sub .., nullary_bufs_sub .., unaryIndexed_bufs_sub .., reshape_bufs_sub ..⟩
abbrev back5_W : List (Ref sig .tc) := [main_while1b_call16_c, main_while1b_call16_c_0, main_while1b_call16_c_1, main_while1b_call16_v0, main_while1b_v47]
theorem back5_writes : WritesIn (back5 : Ops F) back5_W :=
  forall_writes_sub_of_map rfl

/-- Operations of the backward loop's body. -/
abbrev back6 : Ops F :=
  [ TRef.nullary (.of main_while1b_call17_c : At S_ .i32) (constantI S_ 32 0#32),
    TRef.nullary (.of main_while1b_call17_c_0 : At S_ .i32) (constantI S_ 32 0#32),
    TRef.nullary (.of main_while1b_call17_c_1 : At S_ .i32) (constantI S_ 32 0#32),
    TRef.unaryIndexed (.of main_v29_5 : At S64x16x64x64 .f32) ![(.of main_while1b_v42 : At S_ .i32), (.of main_while1b_call17_c : At S_ .i32), (.of main_while1b_call17_c_0 : At S_ .i32), (.of main_while1b_call17_c_1 : At S_ .i32)] (.of main_while1b_call17_v0 : At S1x16x64x64 .f32) (fun x i => Host.dynamicSlice S1x16x64x64 x (fun k => (i k (Shape.Idx.first h_S_)).toInt) sliceFits_S64x16x64x64_S1x16x64x64),
    TRef.reshape (.of main_while1b_call17_v0 : At S1x16x64x64 .f32) (.of main_while1b_v48 : At S16x64x64 .f32) (rfl : (.f32 : EltTy) = .f32) shapeCasts_S1x16x64x64_S16x64x64 ]
theorem back6_sub : Within (back6 : Ops F) :=
  ⟨nullary_bufs_sub .., nullary_bufs_sub .., nullary_bufs_sub .., unaryIndexed_bufs_sub .., reshape_bufs_sub ..⟩
abbrev back6_W : List (Ref sig .tc) := [main_while1b_call17_c, main_while1b_call17_c_0, main_while1b_call17_c_1, main_while1b_call17_v0, main_while1b_v48]
theorem back6_writes : WritesIn (back6 : Ops F) back6_W :=
  forall_writes_sub_of_map rfl

/-- Operations of the backward loop's body. -/
abbrev back7 : Ops F :=
  [ TRef.nullary (.of main_while1b_call18_c : At S_ .i32) (constantI S_ 32 0#32),
    TRef.nullary (.of main_while1b_call18_c_0 : At S_ .i32) (constantI S_ 32 0#32),
    TRef.nullary (.of main_while1b_call18_c_1 : At S_ .i32) (constantI S_ 32 0#32),
    TRef.unaryIndexed (.of main_v29_6 : At S64x16x1x1 .f32) ![(.of main_while1b_v42 : At S_ .i32), (.of main_while1b_call18_c : At S_ .i32), (.of main_while1b_call18_c_0 : At S_ .i32), (.of main_while1b_call18_c_1 : At S_ .i32)] (.of main_while1b_call18_v0 : At S1x16x1x1 .f32) (fun x i => Host.dynamicSlice S1x16x1x1 x (fun k => (i k (Shape.Idx.first h_S_)).toInt) sliceFits_S64x16x1x1_S1x16x1x1),
    TRef.reshape (.of main_while1b_call18_v0 : At S1x16x1x1 .f32) (.of main_while1b_v49 : At S16x1x1 .f32) (rfl : (.f32 : EltTy) = .f32) shapeCasts_S1x16x1x1_S16x1x1 ]
theorem back7_sub : Within (back7 : Ops F) :=
  ⟨nullary_bufs_sub .., nullary_bufs_sub .., nullary_bufs_sub .., unaryIndexed_bufs_sub .., reshape_bufs_sub ..⟩
abbrev back7_W : List (Ref sig .tc) := [main_while1b_call18_c, main_while1b_call18_c_0, main_while1b_call18_c_1, main_while1b_call18_v0, main_while1b_v49]
theorem back7_writes : WritesIn (back7 : Ops F) back7_W :=
  forall_writes_sub_of_map rfl

/-- Operations of the backward loop's body. -/
abbrev back8 : Ops F :=
  [ TRef.nullary (.of main_while1b_call19_c : At S_ .i32) (constantI S_ 32 0#32),
    TRef.nullary (.of main_while1b_call19_c_0 : At S_ .i32) (constantI S_ 32 0#32),
    TRef.nullary (.of main_while1b_call19_c_1 : At S_ .i32) (constantI S_ 32 0#32),
    TRef.unaryIndexed (.of main_v29_7 : At S64x16x64x128 .f32) ![(.of main_while1b_v42 : At S_ .i32), (.of main_while1b_call19_c : At S_ .i32), (.of main_while1b_call19_c_0 : At S_ .i32), (.of main_while1b_call19_c_1 : At S_ .i32)] (.of main_while1b_call19_v0 : At S1x16x64x128 .f32) (fun x i => Host.dynamicSlice S1x16x64x128 x (fun k => (i k (Shape.Idx.first h_S_)).toInt) sliceFits_S64x16x64x128_S1x16x64x128),
    TRef.reshape (.of main_while1b_call19_v0 : At S1x16x64x128 .f32) (.of main_while1b_v50 : At S16x64x128 .f32) (rfl : (.f32 : EltTy) = .f32) shapeCasts_S1x16x64x128_S16x64x128 ]
theorem back8_sub : Within (back8 : Ops F) :=
  ⟨nullary_bufs_sub .., nullary_bufs_sub .., nullary_bufs_sub .., unaryIndexed_bufs_sub .., reshape_bufs_sub ..⟩
abbrev back8_W : List (Ref sig .tc) := [main_while1b_call19_c, main_while1b_call19_c_0, main_while1b_call19_c_1, main_while1b_call19_v0, main_while1b_v50]
theorem back8_writes : WritesIn (back8 : Ops F) back8_W :=
  forall_writes_sub_of_map rfl

/-- Operations of the backward loop's body. -/
abbrev back9 : Ops F :=
  [ binary main_v29_9 main_while1b_v50 main_while1b_v51 ((fun l r => Host.dotGeneral dot_S16x128x128_S16x64x128_S16x128x64_1_2_2_1_0_0 none l r) : Cont F S16x128x128 .f32 → Cont F S16x64x128 .f32 → Cont F S16x128x64 .f32),
    unary main_while1b_v51 main_while1b_v52 ((transpose S16x64x128 [0, 2, 1] · transposes_S16x128x64_S16x64x128_0_2_1) : Cont F S16x128x64 .f32 → Cont F S16x64x128 .f32),
    binary main_v29_9 main_while1b_v47 main_while1b_v53 ((fun l r => Host.dotGeneral dot_S16x128x128_S16x64x128_S16x128x64_2_2_1_1_0_0 none l r) : Cont F S16x128x128 .f32 → Cont F S16x64x128 .f32 → Cont F S16x128x64 .f32),
    unary main_while1b_v53 main_while1b_v54 ((transpose S16x64x128 [0, 2, 1] · transposes_S16x128x64_S16x64x128_0_2_1) : Cont F S16x128x64 .f32 → Cont F S16x64x128 .f32),
    binary main_while1b_v44 main_v29_9 main_while1b_v55 (mulf : Cont F S16x128x128 .f32 → Cont F S16x128x128 .f32 → Cont F S16x128x128 .f32),
    nullary main_while1b_cst_32 (constant S_ .f32 0x00000000#32),
    binary main_while1b_v55 main_while1b_cst_32 main_while1b_v56 ((fun x v => Host.reduceAdd x v reducesTo_S16x128x128_S16_d1_2 h_S_) : Cont F S16x128x128 .f32 → Cont F S_ .f32 → Cont F S16 .f32),
    reshape main_while1b_v56 main_while1b_v57 (rfl : (.f32 : EltTy) = .f32) shapeCasts_S16_S16x1x1,
    unary main_while1b_v49 main_while1b_v58 (broadcastInDim S16x128x128 ![0, 1, 2] bcast_S16x1x1_S16x128x128_0_1_2 : Cont F S16x1x1 .f32 → Cont F S16x128x128 .f32),
    binary main_v29_9 main_while1b_v58 main_while1b_v59 (mulf : Cont F S16x128x128 .f32 → Cont F S16x128x128 .f32 → Cont F S16x128x128 .f32),
    nullary main_while1b_cst_33 (constant S_ .f32 0x00000000#32),
    binary main_while1b_v57 main_while1b_cst_33 main_while1b_v60 ((fun x v => Host.reduceAdd x v reducesTo_S16x1x1_S16_d1_2 h_S_) : Cont F S16x1x1 .f32 → Cont F S_ .f32 → Cont F S16 .f32),
    binary main_while1b_v43 main_while1b_v48 main_while1b_v61 ((fun l r => Host.dotGeneral dot_S16x64x128_S16x64x64_S16x128x64_1_1_2_2_0_0 none l r) : Cont F S16x64x128 .f32 → Cont F S16x64x64 .f32 → Cont F S16x128x64 .f32),
    unary main_while1b_v61 main_while1b_v62 ((transpose S16x64x128 [0, 2, 1] · transposes_S16x128x64_S16x64x128_0_2_1) : Cont F S16x128x64 .f32 → Cont F S16x64x128 .f32),
    binary main_while1b_v52 main_while1b_v62 main_while1b_v63 (addf : Cont F S16x64x128 .f32 → Cont F S16x64x128 .f32 → Cont F S16x64x128 .f32),
    binary main_while1b_v43 main_while1b_v47 main_while1b_v64 ((fun l r => Host.dotGeneral dot_S16x64x128_S16x64x128_S16x64x64_2_2_1_1_0_0 none l r) : Cont F S16x64x128 .f32 → Cont F S16x64x128 .f32 → Cont F S16x64x64 .f32),
    binary main_while1b_v43 main_while1b_v46 main_while1b_v65 ((fun l r => Host.dotGeneral dot_S16x64x128_S16x64x128_S16x128x128_1_1_2_2_0_0 none l r) : Cont F S16x64x128 .f32 → Cont F S16x64x128 .f32 → Cont F S16x128x128 .f32),
    unary main_while1b_v65 main_while1b_v66 ((transpose S16x128x128 [0, 2, 1] · transposes_S16x128x128_S16x128x128_0_2_1) : Cont F S16x128x128 .f32 → Cont F S16x128x128 .f32),
    binary main_while1b_v59 main_while1b_v66 main_while1b_v67 (addf : Cont F S16x128x128 .f32 → Cont F S16x128x128 .f32 → Cont F S16x128x128 .f32),
    binary main_while1b_v43 main_while1b_v44 main_while1b_v68 ((fun l r => Host.dotGeneral dot_S16x64x128_S16x128x128_S16x64x128_2_2_1_1_0_0 none l r) : Cont F S16x64x128 .f32 → Cont F S16x128x128 .f32 → Cont F S16x64x128 .f32),
    unary main_while1b_v63 main_while1b_v69 (Host.negf : Cont F S16x64x128 .f32 → Cont F S16x64x128 .f32),
    binary main_while1b_v69 main_while1b_v45 main_while1b_v70 ((fun l r => Host.dotGeneral dot_S16x64x128_S16x64x128_S16x128x128_1_1_2_2_0_0 none l r) : Cont F S16x64x128 .f32 → Cont F S16x64x128 .f32 → Cont F S16x128x128 .f32),
    unary main_while1b_v70 main_while1b_v71 ((transpose S16x128x128 [0, 2, 1] · transposes_S16x128x128_S16x128x128_0_2_1) : Cont F S16x128x128 .f32 → Cont F S16x128x128 .f32),
    binary main_while1b_v67 main_while1b_v71 main_while1b_v72 (addf : Cont F S16x128x128 .f32 → Cont F S16x128x128 .f32 → Cont F S16x128x128 .f32),
    binary main_while1b_v69 main_while1b_v44 main_while1b_v73 ((fun l r => Host.dotGeneral dot_S16x64x128_S16x128x128_S16x64x128_2_2_1_1_0_0 none l r) : Cont F S16x64x128 .f32 → Cont F S16x128x128 .f32 → Cont F S16x64x128 .f32) ]
theorem back9_sub : Within (back9 : Ops F) :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
abbrev back9_W : List (Ref sig .tc) := [main_while1b_v51, main_while1b_v52, main_while1b_v53, main_while1b_v54, main_while1b_v55, main_while1b_cst_32, main_while1b_v56, main_while1b_v57, main_while1b_v58, main_while1b_v59, main_while1b_cst_33, main_while1b_v60, main_while1b_v61, main_while1b_v62, main_while1b_v63, main_while1b_v64, main_while1b_v65, main_while1b_v66, main_while1b_v67, main_while1b_v68, main_while1b_v69, main_while1b_v70, main_while1b_v71, main_while1b_v72, main_while1b_v73]
theorem back9_writes : WritesIn (back9 : Ops F) back9_W :=
  forall_writes_sub_of_map rfl

/-- Operations of the backward loop's body. -/
abbrev back10 : Ops F :=
  [ TRef.unary (.of main_while1b_v68 : At S16x64x128 .f32) (.of main_while1b_call20_v0 : At S1x16x64x128 .f32) (broadcastInDim S1x16x64x128 ![1, 2, 3] bcast_S16x64x128_S1x16x64x128_1_2_3),
    TRef.nullary (.of main_while1b_call20_c : At S_ .i32) (constantI S_ 32 0#32),
    TRef.nullary (.of main_while1b_call20_c_0 : At S_ .i32) (constantI S_ 32 0#32),
    TRef.nullary (.of main_while1b_call20_c_1 : At S_ .i32) (constantI S_ 32 0#32),
    TRef.binaryIndexed (.of main_v29_10 : At S64x16x64x128 .f32) (.of main_while1b_call20_v0 : At S1x16x64x128 .f32) ![(.of main_while1b_v42 : At S_ .i32), (.of main_while1b_call20_c : At S_ .i32), (.of main_while1b_call20_c_0 : At S_ .i32), (.of main_while1b_call20_c_1 : At S_ .i32)] (.of main_while1b_v74 : At S64x16x64x128 .f32) (fun x u i => Host.dynamicUpdateSlice x u (fun k => (i k (Shape.Idx.first h_S_)).toInt) updateFits_S64x16x64x128_S1x16x64x128) ]
theorem back10_sub : Within (back10 : Ops F) :=
  ⟨unary_bufs_sub .., nullary_bufs_sub .., nullary_bufs_sub .., nullary_bufs_sub .., binaryIndexed_bufs_sub ..⟩
abbrev back10_W : List (Ref sig .tc) := [main_while1b_call20_v0, main_while1b_call20_c, main_while1b_call20_c_0, main_while1b_call20_c_1, main_while1b_v74]
theorem back10_writes : WritesIn (back10 : Ops F) back10_W :=
  forall_writes_sub_of_map rfl

/-- Operations of the backward loop's body. -/
abbrev back11 : Ops F :=
  [ TRef.unary (.of main_while1b_v54 : At S16x64x128 .f32) (.of main_while1b_call21_v0 : At S1x16x64x128 .f32) (broadcastInDim S1x16x64x128 ![1, 2, 3] bcast_S16x64x128_S1x16x64x128_1_2_3),
    TRef.nullary (.of main_while1b_call21_c : At S_ .i32) (constantI S_ 32 0#32),
    TRef.nullary (.of main_while1b_call21_c_0 : At S_ .i32) (constantI S_ 32 0#32),
    TRef.nullary (.of main_while1b_call21_c_1 : At S_ .i32) (constantI S_ 32 0#32),
    TRef.binaryIndexed (.of main_v29_11 : At S64x16x64x128 .f32) (.of main_while1b_call21_v0 : At S1x16x64x128 .f32) ![(.of main_while1b_v42 : At S_ .i32), (.of main_while1b_call21_c : At S_ .i32), (.of main_while1b_call21_c_0 : At S_ .i32), (.of main_while1b_call21_c_1 : At S_ .i32)] (.of main_while1b_v75 : At S64x16x64x128 .f32) (fun x u i => Host.dynamicUpdateSlice x u (fun k => (i k (Shape.Idx.first h_S_)).toInt) updateFits_S64x16x64x128_S1x16x64x128) ]
theorem back11_sub : Within (back11 : Ops F) :=
  ⟨unary_bufs_sub .., nullary_bufs_sub .., nullary_bufs_sub .., nullary_bufs_sub .., binaryIndexed_bufs_sub ..⟩
abbrev back11_W : List (Ref sig .tc) := [main_while1b_call21_v0, main_while1b_call21_c, main_while1b_call21_c_0, main_while1b_call21_c_1, main_while1b_v75]
theorem back11_writes : WritesIn (back11 : Ops F) back11_W :=
  forall_writes_sub_of_map rfl

/-- Operations of the backward loop's body. -/
abbrev back12 : Ops F :=
  [ TRef.unary (.of main_while1b_v63 : At S16x64x128 .f32) (.of main_while1b_call22_v0 : At S1x16x64x128 .f32) (broadcastInDim S1x16x64x128 ![1, 2, 3] bcast_S16x64x128_S1x16x64x128_1_2_3),
    TRef.nullary (.of main_while1b_call22_c : At S_ .i32) (constantI S_ 32 0#32),
    TRef.nullary (.of main_while1b_call22_c_0 : At S_ .i32) (constantI S_ 32 0#32),
    TRef.nullary (.of main_while1b_call22_c_1 : At S_ .i32) (constantI S_ 32 0#32),
    TRef.binaryIndexed (.of main_v29_12 : At S64x16x64x128 .f32) (.of main_while1b_call22_v0 : At S1x16x64x128 .f32) ![(.of main_while1b_v42 : At S_ .i32), (.of main_while1b_call22_c : At S_ .i32), (.of main_while1b_call22_c_0 : At S_ .i32), (.of main_while1b_call22_c_1 : At S_ .i32)] (.of main_while1b_v76 : At S64x16x64x128 .f32) (fun x u i => Host.dynamicUpdateSlice x u (fun k => (i k (Shape.Idx.first h_S_)).toInt) updateFits_S64x16x64x128_S1x16x64x128) ]
theorem back12_sub : Within (back12 : Ops F) :=
  ⟨unary_bufs_sub .., nullary_bufs_sub .., nullary_bufs_sub .., nullary_bufs_sub .., binaryIndexed_bufs_sub ..⟩
abbrev back12_W : List (Ref sig .tc) := [main_while1b_call22_v0, main_while1b_call22_c, main_while1b_call22_c_0, main_while1b_call22_c_1, main_while1b_v76]
theorem back12_writes : WritesIn (back12 : Ops F) back12_W :=
  forall_writes_sub_of_map rfl

/-- Operations of the backward loop's body. -/
abbrev back13 : Ops F :=
  [ TRef.unary (.of main_while1b_v73 : At S16x64x128 .f32) (.of main_while1b_call23_v0 : At S1x16x64x128 .f32) (broadcastInDim S1x16x64x128 ![1, 2, 3] bcast_S16x64x128_S1x16x64x128_1_2_3),
    TRef.nullary (.of main_while1b_call23_c : At S_ .i32) (constantI S_ 32 0#32),
    TRef.nullary (.of main_while1b_call23_c_0 : At S_ .i32) (constantI S_ 32 0#32),
    TRef.nullary (.of main_while1b_call23_c_1 : At S_ .i32) (constantI S_ 32 0#32),
    TRef.binaryIndexed (.of main_v29_13 : At S64x16x64x128 .f32) (.of main_while1b_call23_v0 : At S1x16x64x128 .f32) ![(.of main_while1b_v42 : At S_ .i32), (.of main_while1b_call23_c : At S_ .i32), (.of main_while1b_call23_c_0 : At S_ .i32), (.of main_while1b_call23_c_1 : At S_ .i32)] (.of main_while1b_v77 : At S64x16x64x128 .f32) (fun x u i => Host.dynamicUpdateSlice x u (fun k => (i k (Shape.Idx.first h_S_)).toInt) updateFits_S64x16x64x128_S1x16x64x128) ]
theorem back13_sub : Within (back13 : Ops F) :=
  ⟨unary_bufs_sub .., nullary_bufs_sub .., nullary_bufs_sub .., nullary_bufs_sub .., binaryIndexed_bufs_sub ..⟩
abbrev back13_W : List (Ref sig .tc) := [main_while1b_call23_v0, main_while1b_call23_c, main_while1b_call23_c_0, main_while1b_call23_c_1, main_while1b_v77]
theorem back13_writes : WritesIn (back13 : Ops F) back13_W :=
  forall_writes_sub_of_map rfl

/-- Operations of the backward loop's body. -/
abbrev back14 : Ops F :=
  [ TRef.unary (.of main_while1b_v64 : At S16x64x64 .f32) (.of main_while1b_call24_v0 : At S1x16x64x64 .f32) (broadcastInDim S1x16x64x64 ![1, 2, 3] bcast_S16x64x64_S1x16x64x64_1_2_3),
    TRef.nullary (.of main_while1b_call24_c : At S_ .i32) (constantI S_ 32 0#32),
    TRef.nullary (.of main_while1b_call24_c_0 : At S_ .i32) (constantI S_ 32 0#32),
    TRef.nullary (.of main_while1b_call24_c_1 : At S_ .i32) (constantI S_ 32 0#32),
    TRef.binaryIndexed (.of main_v29_14 : At S64x16x64x64 .f32) (.of main_while1b_call24_v0 : At S1x16x64x64 .f32) ![(.of main_while1b_v42 : At S_ .i32), (.of main_while1b_call24_c : At S_ .i32), (.of main_while1b_call24_c_0 : At S_ .i32), (.of main_while1b_call24_c_1 : At S_ .i32)] (.of main_while1b_v78 : At S64x16x64x64 .f32) (fun x u i => Host.dynamicUpdateSlice x u (fun k => (i k (Shape.Idx.first h_S_)).toInt) updateFits_S64x16x64x64_S1x16x64x64) ]
theorem back14_sub : Within (back14 : Ops F) :=
  ⟨unary_bufs_sub .., nullary_bufs_sub .., nullary_bufs_sub .., nullary_bufs_sub .., binaryIndexed_bufs_sub ..⟩
abbrev back14_W : List (Ref sig .tc) := [main_while1b_call24_v0, main_while1b_call24_c, main_while1b_call24_c_0, main_while1b_call24_c_1, main_while1b_v78]
theorem back14_writes : WritesIn (back14 : Ops F) back14_W :=
  forall_writes_sub_of_map rfl

/-- Operations of the backward loop's body. -/
abbrev back15 : Ops F :=
  [ TRef.unary (.of main_while1b_v60 : At S16 .f32) (.of main_while1b_call25_v0 : At S1x16 .f32) (broadcastInDim S1x16 ![1] bcast_S16_S1x16_1),
    TRef.nullary (.of main_while1b_call25_c : At S_ .i32) (constantI S_ 32 0#32),
    TRef.binaryIndexed (.of main_v29_15 : At S64x16 .f32) (.of main_while1b_call25_v0 : At S1x16 .f32) ![(.of main_while1b_v42 : At S_ .i32), (.of main_while1b_call25_c : At S_ .i32)] (.of main_while1b_v79 : At S64x16 .f32) (fun x u i => Host.dynamicUpdateSlice x u (fun k => (i k (Shape.Idx.first h_S_)).toInt) updateFits_S64x16_S1x16) ]
theorem back15_sub : Within (back15 : Ops F) :=
  ⟨unary_bufs_sub .., nullary_bufs_sub .., binaryIndexed_bufs_sub ..⟩
abbrev back15_W : List (Ref sig .tc) := [main_while1b_call25_v0, main_while1b_call25_c, main_while1b_v79]
theorem back15_writes : WritesIn (back15 : Ops F) back15_W :=
  forall_writes_sub_of_map rfl

/-- Operations of the backward loop's body. -/
abbrev back16 : Ops F :=
  [ nullary main_while1b_c_34 (constantI S_ 32 1#32),
    binary main_v29_8 main_while1b_c_34 main_while1b_v80 (addi : Cont F S_ .i32 → Cont F S_ .i32 → Cont F S_ .i32),
    unary main_while1b_v80 main_v29_8 id,
    unary main_while1b_v72 main_v29_9 id,
    unary main_while1b_v74 main_v29_10 id,
    unary main_while1b_v75 main_v29_11 id,
    unary main_while1b_v76 main_v29_12 id,
    unary main_while1b_v77 main_v29_13 id,
    unary main_while1b_v78 main_v29_14 id,
    unary main_while1b_v79 main_v29_15 id ]
theorem back16_sub : Within (back16 : Ops F) :=
  ⟨nullary_bufs_sub .., binary_bufs_sub .., unary_bufs_sub .., unary_bufs_sub .., unary_bufs_sub .., unary_bufs_sub .., unary_bufs_sub .., unary_bufs_sub .., unary_bufs_sub .., unary_bufs_sub ..⟩
abbrev back16_W : List (Ref sig .tc) := [main_while1b_c_34, main_while1b_v80, main_v29_8, main_v29_9, main_v29_10, main_v29_11, main_v29_12, main_v29_13, main_v29_14, main_v29_15]
theorem back16_writes : WritesIn (back16 : Ops F) back16_W :=
  forall_writes_sub_of_map rfl

/-- Operations of the forward loop's condition. -/
abbrev condF : Ops F :=
  [ nullary main_while0c_c_26 (constantI S_ 32 64#32),
    binary main_v16_6 main_while0c_c_26 main_while0c_v41 (cmpi .slt : Cont F S_ .i32 → Cont F S_ .i32 → Cont F S_ .i1) ]
theorem condF_sub : Within (condF : Ops F) :=
  ⟨nullary_bufs_sub .., binary_bufs_sub ..⟩
abbrev condF_W : List (Ref sig .tc) := [main_while0c_c_26, main_while0c_v41]
theorem condF_writes : WritesIn (condF : Ops F) condF_W :=
  forall_writes_sub_of_map rfl

/-- Operations of the backward loop's condition. -/
abbrev condB : Ops F :=
  [ nullary main_while1c_c_30 (constantI S_ 32 64#32),
    binary main_v29_8 main_while1c_c_30 main_while1c_v41 (cmpi .slt : Cont F S_ .i32 → Cont F S_ .i32 → Cont F S_ .i1) ]
theorem condB_sub : Within (condB : Ops F) :=
  ⟨nullary_bufs_sub .., binary_bufs_sub ..⟩
abbrev condB_W : List (Ref sig .tc) := [main_while1c_c_30, main_while1c_v41]
theorem condB_writes : WritesIn (condB : Ops F) condB_W :=
  forall_writes_sub_of_map rfl

/-- The stretches before the first loop. -/
abbrev preI : List (Ops F) := [pre0, pre1, pre2, pre3, pre4]
theorem preI_plain : Plain (preI : List (Ops F)) :=
  .cons pre0_sub (.cons pre1_sub (.cons pre2_sub (.cons pre3_sub (.cons pre4_sub .nil))))

/-- The stretches between the loops. -/
abbrev midI : List (Ops F) := [mid0]
theorem midI_plain : Plain (midI : List (Ops F)) :=
  .cons mid0_sub .nil

/-- The stretches after the second loop. -/
abbrev postI : List (Ops F) := [post0, post1, post2]
theorem postI_plain : Plain (postI : List (Ops F)) :=
  .cons post0_sub (.cons post1_sub (.cons post2_sub .nil))

/-- The stretches of the forward loop's body. -/
abbrev fwdI : List (Ops F) := [fwd0, fwd1, fwd2, fwd3, fwd4, fwd5, fwd6, fwd7, fwd8, fwd9, fwd10, fwd11]
theorem fwdI_plain : Plain (fwdI : List (Ops F)) :=
  .cons fwd0_sub (.cons fwd1_sub (.cons fwd2_sub (.cons fwd3_sub (.cons fwd4_sub (.cons fwd5_sub (.cons fwd6_sub (.cons fwd7_sub (.cons fwd8_sub (.cons fwd9_sub (.cons fwd10_sub (.cons fwd11_sub .nil)))))))))))

/-- The stretches of the backward loop's body. -/
abbrev backI : List (Ops F) := [back0, back1, back2, back3, back4, back5, back6, back7, back8, back9, back10, back11, back12, back13, back14, back15, back16]
theorem backI_plain : Plain (backI : List (Ops F)) :=
  .cons back0_sub (.cons back1_sub (.cons back2_sub (.cons back3_sub (.cons back4_sub (.cons back5_sub (.cons back6_sub (.cons back7_sub (.cons back8_sub (.cons back9_sub (.cons back10_sub (.cons back11_sub (.cons back12_sub (.cons back13_sub (.cons back14_sub (.cons back15_sub (.cons back16_sub .nil))))))))))))))))

end Cert.ReferenceIdeal.Scan

end
-- ==== Proof.RefRun.lean ====
module

public import proofs.«01_k».proof.Proof.RefLists
public import Idealize.ShloMosaic.Lib.Scf.Counter
public import Idealize.ShloMosaic.Lib.Scf.ExitTest
public import Idealize.ShloMosaic.Lib.StableHlo.RunLoop
public import Idealize.ShloMosaic.Adequacy
public import Idealize.ShloMosaic.Init

/-!
The run of the reference: the stretch before its loops, sixty-four trips forwards over the chunks, the stretch between,
sixty-four trips backwards, and the stretch after. `final m c` is what core `c`'s buffers hold at the end.
-/

@[expose] public section

noncomputable section

namespace Cert.ReferenceIdeal.Scan

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.StableHlo
open Idealize.ShloMosaic.Pipeline (CSeg Ticket PCfg ucRefs sub_ucRefs)
open Cert.ReferenceIdeal Cert.ReferenceIdeal.Gen

variable {F : FTy → Type} [FloatOps F]

/-! ## The program as the chain of its stretches -/

abbrev items (l : List (List (HloOp τ sig (Elt F)))) :
    List (Prog (TpuEff nD τ sig (Elt F) (HostLoop.Sig (Pipeline.Sig Λ₀ (Fin 0) fun p => (pcfgs (F := F) p).Adm) 2) .tc) PUnit) :=
  l.map fun ops => (seq ops : Prog _ PUnit)

theorem main_chain (c : Dev nD) : main (F := F) c
    = Pipeline.chain (items preI ++ HostLoop.enter 0 :: (items midI ++ HostLoop.enter 1 :: items postI)) := by
  simp only [items, preI, midI, postI, List.map_cons, List.map_nil, List.cons_append, List.nil_append]
  rewrite [StableHlo.chain_seq_cons, StableHlo.chain_seq_cons, StableHlo.chain_seq_cons, StableHlo.chain_seq_cons, StableHlo.chain_seq_cons, Pipeline.chain_cons, StableHlo.chain_seq_cons, Pipeline.chain_cons, StableHlo.chain_seq_cons, StableHlo.chain_seq_cons, StableHlo.chain_seq_cons]
  chain_rfl

theorem fwd_chain : main_while0_body (F := F) = Pipeline.chain (items fwdI) := by
  simp only [items, fwdI, List.map_cons, List.map_nil]
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem back_chain : main_while1_body (F := F) = Pipeline.chain (items backI) := by
  simp only [items, backI, List.map_cons, List.map_nil]
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

/-! ## What the stretches write -/

/-- What each stretch of a list writes. -/
abbrev Writes (l : List (Ops F)) (w : List (List (Ref sig .tc))) : Prop :=
  List.Forall₂ WritesIn l w

theorem afterL_keeps (r : Ref sig .tc) : ∀ {l : List (Ops F)} {w : List (List (Ref sig .tc))}, Writes l w → r ∉ w.flatten →
    ∀ V : Valuation τ sig (Elt F), afterL l V (Proc.devRef .tc r) = V (Proc.devRef .tc r)
  | [], [], _, _, _ => rfl
  | ops :: _, _ :: _, .cons h hs, hr, V => by
    rw [List.flatten_cons, List.mem_append, not_or] at hr
    exact (afterL_keeps r hs hr.2 _).trans (after_of_writes_sub ops V h hr.1)

/-- The stretches of a trip, its test first, and what they write. -/
abbrev fwdL : List (Ops F) := condF :: fwdI
abbrev fwdW : List (List (Ref sig .tc)) := [condF_W, fwd0_W, fwd1_W, fwd2_W, fwd3_W, fwd4_W, fwd5_W, fwd6_W, fwd7_W, fwd8_W, fwd9_W, fwd10_W, fwd11_W]
theorem fwdL_writes : Writes (fwdL : List (Ops F)) fwdW :=
  .cons condF_writes (.cons fwd0_writes (.cons fwd1_writes (.cons fwd2_writes (.cons fwd3_writes (.cons fwd4_writes (.cons fwd5_writes (.cons fwd6_writes
    (.cons fwd7_writes (.cons fwd8_writes (.cons fwd9_writes (.cons fwd10_writes (.cons fwd11_writes .nil))))))))))))

/-- The stretches of a trip, its test first, and what they write. -/
abbrev backL : List (Ops F) := condB :: backI
abbrev backW : List (List (Ref sig .tc)) := [condB_W, back0_W, back1_W, back2_W, back3_W, back4_W, back5_W, back6_W, back7_W, back8_W, back9_W, back10_W, back11_W, back12_W, back13_W, back14_W, back15_W, back16_W]
theorem backL_writes : Writes (backL : List (Ops F)) backW :=
  .cons condB_writes (.cons back0_writes (.cons back1_writes (.cons back2_writes (.cons back3_writes (.cons back4_writes (.cons back5_writes (.cons back6_writes (.cons back7_writes (.cons back8_writes (.cons back9_writes (.cons back10_writes (.cons back11_writes (.cons back12_writes (.cons back13_writes (.cons back14_writes (.cons back15_writes (.cons back16_writes .nil)))))))))))))))))

abbrev preW : List (List (Ref sig .tc)) := [pre0_W, pre1_W, pre2_W, pre3_W, pre4_W]
theorem preI_writes : Writes (preI : List (Ops F)) preW :=
  .cons pre0_writes (.cons pre1_writes (.cons pre2_writes (.cons pre3_writes (.cons pre4_writes .nil))))

theorem midI_writes : Writes (midI : List (Ops F)) [mid0_W] := .cons mid0_writes .nil

abbrev postW : List (List (Ref sig .tc)) := [post0_W, post1_W, post2_W]
theorem postI_writes : Writes (postI : List (Ops F)) postW := .cons post0_writes (.cons post1_writes (.cons post2_writes .nil))

theorem afterL_append : ∀ (l l' : List (Ops F)) (V : Valuation τ sig (Elt F)), afterL (l ++ l') V = afterL l' (afterL l V)
  | [], _, _ => rfl
  | ops :: l, l', V => afterL_append l l' (after ops V)

/-! ## The two trip counters -/

theorem fwd11_ctr (V : Valuation τ sig (Elt F)) (x : BitVec 32) (h : V (Proc.devRef .tc main_v16_6) = fun _ => x) :
    after fwd11 V (Proc.devRef .tc main_v16_6) = fun _ => x + 1#32 := by
  after_results
  rw [h]
  rfl

theorem condF_ctr (V : Valuation τ sig (Elt F)) : after condF V (Proc.devRef .tc main_v16_6) = V (Proc.devRef .tc main_v16_6) :=
  after_of_writes_sub condF V condF_writes (by decide +kernel)

theorem fwd_ctr (W : Dev nD → Valuation τ sig (Elt F)) (c : Dev nD) (h : W c (Proc.devRef .tc main_v16_6) = fun _ => 0#32) :
    ∀ k, atTrip condF fwdI W k c (Proc.devRef .tc main_v16_6) = fun _ => Scf.iv 0#32 1#32 k
  | 0 => by rw [atTrip_zero, h, Scf.iv_zero]
  | k + 1 => by
    rw [atTrip_succ]
    rw [show (fwdI : List (Ops F)) = fwdI.take 11 ++ [fwd11] from rfl, afterL_append, afterL_cons, afterL_nil]
    exact (fwd11_ctr _ (Scf.iv 0#32 1#32 k) ((afterL_keeps main_v16_6 (List.forall₂_take 11 (List.forall₂_drop 1 fwdL_writes)) (by decide +kernel) _).trans
      ((condF_ctr _).trans (fwd_ctr W c h k)))).trans (by rw [Scf.iv_succ])

theorem back16_ctr (V : Valuation τ sig (Elt F)) (x : BitVec 32) (h : V (Proc.devRef .tc main_v29_8) = fun _ => x) :
    after back16 V (Proc.devRef .tc main_v29_8) = fun _ => x + 1#32 := by
  after_results
  rw [h]
  rfl

theorem condB_ctr (V : Valuation τ sig (Elt F)) : after condB V (Proc.devRef .tc main_v29_8) = V (Proc.devRef .tc main_v29_8) :=
  after_of_writes_sub condB V condB_writes (by decide +kernel)

theorem back_ctr (W : Dev nD → Valuation τ sig (Elt F)) (c : Dev nD) (h : W c (Proc.devRef .tc main_v29_8) = fun _ => 0#32) :
    ∀ k, atTrip condB backI W k c (Proc.devRef .tc main_v29_8) = fun _ => Scf.iv 0#32 1#32 k
  | 0 => by rw [atTrip_zero, h, Scf.iv_zero]
  | k + 1 => by
    rw [atTrip_succ]
    rw [show (backI : List (Ops F)) = backI.take 16 ++ [back16] from rfl, afterL_append, afterL_cons, afterL_nil]
    exact (back16_ctr _ (Scf.iv 0#32 1#32 k) ((afterL_keeps main_v29_8 (List.forall₂_take 16 (List.forall₂_drop 1 backL_writes)) (by decide +kernel) _).trans
      ((condB_ctr _).trans (back_ctr W c h k)))).trans (by rw [Scf.iv_succ])

/-! ## What every buffer holds along the run -/

section

variable (m : (ℓ : Loc nD τ sig) → Buf (Elt F) ℓ)

/-- Before the forward loop. -/
abbrev start (c : Dev nD) : Valuation τ sig (Elt F) := afterL preI (launchContents m c)
/-- Before the backward loop. -/
abbrev turn (c : Dev nD) : Valuation τ sig (Elt F) := afterL midI (after condF (atTrip condF fwdI (start m) 64 c))
/-- At the end. -/
abbrev final (c : Dev nD) : Valuation τ sig (Elt F) := afterL postI (after condB (atTrip condB backI (turn m) 64 c))

theorem start_ctr (c : Dev nD) : start m c (Proc.devRef .tc main_v16_6) = fun _ => 0#32 := by
  simp only [start, preI, afterL_cons, afterL_nil]
  after_results
  rfl

theorem turn_ctr (c : Dev nD) : turn m c (Proc.devRef .tc main_v29_8) = fun _ => 0#32 := by
  simp only [turn, midI, afterL_cons, afterL_nil]
  after_results
  rfl

theorem atTrip_keep (r : Ref sig .tc) (cond : List (HloOp τ sig (Elt F))) (l : List (List (HloOp τ sig (Elt F))))
    (W : Dev nD → Valuation τ sig (Elt F)) (c : Dev nD)
    (hc : ∀ V : Valuation τ sig (Elt F), after cond V (Proc.devRef .tc r) = V (Proc.devRef .tc r))
    (h : ∀ V : Valuation τ sig (Elt F), afterL l V (Proc.devRef .tc r) = V (Proc.devRef .tc r)) :
    ∀ k, atTrip cond l W k c (Proc.devRef .tc r) = W c (Proc.devRef .tc r)
  | 0 => rfl
  | k + 1 => (h _).trans ((hc _).trans (atTrip_keep r cond l W c hc h k))

theorem fwd_kept (W : Dev nD → Valuation τ sig (Elt F)) (c : Dev nD) (r : Ref sig .tc) (h : r ∉ condF_W) (h' : r ∉ (fwdW.drop 1).flatten) :
    after condF (atTrip condF fwdI W 64 c) (Proc.devRef .tc r) = W c (Proc.devRef .tc r) :=
  (after_of_writes_sub condF _ condF_writes h).trans (atTrip_keep r condF fwdI W c (fun V => after_of_writes_sub condF V condF_writes h)
    (fun V => afterL_keeps r (List.forall₂_drop 1 fwdL_writes) h' V) 64)

theorem back_kept (W : Dev nD → Valuation τ sig (Elt F)) (c : Dev nD) (r : Ref sig .tc) (h : r ∉ condB_W) (h' : r ∉ (backW.drop 1).flatten) :
    after condB (atTrip condB backI W 64 c) (Proc.devRef .tc r) = W c (Proc.devRef .tc r) :=
  (after_of_writes_sub condB _ condB_writes h).trans (atTrip_keep r condB backI W c (fun V => after_of_writes_sub condB V condB_writes h)
    (fun V => afterL_keeps r (List.forall₂_drop 1 backL_writes) h' V) 64)

/-- A reference no operation of the program writes holds its launch contents at the end. -/
theorem final_keep (c : Dev nD) (r : Ref sig .tc) (hpre : r ∉ preW.flatten := by decide +kernel) (hF : r ∉ condF_W := by decide +kernel)
    (hfwd : r ∉ (fwdW.drop 1).flatten := by decide +kernel) (hmid : r ∉ [mid0_W].flatten := by decide +kernel) (hB : r ∉ condB_W := by decide +kernel)
    (hback : r ∉ (backW.drop 1).flatten := by decide +kernel) (hpost : r ∉ postW.flatten := by decide +kernel) :
    final m c (Proc.devRef .tc r) = m ((c.tc : Thread nD τ).loc r) :=
  (afterL_keeps r postI_writes hpost _).trans ((back_kept (turn m) c r hB hback).trans ((afterL_keeps r midI_writes hmid _).trans
    ((fwd_kept (start m) c r hF hfwd).trans (afterL_keeps r preI_writes hpre _))))

end

/-! ## The conditions of the two loops -/

-- the ghost state carries nothing: no kernel runs
local notation "𝕄" => MT nD τ sig Unit (Elt F) ℕ (Option PUnit) ℕ

/-- Carried beside the buffers: the core's debts, none. -/
abbrev Owed (c : Dev nD) : sProp 𝕄 := iprop(∃ W, owes (c : Thread nD τ) (0 : CellTallies nD τ sig Unit) W)

set_option backward.isDefEq.respectTransparency.types false in
/-- The forward loop goes on exactly sixty-four times. -/
theorem condF_spec (W : Dev nD → Valuation τ sig (Elt F)) (h : ∀ c, W c (Proc.devRef .tc main_v16_6) = fun _ => 0#32) :
    LoopCond (pcfgs (F := F)) defs₀ Variants.none loops (Owed (F := F)) (main_while0_cond (F := F)) condF fwdI W 64 := by
  intro k hk c bd
  have hctr := fwd_ctr W c (h c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condF fwdI W k c) main_v16_6 HostLoop.idx0)
      (HloOp.result _ (atTrip condF fwdI W k c) main_while0c_c_26 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

set_option backward.isDefEq.respectTransparency.types false in
/-- The backward loop goes on exactly sixty-four times. -/
theorem condB_spec (W : Dev nD → Valuation τ sig (Elt F)) (h : ∀ c, W c (Proc.devRef .tc main_v29_8) = fun _ => 0#32) :
    LoopCond (pcfgs (F := F)) defs₀ Variants.none loops (Owed (F := F)) (main_while1_cond (F := F)) condB backI W 64 := by
  intro k hk c bd
  have hctr := back_ctr W c (h c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condB backI W k c) main_v29_8 HostLoop.idx0)
      (HloOp.result _ (atTrip condB backI W k c) main_while1c_c_30 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

/-! ## The run -/

abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm :=
  fun j => j.elim0
abbrev noL : GSem nD τ sig → Finset Unit := fun _ => ∅
abbrev noLv : GSem nD τ sig → Unit → ℕ := fun _ _ => 0

section

variable (m : (ℓ : Loc nD τ sig) → Buf (Elt F) ℓ) (ρ : Dev nD → PrngReg)

/-- The forward loop as one segment of the run. -/
abbrev fwdSeg : CSeg (pcfgs (F := F)) noAdm defs₀ Variants.none noL noLv loops noTk :=
  loopSeg (pcfgs (F := F)) noAdm defs₀ Variants.none noL noLv loops noTk 0 main_while0_cond main_while0_body rfl condF fwdI
    fwdI_plain fwd_chain 64 (start m) Owed (condF_spec (start m) (start_ctr m))

/-- The backward loop as one segment of the run. -/
abbrev backSeg : CSeg (pcfgs (F := F)) noAdm defs₀ Variants.none noL noLv loops noTk :=
  loopSeg (pcfgs (F := F)) noAdm defs₀ Variants.none noL noLv loops noTk 1 main_while1_cond main_while1_body rfl condB backI
    backI_plain back_chain 64 (turn m) Owed (condB_spec (turn m) (turn_ctr m))

/-- The whole run's segments. -/
def wholeSegs : List (CSeg (pcfgs (F := F)) noAdm defs₀ Variants.none noL noLv loops noTk) :=
  segsOf _ _ _ _ _ _ _ _ Owed preI preI_plain (launchContents m)
    ++ fwdSeg m :: (segsOf _ _ _ _ _ _ _ _ Owed midI midI_plain (fun c => after condF (atTrip condF fwdI (start m) 64 c))
      ++ backSeg m :: segsOf _ _ _ _ _ _ _ _ Owed postI postI_plain (fun c => after condB (atTrip condB backI (turn m) 64 c)))

theorem wholeSegs_prog : (wholeSegs m).map CSeg.prog
    = items preI ++ HostLoop.enter 0 :: (items midI ++ HostLoop.enter 1 :: items postI) := by
  unfold wholeSegs
  rw [List.map_append, List.map_cons, List.map_append, List.map_cons, segsOf_prog, segsOf_prog, segsOf_prog]
  rfl

theorem wholeSegs_chains : CSeg.Chains
    (fun c => iprop(held (c : Thread nD τ) (ucRefs τ sig) (launchContents m c) ∗ Owed c)) (wholeSegs m)
    (fun c => iprop(held (c : Thread nD τ) (ucRefs τ sig) (final m c) ∗ ∃ W, owes (c : Thread nD τ) (0 : CellTallies nD τ sig Unit) W)) := by
  unfold wholeSegs
  exact CSeg.Chains.append (segsOf_chains _ _ _ _ _ _ _ _ Owed preI preI_plain _)
    ⟨fun _ => .rfl, CSeg.Chains.append (segsOf_chains _ _ _ _ _ _ _ _ Owed midI midI_plain _)
      ⟨fun _ => .rfl, segsOf_chains _ _ _ _ _ _ _ _ Owed postI postI_plain _⟩⟩

/-- How the run ends. -/
def Ends (r : PUnit × MemSt nD τ sig (Elt F)) : Prop :=
  (∀ (c : Dev nD) (b : Ref sig .tc), (Proc.devRef .tc b : DevRef τ sig).isScoped = false →
    r.2.mem ((c.tc : Thread nD τ).loc b) = final m c (Proc.devRef .tc b)) ∧ r.2.sem = fun _ => 0

set_option maxRecDepth 100000 in
theorem run_main : θ_run (defs (F := F)) (onTc (τ := τ) (main (F := F))) ⟨m, fun _ => 0, ρ⟩ (Ends m) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (wholeSegs m)
    (fun c Q => by
      rw [main_chain c]
      show wp _ _ _ (Pipeline.chain ((wholeSegs m).map CSeg.prog)) Q ⊢ _
      rw [wholeSegs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owed c))
    (Tₙ := fun c => iprop(held (c : Thread nD τ) (ucRefs τ sig) (final m c)))
    (hch := wholeSegs_chains m)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), by
      funext g
      exact hs g (by
        obtain ⟨⟨d, p⟩, sm⟩ := g
        by_cases hp : p = .tc
        · subst hp
          exact Or.inr (show sm.isScoped .tc = true from by revert sm; decide)
        · exact Or.inl hp)⟩)

theorem final_arg0 (c : Dev nD) : final m c (Proc.devRef .tc main_arg0) = m ((c.tc : Thread nD τ).loc main_arg0) := final_keep m c main_arg0
theorem final_arg1 (c : Dev nD) : final m c (Proc.devRef .tc main_arg1) = m ((c.tc : Thread nD τ).loc main_arg1) := final_keep m c main_arg1
theorem final_arg2 (c : Dev nD) : final m c (Proc.devRef .tc main_arg2) = m ((c.tc : Thread nD τ).loc main_arg2) := final_keep m c main_arg2
theorem final_arg3 (c : Dev nD) : final m c (Proc.devRef .tc main_arg3) = m ((c.tc : Thread nD τ).loc main_arg3) := final_keep m c main_arg3
theorem final_arg4 (c : Dev nD) : final m c (Proc.devRef .tc main_arg4) = m ((c.tc : Thread nD τ).loc main_arg4) := final_keep m c main_arg4
theorem final_arg5 (c : Dev nD) : final m c (Proc.devRef .tc main_arg5) = m ((c.tc : Thread nD τ).loc main_arg5) := final_keep m c main_arg5
theorem final_arg6 (c : Dev nD) : final m c (Proc.devRef .tc main_arg6) = m ((c.tc : Thread nD τ).loc main_arg6) := final_keep m c main_arg6

end

end Cert.ReferenceIdeal.Scan

end
-- ==== Proof.ScanPay.lean ====
/- What the vector code of one head computes from the blocks it reads, element by element over the extended reals: the
   forward step's new values and next state, and the backward step's five gradients and next adjoint state. -/
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.KernelIdeal.Scan

open Cert.KernelIdeal.Gen
open Idealize.ShloMosaic Idealize.ShloMosaic.TcCoe

theorem pay_saved (s : Vec Ideal S1x128x128 .f32) (j : S1x1x128x128.Idx) :
    k0_pay3 (F := Ideal) s j = (s (ix3 0 (j 2) (j 3)) : EReal) := by
  pointwise [k0_pay3]

theorem pay_vnew (u : Vec Ideal S64x128 .f32) (w : Vec Ideal S64x128 .bf16) (s : Vec Ideal S1x128x128 .f32) (j : S64x128.Idx) :
    k0_pay4 (F := Ideal) u w s j = (u j : EReal) - ∑ k : Fin 128, (w (ix2 (j 0) k) : EReal) * s (ix3 0 k (j 1)) := by
  pointwise [k0_pay4]

theorem pay_state (s : Vec Ideal S1x128x128 .f32) (d : Vec Ideal S1x1x1x128 .f32) (k v : Vec Ideal S64x128 .bf16) (j : S1x128x128.Idx) :
    k0_pay65 (F := Ideal) s d k v j = (s j : EReal) * d (ix4 0 0 0 (j 2))
      + ∑ r : Fin 64, (k (ix2 r (j 1)) : EReal) * v (ix2 r (j 2)) := by
  pointwise [k0_pay65]

theorem pay_dqd (a : Vec Ideal S64x128 .f32) (s : Vec Ideal S1x1x128x128 .f32) (j : S64x128.Idx) :
    k1_pay4 (F := Ideal) a s j = ∑ k : Fin 128, (a (ix2 (j 0) k) : EReal) * s (ix4 0 0 (j 1) k) := by
  pointwise [k1_pay4, k1_pay3]

theorem pay_dkd (s : Vec Ideal S1x128x128 .f32) (v : Vec Ideal S64x128 .bf16) (j : S64x128.Idx) :
    k1_pay58 (F := Ideal) s v j = ∑ k : Fin 128, (v (ix2 (j 0) k) : EReal) * s (ix3 0 (j 1) k) := by
  pointwise [k1_pay58, k1_pay57]

theorem pay_du (a : Vec Ideal S1x1x64x64 .bf16) (d : Vec Ideal S64x128 .f32) (k : Vec Ideal S64x128 .bf16) (s : Vec Ideal S1x128x128 .f32)
    (j : S64x128.Idx) :
    k1_pay138 (F := Ideal) a d k s j = ∑ r : Fin 64, (a (ix4 0 0 r (j 0)) : EReal) * d (ix2 r (j 1))
      + ∑ i : Fin 128, (k (ix2 (j 0) i) : EReal) * s (ix3 0 i (j 1)) := by
  pointwise [k1_pay138]

theorem pay_dw (d : Vec Ideal S64x128 .f32) (s : Vec Ideal S1x1x128x128 .f32) (j : S64x128.Idx) :
    k1_pay139 (F := Ideal) d s j = 0 - ∑ k : Fin 128, (d (ix2 (j 0) k) : EReal) * s (ix4 0 0 (j 1) k) := by
  pointwise [k1_pay139]

theorem pay_dstate (s : Vec Ideal S1x128x128 .f32) (d : Vec Ideal S1x1x1x128 .f32) (q : Vec Ideal S64x128 .bf16) (a : Vec Ideal S64x128 .f32)
    (w : Vec Ideal S64x128 .bf16) (u : Vec Ideal S64x128 .f32) (j : S1x128x128.Idx) :
    k1_pay159 (F := Ideal) s d q a w u j = (s j : EReal) * d (ix4 0 0 0 (j 2))
      + ∑ r : Fin 64, (q (ix2 r (j 1)) : EReal) * a (ix2 r (j 2)) - ∑ r : Fin 64, (w (ix2 r (j 1)) : EReal) * u (ix2 r (j 2)) := by
  pointwise [k1_pay159]

theorem pay_dcd (s : Vec Ideal S1x128x128 .f32) (f : Vec Ideal S1x1x128x128 .f32) (j : S1x1x1x128.Idx) :
    k1_pay63 (F := Ideal) s f j = ∑ i : Fin 128, ∑ k : Fin 128, (f (ix4 0 0 i k) : EReal) * s (ix3 0 i k) := by
  pointwise [k1_pay63, k1_pay61]

/-- Of two positions in a chunk, the comparison's bit. -/
theorem at_or_after (r c : Fin 64) :
    IntOp.cmpi CmpIPredicate.sge (BitVec.ofNat 32 r.val) (BitVec.ofNat 32 c.val) = if c.val ≤ r.val then 1#1 else 0#1 := by
  revert r c
  decide +kernel

theorem pay_dattn (a : Vec Ideal S64x128 .f32) (v : Vec Ideal S64x128 .bf16) (j : S1x1x64x64.Idx) :
    k1_pay5 (F := Ideal) a v j = if (j 3).val ≤ (j 2).val then ∑ k : Fin 128, (a (ix2 (j 2) k) : EReal) * v (ix2 (j 3) k) else 0 := by
  pointwise [k1_pay5, k1_pay3]
  rw [at_or_after (j 2) (j 3)]
  by_cases h : (j 3).val ≤ (j 2).val
  · rw [if_pos h, if_pos h]
    rfl
  · rw [if_neg h, if_neg h]
    rfl

end Cert.KernelIdeal.Scan
-- ==== Proof.ScanHeads.lean ====
/- One chunk of the forward and of the backward scan as plain sums over whole blocks, and every head's stored block as the
   part of those sums that the head owns. Columns of a chunk are numbered head by head. -/
module

public import proofs.«01_k».proof.Proof.ScanPay
public import Idealize.ShloMosaic.Lib.Pipeline.Value
public import Idealize.ShloMosaic.Lib.Pipeline.ReadBack

@[expose] public section

set_option maxRecDepth 16384

noncomputable section

namespace Cert.KernelIdeal.Scan

open Cert.KernelIdeal.Gen
open Idealize.ShloMosaic Idealize.ShloMosaic.TcCoe

/-- Column `k` of head `h`, among all columns. -/
def cl (h : Fin 16) (k : Fin 128) : Fin 2048 := ⟨128 * h.val + k.val, by omega⟩
/-- The head of a column. -/
def hd (y : Fin 2048) : Fin 16 := ⟨y.val / 128, by omega⟩
/-- A column's number in its head. -/
def ln (y : Fin 2048) : Fin 128 := ⟨y.val % 128, by omega⟩

theorem hd_cl (h : Fin 16) (k : Fin 128) : hd (cl h k) = h := Fin.ext (by show (128 * h.val + k.val) / 128 = h.val; omega)
theorem ln_cl (h : Fin 16) (k : Fin 128) : ln (cl h k) = k := Fin.ext (by show (128 * h.val + k.val) % 128 = k.val; omega)
theorem cl_hd_ln (y : Fin 2048) : cl (hd y) (ln y) = y := Fin.ext (by show 128 * (y.val / 128) + y.val % 128 = y.val; omega)

/-- The new values of a chunk. -/
def gV (x2 : Vec Ideal S64x2048 .f32) (x3 : Vec Ideal S64x2048 .bf16) (xs : Vec Ideal S16x128x128 .f32) : Vec Ideal S64x2048 .bf16 :=
  fun y => (x2 y : EReal) - ∑ k : Fin 128, (x3 (ix2 (y 0) (cl (hd (y 1)) k)) : EReal) * xs (ix3 (hd (y 1)) k (ln (y 1)))

/-- The saved state of a chunk. -/
def gS (xs : Vec Ideal S16x128x128 .f32) : Vec Ideal S1x16x128x128 .f32 := fun y => (xs (ix3 (y 1) (y 2) (y 3)) : EReal)

/-- The state handed to the next chunk. -/
def gSt (x1 : Vec Ideal S64x2048 .bf16) (v : Vec Ideal S64x2048 .bf16) (x5 : Vec Ideal S1x16x1x128 .f32) (xs : Vec Ideal S16x128x128 .f32) :
    Vec Ideal S16x128x128 .f32 :=
  fun y => (xs y : EReal) * x5 (ix4 0 (y 0) 0 (y 2)) + ∑ r : Fin 64, (x1 (ix2 r (cl (y 0) (y 1))) : EReal) * v (ix2 r (cl (y 0) (y 2)))

def gDqd (x0 : Vec Ideal S64x2048 .f32) (x6 : Vec Ideal S1x16x128x128 .f32) : Vec Ideal S64x2048 .f32 :=
  fun y => ∑ k : Fin 128, (x0 (ix2 (y 0) (cl (hd (y 1)) k)) : EReal) * x6 (ix4 0 (hd (y 1)) (ln (y 1)) k)

def gDkd (x7 : Vec Ideal S64x2048 .bf16) (xs : Vec Ideal S16x128x128 .f32) : Vec Ideal S64x2048 .f32 :=
  fun y => ∑ k : Fin 128, (x7 (ix2 (y 0) (cl (hd (y 1)) k)) : EReal) * xs (ix3 (hd (y 1)) (ln (y 1)) k)

def gDu (x0 : Vec Ideal S64x2048 .f32) (x2 : Vec Ideal S64x2048 .bf16) (x4 : Vec Ideal S1x16x64x64 .bf16) (xs : Vec Ideal S16x128x128 .f32) :
    Vec Ideal S64x2048 .f32 :=
  fun y => ∑ r : Fin 64, (x4 (ix4 0 (hd (y 1)) r (y 0)) : EReal) * x0 (ix2 r (y 1))
    + ∑ i : Fin 128, (x2 (ix2 (y 0) (cl (hd (y 1)) i)) : EReal) * xs (ix3 (hd (y 1)) i (ln (y 1)))

def gDw (du : Vec Ideal S64x2048 .f32) (x6 : Vec Ideal S1x16x128x128 .f32) : Vec Ideal S64x2048 .f32 :=
  fun y => 0 - ∑ k : Fin 128, (du (ix2 (y 0) (cl (hd (y 1)) k)) : EReal) * x6 (ix4 0 (hd (y 1)) (ln (y 1)) k)

def gDa (x0 : Vec Ideal S64x2048 .f32) (x7 : Vec Ideal S64x2048 .bf16) : Vec Ideal S1x16x64x64 .f32 :=
  fun y => if (y 3).val ≤ (y 2).val then ∑ k : Fin 128, (x0 (ix2 (y 2) (cl (y 1) k)) : EReal) * x7 (ix2 (y 3) (cl (y 1) k)) else 0

def gDc (x6 : Vec Ideal S1x16x128x128 .f32) (xs : Vec Ideal S16x128x128 .f32) : Vec Ideal S1x16x1x128 .f32 :=
  fun y => ∑ i : Fin 128, ∑ k : Fin 128, (x6 (ix4 0 (y 1) i k) : EReal) * xs (ix3 (y 1) i k)

/-- The adjoint state handed to the chunk before. -/
def gDS (x0 : Vec Ideal S64x2048 .f32) (x1 x3 : Vec Ideal S64x2048 .bf16) (du : Vec Ideal S64x2048 .f32) (x5 : Vec Ideal S1x16x1x128 .f32)
    (xs : Vec Ideal S16x128x128 .f32) : Vec Ideal S16x128x128 .f32 :=
  fun y => (xs y : EReal) * x5 (ix4 0 (y 0) 0 (y 2)) + ∑ r : Fin 64, (x1 (ix2 r (cl (y 0) (y 1))) : EReal) * x0 (ix2 r (cl (y 0) (y 2)))
    - ∑ r : Fin 64, (x3 (ix2 r (cl (y 0) (y 1))) : EReal) * du (ix2 r (cl (y 0) (y 2)))

/-! The sums at a head's column. -/

theorem gV_at (x2 : Vec Ideal S64x2048 .f32) (x3 : Vec Ideal S64x2048 .bf16) (xs : Vec Ideal S16x128x128 .f32) (r : Fin 64) (h : Fin 16) (k : Fin 128) :
    gV x2 x3 xs (ix2 r (cl h k)) = (x2 (ix2 r (cl h k)) : EReal) - ∑ i : Fin 128, (x3 (ix2 r (cl h i)) : EReal) * xs (ix3 h i k) := by
  show (x2 (ix2 r (cl h k)) : EReal) - ∑ i : Fin 128, (x3 (ix2 r (cl (hd (cl h k)) i)) : EReal) * xs (ix3 (hd (cl h k)) i (ln (cl h k))) = _
  rw [hd_cl, ln_cl]

theorem gDqd_at (x0 : Vec Ideal S64x2048 .f32) (x6 : Vec Ideal S1x16x128x128 .f32) (r : Fin 64) (h : Fin 16) (k : Fin 128) :
    gDqd x0 x6 (ix2 r (cl h k)) = ∑ i : Fin 128, (x0 (ix2 r (cl h i)) : EReal) * x6 (ix4 0 h k i) := by
  show ∑ i : Fin 128, (x0 (ix2 r (cl (hd (cl h k)) i)) : EReal) * x6 (ix4 0 (hd (cl h k)) (ln (cl h k)) i) = _
  rw [hd_cl, ln_cl]

theorem gDkd_at (x7 : Vec Ideal S64x2048 .bf16) (xs : Vec Ideal S16x128x128 .f32) (r : Fin 64) (h : Fin 16) (k : Fin 128) :
    gDkd x7 xs (ix2 r (cl h k)) = ∑ i : Fin 128, (x7 (ix2 r (cl h i)) : EReal) * xs (ix3 h k i) := by
  show ∑ i : Fin 128, (x7 (ix2 r (cl (hd (cl h k)) i)) : EReal) * xs (ix3 (hd (cl h k)) (ln (cl h k)) i) = _
  rw [hd_cl, ln_cl]

theorem gDu_at (x0 : Vec Ideal S64x2048 .f32) (x2 : Vec Ideal S64x2048 .bf16) (x4 : Vec Ideal S1x16x64x64 .bf16) (xs : Vec Ideal S16x128x128 .f32)
    (r : Fin 64) (h : Fin 16) (k : Fin 128) :
    gDu x0 x2 x4 xs (ix2 r (cl h k)) = ∑ i : Fin 64, (x4 (ix4 0 h i r) : EReal) * x0 (ix2 i (cl h k))
      + ∑ i : Fin 128, (x2 (ix2 r (cl h i)) : EReal) * xs (ix3 h i k) := by
  show ∑ i : Fin 64, (x4 (ix4 0 (hd (cl h k)) i r) : EReal) * x0 (ix2 i (cl h k))
      + ∑ i : Fin 128, (x2 (ix2 r (cl (hd (cl h k)) i)) : EReal) * xs (ix3 (hd (cl h k)) i (ln (cl h k))) = _
  rw [hd_cl, ln_cl]

theorem gDw_at (d : Vec Ideal S64x2048 .f32) (x6 : Vec Ideal S1x16x128x128 .f32) (r : Fin 64) (h : Fin 16) (k : Fin 128) :
    gDw d x6 (ix2 r (cl h k)) = 0 - ∑ i : Fin 128, (d (ix2 r (cl h i)) : EReal) * x6 (ix4 0 h k i) := by
  show 0 - ∑ i : Fin 128, (d (ix2 r (cl (hd (cl h k)) i)) : EReal) * x6 (ix4 0 (hd (cl h k)) (ln (cl h k)) i) = _
  rw [hd_cl, ln_cl]

/-! A head's rectangles. -/

section

variable (h : Fin 16) {o n : ℕ} (ho : o = 128 * h.val) (hn : n = h.val)
include ho in
theorem at_cols (inb : ∀ a, (![0, o] : Fin 2 → ℕ) a + S64x128.size a ≤ S64x2048.size a) (x : S64x128.Idx) :
    (Rect.unit (s := S64x2048) ![0, o] S64x128.size inb).emb x = ix2 (x 0) (cl h (x 1)) := by
  subst ho
  funext a
  fin_cases a
  · exact Fin.ext (by show 0 + 1 * (x 0).val = (x 0).val; omega)
  · exact Fin.ext (by show 128 * h.val + 1 * (x 1).val = 128 * h.val + (x 1).val; omega)

include hn in
theorem at_state (inb : ∀ a, (![n, 0, 0] : Fin 3 → ℕ) a + S1x128x128.size a ≤ S16x128x128.size a) (x : S1x128x128.Idx) :
    (Rect.unit (s := S16x128x128) ![n, 0, 0] S1x128x128.size inb).emb x = ix3 h (x 1) (x 2) := by
  subst hn
  have h0 : (x 0).val < 1 := (x 0).isLt
  funext a
  fin_cases a
  · exact Fin.ext (by show h.val + 1 * (x 0).val = h.val; omega)
  · exact Fin.ext (by show 0 + 1 * (x 1).val = (x 1).val; omega)
  · exact Fin.ext (by show 0 + 1 * (x 2).val = (x 2).val; omega)

include hn in
theorem at_saved (inb : ∀ a, (![0, n, 0, 0] : Fin 4 → ℕ) a + S1x1x128x128.size a ≤ S1x16x128x128.size a) (x : S1x1x128x128.Idx) :
    (Rect.unit (s := S1x16x128x128) ![0, n, 0, 0] S1x1x128x128.size inb).emb x = ix4 0 h (x 2) (x 3) := by
  subst hn
  have h0 : (x 0).val < 1 := (x 0).isLt
  have h1 : (x 1).val < 1 := (x 1).isLt
  funext a
  fin_cases a
  · exact Fin.ext (by show 0 + 1 * (x 0).val = 0; omega)
  · exact Fin.ext (by show h.val + 1 * (x 1).val = h.val; omega)
  · exact Fin.ext (by show 0 + 1 * (x 2).val = (x 2).val; omega)
  · exact Fin.ext (by show 0 + 1 * (x 3).val = (x 3).val; omega)

include hn in
theorem at_attn (inb : ∀ a, (![0, n, 0, 0] : Fin 4 → ℕ) a + S1x1x64x64.size a ≤ S1x16x64x64.size a) (x : S1x1x64x64.Idx) :
    (Rect.unit (s := S1x16x64x64) ![0, n, 0, 0] S1x1x64x64.size inb).emb x = ix4 0 h (x 2) (x 3) := by
  subst hn
  have h0 : (x 0).val < 1 := (x 0).isLt
  have h1 : (x 1).val < 1 := (x 1).isLt
  funext a
  fin_cases a
  · exact Fin.ext (by show 0 + 1 * (x 0).val = 0; omega)
  · exact Fin.ext (by show h.val + 1 * (x 1).val = h.val; omega)
  · exact Fin.ext (by show 0 + 1 * (x 2).val = (x 2).val; omega)
  · exact Fin.ext (by show 0 + 1 * (x 3).val = (x 3).val; omega)

include hn in
theorem at_decay (inb : ∀ a, (![0, n, 0, 0] : Fin 4 → ℕ) a + S1x1x1x128.size a ≤ S1x16x1x128.size a) (x : S1x1x1x128.Idx) :
    (Rect.unit (s := S1x16x1x128) ![0, n, 0, 0] S1x1x1x128.size inb).emb x = ix4 0 h 0 (x 3) := by
  subst hn
  have h0 : (x 0).val < 1 := (x 0).isLt
  have h1 : (x 1).val < 1 := (x 1).isLt
  have h2 : (x 2).val < 1 := (x 2).isLt
  funext a
  fin_cases a
  · exact Fin.ext (by show 0 + 1 * (x 0).val = 0; omega)
  · exact Fin.ext (by show h.val + 1 * (x 1).val = h.val; omega)
  · exact Fin.ext (by show 0 + 1 * (x 2).val = 0; omega)
  · exact Fin.ext (by show 0 + 1 * (x 3).val = (x 3).val; omega)

variable (ic : ∀ a, (![0, o] : Fin 2 → ℕ) a + S64x128.size a ≤ S64x2048.size a)
  (is : ∀ a, (![n, 0, 0] : Fin 3 → ℕ) a + S1x128x128.size a ≤ S16x128x128.size a)
  (iv : ∀ a, (![0, n, 0, 0] : Fin 4 → ℕ) a + S1x1x128x128.size a ≤ S1x16x128x128.size a)
  (ia : ∀ a, (![0, n, 0, 0] : Fin 4 → ℕ) a + S1x1x64x64.size a ≤ S1x16x64x64.size a)
  (id : ∀ a, (![0, n, 0, 0] : Fin 4 → ℕ) a + S1x1x1x128.size a ≤ S1x16x1x128.size a)

include ho in
theorem ld_cols {e : EltTy} (X : Vec Ideal S64x2048 e) (x : S64x128.Idx) :
    View.ld X (Rect.unit (s := S64x2048) ![0, o] S64x128.size ic) x = X (ix2 (x 0) (cl h (x 1))) :=
  congrArg X (at_cols h ho ic x)

include hn in
theorem ld_state {e : EltTy} (X : Vec Ideal S16x128x128 e) (x : S1x128x128.Idx) :
    View.ld X (Rect.unit (s := S16x128x128) ![n, 0, 0] S1x128x128.size is) x = X (ix3 h (x 1) (x 2)) :=
  congrArg X (at_state h hn is x)

include hn in
theorem ld_saved {e : EltTy} (X : Vec Ideal S1x16x128x128 e) (x : S1x1x128x128.Idx) :
    View.ld X (Rect.unit (s := S1x16x128x128) ![0, n, 0, 0] S1x1x128x128.size iv) x = X (ix4 0 h (x 2) (x 3)) :=
  congrArg X (at_saved h hn iv x)

include hn in
theorem ld_attn {e : EltTy} (X : Vec Ideal S1x16x64x64 e) (x : S1x1x64x64.Idx) :
    View.ld X (Rect.unit (s := S1x16x64x64) ![0, n, 0, 0] S1x1x64x64.size ia) x = X (ix4 0 h (x 2) (x 3)) :=
  congrArg X (at_attn h hn ia x)

include hn in
theorem ld_decay {e : EltTy} (X : Vec Ideal S1x16x1x128 e) (x : S1x1x1x128.Idx) :
    View.ld X (Rect.unit (s := S1x16x1x128) ![0, n, 0, 0] S1x1x1x128.size id) x = X (ix4 0 h 0 (x 3)) :=
  congrArg X (at_decay h hn id x)

/-! A head's stored blocks. -/

variable {x0 : Vec Ideal S64x2048 .f32} {x1 x2 x3 x7 : Vec Ideal S64x2048 .bf16} {x4 : Vec Ideal S1x16x64x64 .bf16}
  {x5 : Vec Ideal S1x16x1x128 .f32} {x6 : Vec Ideal S1x16x128x128 .f32} {xs : Vec Ideal S16x128x128 .f32} {f d : Vec Ideal S64x2048 .f32}
  {b0 b1 : Vec Ideal S64x128 .f32} {c0 c1 : Vec Ideal S64x128 .bf16} {bs : Vec Ideal S1x128x128 .f32} {bv : Vec Ideal S1x1x128x128 .f32}
  {ba : Vec Ideal S1x1x64x64 .bf16} {bd : Vec Ideal S1x1x1x128 .f32}

include hn in
theorem head_S (hs : bs = View.ld xs (Rect.unit (s := S16x128x128) ![n, 0, 0] S1x128x128.size is)) (x : S1x1x128x128.Idx) :
    k0_pay3 (F := Ideal) bs x = gS xs ((Rect.unit (s := S1x16x128x128) ![0, n, 0, 0] S1x1x128x128.size iv).emb x) := by
  have hs' := fun x => (congrFun hs x).trans (ld_state h hn is xs x)
  rw [pay_saved, at_saved h hn iv]
  simp only [hs']
  rfl

include ho hn in
theorem head_V (h0 : b0 = View.ld f (Rect.unit (s := S64x2048) ![0, o] S64x128.size ic))
    (h1 : c0 = View.ld x3 (Rect.unit (s := S64x2048) ![0, o] S64x128.size ic))
    (hs : bs = View.ld xs (Rect.unit (s := S16x128x128) ![n, 0, 0] S1x128x128.size is)) (x : S64x128.Idx) :
    k0_pay4 (F := Ideal) b0 c0 bs x = gV f x3 xs ((Rect.unit (s := S64x2048) ![0, o] S64x128.size ic).emb x) := by
  have h0' := fun x => (congrFun h0 x).trans (ld_cols h ho ic f x)
  have h1' := fun x => (congrFun h1 x).trans (ld_cols h ho ic x3 x)
  have hs' := fun x => (congrFun hs x).trans (ld_state h hn is xs x)
  rw [pay_vnew, at_cols h ho ic]
  simp only [h0', h1', hs']
  exact (gV_at f x3 xs (x 0) h (x 1)).symm

include ho hn in
theorem head_St (hs : bs = View.ld xs (Rect.unit (s := S16x128x128) ![n, 0, 0] S1x128x128.size is))
    (h1 : bd = View.ld x5 (Rect.unit (s := S1x16x1x128) ![0, n, 0, 0] S1x1x1x128.size id))
    (h2 : c0 = View.ld x1 (Rect.unit (s := S64x2048) ![0, o] S64x128.size ic))
    (h3 : c1 = View.ld x2 (Rect.unit (s := S64x2048) ![0, o] S64x128.size ic)) (x : S1x128x128.Idx) :
    k0_pay65 (F := Ideal) bs bd c0 c1 x = gSt x1 x2 x5 xs ((Rect.unit (s := S16x128x128) ![n, 0, 0] S1x128x128.size is).emb x) := by
  have hs' := fun x => (congrFun hs x).trans (ld_state h hn is xs x)
  have h1' := fun x => (congrFun h1 x).trans (ld_decay h hn id x5 x)
  have h2' := fun x => (congrFun h2 x).trans (ld_cols h ho ic x1 x)
  have h3' := fun x => (congrFun h3 x).trans (ld_cols h ho ic x2 x)
  rw [pay_state, at_state h hn is]
  simp only [hs', h1', h2', h3']
  rfl

include ho hn in
theorem head_Dqd (h0 : b0 = View.ld f (Rect.unit (s := S64x2048) ![0, o] S64x128.size ic))
    (h1 : bv = View.ld x6 (Rect.unit (s := S1x16x128x128) ![0, n, 0, 0] S1x1x128x128.size iv)) (x : S64x128.Idx) :
    k1_pay4 (F := Ideal) b0 bv x = gDqd f x6 ((Rect.unit (s := S64x2048) ![0, o] S64x128.size ic).emb x) := by
  have h0' := fun x => (congrFun h0 x).trans (ld_cols h ho ic f x)
  have h1' := fun x => (congrFun h1 x).trans (ld_saved h hn iv x6 x)
  rw [pay_dqd, at_cols h ho ic]
  simp only [h0', h1']
  exact (gDqd_at f x6 (x 0) h (x 1)).symm

include ho hn in
theorem head_Dkd (hs : bs = View.ld xs (Rect.unit (s := S16x128x128) ![n, 0, 0] S1x128x128.size is))
    (h1 : c0 = View.ld x7 (Rect.unit (s := S64x2048) ![0, o] S64x128.size ic)) (x : S64x128.Idx) :
    k1_pay58 (F := Ideal) bs c0 x = gDkd x7 xs ((Rect.unit (s := S64x2048) ![0, o] S64x128.size ic).emb x) := by
  have hs' := fun x => (congrFun hs x).trans (ld_state h hn is xs x)
  have h1' := fun x => (congrFun h1 x).trans (ld_cols h ho ic x7 x)
  rw [pay_dkd, at_cols h ho ic]
  simp only [hs', h1']
  exact (gDkd_at x7 xs (x 0) h (x 1)).symm

include ho hn in
theorem head_Du (ha : ba = View.ld x4 (Rect.unit (s := S1x16x64x64) ![0, n, 0, 0] S1x1x64x64.size ia))
    (h0 : b0 = View.ld f (Rect.unit (s := S64x2048) ![0, o] S64x128.size ic))
    (h1 : c0 = View.ld x2 (Rect.unit (s := S64x2048) ![0, o] S64x128.size ic))
    (hs : bs = View.ld xs (Rect.unit (s := S16x128x128) ![n, 0, 0] S1x128x128.size is)) (x : S64x128.Idx) :
    k1_pay138 (F := Ideal) ba b0 c0 bs x = gDu f x2 x4 xs ((Rect.unit (s := S64x2048) ![0, o] S64x128.size ic).emb x) := by
  have ha' := fun x => (congrFun ha x).trans (ld_attn h hn ia x4 x)
  have h0' := fun x => (congrFun h0 x).trans (ld_cols h ho ic f x)
  have h1' := fun x => (congrFun h1 x).trans (ld_cols h ho ic x2 x)
  have hs' := fun x => (congrFun hs x).trans (ld_state h hn is xs x)
  rw [pay_du, at_cols h ho ic]
  simp only [ha', h0', h1', hs']
  exact (gDu_at f x2 x4 xs (x 0) h (x 1)).symm

include ho hn in
theorem head_Dw (h0 : b0 = View.ld f (Rect.unit (s := S64x2048) ![0, o] S64x128.size ic))
    (h1 : bv = View.ld x6 (Rect.unit (s := S1x16x128x128) ![0, n, 0, 0] S1x1x128x128.size iv)) (x : S64x128.Idx) :
    k1_pay139 (F := Ideal) b0 bv x = gDw f x6 ((Rect.unit (s := S64x2048) ![0, o] S64x128.size ic).emb x) := by
  have h0' := fun x => (congrFun h0 x).trans (ld_cols h ho ic f x)
  have h1' := fun x => (congrFun h1 x).trans (ld_saved h hn iv x6 x)
  rw [pay_dw, at_cols h ho ic]
  simp only [h0', h1']
  exact (gDw_at f x6 (x 0) h (x 1)).symm

include ho hn in
theorem head_Da (h0 : b0 = View.ld f (Rect.unit (s := S64x2048) ![0, o] S64x128.size ic))
    (h1 : c0 = View.ld x7 (Rect.unit (s := S64x2048) ![0, o] S64x128.size ic)) (x : S1x1x64x64.Idx) :
    k1_pay5 (F := Ideal) b0 c0 x = gDa f x7 ((Rect.unit (s := S1x16x64x64) ![0, n, 0, 0] S1x1x64x64.size ia).emb x) := by
  have h0' := fun x => (congrFun h0 x).trans (ld_cols h ho ic f x)
  have h1' := fun x => (congrFun h1 x).trans (ld_cols h ho ic x7 x)
  rw [pay_dattn, at_attn h hn ia]
  simp only [h0', h1']
  rfl

include hn in
theorem head_Dc (hs : bs = View.ld xs (Rect.unit (s := S16x128x128) ![n, 0, 0] S1x128x128.size is))
    (h1 : bv = View.ld x6 (Rect.unit (s := S1x16x128x128) ![0, n, 0, 0] S1x1x128x128.size iv)) (x : S1x1x1x128.Idx) :
    k1_pay63 (F := Ideal) bs bv x = gDc x6 xs ((Rect.unit (s := S1x16x1x128) ![0, n, 0, 0] S1x1x1x128.size id).emb x) := by
  have hs' := fun x => (congrFun hs x).trans (ld_state h hn is xs x)
  have h1' := fun x => (congrFun h1 x).trans (ld_saved h hn iv x6 x)
  rw [pay_dcd, at_decay h hn id]
  simp only [hs', h1']
  rfl

include ho hn in
theorem head_DS (hs : bs = View.ld xs (Rect.unit (s := S16x128x128) ![n, 0, 0] S1x128x128.size is))
    (h1 : bd = View.ld x5 (Rect.unit (s := S1x16x1x128) ![0, n, 0, 0] S1x1x1x128.size id))
    (h2 : c0 = View.ld x1 (Rect.unit (s := S64x2048) ![0, o] S64x128.size ic))
    (h3 : b0 = View.ld f (Rect.unit (s := S64x2048) ![0, o] S64x128.size ic))
    (h4 : c1 = View.ld x3 (Rect.unit (s := S64x2048) ![0, o] S64x128.size ic))
    (h5 : b1 = View.ld d (Rect.unit (s := S64x2048) ![0, o] S64x128.size ic)) (x : S1x128x128.Idx) :
    k1_pay159 (F := Ideal) bs bd c0 b0 c1 b1 x = gDS f x1 x3 d x5 xs ((Rect.unit (s := S16x128x128) ![n, 0, 0] S1x128x128.size is).emb x) := by
  have hs' := fun x => (congrFun hs x).trans (ld_state h hn is xs x)
  have h1' := fun x => (congrFun h1 x).trans (ld_decay h hn id x5 x)
  have h2' := fun x => (congrFun h2 x).trans (ld_cols h ho ic x1 x)
  have h3' := fun x => (congrFun h3 x).trans (ld_cols h ho ic f x)
  have h4' := fun x => (congrFun h4 x).trans (ld_cols h ho ic x3 x)
  have h5' := fun x => (congrFun h5 x).trans (ld_cols h ho ic d x)
  rw [pay_dstate, at_state h hn is]
  simp only [hs', h1', h2', h3', h4', h5']
  rfl

end

/-! Reads of the staged blocks, of lists of stores, and lists of stores that end in a fill. -/

section

variable {sig : RefSig} {κ : Kind} {sp : Space} {s : Shape} {e : EltTy}

theorem ld_of_block {m : Memref sig κ sp s e} (hm : m.IsWhole) (X : Vec Ideal s e) (r : Rect s) :
    View.readAt (Elt Ideal) m.view r.toLoadRect (hm.unread X) = View.ld X r :=
  (View.readAt_eq_ld _ _ _).trans (congrArg (fun Y => View.ld Y r) (hm.read_unread X))

theorem ld_of_stores (v : View sig κ sp s e) {G : Vec Ideal s e} {L : List (View.Piece (Elt Ideal) s e)}
    (h : View.canon L = G) (r : Rect s) : v.readCov L r.toLoadRect = View.ld G r := by
  subst h
  rw [View.readCov_eq_canon']

theorem blocks_same {G : Vec Ideal s e} {r : Rect s} {w w' : r.shape.Idx → Elt Ideal e} {L : List (View.Piece (Elt Ideal) s e)}
    (h : w = w') (hw : ∀ x, w' x = G (r.emb x)) (hL : View.PiecesOf G L) : View.PiecesOf G (⟨r, w⟩ :: L) := ⟨fun x => (congrFun h x).trans (hw x), hL⟩

theorem canon_of_blocks {G : Vec Ideal s e} {L : List (View.Piece (Elt Ideal) s e)} (h : View.PiecesOf G L)
    (hc : ∀ y, ∃ p ∈ L, y ∈ p.1.set) : View.canon L = G :=
  funext fun y => View.canon_apply_of_pieces G L h.mem y (hc y)

theorem canon_of_first {G : Vec Ideal s e} {L : List (View.Piece (Elt Ideal) s e)} (q : ℕ) (h : View.PiecesOf G (L.take q))
    (hc : ∀ y, ∃ p ∈ L.take q, y ∈ p.1.set) : View.canon L = G :=
  funext fun y => by
    have := View.canon_append_of_piecesOf G (L.drop q) (L.take q) h y (hc y)
    rwa [List.take_append_drop] at this

end

end Cert.KernelIdeal.Scan
-- ==== Proof.ScanSame.lean ====
/- Every head's vector code is the same function of the blocks it reads, however it is cut into parts. -/
module

public import proofs.«01_k».proof.Proof.ScanPay

@[expose] public section

set_option maxRecDepth 16384

noncomputable section

namespace Cert.KernelIdeal.Scan

open Cert.KernelIdeal.Gen
open Idealize.ShloMosaic Idealize.ShloMosaic.TcCoe

section

variable (b0 : Vec Ideal S64x128 .f32) (c0 : Vec Ideal S64x128 .bf16) (bs : Vec Ideal S1x128x128 .f32)

theorem same_V15 : k0_pay39 (F := Ideal) b0 (k0_pay38 (F := Ideal) c0) bs = k0_pay4 (F := Ideal) b0 c0 bs := rfl
theorem same_V14 : k0_pay36 (F := Ideal) b0 c0 bs = k0_pay4 (F := Ideal) b0 c0 bs := rfl
theorem same_V13 : k0_pay34 (F := Ideal) b0 c0 bs = k0_pay4 (F := Ideal) b0 c0 bs := rfl
theorem same_V12 : k0_pay32 (F := Ideal) b0 c0 bs = k0_pay4 (F := Ideal) b0 c0 bs := rfl
theorem same_V11 : k0_pay29 (F := Ideal) b0 c0 bs = k0_pay4 (F := Ideal) b0 c0 bs := rfl
theorem same_V10 : k0_pay27 (F := Ideal) b0 c0 bs = k0_pay4 (F := Ideal) b0 c0 bs := rfl
theorem same_V9 : k0_pay25 (F := Ideal) b0 c0 bs = k0_pay4 (F := Ideal) b0 c0 bs := rfl
theorem same_V8 : k0_pay23 (F := Ideal) b0 (k0_pay22 (F := Ideal) c0) bs = k0_pay4 (F := Ideal) b0 c0 bs := rfl
theorem same_V7 : k0_pay20 (F := Ideal) b0 c0 bs = k0_pay4 (F := Ideal) b0 c0 bs := rfl
theorem same_V6 : k0_pay18 (F := Ideal) (k0_pay17 (F := Ideal) b0 c0 bs) = k0_pay4 (F := Ideal) b0 c0 bs := rfl
theorem same_V5 : k0_pay15 (F := Ideal) b0 c0 bs = k0_pay4 (F := Ideal) b0 c0 bs := rfl
theorem same_V4 : k0_pay13 (F := Ideal) b0 c0 bs = k0_pay4 (F := Ideal) b0 c0 bs := rfl
theorem same_V3 : k0_pay11 (F := Ideal) b0 c0 bs = k0_pay4 (F := Ideal) b0 c0 bs := rfl
theorem same_V2 : k0_pay8 (F := Ideal) b0 c0 bs = k0_pay4 (F := Ideal) b0 c0 bs := rfl
theorem same_V1 : k0_pay6 (F := Ideal) b0 c0 bs = k0_pay4 (F := Ideal) b0 c0 bs := rfl
theorem same_V0 : k0_pay4 (F := Ideal) b0 c0 bs = k0_pay4 (F := Ideal) b0 c0 bs := rfl

end

section

variable (bs : Vec Ideal S1x128x128 .f32)

theorem same_S15 : k0_pay37 (F := Ideal) bs = k0_pay3 (F := Ideal) bs := rfl
theorem same_S14 : k0_pay35 (F := Ideal) bs = k0_pay3 (F := Ideal) bs := rfl
theorem same_S13 : k0_pay33 (F := Ideal) bs = k0_pay3 (F := Ideal) bs := rfl
theorem same_S12 : k0_pay31 (F := Ideal) (k0_pay30 (F := Ideal) bs) = k0_pay3 (F := Ideal) bs := rfl
theorem same_S11 : k0_pay28 (F := Ideal) bs = k0_pay3 (F := Ideal) bs := rfl
theorem same_S10 : k0_pay26 (F := Ideal) bs = k0_pay3 (F := Ideal) bs := rfl
theorem same_S9 : k0_pay24 (F := Ideal) bs = k0_pay3 (F := Ideal) bs := rfl
theorem same_S8 : k0_pay21 (F := Ideal) bs = k0_pay3 (F := Ideal) bs := rfl
theorem same_S7 : k0_pay19 (F := Ideal) bs = k0_pay3 (F := Ideal) bs := rfl
theorem same_S6 : k0_pay16 (F := Ideal) bs = k0_pay3 (F := Ideal) bs := rfl
theorem same_S5 : k0_pay14 (F := Ideal) bs = k0_pay3 (F := Ideal) bs := rfl
theorem same_S4 : k0_pay12 (F := Ideal) bs = k0_pay3 (F := Ideal) bs := rfl
theorem same_S3 : k0_pay10 (F := Ideal) (k0_pay9 (F := Ideal) bs) = k0_pay3 (F := Ideal) bs := rfl
theorem same_S2 : k0_pay7 (F := Ideal) bs = k0_pay3 (F := Ideal) bs := rfl
theorem same_S1 : k0_pay5 (F := Ideal) bs = k0_pay3 (F := Ideal) bs := rfl
theorem same_S0 : k0_pay3 (F := Ideal) bs = k0_pay3 (F := Ideal) bs := rfl

end

section

variable (bs : Vec Ideal S1x128x128 .f32) (bd : Vec Ideal S1x1x1x128 .f32) (c0 : Vec Ideal S64x128 .bf16) (c1 : Vec Ideal S64x128 .bf16)

theorem same_St15 : k0_pay1 (F := Ideal) (k0_pay85 (F := Ideal) bs bd) (k0_pay86 (F := Ideal) c0) c1 = k0_pay65 (F := Ideal) bs bd c0 c1 := rfl
theorem same_St14 : k0_pay84 (F := Ideal) bs bd c0 c1 = k0_pay65 (F := Ideal) bs bd c0 c1 := rfl
theorem same_St13 : k0_pay83 (F := Ideal) (k0_pay80 (F := Ideal) bs bd) (k0_pay81 (F := Ideal) c0) (k0_pay82 (F := Ideal) c1) (constant S128x128 .f32 0#32) = k0_pay65 (F := Ideal) bs bd c0 c1 := rfl
theorem same_St12 : k0_pay79 (F := Ideal) bs bd c0 c1 = k0_pay65 (F := Ideal) bs bd c0 c1 := rfl
theorem same_St11 : k0_pay78 (F := Ideal) (k0_pay77 (F := Ideal) bs bd c0 c1) = k0_pay65 (F := Ideal) bs bd c0 c1 := rfl
theorem same_St10 : k0_pay76 (F := Ideal) bs bd c0 c1 = k0_pay65 (F := Ideal) bs bd c0 c1 := rfl
theorem same_St9 : k0_pay75 (F := Ideal) (k0_pay74 (F := Ideal) bs bd c0 c1) = k0_pay65 (F := Ideal) bs bd c0 c1 := rfl
theorem same_St8 : k0_pay73 (F := Ideal) bs bd c0 c1 = k0_pay65 (F := Ideal) bs bd c0 c1 := rfl
theorem same_St7 : k0_pay72 (F := Ideal) (k0_pay71 (F := Ideal) bs bd c0 c1) = k0_pay65 (F := Ideal) bs bd c0 c1 := rfl
theorem same_St6 : k0_pay70 (F := Ideal) bs bd c0 c1 = k0_pay65 (F := Ideal) bs bd c0 c1 := rfl
theorem same_St5 : k0_pay69 (F := Ideal) bs bd c0 c1 = k0_pay65 (F := Ideal) bs bd c0 c1 := rfl
theorem same_St4 : k0_pay68 (F := Ideal) bs bd c0 c1 = k0_pay65 (F := Ideal) bs bd c0 c1 := rfl
theorem same_St3 : k0_pay67 (F := Ideal) bs bd c0 c1 = k0_pay65 (F := Ideal) bs bd c0 c1 := rfl
theorem same_St2 : k0_pay66 (F := Ideal) bs bd c0 c1 = k0_pay65 (F := Ideal) bs bd c0 c1 := rfl
theorem same_St1 : k0_pay65 (F := Ideal) bs bd c0 c1 = k0_pay65 (F := Ideal) bs bd c0 c1 := rfl
theorem same_St0 : k0_pay64 (F := Ideal) (k0_pay63 (F := Ideal) bs) bd c0 c1 = k0_pay65 (F := Ideal) bs bd c0 c1 := rfl

end

section

variable (b0 : Vec Ideal S64x128 .f32) (bv : Vec Ideal S1x1x128x128 .f32)

theorem same_Dqd15 : k1_pay55 (F := Ideal) (k1_pay54 (F := Ideal) b0) bv = k1_pay4 (F := Ideal) b0 bv := rfl
theorem same_Dqd14 : k1_pay52 (F := Ideal) b0 bv = k1_pay4 (F := Ideal) b0 bv := rfl
theorem same_Dqd13 : k1_pay49 (F := Ideal) b0 bv = k1_pay4 (F := Ideal) b0 bv := rfl
theorem same_Dqd12 : k1_pay46 (F := Ideal) b0 bv = k1_pay4 (F := Ideal) b0 bv := rfl
theorem same_Dqd11 : k1_pay40 (F := Ideal) b0 bv = k1_pay4 (F := Ideal) b0 bv := rfl
theorem same_Dqd10 : k1_pay37 (F := Ideal) b0 bv = k1_pay4 (F := Ideal) b0 bv := rfl
theorem same_Dqd9 : k1_pay34 (F := Ideal) b0 bv = k1_pay4 (F := Ideal) b0 bv := rfl
theorem same_Dqd8 : k1_pay31 (F := Ideal) (k1_pay29 (F := Ideal) b0) (k1_pay30 (F := Ideal) bv) = k1_pay4 (F := Ideal) b0 bv := rfl
theorem same_Dqd7 : k1_pay27 (F := Ideal) b0 bv = k1_pay4 (F := Ideal) b0 bv := rfl
theorem same_Dqd6 : k1_pay23 (F := Ideal) b0 bv = k1_pay4 (F := Ideal) b0 bv := rfl
theorem same_Dqd5 : k1_pay20 (F := Ideal) b0 bv = k1_pay4 (F := Ideal) b0 bv := rfl
theorem same_Dqd4 : k1_pay16 (F := Ideal) b0 bv = k1_pay4 (F := Ideal) b0 bv := rfl
theorem same_Dqd3 : k1_pay13 (F := Ideal) (k1_pay12 (F := Ideal) b0) bv = k1_pay4 (F := Ideal) b0 bv := rfl
theorem same_Dqd2 : k1_pay10 (F := Ideal) b0 bv = k1_pay4 (F := Ideal) b0 bv := rfl
theorem same_Dqd1 : k1_pay7 (F := Ideal) b0 bv = k1_pay4 (F := Ideal) b0 bv := rfl
theorem same_Dqd0 : k1_pay4 (F := Ideal) b0 bv = k1_pay4 (F := Ideal) b0 bv := rfl

end

section

variable (bs : Vec Ideal S1x128x128 .f32) (c0 : Vec Ideal S64x128 .bf16)

theorem same_Dkd15 : k1_pay108 (F := Ideal) bs c0 = k1_pay58 (F := Ideal) bs c0 := rfl
theorem same_Dkd14 : k1_pay104 (F := Ideal) bs c0 = k1_pay58 (F := Ideal) bs c0 := rfl
theorem same_Dkd13 : k1_pay101 (F := Ideal) bs c0 = k1_pay58 (F := Ideal) bs c0 := rfl
theorem same_Dkd12 : k1_pay98 (F := Ideal) bs c0 = k1_pay58 (F := Ideal) bs c0 := rfl
theorem same_Dkd11 : k1_pay94 (F := Ideal) bs c0 = k1_pay58 (F := Ideal) bs c0 := rfl
theorem same_Dkd10 : k1_pay91 (F := Ideal) bs c0 = k1_pay58 (F := Ideal) bs c0 := rfl
theorem same_Dkd9 : k1_pay88 (F := Ideal) bs c0 = k1_pay58 (F := Ideal) bs c0 := rfl
theorem same_Dkd8 : k1_pay85 (F := Ideal) bs c0 = k1_pay58 (F := Ideal) bs c0 := rfl
theorem same_Dkd7 : k1_pay82 (F := Ideal) bs c0 = k1_pay58 (F := Ideal) bs c0 := rfl
theorem same_Dkd6 : k1_pay78 (F := Ideal) bs c0 = k1_pay58 (F := Ideal) bs c0 := rfl
theorem same_Dkd5 : k1_pay75 (F := Ideal) bs c0 = k1_pay58 (F := Ideal) bs c0 := rfl
theorem same_Dkd4 : k1_pay72 (F := Ideal) bs c0 = k1_pay58 (F := Ideal) bs c0 := rfl
theorem same_Dkd3 : k1_pay68 (F := Ideal) bs c0 = k1_pay58 (F := Ideal) bs c0 := rfl
theorem same_Dkd2 : k1_pay65 (F := Ideal) bs c0 = k1_pay58 (F := Ideal) bs c0 := rfl
theorem same_Dkd1 : k1_pay62 (F := Ideal) bs c0 = k1_pay58 (F := Ideal) bs c0 := rfl
theorem same_Dkd0 : k1_pay58 (F := Ideal) bs c0 = k1_pay58 (F := Ideal) bs c0 := rfl

end

section

variable (ba : Vec Ideal S1x1x64x64 .bf16) (b0 : Vec Ideal S64x128 .f32) (c0 : Vec Ideal S64x128 .bf16) (bs : Vec Ideal S1x128x128 .f32)

theorem same_Du15 : k1_pay138 (F := Ideal) ba b0 c0 bs = k1_pay138 (F := Ideal) ba b0 c0 bs := rfl
theorem same_Du14 : k1_pay137 (F := Ideal) (k1_pay134 (F := Ideal) ba b0) (k1_pay135 (F := Ideal) c0) (k1_pay136 (F := Ideal) bs) = k1_pay138 (F := Ideal) ba b0 c0 bs := rfl
theorem same_Du13 : k1_pay133 (F := Ideal) ba b0 c0 bs = k1_pay138 (F := Ideal) ba b0 c0 bs := rfl
theorem same_Du12 : k1_pay132 (F := Ideal) (k1_pay130 (F := Ideal) ba b0) (k1_pay131 (F := Ideal) c0) bs = k1_pay138 (F := Ideal) ba b0 c0 bs := rfl
theorem same_Du11 : k1_pay129 (F := Ideal) ba b0 c0 bs = k1_pay138 (F := Ideal) ba b0 c0 bs := rfl
theorem same_Du10 : k1_pay128 (F := Ideal) (k1_pay126 (F := Ideal) ba b0) (k1_pay127 (F := Ideal) c0) bs = k1_pay138 (F := Ideal) ba b0 c0 bs := rfl
theorem same_Du9 : k1_pay125 (F := Ideal) ba b0 c0 bs = k1_pay138 (F := Ideal) ba b0 c0 bs := rfl
theorem same_Du8 : k1_pay124 (F := Ideal) (k1_pay123 (F := Ideal) ba b0) c0 bs = k1_pay138 (F := Ideal) ba b0 c0 bs := rfl
theorem same_Du7 : k1_pay122 (F := Ideal) ba b0 c0 bs = k1_pay138 (F := Ideal) ba b0 c0 bs := rfl
theorem same_Du6 : k1_pay121 (F := Ideal) (k1_pay120 (F := Ideal) ba b0) c0 bs = k1_pay138 (F := Ideal) ba b0 c0 bs := rfl
theorem same_Du5 : k1_pay119 (F := Ideal) ba b0 c0 bs = k1_pay138 (F := Ideal) ba b0 c0 bs := rfl
theorem same_Du4 : k1_pay118 (F := Ideal) (k1_pay116 (F := Ideal) ba) (k1_pay117 (F := Ideal) b0) (constant S64x128 .f32 0#32) c0 bs = k1_pay138 (F := Ideal) ba b0 c0 bs := rfl
theorem same_Du3 : k1_pay115 (F := Ideal) ba b0 c0 bs = k1_pay138 (F := Ideal) ba b0 c0 bs := rfl
theorem same_Du2 : k1_pay114 (F := Ideal) (k1_pay113 (F := Ideal) ba) b0 c0 bs = k1_pay138 (F := Ideal) ba b0 c0 bs := rfl
theorem same_Du1 : k1_pay112 (F := Ideal) ba b0 c0 bs = k1_pay138 (F := Ideal) ba b0 c0 bs := rfl
theorem same_Du0 : k1_pay111 (F := Ideal) (k1_pay110 (F := Ideal) ba) b0 c0 bs = k1_pay138 (F := Ideal) ba b0 c0 bs := rfl

end

section

variable (b0 : Vec Ideal S64x128 .f32) (bv : Vec Ideal S1x1x128x128 .f32)

theorem same_Dw15 : k1_pay158 (F := Ideal) (k1_pay157 (F := Ideal) b0) bv = k1_pay139 (F := Ideal) b0 bv := rfl
theorem same_Dw14 : k1_pay156 (F := Ideal) b0 bv = k1_pay139 (F := Ideal) b0 bv := rfl
theorem same_Dw13 : k1_pay155 (F := Ideal) b0 bv = k1_pay139 (F := Ideal) b0 bv := rfl
theorem same_Dw12 : k1_pay154 (F := Ideal) (k1_pay152 (F := Ideal) b0) (k1_pay153 (F := Ideal) bv) = k1_pay139 (F := Ideal) b0 bv := rfl
theorem same_Dw11 : k1_pay151 (F := Ideal) b0 bv = k1_pay139 (F := Ideal) b0 bv := rfl
theorem same_Dw10 : k1_pay150 (F := Ideal) b0 bv = k1_pay139 (F := Ideal) b0 bv := rfl
theorem same_Dw9 : k1_pay149 (F := Ideal) (k1_pay148 (F := Ideal) b0 bv) = k1_pay139 (F := Ideal) b0 bv := rfl
theorem same_Dw8 : k1_pay147 (F := Ideal) b0 bv = k1_pay139 (F := Ideal) b0 bv := rfl
theorem same_Dw7 : k1_pay146 (F := Ideal) b0 bv = k1_pay139 (F := Ideal) b0 bv := rfl
theorem same_Dw6 : k1_pay145 (F := Ideal) b0 bv = k1_pay139 (F := Ideal) b0 bv := rfl
theorem same_Dw5 : k1_pay144 (F := Ideal) b0 bv = k1_pay139 (F := Ideal) b0 bv := rfl
theorem same_Dw4 : k1_pay143 (F := Ideal) b0 bv = k1_pay139 (F := Ideal) b0 bv := rfl
theorem same_Dw3 : k1_pay142 (F := Ideal) b0 bv = k1_pay139 (F := Ideal) b0 bv := rfl
theorem same_Dw2 : k1_pay141 (F := Ideal) b0 bv = k1_pay139 (F := Ideal) b0 bv := rfl
theorem same_Dw1 : k1_pay140 (F := Ideal) b0 bv = k1_pay139 (F := Ideal) b0 bv := rfl
theorem same_Dw0 : k1_pay139 (F := Ideal) b0 bv = k1_pay139 (F := Ideal) b0 bv := rfl

end

section

variable (b0 : Vec Ideal S64x128 .f32) (c0 : Vec Ideal S64x128 .bf16)

theorem same_Da15 : k1_pay56 (F := Ideal) (iota .tc S64x64 32 [0] iota_S64x64_d0_w32) (iota .tc S64x64 32 [1] iota_S64x64_d1_w32) (k1_pay54 (F := Ideal) b0) c0 = k1_pay5 (F := Ideal) b0 c0 := rfl
theorem same_Da14 : k1_pay53 (F := Ideal) (iota .tc S64x64 32 [0] iota_S64x64_d0_w32) (iota .tc S64x64 32 [1] iota_S64x64_d1_w32) b0 c0 = k1_pay5 (F := Ideal) b0 c0 := rfl
theorem same_Da13 : k1_pay50 (F := Ideal) (iota .tc S64x64 32 [0] iota_S64x64_d0_w32) (iota .tc S64x64 32 [1] iota_S64x64_d1_w32) (k1_pay48 (F := Ideal) b0) c0 = k1_pay5 (F := Ideal) b0 c0 := rfl
theorem same_Da12 : k1_pay47 (F := Ideal) (iota .tc S64x64 32 [0] iota_S64x64_d0_w32) (iota .tc S64x64 32 [1] iota_S64x64_d1_w32) b0 c0 = k1_pay5 (F := Ideal) b0 c0 := rfl
theorem same_Da11 : k1_pay44 (F := Ideal) (k1_pay41 (iota .tc S64x64 32 [0] iota_S64x64_d0_w32) (iota .tc S64x64 32 [1] iota_S64x64_d1_w32)) (k1_pay42 (F := Ideal) b0 c0) (k1_pay43 (F := Ideal)) = k1_pay5 (F := Ideal) b0 c0 := rfl
theorem same_Da10 : k1_pay38 (F := Ideal) (iota .tc S64x64 32 [0] iota_S64x64_d0_w32) (iota .tc S64x64 32 [1] iota_S64x64_d1_w32) b0 c0 = k1_pay5 (F := Ideal) b0 c0 := rfl
theorem same_Da9 : k1_pay35 (F := Ideal) (iota .tc S64x64 32 [0] iota_S64x64_d0_w32) (iota .tc S64x64 32 [1] iota_S64x64_d1_w32) b0 c0 = k1_pay5 (F := Ideal) b0 c0 := rfl
theorem same_Da8 : k1_pay32 (F := Ideal) (iota .tc S64x64 32 [0] iota_S64x64_d0_w32) (iota .tc S64x64 32 [1] iota_S64x64_d1_w32) (k1_pay29 (F := Ideal) b0) c0 = k1_pay5 (F := Ideal) b0 c0 := rfl
theorem same_Da7 : k1_pay28 (F := Ideal) (iota .tc S64x64 32 [0] iota_S64x64_d0_w32) (iota .tc S64x64 32 [1] iota_S64x64_d1_w32) b0 c0 = k1_pay5 (F := Ideal) b0 c0 := rfl
theorem same_Da6 : k1_pay25 (F := Ideal) (k1_pay22 (F := Ideal) b0) (k1_pay24 (iota .tc S64x64 32 [0] iota_S64x64_d0_w32) (iota .tc S64x64 32 [1] iota_S64x64_d1_w32)) c0 = k1_pay5 (F := Ideal) b0 c0 := rfl
theorem same_Da5 : k1_pay21 (F := Ideal) (iota .tc S64x64 32 [0] iota_S64x64_d0_w32) (iota .tc S64x64 32 [1] iota_S64x64_d1_w32) b0 c0 = k1_pay5 (F := Ideal) b0 c0 := rfl
theorem same_Da4 : k1_pay18 (F := Ideal) (k1_pay17 (F := Ideal) (iota .tc S64x64 32 [0] iota_S64x64_d0_w32) (iota .tc S64x64 32 [1] iota_S64x64_d1_w32) b0 c0) = k1_pay5 (F := Ideal) b0 c0 := rfl
theorem same_Da3 : k1_pay14 (F := Ideal) (iota .tc S64x64 32 [0] iota_S64x64_d0_w32) (iota .tc S64x64 32 [1] iota_S64x64_d1_w32) (k1_pay12 (F := Ideal) b0) c0 = k1_pay5 (F := Ideal) b0 c0 := rfl
theorem same_Da2 : k1_pay11 (F := Ideal) (iota .tc S64x64 32 [0] iota_S64x64_d0_w32) (iota .tc S64x64 32 [1] iota_S64x64_d1_w32) b0 c0 = k1_pay5 (F := Ideal) b0 c0 := rfl
theorem same_Da1 : k1_pay8 (F := Ideal) (iota .tc S64x64 32 [0] iota_S64x64_d0_w32) (iota .tc S64x64 32 [1] iota_S64x64_d1_w32) (k1_pay6 (F := Ideal) b0) c0 = k1_pay5 (F := Ideal) b0 c0 := rfl
theorem same_Da0 : k1_pay5 (F := Ideal) b0 c0 = k1_pay5 (F := Ideal) b0 c0 := rfl

end

section

variable (bs : Vec Ideal S1x128x128 .f32) (bv : Vec Ideal S1x1x128x128 .f32)

theorem same_Dc15 : k1_pay109 (F := Ideal) bs bv = k1_pay63 (F := Ideal) bs bv := rfl
theorem same_Dc14 : k1_pay106 (F := Ideal) (k1_pay105 (F := Ideal) bs bv) = k1_pay63 (F := Ideal) bs bv := rfl
theorem same_Dc13 : k1_pay102 (F := Ideal) bs bv = k1_pay63 (F := Ideal) bs bv := rfl
theorem same_Dc12 : k1_pay99 (F := Ideal) bs bv = k1_pay63 (F := Ideal) bs bv := rfl
theorem same_Dc11 : k1_pay96 (F := Ideal) (k1_pay93 (F := Ideal) bs) (k1_pay95 (F := Ideal) bv) = k1_pay63 (F := Ideal) bs bv := rfl
theorem same_Dc10 : k1_pay92 (F := Ideal) bs bv = k1_pay63 (F := Ideal) bs bv := rfl
theorem same_Dc9 : k1_pay89 (F := Ideal) bs bv = k1_pay63 (F := Ideal) bs bv := rfl
theorem same_Dc8 : k1_pay86 (F := Ideal) (k1_pay84 (F := Ideal) bs) bv = k1_pay63 (F := Ideal) bs bv := rfl
theorem same_Dc7 : k1_pay83 (F := Ideal) bs bv = k1_pay63 (F := Ideal) bs bv := rfl
theorem same_Dc6 : k1_pay80 (F := Ideal) (k1_pay79 (F := Ideal) bs bv) = k1_pay63 (F := Ideal) bs bv := rfl
theorem same_Dc5 : k1_pay76 (F := Ideal) (k1_pay74 (F := Ideal) bs) bv = k1_pay63 (F := Ideal) bs bv := rfl
theorem same_Dc4 : k1_pay73 (F := Ideal) bs bv = k1_pay63 (F := Ideal) bs bv := rfl
theorem same_Dc3 : k1_pay70 (F := Ideal) (k1_pay69 (F := Ideal) bs bv) = k1_pay63 (F := Ideal) bs bv := rfl
theorem same_Dc2 : k1_pay66 (F := Ideal) (k1_pay64 (F := Ideal) bs) bv = k1_pay63 (F := Ideal) bs bv := rfl
theorem same_Dc1 : k1_pay63 (F := Ideal) bs bv = k1_pay63 (F := Ideal) bs bv := rfl
theorem same_Dc0 : k1_pay60 (F := Ideal) (k1_pay59 (F := Ideal) bs bv) = k1_pay63 (F := Ideal) bs bv := rfl

end

section

variable (bs : Vec Ideal S1x128x128 .f32) (bd : Vec Ideal S1x1x1x128 .f32) (c0 : Vec Ideal S64x128 .bf16) (b0 : Vec Ideal S64x128 .f32) (c1 : Vec Ideal S64x128 .bf16) (b1 : Vec Ideal S64x128 .f32)

theorem same_DS15 : k1_pay1 (F := Ideal) (k1_pay189 (F := Ideal) bs bd) (k1_pay190 (F := Ideal) c0) b0 c1 b1 = k1_pay159 (F := Ideal) bs bd c0 b0 c1 b1 := rfl
theorem same_DS14 : k1_pay188 (F := Ideal) bs bd c0 b0 c1 b1 = k1_pay159 (F := Ideal) bs bd c0 b0 c1 b1 := rfl
theorem same_DS13 : k1_pay187 (F := Ideal) (k1_pay185 (F := Ideal) bs bd c0 b0) (k1_pay186 (F := Ideal) c1) b1 = k1_pay159 (F := Ideal) bs bd c0 b0 c1 b1 := rfl
theorem same_DS12 : k1_pay184 (F := Ideal) (k1_pay182 (F := Ideal) bs) (k1_pay183 (F := Ideal) bd) c0 b0 c1 b1 = k1_pay159 (F := Ideal) bs bd c0 b0 c1 b1 := rfl
theorem same_DS11 : k1_pay181 (F := Ideal) bs bd c0 b0 c1 b1 = k1_pay159 (F := Ideal) bs bd c0 b0 c1 b1 := rfl
theorem same_DS10 : k1_pay180 (F := Ideal) (k1_pay179 (F := Ideal) bs bd c0 b0 c1 b1) = k1_pay159 (F := Ideal) bs bd c0 b0 c1 b1 := rfl
theorem same_DS9 : k1_pay178 (F := Ideal) (k1_pay176 (F := Ideal) bs bd) (k1_pay177 (F := Ideal) c0) b0 c1 b1 = k1_pay159 (F := Ideal) bs bd c0 b0 c1 b1 := rfl
theorem same_DS8 : k1_pay175 (F := Ideal) bs bd c0 b0 c1 b1 = k1_pay159 (F := Ideal) bs bd c0 b0 c1 b1 := rfl
theorem same_DS7 : k1_pay174 (F := Ideal) bs bd c0 b0 c1 b1 = k1_pay159 (F := Ideal) bs bd c0 b0 c1 b1 := rfl
theorem same_DS6 : k1_pay173 (F := Ideal) (k1_pay171 (F := Ideal) bs bd c0 b0) (k1_pay172 (F := Ideal) c1) b1 = k1_pay159 (F := Ideal) bs bd c0 b0 c1 b1 := rfl
theorem same_DS5 : k1_pay170 (F := Ideal) (k1_pay168 (F := Ideal) bs) (k1_pay169 (F := Ideal) bd) c0 b0 c1 b1 = k1_pay159 (F := Ideal) bs bd c0 b0 c1 b1 := rfl
theorem same_DS4 : k1_pay167 (F := Ideal) bs bd c0 b0 c1 b1 = k1_pay159 (F := Ideal) bs bd c0 b0 c1 b1 := rfl
theorem same_DS3 : k1_pay166 (F := Ideal) (k1_pay165 (F := Ideal) bs bd c0 b0 c1 b1) = k1_pay159 (F := Ideal) bs bd c0 b0 c1 b1 := rfl
theorem same_DS2 : k1_pay164 (F := Ideal) (k1_pay161 (F := Ideal) bs bd) (k1_pay162 (F := Ideal) c0) (k1_pay163 (F := Ideal) b0) c1 b1 = k1_pay159 (F := Ideal) bs bd c0 b0 c1 b1 := rfl
theorem same_DS1 : k1_pay160 (F := Ideal) bs bd c0 b0 c1 b1 = k1_pay159 (F := Ideal) bs bd c0 b0 c1 b1 := rfl
theorem same_DS0 : k1_pay159 (F := Ideal) bs bd c0 b0 c1 b1 = k1_pay159 (F := Ideal) bs bd c0 b0 c1 b1 := rfl

end

end Cert.KernelIdeal.Scan
-- ==== Proof.ScanFwdVal.lean ====
/- What the stores of a forward chunk leave, head by head: the sums of `ScanHeads` (the first chunk from a state of zeros). -/
module

public import proofs.«01_k».proof.Proof.ScanHeads
public import proofs.«01_k».proof.Proof.ScanSame
public import proofs.«01_k».proof.Proof.ScanFwdStep

@[expose] public section

set_option maxRecDepth 16384

noncomputable section

namespace Cert.KernelIdeal.Scan

open Cert.KernelIdeal.Gen
open Idealize.ShloMosaic Idealize.ShloMosaic.TcCoe Idealize.SL.Sem

section

variable (c : Dev nD) (i : grid0.Coords)
  (arg1 : Memref sig .tc .vmem S64x2048 .bf16) (harg1 : arg1.IsWhole)
  (arg2 : Memref sig .tc .vmem S64x2048 .bf16) (harg2 : arg2.IsWhole)
  (arg3 : Memref sig .tc .vmem S64x2048 .f32) (harg3 : arg3.IsWhole)
  (arg4 : Memref sig .tc .vmem S64x2048 .bf16) (harg4 : arg4.IsWhole)
  (arg5 : Memref sig .tc .vmem S1x16x64x64 .bf16) (harg5 : arg5.IsWhole)
  (arg6 : Memref sig .tc .vmem S1x16x1x128 .f32) (harg6 : arg6.IsWhole)
  (arg7 : Memref sig .tc .vmem S64x2048 .f32) (harg7 : arg7.IsWhole)
  (arg8 : Memref sig .tc .vmem S1x16x128x128 .f32) (harg8 : arg8.IsWhole)
  (arg9 : Memref sig .tc .vmem S64x2048 .bf16) (harg9 : arg9.IsWhole)
  (arg10 : Memref sig .tc .vmem S16x128x128 .f32) (harg10 : arg10.IsWhole)

variable (x0 : Vec Ideal S64x2048 .bf16) (x1 : Vec Ideal S64x2048 .bf16) (x2 : Vec Ideal S64x2048 .f32) (x3 : Vec Ideal S64x2048 .bf16) (x4 : Vec Ideal S1x16x64x64 .bf16) (x5 : Vec Ideal S1x16x1x128 .f32) (xs : Vec Ideal S16x128x128 .f32)

section

variable (hc0 : firstFwd i)

theorem piecesFwdAV : View.PiecesOf (gV x2 x3 (k0_pay2 (F := Ideal))) (runFwdA.sl.H8_16 (F := Ideal) c arg3 harg3 arg4 harg4 arg10 x2 x3) := by
  unfold runFwdA.sl.H8_16
  have l3 := ld_of_block harg3
  have l4 := ld_of_block harg4
  refine blocks_same (same_V15 ..) (head_V (n := 15) 15 rfl rfl _ inb_S16x128x128_S1x128x128_15_0_0 (l3 _ _) (l4 _ _) ?_) ?_; swap
  refine blocks_same (same_V14 ..) (head_V (n := 14) 14 rfl rfl _ inb_S16x128x128_S1x128x128_14_0_0 (l3 _ _) (l4 _ _) ?_) ?_; swap
  refine blocks_same (same_V13 ..) (head_V (n := 13) 13 rfl rfl _ inb_S16x128x128_S1x128x128_13_0_0 (l3 _ _) (l4 _ _) ?_) ?_; swap
  refine blocks_same (same_V12 ..) (head_V (n := 12) 12 rfl rfl _ inb_S16x128x128_S1x128x128_12_0_0 (l3 _ _) (l4 _ _) ?_) ?_; swap
  refine blocks_same (same_V11 ..) (head_V (n := 11) 11 rfl rfl _ inb_S16x128x128_S1x128x128_11_0_0 (l3 _ _) (l4 _ _) ?_) ?_; swap
  refine blocks_same (same_V10 ..) (head_V (n := 10) 10 rfl rfl _ inb_S16x128x128_S1x128x128_10_0_0 (l3 _ _) (l4 _ _) ?_) ?_; swap
  refine blocks_same (same_V9 ..) (head_V (n := 9) 9 rfl rfl _ inb_S16x128x128_S1x128x128_9_0_0 (l3 _ _) (l4 _ _) ?_) ?_; swap
  refine blocks_same (same_V8 ..) (head_V (n := 8) 8 rfl rfl _ inb_S16x128x128_S1x128x128_8_0_0 (l3 _ _) (l4 _ _) ?_) ?_; swap
  refine blocks_same (same_V7 ..) (head_V (n := 7) 7 rfl rfl _ inb_S16x128x128_S1x128x128_7_0_0 (l3 _ _) (l4 _ _) ?_) ?_; swap
  refine blocks_same (same_V6 ..) (head_V (n := 6) 6 rfl rfl _ inb_S16x128x128_S1x128x128_6_0_0 (l3 _ _) (l4 _ _) ?_) ?_; swap
  refine blocks_same (same_V5 ..) (head_V (n := 5) 5 rfl rfl _ inb_S16x128x128_S1x128x128_5_0_0 (l3 _ _) (l4 _ _) ?_) ?_; swap
  refine blocks_same (same_V4 ..) (head_V (n := 4) 4 rfl rfl _ inb_S16x128x128_S1x128x128_4_0_0 (l3 _ _) (l4 _ _) ?_) ?_; swap
  refine blocks_same (same_V3 ..) (head_V (n := 3) 3 rfl rfl _ inb_S16x128x128_S1x128x128_3_0_0 (l3 _ _) (l4 _ _) ?_) ?_; swap
  refine blocks_same (same_V2 ..) (head_V (n := 2) 2 rfl rfl _ inb_S16x128x128_S1x128x128_2_0_0 (l3 _ _) (l4 _ _) ?_) ?_; swap
  refine blocks_same (same_V1 ..) (head_V (n := 1) 1 rfl rfl _ inb_S16x128x128_S1x128x128_1_0_0 (l3 _ _) (l4 _ _) ?_) ?_; swap
  refine blocks_same (same_V0 ..) (head_V (n := 0) 0 rfl rfl _ inb_S16x128x128_S1x128x128_0_0_0 (l3 _ _) (l4 _ _) ?_) ?_; swap
  trivial
  all_goals (repeat refine (View.readCov_skip _ _ _ _ _ (by rfl)).trans ?_); exact View.readCov_fill _ _ _ _ _ (by decide)

theorem canonFwdAV : View.canon (runFwdA.sl.H8_16 (F := Ideal) c arg3 harg3 arg4 harg4 arg10 x2 x3) = gV x2 x3 (k0_pay2 (F := Ideal)) :=
  canon_of_blocks (piecesFwdAV ..) fun y =>
    View.cover_of_tiledL (s := S64x2048) _ S64x128.size (by sl_kernel_rfl) y

theorem piecesFwdAS : View.PiecesOf (gS (k0_pay2 (F := Ideal))) (runFwdA (F := Ideal) c i arg1 harg1 arg2 harg2 arg3 harg3 arg4 harg4 arg5 harg5 arg6 harg6 arg7 harg7 arg8 harg8 arg9 harg9 arg10 harg10 hc0 x0 x1 x2 x3 x4 x5).2.1 := by
  unfold runFwdA
  dsimp only
  refine blocks_same (same_S15 ..) (head_S (n := 15) 15 rfl inb_S16x128x128_S1x128x128_15_0_0 _ ?_) ?_; swap
  refine blocks_same (same_S14 ..) (head_S (n := 14) 14 rfl inb_S16x128x128_S1x128x128_14_0_0 _ ?_) ?_; swap
  refine blocks_same (same_S13 ..) (head_S (n := 13) 13 rfl inb_S16x128x128_S1x128x128_13_0_0 _ ?_) ?_; swap
  refine blocks_same (same_S12 ..) (head_S (n := 12) 12 rfl inb_S16x128x128_S1x128x128_12_0_0 _ ?_) ?_; swap
  refine blocks_same (same_S11 ..) (head_S (n := 11) 11 rfl inb_S16x128x128_S1x128x128_11_0_0 _ ?_) ?_; swap
  refine blocks_same (same_S10 ..) (head_S (n := 10) 10 rfl inb_S16x128x128_S1x128x128_10_0_0 _ ?_) ?_; swap
  refine blocks_same (same_S9 ..) (head_S (n := 9) 9 rfl inb_S16x128x128_S1x128x128_9_0_0 _ ?_) ?_; swap
  refine blocks_same (same_S8 ..) (head_S (n := 8) 8 rfl inb_S16x128x128_S1x128x128_8_0_0 _ ?_) ?_; swap
  refine blocks_same (same_S7 ..) (head_S (n := 7) 7 rfl inb_S16x128x128_S1x128x128_7_0_0 _ ?_) ?_; swap
  refine blocks_same (same_S6 ..) (head_S (n := 6) 6 rfl inb_S16x128x128_S1x128x128_6_0_0 _ ?_) ?_; swap
  refine blocks_same (same_S5 ..) (head_S (n := 5) 5 rfl inb_S16x128x128_S1x128x128_5_0_0 _ ?_) ?_; swap
  refine blocks_same (same_S4 ..) (head_S (n := 4) 4 rfl inb_S16x128x128_S1x128x128_4_0_0 _ ?_) ?_; swap
  refine blocks_same (same_S3 ..) (head_S (n := 3) 3 rfl inb_S16x128x128_S1x128x128_3_0_0 _ ?_) ?_; swap
  refine blocks_same (same_S2 ..) (head_S (n := 2) 2 rfl inb_S16x128x128_S1x128x128_2_0_0 _ ?_) ?_; swap
  refine blocks_same (same_S1 ..) (head_S (n := 1) 1 rfl inb_S16x128x128_S1x128x128_1_0_0 _ ?_) ?_; swap
  refine blocks_same (same_S0 ..) (head_S (n := 0) 0 rfl inb_S16x128x128_S1x128x128_0_0_0 _ ?_) ?_; swap
  trivial
  all_goals (repeat refine (View.readCov_skip _ _ _ _ _ (by rfl)).trans ?_); exact View.readCov_fill _ _ _ _ _ (by decide)

theorem canonFwdAS : View.canon (runFwdA (F := Ideal) c i arg1 harg1 arg2 harg2 arg3 harg3 arg4 harg4 arg5 harg5 arg6 harg6 arg7 harg7 arg8 harg8 arg9 harg9 arg10 harg10 hc0 x0 x1 x2 x3 x4 x5).2.1 = gS (k0_pay2 (F := Ideal)) :=
  canon_of_blocks (piecesFwdAS ..) fun _ => coverFwdAS ..

theorem piecesFwdASt : View.PiecesOf (gSt x1 (gV x2 x3 (k0_pay2 (F := Ideal))) x5 (k0_pay2 (F := Ideal))) ((runFwdA (F := Ideal) c i arg1 harg1 arg2 harg2 arg3 harg3 arg4 harg4 arg5 harg5 arg6 harg6 arg7 harg7 arg8 harg8 arg9 harg9 arg10 harg10 hc0 x0 x1 x2 x3 x4 x5).2.2.2.1.take 16) := by
  unfold runFwdA
  dsimp only
  have l2 := ld_of_block harg2
  have l6 := ld_of_block harg6
  have hv := canonFwdAV c arg3 harg3 arg4 harg4 arg10 x2 x3
  refine blocks_same (same_St15 ..) (head_St (n := 15) 15 rfl rfl _ inb_S16x128x128_S1x128x128_15_0_0 _ ?_ (l6 _ _) (l2 _ _) (ld_of_stores _ hv _)) ?_; swap
  refine blocks_same (same_St14 ..) (head_St (n := 14) 14 rfl rfl _ inb_S16x128x128_S1x128x128_14_0_0 _ ?_ (l6 _ _) (l2 _ _) (ld_of_stores _ hv _)) ?_; swap
  refine blocks_same (same_St13 ..) (head_St (n := 13) 13 rfl rfl _ inb_S16x128x128_S1x128x128_13_0_0 _ ?_ (l6 _ _) (l2 _ _) (ld_of_stores _ hv _)) ?_; swap
  refine blocks_same (same_St12 ..) (head_St (n := 12) 12 rfl rfl _ inb_S16x128x128_S1x128x128_12_0_0 _ ?_ (l6 _ _) (l2 _ _) (ld_of_stores _ hv _)) ?_; swap
  refine blocks_same (same_St11 ..) (head_St (n := 11) 11 rfl rfl _ inb_S16x128x128_S1x128x128_11_0_0 _ ?_ (l6 _ _) (l2 _ _) (ld_of_stores _ hv _)) ?_; swap
  refine blocks_same (same_St10 ..) (head_St (n := 10) 10 rfl rfl _ inb_S16x128x128_S1x128x128_10_0_0 _ ?_ (l6 _ _) (l2 _ _) (ld_of_stores _ hv _)) ?_; swap
  refine blocks_same (same_St9 ..) (head_St (n := 9) 9 rfl rfl _ inb_S16x128x128_S1x128x128_9_0_0 _ ?_ (l6 _ _) (l2 _ _) (ld_of_stores _ hv _)) ?_; swap
  refine blocks_same (same_St8 ..) (head_St (n := 8) 8 rfl rfl _ inb_S16x128x128_S1x128x128_8_0_0 _ ?_ (l6 _ _) (l2 _ _) (ld_of_stores _ hv _)) ?_; swap
  refine blocks_same (same_St7 ..) (head_St (n := 7) 7 rfl rfl _ inb_S16x128x128_S1x128x128_7_0_0 _ ?_ (l6 _ _) (l2 _ _) (ld_of_stores _ hv _)) ?_; swap
  refine blocks_same (same_St6 ..) (head_St (n := 6) 6 rfl rfl _ inb_S16x128x128_S1x128x128_6_0_0 _ ?_ (l6 _ _) (l2 _ _) (ld_of_stores _ hv _)) ?_; swap
  refine blocks_same (same_St5 ..) (head_St (n := 5) 5 rfl rfl _ inb_S16x128x128_S1x128x128_5_0_0 _ ?_ (l6 _ _) (l2 _ _) (ld_of_stores _ hv _)) ?_; swap
  refine blocks_same (same_St4 ..) (head_St (n := 4) 4 rfl rfl _ inb_S16x128x128_S1x128x128_4_0_0 _ ?_ (l6 _ _) (l2 _ _) (ld_of_stores _ hv _)) ?_; swap
  refine blocks_same (same_St3 ..) (head_St (n := 3) 3 rfl rfl _ inb_S16x128x128_S1x128x128_3_0_0 _ ?_ (l6 _ _) (l2 _ _) (ld_of_stores _ hv _)) ?_; swap
  refine blocks_same (same_St2 ..) (head_St (n := 2) 2 rfl rfl _ inb_S16x128x128_S1x128x128_2_0_0 _ ?_ (l6 _ _) (l2 _ _) (ld_of_stores _ hv _)) ?_; swap
  refine blocks_same (same_St1 ..) (head_St (n := 1) 1 rfl rfl _ inb_S16x128x128_S1x128x128_1_0_0 _ ?_ (l6 _ _) (l2 _ _) (ld_of_stores _ hv _)) ?_; swap
  refine blocks_same (same_St0 ..) (head_St (n := 0) 0 rfl rfl _ inb_S16x128x128_S1x128x128_0_0_0 _ ?_ (l6 _ _) (l2 _ _) (ld_of_stores _ hv _)) ?_; swap
  trivial
  all_goals (repeat refine (View.readCov_skip _ _ _ _ _ (by rfl)).trans ?_); exact View.readCov_fill _ _ _ _ _ (by decide)

theorem canonFwdASt : View.canon (runFwdA (F := Ideal) c i arg1 harg1 arg2 harg2 arg3 harg3 arg4 harg4 arg5 harg5 arg6 harg6 arg7 harg7 arg8 harg8 arg9 harg9 arg10 harg10 hc0 x0 x1 x2 x3 x4 x5).2.2.2.1 = gSt x1 (gV x2 x3 (k0_pay2 (F := Ideal))) x5 (k0_pay2 (F := Ideal)) :=
  canon_of_first 16 (piecesFwdASt ..) fun y =>
    View.cover_of_tiledL (s := S16x128x128) _ ![1, 128, 128] (by sl_kernel_rfl) y

theorem canonFwdA :
    let stores := runFwdA (F := Ideal) c i arg1 harg1 arg2 harg2 arg3 harg3 arg4 harg4 arg5 harg5 arg6 harg6 arg7 harg7 arg8 harg8 arg9 harg9 arg10 harg10 hc0 x0 x1 x2 x3 x4 x5
    View.canon stores.2.1 = gS (k0_pay2 (F := Ideal))
      ∧ View.canon stores.2.2.1 = gV x2 x3 (k0_pay2 (F := Ideal))
      ∧ View.canon stores.2.2.2.1 = gSt x1 (gV x2 x3 (k0_pay2 (F := Ideal))) x5 (k0_pay2 (F := Ideal)) :=
  ⟨canonFwdAS .., canonFwdAV c arg3 harg3 arg4 harg4 arg10 x2 x3, canonFwdASt ..⟩

end

section

variable (hc0 : ¬ firstFwd i)

theorem piecesFwdBV : View.PiecesOf (gV x2 x3 xs) (runFwdB.sl.H8_16 (F := Ideal) c arg3 harg3 arg4 harg4 arg10 harg10 x2 x3 xs) := by
  unfold runFwdB.sl.H8_16
  have l3 := ld_of_block harg3
  have l4 := ld_of_block harg4
  have l10 := ld_of_block harg10
  refine blocks_same (same_V15 ..) (head_V (n := 15) 15 rfl rfl _ _ (l3 _ _) (l4 _ _) (l10 _ _)) ?_
  refine blocks_same (same_V14 ..) (head_V (n := 14) 14 rfl rfl _ _ (l3 _ _) (l4 _ _) (l10 _ _)) ?_
  refine blocks_same (same_V13 ..) (head_V (n := 13) 13 rfl rfl _ _ (l3 _ _) (l4 _ _) (l10 _ _)) ?_
  refine blocks_same (same_V12 ..) (head_V (n := 12) 12 rfl rfl _ _ (l3 _ _) (l4 _ _) (l10 _ _)) ?_
  refine blocks_same (same_V11 ..) (head_V (n := 11) 11 rfl rfl _ _ (l3 _ _) (l4 _ _) (l10 _ _)) ?_
  refine blocks_same (same_V10 ..) (head_V (n := 10) 10 rfl rfl _ _ (l3 _ _) (l4 _ _) (l10 _ _)) ?_
  refine blocks_same (same_V9 ..) (head_V (n := 9) 9 rfl rfl _ _ (l3 _ _) (l4 _ _) (l10 _ _)) ?_
  refine blocks_same (same_V8 ..) (head_V (n := 8) 8 rfl rfl _ _ (l3 _ _) (l4 _ _) (l10 _ _)) ?_
  refine blocks_same (same_V7 ..) (head_V (n := 7) 7 rfl rfl _ _ (l3 _ _) (l4 _ _) (l10 _ _)) ?_
  refine blocks_same (same_V6 ..) (head_V (n := 6) 6 rfl rfl _ _ (l3 _ _) (l4 _ _) (l10 _ _)) ?_
  refine blocks_same (same_V5 ..) (head_V (n := 5) 5 rfl rfl _ _ (l3 _ _) (l4 _ _) (l10 _ _)) ?_
  refine blocks_same (same_V4 ..) (head_V (n := 4) 4 rfl rfl _ _ (l3 _ _) (l4 _ _) (l10 _ _)) ?_
  refine blocks_same (same_V3 ..) (head_V (n := 3) 3 rfl rfl _ _ (l3 _ _) (l4 _ _) (l10 _ _)) ?_
  refine blocks_same (same_V2 ..) (head_V (n := 2) 2 rfl rfl _ _ (l3 _ _) (l4 _ _) (l10 _ _)) ?_
  refine blocks_same (same_V1 ..) (head_V (n := 1) 1 rfl rfl _ _ (l3 _ _) (l4 _ _) (l10 _ _)) ?_
  refine blocks_same (same_V0 ..) (head_V (n := 0) 0 rfl rfl _ _ (l3 _ _) (l4 _ _) (l10 _ _)) ?_
  trivial

theorem canonFwdBV : View.canon (runFwdB.sl.H8_16 (F := Ideal) c arg3 harg3 arg4 harg4 arg10 harg10 x2 x3 xs) = gV x2 x3 xs :=
  canon_of_blocks (piecesFwdBV ..) fun y =>
    View.cover_of_tiledL (s := S64x2048) _ S64x128.size (by sl_kernel_rfl) y

theorem piecesFwdBS : View.PiecesOf (gS xs) (runFwdB (F := Ideal) c i arg1 harg1 arg2 harg2 arg3 harg3 arg4 harg4 arg5 harg5 arg6 harg6 arg7 harg7 arg8 harg8 arg9 harg9 arg10 harg10 hc0 x0 x1 x2 x3 x4 x5 xs).2.1 := by
  unfold runFwdB
  dsimp only
  have l10 := ld_of_block harg10
  refine blocks_same (same_S15 ..) (head_S (n := 15) 15 rfl _ _ (l10 _ _)) ?_
  refine blocks_same (same_S14 ..) (head_S (n := 14) 14 rfl _ _ (l10 _ _)) ?_
  refine blocks_same (same_S13 ..) (head_S (n := 13) 13 rfl _ _ (l10 _ _)) ?_
  refine blocks_same (same_S12 ..) (head_S (n := 12) 12 rfl _ _ (l10 _ _)) ?_
  refine blocks_same (same_S11 ..) (head_S (n := 11) 11 rfl _ _ (l10 _ _)) ?_
  refine blocks_same (same_S10 ..) (head_S (n := 10) 10 rfl _ _ (l10 _ _)) ?_
  refine blocks_same (same_S9 ..) (head_S (n := 9) 9 rfl _ _ (l10 _ _)) ?_
  refine blocks_same (same_S8 ..) (head_S (n := 8) 8 rfl _ _ (l10 _ _)) ?_
  refine blocks_same (same_S7 ..) (head_S (n := 7) 7 rfl _ _ (l10 _ _)) ?_
  refine blocks_same (same_S6 ..) (head_S (n := 6) 6 rfl _ _ (l10 _ _)) ?_
  refine blocks_same (same_S5 ..) (head_S (n := 5) 5 rfl _ _ (l10 _ _)) ?_
  refine blocks_same (same_S4 ..) (head_S (n := 4) 4 rfl _ _ (l10 _ _)) ?_
  refine blocks_same (same_S3 ..) (head_S (n := 3) 3 rfl _ _ (l10 _ _)) ?_
  refine blocks_same (same_S2 ..) (head_S (n := 2) 2 rfl _ _ (l10 _ _)) ?_
  refine blocks_same (same_S1 ..) (head_S (n := 1) 1 rfl _ _ (l10 _ _)) ?_
  refine blocks_same (same_S0 ..) (head_S (n := 0) 0 rfl _ _ (l10 _ _)) ?_
  trivial

theorem canonFwdBS : View.canon (runFwdB (F := Ideal) c i arg1 harg1 arg2 harg2 arg3 harg3 arg4 harg4 arg5 harg5 arg6 harg6 arg7 harg7 arg8 harg8 arg9 harg9 arg10 harg10 hc0 x0 x1 x2 x3 x4 x5 xs).2.1 = gS xs :=
  canon_of_blocks (piecesFwdBS ..) fun _ => coverFwdBS ..

theorem piecesFwdBSt : View.PiecesOf (gSt x1 (gV x2 x3 xs) x5 xs) (runFwdB (F := Ideal) c i arg1 harg1 arg2 harg2 arg3 harg3 arg4 harg4 arg5 harg5 arg6 harg6 arg7 harg7 arg8 harg8 arg9 harg9 arg10 harg10 hc0 x0 x1 x2 x3 x4 x5 xs).2.2.2.1 := by
  unfold runFwdB
  dsimp only
  have l2 := ld_of_block harg2
  have l6 := ld_of_block harg6
  have l10 := ld_of_block harg10
  have hv := canonFwdBV c arg3 harg3 arg4 harg4 arg10 harg10 x2 x3 xs
  refine blocks_same (same_St15 ..) (head_St (n := 15) 15 rfl rfl _ _ _ (l10 _ _) (l6 _ _) (l2 _ _) (ld_of_stores _ hv _)) ?_
  refine blocks_same (same_St14 ..) (head_St (n := 14) 14 rfl rfl _ _ _ (l10 _ _) (l6 _ _) (l2 _ _) (ld_of_stores _ hv _)) ?_
  refine blocks_same (same_St13 ..) (head_St (n := 13) 13 rfl rfl _ _ _ (l10 _ _) (l6 _ _) (l2 _ _) (ld_of_stores _ hv _)) ?_
  refine blocks_same (same_St12 ..) (head_St (n := 12) 12 rfl rfl _ _ _ (l10 _ _) (l6 _ _) (l2 _ _) (ld_of_stores _ hv _)) ?_
  refine blocks_same (same_St11 ..) (head_St (n := 11) 11 rfl rfl _ _ _ (l10 _ _) (l6 _ _) (l2 _ _) (ld_of_stores _ hv _)) ?_
  refine blocks_same (same_St10 ..) (head_St (n := 10) 10 rfl rfl _ _ _ (l10 _ _) (l6 _ _) (l2 _ _) (ld_of_stores _ hv _)) ?_
  refine blocks_same (same_St9 ..) (head_St (n := 9) 9 rfl rfl _ _ _ (l10 _ _) (l6 _ _) (l2 _ _) (ld_of_stores _ hv _)) ?_
  refine blocks_same (same_St8 ..) (head_St (n := 8) 8 rfl rfl _ _ _ (l10 _ _) (l6 _ _) (l2 _ _) (ld_of_stores _ hv _)) ?_
  refine blocks_same (same_St7 ..) (head_St (n := 7) 7 rfl rfl _ _ _ (l10 _ _) (l6 _ _) (l2 _ _) (ld_of_stores _ hv _)) ?_
  refine blocks_same (same_St6 ..) (head_St (n := 6) 6 rfl rfl _ _ _ (l10 _ _) (l6 _ _) (l2 _ _) (ld_of_stores _ hv _)) ?_
  refine blocks_same (same_St5 ..) (head_St (n := 5) 5 rfl rfl _ _ _ (l10 _ _) (l6 _ _) (l2 _ _) (ld_of_stores _ hv _)) ?_
  refine blocks_same (same_St4 ..) (head_St (n := 4) 4 rfl rfl _ _ _ (l10 _ _) (l6 _ _) (l2 _ _) (ld_of_stores _ hv _)) ?_
  refine blocks_same (same_St3 ..) (head_St (n := 3) 3 rfl rfl _ _ _ (l10 _ _) (l6 _ _) (l2 _ _) (ld_of_stores _ hv _)) ?_
  refine blocks_same (same_St2 ..) (head_St (n := 2) 2 rfl rfl _ _ _ (l10 _ _) (l6 _ _) (l2 _ _) (ld_of_stores _ hv _)) ?_
  refine blocks_same (same_St1 ..) (head_St (n := 1) 1 rfl rfl _ _ _ (l10 _ _) (l6 _ _) (l2 _ _) (ld_of_stores _ hv _)) ?_
  refine blocks_same (same_St0 ..) (head_St (n := 0) 0 rfl rfl _ _ _ (l10 _ _) (l6 _ _) (l2 _ _) (ld_of_stores _ hv _)) ?_
  trivial

theorem canonFwdBSt : View.canon (runFwdB (F := Ideal) c i arg1 harg1 arg2 harg2 arg3 harg3 arg4 harg4 arg5 harg5 arg6 harg6 arg7 harg7 arg8 harg8 arg9 harg9 arg10 harg10 hc0 x0 x1 x2 x3 x4 x5 xs).2.2.2.1 = gSt x1 (gV x2 x3 xs) x5 xs :=
  canon_of_blocks (piecesFwdBSt ..) fun _ => coverFwdBSt ..

theorem canonFwdB :
    let stores := runFwdB (F := Ideal) c i arg1 harg1 arg2 harg2 arg3 harg3 arg4 harg4 arg5 harg5 arg6 harg6 arg7 harg7 arg8 harg8 arg9 harg9 arg10 harg10 hc0 x0 x1 x2 x3 x4 x5 xs
    View.canon stores.2.1 = gS xs
      ∧ View.canon stores.2.2.1 = gV x2 x3 xs
      ∧ View.canon stores.2.2.2.1 = gSt x1 (gV x2 x3 xs) x5 xs :=
  ⟨canonFwdBS .., canonFwdBV c arg3 harg3 arg4 harg4 arg10 harg10 x2 x3 xs, canonFwdBSt ..⟩

end

end

end Cert.KernelIdeal.Scan
-- ==== Proof.ScanBwdVal.lean ====
/- What the stores of a backward chunk leave, head by head: the sums of `ScanHeads` (the first chunk from an adjoint state of zeros). -/
module

public import proofs.«01_k».proof.Proof.ScanHeads
public import proofs.«01_k».proof.Proof.ScanSame
public import proofs.«01_k».proof.Proof.ScanBwdStep

@[expose] public section

set_option maxRecDepth 16384

noncomputable section

namespace Cert.KernelIdeal.Scan

open Cert.KernelIdeal.Gen
open Idealize.ShloMosaic Idealize.ShloMosaic.TcCoe Idealize.SL.Sem

section

variable (c : Dev nD) (i : grid1.Coords)
  (arg1 : Memref sig .tc .vmem S64x2048 .f32) (harg1 : arg1.IsWhole)
  (arg2 : Memref sig .tc .vmem S64x2048 .bf16) (harg2 : arg2.IsWhole)
  (arg3 : Memref sig .tc .vmem S64x2048 .bf16) (harg3 : arg3.IsWhole)
  (arg4 : Memref sig .tc .vmem S64x2048 .bf16) (harg4 : arg4.IsWhole)
  (arg5 : Memref sig .tc .vmem S1x16x64x64 .bf16) (harg5 : arg5.IsWhole)
  (arg6 : Memref sig .tc .vmem S1x16x1x128 .f32) (harg6 : arg6.IsWhole)
  (arg7 : Memref sig .tc .vmem S1x16x128x128 .f32) (harg7 : arg7.IsWhole)
  (arg8 : Memref sig .tc .vmem S64x2048 .bf16) (harg8 : arg8.IsWhole)
  (arg9 : Memref sig .tc .vmem S64x2048 .f32) (harg9 : arg9.IsWhole)
  (arg10 : Memref sig .tc .vmem S64x2048 .f32) (harg10 : arg10.IsWhole)
  (arg11 : Memref sig .tc .vmem S64x2048 .f32) (harg11 : arg11.IsWhole)
  (arg12 : Memref sig .tc .vmem S64x2048 .f32) (harg12 : arg12.IsWhole)
  (arg13 : Memref sig .tc .vmem S1x16x64x64 .f32) (harg13 : arg13.IsWhole)
  (arg14 : Memref sig .tc .vmem S1x16x1x128 .f32) (harg14 : arg14.IsWhole)
  (arg15 : Memref sig .tc .vmem S16x128x128 .f32) (harg15 : arg15.IsWhole)

variable (x0 : Vec Ideal S64x2048 .f32) (x1 : Vec Ideal S64x2048 .bf16) (x2 : Vec Ideal S64x2048 .bf16) (x3 : Vec Ideal S64x2048 .bf16) (x4 : Vec Ideal S1x16x64x64 .bf16) (x5 : Vec Ideal S1x16x1x128 .f32) (x6 : Vec Ideal S1x16x128x128 .f32) (x7 : Vec Ideal S64x2048 .bf16) (xs : Vec Ideal S16x128x128 .f32)

section

variable (hc0 : firstBwd i)

theorem piecesBwdADu : View.PiecesOf (gDu x0 x2 x4 (k1_pay2 (F := Ideal))) (runBwdA.sl.H10_16 (F := Ideal) c arg1 harg1 arg3 harg3 arg5 harg5 arg15 x0 x2 x4) := by
  unfold runBwdA.sl.H10_16
  have l1 := ld_of_block harg1
  have l3 := ld_of_block harg3
  have l5 := ld_of_block harg5
  refine blocks_same (same_Du15 ..) (head_Du (n := 15) 15 rfl rfl _ inb_S16x128x128_S1x128x128_15_0_0 _ (l5 _ _) (l1 _ _) (l3 _ _) ?_) ?_; swap
  refine blocks_same (same_Du14 ..) (head_Du (n := 14) 14 rfl rfl _ inb_S16x128x128_S1x128x128_14_0_0 _ (l5 _ _) (l1 _ _) (l3 _ _) ?_) ?_; swap
  refine blocks_same (same_Du13 ..) (head_Du (n := 13) 13 rfl rfl _ inb_S16x128x128_S1x128x128_13_0_0 _ (l5 _ _) (l1 _ _) (l3 _ _) ?_) ?_; swap
  refine blocks_same (same_Du12 ..) (head_Du (n := 12) 12 rfl rfl _ inb_S16x128x128_S1x128x128_12_0_0 _ (l5 _ _) (l1 _ _) (l3 _ _) ?_) ?_; swap
  refine blocks_same (same_Du11 ..) (head_Du (n := 11) 11 rfl rfl _ inb_S16x128x128_S1x128x128_11_0_0 _ (l5 _ _) (l1 _ _) (l3 _ _) ?_) ?_; swap
  refine blocks_same (same_Du10 ..) (head_Du (n := 10) 10 rfl rfl _ inb_S16x128x128_S1x128x128_10_0_0 _ (l5 _ _) (l1 _ _) (l3 _ _) ?_) ?_; swap
  refine blocks_same (same_Du9 ..) (head_Du (n := 9) 9 rfl rfl _ inb_S16x128x128_S1x128x128_9_0_0 _ (l5 _ _) (l1 _ _) (l3 _ _) ?_) ?_; swap
  refine blocks_same (same_Du8 ..) (head_Du (n := 8) 8 rfl rfl _ inb_S16x128x128_S1x128x128_8_0_0 _ (l5 _ _) (l1 _ _) (l3 _ _) ?_) ?_; swap
  refine blocks_same (same_Du7 ..) (head_Du (n := 7) 7 rfl rfl _ inb_S16x128x128_S1x128x128_7_0_0 _ (l5 _ _) (l1 _ _) (l3 _ _) ?_) ?_; swap
  refine blocks_same (same_Du6 ..) (head_Du (n := 6) 6 rfl rfl _ inb_S16x128x128_S1x128x128_6_0_0 _ (l5 _ _) (l1 _ _) (l3 _ _) ?_) ?_; swap
  refine blocks_same (same_Du5 ..) (head_Du (n := 5) 5 rfl rfl _ inb_S16x128x128_S1x128x128_5_0_0 _ (l5 _ _) (l1 _ _) (l3 _ _) ?_) ?_; swap
  refine blocks_same (same_Du4 ..) (head_Du (n := 4) 4 rfl rfl _ inb_S16x128x128_S1x128x128_4_0_0 _ (l5 _ _) (l1 _ _) (l3 _ _) ?_) ?_; swap
  refine blocks_same (same_Du3 ..) (head_Du (n := 3) 3 rfl rfl _ inb_S16x128x128_S1x128x128_3_0_0 _ (l5 _ _) (l1 _ _) (l3 _ _) ?_) ?_; swap
  refine blocks_same (same_Du2 ..) (head_Du (n := 2) 2 rfl rfl _ inb_S16x128x128_S1x128x128_2_0_0 _ (l5 _ _) (l1 _ _) (l3 _ _) ?_) ?_; swap
  refine blocks_same (same_Du1 ..) (head_Du (n := 1) 1 rfl rfl _ inb_S16x128x128_S1x128x128_1_0_0 _ (l5 _ _) (l1 _ _) (l3 _ _) ?_) ?_; swap
  refine blocks_same (same_Du0 ..) (head_Du (n := 0) 0 rfl rfl _ inb_S16x128x128_S1x128x128_0_0_0 _ (l5 _ _) (l1 _ _) (l3 _ _) ?_) ?_; swap
  trivial
  all_goals (repeat refine (View.readCov_skip _ _ _ _ _ (by rfl)).trans ?_); exact View.readCov_fill _ _ _ _ _ (by decide)

theorem canonBwdADu : View.canon (runBwdA.sl.H10_16 (F := Ideal) c arg1 harg1 arg3 harg3 arg5 harg5 arg15 x0 x2 x4) = gDu x0 x2 x4 (k1_pay2 (F := Ideal)) :=
  canon_of_blocks (piecesBwdADu ..) fun y =>
    View.cover_of_tiledL (s := S64x2048) _ S64x128.size (by sl_kernel_rfl) y

theorem piecesBwdADqd : View.PiecesOf (gDqd x0 x6) (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 := by
  unfold runBwdA
  dsimp only
  have l1 := ld_of_block harg1
  have l7 := ld_of_block harg7
  refine blocks_same (same_Dqd15 ..) (head_Dqd (n := 15) 15 rfl rfl _ _ (l1 _ _) (l7 _ _)) ?_
  refine blocks_same (same_Dqd14 ..) (head_Dqd (n := 14) 14 rfl rfl _ _ (l1 _ _) (l7 _ _)) ?_
  refine blocks_same (same_Dqd13 ..) (head_Dqd (n := 13) 13 rfl rfl _ _ (l1 _ _) (l7 _ _)) ?_
  refine blocks_same (same_Dqd12 ..) (head_Dqd (n := 12) 12 rfl rfl _ _ (l1 _ _) (l7 _ _)) ?_
  refine blocks_same (same_Dqd11 ..) (head_Dqd (n := 11) 11 rfl rfl _ _ (l1 _ _) (l7 _ _)) ?_
  refine blocks_same (same_Dqd10 ..) (head_Dqd (n := 10) 10 rfl rfl _ _ (l1 _ _) (l7 _ _)) ?_
  refine blocks_same (same_Dqd9 ..) (head_Dqd (n := 9) 9 rfl rfl _ _ (l1 _ _) (l7 _ _)) ?_
  refine blocks_same (same_Dqd8 ..) (head_Dqd (n := 8) 8 rfl rfl _ _ (l1 _ _) (l7 _ _)) ?_
  refine blocks_same (same_Dqd7 ..) (head_Dqd (n := 7) 7 rfl rfl _ _ (l1 _ _) (l7 _ _)) ?_
  refine blocks_same (same_Dqd6 ..) (head_Dqd (n := 6) 6 rfl rfl _ _ (l1 _ _) (l7 _ _)) ?_
  refine blocks_same (same_Dqd5 ..) (head_Dqd (n := 5) 5 rfl rfl _ _ (l1 _ _) (l7 _ _)) ?_
  refine blocks_same (same_Dqd4 ..) (head_Dqd (n := 4) 4 rfl rfl _ _ (l1 _ _) (l7 _ _)) ?_
  refine blocks_same (same_Dqd3 ..) (head_Dqd (n := 3) 3 rfl rfl _ _ (l1 _ _) (l7 _ _)) ?_
  refine blocks_same (same_Dqd2 ..) (head_Dqd (n := 2) 2 rfl rfl _ _ (l1 _ _) (l7 _ _)) ?_
  refine blocks_same (same_Dqd1 ..) (head_Dqd (n := 1) 1 rfl rfl _ _ (l1 _ _) (l7 _ _)) ?_
  refine blocks_same (same_Dqd0 ..) (head_Dqd (n := 0) 0 rfl rfl _ _ (l1 _ _) (l7 _ _)) ?_
  trivial

theorem canonBwdADqd : View.canon (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = gDqd x0 x6 :=
  canon_of_blocks (piecesBwdADqd ..) fun _ => coverBwdADqd ..

theorem piecesBwdADkd : View.PiecesOf (gDkd x7 (k1_pay2 (F := Ideal))) (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 := by
  unfold runBwdA
  dsimp only
  have l8 := ld_of_block harg8
  refine blocks_same (same_Dkd15 ..) (head_Dkd (n := 15) 15 rfl rfl _ inb_S16x128x128_S1x128x128_15_0_0 ?_ (l8 _ _)) ?_; swap
  refine blocks_same (same_Dkd14 ..) (head_Dkd (n := 14) 14 rfl rfl _ inb_S16x128x128_S1x128x128_14_0_0 ?_ (l8 _ _)) ?_; swap
  refine blocks_same (same_Dkd13 ..) (head_Dkd (n := 13) 13 rfl rfl _ inb_S16x128x128_S1x128x128_13_0_0 ?_ (l8 _ _)) ?_; swap
  refine blocks_same (same_Dkd12 ..) (head_Dkd (n := 12) 12 rfl rfl _ inb_S16x128x128_S1x128x128_12_0_0 ?_ (l8 _ _)) ?_; swap
  refine blocks_same (same_Dkd11 ..) (head_Dkd (n := 11) 11 rfl rfl _ inb_S16x128x128_S1x128x128_11_0_0 ?_ (l8 _ _)) ?_; swap
  refine blocks_same (same_Dkd10 ..) (head_Dkd (n := 10) 10 rfl rfl _ inb_S16x128x128_S1x128x128_10_0_0 ?_ (l8 _ _)) ?_; swap
  refine blocks_same (same_Dkd9 ..) (head_Dkd (n := 9) 9 rfl rfl _ inb_S16x128x128_S1x128x128_9_0_0 ?_ (l8 _ _)) ?_; swap
  refine blocks_same (same_Dkd8 ..) (head_Dkd (n := 8) 8 rfl rfl _ inb_S16x128x128_S1x128x128_8_0_0 ?_ (l8 _ _)) ?_; swap
  refine blocks_same (same_Dkd7 ..) (head_Dkd (n := 7) 7 rfl rfl _ inb_S16x128x128_S1x128x128_7_0_0 ?_ (l8 _ _)) ?_; swap
  refine blocks_same (same_Dkd6 ..) (head_Dkd (n := 6) 6 rfl rfl _ inb_S16x128x128_S1x128x128_6_0_0 ?_ (l8 _ _)) ?_; swap
  refine blocks_same (same_Dkd5 ..) (head_Dkd (n := 5) 5 rfl rfl _ inb_S16x128x128_S1x128x128_5_0_0 ?_ (l8 _ _)) ?_; swap
  refine blocks_same (same_Dkd4 ..) (head_Dkd (n := 4) 4 rfl rfl _ inb_S16x128x128_S1x128x128_4_0_0 ?_ (l8 _ _)) ?_; swap
  refine blocks_same (same_Dkd3 ..) (head_Dkd (n := 3) 3 rfl rfl _ inb_S16x128x128_S1x128x128_3_0_0 ?_ (l8 _ _)) ?_; swap
  refine blocks_same (same_Dkd2 ..) (head_Dkd (n := 2) 2 rfl rfl _ inb_S16x128x128_S1x128x128_2_0_0 ?_ (l8 _ _)) ?_; swap
  refine blocks_same (same_Dkd1 ..) (head_Dkd (n := 1) 1 rfl rfl _ inb_S16x128x128_S1x128x128_1_0_0 ?_ (l8 _ _)) ?_; swap
  refine blocks_same (same_Dkd0 ..) (head_Dkd (n := 0) 0 rfl rfl _ inb_S16x128x128_S1x128x128_0_0_0 ?_ (l8 _ _)) ?_; swap
  trivial
  all_goals (repeat refine (View.readCov_skip _ _ _ _ _ (by rfl)).trans ?_); exact View.readCov_fill _ _ _ _ _ (by decide)

theorem canonBwdADkd : View.canon (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = gDkd x7 (k1_pay2 (F := Ideal)) :=
  canon_of_blocks (piecesBwdADkd ..) fun _ => coverBwdADkd ..

theorem piecesBwdADw : View.PiecesOf (gDw (gDu x0 x2 x4 (k1_pay2 (F := Ideal))) x6) (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 := by
  unfold runBwdA
  dsimp only
  have l7 := ld_of_block harg7
  have hv := canonBwdADu c arg1 harg1 arg3 harg3 arg5 harg5 arg15 x0 x2 x4
  refine blocks_same (same_Dw15 ..) (head_Dw (n := 15) 15 rfl rfl _ _ (ld_of_stores _ hv _) (l7 _ _)) ?_
  refine blocks_same (same_Dw14 ..) (head_Dw (n := 14) 14 rfl rfl _ _ (ld_of_stores _ hv _) (l7 _ _)) ?_
  refine blocks_same (same_Dw13 ..) (head_Dw (n := 13) 13 rfl rfl _ _ (ld_of_stores _ hv _) (l7 _ _)) ?_
  refine blocks_same (same_Dw12 ..) (head_Dw (n := 12) 12 rfl rfl _ _ (ld_of_stores _ hv _) (l7 _ _)) ?_
  refine blocks_same (same_Dw11 ..) (head_Dw (n := 11) 11 rfl rfl _ _ (ld_of_stores _ hv _) (l7 _ _)) ?_
  refine blocks_same (same_Dw10 ..) (head_Dw (n := 10) 10 rfl rfl _ _ (ld_of_stores _ hv _) (l7 _ _)) ?_
  refine blocks_same (same_Dw9 ..) (head_Dw (n := 9) 9 rfl rfl _ _ (ld_of_stores _ hv _) (l7 _ _)) ?_
  refine blocks_same (same_Dw8 ..) (head_Dw (n := 8) 8 rfl rfl _ _ (ld_of_stores _ hv _) (l7 _ _)) ?_
  refine blocks_same (same_Dw7 ..) (head_Dw (n := 7) 7 rfl rfl _ _ (ld_of_stores _ hv _) (l7 _ _)) ?_
  refine blocks_same (same_Dw6 ..) (head_Dw (n := 6) 6 rfl rfl _ _ (ld_of_stores _ hv _) (l7 _ _)) ?_
  refine blocks_same (same_Dw5 ..) (head_Dw (n := 5) 5 rfl rfl _ _ (ld_of_stores _ hv _) (l7 _ _)) ?_
  refine blocks_same (same_Dw4 ..) (head_Dw (n := 4) 4 rfl rfl _ _ (ld_of_stores _ hv _) (l7 _ _)) ?_
  refine blocks_same (same_Dw3 ..) (head_Dw (n := 3) 3 rfl rfl _ _ (ld_of_stores _ hv _) (l7 _ _)) ?_
  refine blocks_same (same_Dw2 ..) (head_Dw (n := 2) 2 rfl rfl _ _ (ld_of_stores _ hv _) (l7 _ _)) ?_
  refine blocks_same (same_Dw1 ..) (head_Dw (n := 1) 1 rfl rfl _ _ (ld_of_stores _ hv _) (l7 _ _)) ?_
  refine blocks_same (same_Dw0 ..) (head_Dw (n := 0) 0 rfl rfl _ _ (ld_of_stores _ hv _) (l7 _ _)) ?_
  trivial

theorem canonBwdADw : View.canon (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 = gDw (gDu x0 x2 x4 (k1_pay2 (F := Ideal))) x6 :=
  canon_of_blocks (piecesBwdADw ..) fun _ => coverBwdADw ..

theorem piecesBwdADa : View.PiecesOf (gDa x0 x7) (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 := by
  unfold runBwdA
  dsimp only
  have l1 := ld_of_block harg1
  have l8 := ld_of_block harg8
  refine blocks_same (same_Da15 ..) (head_Da (n := 15) 15 rfl rfl _ _ (l1 _ _) (l8 _ _)) ?_
  refine blocks_same (same_Da14 ..) (head_Da (n := 14) 14 rfl rfl _ _ (l1 _ _) (l8 _ _)) ?_
  refine blocks_same (same_Da13 ..) (head_Da (n := 13) 13 rfl rfl _ _ (l1 _ _) (l8 _ _)) ?_
  refine blocks_same (same_Da12 ..) (head_Da (n := 12) 12 rfl rfl _ _ (l1 _ _) (l8 _ _)) ?_
  refine blocks_same (same_Da11 ..) (head_Da (n := 11) 11 rfl rfl _ _ (l1 _ _) (l8 _ _)) ?_
  refine blocks_same (same_Da10 ..) (head_Da (n := 10) 10 rfl rfl _ _ (l1 _ _) (l8 _ _)) ?_
  refine blocks_same (same_Da9 ..) (head_Da (n := 9) 9 rfl rfl _ _ (l1 _ _) (l8 _ _)) ?_
  refine blocks_same (same_Da8 ..) (head_Da (n := 8) 8 rfl rfl _ _ (l1 _ _) (l8 _ _)) ?_
  refine blocks_same (same_Da7 ..) (head_Da (n := 7) 7 rfl rfl _ _ (l1 _ _) (l8 _ _)) ?_
  refine blocks_same (same_Da6 ..) (head_Da (n := 6) 6 rfl rfl _ _ (l1 _ _) (l8 _ _)) ?_
  refine blocks_same (same_Da5 ..) (head_Da (n := 5) 5 rfl rfl _ _ (l1 _ _) (l8 _ _)) ?_
  refine blocks_same (same_Da4 ..) (head_Da (n := 4) 4 rfl rfl _ _ (l1 _ _) (l8 _ _)) ?_
  refine blocks_same (same_Da3 ..) (head_Da (n := 3) 3 rfl rfl _ _ (l1 _ _) (l8 _ _)) ?_
  refine blocks_same (same_Da2 ..) (head_Da (n := 2) 2 rfl rfl _ _ (l1 _ _) (l8 _ _)) ?_
  refine blocks_same (same_Da1 ..) (head_Da (n := 1) 1 rfl rfl _ _ (l1 _ _) (l8 _ _)) ?_
  refine blocks_same (same_Da0 ..) (head_Da (n := 0) 0 rfl rfl _ _ (l1 _ _) (l8 _ _)) ?_
  trivial

theorem canonBwdADa : View.canon (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 = gDa x0 x7 :=
  canon_of_blocks (piecesBwdADa ..) fun _ => coverBwdADa ..

theorem piecesBwdADc : View.PiecesOf (gDc x6 (k1_pay2 (F := Ideal))) (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 := by
  unfold runBwdA
  dsimp only
  have l7 := ld_of_block harg7
  refine blocks_same (same_Dc15 ..) (head_Dc (n := 15) 15 rfl inb_S16x128x128_S1x128x128_15_0_0 _ _ ?_ (l7 _ _)) ?_; swap
  refine blocks_same (same_Dc14 ..) (head_Dc (n := 14) 14 rfl inb_S16x128x128_S1x128x128_14_0_0 _ _ ?_ (l7 _ _)) ?_; swap
  refine blocks_same (same_Dc13 ..) (head_Dc (n := 13) 13 rfl inb_S16x128x128_S1x128x128_13_0_0 _ _ ?_ (l7 _ _)) ?_; swap
  refine blocks_same (same_Dc12 ..) (head_Dc (n := 12) 12 rfl inb_S16x128x128_S1x128x128_12_0_0 _ _ ?_ (l7 _ _)) ?_; swap
  refine blocks_same (same_Dc11 ..) (head_Dc (n := 11) 11 rfl inb_S16x128x128_S1x128x128_11_0_0 _ _ ?_ (l7 _ _)) ?_; swap
  refine blocks_same (same_Dc10 ..) (head_Dc (n := 10) 10 rfl inb_S16x128x128_S1x128x128_10_0_0 _ _ ?_ (l7 _ _)) ?_; swap
  refine blocks_same (same_Dc9 ..) (head_Dc (n := 9) 9 rfl inb_S16x128x128_S1x128x128_9_0_0 _ _ ?_ (l7 _ _)) ?_; swap
  refine blocks_same (same_Dc8 ..) (head_Dc (n := 8) 8 rfl inb_S16x128x128_S1x128x128_8_0_0 _ _ ?_ (l7 _ _)) ?_; swap
  refine blocks_same (same_Dc7 ..) (head_Dc (n := 7) 7 rfl inb_S16x128x128_S1x128x128_7_0_0 _ _ ?_ (l7 _ _)) ?_; swap
  refine blocks_same (same_Dc6 ..) (head_Dc (n := 6) 6 rfl inb_S16x128x128_S1x128x128_6_0_0 _ _ ?_ (l7 _ _)) ?_; swap
  refine blocks_same (same_Dc5 ..) (head_Dc (n := 5) 5 rfl inb_S16x128x128_S1x128x128_5_0_0 _ _ ?_ (l7 _ _)) ?_; swap
  refine blocks_same (same_Dc4 ..) (head_Dc (n := 4) 4 rfl inb_S16x128x128_S1x128x128_4_0_0 _ _ ?_ (l7 _ _)) ?_; swap
  refine blocks_same (same_Dc3 ..) (head_Dc (n := 3) 3 rfl inb_S16x128x128_S1x128x128_3_0_0 _ _ ?_ (l7 _ _)) ?_; swap
  refine blocks_same (same_Dc2 ..) (head_Dc (n := 2) 2 rfl inb_S16x128x128_S1x128x128_2_0_0 _ _ ?_ (l7 _ _)) ?_; swap
  refine blocks_same (same_Dc1 ..) (head_Dc (n := 1) 1 rfl inb_S16x128x128_S1x128x128_1_0_0 _ _ ?_ (l7 _ _)) ?_; swap
  refine blocks_same (same_Dc0 ..) (head_Dc (n := 0) 0 rfl inb_S16x128x128_S1x128x128_0_0_0 _ _ ?_ (l7 _ _)) ?_; swap
  trivial
  all_goals (repeat refine (View.readCov_skip _ _ _ _ _ (by rfl)).trans ?_); exact View.readCov_fill _ _ _ _ _ (by decide)

theorem canonBwdADc : View.canon (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 = gDc x6 (k1_pay2 (F := Ideal)) :=
  canon_of_blocks (piecesBwdADc ..) fun _ => coverBwdADc ..

theorem piecesBwdASt : View.PiecesOf (gDS x0 x1 x3 (gDu x0 x2 x4 (k1_pay2 (F := Ideal))) x5 (k1_pay2 (F := Ideal))) ((runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1.take 16) := by
  unfold runBwdA
  dsimp only
  have l1 := ld_of_block harg1
  have l2 := ld_of_block harg2
  have l4 := ld_of_block harg4
  have l6 := ld_of_block harg6
  have hv := canonBwdADu c arg1 harg1 arg3 harg3 arg5 harg5 arg15 x0 x2 x4
  refine blocks_same (same_DS15 ..) (head_DS (n := 15) 15 rfl rfl _ inb_S16x128x128_S1x128x128_15_0_0 _ ?_ (l6 _ _) (l2 _ _) (l1 _ _) (l4 _ _) (ld_of_stores _ hv _)) ?_; swap
  refine blocks_same (same_DS14 ..) (head_DS (n := 14) 14 rfl rfl _ inb_S16x128x128_S1x128x128_14_0_0 _ ?_ (l6 _ _) (l2 _ _) (l1 _ _) (l4 _ _) (ld_of_stores _ hv _)) ?_; swap
  refine blocks_same (same_DS13 ..) (head_DS (n := 13) 13 rfl rfl _ inb_S16x128x128_S1x128x128_13_0_0 _ ?_ (l6 _ _) (l2 _ _) (l1 _ _) (l4 _ _) (ld_of_stores _ hv _)) ?_; swap
  refine blocks_same (same_DS12 ..) (head_DS (n := 12) 12 rfl rfl _ inb_S16x128x128_S1x128x128_12_0_0 _ ?_ (l6 _ _) (l2 _ _) (l1 _ _) (l4 _ _) (ld_of_stores _ hv _)) ?_; swap
  refine blocks_same (same_DS11 ..) (head_DS (n := 11) 11 rfl rfl _ inb_S16x128x128_S1x128x128_11_0_0 _ ?_ (l6 _ _) (l2 _ _) (l1 _ _) (l4 _ _) (ld_of_stores _ hv _)) ?_; swap
  refine blocks_same (same_DS10 ..) (head_DS (n := 10) 10 rfl rfl _ inb_S16x128x128_S1x128x128_10_0_0 _ ?_ (l6 _ _) (l2 _ _) (l1 _ _) (l4 _ _) (ld_of_stores _ hv _)) ?_; swap
  refine blocks_same (same_DS9 ..) (head_DS (n := 9) 9 rfl rfl _ inb_S16x128x128_S1x128x128_9_0_0 _ ?_ (l6 _ _) (l2 _ _) (l1 _ _) (l4 _ _) (ld_of_stores _ hv _)) ?_; swap
  refine blocks_same (same_DS8 ..) (head_DS (n := 8) 8 rfl rfl _ inb_S16x128x128_S1x128x128_8_0_0 _ ?_ (l6 _ _) (l2 _ _) (l1 _ _) (l4 _ _) (ld_of_stores _ hv _)) ?_; swap
  refine blocks_same (same_DS7 ..) (head_DS (n := 7) 7 rfl rfl _ inb_S16x128x128_S1x128x128_7_0_0 _ ?_ (l6 _ _) (l2 _ _) (l1 _ _) (l4 _ _) (ld_of_stores _ hv _)) ?_; swap
  refine blocks_same (same_DS6 ..) (head_DS (n := 6) 6 rfl rfl _ inb_S16x128x128_S1x128x128_6_0_0 _ ?_ (l6 _ _) (l2 _ _) (l1 _ _) (l4 _ _) (ld_of_stores _ hv _)) ?_; swap
  refine blocks_same (same_DS5 ..) (head_DS (n := 5) 5 rfl rfl _ inb_S16x128x128_S1x128x128_5_0_0 _ ?_ (l6 _ _) (l2 _ _) (l1 _ _) (l4 _ _) (ld_of_stores _ hv _)) ?_; swap
  refine blocks_same (same_DS4 ..) (head_DS (n := 4) 4 rfl rfl _ inb_S16x128x128_S1x128x128_4_0_0 _ ?_ (l6 _ _) (l2 _ _) (l1 _ _) (l4 _ _) (ld_of_stores _ hv _)) ?_; swap
  refine blocks_same (same_DS3 ..) (head_DS (n := 3) 3 rfl rfl _ inb_S16x128x128_S1x128x128_3_0_0 _ ?_ (l6 _ _) (l2 _ _) (l1 _ _) (l4 _ _) (ld_of_stores _ hv _)) ?_; swap
  refine blocks_same (same_DS2 ..) (head_DS (n := 2) 2 rfl rfl _ inb_S16x128x128_S1x128x128_2_0_0 _ ?_ (l6 _ _) (l2 _ _) (l1 _ _) (l4 _ _) (ld_of_stores _ hv _)) ?_; swap
  refine blocks_same (same_DS1 ..) (head_DS (n := 1) 1 rfl rfl _ inb_S16x128x128_S1x128x128_1_0_0 _ ?_ (l6 _ _) (l2 _ _) (l1 _ _) (l4 _ _) (ld_of_stores _ hv _)) ?_; swap
  refine blocks_same (same_DS0 ..) (head_DS (n := 0) 0 rfl rfl _ inb_S16x128x128_S1x128x128_0_0_0 _ ?_ (l6 _ _) (l2 _ _) (l1 _ _) (l4 _ _) (ld_of_stores _ hv _)) ?_; swap
  trivial
  all_goals (repeat refine (View.readCov_skip _ _ _ _ _ (by rfl)).trans ?_); exact View.readCov_fill _ _ _ _ _ (by decide)

theorem canonBwdASt : View.canon (runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1 = gDS x0 x1 x3 (gDu x0 x2 x4 (k1_pay2 (F := Ideal))) x5 (k1_pay2 (F := Ideal)) :=
  canon_of_first 16 (piecesBwdASt ..) fun y =>
    View.cover_of_tiledL (s := S16x128x128) _ ![1, 128, 128] (by sl_kernel_rfl) y

theorem canonBwdA :
    let stores := runBwdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
    View.canon stores.1 = gDqd x0 x6
      ∧ View.canon stores.2.1 = gDkd x7 (k1_pay2 (F := Ideal))
      ∧ View.canon stores.2.2.1 = gDu x0 x2 x4 (k1_pay2 (F := Ideal))
      ∧ View.canon stores.2.2.2.1 = gDw (gDu x0 x2 x4 (k1_pay2 (F := Ideal))) x6
      ∧ View.canon stores.2.2.2.2.1 = gDa x0 x7
      ∧ View.canon stores.2.2.2.2.2.1 = gDc x6 (k1_pay2 (F := Ideal))
      ∧ View.canon stores.2.2.2.2.2.2.1 = gDS x0 x1 x3 (gDu x0 x2 x4 (k1_pay2 (F := Ideal))) x5 (k1_pay2 (F := Ideal)) :=
  ⟨canonBwdADqd .., canonBwdADkd .., canonBwdADu c arg1 harg1 arg3 harg3 arg5 harg5 arg15 x0 x2 x4, canonBwdADw .., canonBwdADa .., canonBwdADc .., canonBwdASt ..⟩

end

section

variable (hc0 : ¬ firstBwd i)

theorem piecesBwdBDu : View.PiecesOf (gDu x0 x2 x4 xs) (runBwdB.sl.H10_16 (F := Ideal) c arg1 harg1 arg3 harg3 arg5 harg5 arg15 harg15 x0 x2 x4 xs) := by
  unfold runBwdB.sl.H10_16
  have l1 := ld_of_block harg1
  have l3 := ld_of_block harg3
  have l5 := ld_of_block harg5
  have l15 := ld_of_block harg15
  refine blocks_same (same_Du15 ..) (head_Du (n := 15) 15 rfl rfl _ _ _ (l5 _ _) (l1 _ _) (l3 _ _) (l15 _ _)) ?_
  refine blocks_same (same_Du14 ..) (head_Du (n := 14) 14 rfl rfl _ _ _ (l5 _ _) (l1 _ _) (l3 _ _) (l15 _ _)) ?_
  refine blocks_same (same_Du13 ..) (head_Du (n := 13) 13 rfl rfl _ _ _ (l5 _ _) (l1 _ _) (l3 _ _) (l15 _ _)) ?_
  refine blocks_same (same_Du12 ..) (head_Du (n := 12) 12 rfl rfl _ _ _ (l5 _ _) (l1 _ _) (l3 _ _) (l15 _ _)) ?_
  refine blocks_same (same_Du11 ..) (head_Du (n := 11) 11 rfl rfl _ _ _ (l5 _ _) (l1 _ _) (l3 _ _) (l15 _ _)) ?_
  refine blocks_same (same_Du10 ..) (head_Du (n := 10) 10 rfl rfl _ _ _ (l5 _ _) (l1 _ _) (l3 _ _) (l15 _ _)) ?_
  refine blocks_same (same_Du9 ..) (head_Du (n := 9) 9 rfl rfl _ _ _ (l5 _ _) (l1 _ _) (l3 _ _) (l15 _ _)) ?_
  refine blocks_same (same_Du8 ..) (head_Du (n := 8) 8 rfl rfl _ _ _ (l5 _ _) (l1 _ _) (l3 _ _) (l15 _ _)) ?_
  refine blocks_same (same_Du7 ..) (head_Du (n := 7) 7 rfl rfl _ _ _ (l5 _ _) (l1 _ _) (l3 _ _) (l15 _ _)) ?_
  refine blocks_same (same_Du6 ..) (head_Du (n := 6) 6 rfl rfl _ _ _ (l5 _ _) (l1 _ _) (l3 _ _) (l15 _ _)) ?_
  refine blocks_same (same_Du5 ..) (head_Du (n := 5) 5 rfl rfl _ _ _ (l5 _ _) (l1 _ _) (l3 _ _) (l15 _ _)) ?_
  refine blocks_same (same_Du4 ..) (head_Du (n := 4) 4 rfl rfl _ _ _ (l5 _ _) (l1 _ _) (l3 _ _) (l15 _ _)) ?_
  refine blocks_same (same_Du3 ..) (head_Du (n := 3) 3 rfl rfl _ _ _ (l5 _ _) (l1 _ _) (l3 _ _) (l15 _ _)) ?_
  refine blocks_same (same_Du2 ..) (head_Du (n := 2) 2 rfl rfl _ _ _ (l5 _ _) (l1 _ _) (l3 _ _) (l15 _ _)) ?_
  refine blocks_same (same_Du1 ..) (head_Du (n := 1) 1 rfl rfl _ _ _ (l5 _ _) (l1 _ _) (l3 _ _) (l15 _ _)) ?_
  refine blocks_same (same_Du0 ..) (head_Du (n := 0) 0 rfl rfl _ _ _ (l5 _ _) (l1 _ _) (l3 _ _) (l15 _ _)) ?_
  trivial

theorem canonBwdBDu : View.canon (runBwdB.sl.H10_16 (F := Ideal) c arg1 harg1 arg3 harg3 arg5 harg5 arg15 harg15 x0 x2 x4 xs) = gDu x0 x2 x4 xs :=
  canon_of_blocks (piecesBwdBDu ..) fun y =>
    View.cover_of_tiledL (s := S64x2048) _ S64x128.size (by sl_kernel_rfl) y

theorem piecesBwdBDqd : View.PiecesOf (gDqd x0 x6) (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).1 := by
  unfold runBwdB
  dsimp only
  have l1 := ld_of_block harg1
  have l7 := ld_of_block harg7
  refine blocks_same (same_Dqd15 ..) (head_Dqd (n := 15) 15 rfl rfl _ _ (l1 _ _) (l7 _ _)) ?_
  refine blocks_same (same_Dqd14 ..) (head_Dqd (n := 14) 14 rfl rfl _ _ (l1 _ _) (l7 _ _)) ?_
  refine blocks_same (same_Dqd13 ..) (head_Dqd (n := 13) 13 rfl rfl _ _ (l1 _ _) (l7 _ _)) ?_
  refine blocks_same (same_Dqd12 ..) (head_Dqd (n := 12) 12 rfl rfl _ _ (l1 _ _) (l7 _ _)) ?_
  refine blocks_same (same_Dqd11 ..) (head_Dqd (n := 11) 11 rfl rfl _ _ (l1 _ _) (l7 _ _)) ?_
  refine blocks_same (same_Dqd10 ..) (head_Dqd (n := 10) 10 rfl rfl _ _ (l1 _ _) (l7 _ _)) ?_
  refine blocks_same (same_Dqd9 ..) (head_Dqd (n := 9) 9 rfl rfl _ _ (l1 _ _) (l7 _ _)) ?_
  refine blocks_same (same_Dqd8 ..) (head_Dqd (n := 8) 8 rfl rfl _ _ (l1 _ _) (l7 _ _)) ?_
  refine blocks_same (same_Dqd7 ..) (head_Dqd (n := 7) 7 rfl rfl _ _ (l1 _ _) (l7 _ _)) ?_
  refine blocks_same (same_Dqd6 ..) (head_Dqd (n := 6) 6 rfl rfl _ _ (l1 _ _) (l7 _ _)) ?_
  refine blocks_same (same_Dqd5 ..) (head_Dqd (n := 5) 5 rfl rfl _ _ (l1 _ _) (l7 _ _)) ?_
  refine blocks_same (same_Dqd4 ..) (head_Dqd (n := 4) 4 rfl rfl _ _ (l1 _ _) (l7 _ _)) ?_
  refine blocks_same (same_Dqd3 ..) (head_Dqd (n := 3) 3 rfl rfl _ _ (l1 _ _) (l7 _ _)) ?_
  refine blocks_same (same_Dqd2 ..) (head_Dqd (n := 2) 2 rfl rfl _ _ (l1 _ _) (l7 _ _)) ?_
  refine blocks_same (same_Dqd1 ..) (head_Dqd (n := 1) 1 rfl rfl _ _ (l1 _ _) (l7 _ _)) ?_
  refine blocks_same (same_Dqd0 ..) (head_Dqd (n := 0) 0 rfl rfl _ _ (l1 _ _) (l7 _ _)) ?_
  trivial

theorem canonBwdBDqd : View.canon (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).1 = gDqd x0 x6 :=
  canon_of_blocks (piecesBwdBDqd ..) fun _ => coverBwdBDqd ..

theorem piecesBwdBDkd : View.PiecesOf (gDkd x7 xs) (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.1 := by
  unfold runBwdB
  dsimp only
  have l8 := ld_of_block harg8
  have l15 := ld_of_block harg15
  refine blocks_same (same_Dkd15 ..) (head_Dkd (n := 15) 15 rfl rfl _ _ (l15 _ _) (l8 _ _)) ?_
  refine blocks_same (same_Dkd14 ..) (head_Dkd (n := 14) 14 rfl rfl _ _ (l15 _ _) (l8 _ _)) ?_
  refine blocks_same (same_Dkd13 ..) (head_Dkd (n := 13) 13 rfl rfl _ _ (l15 _ _) (l8 _ _)) ?_
  refine blocks_same (same_Dkd12 ..) (head_Dkd (n := 12) 12 rfl rfl _ _ (l15 _ _) (l8 _ _)) ?_
  refine blocks_same (same_Dkd11 ..) (head_Dkd (n := 11) 11 rfl rfl _ _ (l15 _ _) (l8 _ _)) ?_
  refine blocks_same (same_Dkd10 ..) (head_Dkd (n := 10) 10 rfl rfl _ _ (l15 _ _) (l8 _ _)) ?_
  refine blocks_same (same_Dkd9 ..) (head_Dkd (n := 9) 9 rfl rfl _ _ (l15 _ _) (l8 _ _)) ?_
  refine blocks_same (same_Dkd8 ..) (head_Dkd (n := 8) 8 rfl rfl _ _ (l15 _ _) (l8 _ _)) ?_
  refine blocks_same (same_Dkd7 ..) (head_Dkd (n := 7) 7 rfl rfl _ _ (l15 _ _) (l8 _ _)) ?_
  refine blocks_same (same_Dkd6 ..) (head_Dkd (n := 6) 6 rfl rfl _ _ (l15 _ _) (l8 _ _)) ?_
  refine blocks_same (same_Dkd5 ..) (head_Dkd (n := 5) 5 rfl rfl _ _ (l15 _ _) (l8 _ _)) ?_
  refine blocks_same (same_Dkd4 ..) (head_Dkd (n := 4) 4 rfl rfl _ _ (l15 _ _) (l8 _ _)) ?_
  refine blocks_same (same_Dkd3 ..) (head_Dkd (n := 3) 3 rfl rfl _ _ (l15 _ _) (l8 _ _)) ?_
  refine blocks_same (same_Dkd2 ..) (head_Dkd (n := 2) 2 rfl rfl _ _ (l15 _ _) (l8 _ _)) ?_
  refine blocks_same (same_Dkd1 ..) (head_Dkd (n := 1) 1 rfl rfl _ _ (l15 _ _) (l8 _ _)) ?_
  refine blocks_same (same_Dkd0 ..) (head_Dkd (n := 0) 0 rfl rfl _ _ (l15 _ _) (l8 _ _)) ?_
  trivial

theorem canonBwdBDkd : View.canon (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.1 = gDkd x7 xs :=
  canon_of_blocks (piecesBwdBDkd ..) fun _ => coverBwdBDkd ..

theorem piecesBwdBDw : View.PiecesOf (gDw (gDu x0 x2 x4 xs) x6) (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.1 := by
  unfold runBwdB
  dsimp only
  have l7 := ld_of_block harg7
  have hv := canonBwdBDu c arg1 harg1 arg3 harg3 arg5 harg5 arg15 harg15 x0 x2 x4 xs
  refine blocks_same (same_Dw15 ..) (head_Dw (n := 15) 15 rfl rfl _ _ (ld_of_stores _ hv _) (l7 _ _)) ?_
  refine blocks_same (same_Dw14 ..) (head_Dw (n := 14) 14 rfl rfl _ _ (ld_of_stores _ hv _) (l7 _ _)) ?_
  refine blocks_same (same_Dw13 ..) (head_Dw (n := 13) 13 rfl rfl _ _ (ld_of_stores _ hv _) (l7 _ _)) ?_
  refine blocks_same (same_Dw12 ..) (head_Dw (n := 12) 12 rfl rfl _ _ (ld_of_stores _ hv _) (l7 _ _)) ?_
  refine blocks_same (same_Dw11 ..) (head_Dw (n := 11) 11 rfl rfl _ _ (ld_of_stores _ hv _) (l7 _ _)) ?_
  refine blocks_same (same_Dw10 ..) (head_Dw (n := 10) 10 rfl rfl _ _ (ld_of_stores _ hv _) (l7 _ _)) ?_
  refine blocks_same (same_Dw9 ..) (head_Dw (n := 9) 9 rfl rfl _ _ (ld_of_stores _ hv _) (l7 _ _)) ?_
  refine blocks_same (same_Dw8 ..) (head_Dw (n := 8) 8 rfl rfl _ _ (ld_of_stores _ hv _) (l7 _ _)) ?_
  refine blocks_same (same_Dw7 ..) (head_Dw (n := 7) 7 rfl rfl _ _ (ld_of_stores _ hv _) (l7 _ _)) ?_
  refine blocks_same (same_Dw6 ..) (head_Dw (n := 6) 6 rfl rfl _ _ (ld_of_stores _ hv _) (l7 _ _)) ?_
  refine blocks_same (same_Dw5 ..) (head_Dw (n := 5) 5 rfl rfl _ _ (ld_of_stores _ hv _) (l7 _ _)) ?_
  refine blocks_same (same_Dw4 ..) (head_Dw (n := 4) 4 rfl rfl _ _ (ld_of_stores _ hv _) (l7 _ _)) ?_
  refine blocks_same (same_Dw3 ..) (head_Dw (n := 3) 3 rfl rfl _ _ (ld_of_stores _ hv _) (l7 _ _)) ?_
  refine blocks_same (same_Dw2 ..) (head_Dw (n := 2) 2 rfl rfl _ _ (ld_of_stores _ hv _) (l7 _ _)) ?_
  refine blocks_same (same_Dw1 ..) (head_Dw (n := 1) 1 rfl rfl _ _ (ld_of_stores _ hv _) (l7 _ _)) ?_
  refine blocks_same (same_Dw0 ..) (head_Dw (n := 0) 0 rfl rfl _ _ (ld_of_stores _ hv _) (l7 _ _)) ?_
  trivial

theorem canonBwdBDw : View.canon (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.1 = gDw (gDu x0 x2 x4 xs) x6 :=
  canon_of_blocks (piecesBwdBDw ..) fun _ => coverBwdBDw ..

theorem piecesBwdBDa : View.PiecesOf (gDa x0 x7) (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.1 := by
  unfold runBwdB
  dsimp only
  have l1 := ld_of_block harg1
  have l8 := ld_of_block harg8
  refine blocks_same (same_Da15 ..) (head_Da (n := 15) 15 rfl rfl _ _ (l1 _ _) (l8 _ _)) ?_
  refine blocks_same (same_Da14 ..) (head_Da (n := 14) 14 rfl rfl _ _ (l1 _ _) (l8 _ _)) ?_
  refine blocks_same (same_Da13 ..) (head_Da (n := 13) 13 rfl rfl _ _ (l1 _ _) (l8 _ _)) ?_
  refine blocks_same (same_Da12 ..) (head_Da (n := 12) 12 rfl rfl _ _ (l1 _ _) (l8 _ _)) ?_
  refine blocks_same (same_Da11 ..) (head_Da (n := 11) 11 rfl rfl _ _ (l1 _ _) (l8 _ _)) ?_
  refine blocks_same (same_Da10 ..) (head_Da (n := 10) 10 rfl rfl _ _ (l1 _ _) (l8 _ _)) ?_
  refine blocks_same (same_Da9 ..) (head_Da (n := 9) 9 rfl rfl _ _ (l1 _ _) (l8 _ _)) ?_
  refine blocks_same (same_Da8 ..) (head_Da (n := 8) 8 rfl rfl _ _ (l1 _ _) (l8 _ _)) ?_
  refine blocks_same (same_Da7 ..) (head_Da (n := 7) 7 rfl rfl _ _ (l1 _ _) (l8 _ _)) ?_
  refine blocks_same (same_Da6 ..) (head_Da (n := 6) 6 rfl rfl _ _ (l1 _ _) (l8 _ _)) ?_
  refine blocks_same (same_Da5 ..) (head_Da (n := 5) 5 rfl rfl _ _ (l1 _ _) (l8 _ _)) ?_
  refine blocks_same (same_Da4 ..) (head_Da (n := 4) 4 rfl rfl _ _ (l1 _ _) (l8 _ _)) ?_
  refine blocks_same (same_Da3 ..) (head_Da (n := 3) 3 rfl rfl _ _ (l1 _ _) (l8 _ _)) ?_
  refine blocks_same (same_Da2 ..) (head_Da (n := 2) 2 rfl rfl _ _ (l1 _ _) (l8 _ _)) ?_
  refine blocks_same (same_Da1 ..) (head_Da (n := 1) 1 rfl rfl _ _ (l1 _ _) (l8 _ _)) ?_
  refine blocks_same (same_Da0 ..) (head_Da (n := 0) 0 rfl rfl _ _ (l1 _ _) (l8 _ _)) ?_
  trivial

theorem canonBwdBDa : View.canon (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.1 = gDa x0 x7 :=
  canon_of_blocks (piecesBwdBDa ..) fun _ => coverBwdBDa ..

theorem piecesBwdBDc : View.PiecesOf (gDc x6 xs) (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.1 := by
  unfold runBwdB
  dsimp only
  have l7 := ld_of_block harg7
  have l15 := ld_of_block harg15
  refine blocks_same (same_Dc15 ..) (head_Dc (n := 15) 15 rfl _ _ _ (l15 _ _) (l7 _ _)) ?_
  refine blocks_same (same_Dc14 ..) (head_Dc (n := 14) 14 rfl _ _ _ (l15 _ _) (l7 _ _)) ?_
  refine blocks_same (same_Dc13 ..) (head_Dc (n := 13) 13 rfl _ _ _ (l15 _ _) (l7 _ _)) ?_
  refine blocks_same (same_Dc12 ..) (head_Dc (n := 12) 12 rfl _ _ _ (l15 _ _) (l7 _ _)) ?_
  refine blocks_same (same_Dc11 ..) (head_Dc (n := 11) 11 rfl _ _ _ (l15 _ _) (l7 _ _)) ?_
  refine blocks_same (same_Dc10 ..) (head_Dc (n := 10) 10 rfl _ _ _ (l15 _ _) (l7 _ _)) ?_
  refine blocks_same (same_Dc9 ..) (head_Dc (n := 9) 9 rfl _ _ _ (l15 _ _) (l7 _ _)) ?_
  refine blocks_same (same_Dc8 ..) (head_Dc (n := 8) 8 rfl _ _ _ (l15 _ _) (l7 _ _)) ?_
  refine blocks_same (same_Dc7 ..) (head_Dc (n := 7) 7 rfl _ _ _ (l15 _ _) (l7 _ _)) ?_
  refine blocks_same (same_Dc6 ..) (head_Dc (n := 6) 6 rfl _ _ _ (l15 _ _) (l7 _ _)) ?_
  refine blocks_same (same_Dc5 ..) (head_Dc (n := 5) 5 rfl _ _ _ (l15 _ _) (l7 _ _)) ?_
  refine blocks_same (same_Dc4 ..) (head_Dc (n := 4) 4 rfl _ _ _ (l15 _ _) (l7 _ _)) ?_
  refine blocks_same (same_Dc3 ..) (head_Dc (n := 3) 3 rfl _ _ _ (l15 _ _) (l7 _ _)) ?_
  refine blocks_same (same_Dc2 ..) (head_Dc (n := 2) 2 rfl _ _ _ (l15 _ _) (l7 _ _)) ?_
  refine blocks_same (same_Dc1 ..) (head_Dc (n := 1) 1 rfl _ _ _ (l15 _ _) (l7 _ _)) ?_
  refine blocks_same (same_Dc0 ..) (head_Dc (n := 0) 0 rfl _ _ _ (l15 _ _) (l7 _ _)) ?_
  trivial

theorem canonBwdBDc : View.canon (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.1 = gDc x6 xs :=
  canon_of_blocks (piecesBwdBDc ..) fun _ => coverBwdBDc ..

theorem piecesBwdBSt : View.PiecesOf (gDS x0 x1 x3 (gDu x0 x2 x4 xs) x5 xs) (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.2.1 := by
  unfold runBwdB
  dsimp only
  have l1 := ld_of_block harg1
  have l2 := ld_of_block harg2
  have l4 := ld_of_block harg4
  have l6 := ld_of_block harg6
  have l15 := ld_of_block harg15
  have hv := canonBwdBDu c arg1 harg1 arg3 harg3 arg5 harg5 arg15 harg15 x0 x2 x4 xs
  refine blocks_same (same_DS15 ..) (head_DS (n := 15) 15 rfl rfl _ _ _ (l15 _ _) (l6 _ _) (l2 _ _) (l1 _ _) (l4 _ _) (ld_of_stores _ hv _)) ?_
  refine blocks_same (same_DS14 ..) (head_DS (n := 14) 14 rfl rfl _ _ _ (l15 _ _) (l6 _ _) (l2 _ _) (l1 _ _) (l4 _ _) (ld_of_stores _ hv _)) ?_
  refine blocks_same (same_DS13 ..) (head_DS (n := 13) 13 rfl rfl _ _ _ (l15 _ _) (l6 _ _) (l2 _ _) (l1 _ _) (l4 _ _) (ld_of_stores _ hv _)) ?_
  refine blocks_same (same_DS12 ..) (head_DS (n := 12) 12 rfl rfl _ _ _ (l15 _ _) (l6 _ _) (l2 _ _) (l1 _ _) (l4 _ _) (ld_of_stores _ hv _)) ?_
  refine blocks_same (same_DS11 ..) (head_DS (n := 11) 11 rfl rfl _ _ _ (l15 _ _) (l6 _ _) (l2 _ _) (l1 _ _) (l4 _ _) (ld_of_stores _ hv _)) ?_
  refine blocks_same (same_DS10 ..) (head_DS (n := 10) 10 rfl rfl _ _ _ (l15 _ _) (l6 _ _) (l2 _ _) (l1 _ _) (l4 _ _) (ld_of_stores _ hv _)) ?_
  refine blocks_same (same_DS9 ..) (head_DS (n := 9) 9 rfl rfl _ _ _ (l15 _ _) (l6 _ _) (l2 _ _) (l1 _ _) (l4 _ _) (ld_of_stores _ hv _)) ?_
  refine blocks_same (same_DS8 ..) (head_DS (n := 8) 8 rfl rfl _ _ _ (l15 _ _) (l6 _ _) (l2 _ _) (l1 _ _) (l4 _ _) (ld_of_stores _ hv _)) ?_
  refine blocks_same (same_DS7 ..) (head_DS (n := 7) 7 rfl rfl _ _ _ (l15 _ _) (l6 _ _) (l2 _ _) (l1 _ _) (l4 _ _) (ld_of_stores _ hv _)) ?_
  refine blocks_same (same_DS6 ..) (head_DS (n := 6) 6 rfl rfl _ _ _ (l15 _ _) (l6 _ _) (l2 _ _) (l1 _ _) (l4 _ _) (ld_of_stores _ hv _)) ?_
  refine blocks_same (same_DS5 ..) (head_DS (n := 5) 5 rfl rfl _ _ _ (l15 _ _) (l6 _ _) (l2 _ _) (l1 _ _) (l4 _ _) (ld_of_stores _ hv _)) ?_
  refine blocks_same (same_DS4 ..) (head_DS (n := 4) 4 rfl rfl _ _ _ (l15 _ _) (l6 _ _) (l2 _ _) (l1 _ _) (l4 _ _) (ld_of_stores _ hv _)) ?_
  refine blocks_same (same_DS3 ..) (head_DS (n := 3) 3 rfl rfl _ _ _ (l15 _ _) (l6 _ _) (l2 _ _) (l1 _ _) (l4 _ _) (ld_of_stores _ hv _)) ?_
  refine blocks_same (same_DS2 ..) (head_DS (n := 2) 2 rfl rfl _ _ _ (l15 _ _) (l6 _ _) (l2 _ _) (l1 _ _) (l4 _ _) (ld_of_stores _ hv _)) ?_
  refine blocks_same (same_DS1 ..) (head_DS (n := 1) 1 rfl rfl _ _ _ (l15 _ _) (l6 _ _) (l2 _ _) (l1 _ _) (l4 _ _) (ld_of_stores _ hv _)) ?_
  refine blocks_same (same_DS0 ..) (head_DS (n := 0) 0 rfl rfl _ _ _ (l15 _ _) (l6 _ _) (l2 _ _) (l1 _ _) (l4 _ _) (ld_of_stores _ hv _)) ?_
  trivial

theorem canonBwdBSt : View.canon (runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.2.1 = gDS x0 x1 x3 (gDu x0 x2 x4 xs) x5 xs :=
  canon_of_blocks (piecesBwdBSt ..) fun _ => coverBwdBSt ..

theorem canonBwdB :
    let stores := runBwdB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs
    View.canon stores.1 = gDqd x0 x6
      ∧ View.canon stores.2.1 = gDkd x7 xs
      ∧ View.canon stores.2.2.1 = gDu x0 x2 x4 xs
      ∧ View.canon stores.2.2.2.1 = gDw (gDu x0 x2 x4 xs) x6
      ∧ View.canon stores.2.2.2.2.1 = gDa x0 x7
      ∧ View.canon stores.2.2.2.2.2.1 = gDc x6 xs
      ∧ View.canon stores.2.2.2.2.2.2.1 = gDS x0 x1 x3 (gDu x0 x2 x4 xs) x5 xs :=
  ⟨canonBwdBDqd .., canonBwdBDkd .., canonBwdBDu c arg1 harg1 arg3 harg3 arg5 harg5 arg15 harg15 x0 x2 x4 xs, canonBwdBDw .., canonBwdBDa .., canonBwdBDc .., canonBwdBSt ..⟩

end

end

end Cert.KernelIdeal.Scan
-- ==== Proof.MmSums.lean ====
/- Sums split into blocks of the depth, and a matrix read at natural-number coordinates. -/
module

public import Idealize.ShloMosaic.Lib.Pointwise

@[expose] public section

noncomputable section

namespace Cert.MmSums

open Idealize.ShloMosaic

/-- The matrix `x` at row `r` and column `k`; zero outside. -/
def at2 {M K : ℕ} (x : (⟨2, ![M, K]⟩ : Shape).Idx → EReal) (r k : ℕ) : EReal :=
  if h : r < M ∧ k < K then x (ix2 ⟨r, h.1⟩ ⟨k, h.2⟩) else 0

theorem at2_of {M K : ℕ} (x : (⟨2, ![M, K]⟩ : Shape).Idx → EReal) (i : (⟨2, ![M, K]⟩ : Shape).Idx) (r k : ℕ)
    (hr : (i 0).val = r) (hk : (i 1).val = k) : x i = at2 x r k := by
  have h0 : r < M := hr ▸ (i 0).isLt
  have h1 : k < K := hk ▸ (i 1).isLt
  unfold at2
  rw [dif_pos ⟨h0, h1⟩]
  congr 1
  rw [eq_ix2 i]
  subst hr hk
  rfl

theorem at2_ix {M K : ℕ} (x : (⟨2, ![M, K]⟩ : Shape).Idx → EReal) (r : Fin M) (k : Fin K) :
    x (ix2 r k) = at2 x r.val k.val := at2_of x _ _ _ rfl rfl

theorem sum_first (f : ℕ → EReal) (t : ℕ) : ∑ k : Fin t, f k.val = ∑ k ∈ Finset.range t, f k :=
  Fin.sum_univ_eq_sum_range f t

/-- The next block of the depth joins the sum over the blocks before it. -/
theorem sum_next (f : ℕ → EReal) (t q : ℕ) :
    ∑ k ∈ Finset.range (t * q), f k + ∑ k : Fin t, f (t * q + k.val) = ∑ k ∈ Finset.range (t * (q + 1)), f k := by
  rw [Fin.sum_univ_eq_sum_range (fun k => f (t * q + k)) t, Nat.mul_succ, Finset.sum_range_add]

theorem hz : (![0, 0] : Fin 2 → Nat) = fun _ => 0 := funext fun a => by fin_cases a <;> rfl

/-! Where a block at block index `w` lies: its entries' coordinates, and the coordinates it covers. -/

variable {w : Fin 2 → ℕ} {p q : ℕ}

theorem off0 (h : w = ![p, q]) (b j : ℕ) : w 0 * b + 1 * j = b * p + j := by subst h; show p * b + 1 * j = _; ring
theorem off1 (h : w = ![p, q]) (b j : ℕ) : w 1 * b + 1 * j = b * q + j := by subst h; show q * b + 1 * j = _; ring
theorem tile0 (h : w = ![p, q]) (b x : ℕ) (hx : p * b ≤ x ∧ x < p * b + b) : w 0 * b ≤ x ∧ x < w 0 * b + b := by subst h; exact hx
theorem tile1 (h : w = ![p, q]) (b x : ℕ) (hx : q * b ≤ x ∧ x < q * b + b) : w 1 * b ≤ x ∧ x < w 1 * b + b := by subst h; exact hx

end Cert.MmSums

end
-- ==== Proof.ScanMath.lean ====
/- The gradient of the scan over chunks as plain sums, over any arrays: the states, the new values, the adjoint states and
   the gradients of one chunk; and, for finite arrays, the form in which a sum of negated terms stands for the negated sum. -/
module

public import proofs.«01_k».proof.Proof.MmSums

@[expose] public section

noncomputable section

namespace Cert.ScanMath

open Idealize.ShloMosaic

/-- The arrays by chunk, head, row and lane: the cotangent `o`, the factors `q`, `k`, `u`, `w`, the masked weights `a` and
the decays `d`. -/
structure Arr where
  o : ℕ → Fin 16 → Fin 64 → Fin 128 → EReal
  q : ℕ → Fin 16 → Fin 64 → Fin 128 → EReal
  k : ℕ → Fin 16 → Fin 64 → Fin 128 → EReal
  u : ℕ → Fin 16 → Fin 64 → Fin 128 → EReal
  w : ℕ → Fin 16 → Fin 64 → Fin 128 → EReal
  a : ℕ → Fin 16 → Fin 64 → Fin 64 → EReal
  d : ℕ → Fin 16 → EReal

/-- A state: one matrix per head. -/
abbrev State := Fin 16 → Fin 128 → Fin 128 → EReal

variable (I : Arr)

/-- The new values of chunk `n` from the state before it, -/
def vn (n : ℕ) (S : State) (h : Fin 16) (r : Fin 64) (e : Fin 128) : EReal := I.u n h r e - ∑ i : Fin 128, I.w n h r i * S h i e
/-- the state after it, -/
def nextS (n : ℕ) (S : State) : State := fun h i e => S h i e * I.d n h + ∑ r : Fin 64, I.k n h r i * vn I n S h r e
/-- the state before chunk `n`, -/
def st : ℕ → State
  | 0 => fun _ _ _ => 0
  | n + 1 => nextS I n (st n)
/-- the gradient of `u` at chunk `n` from the adjoint state after it, -/
def du (n : ℕ) (D : State) (h : Fin 16) (r : Fin 64) (e : Fin 128) : EReal :=
  ∑ s : Fin 64, I.a n h s r * I.o n h s e + ∑ i : Fin 128, I.k n h r i * D h i e
/-- the adjoint state before it, -/
def nextD (n : ℕ) (D : State) : State := fun h i e =>
  D h i e * I.d n h + ∑ r : Fin 64, I.q n h r i * I.o n h r e - ∑ r : Fin 64, I.w n h r i * du I n D h r e
/-- the adjoint state after chunk `63 - m`, -/
def ds : ℕ → State
  | 0 => fun _ _ _ => 0
  | m + 1 => nextD I (63 - m) (ds m)

/-- and the gradients at chunk `n`. -/
def gq (n : ℕ) (h : Fin 16) (r : Fin 64) (i : Fin 128) : EReal := ∑ e : Fin 128, I.o n h r e * st I n h i e
def gk (n : ℕ) (h : Fin 16) (r : Fin 64) (i : Fin 128) : EReal := ∑ e : Fin 128, vn I n (st I n) h r e * ds I (63 - n) h i e
def gu (n : ℕ) (h : Fin 16) (r : Fin 64) (e : Fin 128) : EReal := du I n (ds I (63 - n)) h r e
def gw (n : ℕ) (h : Fin 16) (r : Fin 64) (i : Fin 128) : EReal := 0 - ∑ e : Fin 128, gu I n h r e * st I n h i e
def ga (n : ℕ) (h : Fin 16) (r s : Fin 64) : EReal :=
  if s.val ≤ r.val then ∑ e : Fin 128, I.o n h r e * vn I n (st I n) h s e else 0
def gd (n : ℕ) (h : Fin 16) : EReal := ∑ i : Fin 128, ∑ e : Fin 128, st I n h i e * ds I (63 - n) h i e

/-! Finite values. -/

/-- A real number. -/
def Real' (x : EReal) : Prop := ∃ r : ℝ, (r : EReal) = x

theorem real_zero : Real' 0 := ⟨0, rfl⟩
theorem real_add {x y : EReal} : Real' x → Real' y → Real' (x + y) := by
  rintro ⟨a, rfl⟩ ⟨b, rfl⟩; exact ⟨a + b, EReal.coe_add a b⟩
theorem real_mul {x y : EReal} : Real' x → Real' y → Real' (x * y) := by
  rintro ⟨a, rfl⟩ ⟨b, rfl⟩; exact ⟨a * b, EReal.coe_mul a b⟩
theorem real_sub {x y : EReal} : Real' x → Real' y → Real' (x - y) := by
  rintro ⟨a, rfl⟩ ⟨b, rfl⟩; exact ⟨a - b, EReal.coe_sub a b⟩
theorem real_sum {n : ℕ} (f : Fin n → EReal) (h : ∀ i, Real' (f i)) : Real' (∑ i, f i) := by
  refine Finset.sum_induction f Real' (fun _ _ => real_add) real_zero fun i _ => h i

/-- The sum of the negated terms. -/
theorem sum_neg {n : ℕ} (f : Fin n → EReal) (h : ∀ i, Real' (f i)) : ∑ i, -f i = -∑ i, f i := by
  choose g hg using h
  obtain rfl : (fun i => (g i : EReal)) = f := funext hg
  have e : ∀ g : Fin n → ℝ, ∑ i, (g i : EReal) = ((∑ i, g i : ℝ) : EReal) := fun g =>
    (map_sum (⟨⟨fun x : ℝ => (x : EReal), rfl⟩, EReal.coe_add⟩ : ℝ →+ EReal) g Finset.univ).symm
  rw [e g, ← EReal.coe_neg, ← Finset.sum_neg_distrib, ← e]
  rfl

/-- Arrays of real numbers. -/
structure Finite : Prop where
  o : ∀ n h r e, Real' (I.o n h r e)
  q : ∀ n h r e, Real' (I.q n h r e)
  k : ∀ n h r e, Real' (I.k n h r e)
  u : ∀ n h r e, Real' (I.u n h r e)
  w : ∀ n h r e, Real' (I.w n h r e)
  a : ∀ n h r e, Real' (I.a n h r e)
  d : ∀ n h, Real' (I.d n h)

variable {I}

theorem vn_real (hI : Finite I) (n : ℕ) (S : State) (hS : ∀ h i e, Real' (S h i e)) (h : Fin 16) (r : Fin 64) (e : Fin 128) :
    Real' (vn I n S h r e) := real_sub (hI.u _ _ _ _) (real_sum _ fun _ => real_mul (hI.w _ _ _ _) (hS _ _ _))

theorem st_real (hI : Finite I) : ∀ (n : ℕ) (h : Fin 16) (i e : Fin 128), Real' (st I n h i e)
  | 0, _, _, _ => real_zero
  | n + 1, _, _, _ => real_add (real_mul (st_real hI n _ _ _) (hI.d _ _))
      (real_sum _ fun _ => real_mul (hI.k _ _ _ _) (vn_real hI n _ (st_real hI n) _ _ _))

theorem du_real (hI : Finite I) (n : ℕ) (D : State) (hD : ∀ h i e, Real' (D h i e)) (h : Fin 16) (r : Fin 64) (e : Fin 128) :
    Real' (du I n D h r e) :=
  real_add (real_sum _ fun _ => real_mul (hI.a _ _ _ _) (hI.o _ _ _ _)) (real_sum _ fun _ => real_mul (hI.k _ _ _ _) (hD _ _ _))

theorem ds_real (hI : Finite I) : ∀ (m : ℕ) (h : Fin 16) (i e : Fin 128), Real' (ds I m h i e)
  | 0, _, _, _ => real_zero
  | m + 1, _, _, _ => real_sub (real_add (real_mul (ds_real hI m _ _ _) (hI.d _ _))
      (real_sum _ fun _ => real_mul (hI.q _ _ _ _) (hI.o _ _ _ _)))
      (real_sum _ fun _ => real_mul (hI.w _ _ _ _) (du_real hI _ _ (ds_real hI m) _ _ _))

/-- The adjoint state before a chunk with the negated gradient of `u` summed. -/
theorem nextD_neg (hI : Finite I) (n : ℕ) (D : State) (hD : ∀ h i e, Real' (D h i e)) (h : Fin 16) (i e : Fin 128) :
    nextD I n D h i e = D h i e * I.d n h + ∑ r : Fin 64, I.o n h r e * I.q n h r i + ∑ r : Fin 64, -du I n D h r e * I.w n h r i := by
  unfold nextD
  rw [sub_eq_add_neg, ← sum_neg _ fun r => real_mul (hI.w n h r i) (du_real hI n D hD h r e)]
  refine congrArg₂ (· + ·) (congrArg (D h i e * I.d n h + ·) (Finset.sum_congr rfl fun r _ => mul_comm _ _)) (Finset.sum_congr rfl fun r _ => ?_)
  rw [EReal.neg_mul, mul_comm]

/-- The gradient of `w` with the negated gradient of `u` summed. -/
theorem gw_neg (hI : Finite I) (n : ℕ) (h : Fin 16) (r : Fin 64) (i : Fin 128) :
    gw I n h r i = ∑ e : Fin 128, -gu I n h r e * st I n h i e := by
  unfold gw
  have hr : ∀ e, Real' (gu I n h r e * st I n h i e) := fun e => real_mul (du_real hI n _ (ds_real hI _) h r e) (st_real hI n h i e)
  rw [sub_eq_add_neg, zero_add, ← sum_neg _ hr]
  exact Finset.sum_congr rfl fun e _ => (EReal.neg_mul _ _).symm

/-- The arrays as the program holds them: rows `64 n + r` and columns `128 h + k` of five matrices, the weights kept at and
below the diagonal, one decay per chunk and head. -/
def arr (x0 x1 x2 x3 x4 : (⟨2, ![4096, 2048]⟩ : Shape).Idx → EReal) (x5 : (⟨4, ![64, 16, 64, 64]⟩ : Shape).Idx → EReal)
    (x6 : (⟨2, ![64, 16]⟩ : Shape).Idx → EReal) : Arr where
  o n h r k := MmSums.at2 x0 (64 * n + r.val) (128 * h.val + k.val)
  q n h r k := MmSums.at2 x1 (64 * n + r.val) (128 * h.val + k.val)
  k n h r k := MmSums.at2 x2 (64 * n + r.val) (128 * h.val + k.val)
  u n h r k := MmSums.at2 x3 (64 * n + r.val) (128 * h.val + k.val)
  w n h r k := MmSums.at2 x4 (64 * n + r.val) (128 * h.val + k.val)
  a n h r s := if hn : n < 64 then if s.val ≤ r.val then x5 (ix4 ⟨n, hn⟩ h r s) else 0 else 0
  d n h := MmSums.at2 x6 n h.val

theorem at2_real {M K : ℕ} (x : (⟨2, ![M, K]⟩ : Shape).Idx → EReal) (h : ∀ i, Real' (x i)) (r k : ℕ) : Real' (MmSums.at2 x r k) := by
  unfold MmSums.at2
  split
  · exact h _
  · exact real_zero

theorem arr_finite {x0 x1 x2 x3 x4 : (⟨2, ![4096, 2048]⟩ : Shape).Idx → EReal} {x5 : (⟨4, ![64, 16, 64, 64]⟩ : Shape).Idx → EReal}
    {x6 : (⟨2, ![64, 16]⟩ : Shape).Idx → EReal} (h0 : ∀ i, Real' (x0 i)) (h1 : ∀ i, Real' (x1 i)) (h2 : ∀ i, Real' (x2 i))
    (h3 : ∀ i, Real' (x3 i)) (h4 : ∀ i, Real' (x4 i)) (h5 : ∀ i, Real' (x5 i)) (h6 : ∀ i, Real' (x6 i)) :
    Finite (arr x0 x1 x2 x3 x4 x5 x6) where
  o _ _ _ _ := at2_real _ h0 _ _
  q _ _ _ _ := at2_real _ h1 _ _
  k _ _ _ _ := at2_real _ h2 _ _
  u _ _ _ _ := at2_real _ h3 _ _
  w _ _ _ _ := at2_real _ h4 _ _
  a n h r s := by
    show Real' (if hn : n < 64 then if s.val ≤ r.val then x5 (ix4 ⟨n, hn⟩ h r s) else 0 else 0)
    split
    · split
      · exact h5 _
      · exact real_zero
    · exact real_zero
  d _ _ := at2_real _ h6 _ _

end Cert.ScanMath

end
-- ==== Proof.ScanChunk.lean ====
/- One chunk of either scan from its input blocks and the state it meets, as plain sums: every output and the state handed on. -/
module

public import proofs.«01_k».proof.Proof.ScanFwdVal
public import proofs.«01_k».proof.Proof.ScanBwdVal
public import proofs.«01_k».proof.Proof.ScanFwdStep
public import proofs.«01_k».proof.Proof.ScanBwdStep
public import proofs.«01_k».proof.Proof.ScanMath
public import Idealize.ShloMosaic.Lib.IdealHost

@[expose] public section

set_option maxRecDepth 16384
set_option maxHeartbeats 2000000

noncomputable section

namespace Cert.KernelIdeal.Scan

open Cert.KernelIdeal.Gen
open Idealize.ShloMosaic Idealize.ShloMosaic.TcCoe

/-! The sums over blocks that hold the arrays' chunk `n`. -/

section

variable {I : ScanMath.Arr} {n : ℕ} {x0 : Vec Ideal S64x2048 .f32} {x1 x2 x3 x7 : Vec Ideal S64x2048 .bf16} {xu : Vec Ideal S64x2048 .f32}
  {x4 : Vec Ideal S1x16x64x64 .bf16} {x5 : Vec Ideal S1x16x1x128 .f32} {x6 : Vec Ideal S1x16x128x128 .f32}
  {xs : Vec Ideal S16x128x128 .f32} {S : ScanMath.State}

/-- A block of one chunk's rows holds `f`, -/
def Holds {e : EltTy} (he : Elt Ideal e = EReal) (x : Vec Ideal S64x2048 e) (f : Fin 16 → Fin 64 → Fin 128 → EReal) : Prop :=
  ∀ r h k, cast he (x (ix2 r (cl h k))) = f h r k
/-- a carried state holds `S`, -/
def HoldsS (xs : Vec Ideal S16x128x128 .f32) (S : ScanMath.State) : Prop := ∀ h i e, (xs (ix3 h i e) : EReal) = S h i e
/-- a saved state holds `S`, -/
def HoldsB (x6 : Vec Ideal S1x16x128x128 .f32) (S : ScanMath.State) : Prop := ∀ h i e, (x6 (ix4 0 h i e) : EReal) = S h i e
/-- a block of weights holds `a`, -/
def HoldsA {e : EltTy} (he : Elt Ideal e = EReal) (x4 : Vec Ideal S1x16x64x64 e) (a : Fin 16 → Fin 64 → Fin 64 → EReal) : Prop :=
  ∀ h r s, cast he (x4 (ix4 0 h r s)) = a h r s
/-- and a block of decays holds `d`. -/
def HoldsD (x5 : Vec Ideal S1x16x1x128 .f32) (d : Fin 16 → EReal) : Prop := ∀ h k, (x5 (ix4 0 h 0 k) : EReal) = d h

theorem sum_congr₂ {m : ℕ} {a a' b b' : Fin m → EReal} (ha : ∀ i, a i = a' i) (hb : ∀ i, b i = b' i) :
    ∑ i, a i * b i = ∑ i, a' i * b' i :=
  Finset.sum_congr rfl fun i _ => congrArg₂ (· * ·) (ha i) (hb i)

theorem gV_eq (hu : Holds rfl xu (I.u n)) (hw : Holds rfl x3 (I.w n)) (hs : HoldsS xs S) : Holds rfl (gV xu x3 xs) (ScanMath.vn I n S) :=
  fun r h k => (gV_at xu x3 xs r h k).trans (congrArg₂ (· - ·) (hu r h k) (sum_congr₂ (fun i => hw r h i) fun i => hs h i k))

theorem gSt_eq (hk : Holds rfl x1 (I.k n)) (hv : Holds rfl x7 (ScanMath.vn I n S)) (hd : HoldsD x5 (I.d n)) (hs : HoldsS xs S) :
    HoldsS (gSt x1 x7 x5 xs) (ScanMath.nextS I n S) :=
  fun h i e => congrArg₂ (· + ·) (congrArg₂ (· * ·) (hs h i e) (hd h e)) (sum_congr₂ (fun r => hk r h i) fun r => hv r h e)

theorem gS_eq (hs : HoldsS xs S) : HoldsB (gS xs) S := fun h i e => hs h i e

theorem gDu_eq (ho : Holds rfl x0 (I.o n)) (hk : Holds rfl x2 (I.k n)) (ha : HoldsA rfl x4 (I.a n)) (hs : HoldsS xs S) :
    Holds rfl (gDu x0 x2 x4 xs) (ScanMath.du I n S) :=
  fun r h k => (gDu_at x0 x2 x4 xs r h k).trans
    (congrArg₂ (· + ·) (sum_congr₂ (fun s => ha h s r) fun s => ho s h k) (sum_congr₂ (fun i => hk r h i) fun i => hs h i k))

theorem gDS_eq {du : Vec Ideal S64x2048 .f32} (ho : Holds rfl x0 (I.o n)) (hq : Holds rfl x1 (I.q n)) (hw : Holds rfl x3 (I.w n))
    (hu : Holds rfl du (ScanMath.du I n S)) (hd : HoldsD x5 (I.d n)) (hs : HoldsS xs S) :
    HoldsS (gDS x0 x1 x3 du x5 xs) (ScanMath.nextD I n S) :=
  fun h i e => congrArg₂ (· - ·) (congrArg₂ (· + ·) (congrArg₂ (· * ·) (hs h i e) (hd h e)) (sum_congr₂ (fun r => hq r h i) fun r => ho r h e))
    (sum_congr₂ (fun r => hw r h i) fun r => hu r h e)

theorem gDqd_eq (ho : Holds rfl x0 (I.o n)) (hs : HoldsB x6 (ScanMath.st I n)) : Holds rfl (gDqd x0 x6) (ScanMath.gq I n) :=
  fun r h k => (gDqd_at x0 x6 r h k).trans (sum_congr₂ (fun e => ho r h e) fun e => hs h k e)

theorem gDkd_eq (hv : Holds rfl x7 (ScanMath.vn I n (ScanMath.st I n))) (hs : HoldsS xs (ScanMath.ds I (63 - n))) :
    Holds rfl (gDkd x7 xs) (ScanMath.gk I n) :=
  fun r h k => (gDkd_at x7 xs r h k).trans (sum_congr₂ (fun e => hv r h e) fun e => hs h k e)

theorem gDw_eq {du : Vec Ideal S64x2048 .f32} (hu : Holds rfl du (ScanMath.gu I n)) (hs : HoldsB x6 (ScanMath.st I n)) :
    Holds rfl (gDw du x6) (ScanMath.gw I n) :=
  fun r h k => (gDw_at du x6 r h k).trans (congrArg ((0 : EReal) - ·) (sum_congr₂ (fun e => hu r h e) fun e => hs h k e))

theorem gDa_eq (ho : Holds rfl x0 (I.o n)) (hv : Holds rfl x7 (ScanMath.vn I n (ScanMath.st I n))) : HoldsA rfl (gDa x0 x7) (ScanMath.ga I n) :=
  fun h r s => if_congr Iff.rfl (sum_congr₂ (fun e => ho r h e) fun e => hv s h e) rfl

theorem gDc_eq (hs : HoldsB x6 (ScanMath.st I n)) (hD : HoldsS xs (ScanMath.ds I (63 - n))) : HoldsD (gDc x6 xs) (ScanMath.gd I n) :=
  fun h _ => Finset.sum_congr rfl fun i _ => sum_congr₂ (fun e => hs h i e) fun e => hD h i e

end

/-! What a chunk leaves. -/

variable (W : Dev nD → Valuation τ sig (Elt Ideal)) (c : Dev nD)

/-- The state a chunk works on: zeros at the first. -/
def fwdIn (t : ℕ) (xs : Vec Ideal S16x128x128 .f32) : Vec Ideal S16x128x128 .f32 := if t % 64 = 0 then k0_pay2 (F := Ideal) else xs
def bwdIn (t : ℕ) (xs : Vec Ideal S16x128x128 .f32) : Vec Ideal S16x128x128 .f32 := if t % 64 = 0 then k1_pay2 (F := Ideal) else xs

theorem fwd_zero : HoldsS (k0_pay2 (F := Ideal)) fun _ _ _ => 0 := fun h i e => by
  show k0_pay2 (F := Ideal) (ix3 h i e) = _
  pointwise [k0_pay2]
theorem bwd_zero : HoldsS (k1_pay2 (F := Ideal)) fun _ _ _ => 0 := fun h i e => by
  show k1_pay2 (F := Ideal) (ix3 h i e) = _
  pointwise [k1_pay2]

/-- What chunk `t` leaves. -/
theorem fwdStep_eq (t : Fin cfg0.N) (xs : Vec Ideal S16x128x128 .f32) :
    (fwdStep W c t xs).S = gS (fwdIn t.val xs)
      ∧ (fwdStep W c t xs).V = gV (fwdBlk W c 2 t) (fwdBlk W c 3 t) (fwdIn t.val xs)
      ∧ (fwdStep W c t xs).St = gSt (fwdBlk W c 1 t) (gV (fwdBlk W c 2 t) (fwdBlk W c 3 t) (fwdIn t.val xs)) (fwdBlk W c 5 t) (fwdIn t.val xs) := by
  unfold fwdIn
  by_cases h0 : t.val % 64 = 0
  · rw [fwdStep_first W c t xs h0, if_pos h0]; unfold fwdOutA; have h := canonFwdA c (grid0.coords t) (fwdM0 t) (fwdH0 t) (fwdM1 t) (fwdH1 t) (fwdM2 t) (fwdH2 t) (fwdM3 t) (fwdH3 t) (fwdM4 t) (fwdH4 t) (fwdM5 t) (fwdH5 t) (fwdM6 t) (fwdH6 t) (fwdM7 t) (fwdH7 t) (fwdM8 t) (fwdH8 t) fwdSc (Memref.isWhole_whole _) (fwdBlk W c 0 t) (fwdBlk W c 1 t) (fwdBlk W c 2 t) (fwdBlk W c 3 t) (fwdBlk W c 4 t) (fwdBlk W c 5 t) ((firstFwd_iff t).mpr h0); dsimp only at h ⊢; exact h
  · rw [fwdStep_later W c t xs h0, if_neg h0]; unfold fwdOutB; have h := canonFwdB c (grid0.coords t) (fwdM0 t) (fwdH0 t) (fwdM1 t) (fwdH1 t) (fwdM2 t) (fwdH2 t) (fwdM3 t) (fwdH3 t) (fwdM4 t) (fwdH4 t) (fwdM5 t) (fwdH5 t) (fwdM6 t) (fwdH6 t) (fwdM7 t) (fwdH7 t) (fwdM8 t) (fwdH8 t) fwdSc (Memref.isWhole_whole _) (fwdBlk W c 0 t) (fwdBlk W c 1 t) (fwdBlk W c 2 t) (fwdBlk W c 3 t) (fwdBlk W c 4 t) (fwdBlk W c 5 t) xs (fun h => h0 ((firstFwd_iff t).mp h)); dsimp only at h ⊢; exact h

theorem fwdStep_S (t : Fin cfg0.N) (xs : Vec Ideal S16x128x128 .f32) :
    (fwdStep W c t xs).S = gS (fwdIn t.val xs) := (fwdStep_eq W c t xs).1
theorem fwdStep_V (t : Fin cfg0.N) (xs : Vec Ideal S16x128x128 .f32) :
    (fwdStep W c t xs).V = gV (fwdBlk W c 2 t) (fwdBlk W c 3 t) (fwdIn t.val xs) := (fwdStep_eq W c t xs).2.1
theorem fwdStep_St (t : Fin cfg0.N) (xs : Vec Ideal S16x128x128 .f32) :
    (fwdStep W c t xs).St = gSt (fwdBlk W c 1 t) (gV (fwdBlk W c 2 t) (fwdBlk W c 3 t) (fwdIn t.val xs)) (fwdBlk W c 5 t) (fwdIn t.val xs) := (fwdStep_eq W c t xs).2.2

/-- What chunk `t` leaves. -/
theorem bwdStep_eq (t : Fin cfg1.N) (xs : Vec Ideal S16x128x128 .f32) :
    (bwdStep W c t xs).Dqd = gDqd (bwdBlk W c 0 t) (bwdBlk W c 6 t)
      ∧ (bwdStep W c t xs).Dkd = gDkd (bwdBlk W c 7 t) (bwdIn t.val xs)
      ∧ (bwdStep W c t xs).Du = gDu (bwdBlk W c 0 t) (bwdBlk W c 2 t) (bwdBlk W c 4 t) (bwdIn t.val xs)
      ∧ (bwdStep W c t xs).Dw = gDw (gDu (bwdBlk W c 0 t) (bwdBlk W c 2 t) (bwdBlk W c 4 t) (bwdIn t.val xs)) (bwdBlk W c 6 t)
      ∧ (bwdStep W c t xs).Da = gDa (bwdBlk W c 0 t) (bwdBlk W c 7 t)
      ∧ (bwdStep W c t xs).Dc = gDc (bwdBlk W c 6 t) (bwdIn t.val xs)
      ∧ (bwdStep W c t xs).St = gDS (bwdBlk W c 0 t) (bwdBlk W c 1 t) (bwdBlk W c 3 t) (gDu (bwdBlk W c 0 t) (bwdBlk W c 2 t) (bwdBlk W c 4 t) (bwdIn t.val xs)) (bwdBlk W c 5 t) (bwdIn t.val xs) := by
  unfold bwdIn
  by_cases h0 : t.val % 64 = 0
  · rw [bwdStep_first W c t xs h0, if_pos h0]; unfold bwdOutA; have h := canonBwdA c (grid1.coords t) (bwdM0 t) (bwdH0 t) (bwdM1 t) (bwdH1 t) (bwdM2 t) (bwdH2 t) (bwdM3 t) (bwdH3 t) (bwdM4 t) (bwdH4 t) (bwdM5 t) (bwdH5 t) (bwdM6 t) (bwdH6 t) (bwdM7 t) (bwdH7 t) (bwdM8 t) (bwdH8 t) (bwdM9 t) (bwdH9 t) (bwdM10 t) (bwdH10 t) (bwdM11 t) (bwdH11 t) (bwdM12 t) (bwdH12 t) (bwdM13 t) (bwdH13 t) bwdSc (Memref.isWhole_whole _) (bwdBlk W c 0 t) (bwdBlk W c 1 t) (bwdBlk W c 2 t) (bwdBlk W c 3 t) (bwdBlk W c 4 t) (bwdBlk W c 5 t) (bwdBlk W c 6 t) (bwdBlk W c 7 t) ((firstBwd_iff t).mpr h0); dsimp only at h ⊢; exact h
  · rw [bwdStep_later W c t xs h0, if_neg h0]; unfold bwdOutB; have h := canonBwdB c (grid1.coords t) (bwdM0 t) (bwdH0 t) (bwdM1 t) (bwdH1 t) (bwdM2 t) (bwdH2 t) (bwdM3 t) (bwdH3 t) (bwdM4 t) (bwdH4 t) (bwdM5 t) (bwdH5 t) (bwdM6 t) (bwdH6 t) (bwdM7 t) (bwdH7 t) (bwdM8 t) (bwdH8 t) (bwdM9 t) (bwdH9 t) (bwdM10 t) (bwdH10 t) (bwdM11 t) (bwdH11 t) (bwdM12 t) (bwdH12 t) (bwdM13 t) (bwdH13 t) bwdSc (Memref.isWhole_whole _) (bwdBlk W c 0 t) (bwdBlk W c 1 t) (bwdBlk W c 2 t) (bwdBlk W c 3 t) (bwdBlk W c 4 t) (bwdBlk W c 5 t) (bwdBlk W c 6 t) (bwdBlk W c 7 t) xs (fun h => h0 ((firstBwd_iff t).mp h)); dsimp only at h ⊢; exact h

theorem bwdStep_Dqd (t : Fin cfg1.N) (xs : Vec Ideal S16x128x128 .f32) :
    (bwdStep W c t xs).Dqd = gDqd (bwdBlk W c 0 t) (bwdBlk W c 6 t) := (bwdStep_eq W c t xs).1
theorem bwdStep_Dkd (t : Fin cfg1.N) (xs : Vec Ideal S16x128x128 .f32) :
    (bwdStep W c t xs).Dkd = gDkd (bwdBlk W c 7 t) (bwdIn t.val xs) := (bwdStep_eq W c t xs).2.1
theorem bwdStep_Du (t : Fin cfg1.N) (xs : Vec Ideal S16x128x128 .f32) :
    (bwdStep W c t xs).Du = gDu (bwdBlk W c 0 t) (bwdBlk W c 2 t) (bwdBlk W c 4 t) (bwdIn t.val xs) := (bwdStep_eq W c t xs).2.2.1
theorem bwdStep_Dw (t : Fin cfg1.N) (xs : Vec Ideal S16x128x128 .f32) :
    (bwdStep W c t xs).Dw = gDw (gDu (bwdBlk W c 0 t) (bwdBlk W c 2 t) (bwdBlk W c 4 t) (bwdIn t.val xs)) (bwdBlk W c 6 t) := (bwdStep_eq W c t xs).2.2.2.1
theorem bwdStep_Da (t : Fin cfg1.N) (xs : Vec Ideal S16x128x128 .f32) :
    (bwdStep W c t xs).Da = gDa (bwdBlk W c 0 t) (bwdBlk W c 7 t) := (bwdStep_eq W c t xs).2.2.2.2.1
theorem bwdStep_Dc (t : Fin cfg1.N) (xs : Vec Ideal S16x128x128 .f32) :
    (bwdStep W c t xs).Dc = gDc (bwdBlk W c 6 t) (bwdIn t.val xs) := (bwdStep_eq W c t xs).2.2.2.2.2.1
theorem bwdStep_St (t : Fin cfg1.N) (xs : Vec Ideal S16x128x128 .f32) :
    (bwdStep W c t xs).St = gDS (bwdBlk W c 0 t) (bwdBlk W c 1 t) (bwdBlk W c 3 t) (gDu (bwdBlk W c 0 t) (bwdBlk W c 2 t) (bwdBlk W c 4 t) (bwdIn t.val xs)) (bwdBlk W c 5 t) (bwdIn t.val xs) := (bwdStep_eq W c t xs).2.2.2.2.2.2

end Cert.KernelIdeal.Scan

end
-- ==== Proof.ScanArrays.lean ====
/- Both scans over all chunks: the carried states, the saved states and new values, and the gradients left in the results. -/
module

public import proofs.«01_k».proof.Proof.ScanChunk
public import proofs.«01_k».proof.Proof.ScanLaunch
public import Idealize.ShloMosaic.Lib.Pipeline.ValueKit.Geometry

@[expose] public section

set_option maxRecDepth 16384

noncomputable section

namespace Cert.KernelIdeal.Scan

open Cert.KernelIdeal.Gen
open Idealize.ShloMosaic Idealize.ShloMosaic.TcCoe
open Cert.MmSums (at2_of)

variable (m : (ℓ : Loc nD τ sig) → Buf (Elt Ideal) ℓ) (c : Dev nD)

/-- The arguments by chunk, head, row and lane. -/
def inp : ScanMath.Arr :=
  ScanMath.arr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-! The buffers the host operations fill. -/

theorem host_arg0 : (W3 m c (Proc.devRef .tc main_arg0) : S4096x2048.Idx → EReal) = m ((c.tc : Thread nD τ).loc main_arg0) := by
  show StableHlo.after hostOps0_2 (StableHlo.after hostOps0_1 (StableHlo.after hostOps0 (fun b => m (c, b)))) main_arg0 = _
  after_results

theorem host_v7 : (W3 m c (Proc.devRef .tc main_v7) : S4096x2048.Idx → EReal) = m ((c.tc : Thread nD τ).loc main_arg1) := by
  show StableHlo.after hostOps0_2 (StableHlo.after hostOps0_1 (StableHlo.after hostOps0 (fun b => m (c, b)))) main_v7 = _
  after_results
  rfl

theorem host_v8 : (W3 m c (Proc.devRef .tc main_v8) : S4096x2048.Idx → EReal) = m ((c.tc : Thread nD τ).loc main_arg2) := by
  show StableHlo.after hostOps0_2 (StableHlo.after hostOps0_1 (StableHlo.after hostOps0 (fun b => m (c, b)))) main_v8 = _
  after_results
  rfl

theorem host_arg3 : (W3 m c (Proc.devRef .tc main_arg3) : S4096x2048.Idx → EReal) = m ((c.tc : Thread nD τ).loc main_arg3) := by
  show StableHlo.after hostOps0_2 (StableHlo.after hostOps0_1 (StableHlo.after hostOps0 (fun b => m (c, b)))) main_arg3 = _
  after_results

theorem host_v9 : (W3 m c (Proc.devRef .tc main_v9) : S4096x2048.Idx → EReal) = m ((c.tc : Thread nD τ).loc main_arg4) := by
  show StableHlo.after hostOps0_2 (StableHlo.after hostOps0_1 (StableHlo.after hostOps0 (fun b => m (c, b)))) main_v9 = _
  after_results
  rfl

theorem lower (r s : Fin 64) : IntOp.cmpi .sge (BitVec.ofNat 32 r.val) (BitVec.ofNat 32 s.val) = if s.val ≤ r.val then 1#1 else 0#1 := by
  revert r s; decide +kernel

theorem weights_at (x : Vec Ideal S64x16x64x64 .f32) (n : Fin 64) (h : Fin 16) (r s : Fin 64) :
    (truncf .bf16 (select (broadcastInDim S64x16x64x64 ![2, 3] bcast_S64x64_S64x16x64x64_2_3 (cmpi .sge (iotaInDim S64x64 32 0) (iotaInDim S64x64 32 1))) x
      (broadcastInDim S64x16x64x64 ![] bcast_S_S64x16x64x64 (constant (F := Ideal) S_ .f32 0x00000000#32))) bitsLt_bf16_f32 : S64x16x64x64.Idx → EReal) (ix4 n h r s)
      = if s.val ≤ r.val then x (ix4 n h r s) else (0 : EReal) := by
  show (if IntOp.cmpi .sge (BitVec.ofNat 32 r.val) (BitVec.ofNat 32 s.val) = 1#1 then (x (ix4 n h r s) : EReal)
    else broadcastInDim S64x16x64x64 ![] bcast_S_S64x16x64x64 (constant (F := Ideal) S_ .f32 0x00000000#32) (ix4 n h r s)) = _
  rw [lower, ValueIdx.broadcastInDim_scalar_apply, show (constant (F := Ideal) S_ .f32 0x00000000#32 _ : EReal) = 0 from Ideal.ofBits_zero_f32]
  split <;> rfl

theorem host_weights (n : Fin 64) (h : Fin 16) (r s : Fin 64) :
    (W3 m c (Proc.devRef .tc main_v4) : S64x16x64x64.Idx → EReal) (ix4 n h r s) = (inp m c).a n.val h r s := by
  have e : (inp m c).a n.val h r s
      = if s.val ≤ r.val then (m ((c.tc : Thread nD τ).loc main_arg5) : S64x16x64x64.Idx → EReal) (ix4 n h r s) else (0 : EReal) := dif_pos n.isLt
  rw [e]
  show StableHlo.after hostOps0_2 (StableHlo.after hostOps0_1 (StableHlo.after hostOps0 (fun b => m (c, b)))) main_v4 (ix4 n h r s) = _
  after_results
  exact weights_at _ n h r s

theorem decay_at (x : Vec Ideal S64x16 .f32) (n : Fin 64) (h : Fin 16) (k : Fin 128) :
    broadcastInDim S64x16x1x128 ![0, 1, 2, 3] bcast_S64x16x1x1_S64x16x1x128_0_1_2_3 (broadcastInDim S64x16x1x1 ![0, 1] bcast_S64x16_S64x16x1x1_0_1 x) (ix4 n h 0 k) = x (ix2 n h) := by
  pointwise []

theorem host_decay (n : Fin 64) (h : Fin 16) (k : Fin 128) :
    (W3 m c (Proc.devRef .tc main_v6) : S64x16x1x128.Idx → EReal) (ix4 n h 0 k) = (inp m c).d n.val h := by
  refine Eq.trans (b := (m ((c.tc : Thread nD τ).loc main_arg6) : S64x16.Idx → EReal) (ix2 n h)) ?_ (at2_of _ _ _ _ rfl rfl)
  show StableHlo.after hostOps0_2 (StableHlo.after hostOps0_1 (StableHlo.after hostOps0 (fun b => m (c, b)))) main_v6 (ix4 n h 0 k) = _
  after_results
  exact decay_at _ n h k

/-! Where a chunk's blocks lie in the arrays. -/

/-- The chunk at a point of the forward and of the reverse scan. -/
def ch0 (t : Fin cfg0.N) : Fin 64 := ⟨t.val, t.isLt⟩
def ch1 (t : Fin cfg1.N) : Fin 64 := ⟨63 - t.val, by omega⟩

/-- A row and a lane of a head of chunk `n`. -/
def rc (n : Fin 64) (r : Fin 64) (h : Fin 16) (k : Fin 128) : S4096x2048.Idx := ix2 ⟨64 * n.val + r.val, by omega⟩ (cl h k)

theorem rc_of {i : S4096x2048.Idx} {n r : Fin 64} {h : Fin 16} {k : Fin 128} {b : Fin 2 → ℕ} (hb : b = ![n.val, 0])
    (h0 : (i 0).val = b 0 * 64 + 1 * r.val) (h1 : (i 1).val = b 1 * 2048 + 1 * (cl h k).val) : i = rc n r h k := by
  subst hb
  refine (eq_ix2 i).trans (congrArg₂ ix2 (Fin.ext (h0.trans ?_)) (Fin.ext (h1.trans ?_)))
  · show n.val * 64 + 1 * r.val = 64 * n.val + r.val; omega
  · show 0 * 2048 + 1 * (cl h k).val = (cl h k).val; omega

theorem ix4_of {A B : ℕ} {i : (⟨4, ![64, 16, A, B]⟩ : Shape).Idx} {n : Fin 64} {h : Fin 16} {r : Fin A} {s : Fin B} {b : Fin 4 → ℕ} (hb : b = ![n.val, 0, 0, 0])
    (h0 : (i 0).val = b 0 * 1 + 1 * 0) (h1 : (i 1).val = b 1 * 16 + 1 * h.val) (h2 : (i 2).val = b 2 * A + 1 * r.val) (h3 : (i 3).val = b 3 * B + 1 * s.val) :
    i = ix4 n h r s := by
  subst hb
  funext a
  apply Fin.ext
  match a with
  | ⟨0, _⟩ => refine h0.trans ?_; show n.val * 1 + 1 * 0 = n.val; omega
  | ⟨1, _⟩ => refine h1.trans ?_; show 0 * 16 + 1 * h.val = h.val; omega
  | ⟨2, _⟩ => refine h2.trans ?_; show 0 * A + 1 * r.val = r.val; omega
  | ⟨3, _⟩ => refine h3.trans ?_; show 0 * B + 1 * s.val = s.val; omega

theorem emb0_1 (t : Fin cfg0.N) (r : Fin 64) (h : Fin 16) (k : Fin 128) : ((cfg0.win 1).blk t).view.emb (ix2 r (cl h k)) = rc (ch0 t) r h k :=
  rc_of ((by decide +kernel : ∀ t : Fin grid0.N, win0_1.index t = ![(ch0 t).val, 0]) t) rfl rfl
theorem emb0_2 (t : Fin cfg0.N) (r : Fin 64) (h : Fin 16) (k : Fin 128) : ((cfg0.win 2).blk t).view.emb (ix2 r (cl h k)) = rc (ch0 t) r h k :=
  rc_of ((by decide +kernel : ∀ t : Fin grid0.N, win0_2.index t = ![(ch0 t).val, 0]) t) rfl rfl
theorem emb0_3 (t : Fin cfg0.N) (r : Fin 64) (h : Fin 16) (k : Fin 128) : ((cfg0.win 3).blk t).view.emb (ix2 r (cl h k)) = rc (ch0 t) r h k :=
  rc_of ((by decide +kernel : ∀ t : Fin grid0.N, win0_3.index t = ![(ch0 t).val, 0]) t) rfl rfl
theorem emb0_8 (t : Fin cfg0.N) (r : Fin 64) (h : Fin 16) (k : Fin 128) : ((cfg0.win 8).blk t).view.emb (ix2 r (cl h k)) = rc (ch0 t) r h k :=
  rc_of ((by decide +kernel : ∀ t : Fin grid0.N, win0_8.index t = ![(ch0 t).val, 0]) t) rfl rfl
theorem emb0_4 (t : Fin cfg0.N) (h : Fin 16) (r : Fin 64) (s : Fin 64) : ((cfg0.win 4).blk t).view.emb (ix4 0 h r s) = ix4 (ch0 t) h r s :=
  ix4_of ((by decide +kernel : ∀ t : Fin grid0.N, win0_4.index t = ![(ch0 t).val, 0, 0, 0]) t) rfl rfl rfl rfl
theorem emb0_5 (t : Fin cfg0.N) (h : Fin 16) (r : Fin 1) (s : Fin 128) : ((cfg0.win 5).blk t).view.emb (ix4 0 h r s) = ix4 (ch0 t) h r s :=
  ix4_of ((by decide +kernel : ∀ t : Fin grid0.N, win0_5.index t = ![(ch0 t).val, 0, 0, 0]) t) rfl rfl rfl rfl
theorem emb0_7 (t : Fin cfg0.N) (h : Fin 16) (r : Fin 128) (s : Fin 128) : ((cfg0.win 7).blk t).view.emb (ix4 0 h r s) = ix4 (ch0 t) h r s :=
  ix4_of ((by decide +kernel : ∀ t : Fin grid0.N, win0_7.index t = ![(ch0 t).val, 0, 0, 0]) t) rfl rfl rfl rfl
theorem emb1_0 (t : Fin cfg1.N) (r : Fin 64) (h : Fin 16) (k : Fin 128) : ((cfg1.win 0).blk t).view.emb (ix2 r (cl h k)) = rc (ch1 t) r h k :=
  rc_of ((by decide +kernel : ∀ t : Fin grid1.N, win1_0.index t = ![(ch1 t).val, 0]) t) rfl rfl
theorem emb1_1 (t : Fin cfg1.N) (r : Fin 64) (h : Fin 16) (k : Fin 128) : ((cfg1.win 1).blk t).view.emb (ix2 r (cl h k)) = rc (ch1 t) r h k :=
  rc_of ((by decide +kernel : ∀ t : Fin grid1.N, win1_1.index t = ![(ch1 t).val, 0]) t) rfl rfl
theorem emb1_2 (t : Fin cfg1.N) (r : Fin 64) (h : Fin 16) (k : Fin 128) : ((cfg1.win 2).blk t).view.emb (ix2 r (cl h k)) = rc (ch1 t) r h k :=
  rc_of ((by decide +kernel : ∀ t : Fin grid1.N, win1_2.index t = ![(ch1 t).val, 0]) t) rfl rfl
theorem emb1_3 (t : Fin cfg1.N) (r : Fin 64) (h : Fin 16) (k : Fin 128) : ((cfg1.win 3).blk t).view.emb (ix2 r (cl h k)) = rc (ch1 t) r h k :=
  rc_of ((by decide +kernel : ∀ t : Fin grid1.N, win1_3.index t = ![(ch1 t).val, 0]) t) rfl rfl
theorem emb1_7 (t : Fin cfg1.N) (r : Fin 64) (h : Fin 16) (k : Fin 128) : ((cfg1.win 7).blk t).view.emb (ix2 r (cl h k)) = rc (ch1 t) r h k :=
  rc_of ((by decide +kernel : ∀ t : Fin grid1.N, win1_7.index t = ![(ch1 t).val, 0]) t) rfl rfl
theorem emb1_8 (t : Fin cfg1.N) (r : Fin 64) (h : Fin 16) (k : Fin 128) : ((cfg1.win 8).blk t).view.emb (ix2 r (cl h k)) = rc (ch1 t) r h k :=
  rc_of ((by decide +kernel : ∀ t : Fin grid1.N, win1_8.index t = ![(ch1 t).val, 0]) t) rfl rfl
theorem emb1_9 (t : Fin cfg1.N) (r : Fin 64) (h : Fin 16) (k : Fin 128) : ((cfg1.win 9).blk t).view.emb (ix2 r (cl h k)) = rc (ch1 t) r h k :=
  rc_of ((by decide +kernel : ∀ t : Fin grid1.N, win1_9.index t = ![(ch1 t).val, 0]) t) rfl rfl
theorem emb1_10 (t : Fin cfg1.N) (r : Fin 64) (h : Fin 16) (k : Fin 128) : ((cfg1.win 10).blk t).view.emb (ix2 r (cl h k)) = rc (ch1 t) r h k :=
  rc_of ((by decide +kernel : ∀ t : Fin grid1.N, win1_10.index t = ![(ch1 t).val, 0]) t) rfl rfl
theorem emb1_11 (t : Fin cfg1.N) (r : Fin 64) (h : Fin 16) (k : Fin 128) : ((cfg1.win 11).blk t).view.emb (ix2 r (cl h k)) = rc (ch1 t) r h k :=
  rc_of ((by decide +kernel : ∀ t : Fin grid1.N, win1_11.index t = ![(ch1 t).val, 0]) t) rfl rfl
theorem emb1_4 (t : Fin cfg1.N) (h : Fin 16) (r : Fin 64) (s : Fin 64) : ((cfg1.win 4).blk t).view.emb (ix4 0 h r s) = ix4 (ch1 t) h r s :=
  ix4_of ((by decide +kernel : ∀ t : Fin grid1.N, win1_4.index t = ![(ch1 t).val, 0, 0, 0]) t) rfl rfl rfl rfl
theorem emb1_5 (t : Fin cfg1.N) (h : Fin 16) (r : Fin 1) (s : Fin 128) : ((cfg1.win 5).blk t).view.emb (ix4 0 h r s) = ix4 (ch1 t) h r s :=
  ix4_of ((by decide +kernel : ∀ t : Fin grid1.N, win1_5.index t = ![(ch1 t).val, 0, 0, 0]) t) rfl rfl rfl rfl
theorem emb1_6 (t : Fin cfg1.N) (h : Fin 16) (r : Fin 128) (s : Fin 128) : ((cfg1.win 6).blk t).view.emb (ix4 0 h r s) = ix4 (ch1 t) h r s :=
  ix4_of ((by decide +kernel : ∀ t : Fin grid1.N, win1_6.index t = ![(ch1 t).val, 0, 0, 0]) t) rfl rfl rfl rfl
theorem emb1_12 (t : Fin cfg1.N) (h : Fin 16) (r : Fin 64) (s : Fin 64) : ((cfg1.win 12).blk t).view.emb (ix4 0 h r s) = ix4 (ch1 t) h r s :=
  ix4_of ((by decide +kernel : ∀ t : Fin grid1.N, win1_12.index t = ![(ch1 t).val, 0, 0, 0]) t) rfl rfl rfl rfl
theorem emb1_13 (t : Fin cfg1.N) (h : Fin 16) (r : Fin 1) (s : Fin 128) : ((cfg1.win 13).blk t).view.emb (ix4 0 h r s) = ix4 (ch1 t) h r s :=
  ix4_of ((by decide +kernel : ∀ t : Fin grid1.N, win1_13.index t = ![(ch1 t).val, 0, 0, 0]) t) rfl rfl rfl rfl
/-! The arrays by chunk. -/

/-- An array of rows holds `f` chunk by chunk, -/
def Rows {e : EltTy} (he : Elt Ideal e = EReal) (x : Vec Ideal S4096x2048 e) (f : ℕ → Fin 16 → Fin 64 → Fin 128 → EReal) : Prop :=
  ∀ n r h k, cast he (x (rc n r h k)) = f n.val h r k
/-- an array of matrices per chunk and head holds `f`. -/
def Mats {A B : ℕ} {e : EltTy} (he : Elt Ideal e = EReal) (x : Vec Ideal ⟨4, ![64, 16, A, B]⟩ e) (f : ℕ → Fin 16 → Fin A → Fin B → EReal) : Prop :=
  ∀ n h r s, cast he (x (ix4 n h r s)) = f n.val h r s

theorem rows_of (x : S4096x2048.Idx → EReal) : Rows (e := .f32) rfl x fun n h r k => MmSums.at2 x (64 * n + r.val) (128 * h.val + k.val) :=
  fun _ _ _ _ => at2_of x _ _ _ rfl rfl

theorem has_arg0 : Rows rfl (W3 m c (Proc.devRef .tc main_arg0)) (inp m c).o :=
  fun n r h k => (congrFun (host_arg0 m c) (rc n r h k)).trans (at2_of _ _ _ _ rfl rfl)
theorem has_v7 : Rows rfl (W3 m c (Proc.devRef .tc main_v7)) (inp m c).q :=
  fun n r h k => (congrFun (host_v7 m c) (rc n r h k)).trans (at2_of _ _ _ _ rfl rfl)
theorem has_v8 : Rows rfl (W3 m c (Proc.devRef .tc main_v8)) (inp m c).k :=
  fun n r h k => (congrFun (host_v8 m c) (rc n r h k)).trans (at2_of _ _ _ _ rfl rfl)
theorem has_arg3 : Rows rfl (W3 m c (Proc.devRef .tc main_arg3)) (inp m c).u :=
  fun n r h k => (congrFun (host_arg3 m c) (rc n r h k)).trans (at2_of _ _ _ _ rfl rfl)
theorem has_v9 : Rows rfl (W3 m c (Proc.devRef .tc main_v9)) (inp m c).w :=
  fun n r h k => (congrFun (host_v9 m c) (rc n r h k)).trans (at2_of _ _ _ _ rfl rfl)
theorem has_v4 : Mats (A := 64) (B := 64) rfl (W3 m c (Proc.devRef .tc main_v4)) (inp m c).a := host_weights m c
theorem has_v6 (n : Fin 64) (h : Fin 16) (k : Fin 128) : (W3 m c (Proc.devRef .tc main_v6) : S64x16x1x128.Idx → EReal) (ix4 n h 0 k) = (inp m c).d n.val h :=
  host_decay m c n h k

/-! The forward scan. -/

theorem blk0_1 (t : Fin cfg0.N) : Holds rfl (fwdBlk (W3 m) c 1 t) ((inp m c).k t.val) := fun r h k =>
  (congrArg (W3 m c (Proc.devRef .tc main_v8)) (emb0_1 t r h k)).trans (has_v8 m c (ch0 t) r h k)
theorem blk0_2 (t : Fin cfg0.N) : Holds rfl (fwdBlk (W3 m) c 2 t) ((inp m c).u t.val) := fun r h k =>
  (congrArg (W3 m c (Proc.devRef .tc main_arg3)) (emb0_2 t r h k)).trans (has_arg3 m c (ch0 t) r h k)
theorem blk0_3 (t : Fin cfg0.N) : Holds rfl (fwdBlk (W3 m) c 3 t) ((inp m c).w t.val) := fun r h k =>
  (congrArg (W3 m c (Proc.devRef .tc main_v9)) (emb0_3 t r h k)).trans (has_v9 m c (ch0 t) r h k)
theorem blk0_5 (t : Fin cfg0.N) : HoldsD (fwdBlk (W3 m) c 5 t) ((inp m c).d t.val) := fun h k =>
  (congrArg (W3 m c (Proc.devRef .tc main_v6)) (emb0_5 t h 0 k)).trans (has_v6 m c (ch0 t) h k)

theorem fwd_carried : ∀ (n : ℕ), n < cfg0.N → HoldsS (fwdIn n (fwdState (W3 m) c n)) (ScanMath.st (inp m c) n)
  | 0, _ => by rw [fwdIn, if_pos rfl]; exact fwd_zero
  | n + 1, hn => by
    have hN : n + 1 < 64 := hn
    rw [fwdIn, if_neg (by omega), fwdState_succ (W3 m) c ⟨n, by omega⟩, fwdStep_St]
    have ih := fwd_carried n (by omega)
    exact gSt_eq (blk0_1 m c _) (gV_eq (blk0_2 m c _) (blk0_3 m c _) ih) (blk0_5 m c _) ih

/-- What the forward scan leaves under a chunk's block is what the chunk left. -/
theorem fwd_left (w : Fin cfg0.W) (hf : ∀ t, (cfg0.win w).flush t = true) (hi : ∀ t t', (cfg0.win w).index t = (cfg0.win w).index t' → t = t')
    (t : Fin cfg0.N) (y) :
    W4 m c (Proc.devRef .tc (Pipeline.arrRef spec0 w)) (((cfg0.win w).blk t).view.emb y)
      = cast (congrArg (Elt Ideal) ((cfg0.win w).blk t).view.elt_eq.symm) ((fwdDat (W3 m) c).flushed w t y) :=
  (congrFun (Pipeline.afterRegion_arr (fwdDat (W3 m) c) (W3 m c) launch0.win.arr_inj w) _).trans
    ((fwdDat (W3 m) c).arrAt_emb_eq_flushed w (Pipeline.Window.hdisj_of_index_inj _ fun t t' _ _ => hi t t') t (hf t) y)

theorem ch0_surj (n : Fin 64) : ∃ t, ch0 t = n := ⟨⟨n.val, n.isLt⟩, rfl⟩

theorem saved_state : Mats (A := 128) (B := 128) rfl (W4 m c (Proc.devRef .tc main_v10_1)) (ScanMath.st (inp m c)) := fun n h i e => by
  obtain ⟨t, rfl⟩ := ch0_surj n
  refine (congrArg (W4 m c (Proc.devRef .tc main_v10_1)) (emb0_7 t h i e).symm).trans ((fwd_left m c 7 flush0_7 (by decide +kernel) t (ix4 0 h i e)).trans ?_)
  show (fwdDat (W3 m) c).after 7 t (ix4 0 h i e) = _
  rw [fwdAfter7, fwdStep_S]
  exact fwd_carried m c t.val t.isLt h i e

theorem saved_values : Rows rfl (W4 m c (Proc.devRef .tc main_v10_2)) fun n => ScanMath.vn (inp m c) n (ScanMath.st (inp m c) n) := fun n r h k => by
  obtain ⟨t, rfl⟩ := ch0_surj n
  refine (congrArg (W4 m c (Proc.devRef .tc main_v10_2)) (emb0_8 t r h k).symm).trans ((fwd_left m c 8 flush0_8 (by decide +kernel) t (ix2 r (cl h k))).trans ?_)
  show (fwdDat (W3 m) c).after 8 t (ix2 r (cl h k)) = _
  rw [fwdAfter8, fwdStep_V]
  exact gV_eq (blk0_2 m c _) (blk0_3 m c _) (fwd_carried m c t.val t.isLt) r h k

theorem kept_in (w : Fin cfg0.W) (hw : (cfg0.win w).isOut = false) :
    W4 m c (Proc.devRef .tc (Pipeline.arrRef spec0 w)) = W3 m c (Proc.devRef .tc (Pipeline.arrRef spec0 w)) :=
  (Pipeline.afterRegion_arr (fwdDat (W3 m) c) (W3 m c) launch0.win.arr_inj w).trans
    (((fwdDat (W3 m) c).arrAt_in w hw _).trans (fwdDat_A (W3 m) c w))
theorem kept_arg0 : W4 m c (Proc.devRef .tc main_arg0) = W3 m c (Proc.devRef .tc main_arg0) :=
  Pipeline.afterRegion_of_not_arr _ _ (by decide)

/-! The reverse scan. -/

theorem blk1_0 (t : Fin cfg1.N) : Holds rfl (bwdBlk (W4 m) c 0 t) ((inp m c).o (63 - t.val)) := fun r h k =>
  (congrArg (W4 m c (Proc.devRef .tc main_arg0)) (emb1_0 t r h k)).trans ((congrFun (kept_arg0 m c) _).trans (has_arg0 m c (ch1 t) r h k))
theorem blk1_1 (t : Fin cfg1.N) : Holds rfl (bwdBlk (W4 m) c 1 t) ((inp m c).q (63 - t.val)) := fun r h k =>
  (congrArg (W4 m c (Proc.devRef .tc main_v7)) (emb1_1 t r h k)).trans ((congrFun (kept_in m c 0 rfl) _).trans (has_v7 m c (ch1 t) r h k))
theorem blk1_2 (t : Fin cfg1.N) : Holds rfl (bwdBlk (W4 m) c 2 t) ((inp m c).k (63 - t.val)) := fun r h k =>
  (congrArg (W4 m c (Proc.devRef .tc main_v8)) (emb1_2 t r h k)).trans ((congrFun (kept_in m c 1 rfl) _).trans (has_v8 m c (ch1 t) r h k))
theorem blk1_3 (t : Fin cfg1.N) : Holds rfl (bwdBlk (W4 m) c 3 t) ((inp m c).w (63 - t.val)) := fun r h k =>
  (congrArg (W4 m c (Proc.devRef .tc main_v9)) (emb1_3 t r h k)).trans ((congrFun (kept_in m c 3 rfl) _).trans (has_v9 m c (ch1 t) r h k))
theorem blk1_4 (t : Fin cfg1.N) : HoldsA rfl (bwdBlk (W4 m) c 4 t) ((inp m c).a (63 - t.val)) := fun h r s =>
  (congrArg (W4 m c (Proc.devRef .tc main_v4)) (emb1_4 t h r s)).trans ((congrFun (kept_in m c 4 rfl) _).trans (has_v4 m c (ch1 t) h r s))
theorem blk1_5 (t : Fin cfg1.N) : HoldsD (bwdBlk (W4 m) c 5 t) ((inp m c).d (63 - t.val)) := fun h k =>
  (congrArg (W4 m c (Proc.devRef .tc main_v6)) (emb1_5 t h 0 k)).trans ((congrFun (kept_in m c 5 rfl) _).trans (has_v6 m c (ch1 t) h k))
theorem blk1_6 (t : Fin cfg1.N) : HoldsB (bwdBlk (W4 m) c 6 t) (ScanMath.st (inp m c) (63 - t.val)) := fun h i e =>
  (congrArg (W4 m c (Proc.devRef .tc main_v10_1)) (emb1_6 t h i e)).trans (saved_state m c (ch1 t) h i e)
theorem blk1_7 (t : Fin cfg1.N) : Holds rfl (bwdBlk (W4 m) c 7 t) (ScanMath.vn (inp m c) (63 - t.val) (ScanMath.st (inp m c) (63 - t.val))) := fun r h k =>
  (congrArg (W4 m c (Proc.devRef .tc main_v10_2)) (emb1_7 t r h k)).trans (saved_values m c (ch1 t) r h k)

theorem bwd_carried : ∀ (n : ℕ), n < cfg1.N → HoldsS (bwdIn n (bwdState (W4 m) c n)) (ScanMath.ds (inp m c) n)
  | 0, _ => by rw [bwdIn, if_pos rfl]; exact bwd_zero
  | n + 1, hn => by
    have hN : n + 1 < 64 := hn
    rw [bwdIn, if_neg (by omega), bwdState_succ (W4 m) c ⟨n, by omega⟩, bwdStep_St]
    have ih := bwd_carried n (by omega)
    exact gDS_eq (blk1_0 m c _) (blk1_1 m c _) (blk1_3 m c _) (gDu_eq (blk1_0 m c _) (blk1_2 m c _) (blk1_4 m c _) ih) (blk1_5 m c _) ih

theorem adjoint (t : Fin cfg1.N) : HoldsS (bwdIn t.val (bwdState (W4 m) c t.val)) (ScanMath.ds (inp m c) (63 - (63 - t.val))) := by
  rw [show 63 - (63 - t.val) = t.val by have : t.val < 64 := t.isLt; omega]
  exact bwd_carried m c t.val t.isLt

theorem grad_u (t : Fin cfg1.N) :
    Holds rfl (gDu (bwdBlk (W4 m) c 0 t) (bwdBlk (W4 m) c 2 t) (bwdBlk (W4 m) c 4 t) (bwdIn t.val (bwdState (W4 m) c t.val))) (ScanMath.gu (inp m c) (63 - t.val)) :=
  gDu_eq (blk1_0 m c t) (blk1_2 m c t) (blk1_4 m c t) (adjoint m c t)

/-- What the reverse scan leaves under a chunk's block is what the chunk left. -/
theorem bwd_left (w : Fin cfg1.W) (hf : ∀ t, (cfg1.win w).flush t = true) (hi : ∀ t t', (cfg1.win w).index t = (cfg1.win w).index t' → t = t')
    (t : Fin cfg1.N) (y) :
    W5 m c (Proc.devRef .tc (Pipeline.arrRef spec1 w)) (((cfg1.win w).blk t).view.emb y)
      = cast (congrArg (Elt Ideal) ((cfg1.win w).blk t).view.elt_eq.symm) ((bwdDat (W4 m) c).flushed w t y) :=
  (congrFun (Pipeline.afterRegion_arr (bwdDat (W4 m) c) (W4 m c) launch1.win.arr_inj w) _).trans
    ((bwdDat (W4 m) c).arrAt_emb_eq_flushed w (Pipeline.Window.hdisj_of_index_inj _ fun t t' _ _ => hi t t') t (hf t) y)

theorem ch1_surj (n : Fin 64) : ∃ t, ch1 t = n :=
  ⟨⟨63 - n.val, show 63 - n.val < 64 by omega⟩, Fin.ext (show 63 - (63 - n.val) = n.val by omega)⟩

theorem out_q : Rows rfl (W5 m c (Proc.devRef .tc main_v11_0)) (ScanMath.gq (inp m c)) := fun n r h k => by
  obtain ⟨t, rfl⟩ := ch1_surj n
  refine (congrArg (W5 m c (Proc.devRef .tc main_v11_0)) (emb1_8 t r h k).symm).trans ((bwd_left m c 8 flush1_8 (by decide +kernel) t (ix2 r (cl h k))).trans ?_)
  show (bwdDat (W4 m) c).after 8 t (ix2 r (cl h k)) = _
  rw [bwdAfter8, bwdStep_Dqd]
  exact gDqd_eq (blk1_0 m c t) (blk1_6 m c t) r h k

theorem out_k : Rows rfl (W5 m c (Proc.devRef .tc main_v11_1)) (ScanMath.gk (inp m c)) := fun n r h k => by
  obtain ⟨t, rfl⟩ := ch1_surj n
  refine (congrArg (W5 m c (Proc.devRef .tc main_v11_1)) (emb1_9 t r h k).symm).trans ((bwd_left m c 9 flush1_9 (by decide +kernel) t (ix2 r (cl h k))).trans ?_)
  show (bwdDat (W4 m) c).after 9 t (ix2 r (cl h k)) = _
  rw [bwdAfter9, bwdStep_Dkd]
  exact gDkd_eq (blk1_7 m c t) (adjoint m c t) r h k

theorem out_u : Rows rfl (W5 m c (Proc.devRef .tc main_v11_2)) (ScanMath.gu (inp m c)) := fun n r h k => by
  obtain ⟨t, rfl⟩ := ch1_surj n
  refine (congrArg (W5 m c (Proc.devRef .tc main_v11_2)) (emb1_10 t r h k).symm).trans ((bwd_left m c 10 flush1_10 (by decide +kernel) t (ix2 r (cl h k))).trans ?_)
  show (bwdDat (W4 m) c).after 10 t (ix2 r (cl h k)) = _
  rw [bwdAfter10, bwdStep_Du]
  exact grad_u m c t r h k

theorem out_w : Rows rfl (W5 m c (Proc.devRef .tc main_v11_3)) (ScanMath.gw (inp m c)) := fun n r h k => by
  obtain ⟨t, rfl⟩ := ch1_surj n
  refine (congrArg (W5 m c (Proc.devRef .tc main_v11_3)) (emb1_11 t r h k).symm).trans ((bwd_left m c 11 flush1_11 (by decide +kernel) t (ix2 r (cl h k))).trans ?_)
  show (bwdDat (W4 m) c).after 11 t (ix2 r (cl h k)) = _
  rw [bwdAfter11, bwdStep_Dw]
  exact gDw_eq (grad_u m c t) (blk1_6 m c t) r h k

theorem out_a : Mats (A := 64) (B := 64) rfl (W5 m c (Proc.devRef .tc main_v11_4)) (ScanMath.ga (inp m c)) := fun n h r s => by
  obtain ⟨t, rfl⟩ := ch1_surj n
  refine (congrArg (W5 m c (Proc.devRef .tc main_v11_4)) (emb1_12 t h r s).symm).trans ((bwd_left m c 12 flush1_12 (by decide +kernel) t (ix4 0 h r s)).trans ?_)
  show (bwdDat (W4 m) c).after 12 t (ix4 0 h r s) = _
  rw [bwdAfter12, bwdStep_Da]
  exact gDa_eq (blk1_0 m c t) (blk1_7 m c t) h r s

theorem out_d (n : Fin 64) (h : Fin 16) (k : Fin 128) :
    (W5 m c (Proc.devRef .tc main_v11_5) : S64x16x1x128.Idx → EReal) (ix4 n h 0 k) = ScanMath.gd (inp m c) n.val h := by
  obtain ⟨t, rfl⟩ := ch1_surj n
  refine (congrArg (W5 m c (Proc.devRef .tc main_v11_5)) (emb1_13 t h 0 k).symm).trans ((bwd_left m c 13 flush1_13 (by decide +kernel) t (ix4 0 h 0 k)).trans ?_)
  show (bwdDat (W4 m) c).after 13 t (ix4 0 h 0 k) = _
  rw [bwdAfter13, bwdStep_Dc]
  exact gDc_eq (blk1_6 m c t) (adjoint m c t) h k

end Cert.KernelIdeal.Scan

end
-- ==== Proof.RefSlices.lean ====
/- A row of a stack read by a dynamic slice, and a row of a stack replaced by a dynamic update slice, at an index. -/
module

public import Idealize.ShloMosaic.Lib.Pointwise
public import Idealize.ShloMosaic.Lib.Pipeline.Value

@[expose] public section

noncomputable section

namespace Cert.ReferenceIdeal.Scan

open Idealize.ShloMosaic

variable {α : Type}

/-- Row `n` of a stack of three-dimensional arrays. -/
theorem row4 {N a b d : ℕ} (x : (⟨4, ![N, a, b, d]⟩ : Shape).Idx → α) (start : Fin 4 → Int) (n : Fin N)
    (h0 : start 0 = (n.val : Int)) (h1 : start 1 = 0) (h2 : start 2 = 0) (h3 : start 3 = 0)
    (h : (⟨4, ![N, a, b, d]⟩ : Shape).Slices (fun _ => 0) ⟨4, ![1, a, b, d]⟩)
    (h' : (⟨4, ![1, a, b, d]⟩ : Shape).ShapeCasts ⟨3, ![a, b, d]⟩) (i : Fin a) (j : Fin b) (k : Fin d) :
    shapeCast ⟨3, ![a, b, d]⟩ (Host.dynamicSlice ⟨4, ![1, a, b, d]⟩ x start h) h' (ix3 i j k) = x (ix4 n i j k) := by
  refine (shapeCast_dropUnit_apply ![a, b, d] _ h' (ix3 i j k)).trans ?_
  refine (Host.dynamicSlice_apply x start h _).trans (congrArg x ?_)
  have e0 := Host.clampedStart_of_le (s := ⟨4, ![N, a, b, d]⟩) (t := ⟨4, ![1, a, b, d]⟩) h.1 start 0 n.val h0 (by show n.val + 1 ≤ N; omega)
  have e1 := Host.clampedStart_of_le (s := ⟨4, ![N, a, b, d]⟩) (t := ⟨4, ![1, a, b, d]⟩) h.1 start 1 0 h1 (by show 0 + a ≤ a; omega)
  have e2 := Host.clampedStart_of_le (s := ⟨4, ![N, a, b, d]⟩) (t := ⟨4, ![1, a, b, d]⟩) h.1 start 2 0 h2 (by show 0 + b ≤ b; omega)
  have e3 := Host.clampedStart_of_le (s := ⟨4, ![N, a, b, d]⟩) (t := ⟨4, ![1, a, b, d]⟩) h.1 start 3 0 h3 (by show 0 + d ≤ d; omega)
  funext p
  refine Fin.ext ?_
  match p with
  | 0 => exact (congrArg (· + 0) e0).trans (Nat.add_zero _)
  | 1 => exact (congrArg (· + i.val) e1).trans (Nat.zero_add _)
  | 2 => exact (congrArg (· + j.val) e2).trans (Nat.zero_add _)
  | 3 => exact (congrArg (· + k.val) e3).trans (Nat.zero_add _)

/-- A stack with row `n` replaced. -/
theorem set4 {N a b d : ℕ} (x : (⟨4, ![N, a, b, d]⟩ : Shape).Idx → α) (u : (⟨4, ![1, a, b, d]⟩ : Shape).Idx → α) (start : Fin 4 → Int) (n : Fin N)
    (h0 : start 0 = (n.val : Int)) (h1 : start 1 = 0) (h2 : start 2 = 0) (h3 : start 3 = 0)
    (h : (⟨4, ![N, a, b, d]⟩ : Shape).Slices (fun _ => 0) ⟨4, ![1, a, b, d]⟩) (p : Fin N) (i : Fin a) (j : Fin b) (k : Fin d) :
    Host.dynamicUpdateSlice x u start h (ix4 p i j k) = if p = n then u (ix4 0 i j k) else x (ix4 p i j k) := by
  have e0 := Host.clampedStart_of_le (s := ⟨4, ![N, a, b, d]⟩) (t := ⟨4, ![1, a, b, d]⟩) h.1 start 0 n.val h0 (by show n.val + 1 ≤ N; omega)
  have e1 := Host.clampedStart_of_le (s := ⟨4, ![N, a, b, d]⟩) (t := ⟨4, ![1, a, b, d]⟩) h.1 start 1 0 h1 (by show 0 + a ≤ a; omega)
  have e2 := Host.clampedStart_of_le (s := ⟨4, ![N, a, b, d]⟩) (t := ⟨4, ![1, a, b, d]⟩) h.1 start 2 0 h2 (by show 0 + b ≤ b; omega)
  have e3 := Host.clampedStart_of_le (s := ⟨4, ![N, a, b, d]⟩) (t := ⟨4, ![1, a, b, d]⟩) h.1 start 3 0 h3 (by show 0 + d ≤ d; omega)
  refine (Host.dynamicUpdateSlice_apply x u start h _).trans ?_
  by_cases hp : p = n
  · subst hp
    rw [if_pos rfl]
    have hin : ∀ q : Fin 4, Host.clampedStart ⟨4, ![N, a, b, d]⟩ ⟨4, ![1, a, b, d]⟩ h.1 start q ≤ ((ix4 p i j k : (⟨4, ![N, a, b, d]⟩ : Shape).Idx) q).val
        ∧ ((ix4 p i j k : (⟨4, ![N, a, b, d]⟩ : Shape).Idx) q).val < Host.clampedStart ⟨4, ![N, a, b, d]⟩ ⟨4, ![1, a, b, d]⟩ h.1 start q
          + (⟨4, ![1, a, b, d]⟩ : Shape).size (q.cast h.1.symm) := fun q => by
      match q with
      | 0 => rw [e0]; exact ⟨Nat.le_refl _, Nat.lt_succ_self _⟩
      | 1 => rw [e1]; exact ⟨Nat.zero_le _, (Nat.zero_add a).symm ▸ i.isLt⟩
      | 2 => rw [e2]; exact ⟨Nat.zero_le _, (Nat.zero_add b).symm ▸ j.isLt⟩
      | 3 => rw [e3]; exact ⟨Nat.zero_le _, (Nat.zero_add d).symm ▸ k.isLt⟩
    refine (dif_pos hin).trans (congrArg u ?_)
    funext q
    refine Fin.ext ?_
    match q with
    | 0 => exact (congrArg (p.val - ·) e0).trans (Nat.sub_self _)
    | 1 => exact congrArg (i.val - ·) e1
    | 2 => exact congrArg (j.val - ·) e2
    | 3 => exact congrArg (k.val - ·) e3
  · rw [if_neg hp]
    refine dif_neg fun hin => hp ?_
    have := hin 0
    rw [e0] at this
    have h1 : n.val ≤ p.val := this.1
    have h2 : p.val < n.val + 1 := this.2
    exact Fin.ext (by omega)

theorem row2 {N a : ℕ} (x : (⟨2, ![N, a]⟩ : Shape).Idx → α) (start : Fin 2 → Int) (n : Fin N)
    (h0 : start 0 = (n.val : Int)) (h1 : start 1 = 0)
    (h : (⟨2, ![N, a]⟩ : Shape).Slices (fun _ => 0) ⟨2, ![1, a]⟩)
    (h' : (⟨2, ![1, a]⟩ : Shape).ShapeCasts ⟨1, ![a]⟩) (i : Fin a) :
    shapeCast ⟨1, ![a]⟩ (Host.dynamicSlice ⟨2, ![1, a]⟩ x start h) h' (ix1 i) = x (ix2 n i) := by
  refine (shapeCast_dropUnit_apply ![a] _ h' (ix1 i)).trans ?_
  refine (Host.dynamicSlice_apply x start h _).trans (congrArg x ?_)
  have e0 := Host.clampedStart_of_le (s := ⟨2, ![N, a]⟩) (t := ⟨2, ![1, a]⟩) h.1 start 0 n.val h0 (by show n.val + 1 ≤ N; omega)
  have e1 := Host.clampedStart_of_le (s := ⟨2, ![N, a]⟩) (t := ⟨2, ![1, a]⟩) h.1 start 1 0 h1 (by show 0 + a ≤ a; omega)
  funext p
  refine Fin.ext ?_
  match p with
  | 0 => exact (congrArg (· + 0) e0).trans (Nat.add_zero _)
  | 1 => exact (congrArg (· + i.val) e1).trans (Nat.zero_add _)

theorem set2 {N a : ℕ} (x : (⟨2, ![N, a]⟩ : Shape).Idx → α) (u : (⟨2, ![1, a]⟩ : Shape).Idx → α) (start : Fin 2 → Int) (n : Fin N)
    (h0 : start 0 = (n.val : Int)) (h1 : start 1 = 0)
    (h : (⟨2, ![N, a]⟩ : Shape).Slices (fun _ => 0) ⟨2, ![1, a]⟩) (p : Fin N) (i : Fin a) :
    Host.dynamicUpdateSlice x u start h (ix2 p i) = if p = n then u (ix2 0 i) else x (ix2 p i) := by
  have e0 := Host.clampedStart_of_le (s := ⟨2, ![N, a]⟩) (t := ⟨2, ![1, a]⟩) h.1 start 0 n.val h0 (by show n.val + 1 ≤ N; omega)
  have e1 := Host.clampedStart_of_le (s := ⟨2, ![N, a]⟩) (t := ⟨2, ![1, a]⟩) h.1 start 1 0 h1 (by show 0 + a ≤ a; omega)
  refine (Host.dynamicUpdateSlice_apply x u start h _).trans ?_
  by_cases hp : p = n
  · subst hp
    rw [if_pos rfl]
    have hin : ∀ q : Fin 2, Host.clampedStart ⟨2, ![N, a]⟩ ⟨2, ![1, a]⟩ h.1 start q ≤ ((ix2 p i : (⟨2, ![N, a]⟩ : Shape).Idx) q).val
        ∧ ((ix2 p i : (⟨2, ![N, a]⟩ : Shape).Idx) q).val < Host.clampedStart ⟨2, ![N, a]⟩ ⟨2, ![1, a]⟩ h.1 start q
          + (⟨2, ![1, a]⟩ : Shape).size (q.cast h.1.symm) := fun q => by
      match q with
      | 0 => rw [e0]; exact ⟨Nat.le_refl _, Nat.lt_succ_self _⟩
      | 1 => rw [e1]; exact ⟨Nat.zero_le _, (Nat.zero_add a).symm ▸ i.isLt⟩
    refine (dif_pos hin).trans (congrArg u ?_)
    funext q
    refine Fin.ext ?_
    match q with
    | 0 => exact (congrArg (p.val - ·) e0).trans (Nat.sub_self _)
    | 1 => exact congrArg (i.val - ·) e1
  · rw [if_neg hp]
    refine dif_neg fun hin => hp ?_
    have := hin 0
    rw [e0] at this
    have h1 : n.val ≤ p.val := this.1
    have h2 : p.val < n.val + 1 := this.2
    exact Fin.ext (by omega)

/-- An array as a stack of one. -/
theorem up3 {a b d : ℕ} (y : (⟨3, ![a, b, d]⟩ : Shape).Idx → α) (hb : (⟨3, ![a, b, d]⟩ : Shape).BroadcastsInDim ⟨4, ![1, a, b, d]⟩ ![1, 2, 3])
    (i : Fin a) (j : Fin b) (k : Fin d) : broadcastInDim ⟨4, ![1, a, b, d]⟩ ![1, 2, 3] hb y (ix4 0 i j k) = y (ix3 i j k) :=
  broadcastInDim_apply _ _ _ _ _ fun q => by
    match q with
    | 0 => show i.val = if a = 1 then 0 else i.val; split <;> omega
    | 1 => show j.val = if b = 1 then 0 else j.val; split <;> omega
    | 2 => show k.val = if d = 1 then 0 else k.val; split <;> omega

theorem up1 {a : ℕ} (y : (⟨1, ![a]⟩ : Shape).Idx → α) (hb : (⟨1, ![a]⟩ : Shape).BroadcastsInDim ⟨2, ![1, a]⟩ ![1]) (i : Fin a) :
    broadcastInDim ⟨2, ![1, a]⟩ ![1] hb y (ix2 0 i) = y (ix1 i) :=
  broadcastInDim_apply _ _ _ _ _ fun q => by
    match q with
    | 0 => show i.val = if a = 1 then 0 else i.val; split <;> omega

end Cert.ReferenceIdeal.Scan

end
-- ==== Proof.RefFwd.lean ====
/- The forward loop of the reference: each of its stretches at an element, what one trip does to the arrays it carries, and
   the states and new values it leaves. -/
module

public import proofs.«01_k».proof.Proof.RefRun
public import proofs.«01_k».proof.Proof.RefSlices
public import proofs.«01_k».proof.Proof.ScanMath
public import Idealize.ShloMosaic.Lib.DynamicIndex

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen

/-! ## Runs of stretches -/

section
variable {F : FTy → Type} [FloatOps F]

/-- After the first `j` stretches of a list. -/
abbrev pfx (l : List (List (HloOp τ sig (Elt F)))) (V : Valuation τ sig (Elt F)) (j : ℕ) : Valuation τ sig (Elt F) := afterL (l.take j) V

/-- A reference that the `k` stretches after the first `i` do not write. -/
theorem pfx_keep {l : List (List (HloOp τ sig (Elt F)))} {w : List (List (Ref sig .tc))} (hw : Writes l w) (i k : ℕ) (r : Ref sig .tc)
    (hr : r ∉ ((w.drop i).take k).flatten) (V : Valuation τ sig (Elt F)) : pfx l V (i + k) (Proc.devRef .tc r) = pfx l V i (Proc.devRef .tc r) := by
  unfold pfx
  rw [List.take_add, afterL_append]
  exact afterL_keeps r (List.forall₂_take k (List.forall₂_drop i hw)) hr _

end

theorem word_toInt (n : Fin 64) : (BitVec.ofNat 32 n.val).toInt = (n.val : Int) := by
  rw [BitVec.toInt_eq_toNat_of_lt (by rw [BitVec.toNat_ofNat]; omega), BitVec.toNat_ofNat]; omega

theorem iv_word (k : ℕ) : Scf.iv 0#32 1#32 k = BitVec.ofNat 32 k := by
  unfold Scf.iv; rw [BitVec.mul_one, BitVec.zero_add]

theorem at_word {x : S_.Idx → BitVec 32} {n : Fin 64} (hx : x = fun _ => BitVec.ofNat 32 n.val) (i : S_.Idx) : (x i).toInt = (n.val : Int) := by
  subst hx; exact word_toInt n

/-! ## The stretches of the forward body -/

variable {V : Valuation τ sig (Elt Ideal)} {n : Fin 64}

theorem fwd0_at (hc : V (Proc.devRef .tc main_v16_6) = fun _ => BitVec.ofNat 32 n.val) (h : Fin 16) (r : Fin 64) (k : Fin 128) :
    (after fwd0 V (Proc.devRef .tc main_while0b_v41) : S16x64x128.Idx → EReal) (ix3 h r k) = (V (Proc.devRef .tc main_v16_0) : S64x16x64x128.Idx → EReal) (ix4 n h r k) := by
  after_results
  exact row4 (V (Proc.devRef .tc main_v16_0) : S64x16x64x128.Idx → EReal) _ n (at_word hc _) rfl rfl rfl sliceFits_S64x16x64x128_S1x16x64x128 shapeCasts_S1x16x64x128_S16x64x128 h r k

theorem fwd1_at (hc : V (Proc.devRef .tc main_v16_6) = fun _ => BitVec.ofNat 32 n.val) (h : Fin 16) (r : Fin 64) (k : Fin 128) :
    (after fwd1 V (Proc.devRef .tc main_while0b_v42) : S16x64x128.Idx → EReal) (ix3 h r k) = (V (Proc.devRef .tc main_v16_1) : S64x16x64x128.Idx → EReal) (ix4 n h r k) := by
  after_results
  exact row4 (V (Proc.devRef .tc main_v16_1) : S64x16x64x128.Idx → EReal) _ n (at_word hc _) rfl rfl rfl sliceFits_S64x16x64x128_S1x16x64x128 shapeCasts_S1x16x64x128_S16x64x128 h r k

theorem fwd2_at (hc : V (Proc.devRef .tc main_v16_6) = fun _ => BitVec.ofNat 32 n.val) (h : Fin 16) (r : Fin 64) (k : Fin 128) :
    (after fwd2 V (Proc.devRef .tc main_while0b_v43) : S16x64x128.Idx → EReal) (ix3 h r k) = (V (Proc.devRef .tc main_v16_2) : S64x16x64x128.Idx → EReal) (ix4 n h r k) := by
  after_results
  exact row4 (V (Proc.devRef .tc main_v16_2) : S64x16x64x128.Idx → EReal) _ n (at_word hc _) rfl rfl rfl sliceFits_S64x16x64x128_S1x16x64x128 shapeCasts_S1x16x64x128_S16x64x128 h r k

theorem fwd3_at (hc : V (Proc.devRef .tc main_v16_6) = fun _ => BitVec.ofNat 32 n.val) (h : Fin 16) (r : Fin 64) (k : Fin 128) :
    (after fwd3 V (Proc.devRef .tc main_while0b_v44) : S16x64x128.Idx → EReal) (ix3 h r k) = (V (Proc.devRef .tc main_v16_3) : S64x16x64x128.Idx → EReal) (ix4 n h r k) := by
  after_results
  exact row4 (V (Proc.devRef .tc main_v16_3) : S64x16x64x128.Idx → EReal) _ n (at_word hc _) rfl rfl rfl sliceFits_S64x16x64x128_S1x16x64x128 shapeCasts_S1x16x64x128_S16x64x128 h r k

theorem fwd8_at (hc : V (Proc.devRef .tc main_v16_6) = fun _ => BitVec.ofNat 32 n.val) (p : Fin 64) (h : Fin 16) (r : Fin 128) (k : Fin 128) :
    (after fwd8 V (Proc.devRef .tc main_while0b_v58) : S64x16x128x128.Idx → EReal) (ix4 p h r k)
      = if p = n then (V (Proc.devRef .tc main_v16_7) : S16x128x128.Idx → EReal) (ix3 h r k) else (V (Proc.devRef .tc main_v16_9) : S64x16x128x128.Idx → EReal) (ix4 p h r k) := by
  after_results
  refine (set4 (V (Proc.devRef .tc main_v16_9) : S64x16x128x128.Idx → EReal) (broadcastInDim S1x16x128x128 ![1, 2, 3] bcast_S16x128x128_S1x16x128x128_1_2_3 (V (Proc.devRef .tc main_v16_7) : S16x128x128.Idx → EReal)) _ n
    ?_ ?_ ?_ ?_ updateFits_S64x16x128x128_S1x16x128x128 p h r k).trans (if_congr Iff.rfl (up3 _ bcast_S16x128x128_S1x16x128x128_1_2_3 h r k) rfl)
  exacts [at_word hc _, rfl, rfl, rfl]

theorem fwd9_at (hc : V (Proc.devRef .tc main_v16_6) = fun _ => BitVec.ofNat 32 n.val) (p : Fin 64) (h : Fin 16) (r : Fin 64) (k : Fin 128) :
    (after fwd9 V (Proc.devRef .tc main_while0b_v59) : S64x16x64x128.Idx → EReal) (ix4 p h r k)
      = if p = n then (V (Proc.devRef .tc main_while0b_v48) : S16x64x128.Idx → EReal) (ix3 h r k) else (V (Proc.devRef .tc main_v16_10) : S64x16x64x128.Idx → EReal) (ix4 p h r k) := by
  after_results
  refine (set4 (V (Proc.devRef .tc main_v16_10) : S64x16x64x128.Idx → EReal) (broadcastInDim S1x16x64x128 ![1, 2, 3] bcast_S16x64x128_S1x16x64x128_1_2_3 (V (Proc.devRef .tc main_while0b_v48) : S16x64x128.Idx → EReal)) _ n
    ?_ ?_ ?_ ?_ updateFits_S64x16x64x128_S1x16x64x128 p h r k).trans (if_congr Iff.rfl (up3 _ bcast_S16x64x128_S1x16x64x128_1_2_3 h r k) rfl)
  exacts [at_word hc _, rfl, rfl, rfl]

theorem fwd10_at (hc : V (Proc.devRef .tc main_v16_6) = fun _ => BitVec.ofNat 32 n.val) (p : Fin 64) (h : Fin 16) (r : Fin 1) (k : Fin 1) :
    (after fwd10 V (Proc.devRef .tc main_while0b_v60) : S64x16x1x1.Idx → EReal) (ix4 p h r k)
      = if p = n then (V (Proc.devRef .tc main_while0b_v52) : S16x1x1.Idx → EReal) (ix3 h r k) else (V (Proc.devRef .tc main_v16_11) : S64x16x1x1.Idx → EReal) (ix4 p h r k) := by
  after_results
  refine (set4 (V (Proc.devRef .tc main_v16_11) : S64x16x1x1.Idx → EReal) (broadcastInDim S1x16x1x1 ![1, 2, 3] bcast_S16x1x1_S1x16x1x1_1_2_3 (V (Proc.devRef .tc main_while0b_v52) : S16x1x1.Idx → EReal)) _ n
    ?_ ?_ ?_ ?_ updateFits_S64x16x1x1_S1x16x1x1 p h r k).trans (if_congr Iff.rfl (up3 _ bcast_S16x1x1_S1x16x1x1_1_2_3 h r k) rfl)
  exacts [at_word hc _, rfl, rfl, rfl]

theorem fwd5_at (hc : V (Proc.devRef .tc main_v16_6) = fun _ => BitVec.ofNat 32 n.val) (h : Fin 16) :
    (after fwd5 V (Proc.devRef .tc main_while0b_v46) : S16.Idx → EReal) (ix1 h) = (V (Proc.devRef .tc main_v16_5) : S64x16.Idx → EReal) (ix2 n h) := by
  after_results
  exact row2 (V (Proc.devRef .tc main_v16_5) : S64x16.Idx → EReal) _ n (at_word hc _) rfl sliceFits_S64x16_S1x16 shapeCasts_S1x16_S16 h

/-- Products over one axis, head by head. -/
theorem dot_ab_bc (w : Vec Ideal S16x64x128 .f32) (S : Vec Ideal S16x128x128 .f32) (h : Fin 16) (r : Fin 64) (e : Fin 128) :
    Host.dotGeneral (F := Ideal) (φ₁ := .f32) (φ₂ := .f32) dot_S16x64x128_S16x128x128_S16x64x128_2_1_1_2_0_0 none w S (ix3 h r e) = ∑ i : Fin 128, (w (ix3 h r i) : EReal) * S (ix3 h i e) := by
  pointwise []

theorem dot_ra_rb (k v : Vec Ideal S16x64x128 .f32) (h : Fin 16) (i e : Fin 128) :
    Host.dotGeneral (F := Ideal) (φ₁ := .f32) (φ₂ := .f32) dot_S16x64x128_S16x64x128_S16x128x128_1_1_2_2_0_0 none k v (ix3 h i e) = ∑ r : Fin 64, (k (ix3 h r i) : EReal) * v (ix3 h r e) := by
  pointwise []

theorem spread (x : Vec Ideal S16x1x1 .f32) (h : Fin 16) (i e : Fin 128) :
    broadcastInDim S16x128x128 ![0, 1, 2] bcast_S16x1x1_S16x128x128_0_1_2 x (ix3 h i e) = x (ix3 h 0 0) := by
  pointwise []

theorem point (x : Vec Ideal S16 .f32) (h : Fin 16) : broadcastInDim S16x1x1 ![0] bcast_S16_S16x1x1_0 x (ix3 h 0 0) = x (ix1 h) := by
  pointwise []

/-- The rows of one chunk and the state before it. -/
structure Rows (I : ScanMath.Arr) (n : ℕ) (S : ScanMath.State) (V : Valuation τ sig (Elt Ideal)) : Prop where
  k : ∀ h r i, (V (Proc.devRef .tc main_while0b_v42) : S16x64x128.Idx → EReal) (ix3 h r i) = I.k n h r i
  u : ∀ h r e, (V (Proc.devRef .tc main_while0b_v43) : S16x64x128.Idx → EReal) (ix3 h r e) = I.u n h r e
  w : ∀ h r i, (V (Proc.devRef .tc main_while0b_v44) : S16x64x128.Idx → EReal) (ix3 h r i) = I.w n h r i
  d : ∀ h, (V (Proc.devRef .tc main_while0b_v46) : S16.Idx → EReal) (ix1 h) = I.d n h
  s : ∀ h i e, (V (Proc.devRef .tc main_v16_7) : S16x128x128.Idx → EReal) (ix3 h i e) = S h i e

theorem Rows.vn {I : ScanMath.Arr} {n : ℕ} {S : ScanMath.State} (R : Rows I n S V) (h : Fin 16) (r : Fin 64) (e : Fin 128) :
    (after fwd6 V (Proc.devRef .tc main_while0b_v48) : S16x64x128.Idx → EReal) (ix3 h r e) = ScanMath.vn I n S h r e := by
  after_results
  exact congrArg₂ (· - ·) (R.u h r e) ((dot_ab_bc _ _ h r e).trans (Finset.sum_congr rfl fun i _ => congrArg₂ (· * ·) (R.w h r i) (R.s h i e)))

theorem Rows.dec {I : ScanMath.Arr} {n : ℕ} {S : ScanMath.State} (R : Rows I n S V) (h : Fin 16) :
    (after fwd6 V (Proc.devRef .tc main_while0b_v52) : S16x1x1.Idx → EReal) (ix3 h 0 0) = I.d n h := by
  after_results
  exact (point _ h).trans (R.d h)

theorem Rows.next {I : ScanMath.Arr} {n : ℕ} {S : ScanMath.State} (R : Rows I n S V) (h : Fin 16) (i e : Fin 128) :
    (after fwd6 V (Proc.devRef .tc main_while0b_v56) : S16x128x128.Idx → EReal) (ix3 h i e) = ScanMath.nextS I n S h i e := by
  after_results
  refine congrArg₂ (· + ·) (congrArg₂ (· * ·) (R.s h i e) ((spread _ h i e).trans ((point _ h).trans (R.d h))))
    ((dot_ra_rb _ _ h i e).trans (Finset.sum_congr rfl fun r _ => congrArg₂ (· * ·) (R.k h r i) ?_))
  exact congrArg₂ (· - ·) (R.u h r e) ((dot_ab_bc _ _ h r e).trans (Finset.sum_congr rfl fun i _ => congrArg₂ (· * ·) (R.w h r i) (R.s h i e)))

/-- What a stretch's last operations copy. -/
theorem fwd11_st : after fwd11 V (Proc.devRef .tc main_v16_7) = V (Proc.devRef .tc main_while0b_v56) := by after_results; rfl
theorem fwd11_ss : after fwd11 V (Proc.devRef .tc main_v16_9) = V (Proc.devRef .tc main_while0b_v58) := by after_results; rfl
theorem fwd11_vs : after fwd11 V (Proc.devRef .tc main_v16_10) = V (Proc.devRef .tc main_while0b_v59) := by after_results; rfl
theorem fwd11_ds : after fwd11 V (Proc.devRef .tc main_v16_11) = V (Proc.devRef .tc main_while0b_v60) := by after_results; rfl

/-! ## One trip -/

/-- Before trip `n`: the counter, the arrays by chunks, the state, and the rows saved so far. -/
structure FInv (I : ScanMath.Arr) (n : ℕ) (V : Valuation τ sig (Elt Ideal)) : Prop where
  c : V (Proc.devRef .tc main_v16_6) = fun _ => BitVec.ofNat 32 n
  k : ∀ p h r i, (V (Proc.devRef .tc main_v16_1) : S64x16x64x128.Idx → EReal) (ix4 p h r i) = I.k p.val h r i
  u : ∀ p h r i, (V (Proc.devRef .tc main_v16_2) : S64x16x64x128.Idx → EReal) (ix4 p h r i) = I.u p.val h r i
  w : ∀ p h r i, (V (Proc.devRef .tc main_v16_3) : S64x16x64x128.Idx → EReal) (ix4 p h r i) = I.w p.val h r i
  d : ∀ p h, (V (Proc.devRef .tc main_v16_5) : S64x16.Idx → EReal) (ix2 p h) = I.d p.val h
  s : ∀ h i e, (V (Proc.devRef .tc main_v16_7) : S16x128x128.Idx → EReal) (ix3 h i e) = ScanMath.st I n h i e
  ss : ∀ p : Fin 64, p.val < n → ∀ h i e, (V (Proc.devRef .tc main_v16_9) : S64x16x128x128.Idx → EReal) (ix4 p h i e) = ScanMath.st I p.val h i e
  vs : ∀ p : Fin 64, p.val < n → ∀ h r e, (V (Proc.devRef .tc main_v16_10) : S64x16x64x128.Idx → EReal) (ix4 p h r e) = ScanMath.vn I p.val (ScanMath.st I p.val) h r e
  ds : ∀ p : Fin 64, p.val < n → ∀ h, (V (Proc.devRef .tc main_v16_11) : S64x16x1x1.Idx → EReal) (ix4 p h 0 0) = I.d p.val h

/-- A stack with row `n` set. -/
theorem set_row {n : ℕ} {hn : n < 64} {p : Fin 64} {x y z : EReal} (hy : p.val = n → y = z) (hx : p.val ≠ n → x = z) : (if p = ⟨n, hn⟩ then y else x) = z := by
  split
  · exact hy (congrArg Fin.val ‹p = ⟨n, hn⟩›)
  · exact hx fun h => ‹¬p = ⟨n, hn⟩› (Fin.ext h)

theorem FInv.step {I : ScanMath.Arr} {n : ℕ} (hn : n < 64) (H : FInv I n V) : FInv I (n + 1) (afterL fwdI (after condF V)) := by
  have ctr (j) (hj : main_v16_6 ∉ ((fwdW.drop 0).take j).flatten) : pfx fwdL V j (Proc.devRef .tc main_v16_6) = fun _ => BitVec.ofNat 32 (⟨n, hn⟩ : Fin 64).val :=
    (Nat.zero_add j ▸ pfx_keep fwdL_writes 0 j main_v16_6 hj V).trans H.c
  have R : Rows I n (ScanMath.st I n) (pfx fwdL V 7) := {
    k := fun h r i => (congrFun (pfx_keep fwdL_writes 3 4 main_while0b_v42 (by decide +kernel) V) _).trans
      ((fwd1_at (V := pfx fwdL V 2) (ctr 2 (by decide +kernel)) h r i).trans ((congrFun (pfx_keep fwdL_writes 0 2 main_v16_1 (by decide +kernel) V) _).trans (H.k _ h r i)))
    u := fun h r i => (congrFun (pfx_keep fwdL_writes 4 3 main_while0b_v43 (by decide +kernel) V) _).trans
      ((fwd2_at (V := pfx fwdL V 3) (ctr 3 (by decide +kernel)) h r i).trans ((congrFun (pfx_keep fwdL_writes 0 3 main_v16_2 (by decide +kernel) V) _).trans (H.u _ h r i)))
    w := fun h r i => (congrFun (pfx_keep fwdL_writes 5 2 main_while0b_v44 (by decide +kernel) V) _).trans
      ((fwd3_at (V := pfx fwdL V 4) (ctr 4 (by decide +kernel)) h r i).trans ((congrFun (pfx_keep fwdL_writes 0 4 main_v16_3 (by decide +kernel) V) _).trans (H.w _ h r i)))
    d := fun h => (fwd5_at (V := pfx fwdL V 6) (ctr 6 (by decide +kernel)) h).trans ((congrFun (pfx_keep fwdL_writes 0 6 main_v16_5 (by decide +kernel) V) _).trans (H.d _ h))
    s := fun h i e => (congrFun (pfx_keep fwdL_writes 0 7 main_v16_7 (by decide +kernel) V) _).trans (H.s h i e) }
  exact {
    c := (fwd11_ctr (pfx fwdL V 12) _ (ctr 12 (by decide +kernel))).trans (funext fun _ => (BitVec.ofNat_add n 1).symm)
    k := fun p h r i => (congrFun (pfx_keep fwdL_writes 0 13 main_v16_1 (by decide +kernel) V) _).trans (H.k p h r i)
    u := fun p h r i => (congrFun (pfx_keep fwdL_writes 0 13 main_v16_2 (by decide +kernel) V) _).trans (H.u p h r i)
    w := fun p h r i => (congrFun (pfx_keep fwdL_writes 0 13 main_v16_3 (by decide +kernel) V) _).trans (H.w p h r i)
    d := fun p h => (congrFun (pfx_keep fwdL_writes 0 13 main_v16_5 (by decide +kernel) V) _).trans (H.d p h)
    s := fun h i e => (congrFun (fwd11_st (V := pfx fwdL V 12)) _).trans
      ((congrFun (pfx_keep fwdL_writes 8 4 main_while0b_v56 (by decide +kernel) V) _).trans (R.next h i e))
    ss := fun p hp h i e => (congrFun (fwd11_ss (V := pfx fwdL V 12)) _).trans ((congrFun (pfx_keep fwdL_writes 10 2 main_while0b_v58 (by decide +kernel) V) _).trans
      ((fwd8_at (V := pfx fwdL V 9) (ctr 9 (by decide +kernel)) p h i e).trans (set_row
        (fun e' => (congrFun (pfx_keep fwdL_writes 0 9 main_v16_7 (by decide +kernel) V) _).trans (e' ▸ H.s h i e))
        (fun hne => (congrFun (pfx_keep fwdL_writes 0 9 main_v16_9 (by decide +kernel) V) _).trans (H.ss p (by omega) h i e)))))
    vs := fun p hp h i e => (congrFun (fwd11_vs (V := pfx fwdL V 12)) _).trans ((congrFun (pfx_keep fwdL_writes 11 1 main_while0b_v59 (by decide +kernel) V) _).trans
      ((fwd9_at (V := pfx fwdL V 10) (ctr 10 (by decide +kernel)) p h i e).trans (set_row
        (fun e' => (congrFun (pfx_keep fwdL_writes 8 2 main_while0b_v48 (by decide +kernel) V) _).trans (e' ▸ R.vn h i e))
        (fun hne => (congrFun (pfx_keep fwdL_writes 0 10 main_v16_10 (by decide +kernel) V) _).trans (H.vs p (by omega) h i e)))))
    ds := fun p hp h => (congrFun (fwd11_ds (V := pfx fwdL V 12)) _).trans
      ((fwd10_at (V := pfx fwdL V 11) (ctr 11 (by decide +kernel)) p h 0 0).trans (set_row
        (fun e' => (congrFun (pfx_keep fwdL_writes 8 3 main_while0b_v52 (by decide +kernel) V) _).trans (e' ▸ R.dec h))
        (fun hne => (congrFun (pfx_keep fwdL_writes 0 11 main_v16_11 (by decide +kernel) V) _).trans (H.ds p (by omega) h)))) }

theorem FInv.trips {I : ScanMath.Arr} (W : Dev nD → Valuation τ sig (Elt Ideal)) (c : Dev nD) (H : FInv I 0 (W c)) : ∀ n, n ≤ 64 → FInv I n (atTrip condF fwdI W n c)
  | 0, _ => H
  | n + 1, hn => by
    rw [atTrip_succ]
    exact (FInv.trips W c H n (by omega)).step (by omega)

end Cert.ReferenceIdeal.Scan

end
-- ==== Proof.RefBwd.lean ====
/- The backward loop of the reference: each of its stretches at an element, what one trip does to the arrays it carries, and
   the gradients it leaves. -/
module

public import proofs.«01_k».proof.Proof.RefFwd

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen

variable {V : Valuation τ sig (Elt Ideal)} {n : Fin 64}

/-! ## The stretches of the backward body -/

theorem back_word (m : Fin 64) : IntOp.subi (IntOp.subi 64#32 (BitVec.ofNat 32 m.val)) 1#32 = BitVec.ofNat 32 (63 - m.val) := by
  revert m; decide +kernel

theorem back0_word {m : ℕ} (hm : m < 64) (hc : V (Proc.devRef .tc main_v29_8) = fun _ => BitVec.ofNat 32 m) :
    after back0 V (Proc.devRef .tc main_while1b_v42) = fun _ => BitVec.ofNat 32 (63 - m) := by
  after_results
  rw [hc]
  exact funext fun _ => back_word ⟨m, hm⟩

theorem back1_at (hc : V (Proc.devRef .tc main_while1b_v42) = fun _ => BitVec.ofNat 32 n.val) (h : Fin 16) (r : Fin 64) (k : Fin 128) :
    (after back1 V (Proc.devRef .tc main_while1b_v43) : S16x64x128.Idx → EReal) (ix3 h r k) = (V (Proc.devRef .tc main_v29_0) : S64x16x64x128.Idx → EReal) (ix4 n h r k) := by
  after_results
  exact row4 (V (Proc.devRef .tc main_v29_0) : S64x16x64x128.Idx → EReal) _ n (at_word hc _) rfl rfl rfl sliceFits_S64x16x64x128_S1x16x64x128 shapeCasts_S1x16x64x128_S16x64x128 h r k

theorem back2_at (hc : V (Proc.devRef .tc main_while1b_v42) = fun _ => BitVec.ofNat 32 n.val) (h : Fin 16) (r : Fin 128) (k : Fin 128) :
    (after back2 V (Proc.devRef .tc main_while1b_v44) : S16x128x128.Idx → EReal) (ix3 h r k) = (V (Proc.devRef .tc main_v29_1) : S64x16x128x128.Idx → EReal) (ix4 n h r k) := by
  after_results
  exact row4 (V (Proc.devRef .tc main_v29_1) : S64x16x128x128.Idx → EReal) _ n (at_word hc _) rfl rfl rfl sliceFits_S64x16x128x128_S1x16x128x128 shapeCasts_S1x16x128x128_S16x128x128 h r k

theorem back3_at (hc : V (Proc.devRef .tc main_while1b_v42) = fun _ => BitVec.ofNat 32 n.val) (h : Fin 16) (r : Fin 64) (k : Fin 128) :
    (after back3 V (Proc.devRef .tc main_while1b_v45) : S16x64x128.Idx → EReal) (ix3 h r k) = (V (Proc.devRef .tc main_v29_2) : S64x16x64x128.Idx → EReal) (ix4 n h r k) := by
  after_results
  exact row4 (V (Proc.devRef .tc main_v29_2) : S64x16x64x128.Idx → EReal) _ n (at_word hc _) rfl rfl rfl sliceFits_S64x16x64x128_S1x16x64x128 shapeCasts_S1x16x64x128_S16x64x128 h r k

theorem back4_at (hc : V (Proc.devRef .tc main_while1b_v42) = fun _ => BitVec.ofNat 32 n.val) (h : Fin 16) (r : Fin 64) (k : Fin 128) :
    (after back4 V (Proc.devRef .tc main_while1b_v46) : S16x64x128.Idx → EReal) (ix3 h r k) = (V (Proc.devRef .tc main_v29_3) : S64x16x64x128.Idx → EReal) (ix4 n h r k) := by
  after_results
  exact row4 (V (Proc.devRef .tc main_v29_3) : S64x16x64x128.Idx → EReal) _ n (at_word hc _) rfl rfl rfl sliceFits_S64x16x64x128_S1x16x64x128 shapeCasts_S1x16x64x128_S16x64x128 h r k

theorem back5_at (hc : V (Proc.devRef .tc main_while1b_v42) = fun _ => BitVec.ofNat 32 n.val) (h : Fin 16) (r : Fin 64) (k : Fin 128) :
    (after back5 V (Proc.devRef .tc main_while1b_v47) : S16x64x128.Idx → EReal) (ix3 h r k) = (V (Proc.devRef .tc main_v29_4) : S64x16x64x128.Idx → EReal) (ix4 n h r k) := by
  after_results
  exact row4 (V (Proc.devRef .tc main_v29_4) : S64x16x64x128.Idx → EReal) _ n (at_word hc _) rfl rfl rfl sliceFits_S64x16x64x128_S1x16x64x128 shapeCasts_S1x16x64x128_S16x64x128 h r k

theorem back6_at (hc : V (Proc.devRef .tc main_while1b_v42) = fun _ => BitVec.ofNat 32 n.val) (h : Fin 16) (r : Fin 64) (k : Fin 64) :
    (after back6 V (Proc.devRef .tc main_while1b_v48) : S16x64x64.Idx → EReal) (ix3 h r k) = (V (Proc.devRef .tc main_v29_5) : S64x16x64x64.Idx → EReal) (ix4 n h r k) := by
  after_results
  exact row4 (V (Proc.devRef .tc main_v29_5) : S64x16x64x64.Idx → EReal) _ n (at_word hc _) rfl rfl rfl sliceFits_S64x16x64x64_S1x16x64x64 shapeCasts_S1x16x64x64_S16x64x64 h r k

theorem back7_at (hc : V (Proc.devRef .tc main_while1b_v42) = fun _ => BitVec.ofNat 32 n.val) (h : Fin 16) (r : Fin 1) (k : Fin 1) :
    (after back7 V (Proc.devRef .tc main_while1b_v49) : S16x1x1.Idx → EReal) (ix3 h r k) = (V (Proc.devRef .tc main_v29_6) : S64x16x1x1.Idx → EReal) (ix4 n h r k) := by
  after_results
  exact row4 (V (Proc.devRef .tc main_v29_6) : S64x16x1x1.Idx → EReal) _ n (at_word hc _) rfl rfl rfl sliceFits_S64x16x1x1_S1x16x1x1 shapeCasts_S1x16x1x1_S16x1x1 h r k

theorem back8_at (hc : V (Proc.devRef .tc main_while1b_v42) = fun _ => BitVec.ofNat 32 n.val) (h : Fin 16) (r : Fin 64) (k : Fin 128) :
    (after back8 V (Proc.devRef .tc main_while1b_v50) : S16x64x128.Idx → EReal) (ix3 h r k) = (V (Proc.devRef .tc main_v29_7) : S64x16x64x128.Idx → EReal) (ix4 n h r k) := by
  after_results
  exact row4 (V (Proc.devRef .tc main_v29_7) : S64x16x64x128.Idx → EReal) _ n (at_word hc _) rfl rfl rfl sliceFits_S64x16x64x128_S1x16x64x128 shapeCasts_S1x16x64x128_S16x64x128 h r k

theorem back10_at (hc : V (Proc.devRef .tc main_while1b_v42) = fun _ => BitVec.ofNat 32 n.val) (p : Fin 64) (h : Fin 16) (r : Fin 64) (k : Fin 128) :
    (after back10 V (Proc.devRef .tc main_while1b_v74) : S64x16x64x128.Idx → EReal) (ix4 p h r k)
      = if p = n then (V (Proc.devRef .tc main_while1b_v68) : S16x64x128.Idx → EReal) (ix3 h r k) else (V (Proc.devRef .tc main_v29_10) : S64x16x64x128.Idx → EReal) (ix4 p h r k) := by
  after_results
  refine (set4 (V (Proc.devRef .tc main_v29_10) : S64x16x64x128.Idx → EReal) (broadcastInDim S1x16x64x128 ![1, 2, 3] bcast_S16x64x128_S1x16x64x128_1_2_3 (V (Proc.devRef .tc main_while1b_v68) : S16x64x128.Idx → EReal)) _ n
    ?_ ?_ ?_ ?_ updateFits_S64x16x64x128_S1x16x64x128 p h r k).trans (if_congr Iff.rfl (up3 _ bcast_S16x64x128_S1x16x64x128_1_2_3 h r k) rfl)
  exacts [at_word hc _, rfl, rfl, rfl]

theorem back11_at (hc : V (Proc.devRef .tc main_while1b_v42) = fun _ => BitVec.ofNat 32 n.val) (p : Fin 64) (h : Fin 16) (r : Fin 64) (k : Fin 128) :
    (after back11 V (Proc.devRef .tc main_while1b_v75) : S64x16x64x128.Idx → EReal) (ix4 p h r k)
      = if p = n then (V (Proc.devRef .tc main_while1b_v54) : S16x64x128.Idx → EReal) (ix3 h r k) else (V (Proc.devRef .tc main_v29_11) : S64x16x64x128.Idx → EReal) (ix4 p h r k) := by
  after_results
  refine (set4 (V (Proc.devRef .tc main_v29_11) : S64x16x64x128.Idx → EReal) (broadcastInDim S1x16x64x128 ![1, 2, 3] bcast_S16x64x128_S1x16x64x128_1_2_3 (V (Proc.devRef .tc main_while1b_v54) : S16x64x128.Idx → EReal)) _ n
    ?_ ?_ ?_ ?_ updateFits_S64x16x64x128_S1x16x64x128 p h r k).trans (if_congr Iff.rfl (up3 _ bcast_S16x64x128_S1x16x64x128_1_2_3 h r k) rfl)
  exacts [at_word hc _, rfl, rfl, rfl]

theorem back12_at (hc : V (Proc.devRef .tc main_while1b_v42) = fun _ => BitVec.ofNat 32 n.val) (p : Fin 64) (h : Fin 16) (r : Fin 64) (k : Fin 128) :
    (after back12 V (Proc.devRef .tc main_while1b_v76) : S64x16x64x128.Idx → EReal) (ix4 p h r k)
      = if p = n then (V (Proc.devRef .tc main_while1b_v63) : S16x64x128.Idx → EReal) (ix3 h r k) else (V (Proc.devRef .tc main_v29_12) : S64x16x64x128.Idx → EReal) (ix4 p h r k) := by
  after_results
  refine (set4 (V (Proc.devRef .tc main_v29_12) : S64x16x64x128.Idx → EReal) (broadcastInDim S1x16x64x128 ![1, 2, 3] bcast_S16x64x128_S1x16x64x128_1_2_3 (V (Proc.devRef .tc main_while1b_v63) : S16x64x128.Idx → EReal)) _ n
    ?_ ?_ ?_ ?_ updateFits_S64x16x64x128_S1x16x64x128 p h r k).trans (if_congr Iff.rfl (up3 _ bcast_S16x64x128_S1x16x64x128_1_2_3 h r k) rfl)
  exacts [at_word hc _, rfl, rfl, rfl]

theorem back13_at (hc : V (Proc.devRef .tc main_while1b_v42) = fun _ => BitVec.ofNat 32 n.val) (p : Fin 64) (h : Fin 16) (r : Fin 64) (k : Fin 128) :
    (after back13 V (Proc.devRef .tc main_while1b_v77) : S64x16x64x128.Idx → EReal) (ix4 p h r k)
      = if p = n then (V (Proc.devRef .tc main_while1b_v73) : S16x64x128.Idx → EReal) (ix3 h r k) else (V (Proc.devRef .tc main_v29_13) : S64x16x64x128.Idx → EReal) (ix4 p h r k) := by
  after_results
  refine (set4 (V (Proc.devRef .tc main_v29_13) : S64x16x64x128.Idx → EReal) (broadcastInDim S1x16x64x128 ![1, 2, 3] bcast_S16x64x128_S1x16x64x128_1_2_3 (V (Proc.devRef .tc main_while1b_v73) : S16x64x128.Idx → EReal)) _ n
    ?_ ?_ ?_ ?_ updateFits_S64x16x64x128_S1x16x64x128 p h r k).trans (if_congr Iff.rfl (up3 _ bcast_S16x64x128_S1x16x64x128_1_2_3 h r k) rfl)
  exacts [at_word hc _, rfl, rfl, rfl]

theorem back14_at (hc : V (Proc.devRef .tc main_while1b_v42) = fun _ => BitVec.ofNat 32 n.val) (p : Fin 64) (h : Fin 16) (r : Fin 64) (k : Fin 64) :
    (after back14 V (Proc.devRef .tc main_while1b_v78) : S64x16x64x64.Idx → EReal) (ix4 p h r k)
      = if p = n then (V (Proc.devRef .tc main_while1b_v64) : S16x64x64.Idx → EReal) (ix3 h r k) else (V (Proc.devRef .tc main_v29_14) : S64x16x64x64.Idx → EReal) (ix4 p h r k) := by
  after_results
  refine (set4 (V (Proc.devRef .tc main_v29_14) : S64x16x64x64.Idx → EReal) (broadcastInDim S1x16x64x64 ![1, 2, 3] bcast_S16x64x64_S1x16x64x64_1_2_3 (V (Proc.devRef .tc main_while1b_v64) : S16x64x64.Idx → EReal)) _ n
    ?_ ?_ ?_ ?_ updateFits_S64x16x64x64_S1x16x64x64 p h r k).trans (if_congr Iff.rfl (up3 _ bcast_S16x64x64_S1x16x64x64_1_2_3 h r k) rfl)
  exacts [at_word hc _, rfl, rfl, rfl]

theorem back15_at (hc : V (Proc.devRef .tc main_while1b_v42) = fun _ => BitVec.ofNat 32 n.val) (p : Fin 64) (h : Fin 16) :
    (after back15 V (Proc.devRef .tc main_while1b_v79) : S64x16.Idx → EReal) (ix2 p h)
      = if p = n then (V (Proc.devRef .tc main_while1b_v60) : S16.Idx → EReal) (ix1 h) else (V (Proc.devRef .tc main_v29_15) : S64x16.Idx → EReal) (ix2 p h) := by
  after_results
  refine (set2 (V (Proc.devRef .tc main_v29_15) : S64x16.Idx → EReal) (broadcastInDim S1x16 ![1] bcast_S16_S1x16_1 (V (Proc.devRef .tc main_while1b_v60) : S16.Idx → EReal)) _ n
    ?_ ?_ updateFits_S64x16_S1x16 p h).trans (if_congr Iff.rfl (up1 _ bcast_S16_S1x16_1 h) rfl)
  exacts [at_word hc _, rfl]

/-! Products over one axis, head by head, some of them transposed, and sums over a head's matrix. -/

theorem dot_ak_rk (D : Vec Ideal S16x128x128 .f32) (k : Vec Ideal S16x64x128 .f32) (h : Fin 16) (r : Fin 64) (e : Fin 128) :
    transpose S16x64x128 [0, 2, 1] (Host.dotGeneral (F := Ideal) (φ₁ := .f32) (φ₂ := .f32) dot_S16x128x128_S16x64x128_S16x128x64_1_2_2_1_0_0 none D k)
      transposes_S16x128x64_S16x64x128_0_2_1 (ix3 h r e) = ∑ i : Fin 128, (D (ix3 h i e) : EReal) * k (ix3 h r i) := by
  pointwise []

theorem dot_ak_rv (D : Vec Ideal S16x128x128 .f32) (v : Vec Ideal S16x64x128 .f32) (h : Fin 16) (r : Fin 64) (i : Fin 128) :
    transpose S16x64x128 [0, 2, 1] (Host.dotGeneral (F := Ideal) (φ₁ := .f32) (φ₂ := .f32) dot_S16x128x128_S16x64x128_S16x128x64_2_2_1_1_0_0 none D v)
      transposes_S16x128x64_S16x64x128_0_2_1 (ix3 h r i) = ∑ e : Fin 128, (D (ix3 h i e) : EReal) * v (ix3 h r e) := by
  pointwise []

theorem dot_se_sr (o : Vec Ideal S16x64x128 .f32) (a : Vec Ideal S16x64x64 .f32) (h : Fin 16) (r : Fin 64) (e : Fin 128) :
    transpose S16x64x128 [0, 2, 1] (Host.dotGeneral (F := Ideal) (φ₁ := .f32) (φ₂ := .f32) dot_S16x64x128_S16x64x64_S16x128x64_1_1_2_2_0_0 none o a)
      transposes_S16x128x64_S16x64x128_0_2_1 (ix3 h r e) = ∑ s : Fin 64, (o (ix3 h s e) : EReal) * a (ix3 h s r) := by
  pointwise []

theorem dot_re_se (o v : Vec Ideal S16x64x128 .f32) (h : Fin 16) (r s : Fin 64) :
    Host.dotGeneral (F := Ideal) (φ₁ := .f32) (φ₂ := .f32) dot_S16x64x128_S16x64x128_S16x64x64_2_2_1_1_0_0 none o v (ix3 h r s)
      = ∑ e : Fin 128, (o (ix3 h r e) : EReal) * v (ix3 h s e) := by
  pointwise []

theorem dot_re_ri (o q : Vec Ideal S16x64x128 .f32) (h : Fin 16) (i e : Fin 128) :
    transpose S16x128x128 [0, 2, 1] (Host.dotGeneral (F := Ideal) (φ₁ := .f32) (φ₂ := .f32) dot_S16x64x128_S16x64x128_S16x128x128_1_1_2_2_0_0 none o q)
      transposes_S16x128x128_S16x128x128_0_2_1 (ix3 h i e) = ∑ r : Fin 64, (o (ix3 h r e) : EReal) * q (ix3 h r i) := by
  pointwise []

theorem dot_re_ie (o : Vec Ideal S16x64x128 .f32) (S : Vec Ideal S16x128x128 .f32) (h : Fin 16) (r : Fin 64) (i : Fin 128) :
    Host.dotGeneral (F := Ideal) (φ₁ := .f32) (φ₂ := .f32) dot_S16x64x128_S16x128x128_S16x64x128_2_2_1_1_0_0 none o S (ix3 h r i)
      = ∑ e : Fin 128, (o (ix3 h r e) : EReal) * S (ix3 h i e) := by
  pointwise []

theorem total (x : Vec Ideal S16x128x128 .f32) (h : Fin 16) :
    Host.reduceAdd (F := Ideal) (shapeCast S16x1x1 (Host.reduceAdd (F := Ideal) x (constant S_ .f32 0x00000000#32) reducesTo_S16x128x128_S16_d1_2 h_S_) shapeCasts_S16_S16x1x1)
      (constant S_ .f32 0x00000000#32) reducesTo_S16x1x1_S16_d1_2 h_S_ (ix1 h) = ∑ i : Fin 128, ∑ e : Fin 128, (x (ix3 h i e) : EReal) := by
  pointwise []
  exact (Fin.sum_univ_one _).trans (Fin.sum_univ_one _)

/-- Equal terms, their factors the other way round. -/
theorem sum_swap {n : ℕ} {f g f' g' : Fin n → EReal} (hf : ∀ i, f i = f' i) (hg : ∀ i, g i = g' i) : ∑ i, f i * g i = ∑ i, g' i * f' i :=
  Finset.sum_congr rfl fun i _ => by rw [hf i, hg i, mul_comm]

/-- The rows of one chunk, the state before it and the adjoint state after it. -/
structure BRows (I : ScanMath.Arr) (n : ℕ) (D : ScanMath.State) (V : Valuation τ sig (Elt Ideal)) : Prop where
  o : ∀ h r e, (V (Proc.devRef .tc main_while1b_v43) : S16x64x128.Idx → EReal) (ix3 h r e) = I.o n h r e
  s : ∀ h i e, (V (Proc.devRef .tc main_while1b_v44) : S16x128x128.Idx → EReal) (ix3 h i e) = ScanMath.st I n h i e
  w : ∀ h r i, (V (Proc.devRef .tc main_while1b_v45) : S16x64x128.Idx → EReal) (ix3 h r i) = I.w n h r i
  q : ∀ h r i, (V (Proc.devRef .tc main_while1b_v46) : S16x64x128.Idx → EReal) (ix3 h r i) = I.q n h r i
  v : ∀ h r e, (V (Proc.devRef .tc main_while1b_v47) : S16x64x128.Idx → EReal) (ix3 h r e) = ScanMath.vn I n (ScanMath.st I n) h r e
  a : ∀ h r s, (V (Proc.devRef .tc main_while1b_v48) : S16x64x64.Idx → EReal) (ix3 h r s) = I.a n h r s
  d : ∀ h, (V (Proc.devRef .tc main_while1b_v49) : S16x1x1.Idx → EReal) (ix3 h 0 0) = I.d n h
  k : ∀ h r i, (V (Proc.devRef .tc main_while1b_v50) : S16x64x128.Idx → EReal) (ix3 h r i) = I.k n h r i
  D : ∀ h i e, (V (Proc.devRef .tc main_v29_9) : S16x128x128.Idx → EReal) (ix3 h i e) = D h i e

namespace BRows
variable {I : ScanMath.Arr} {n : ℕ} {D : ScanMath.State}

theorem gq (R : BRows I n D V) (h : Fin 16) (r : Fin 64) (i : Fin 128) :
    (after back9 V (Proc.devRef .tc main_while1b_v68) : S16x64x128.Idx → EReal) (ix3 h r i) = ScanMath.gq I n h r i := by
  after_results
  exact (dot_re_ie _ _ h r i).trans (Finset.sum_congr rfl fun e _ => congrArg₂ (· * ·) (R.o h r e) (R.s h i e))

theorem gk (R : BRows I n D V) (h : Fin 16) (r : Fin 64) (i : Fin 128) :
    (after back9 V (Proc.devRef .tc main_while1b_v54) : S16x64x128.Idx → EReal) (ix3 h r i)
      = ∑ e : Fin 128, ScanMath.vn I n (ScanMath.st I n) h r e * D h i e := by
  after_results
  exact (dot_ak_rv _ _ h r i).trans (sum_swap (R.D h i) (R.v h r))

theorem gu (R : BRows I n D V) (h : Fin 16) (r : Fin 64) (e : Fin 128) :
    (after back9 V (Proc.devRef .tc main_while1b_v63) : S16x64x128.Idx → EReal) (ix3 h r e) = ScanMath.du I n D h r e := by
  after_results
  exact (congrArg₂ (· + ·) ((dot_ak_rk _ _ h r e).trans (sum_swap (fun i => R.D h i e) (R.k h r))) ((dot_se_sr _ _ h r e).trans (sum_swap (fun s => R.o h s e) (fun s => R.a h s r)))).trans (add_comm (G := EReal) _ _)

theorem gw (R : BRows I n D V) (h : Fin 16) (r : Fin 64) (i : Fin 128) :
    (after back9 V (Proc.devRef .tc main_while1b_v73) : S16x64x128.Idx → EReal) (ix3 h r i)
      = ∑ e : Fin 128, -ScanMath.du I n D h r e * ScanMath.st I n h i e := by
  after_results
  refine (dot_re_ie _ _ h r i).trans (Finset.sum_congr rfl fun e _ => congrArg₂ (· * ·) (congrArg (-·) ?_) (R.s h i e))
  exact (congrArg₂ (· + ·) ((dot_ak_rk _ _ h r e).trans (sum_swap (fun i => R.D h i e) (R.k h r))) ((dot_se_sr _ _ h r e).trans (sum_swap (fun s => R.o h s e) (fun s => R.a h s r)))).trans (add_comm (G := EReal) _ _)

theorem ga (R : BRows I n D V) (h : Fin 16) (r s : Fin 64) :
    (after back9 V (Proc.devRef .tc main_while1b_v64) : S16x64x64.Idx → EReal) (ix3 h r s)
      = ∑ e : Fin 128, I.o n h r e * ScanMath.vn I n (ScanMath.st I n) h s e := by
  after_results
  exact (dot_re_se _ _ h r s).trans (Finset.sum_congr rfl fun e _ => congrArg₂ (· * ·) (R.o h r e) (R.v h s e))

theorem gd (R : BRows I n D V) (h : Fin 16) :
    (after back9 V (Proc.devRef .tc main_while1b_v60) : S16.Idx → EReal) (ix1 h) = ∑ i : Fin 128, ∑ e : Fin 128, ScanMath.st I n h i e * D h i e := by
  after_results
  exact (total _ h).trans (Finset.sum_congr rfl fun i _ => Finset.sum_congr rfl fun e _ => congrArg₂ (· * ·) (R.s h i e) (R.D h i e))

theorem next (R : BRows I n D V) (h : Fin 16) (i e : Fin 128) :
    (after back9 V (Proc.devRef .tc main_while1b_v72) : S16x128x128.Idx → EReal) (ix3 h i e)
      = D h i e * I.d n h + ∑ r : Fin 64, I.o n h r e * I.q n h r i + ∑ r : Fin 64, -ScanMath.du I n D h r e * I.w n h r i := by
  after_results
  refine congrArg₂ (· + ·) (congrArg₂ (· + ·) (congrArg₂ (· * ·) (R.D h i e) ((spread _ h i e).trans (R.d h)))
      ((dot_re_ri _ _ h i e).trans (Finset.sum_congr rfl fun r _ => congrArg₂ (· * ·) (R.o h r e) (R.q h r i))))
    ((dot_re_ri _ _ h i e).trans (Finset.sum_congr rfl fun r _ => congrArg₂ (· * ·) (congrArg (-·) ?_) (R.w h r i)))
  exact (congrArg₂ (· + ·) ((dot_ak_rk _ _ h r e).trans (sum_swap (fun i => R.D h i e) (R.k h r))) ((dot_se_sr _ _ h r e).trans (sum_swap (fun s => R.o h s e) (fun s => R.a h s r)))).trans (add_comm (G := EReal) _ _)

end BRows

theorem back16_s : after back16 V (Proc.devRef .tc main_v29_9) = V (Proc.devRef .tc main_while1b_v72) := by after_results; rfl
theorem back16_gq : after back16 V (Proc.devRef .tc main_v29_10) = V (Proc.devRef .tc main_while1b_v74) := by after_results; rfl
theorem back16_gk : after back16 V (Proc.devRef .tc main_v29_11) = V (Proc.devRef .tc main_while1b_v75) := by after_results; rfl
theorem back16_gu : after back16 V (Proc.devRef .tc main_v29_12) = V (Proc.devRef .tc main_while1b_v76) := by after_results; rfl
theorem back16_gw : after back16 V (Proc.devRef .tc main_v29_13) = V (Proc.devRef .tc main_while1b_v77) := by after_results; rfl
theorem back16_ga : after back16 V (Proc.devRef .tc main_v29_14) = V (Proc.devRef .tc main_while1b_v78) := by after_results; rfl
theorem back16_gd : after back16 V (Proc.devRef .tc main_v29_15) = V (Proc.devRef .tc main_while1b_v79) := by after_results; rfl

/-! ## One trip -/

/-- Before trip `m`, at chunk `63 - m`: the counter, the arrays by chunks, the adjoint state, and the gradients of the chunks above. -/
structure BInv (I : ScanMath.Arr) (m : ℕ) (V : Valuation τ sig (Elt Ideal)) : Prop where
  c : V (Proc.devRef .tc main_v29_8) = fun _ => BitVec.ofNat 32 m
  o : ∀ p h r i, (V (Proc.devRef .tc main_v29_0) : S64x16x64x128.Idx → EReal) (ix4 p h r i) = I.o p.val h r i
  ss : ∀ p h r i, (V (Proc.devRef .tc main_v29_1) : S64x16x128x128.Idx → EReal) (ix4 p h r i) = ScanMath.st I p.val h r i
  w : ∀ p h r i, (V (Proc.devRef .tc main_v29_2) : S64x16x64x128.Idx → EReal) (ix4 p h r i) = I.w p.val h r i
  q : ∀ p h r i, (V (Proc.devRef .tc main_v29_3) : S64x16x64x128.Idx → EReal) (ix4 p h r i) = I.q p.val h r i
  vs : ∀ p h r i, (V (Proc.devRef .tc main_v29_4) : S64x16x64x128.Idx → EReal) (ix4 p h r i) = ScanMath.vn I p.val (ScanMath.st I p.val) h r i
  a : ∀ p h r s, (V (Proc.devRef .tc main_v29_5) : S64x16x64x64.Idx → EReal) (ix4 p h r s) = I.a p.val h r s
  d : ∀ p h, (V (Proc.devRef .tc main_v29_6) : S64x16x1x1.Idx → EReal) (ix4 p h 0 0) = I.d p.val h
  k : ∀ p h r i, (V (Proc.devRef .tc main_v29_7) : S64x16x64x128.Idx → EReal) (ix4 p h r i) = I.k p.val h r i
  s : ∀ h i e, (V (Proc.devRef .tc main_v29_9) : S16x128x128.Idx → EReal) (ix3 h i e) = ScanMath.ds I m h i e
  gq : ∀ p : Fin 64, 64 ≤ p.val + m → ∀ h r i, (V (Proc.devRef .tc main_v29_10) : S64x16x64x128.Idx → EReal) (ix4 p h r i) = ScanMath.gq I p.val h r i
  gk : ∀ p : Fin 64, 64 ≤ p.val + m → ∀ h r i, (V (Proc.devRef .tc main_v29_11) : S64x16x64x128.Idx → EReal) (ix4 p h r i) = ScanMath.gk I p.val h r i
  gu : ∀ p : Fin 64, 64 ≤ p.val + m → ∀ h r i, (V (Proc.devRef .tc main_v29_12) : S64x16x64x128.Idx → EReal) (ix4 p h r i) = ScanMath.gu I p.val h r i
  gw : ∀ p : Fin 64, 64 ≤ p.val + m → ∀ h r i, (V (Proc.devRef .tc main_v29_13) : S64x16x64x128.Idx → EReal) (ix4 p h r i) = ScanMath.gw I p.val h r i
  ga : ∀ p : Fin 64, 64 ≤ p.val + m → ∀ h r s, (V (Proc.devRef .tc main_v29_14) : S64x16x64x64.Idx → EReal) (ix4 p h r s) = ∑ e : Fin 128, I.o p.val h r e * ScanMath.vn I p.val (ScanMath.st I p.val) h s e
  gd : ∀ p : Fin 64, 64 ≤ p.val + m → ∀ h, (V (Proc.devRef .tc main_v29_15) : S64x16.Idx → EReal) (ix2 p h) = ScanMath.gd I p.val h

theorem BInv.step {I : ScanMath.Arr} (hI : ScanMath.Finite I) {m : ℕ} (hm : m < 64) (H : BInv I m V) : BInv I (m + 1) (afterL backI (after condB V)) := by
  have hn : 63 - m < 64 := by omega
  have ctr (j) (hj : main_v29_8 ∉ ((backW.drop 0).take j).flatten) : pfx backL V j (Proc.devRef .tc main_v29_8) = fun _ => BitVec.ofNat 32 m :=
    (Nat.zero_add j ▸ pfx_keep backL_writes 0 j main_v29_8 hj V).trans H.c
  have idx (j) (hj : main_while1b_v42 ∉ ((backW.drop 2).take j).flatten) :
      pfx backL V (2 + j) (Proc.devRef .tc main_while1b_v42) = fun _ => BitVec.ofNat 32 (⟨63 - m, hn⟩ : Fin 64).val :=
    (pfx_keep backL_writes 2 j main_while1b_v42 hj V).trans (back0_word (V := pfx backL V 1) hm (ctr 1 (by decide +kernel)))
  have R : BRows I (63 - m) (ScanMath.ds I m) (pfx backL V 10) := {
    o := fun h r i => (congrFun (pfx_keep backL_writes 3 7 main_while1b_v43 (by decide +kernel) V) _).trans
      ((back1_at (V := pfx backL V 2) (idx 0 (by decide +kernel)) h r i).trans ((congrFun (pfx_keep backL_writes 0 2 main_v29_0 (by decide +kernel) V) _).trans (H.o _ h r i)))
    s := fun h r i => (congrFun (pfx_keep backL_writes 4 6 main_while1b_v44 (by decide +kernel) V) _).trans
      ((back2_at (V := pfx backL V 3) (idx 1 (by decide +kernel)) h r i).trans ((congrFun (pfx_keep backL_writes 0 3 main_v29_1 (by decide +kernel) V) _).trans (H.ss _ h r i)))
    w := fun h r i => (congrFun (pfx_keep backL_writes 5 5 main_while1b_v45 (by decide +kernel) V) _).trans
      ((back3_at (V := pfx backL V 4) (idx 2 (by decide +kernel)) h r i).trans ((congrFun (pfx_keep backL_writes 0 4 main_v29_2 (by decide +kernel) V) _).trans (H.w _ h r i)))
    q := fun h r i => (congrFun (pfx_keep backL_writes 6 4 main_while1b_v46 (by decide +kernel) V) _).trans
      ((back4_at (V := pfx backL V 5) (idx 3 (by decide +kernel)) h r i).trans ((congrFun (pfx_keep backL_writes 0 5 main_v29_3 (by decide +kernel) V) _).trans (H.q _ h r i)))
    v := fun h r i => (congrFun (pfx_keep backL_writes 7 3 main_while1b_v47 (by decide +kernel) V) _).trans
      ((back5_at (V := pfx backL V 6) (idx 4 (by decide +kernel)) h r i).trans ((congrFun (pfx_keep backL_writes 0 6 main_v29_4 (by decide +kernel) V) _).trans (H.vs _ h r i)))
    a := fun h r s => (congrFun (pfx_keep backL_writes 8 2 main_while1b_v48 (by decide +kernel) V) _).trans
      ((back6_at (V := pfx backL V 7) (idx 5 (by decide +kernel)) h r s).trans ((congrFun (pfx_keep backL_writes 0 7 main_v29_5 (by decide +kernel) V) _).trans (H.a _ h r s)))
    d := fun h => (congrFun (pfx_keep backL_writes 9 1 main_while1b_v49 (by decide +kernel) V) _).trans
      ((back7_at (V := pfx backL V 8) (idx 6 (by decide +kernel)) h 0 0).trans ((congrFun (pfx_keep backL_writes 0 8 main_v29_6 (by decide +kernel) V) _).trans (H.d _ h)))
    k := fun h r i => (back8_at (V := pfx backL V 9) (idx 7 (by decide +kernel)) h r i).trans ((congrFun (pfx_keep backL_writes 0 9 main_v29_7 (by decide +kernel) V) _).trans (H.k _ h r i))
    D := fun h i e => (congrFun (pfx_keep backL_writes 0 10 main_v29_9 (by decide +kernel) V) _).trans (H.s h i e) }
  have hs : 63 - (63 - m) = m := by omega
  exact {
    c := (back16_ctr (pfx backL V 17) _ (ctr 17 (by decide +kernel))).trans (funext fun _ => (BitVec.ofNat_add m 1).symm)
    o := fun p h r i => (congrFun (pfx_keep backL_writes 0 18 main_v29_0 (by decide +kernel) V) _).trans (H.o p h r i)
    ss := fun p h r i => (congrFun (pfx_keep backL_writes 0 18 main_v29_1 (by decide +kernel) V) _).trans (H.ss p h r i)
    w := fun p h r i => (congrFun (pfx_keep backL_writes 0 18 main_v29_2 (by decide +kernel) V) _).trans (H.w p h r i)
    q := fun p h r i => (congrFun (pfx_keep backL_writes 0 18 main_v29_3 (by decide +kernel) V) _).trans (H.q p h r i)
    vs := fun p h r i => (congrFun (pfx_keep backL_writes 0 18 main_v29_4 (by decide +kernel) V) _).trans (H.vs p h r i)
    a := fun p h r s => (congrFun (pfx_keep backL_writes 0 18 main_v29_5 (by decide +kernel) V) _).trans (H.a p h r s)
    d := fun p h => (congrFun (pfx_keep backL_writes 0 18 main_v29_6 (by decide +kernel) V) _).trans (H.d p h)
    k := fun p h r i => (congrFun (pfx_keep backL_writes 0 18 main_v29_7 (by decide +kernel) V) _).trans (H.k p h r i)
    s := fun h i e => (congrFun (back16_s (V := pfx backL V 17)) _).trans ((congrFun (pfx_keep backL_writes 11 6 main_while1b_v72 (by decide +kernel) V) _).trans
      ((R.next h i e).trans (ScanMath.nextD_neg hI _ _ (ScanMath.ds_real hI m) h i e).symm))
    gq := fun p hp h r i => (congrFun (back16_gq (V := pfx backL V 17)) _).trans
      ((congrFun (pfx_keep backL_writes 12 5 main_while1b_v74 (by decide +kernel) V) _).trans
      ((back10_at (V := pfx backL V 11) (idx 9 (by decide +kernel)) p h r i).trans (set_row
        (fun e' => (e' ▸ R.gq h r i))
        (fun hne => (congrFun (pfx_keep backL_writes 0 11 main_v29_10 (by decide +kernel) V) _).trans (H.gq p (by omega) h r i)))))
    gk := fun p hp h r i => (congrFun (back16_gk (V := pfx backL V 17)) _).trans
      ((congrFun (pfx_keep backL_writes 13 4 main_while1b_v75 (by decide +kernel) V) _).trans
      ((back11_at (V := pfx backL V 12) (idx 10 (by decide +kernel)) p h r i).trans (set_row
        (fun e' => (congrFun (pfx_keep backL_writes 11 1 main_while1b_v54 (by decide +kernel) V) _).trans (e' ▸ (R.gk h r i).trans (by rw [ScanMath.gk, hs])))
        (fun hne => (congrFun (pfx_keep backL_writes 0 12 main_v29_11 (by decide +kernel) V) _).trans (H.gk p (by omega) h r i)))))
    gu := fun p hp h r i => (congrFun (back16_gu (V := pfx backL V 17)) _).trans
      ((congrFun (pfx_keep backL_writes 14 3 main_while1b_v76 (by decide +kernel) V) _).trans
      ((back12_at (V := pfx backL V 13) (idx 11 (by decide +kernel)) p h r i).trans (set_row
        (fun e' => (congrFun (pfx_keep backL_writes 11 2 main_while1b_v63 (by decide +kernel) V) _).trans (e' ▸ (R.gu h r i).trans (by rw [ScanMath.gu, hs])))
        (fun hne => (congrFun (pfx_keep backL_writes 0 13 main_v29_12 (by decide +kernel) V) _).trans (H.gu p (by omega) h r i)))))
    gw := fun p hp h r i => (congrFun (back16_gw (V := pfx backL V 17)) _).trans
      ((congrFun (pfx_keep backL_writes 15 2 main_while1b_v77 (by decide +kernel) V) _).trans
      ((back13_at (V := pfx backL V 14) (idx 12 (by decide +kernel)) p h r i).trans (set_row
        (fun e' => (congrFun (pfx_keep backL_writes 11 3 main_while1b_v73 (by decide +kernel) V) _).trans (e' ▸ (R.gw h r i).trans ((by rw [ScanMath.gw_neg hI]; unfold ScanMath.gu; rw [hs]))))
        (fun hne => (congrFun (pfx_keep backL_writes 0 14 main_v29_13 (by decide +kernel) V) _).trans (H.gw p (by omega) h r i)))))
    ga := fun p hp h r s => (congrFun (back16_ga (V := pfx backL V 17)) _).trans
      ((congrFun (pfx_keep backL_writes 16 1 main_while1b_v78 (by decide +kernel) V) _).trans
      ((back14_at (V := pfx backL V 15) (idx 13 (by decide +kernel)) p h r s).trans (set_row
        (fun e' => (congrFun (pfx_keep backL_writes 11 4 main_while1b_v64 (by decide +kernel) V) _).trans (e' ▸ R.ga h r s))
        (fun hne => (congrFun (pfx_keep backL_writes 0 15 main_v29_14 (by decide +kernel) V) _).trans (H.ga p (by omega) h r s)))))
    gd := fun p hp h => (congrFun (back16_gd (V := pfx backL V 17)) _).trans
      ((back15_at (V := pfx backL V 16) (idx 14 (by decide +kernel)) p h).trans (set_row
        (fun e' => (congrFun (pfx_keep backL_writes 11 5 main_while1b_v60 (by decide +kernel) V) _).trans (e' ▸ (R.gd h).trans (by rw [ScanMath.gd, hs])))
        (fun hne => (congrFun (pfx_keep backL_writes 0 16 main_v29_15 (by decide +kernel) V) _).trans (H.gd p (by omega) h)))) }

theorem BInv.trips {I : ScanMath.Arr} (hI : ScanMath.Finite I) (W : Dev nD → Valuation τ sig (Elt Ideal)) (c : Dev nD) (H : BInv I 0 (W c)) :
    ∀ m, m ≤ 64 → BInv I m (atTrip condB backI W m c)
  | 0, _ => H
  | m + 1, hm => by
    rw [atTrip_succ]
    exact (BInv.trips hI W c H m (by omega)).step hI (by omega)

end Cert.ReferenceIdeal.Scan

end
-- ==== Proof.RefEnds.lean ====
/- The reference from end to end at an element: what its stretch before the loops prepares, what the stretch between them hands
   on, and its six results as the gradients of the scan over its arguments. -/
module

public import proofs.«01_k».proof.Proof.RefBwd
public import Idealize.ShloMosaic.Lib.IdealHost

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen

variable {V : Valuation τ sig (Elt Ideal)}

/-- A matrix by chunks and heads, -/
theorem chunks (x : Vec Ideal S4096x2048 .f32) (p : Fin 64) (h : Fin 16) (r : Fin 64) (k : Fin 128) :
    transpose S64x16x64x128 [0, 2, 1, 3] (shapeCast S64x64x16x128 x shapeCasts_S4096x2048_S64x64x16x128) transposes_S64x64x16x128_S64x16x64x128_0_2_1_3 (ix4 p h r k)
      = (MmSums.at2 (x : S4096x2048.Idx → EReal) (64 * p.val + r.val) (128 * h.val + k.val) : EReal) := by
  pointwise []
  have hb : 64 * p.val + r.val < 4096 ∧ 128 * h.val + k.val < 2048 := ⟨by omega, by omega⟩
  unfold MmSums.at2
  rw [dif_pos hb]
  exact congrArg x (congrArg₂ ix2 (Fin.ext (by show p.val * 64 + r.val = 64 * p.val + r.val; omega)) (Fin.ext (by show h.val * 128 + k.val = 128 * h.val + k.val; omega)))

/-- and back. -/
theorem unchunks (x : Vec Ideal S64x16x64x128 .f32) (p : Fin 64) (h : Fin 16) (r : Fin 64) (k : Fin 128) :
    shapeCast S4096x2048 (transpose S64x64x16x128 [0, 2, 1, 3] x transposes_S64x16x64x128_S64x64x16x128_0_2_1_3) shapeCasts_S64x64x16x128_S4096x2048
      (ix2 ⟨64 * p.val + r.val, by omega⟩ ⟨128 * h.val + k.val, by omega⟩) = x (ix4 p h r k) := by
  pointwise []

/-- The arrays by chunks, before the loops and between them. -/
theorem pre4_q (p : Fin 64) (h : Fin 16) (r : Fin 64) (k : Fin 128) :
    (after pre4 V (Proc.devRef .tc main_v5) : S64x16x64x128.Idx → EReal) (ix4 p h r k)
      = MmSums.at2 (V (Proc.devRef .tc main_arg1) : S4096x2048.Idx → EReal) (64 * p.val + r.val) (128 * h.val + k.val) := by
  after_results
  exact chunks _ p h r k

theorem pre4_k (p : Fin 64) (h : Fin 16) (r : Fin 64) (k : Fin 128) :
    (after pre4 V (Proc.devRef .tc main_v7) : S64x16x64x128.Idx → EReal) (ix4 p h r k)
      = MmSums.at2 (V (Proc.devRef .tc main_arg2) : S4096x2048.Idx → EReal) (64 * p.val + r.val) (128 * h.val + k.val) := by
  after_results
  exact chunks _ p h r k

theorem pre4_w (p : Fin 64) (h : Fin 16) (r : Fin 64) (k : Fin 128) :
    (after pre4 V (Proc.devRef .tc main_v11) : S64x16x64x128.Idx → EReal) (ix4 p h r k)
      = MmSums.at2 (V (Proc.devRef .tc main_arg4) : S4096x2048.Idx → EReal) (64 * p.val + r.val) (128 * h.val + k.val) := by
  after_results
  exact chunks _ p h r k

theorem pre4_k16 (p : Fin 64) (h : Fin 16) (r : Fin 64) (k : Fin 128) :
    (after pre4 V (Proc.devRef .tc main_v16_1) : S64x16x64x128.Idx → EReal) (ix4 p h r k)
      = MmSums.at2 (V (Proc.devRef .tc main_arg2) : S4096x2048.Idx → EReal) (64 * p.val + r.val) (128 * h.val + k.val) := by
  after_results
  exact chunks _ p h r k

theorem pre4_u16 (p : Fin 64) (h : Fin 16) (r : Fin 64) (k : Fin 128) :
    (after pre4 V (Proc.devRef .tc main_v16_2) : S64x16x64x128.Idx → EReal) (ix4 p h r k)
      = MmSums.at2 (V (Proc.devRef .tc main_arg3) : S4096x2048.Idx → EReal) (64 * p.val + r.val) (128 * h.val + k.val) := by
  after_results
  exact chunks _ p h r k

theorem pre4_w16 (p : Fin 64) (h : Fin 16) (r : Fin 64) (k : Fin 128) :
    (after pre4 V (Proc.devRef .tc main_v16_3) : S64x16x64x128.Idx → EReal) (ix4 p h r k)
      = MmSums.at2 (V (Proc.devRef .tc main_arg4) : S4096x2048.Idx → EReal) (64 * p.val + r.val) (128 * h.val + k.val) := by
  after_results
  exact chunks _ p h r k

theorem mid0_o (p : Fin 64) (h : Fin 16) (r : Fin 64) (k : Fin 128) :
    (after mid0 V (Proc.devRef .tc main_v29_0) : S64x16x64x128.Idx → EReal) (ix4 p h r k)
      = MmSums.at2 (V (Proc.devRef .tc main_arg0) : S4096x2048.Idx → EReal) (64 * p.val + r.val) (128 * h.val + k.val) := by
  after_results
  exact chunks _ p h r k

theorem mid0_ss : after mid0 V (Proc.devRef .tc main_v29_1) = V (Proc.devRef .tc main_v16_9) := by after_results; rfl
theorem mid0_w : after mid0 V (Proc.devRef .tc main_v29_2) = V (Proc.devRef .tc main_v11) := by after_results; rfl
theorem mid0_q : after mid0 V (Proc.devRef .tc main_v29_3) = V (Proc.devRef .tc main_v5) := by after_results; rfl
theorem mid0_vs : after mid0 V (Proc.devRef .tc main_v29_4) = V (Proc.devRef .tc main_v16_10) := by after_results; rfl
theorem mid0_a : after mid0 V (Proc.devRef .tc main_v29_5) = V (Proc.devRef .tc main_v2_0) := by after_results; rfl
theorem mid0_d : after mid0 V (Proc.devRef .tc main_v29_6) = V (Proc.devRef .tc main_v16_11) := by after_results; rfl
theorem mid0_k : after mid0 V (Proc.devRef .tc main_v29_7) = V (Proc.devRef .tc main_v7) := by after_results; rfl
theorem pre4_d : after pre4 V (Proc.devRef .tc main_v16_5) = V (Proc.devRef .tc main_arg6) := by after_results; rfl
theorem pre4_c : after pre4 V (Proc.devRef .tc main_v16_6) = fun _ => BitVec.ofNat 32 0 := by after_results; rfl
theorem mid0_c : after mid0 V (Proc.devRef .tc main_v29_8) = fun _ => BitVec.ofNat 32 0 := by after_results; rfl

theorem post0_gq (p : Fin 64) (h : Fin 16) (r : Fin 64) (k : Fin 128) :
    (after post0 V (Proc.devRef .tc main_v37) : S4096x2048.Idx → EReal) (ix2 ⟨64 * p.val + r.val, by omega⟩ ⟨128 * h.val + k.val, by omega⟩)
      = (V (Proc.devRef .tc main_v29_10) : S64x16x64x128.Idx → EReal) (ix4 p h r k) := by
  after_results
  exact unchunks _ p h r k

theorem post0_gk (p : Fin 64) (h : Fin 16) (r : Fin 64) (k : Fin 128) :
    (after post0 V (Proc.devRef .tc main_v35) : S4096x2048.Idx → EReal) (ix2 ⟨64 * p.val + r.val, by omega⟩ ⟨128 * h.val + k.val, by omega⟩)
      = (V (Proc.devRef .tc main_v29_11) : S64x16x64x128.Idx → EReal) (ix4 p h r k) := by
  after_results
  exact unchunks _ p h r k

theorem post0_gu (p : Fin 64) (h : Fin 16) (r : Fin 64) (k : Fin 128) :
    (after post0 V (Proc.devRef .tc main_v33) : S4096x2048.Idx → EReal) (ix2 ⟨64 * p.val + r.val, by omega⟩ ⟨128 * h.val + k.val, by omega⟩)
      = (V (Proc.devRef .tc main_v29_12) : S64x16x64x128.Idx → EReal) (ix4 p h r k) := by
  after_results
  exact unchunks _ p h r k

theorem post0_gw (p : Fin 64) (h : Fin 16) (r : Fin 64) (k : Fin 128) :
    (after post0 V (Proc.devRef .tc main_v31) : S4096x2048.Idx → EReal) (ix2 ⟨64 * p.val + r.val, by omega⟩ ⟨128 * h.val + k.val, by omega⟩)
      = (V (Proc.devRef .tc main_v29_13) : S64x16x64x128.Idx → EReal) (ix4 p h r k) := by
  after_results
  exact unchunks _ p h r k

theorem lower (r s : Fin 64) : IntOp.cmpi .sge (IntOp.addi (BitVec.ofNat 32 r.val) 0#32) (BitVec.ofNat 32 s.val) = if s.val ≤ r.val then 1#1 else 0#1 := by
  revert r s; decide +kernel

theorem mask_at (r s : Fin 64) : select (cmpi .sge (addi (iotaInDim S64x64 32 0) (broadcastInDim S64x64 ![] bcast_S_S64x64 (constantI S_ 32 0#32))) (iotaInDim S64x64 32 1))
    (fun _ => 1#1) (broadcastInDim S64x64 ![] bcast_S_S64x64 (constantI S_ 1 0#1)) (ix2 r s) = if s.val ≤ r.val then 1#1 else 0#1 := by
  pointwise []
  rw [lower]
  split <;> rfl

theorem pre1_mask (h0 : V (Proc.devRef .tc main_v0) = fun _ => 1#1) (r s : Fin 64) :
    (after pre1 V (Proc.devRef .tc main_v1) : S64x64.Idx → BitVec 1) (ix2 r s) = if s.val ≤ r.val then 1#1 else 0#1 := by
  after_results
  rw [h0]
  exact mask_at r s

theorem over_at (v : S64x64.Idx → BitVec 1) (p : Fin 64) (h : Fin 16) (r s : Fin 64) :
    broadcastInDim S64x16x64x64 ![2, 3] bcast_S64x64_S64x16x64x64_2_3 v (ix4 p h r s) = v (ix2 r s) := by
  pointwise []

theorem pre3_mask (p : Fin 64) (h : Fin 16) (r s : Fin 64) :
    (after pre3 V (Proc.devRef .tc main_v2_1) : S64x16x64x64.Idx → BitVec 1) (ix4 p h r s) = (V (Proc.devRef .tc main_v1) : S64x64.Idx → BitVec 1) (ix2 r s) := by
  after_results
  exact over_at _ p h r s

theorem zero_at {T : Shape} (hb : S_.BroadcastsInDim T ![]) (i : T.Idx) : broadcastInDim T ![] hb (constant (F := Ideal) S_ .f32 0x00000000#32) i = (0 : EReal) :=
  (ValueIdx.broadcastInDim_scalar_apply hb _ i).trans Ideal.ofBits_zero_f32

theorem pre4_z (h : Fin 16) (i e : Fin 128) : (after pre4 V (Proc.devRef .tc main_v16_7) : S16x128x128.Idx → EReal) (ix3 h i e) = (0 : EReal) := by
  after_results
  exact zero_at bcast_S_S16x128x128 (ix3 h i e)

theorem mid0_z (h : Fin 16) (i e : Fin 128) : (after mid0 V (Proc.devRef .tc main_v29_9) : S16x128x128.Idx → EReal) (ix3 h i e) = (0 : EReal) := by
  after_results
  exact zero_at bcast_S_S16x128x128 (ix3 h i e)

/-- An array kept at and below the diagonal. -/
theorem keep_at {b : Vec Ideal S64x16x64x64 .i1} {x y : S64x16x64x64.Idx → EReal} {p : Fin 64} {h : Fin 16} {r s : Fin 64}
    (hb : (b : S64x16x64x64.Idx → BitVec 1) (ix4 p h r s) = if s.val ≤ r.val then 1#1 else 0#1) (hy : y (ix4 p h r s) = 0) :
    (select b x y : S64x16x64x64.Idx → EReal) (ix4 p h r s) = if s.val ≤ r.val then x (ix4 p h r s) else 0 := by
  show (if b (ix4 p h r s) = 1#1 then x (ix4 p h r s) else y (ix4 p h r s)) = _
  rw [hb, hy]
  split <;> rfl

theorem pre3_attn (hv : ∀ r s : Fin 64, (V (Proc.devRef .tc main_v1) : S64x64.Idx → BitVec 1) (ix2 r s) = if s.val ≤ r.val then 1#1 else 0#1)
    (hz : V (Proc.devRef .tc main_cst) = constant (F := Ideal) S_ .f32 0x00000000#32) (p : Fin 64) (h : Fin 16) (r s : Fin 64) :
    (after pre3 V (Proc.devRef .tc main_v2_0) : S64x16x64x64.Idx → EReal) (ix4 p h r s)
      = if s.val ≤ r.val then (V (Proc.devRef .tc main_arg5) : S64x16x64x64.Idx → EReal) (ix4 p h r s) else (0 : EReal) := by
  after_results
  rw [hz]
  exact keep_at ((over_at _ p h r s).trans (hv r s)) (zero_at bcast_S_S64x16x64x64 (ix4 p h r s))

theorem post1_at (hb : ∀ p h (r s : Fin 64), (V (Proc.devRef .tc main_v2_1) : S64x16x64x64.Idx → BitVec 1) (ix4 p h r s) = if s.val ≤ r.val then 1#1 else 0#1)
    (p : Fin 64) (h : Fin 16) (r s : Fin 64) :
    (after post1 V (Proc.devRef .tc main_v38) : S64x16x64x64.Idx → EReal) (ix4 p h r s)
      = if s.val ≤ r.val then (V (Proc.devRef .tc main_v29_14) : S64x16x64x64.Idx → EReal) (ix4 p h r s) else (0 : EReal) := by
  after_results
  exact keep_at (hb p h r s) (zero_at bcast_S_S64x16x64x64 (ix4 p h r s))

theorem lanes_at (x : Vec Ideal S64x16 .f32) (p : Fin 64) (h : Fin 16) (k : Fin 128) :
    broadcastInDim S64x16x1x128 ![0, 1, 2, 3] bcast_S64x16x1x1_S64x16x1x128_0_1_2_3 (broadcastInDim S64x16x1x1 ![0, 1] bcast_S64x16_S64x16x1x1_0_1 x) (ix4 p h 0 k) = x (ix2 p h) := by
  pointwise []

theorem post2_at (p : Fin 64) (h : Fin 16) (k : Fin 128) :
    (after post2 V (Proc.devRef .tc main_v40) : S64x16x1x128.Idx → EReal) (ix4 p h 0 k) = (V (Proc.devRef .tc main_v29_15) : S64x16.Idx → EReal) (ix2 p h) := by
  after_results
  exact lanes_at _ p h k

theorem pre0_ones : after pre0 V (Proc.devRef .tc main_v0) = fun _ => 1#1 := by after_results; rfl
theorem pre2_zero : after pre2 V (Proc.devRef .tc main_cst) = constant (F := Ideal) S_ .f32 0x00000000#32 := by after_results

/-! ## From end to end -/

/-- The arguments as the arrays of the scan. -/
def inp (V : Valuation τ sig (Elt Ideal)) : ScanMath.Arr :=
  ScanMath.arr (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6))

theorem inp_d (V : Valuation τ sig (Elt Ideal)) (p : Fin 64) (h : Fin 16) :
    (V (Proc.devRef .tc main_arg6) : S64x16.Idx → EReal) (ix2 p h) = (inp V).d p.val h := by
  show _ = MmSums.at2 (V (Proc.devRef .tc main_arg6) : S64x16.Idx → EReal) p.val h.val
  have hb : p.val < 64 ∧ h.val < 16 := ⟨p.isLt, h.isLt⟩
  unfold MmSums.at2
  rw [dif_pos hb]

theorem inp_a (V : Valuation τ sig (Elt Ideal)) (p : Fin 64) (h : Fin 16) (r s : Fin 64) :
    (if s.val ≤ r.val then (V (Proc.devRef .tc main_arg5) : S64x16x64x64.Idx → EReal) (ix4 p h r s) else (0 : EReal)) = (inp V).a p.val h r s := by
  show _ = if hn : p.val < 64 then if s.val ≤ r.val then (V (Proc.devRef .tc main_arg5) : S64x16x64x64.Idx → EReal) (ix4 ⟨p.val, hn⟩ h r s) else (0 : EReal) else (0 : EReal)
  rw [dif_pos p.isLt]

/-- What the stretch before the loops leaves. -/
structure Pre (I : ScanMath.Arr) (V W : Valuation τ sig (Elt Ideal)) : Prop where
  inv : FInv I 0 W
  q : ∀ p h r k, (W (Proc.devRef .tc main_v5) : S64x16x64x128.Idx → EReal) (ix4 p h r k) = I.q p.val h r k
  k : ∀ p h r k, (W (Proc.devRef .tc main_v7) : S64x16x64x128.Idx → EReal) (ix4 p h r k) = I.k p.val h r k
  w : ∀ p h r k, (W (Proc.devRef .tc main_v11) : S64x16x64x128.Idx → EReal) (ix4 p h r k) = I.w p.val h r k
  a : ∀ p h r s, (W (Proc.devRef .tc main_v2_0) : S64x16x64x64.Idx → EReal) (ix4 p h r s) = I.a p.val h r s
  b : ∀ p h (r s : Fin 64), (W (Proc.devRef .tc main_v2_1) : S64x16x64x64.Idx → BitVec 1) (ix4 p h r s) = if s.val ≤ r.val then 1#1 else 0#1
  o : W (Proc.devRef .tc main_arg0) = V (Proc.devRef .tc main_arg0)

theorem pre_ends (V : Valuation τ sig (Elt Ideal)) : Pre (inp V) V (afterL preI V) := by
  have hb (r s : Fin 64) : (pfx preI V 3 (Proc.devRef .tc main_v1) : S64x64.Idx → BitVec 1) (ix2 r s) = if s.val ≤ r.val then 1#1 else 0#1 :=
    (congrFun (pfx_keep preI_writes 2 1 main_v1 (by decide +kernel) V) _).trans (pre1_mask (V := pfx preI V 1) pre0_ones r s)
  have ha (j) (r : Ref sig .tc) (hr : r ∉ ((preW.drop 0).take j).flatten) : pfx preI V j (Proc.devRef .tc r) = V (Proc.devRef .tc r) :=
    Nat.zero_add j ▸ pfx_keep preI_writes 0 j r hr V
  exact {
    inv := {
      c := pre4_c (V := pfx preI V 4)
      k := fun p h r i => (pre4_k16 (V := pfx preI V 4) p h r i).trans (by rw [ha 4 main_arg2 (by decide +kernel)]; rfl)
      u := fun p h r i => (pre4_u16 (V := pfx preI V 4) p h r i).trans (by rw [ha 4 main_arg3 (by decide +kernel)]; rfl)
      w := fun p h r i => (pre4_w16 (V := pfx preI V 4) p h r i).trans (by rw [ha 4 main_arg4 (by decide +kernel)]; rfl)
      d := fun p h => (congrFun ((pre4_d (V := pfx preI V 4)).trans (ha 4 main_arg6 (by decide +kernel))) _).trans (inp_d V p h)
      s := fun h i e => pre4_z (V := pfx preI V 4) h i e
      ss := fun p hp => absurd hp (Nat.not_lt_zero _)
      vs := fun p hp => absurd hp (Nat.not_lt_zero _)
      ds := fun p hp => absurd hp (Nat.not_lt_zero _) }
    q := fun p h r i => (pre4_q (V := pfx preI V 4) p h r i).trans (by rw [ha 4 main_arg1 (by decide +kernel)]; rfl)
    k := fun p h r i => (pre4_k (V := pfx preI V 4) p h r i).trans (by rw [ha 4 main_arg2 (by decide +kernel)]; rfl)
    w := fun p h r i => (pre4_w (V := pfx preI V 4) p h r i).trans (by rw [ha 4 main_arg4 (by decide +kernel)]; rfl)
    a := fun p h r s => (congrFun (pfx_keep preI_writes 4 1 main_v2_0 (by decide +kernel) V) _).trans
      ((pre3_attn (V := pfx preI V 3) hb (pre2_zero (V := pfx preI V 2)) p h r s).trans
        (by rw [ha 3 main_arg5 (by decide +kernel)]; exact inp_a V p h r s))
    b := fun p h r s => (congrFun (pfx_keep preI_writes 4 1 main_v2_1 (by decide +kernel) V) _).trans ((pre3_mask (V := pfx preI V 3) p h r s).trans (hb r s))
    o := ha 5 main_arg0 (by decide +kernel) }

/-- The six results. -/
structure Out (I : ScanMath.Arr) (V : Valuation τ sig (Elt Ideal)) : Prop where
  q : ∀ (p : Fin 64) (h : Fin 16) (r : Fin 64) (k : Fin 128), (V (Proc.devRef .tc main_v37) : S4096x2048.Idx → EReal) (ix2 ⟨64 * p.val + r.val, by omega⟩ ⟨128 * h.val + k.val, by omega⟩) = ScanMath.gq I p.val h r k
  k : ∀ (p : Fin 64) (h : Fin 16) (r : Fin 64) (k : Fin 128), (V (Proc.devRef .tc main_v35) : S4096x2048.Idx → EReal) (ix2 ⟨64 * p.val + r.val, by omega⟩ ⟨128 * h.val + k.val, by omega⟩) = ScanMath.gk I p.val h r k
  u : ∀ (p : Fin 64) (h : Fin 16) (r : Fin 64) (k : Fin 128), (V (Proc.devRef .tc main_v33) : S4096x2048.Idx → EReal) (ix2 ⟨64 * p.val + r.val, by omega⟩ ⟨128 * h.val + k.val, by omega⟩) = ScanMath.gu I p.val h r k
  w : ∀ (p : Fin 64) (h : Fin 16) (r : Fin 64) (k : Fin 128), (V (Proc.devRef .tc main_v31) : S4096x2048.Idx → EReal) (ix2 ⟨64 * p.val + r.val, by omega⟩ ⟨128 * h.val + k.val, by omega⟩) = ScanMath.gw I p.val h r k
  a : ∀ (p : Fin 64) (h : Fin 16) (r s : Fin 64), (V (Proc.devRef .tc main_v38) : S64x16x64x64.Idx → EReal) (ix4 p h r s) = ScanMath.ga I p.val h r s
  d : ∀ (p : Fin 64) (h : Fin 16) (k : Fin 128), (V (Proc.devRef .tc main_v40) : S64x16x1x128.Idx → EReal) (ix4 p h 0 k) = ScanMath.gd I p.val h

variable (m : (ℓ : Loc nD τ sig) → Buf (Elt Ideal) ℓ)

theorem turn_inv (c : Dev nD) : BInv (inp (launchContents m c)) 0 (turn m c) := by
  have P := pre_ends (launchContents m c)
  have L := FInv.trips (start m) c P.inv 64 (Nat.le_refl _)
  have k (r : Ref sig .tc) (h : r ∉ condF_W) (h' : r ∉ (fwdW.drop 1).flatten) := fwd_kept (start m) c r h h'
  have kc (r : Ref sig .tc) (h : r ∉ condF_W) := after_of_writes_sub condF (atTrip condF fwdI (start m) 64 c) condF_writes h
  exact {
    c := mid0_c
    o := fun p h r i => (mid0_o p h r i).trans (by rw [(k main_arg0 (by decide +kernel) (by decide +kernel)).trans P.o]; rfl)
    ss := fun p h r i => (congrFun (mid0_ss.trans (kc main_v16_9 (by decide +kernel))) _).trans (L.ss p p.isLt h r i)
    w := fun p h r i => (congrFun (mid0_w.trans (k main_v11 (by decide +kernel) (by decide +kernel))) _).trans (P.w p h r i)
    q := fun p h r i => (congrFun (mid0_q.trans (k main_v5 (by decide +kernel) (by decide +kernel))) _).trans (P.q p h r i)
    vs := fun p h r i => (congrFun (mid0_vs.trans (kc main_v16_10 (by decide +kernel))) _).trans (L.vs p p.isLt h r i)
    a := fun p h r s => (congrFun (mid0_a.trans (k main_v2_0 (by decide +kernel) (by decide +kernel))) _).trans (P.a p h r s)
    d := fun p h => (congrFun (mid0_d.trans (kc main_v16_11 (by decide +kernel))) _).trans (L.ds p p.isLt h)
    k := fun p h r i => (congrFun (mid0_k.trans (k main_v7 (by decide +kernel) (by decide +kernel))) _).trans (P.k p h r i)
    s := fun h i e => mid0_z h i e
    gq := fun p hp => absurd hp (by omega)
    gk := fun p hp => absurd hp (by omega)
    gu := fun p hp => absurd hp (by omega)
    gw := fun p hp => absurd hp (by omega)
    ga := fun p hp => absurd hp (by omega)
    gd := fun p hp => absurd hp (by omega) }

theorem final_out (c : Dev nD) (hI : ScanMath.Finite (inp (launchContents m c))) : Out (inp (launchContents m c)) (final m c) := by
  have P := pre_ends (launchContents m c)
  have L := BInv.trips hI (turn m) c (turn_inv m c) 64 (Nat.le_refl _)
  have kc (r : Ref sig .tc) (h : r ∉ condB_W) := after_of_writes_sub condB (atTrip condB backI (turn m) 64 c) condB_writes h
  have kp (i k) (r : Ref sig .tc) (h : r ∉ ((postW.drop i).take k).flatten) := pfx_keep postI_writes i k r h (after condB (atTrip condB backI (turn m) 64 c))
  have hb (p h) (r s : Fin 64) : (turn m c (Proc.devRef .tc main_v2_1) : S64x16x64x64.Idx → BitVec 1) (ix4 p h r s) = if s.val ≤ r.val then 1#1 else 0#1 :=
    (congrFun ((after_of_writes_sub mid0 _ mid0_writes (by decide +kernel : main_v2_1 ∉ mid0_W)).trans
      (fwd_kept (start m) c main_v2_1 (by decide +kernel) (by decide +kernel))) _).trans (P.b p h r s)
  exact {
    q := fun p h r i => (congrFun (kp 1 2 main_v37 (by decide +kernel)) _).trans ((post0_gq p h r i).trans ((congrFun (kc main_v29_10 (by decide +kernel)) _).trans (L.gq p (by omega) h r i)))
    k := fun p h r i => (congrFun (kp 1 2 main_v35 (by decide +kernel)) _).trans ((post0_gk p h r i).trans ((congrFun (kc main_v29_11 (by decide +kernel)) _).trans (L.gk p (by omega) h r i)))
    u := fun p h r i => (congrFun (kp 1 2 main_v33 (by decide +kernel)) _).trans ((post0_gu p h r i).trans ((congrFun (kc main_v29_12 (by decide +kernel)) _).trans (L.gu p (by omega) h r i)))
    w := fun p h r i => (congrFun (kp 1 2 main_v31 (by decide +kernel)) _).trans ((post0_gw p h r i).trans ((congrFun (kc main_v29_13 (by decide +kernel)) _).trans (L.gw p (by omega) h r i)))
    a := fun p h r s => (congrFun (kp 2 1 main_v38 (by decide +kernel)) _).trans ((post1_at (fun p h r s => (congrFun ((kp 0 1 main_v2_1 (by decide +kernel)).trans
        (back_kept (turn m) c main_v2_1 (by decide +kernel) (by decide +kernel))) _).trans (hb p h r s)) p h r s).trans
      (if_congr Iff.rfl ((congrFun ((kp 0 1 main_v29_14 (by decide +kernel)).trans (kc main_v29_14 (by decide +kernel))) _).trans (L.ga p (by omega) h r s)) rfl))
    d := fun p h k => (post2_at p h k).trans ((congrFun ((kp 0 2 main_v29_15 (by decide +kernel)).trans (kc main_v29_15 (by decide +kernel))) _).trans (L.gd p (by omega) h)) }

end Cert.ReferenceIdeal.Scan

end
-- ==== Proof.ScanAlgebra.lean ====
/- The scan gradient and its reference leave the same results from real arguments. -/
module

public import proofs.«01_k».proof.Defs
public import proofs.«01_k».proof.Proof.ScanArrays
public import proofs.«01_k».proof.Proof.ScanFrame
public import proofs.«01_k».proof.Proof.RefEnds

@[expose] public section

noncomputable section

namespace Cert.ScanAlgebra

open Idealize.ShloMosaic Idealize.ShloMosaic.TcCoe Idealize.SL.Sem
open Cert.KernelIdeal.Scan (rc cl hd ln cl_hd_ln)

instance pre_facts : Cert.Pre_finite.Facts := ⟨by decide, by decide, by decide⟩

/-! Arguments with `x - x = 0` are real. -/

theorem real_of {x : EReal} (h : Ideal.cmp .oeq (x - x) 0 = 1#1) : ScanMath.Real' x := by
  have e : x - x = 0 := by
    by_contra hne
    simp [Ideal.cmp, hne] at h
  induction x with
  | bot => exact absurd (show (⊥ : EReal) = 0 from e) EReal.bot_ne_zero
  | top => exact absurd (show (⊥ : EReal) = 0 from e) EReal.bot_ne_zero
  | coe r => exact ⟨r, rfl⟩

theorem reals {s : Shape} (x : FVec Ideal s .f32) (hb : Cert.Pre_finite.S_.BroadcastsInDim s (![] : Fin 0 → Fin s.rank))
    (h : cmpf .oeq (subf x x) (broadcastInDim s ![] hb (constant (F := Ideal) Cert.Pre_finite.S_ .f32 0x00000000#32)) = fun _ => 1#1) (i : s.Idx) :
    ScanMath.Real' (x i) := by
  have e := congrFun h i
  rw [ValueIdx.cmpf_apply, ValueIdx.broadcastInDim_scalar_apply,
    show (constant (F := Ideal) Cert.Pre_finite.S_ .f32 0x00000000#32 _ : EReal) = 0 from Ideal.ofBits_zero_f32] at e
  exact real_of e

theorem args_finite {m : (ℓ : Loc Cert.KernelIdeal.nD Cert.KernelIdeal.τ Cert.KernelIdeal.sig) → Buf (Elt Ideal) ℓ}
    (hp : Cert.Pre_KernelIdeal_finite m) (c : Dev Cert.KernelIdeal.nD) : ScanMath.Finite (Cert.KernelIdeal.Scan.inp m c) :=
  ScanMath.arr_finite (reals _ _ (hp c).1) (reals _ _ (hp c).2.1) (reals _ _ (hp c).2.2.1) (reals _ _ (hp c).2.2.2.1)
    (reals _ _ (hp c).2.2.2.2.1) (reals _ _ (hp c).2.2.2.2.2.1) (reals _ _ (hp c).2.2.2.2.2.2)

/-! Arrays that agree chunk by chunk. -/

theorem rc_ix2 (a : Fin 4096) (b : Fin 2048) : ix2 a b = rc ⟨a.val / 64, by omega⟩ ⟨a.val % 64, by omega⟩ (hd b) (ln b) :=
  congrArg₂ ix2 (Fin.ext (show a.val = 64 * (a.val / 64) + a.val % 64 by omega)) (cl_hd_ln b).symm

theorem rows_ext {x y : Cert.KernelIdeal.S4096x2048.Idx → EReal} (h : ∀ n r h k, x (rc n r h k) = y (rc n r h k)) : x = y := by
  have key : ∀ a b, x (ix2 a b) = y (ix2 a b) := fun a b => by rw [rc_ix2 a b]; exact h _ _ _ _
  funext i
  rw [eq_ix2 i]; exact key _ _

theorem mats_ext {A B : ℕ} {x y : (⟨4, ![64, 16, A, B]⟩ : Shape).Idx → EReal} (h : ∀ n h r s, x (ix4 n h r s) = y (ix4 n h r s)) : x = y := by
  funext i
  rw [eq_ix4 i]; exact h _ _ _ _

theorem arr_congr {x0 x1 x2 x3 x4 y0 y1 y2 y3 y4 : (⟨2, ![4096, 2048]⟩ : Shape).Idx → EReal}
    {x5 y5 : (⟨4, ![64, 16, 64, 64]⟩ : Shape).Idx → EReal} {x6 y6 : (⟨2, ![64, 16]⟩ : Shape).Idx → EReal}
    (h0 : x0 = y0) (h1 : x1 = y1) (h2 : x2 = y2) (h3 : x3 = y3) (h4 : x4 = y4) (h5 : x5 = y5) (h6 : x6 = y6) :
    ScanMath.arr x0 x1 x2 x3 x4 x5 x6 = ScanMath.arr y0 y1 y2 y3 y4 y5 y6 := by
  subst h0 h1 h2 h3 h4 h5 h6; rfl

open Cert.KernelIdeal.Scan Cert.KernelIdeal in
theorem algebraic : Cert.algebraic_KernelIdeal_ReferenceIdeal_pre_finite := fun m g m' g' hp ha => by
  have hout : ∀ c, Cert.ReferenceIdeal.Scan.Out (inp m c) (Cert.ReferenceIdeal.Scan.final m' c) := fun c => by
    have e : Cert.ReferenceIdeal.Scan.inp (StableHlo.launchContents m' c) = inp m c :=
      arr_congr (ha c).1 (ha c).2.1 (ha c).2.2.1 (ha c).2.2.2.1 (ha c).2.2.2.2.1 (ha c).2.2.2.2.2.1 (ha c).2.2.2.2.2.2
    have h := Cert.ReferenceIdeal.Scan.final_out m' c (e ▸ args_finite hp c)
    rwa [e] at h
  refine ⟨fun c => W5 m c (Proc.devRef .tc main_v11_0), fun c => W5 m c (Proc.devRef .tc main_v11_1), fun c => W5 m c (Proc.devRef .tc main_v11_2),
    fun c => W5 m c (Proc.devRef .tc main_v11_3), fun c => W5 m c (Proc.devRef .tc main_v11_4), fun c => W5 m c (Proc.devRef .tc main_v11_5), ?_, ?_⟩
  · refine (θ_run defs _ _).mono (fun r h c => ?_) (run_main (F := Ideal) m g)
    exact ⟨h.1 c _ (mem_ucRefs main_v11_0 (by decide)), h.1 c _ (mem_ucRefs main_v11_1 (by decide)), h.1 c _ (mem_ucRefs main_v11_2 (by decide)),
      h.1 c _ (mem_ucRefs main_v11_3 (by decide)), h.1 c _ (mem_ucRefs main_v11_4 (by decide)), h.1 c _ (mem_ucRefs main_v11_5 (by decide)),
      (h.1 c _ (mem_ucRefs main_arg0 (by decide))).trans (final_arg0 m c), (h.1 c _ (mem_ucRefs main_arg1 (by decide))).trans (final_arg1 m c),
      (h.1 c _ (mem_ucRefs main_arg2 (by decide))).trans (final_arg2 m c), (h.1 c _ (mem_ucRefs main_arg3 (by decide))).trans (final_arg3 m c),
      (h.1 c _ (mem_ucRefs main_arg4 (by decide))).trans (final_arg4 m c), (h.1 c _ (mem_ucRefs main_arg5 (by decide))).trans (final_arg5 m c),
      (h.1 c _ (mem_ucRefs main_arg6 (by decide))).trans (final_arg6 m c)⟩
  · refine (θ_run Cert.ReferenceIdeal.defs _ _).mono (fun r h c => ?_) (Cert.ReferenceIdeal.Scan.run_main (F := Ideal) m' g')
    exact ⟨(h.1 c Cert.ReferenceIdeal.main_v37 (by decide)).trans (rows_ext fun n r h k => ((hout c).q n h r k).trans (out_q m c n r h k).symm),
      (h.1 c Cert.ReferenceIdeal.main_v35 (by decide)).trans (rows_ext fun n r h k => ((hout c).k n h r k).trans (out_k m c n r h k).symm),
      (h.1 c Cert.ReferenceIdeal.main_v33 (by decide)).trans (rows_ext fun n r h k => ((hout c).u n h r k).trans (out_u m c n r h k).symm),
      (h.1 c Cert.ReferenceIdeal.main_v31 (by decide)).trans (rows_ext fun n r h k => ((hout c).w n h r k).trans (out_w m c n r h k).symm),
      (h.1 c Cert.ReferenceIdeal.main_v38 (by decide)).trans (mats_ext (A := 64) (B := 64) fun n h r s => ((hout c).a n h r s).trans (out_a m c n h r s).symm),
      (h.1 c Cert.ReferenceIdeal.main_v40 (by decide)).trans (mats_ext (A := 1) (B := 128) fun n h r k => by
        obtain rfl : r = 0 := Subsingleton.elim _ _
        exact ((hout c).d n h k).trans (out_d m c n h k).symm),
      (h.1 c Cert.ReferenceIdeal.main_arg0 (by decide)).trans (Cert.ReferenceIdeal.Scan.final_arg0 m' c),
      (h.1 c Cert.ReferenceIdeal.main_arg1 (by decide)).trans (Cert.ReferenceIdeal.Scan.final_arg1 m' c),
      (h.1 c Cert.ReferenceIdeal.main_arg2 (by decide)).trans (Cert.ReferenceIdeal.Scan.final_arg2 m' c),
      (h.1 c Cert.ReferenceIdeal.main_arg3 (by decide)).trans (Cert.ReferenceIdeal.Scan.final_arg3 m' c),
      (h.1 c Cert.ReferenceIdeal.main_arg4 (by decide)).trans (Cert.ReferenceIdeal.Scan.final_arg4 m' c),
      (h.1 c Cert.ReferenceIdeal.main_arg5 (by decide)).trans (Cert.ReferenceIdeal.Scan.final_arg5 m' c),
      (h.1 c Cert.ReferenceIdeal.main_arg6 (by decide)).trans (Cert.ReferenceIdeal.Scan.final_arg6 m' c)⟩

end Cert.ScanAlgebra

end
-- ==== Proof.MmDInMain.lean ====
/- The value of `d_in_main`: the product `aᵀ · b`, block by block over a grid of row, column and depth blocks, an accumulator carried along the depth. -/
module

public import proofs.«01_k».proof.Defs
public import proofs.«01_k».proof.Proof.Gen.DInMain
public import proofs.«01_k».proof.Proof.Gen.DInMainIdeal.Value
public import proofs.«01_k».proof.Proof.Gen.DInMainRefIdeal.Run
public import proofs.«01_k».proof.Proof.MmSums

@[expose] public section

noncomputable section

namespace Cert.DInMainRefIdeal.Product

open Cert.DInMainRefIdeal Cert.DInMainRefIdeal.Gen Idealize.ShloMosaic Idealize.ShloMosaic.TcCoe

/-- The reference's result at an index. -/
theorem value_at (x : FVec Ideal S4096x2048 .f32) (y : FVec Ideal S4096x12288 .f32) (i : S2048x12288.Idx) :
    (truncf .bf16 (transpose S2048x12288 [1, 0] (Host.dotGeneral dot_S4096x12288_S4096x2048_S12288x2048_0_0_1_1_n_n none y x) transposes_S12288x2048_S2048x12288_1_0) bitsLt_bf16_f32 : FVec Ideal S2048x12288 .bf16) i
      = ∑ k : Fin 4096, (y (ix2 k (i 1)) : EReal) * x (ix2 k (i 0)) := by
  pointwise

end Cert.DInMainRefIdeal.Product

namespace Cert.DInMainIdeal.Product

open Cert.DInMainIdeal Cert.DInMainIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x0 : Vec F S2048x1024 .bf16) (x1 : Vec F S2048x1024 .bf16) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S2048x1024) hz, View.ld_unit_zero (S := S1024x1024) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz, View.ld_unit_zero (S := S1024x1024) hz, shapeCast_self]

end Any

variable (m : (ℓ : Loc nD τ sig) → Buf (Elt Ideal) ℓ)

theorem block (x0 : Vec Ideal S2048x1024 .bf16) (x1 : Vec Ideal S2048x1024 .bf16) (j : S1024x1024.Idx) :
    k0_pay1 x0 x1 j = ∑ k : Fin 2048, (x0 (ix2 k (j 0)) : EReal) * x1 (ix2 k (j 1)) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S4096x12288.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val % 2, t.val / 24] := (by decide +kernel : ∀ t : Fin grid0.N, _)

theorem blk_a (c : Dev nD) (t : Fin cfg0.N) (j : S2048x1024.Idx) :
    (iblk m c 0 t j : EReal) = at2 (A m c) (2048 * (t.val % 2) + (j 0).val) (1024 * (t.val / 24) + (j 1).val) := by
  show V m c main_v0 (((cfg0.win 0).blk t).view.emb j) = _
  rw [V_a]
  exact at2_of (A m c) _ _ _ (off0 (idx_a t) 2048 (j 0).val :) (off1 (idx_a t) 1024 (j 1).val :)

abbrev B (c : Dev nD) : S4096x12288.Idx → EReal := m ((c.tc : Thread nD τ).loc main_arg1)

theorem idx_b : ∀ t : Fin cfg0.N, win0_1.index t = ![t.val % 2, t.val / 2 % 12] := (by decide +kernel : ∀ t : Fin grid0.N, _)

theorem blk_b (c : Dev nD) (t : Fin cfg0.N) (j : S2048x1024.Idx) :
    (iblk m c 1 t j : EReal) = at2 (B m c) (2048 * (t.val % 2) + (j 0).val) (1024 * (t.val / 2 % 12) + (j 1).val) := by
  show V m c main_v1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) k r * at2 (B m c) k s

theorem block_at (c : Dev nD) (t : Fin cfg0.N) (j : S1024x1024.Idx) :
    k0_pay1 (iblk m c 0 t) (iblk m c 1 t) j
      = ∑ k : Fin 2048, term m c (1024 * (t.val / 24) + (j 0).val) (1024 * (t.val / 2 % 12) + (j 1).val) (2048 * (t.val % 2) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 2 ≠ 1 →
    (outsAt0 m c n hn).2 j
      = ∑ k ∈ Finset.range (2048 * (n % 2 + 1)), term m c (1024 * (n / 24) + (j 0).val) (1024 * (n / 2 % 12) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x1024.Idx) (n : ℕ) (hn : n < cfg0.N) (h5 : n % 2 = 1) :
    (outsAt0 m c n hn).1 j
      = ∑ k ∈ Finset.range 4096, term m c (1024 * (n / 24) + (j 0).val) (1024 * (n / 2 % 12) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 24 = (p + 1) / 24 := by omega
  have e3 : p / 2 % 12 = (p + 1) / 2 % 12 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S2048x12288.Idx) :
    (Value.G2 m c i : EReal) = ∑ k : Fin 4096, A m c (ix2 k (i 0)) * B m c (ix2 k (i 1)) := by
  have hi0 : (i 0).val < 2048 := (i 0).isLt
  have hi1 : (i 1).val < 12288 := (i 1).isLt
  have hp : Value.pt2Of i = 2 * (12 * ((i 0).val / 1024) + (i 1).val / 1024) + 1 := by
    show 2 * (12 * ((i 0).val / 1024 - 0) + 1 * ((i 1).val / 1024 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 1024 * (Value.pt2Of i / 24) + (Value.loc2Of i 0).val = (i 0).val := by
    show 1024 * (Value.pt2Of i / 24) + (i 0).val % 1024 = _
    omega
  have e1 : 1024 * (Value.pt2Of i / 2 % 12) + (Value.loc2Of i 1).val = (i 1).val := by
    show 1024 * (Value.pt2Of i / 2 % 12) + (i 1).val % 1024 = _
    omega
  rw [e0, e1, ← sum_first] at e
  refine Eq.trans e ?_
  show (∑ k : Fin 4096, term m c (i 0).val (i 1).val k.val : EReal) = ∑ k : Fin 4096, A m c (ix2 k (i 0)) * B m c (ix2 k (i 1))
  refine Finset.sum_congr rfl fun k _ => ?_
  rw [at2_ix (A m c) k (i 0), at2_ix (B m c) k (i 1)]
  rfl

theorem algebraic : Cert.algebraic_DInMainIdeal_DInMainRefIdeal := by
  intro m ρ m' ρ' _ h
  refine ⟨fun c => Value.G2 m c, Value.run m ρ,
    (θ_run Cert.DInMainRefIdeal.defs _ _).mono (fun r hr c => ⟨(hr c).1.trans ?_, (hr c).2⟩) (Cert.DInMainRefIdeal.Value.run m' ρ')⟩
  obtain ⟨h0, h1⟩ := h c
  rw [h0, h1]
  funext i
  refine Eq.trans (Cert.DInMainRefIdeal.Product.value_at (A m c) (B m c) i) (Eq.trans ?_ (G_at m c i).symm)
  exact Finset.sum_congr rfl fun k _ => mul_comm _ _

theorem defs_same : Cert.DInMain.defs (F := Bits) = defs (F := Bits) := by chain_rfl
theorem main_same : Cert.DInMain.main (F := Bits) = main (F := Bits) := by chain_rfl

theorem frame_kernel : Cert.quiescent_DInMain := fun m ρ _ => by rw [defs_same, main_same]; exact Gen.frame (F := Bits) m ρ

theorem frame_ideal : Cert.quiescent_DInMainIdeal := fun m ρ _ => Gen.frame (F := Ideal) m ρ

theorem frame_reference : Cert.quiescent_DInMainRefIdeal := fun m ρ _ =>
  (θ_run Cert.DInMainRefIdeal.defs _ _).mono (fun r h => ⟨fun c => (h c).2, sem_eq_zero_of_no_sems (by decide) r.2⟩)
    (Cert.DInMainRefIdeal.Value.run (F := Ideal) m ρ)

end Cert.DInMainIdeal.Product

end
-- ==== Proof.MmDhMix.lean ====
/- The value of `dh_mix`: the product `a · bᵀ` added to a third array, block by block over a grid of row, column and depth blocks, an accumulator carried along the depth. -/
module

public import proofs.«01_k».proof.Defs
public import proofs.«01_k».proof.Proof.Gen.DhMix
public import proofs.«01_k».proof.Proof.Gen.DhMixIdeal.Value
public import proofs.«01_k».proof.Proof.Gen.DhMixRefIdeal.Run
public import proofs.«01_k».proof.Proof.MmSums

@[expose] public section

noncomputable section

namespace Cert.DhMixRefIdeal.Product

open Cert.DhMixRefIdeal Cert.DhMixRefIdeal.Gen Idealize.ShloMosaic Idealize.ShloMosaic.TcCoe

/-- The reference's result at an index. -/
theorem value_at (x : FVec Ideal S4096x12288 .f32) (y : FVec Ideal S2048x12288 .f32) (z : FVec Ideal S4096x2048 .f32) (i : S4096x2048.Idx) :
    (addf z (Host.dotGeneral dot_S4096x12288_S2048x12288_S4096x2048_1_1_0_0_n_n none x y) : FVec Ideal S4096x2048 .f32) i
      = (z i : EReal) + ∑ k : Fin 12288, (x (ix2 (i 0) k) : EReal) * y (ix2 (i 1) k) := by
  pointwise

end Cert.DhMixRefIdeal.Product

namespace Cert.DhMixIdeal.Product

open Cert.DhMixIdeal Cert.DhMixIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S1024x2048 .bf16) (h3 : a3.IsWhole)
  (a4 : Memref sig .tc .vmem S1024x2048 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : Vec F S1024x2048 .bf16) (x1 : Vec F S1024x2048 .bf16) (x2 : Vec F S1024x1024 .f32) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz]
  unfold k0_pay2
  simp only [View.readAt_eq_ld, h3.read_unread, h4.read_unread, h5.read_unread, h7.read_unread, View.ld_unit_zero (S := S1024x2048) hz, View.ld_unit_zero (S := S1024x1024) hz, shapeCast_self]

/-- A later block is added. -/
theorem acc_next (hc0 : ¬cond0_0 i) (hc1 : cond0_1 i) (hc2 : ¬cond0_2 i) :
    sout0_B_0 c i a3 h3 a4 h4 a5 h5 a6 h6 a7 h7 hc0 hc1 hc2 x0 x1 x2 s = addf s (k0_pay1 x0 x1) := by
  unfold sout0_B_0
  rw [View.read_writes_eq_canon _ _ _ (scover0_B_0 c i a3 h3 a4 h4 a5 h5 a6 h6 a7 h7 hc0 hc1 hc2 x0 x1 x2 s)]
  unfold kernelRun0_B
  dsimp only
  sl_unfold_words
  rw [View.canon_unit_zero hz]
  unfold k0_pay3
  simp only [View.readAt_eq_ld, h3.read_unread, h4.read_unread, h5.read_unread, h7.read_unread, View.ld_unit_zero (S := S1024x2048) hz, View.ld_unit_zero (S := S1024x1024) hz, shapeCast_self]

/-- The last block is added and the sum stored. -/
theorem out_last (hc0 : ¬cond0_0 i) (hc1 : cond0_1 i) (hc2 : cond0_2 i) :
    out0_C_3 c i a3 h3 a4 h4 a5 h5 a6 h6 a7 h7 hc0 hc1 hc2 x0 x1 x2 s = addf (addf s (k0_pay1 x0 x1)) x2 := by
  unfold out0_C_3
  rw [View.read_writes_eq_canon _ _ _ (cover0_C_3 c i a3 h3 a4 h4 a5 h5 a6 h6 a7 h7 hc0 hc1 hc2 x0 x1 x2 s)]
  unfold kernelRun0_C
  dsimp only
  sl_unfold_words
  rw [View.canon_unit_zero hz, View.readCov_unit_zero (S := S1024x1024) _ hz]
  unfold k0_pay4 k0_pay3
  simp only [View.readAt_eq_ld, h3.read_unread, h4.read_unread, h5.read_unread, h7.read_unread, View.ld_unit_zero (S := S1024x2048) hz, View.ld_unit_zero (S := S1024x1024) hz, shapeCast_self]

end Any

variable (m : (ℓ : Loc nD τ sig) → Buf (Elt Ideal) ℓ)

theorem block (x0 : Vec Ideal S1024x2048 .bf16) (x1 : Vec Ideal S1024x2048 .bf16) (j : S1024x1024.Idx) :
    k0_pay1 x0 x1 j = ∑ k : Fin 2048, (x0 (ix2 (j 0) k) : EReal) * x1 (ix2 (j 1) k) := by
  pointwise [k0_pay1]

theorem V_a (c : Dev nD) : (V m c main_v0 : S4096x12288.Idx → EReal) = m ((c.tc : Thread nD τ).loc main_arg0) := by
  show StableHlo.after hostOps0 (fun b => m (c, b)) main_v0 = _
  after_results
  rfl

theorem V_b (c : Dev nD) : (V m c main_v1 : S2048x12288.Idx → EReal) = m ((c.tc : Thread nD τ).loc main_arg1) := by
  show StableHlo.after hostOps0 (fun b => m (c, b)) main_v1 = _
  after_results
  rfl

theorem V_c (c : Dev nD) : (V m c main_arg2 : S4096x2048.Idx → EReal) = m ((c.tc : Thread nD τ).loc main_arg2) := V_main_arg2 m c

abbrev A (c : Dev nD) : S4096x12288.Idx → EReal := m ((c.tc : Thread nD τ).loc main_arg0)

theorem idx_a : ∀ t : Fin cfg0.N, win0_0.index t = ![t.val / 12, t.val % 6] := (by decide +kernel : ∀ t : Fin grid0.N, _)

theorem blk_a (c : Dev nD) (t : Fin cfg0.N) (j : S1024x2048.Idx) :
    (iblk m c 0 t j : EReal) = at2 (A m c) (1024 * (t.val / 12) + (j 0).val) (2048 * (t.val % 6) + (j 1).val) := by
  show V m c main_v0 (((cfg0.win 0).blk t).view.emb j) = _
  rw [V_a]
  exact at2_of (A m c) _ _ _ (off0 (idx_a t) 1024 (j 0).val :) (off1 (idx_a t) 2048 (j 1).val :)

abbrev B (c : Dev nD) : S2048x12288.Idx → EReal := m ((c.tc : Thread nD τ).loc main_arg1)

theorem idx_b : ∀ t : Fin cfg0.N, win0_1.index t = ![t.val / 6 % 2, t.val % 6] := (by decide +kernel : ∀ t : Fin grid0.N, _)

theorem blk_b (c : Dev nD) (t : Fin cfg0.N) (j : S1024x2048.Idx) :
    (iblk m c 1 t j : EReal) = at2 (B m c) (1024 * (t.val / 6 % 2) + (j 0).val) (2048 * (t.val % 6) + (j 1).val) := by
  show V m c main_v1 (((cfg0.win 1).blk t).view.emb j) = _
  rw [V_b]
  exact at2_of (B m c) _ _ _ (off0 (idx_b t) 1024 (j 0).val :) (off1 (idx_b t) 2048 (j 1).val :)

abbrev C (c : Dev nD) : S4096x2048.Idx → EReal := m ((c.tc : Thread nD τ).loc main_arg2)

theorem idx_c : ∀ t : Fin cfg0.N, win0_2.index t = ![t.val / 12, t.val / 6 % 2] := (by decide +kernel : ∀ t : Fin grid0.N, _)

theorem blk_c (c : Dev nD) (t : Fin cfg0.N) (j : S1024x1024.Idx) :
    (iblk m c 2 t j : EReal) = at2 (C m c) (1024 * (t.val / 12) + (j 0).val) (1024 * (t.val / 6 % 2) + (j 1).val) := by
  show V m c main_arg2 (((cfg0.win 2).blk t).view.emb j) = _
  rw [V_c]
  exact at2_of (C m c) _ _ _ (off0 (idx_c t) 1024 (j 0).val :) (off1 (idx_c t) 1024 (j 1).val :)

/-- One term of the product at row `r`, column `s` and depth `k`. -/
def term (c : Dev nD) (r s k : ℕ) : EReal := at2 (A m c) r k * at2 (B m c) s k

theorem block_at (c : Dev nD) (t : Fin cfg0.N) (j : S1024x1024.Idx) :
    k0_pay1 (iblk m c 0 t) (iblk m c 1 t) j
      = ∑ k : Fin 2048, term m c (1024 * (t.val / 12) + (j 0).val) (1024 * (t.val / 6 % 2) + (j 1).val) (2048 * (t.val % 6) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 6 ≠ 5 →
    (outsAt0 m c n hn).2 j
      = ∑ k ∈ Finset.range (2048 * (n % 6 + 1)), term m c (1024 * (n / 12) + (j 0).val) (1024 * (n / 6 % 2) + (j 1).val) k
  | 0, hn, h5 => by
    rw [outsAt0_A m c ⟨0, hn⟩ (by simp) (by simp) (by simp)]
    dsimp only
    rw [acc_first, block_at, ← sum_first]
    simp
  | n + 1, hn, h5 => by
    by_cases h0 : (n + 1) % 6 = 0
    · rw [outsAt0_A m c ⟨n + 1, hn⟩ h0 (by dsimp only; omega) h5]
      dsimp only
      rw [acc_first, block_at]
      dsimp only
      rw [h0, ← sum_first]
      simp
    · rw [outsAt0_B m c ⟨n + 1, hn⟩ h0 (by dsimp only; omega) h5]
      dsimp only
      rw [acc_next]
      have ih := acc c j n (Nat.lt_of_succ_lt hn) (by omega)
      have e1 : n % 6 + 1 = (n + 1) % 6 := by omega
      have e2 : n / 12 = (n + 1) / 12 := by omega
      have e3 : n / 6 % 2 = (n + 1) / 6 % 2 := by omega
      rw [e1, e2, e3] at ih
      show ((outsAt0 m c n _).2 j : EReal) + (k0_pay1 (F := Ideal) _ _ j : EReal) = _
      rw [ih, block_at]
      exact sum_next _ _ _

/-- What the last point along the depth leaves in the output block. -/
theorem out (c : Dev nD) (j : S1024x1024.Idx) (n : ℕ) (hn : n < cfg0.N) (h5 : n % 6 = 5) :
    (outsAt0 m c n hn).1 j
      = ∑ k ∈ Finset.range 12288, term m c (1024 * (n / 12) + (j 0).val) (1024 * (n / 6 % 2) + (j 1).val) k
        + at2 (C m c) (1024 * (n / 12) + (j 0).val) (1024 * (n / 6 % 2) + (j 1).val) := by
  obtain ⟨p, rfl⟩ : ∃ p, n = p + 1 := ⟨n - 1, by omega⟩
  rw [outsAt0_C m c ⟨p + 1, hn⟩ (by dsimp only; omega) (by dsimp only; omega) h5]
  dsimp only
  rw [out_last]
  have ih := acc m c j p (Nat.lt_of_succ_lt hn) (by omega)
  have e1 : p % 6 + 1 = (p + 1) % 6 := by omega
  have e2 : p / 12 = (p + 1) / 12 := by omega
  have e3 : p / 6 % 2 = (p + 1) / 6 % 2 := by omega
  rw [e1, e2, e3] at ih
  show ((outsAt0 m c p _).2 j : EReal) + (k0_pay1 (F := Ideal) _ _ j : EReal) + (iblk m c 2 _ j : EReal) = _
  rw [ih, block_at, blk_c]
  dsimp only
  rw [sum_next, h5]

/-- The result at an index: the whole sum over the depth. -/
theorem G_at (c : Dev nD) (i : S4096x2048.Idx) :
    (Value.G3 m c i : EReal) = ∑ k : Fin 12288, A m c (ix2 (i 0) k) * B m c (ix2 (i 1) k) + C m c i := by
  have hi0 : (i 0).val < 4096 := (i 0).isLt
  have hi1 : (i 1).val < 2048 := (i 1).isLt
  have hp : Value.pt3Of i = 6 * (2 * ((i 0).val / 1024) + (i 1).val / 1024) + 5 := by
    show 6 * (2 * ((i 0).val / 1024 - 0) + 1 * ((i 1).val / 1024 - 0)) + 5 = _
    omega
  have hN : Value.pt3Of i < cfg0.N := lt_of_lt_of_eq (by omega) N_0.symm
  unfold Value.G3
  rw [dif_pos hN, ← Value.outsAt0_sweep m c (Value.pt3Of i) hN]
  have e := out m c (Value.loc3Of i) _ hN (by omega)
  have e0 : 1024 * (Value.pt3Of i / 12) + (Value.loc3Of i 0).val = (i 0).val := by
    show 1024 * (Value.pt3Of i / 12) + (i 0).val % 1024 = _
    omega
  have e1 : 1024 * (Value.pt3Of i / 6 % 2) + (Value.loc3Of i 1).val = (i 1).val := by
    show 1024 * (Value.pt3Of i / 6 % 2) + (i 1).val % 1024 = _
    omega
  rw [e0, e1, ← sum_first] at e
  refine Eq.trans e ?_
  refine congrArg₂ (· + ·) (Finset.sum_congr rfl fun k _ => ?_) (at2_of (C m c) i _ _ rfl rfl).symm
  rw [at2_ix (A m c) (i 0) k, at2_ix (B m c) (i 1) k]
  rfl

theorem algebraic : Cert.algebraic_DhMixIdeal_DhMixRefIdeal := by
  intro m ρ m' ρ' _ h
  refine ⟨fun c => Value.G3 m c, Value.run m ρ,
    (θ_run Cert.DhMixRefIdeal.defs _ _).mono (fun r hr c => ⟨(hr c).1.trans ?_, (hr c).2⟩) (Cert.DhMixRefIdeal.Value.run m' ρ')⟩
  obtain ⟨h0, h1, h2⟩ := h c
  rw [h0, h1, h2]
  funext i
  refine Eq.trans (Cert.DhMixRefIdeal.Product.value_at (A m c) (B m c) (C m c) i) (Eq.trans ?_ (G_at m c i).symm)
  exact add_comm (C m c i) _

theorem defs_same : Cert.DhMix.defs (F := Bits) = defs (F := Bits) := by chain_rfl
theorem main_same : Cert.DhMix.main (F := Bits) = main (F := Bits) := by chain_rfl

theorem frame_kernel : Cert.quiescent_DhMix := fun m ρ _ => by rw [defs_same, main_same]; exact Gen.frame (F := Bits) m ρ

theorem frame_ideal : Cert.quiescent_DhMixIdeal := fun m ρ _ => Gen.frame (F := Ideal) m ρ

theorem frame_reference : Cert.quiescent_DhMixRefIdeal := fun m ρ _ =>
  (θ_run Cert.DhMixRefIdeal.defs _ _).mono (fun r h => ⟨fun c => (h c).2, sem_eq_zero_of_no_sems (by decide) r.2⟩)
    (Cert.DhMixRefIdeal.Value.run (F := Ideal) m ρ)

end Cert.DhMixIdeal.Product

end
-- ==== Proof.MmProjMain.lean ====
/- The value of `proj_main`: the product `a · b`, a block of the result at each point of a grid of row and column blocks. -/
module

public import proofs.«01_k».proof.Defs
public import proofs.«01_k».proof.Proof.Gen.ProjMain
public import proofs.«01_k».proof.Proof.Gen.ProjMainIdeal.Value
public import proofs.«01_k».proof.Proof.Gen.ProjMainRefIdeal.Run
public import proofs.«01_k».proof.Proof.MmSums

@[expose] public section

noncomputable section

namespace Cert.ProjMainRefIdeal.Product

open Cert.ProjMainRefIdeal Cert.ProjMainRefIdeal.Gen Idealize.ShloMosaic Idealize.ShloMosaic.TcCoe

/-- The reference's result at an index. -/
theorem value_at (x : FVec Ideal S4096x2048 .f32) (y : FVec Ideal S2048x12288 .f32) (i : S4096x12288.Idx) :
    (Host.dotGeneral dot_S4096x2048_S2048x12288_S4096x12288_1_0_0_1_n_n none x y : FVec Ideal S4096x12288 .f32) i
      = ∑ k : Fin 2048, (x (ix2 (i 0) k) : EReal) * y (ix2 k (i 1)) := by
  pointwise

end Cert.ProjMainRefIdeal.Product

namespace Cert.ProjMainIdeal.Product

open Cert.ProjMainIdeal Cert.ProjMainIdeal.Gen Idealize.ShloMosaic Idealize.ShloMosaic.TcCoe Idealize.SL.Sem Cert.MmSums

section Any
variable {F : FTy → Type} [FloatOps F]

theorem out_eq (x0 : Vec F S1024x2048 .bf16) (x1 : Vec F S2048x1024 .bf16) : out0_2 x0 x1 = k0_pay1 x0 x1 := by
  unfold out0_2
  rw [View.canon_unit_zero hz]
  simp only [View.ld_unit_zero (S := S1024x2048) hz, View.ld_unit_zero (S := S2048x1024) hz, View.ld_unit_zero (S := S1024x1024) hz]

end Any

variable (m : (ℓ : Loc nD τ sig) → Buf (Elt Ideal) ℓ)

theorem block (x0 : Vec Ideal S1024x2048 .bf16) (x1 : Vec Ideal S2048x1024 .bf16) (j : S1024x1024.Idx) :
    k0_pay1 x0 x1 j = ∑ k : Fin 2048, (x0 (ix2 (j 0) k) : EReal) * x1 (ix2 k (j 1)) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S2048x12288.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val / 12, 0] := (by decide +kernel : ∀ t : Fin grid0.N, _)

theorem blk_a (c : Dev nD) (t : Fin cfg0.N) (j : S1024x2048.Idx) :
    (iblk m c 0 t j : EReal) = at2 (A m c) (1024 * (t.val / 12) + (j 0).val) (2048 * (0) + (j 1).val) := by
  show V m c main_v0 (((cfg0.win 0).blk t).view.emb j) = _
  rw [V_a]
  exact at2_of (A m c) _ _ _ (off0 (idx_a t) 1024 (j 0).val :) (off1 (idx_a t) 2048 (j 1).val :)

abbrev B (c : Dev nD) : S2048x12288.Idx → EReal := m ((c.tc : Thread nD τ).loc main_arg1)

theorem idx_b : ∀ t : Fin cfg0.N, win0_1.index t = ![0, t.val % 12] := (by decide +kernel : ∀ t : Fin grid0.N, _)

theorem blk_b (c : Dev nD) (t : Fin cfg0.N) (j : S2048x1024.Idx) :
    (iblk m c 1 t j : EReal) = at2 (B m c) (2048 * (0) + (j 0).val) (1024 * (t.val % 12) + (j 1).val) := by
  show V m c main_v1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) r k * at2 (B m c) k s

/-- What a point leaves in the output block. -/
theorem out (c : Dev nD) (t : Fin cfg0.N) (j : S1024x1024.Idx) :
    out0_2 (iblk m c 0 t) (iblk m c 1 t) j
      = ∑ k : Fin 2048, term m c (1024 * (t.val / 12) + (j 0).val) (1024 * (t.val % 12) + (j 1).val) k.val := by
  rw [out_eq, block]
  refine Finset.sum_congr rfl fun k _ => ?_
  rw [blk_a, blk_b]
  simp [term]

/-- The product, index by index. -/
def G (c : Dev nD) : S4096x12288.Idx → EReal := fun i =>
  ∑ k : Fin 2048, A m c (ix2 (i 0) k) * B m c (ix2 k (i 1))

theorem G_term (c : Dev nD) (i : S4096x12288.Idx) (r s : ℕ) (hr : (i 0).val = r) (hs : (i 1).val = s) :
    G m c i = ∑ k : Fin 2048, term m c r s k.val := by
  subst hr hs
  unfold G
  refine Finset.sum_congr rfl fun k _ => ?_
  rw [at2_ix (A m c) (i 0) k, at2_ix (B m c) k (i 1)]
  rfl

theorem idx_o : ∀ t : Fin cfg0.N, win0_2.index t = ![t.val / 12, t.val % 12] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 1024 (j 1).val :)

theorem covered (i : S4096x12288.Idx) : ∃ t : Fin cfg0.N, (cfg0.win 2).flush t = true ∧ i ∈ ((cfg0.win 2).blk t).view.set := by
  have h0 : (i 0).val < 4096 := (i 0).isLt
  have h1 : (i 1).val < 12288 := (i 1).isLt
  have ht : 12 * ((i 0).val / 1024) + (i 1).val / 1024 < cfg0.N := lt_of_lt_of_eq (by omega) N_0.symm
  refine ⟨⟨_, ht⟩, flush_o _, ?_⟩
  show i ∈ ((View.whole main_v2).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x12288.Idx) :
    G m c i = ∑ k : Fin 2048, A m c (ix2 (i 0) k) * B m c (ix2 k (i 1)) := rfl

theorem algebraic : Cert.algebraic_ProjMainIdeal_ProjMainRefIdeal := by
  intro m ρ m' ρ' _ h
  refine ⟨fun c => G m c, (θ_run defs _ _).mono (fun r h c => ⟨(h c).1.trans (final m c), (h c).2⟩) (Value.run_blocks m ρ),
    (θ_run Cert.ProjMainRefIdeal.defs _ _).mono (fun r hr c => ⟨(hr c).1.trans ?_, (hr c).2⟩) (Cert.ProjMainRefIdeal.Value.run m' ρ')⟩
  obtain ⟨h0, h1⟩ := h c
  rw [h0, h1]
  funext i
  refine Eq.trans (Cert.ProjMainRefIdeal.Product.value_at (A m c) (B m c) i) (Eq.trans ?_ (G_at m c i).symm)
  rfl

theorem defs_same : Cert.ProjMain.defs (F := Bits) = defs (F := Bits) := by chain_rfl
theorem main_same : Cert.ProjMain.main (F := Bits) = main (F := Bits) := by chain_rfl

theorem frame_kernel : Cert.quiescent_ProjMain := fun m ρ _ => by rw [defs_same, main_same]; exact Gen.frame (F := Bits) m ρ

theorem frame_ideal : Cert.quiescent_ProjMainIdeal := fun m ρ _ => Gen.frame (F := Ideal) m ρ

theorem frame_reference : Cert.quiescent_ProjMainRefIdeal := fun m ρ _ =>
  (θ_run Cert.ProjMainRefIdeal.defs _ _).mono (fun r h => ⟨fun c => (h c).2, sem_eq_zero_of_no_sems (by decide) r.2⟩)
    (Cert.ProjMainRefIdeal.Value.run (F := Ideal) m ρ)

end Cert.ProjMainIdeal.Product

end
-- ==== Proof.MmDFfnUp.lean ====
/- The value of `d_ffn_up`: the product `aᵀ · b`, block by block over a grid of row, column and depth blocks, an accumulator carried along the depth. -/
module

public import proofs.«01_k».proof.Defs
public import proofs.«01_k».proof.Proof.Gen.DFfnUp
public import proofs.«01_k».proof.Proof.Gen.DFfnUpIdeal.Value
public import proofs.«01_k».proof.Proof.Gen.DFfnUpRefIdeal.Run
public import proofs.«01_k».proof.Proof.MmSums

@[expose] public section

noncomputable section

namespace Cert.DFfnUpRefIdeal.Product

open Cert.DFfnUpRefIdeal Cert.DFfnUpRefIdeal.Gen Idealize.ShloMosaic Idealize.ShloMosaic.TcCoe

/-- The reference's result at an index. -/
theorem value_at (x : FVec Ideal S4096x2048 .f32) (y : FVec Ideal S4096x5632 .f32) (i : S2048x5632.Idx) :
    (truncf .bf16 (transpose S2048x5632 [1, 0] (Host.dotGeneral dot_S4096x5632_S4096x2048_S5632x2048_0_0_1_1_n_n none y x) transposes_S5632x2048_S2048x5632_1_0) bitsLt_bf16_f32 : FVec Ideal S2048x5632 .bf16) i
      = ∑ k : Fin 4096, (y (ix2 k (i 1)) : EReal) * x (ix2 k (i 0)) := by
  pointwise

end Cert.DFfnUpRefIdeal.Product

namespace Cert.DFfnUpIdeal.Product

open Cert.DFfnUpIdeal Cert.DFfnUpIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S2048x1024 .bf16) (h3 : a3.IsWhole)
  (a4 : Memref sig .tc .vmem S2048x512 .bf16) (h4 : a4.IsWhole)
  (a5 : Memref sig .tc .vmem S1024x512 .bf16) (h5 : a5.IsWhole)
  (a6 : Memref sig .tc .vmem S1024x512 .f32) (h6 : a6.IsWhole)
  (x0 : Vec F S2048x1024 .bf16) (x1 : Vec F S2048x512 .bf16) (s : Vec F S1024x512 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S2048x1024) hz, View.ld_unit_zero (S := S2048x512) hz, View.ld_unit_zero (S := S1024x512) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S1024x512) _ hz]
  unfold k0_pay3
  simp only [View.readAt_eq_ld, h3.read_unread, h4.read_unread, h6.read_unread, View.ld_unit_zero (S := S2048x1024) hz, View.ld_unit_zero (S := S2048x512) hz, View.ld_unit_zero (S := S1024x512) hz, shapeCast_self]

end Any

variable (m : (ℓ : Loc nD τ sig) → Buf (Elt Ideal) ℓ)

theorem block (x0 : Vec Ideal S2048x1024 .bf16) (x1 : Vec Ideal S2048x512 .bf16) (j : S1024x512.Idx) :
    k0_pay1 x0 x1 j = ∑ k : Fin 2048, (x0 (ix2 k (j 0)) : EReal) * x1 (ix2 k (j 1)) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S4096x5632.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val % 2, t.val / 22] := (by decide +kernel : ∀ t : Fin grid0.N, _)

theorem blk_a (c : Dev nD) (t : Fin cfg0.N) (j : S2048x1024.Idx) :
    (iblk m c 0 t j : EReal) = at2 (A m c) (2048 * (t.val % 2) + (j 0).val) (1024 * (t.val / 22) + (j 1).val) := by
  show V m c main_v0 (((cfg0.win 0).blk t).view.emb j) = _
  rw [V_a]
  exact at2_of (A m c) _ _ _ (off0 (idx_a t) 2048 (j 0).val :) (off1 (idx_a t) 1024 (j 1).val :)

abbrev B (c : Dev nD) : S4096x5632.Idx → EReal := m ((c.tc : Thread nD τ).loc main_arg1)

theorem idx_b : ∀ t : Fin cfg0.N, win0_1.index t = ![t.val % 2, t.val / 2 % 11] := (by decide +kernel : ∀ t : Fin grid0.N, _)

theorem blk_b (c : Dev nD) (t : Fin cfg0.N) (j : S2048x512.Idx) :
    (iblk m c 1 t j : EReal) = at2 (B m c) (2048 * (t.val % 2) + (j 0).val) (512 * (t.val / 2 % 11) + (j 1).val) := by
  show V m c main_v1 (((cfg0.win 1).blk t).view.emb j) = _
  rw [V_b]
  exact at2_of (B m c) _ _ _ (off0 (idx_b t) 2048 (j 0).val :) (off1 (idx_b t) 512 (j 1).val :)

/-- One term of the product at row `r`, column `s` and depth `k`. -/
def term (c : Dev nD) (r s k : ℕ) : EReal := at2 (A m c) k r * at2 (B m c) k s

theorem block_at (c : Dev nD) (t : Fin cfg0.N) (j : S1024x512.Idx) :
    k0_pay1 (iblk m c 0 t) (iblk m c 1 t) j
      = ∑ k : Fin 2048, term m c (1024 * (t.val / 22) + (j 0).val) (512 * (t.val / 2 % 11) + (j 1).val) (2048 * (t.val % 2) + k.val) := by
  rw [block]
  refine Finset.sum_congr rfl fun k _ => ?_
  rw [blk_a, blk_b]
  rfl

/-- The accumulator before the last block of the depth: the sum so far. -/
theorem acc (c : Dev nD) (j : S1024x512.Idx) : ∀ (n : ℕ) (hn : n < cfg0.N), n % 2 ≠ 1 →
    (outsAt0 m c n hn).2 j
      = ∑ k ∈ Finset.range (2048 * (n % 2 + 1)), term m c (1024 * (n / 22) + (j 0).val) (512 * (n / 2 % 11) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x512.Idx) (n : ℕ) (hn : n < cfg0.N) (h5 : n % 2 = 1) :
    (outsAt0 m c n hn).1 j
      = ∑ k ∈ Finset.range 4096, term m c (1024 * (n / 22) + (j 0).val) (512 * (n / 2 % 11) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 22 = (p + 1) / 22 := by omega
  have e3 : p / 2 % 11 = (p + 1) / 2 % 11 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S2048x5632.Idx) :
    (Value.G2 m c i : EReal) = ∑ k : Fin 4096, A m c (ix2 k (i 0)) * B m c (ix2 k (i 1)) := by
  have hi0 : (i 0).val < 2048 := (i 0).isLt
  have hi1 : (i 1).val < 5632 := (i 1).isLt
  have hp : Value.pt2Of i = 2 * (11 * ((i 0).val / 1024) + (i 1).val / 512) + 1 := by
    show 2 * (11 * ((i 0).val / 1024 - 0) + 1 * ((i 1).val / 512 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 1024 * (Value.pt2Of i / 22) + (Value.loc2Of i 0).val = (i 0).val := by
    show 1024 * (Value.pt2Of i / 22) + (i 0).val % 1024 = _
    omega
  have e1 : 512 * (Value.pt2Of i / 2 % 11) + (Value.loc2Of i 1).val = (i 1).val := by
    show 512 * (Value.pt2Of i / 2 % 11) + (i 1).val % 512 = _
    omega
  rw [e0, e1, ← sum_first] at e
  refine Eq.trans e ?_
  show (∑ k : Fin 4096, term m c (i 0).val (i 1).val k.val : EReal) = ∑ k : Fin 4096, A m c (ix2 k (i 0)) * B m c (ix2 k (i 1))
  refine Finset.sum_congr rfl fun k _ => ?_
  rw [at2_ix (A m c) k (i 0), at2_ix (B m c) k (i 1)]
  rfl

theorem algebraic : Cert.algebraic_DFfnUpIdeal_DFfnUpRefIdeal := by
  intro m ρ m' ρ' _ h
  refine ⟨fun c => Value.G2 m c, Value.run m ρ,
    (θ_run Cert.DFfnUpRefIdeal.defs _ _).mono (fun r hr c => ⟨(hr c).1.trans ?_, (hr c).2⟩) (Cert.DFfnUpRefIdeal.Value.run m' ρ')⟩
  obtain ⟨h0, h1⟩ := h c
  rw [h0, h1]
  funext i
  refine Eq.trans (Cert.DFfnUpRefIdeal.Product.value_at (A m c) (B m c) i) (Eq.trans ?_ (G_at m c i).symm)
  exact Finset.sum_congr rfl fun k _ => mul_comm _ _

theorem defs_same : Cert.DFfnUp.defs (F := Bits) = defs (F := Bits) := by chain_rfl
theorem main_same : Cert.DFfnUp.main (F := Bits) = main (F := Bits) := by chain_rfl

theorem frame_kernel : Cert.quiescent_DFfnUp := fun m ρ _ => by rw [defs_same, main_same]; exact Gen.frame (F := Bits) m ρ

theorem frame_ideal : Cert.quiescent_DFfnUpIdeal := fun m ρ _ => Gen.frame (F := Ideal) m ρ

theorem frame_reference : Cert.quiescent_DFfnUpRefIdeal := fun m ρ _ =>
  (θ_run Cert.DFfnUpRefIdeal.defs _ _).mono (fun r h => ⟨fun c => (h c).2, sem_eq_zero_of_no_sems (by decide) r.2⟩)
    (Cert.DFfnUpRefIdeal.Value.run (F := Ideal) m ρ)

end Cert.DFfnUpIdeal.Product

end
-- ==== Proof.MmDhFfnG.lean ====
/- The value of `dh_ffn_g`: the product `a · bᵀ`, block by block over a grid of row, column and depth blocks, an accumulator carried along the depth. -/
module

public import proofs.«01_k».proof.Defs
public import proofs.«01_k».proof.Proof.Gen.DhFfnG
public import proofs.«01_k».proof.Proof.Gen.DhFfnGIdeal.Value
public import proofs.«01_k».proof.Proof.Gen.DhFfnGRefIdeal.Run
public import proofs.«01_k».proof.Proof.MmSums

@[expose] public section

noncomputable section

namespace Cert.DhFfnGRefIdeal.Product

open Cert.DhFfnGRefIdeal Cert.DhFfnGRefIdeal.Gen Idealize.ShloMosaic Idealize.ShloMosaic.TcCoe

/-- The reference's result at an index. -/
theorem value_at (x : FVec Ideal S4096x5632 .f32) (y : FVec Ideal S2048x5632 .f32) (i : S4096x2048.Idx) :
    (Host.dotGeneral dot_S4096x5632_S2048x5632_S4096x2048_1_1_0_0_n_n none x y : FVec Ideal S4096x2048 .f32) i
      = ∑ k : Fin 5632, (x (ix2 (i 0) k) : EReal) * y (ix2 (i 1) k) := by
  pointwise

end Cert.DhFfnGRefIdeal.Product

namespace Cert.DhFfnGIdeal.Product

open Cert.DhFfnGIdeal Cert.DhFfnGIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S1024x2816 .bf16) (h3 : a3.IsWhole)
  (a4 : Memref sig .tc .vmem S1024x2816 .bf16) (h4 : a4.IsWhole)
  (a5 : Memref sig .tc .vmem S1024x1024 .f32) (h5 : a5.IsWhole)
  (a6 : Memref sig .tc .vmem S1024x1024 .f32) (h6 : a6.IsWhole)
  (x0 : Vec F S1024x2816 .bf16) (x1 : Vec F S1024x2816 .bf16) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S1024x2816) hz, View.ld_unit_zero (S := S1024x1024) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = addf s (k0_pay1 x0 x1) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1024x2816) hz, View.ld_unit_zero (S := S1024x1024) hz, shapeCast_self]

end Any

variable (m : (ℓ : Loc nD τ sig) → Buf (Elt Ideal) ℓ)

theorem block (x0 : Vec Ideal S1024x2816 .bf16) (x1 : Vec Ideal S1024x2816 .bf16) (j : S1024x1024.Idx) :
    k0_pay1 x0 x1 j = ∑ k : Fin 2816, (x0 (ix2 (j 0) k) : EReal) * x1 (ix2 (j 1) k) := by
  pointwise [k0_pay1]

theorem V_a (c : Dev nD) : (V m c main_v0 : S4096x5632.Idx → EReal) = m ((c.tc : Thread nD τ).loc main_arg0) := by
  show StableHlo.after hostOps0 (fun b => m (c, b)) main_v0 = _
  after_results
  rfl

theorem V_b (c : Dev nD) : (V m c main_v1 : S2048x5632.Idx → EReal) = m ((c.tc : Thread nD τ).loc main_arg1) := by
  show StableHlo.after hostOps0 (fun b => m (c, b)) main_v1 = _
  after_results
  rfl

abbrev A (c : Dev nD) : S4096x5632.Idx → EReal := m ((c.tc : Thread nD τ).loc main_arg0)

theorem idx_a : ∀ t : Fin cfg0.N, win0_0.index t = ![t.val / 4, t.val % 2] := (by decide +kernel : ∀ t : Fin grid0.N, _)

theorem blk_a (c : Dev nD) (t : Fin cfg0.N) (j : S1024x2816.Idx) :
    (iblk m c 0 t j : EReal) = at2 (A m c) (1024 * (t.val / 4) + (j 0).val) (2816 * (t.val % 2) + (j 1).val) := by
  show V m c main_v0 (((cfg0.win 0).blk t).view.emb j) = _
  rw [V_a]
  exact at2_of (A m c) _ _ _ (off0 (idx_a t) 1024 (j 0).val :) (off1 (idx_a t) 2816 (j 1).val :)

abbrev B (c : Dev nD) : S2048x5632.Idx → EReal := m ((c.tc : Thread nD τ).loc main_arg1)

theorem idx_b : ∀ t : Fin cfg0.N, win0_1.index t = ![t.val / 2 % 2, t.val % 2] := (by decide +kernel : ∀ t : Fin grid0.N, _)

theorem blk_b (c : Dev nD) (t : Fin cfg0.N) (j : S1024x2816.Idx) :
    (iblk m c 1 t j : EReal) = at2 (B m c) (1024 * (t.val / 2 % 2) + (j 0).val) (2816 * (t.val % 2) + (j 1).val) := by
  show V m c main_v1 (((cfg0.win 1).blk t).view.emb j) = _
  rw [V_b]
  exact at2_of (B m c) _ _ _ (off0 (idx_b t) 1024 (j 0).val :) (off1 (idx_b t) 2816 (j 1).val :)

/-- One term of the product at row `r`, column `s` and depth `k`. -/
def term (c : Dev nD) (r s k : ℕ) : EReal := at2 (A m c) r k * at2 (B m c) s k

theorem block_at (c : Dev nD) (t : Fin cfg0.N) (j : S1024x1024.Idx) :
    k0_pay1 (iblk m c 0 t) (iblk m c 1 t) j
      = ∑ k : Fin 2816, term m c (1024 * (t.val / 4) + (j 0).val) (1024 * (t.val / 2 % 2) + (j 1).val) (2816 * (t.val % 2) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 2 ≠ 1 →
    (outsAt0 m c n hn).2 j
      = ∑ k ∈ Finset.range (2816 * (n % 2 + 1)), term m c (1024 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x1024.Idx) (n : ℕ) (hn : n < cfg0.N) (h5 : n % 2 = 1) :
    (outsAt0 m c n hn).1 j
      = ∑ k ∈ Finset.range 5632, term m c (1024 * (n / 4) + (j 0).val) (1024 * (n / 2 % 2) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S4096x2048.Idx) :
    (Value.G2 m c i : EReal) = ∑ k : Fin 5632, A m c (ix2 (i 0) k) * B m c (ix2 (i 1) k) := by
  have hi0 : (i 0).val < 4096 := (i 0).isLt
  have hi1 : (i 1).val < 2048 := (i 1).isLt
  have hp : Value.pt2Of i = 2 * (2 * ((i 0).val / 1024) + (i 1).val / 1024) + 1 := by
    show 2 * (2 * ((i 0).val / 1024 - 0) + 1 * ((i 1).val / 1024 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 1024 * (Value.pt2Of i / 4) + (Value.loc2Of i 0).val = (i 0).val := by
    show 1024 * (Value.pt2Of i / 4) + (i 0).val % 1024 = _
    omega
  have e1 : 1024 * (Value.pt2Of i / 2 % 2) + (Value.loc2Of i 1).val = (i 1).val := by
    show 1024 * (Value.pt2Of i / 2 % 2) + (i 1).val % 1024 = _
    omega
  rw [e0, e1, ← sum_first] at e
  refine Eq.trans e ?_
  show (∑ k : Fin 5632, term m c (i 0).val (i 1).val k.val : EReal) = ∑ k : Fin 5632, A m c (ix2 (i 0) k) * B m c (ix2 (i 1) k)
  refine Finset.sum_congr rfl fun k _ => ?_
  rw [at2_ix (A m c) (i 0) k, at2_ix (B m c) (i 1) k]
  rfl

theorem algebraic : Cert.algebraic_DhFfnGIdeal_DhFfnGRefIdeal := by
  intro m ρ m' ρ' _ h
  refine ⟨fun c => Value.G2 m c, Value.run m ρ,
    (θ_run Cert.DhFfnGRefIdeal.defs _ _).mono (fun r hr c => ⟨(hr c).1.trans ?_, (hr c).2⟩) (Cert.DhFfnGRefIdeal.Value.run m' ρ')⟩
  obtain ⟨h0, h1⟩ := h c
  rw [h0, h1]
  funext i
  refine Eq.trans (Cert.DhFfnGRefIdeal.Product.value_at (A m c) (B m c) i) (Eq.trans ?_ (G_at m c i).symm)
  rfl

theorem defs_same : Cert.DhFfnG.defs (F := Bits) = defs (F := Bits) := by chain_rfl
theorem main_same : Cert.DhFfnG.main (F := Bits) = main (F := Bits) := by chain_rfl

theorem frame_kernel : Cert.quiescent_DhFfnG := fun m ρ _ => by rw [defs_same, main_same]; exact Gen.frame (F := Bits) m ρ

theorem frame_ideal : Cert.quiescent_DhFfnGIdeal := fun m ρ _ => Gen.frame (F := Ideal) m ρ

theorem frame_reference : Cert.quiescent_DhFfnGRefIdeal := fun m ρ _ =>
  (θ_run Cert.DhFfnGRefIdeal.defs _ _).mono (fun r h => ⟨fun c => (h c).2, sem_eq_zero_of_no_sems (by decide) r.2⟩)
    (Cert.DhFfnGRefIdeal.Value.run (F := Ideal) m ρ)

end Cert.DhFfnGIdeal.Product

end
-- ==== Proof.MmDhFfnV.lean ====
/- The value of `dh_ffn_v`: the product `a · bᵀ` added to a third array, block by block over a grid of row, column and depth blocks, an accumulator carried along the depth. -/
module

public import proofs.«01_k».proof.Defs
public import proofs.«01_k».proof.Proof.Gen.DhFfnV
public import proofs.«01_k».proof.Proof.Gen.DhFfnVIdeal.Value
public import proofs.«01_k».proof.Proof.Gen.DhFfnVRefIdeal.Run
public import proofs.«01_k».proof.Proof.MmSums

@[expose] public section

noncomputable section

namespace Cert.DhFfnVRefIdeal.Product

open Cert.DhFfnVRefIdeal Cert.DhFfnVRefIdeal.Gen Idealize.ShloMosaic Idealize.ShloMosaic.TcCoe

/-- The reference's result at an index. -/
theorem value_at (x : FVec Ideal S4096x5632 .f32) (y : FVec Ideal S2048x5632 .f32) (z : FVec Ideal S4096x2048 .f32) (i : S4096x2048.Idx) :
    (addf z (Host.dotGeneral dot_S4096x5632_S2048x5632_S4096x2048_1_1_0_0_n_n none x y) : FVec Ideal S4096x2048 .f32) i
      = (z i : EReal) + ∑ k : Fin 5632, (x (ix2 (i 0) k) : EReal) * y (ix2 (i 1) k) := by
  pointwise

end Cert.DhFfnVRefIdeal.Product

namespace Cert.DhFfnVIdeal.Product

open Cert.DhFfnVIdeal Cert.DhFfnVIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S1024x2816 .bf16) (h3 : a3.IsWhole)
  (a4 : Memref sig .tc .vmem S1024x2816 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : Vec F S1024x2816 .bf16) (x1 : Vec F S1024x2816 .bf16) (x2 : Vec F S1024x1024 .f32) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz]
  unfold k0_pay2
  simp only [View.readAt_eq_ld, h3.read_unread, h4.read_unread, h5.read_unread, h7.read_unread, View.ld_unit_zero (S := S1024x2816) hz, View.ld_unit_zero (S := S1024x1024) hz, shapeCast_self]

/-- The last block is added and the sum stored. -/
theorem out_last (hc0 : ¬cond0_0 i) (hc1 : cond0_1 i) (hc2 : cond0_2 i) :
    out0_B_3 c i a3 h3 a4 h4 a5 h5 a6 h6 a7 h7 hc0 hc1 hc2 x0 x1 x2 s = addf (addf s (k0_pay1 x0 x1)) x2 := by
  unfold out0_B_3
  rw [View.read_writes_eq_canon _ _ _ (cover0_B_3 c i a3 h3 a4 h4 a5 h5 a6 h6 a7 h7 hc0 hc1 hc2 x0 x1 x2 s)]
  unfold kernelRun0_B
  dsimp only
  sl_unfold_words
  rw [View.canon_unit_zero hz, View.readCov_unit_zero (S := S1024x1024) _ hz]
  unfold k0_pay4 k0_pay3
  simp only [View.readAt_eq_ld, h3.read_unread, h4.read_unread, h5.read_unread, h7.read_unread, View.ld_unit_zero (S := S1024x2816) hz, View.ld_unit_zero (S := S1024x1024) hz, shapeCast_self]

end Any

variable (m : (ℓ : Loc nD τ sig) → Buf (Elt Ideal) ℓ)

theorem block (x0 : Vec Ideal S1024x2816 .bf16) (x1 : Vec Ideal S1024x2816 .bf16) (j : S1024x1024.Idx) :
    k0_pay1 x0 x1 j = ∑ k : Fin 2816, (x0 (ix2 (j 0) k) : EReal) * x1 (ix2 (j 1) k) := by
  pointwise [k0_pay1]

theorem V_a (c : Dev nD) : (V m c main_v0 : S4096x5632.Idx → EReal) = m ((c.tc : Thread nD τ).loc main_arg0) := by
  show StableHlo.after hostOps0 (fun b => m (c, b)) main_v0 = _
  after_results
  rfl

theorem V_b (c : Dev nD) : (V m c main_v1 : S2048x5632.Idx → EReal) = m ((c.tc : Thread nD τ).loc main_arg1) := by
  show StableHlo.after hostOps0 (fun b => m (c, b)) main_v1 = _
  after_results
  rfl

theorem V_c (c : Dev nD) : (V m c main_arg2 : S4096x2048.Idx → EReal) = m ((c.tc : Thread nD τ).loc main_arg2) := V_main_arg2 m c

abbrev A (c : Dev nD) : S4096x5632.Idx → EReal := m ((c.tc : Thread nD τ).loc main_arg0)

theorem idx_a : ∀ t : Fin cfg0.N, win0_0.index t = ![t.val / 4, t.val % 2] := (by decide +kernel : ∀ t : Fin grid0.N, _)

theorem blk_a (c : Dev nD) (t : Fin cfg0.N) (j : S1024x2816.Idx) :
    (iblk m c 0 t j : EReal) = at2 (A m c) (1024 * (t.val / 4) + (j 0).val) (2816 * (t.val % 2) + (j 1).val) := by
  show V m c main_v0 (((cfg0.win 0).blk t).view.emb j) = _
  rw [V_a]
  exact at2_of (A m c) _ _ _ (off0 (idx_a t) 1024 (j 0).val :) (off1 (idx_a t) 2816 (j 1).val :)

abbrev B (c : Dev nD) : S2048x5632.Idx → EReal := m ((c.tc : Thread nD τ).loc main_arg1)

theorem idx_b : ∀ t : Fin cfg0.N, win0_1.index t = ![t.val / 2 % 2, t.val % 2] := (by decide +kernel : ∀ t : Fin grid0.N, _)

theorem blk_b (c : Dev nD) (t : Fin cfg0.N) (j : S1024x2816.Idx) :
    (iblk m c 1 t j : EReal) = at2 (B m c) (1024 * (t.val / 2 % 2) + (j 0).val) (2816 * (t.val % 2) + (j 1).val) := by
  show V m c main_v1 (((cfg0.win 1).blk t).view.emb j) = _
  rw [V_b]
  exact at2_of (B m c) _ _ _ (off0 (idx_b t) 1024 (j 0).val :) (off1 (idx_b t) 2816 (j 1).val :)

abbrev C (c : Dev nD) : S4096x2048.Idx → EReal := m ((c.tc : Thread nD τ).loc main_arg2)

theorem idx_c : ∀ t : Fin cfg0.N, win0_2.index t = ![t.val / 4, t.val / 2 % 2] := (by decide +kernel : ∀ t : Fin grid0.N, _)

theorem blk_c (c : Dev nD) (t : Fin cfg0.N) (j : S1024x1024.Idx) :
    (iblk m c 2 t j : EReal) = at2 (C m c) (1024 * (t.val / 4) + (j 0).val) (1024 * (t.val / 2 % 2) + (j 1).val) := by
  show V m c main_arg2 (((cfg0.win 2).blk t).view.emb j) = _
  rw [V_c]
  exact at2_of (C m c) _ _ _ (off0 (idx_c t) 1024 (j 0).val :) (off1 (idx_c t) 1024 (j 1).val :)

/-- One term of the product at row `r`, column `s` and depth `k`. -/
def term (c : Dev nD) (r s k : ℕ) : EReal := at2 (A m c) r k * at2 (B m c) s k

theorem block_at (c : Dev nD) (t : Fin cfg0.N) (j : S1024x1024.Idx) :
    k0_pay1 (iblk m c 0 t) (iblk m c 1 t) j
      = ∑ k : Fin 2816, term m c (1024 * (t.val / 4) + (j 0).val) (1024 * (t.val / 2 % 2) + (j 1).val) (2816 * (t.val % 2) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 2 ≠ 1 →
    (outsAt0 m c n hn).2 j
      = ∑ k ∈ Finset.range (2816 * (n % 2 + 1)), term m c (1024 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x1024.Idx) (n : ℕ) (hn : n < cfg0.N) (h5 : n % 2 = 1) :
    (outsAt0 m c n hn).1 j
      = ∑ k ∈ Finset.range 5632, term m c (1024 * (n / 4) + (j 0).val) (1024 * (n / 2 % 2) + (j 1).val) k
        + at2 (C m c) (1024 * (n / 4) + (j 0).val) (1024 * (n / 2 % 2) + (j 1).val) := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) + (iblk m c 2 _ j : EReal) = _
  rw [ih, block_at, blk_c]
  dsimp only
  rw [sum_next, h5]

/-- The result at an index: the whole sum over the depth. -/
theorem G_at (c : Dev nD) (i : S4096x2048.Idx) :
    (Value.G3 m c i : EReal) = ∑ k : Fin 5632, A m c (ix2 (i 0) k) * B m c (ix2 (i 1) k) + C m c i := by
  have hi0 : (i 0).val < 4096 := (i 0).isLt
  have hi1 : (i 1).val < 2048 := (i 1).isLt
  have hp : Value.pt3Of i = 2 * (2 * ((i 0).val / 1024) + (i 1).val / 1024) + 1 := by
    show 2 * (2 * ((i 0).val / 1024 - 0) + 1 * ((i 1).val / 1024 - 0)) + 1 = _
    omega
  have hN : Value.pt3Of i < cfg0.N := lt_of_lt_of_eq (by omega) N_0.symm
  unfold Value.G3
  rw [dif_pos hN, ← Value.outsAt0_sweep m c (Value.pt3Of i) hN]
  have e := out m c (Value.loc3Of i) _ hN (by omega)
  have e0 : 1024 * (Value.pt3Of i / 4) + (Value.loc3Of i 0).val = (i 0).val := by
    show 1024 * (Value.pt3Of i / 4) + (i 0).val % 1024 = _
    omega
  have e1 : 1024 * (Value.pt3Of i / 2 % 2) + (Value.loc3Of i 1).val = (i 1).val := by
    show 1024 * (Value.pt3Of i / 2 % 2) + (i 1).val % 1024 = _
    omega
  rw [e0, e1, ← sum_first] at e
  refine Eq.trans e ?_
  refine congrArg₂ (· + ·) (Finset.sum_congr rfl fun k _ => ?_) (at2_of (C m c) i _ _ rfl rfl).symm
  rw [at2_ix (A m c) (i 0) k, at2_ix (B m c) (i 1) k]
  rfl

theorem algebraic : Cert.algebraic_DhFfnVIdeal_DhFfnVRefIdeal := by
  intro m ρ m' ρ' _ h
  refine ⟨fun c => Value.G3 m c, Value.run m ρ,
    (θ_run Cert.DhFfnVRefIdeal.defs _ _).mono (fun r hr c => ⟨(hr c).1.trans ?_, (hr c).2⟩) (Cert.DhFfnVRefIdeal.Value.run m' ρ')⟩
  obtain ⟨h0, h1, h2⟩ := h c
  rw [h0, h1, h2]
  funext i
  refine Eq.trans (Cert.DhFfnVRefIdeal.Product.value_at (A m c) (B m c) (C m c) i) (Eq.trans ?_ (G_at m c i).symm)
  exact add_comm (C m c i) _

theorem defs_same : Cert.DhFfnV.defs (F := Bits) = defs (F := Bits) := by chain_rfl
theorem main_same : Cert.DhFfnV.main (F := Bits) = main (F := Bits) := by chain_rfl

theorem frame_kernel : Cert.quiescent_DhFfnV := fun m ρ _ => by rw [defs_same, main_same]; exact Gen.frame (F := Bits) m ρ

theorem frame_ideal : Cert.quiescent_DhFfnVIdeal := fun m ρ _ => Gen.frame (F := Ideal) m ρ

theorem frame_reference : Cert.quiescent_DhFfnVRefIdeal := fun m ρ _ =>
  (θ_run Cert.DhFfnVRefIdeal.defs _ _).mono (fun r h => ⟨fun c => (h c).2, sem_eq_zero_of_no_sems (by decide) r.2⟩)
    (Cert.DhFfnVRefIdeal.Value.run (F := Ideal) m ρ)

end Cert.DhFfnVIdeal.Product

end
-- ==== Proof.MmFfnUp.lean ====
/- The value of `ffn_up`: the product `a · b`, a block of the result at each point of a grid of row and column blocks. -/
module

public import proofs.«01_k».proof.Defs
public import proofs.«01_k».proof.Proof.Gen.FfnUp
public import proofs.«01_k».proof.Proof.Gen.FfnUpIdeal.Value
public import proofs.«01_k».proof.Proof.Gen.FfnUpRefIdeal.Run
public import proofs.«01_k».proof.Proof.MmSums

@[expose] public section

noncomputable section

namespace Cert.FfnUpRefIdeal.Product

open Cert.FfnUpRefIdeal Cert.FfnUpRefIdeal.Gen Idealize.ShloMosaic Idealize.ShloMosaic.TcCoe

/-- The reference's result at an index. -/
theorem value_at (x : FVec Ideal S4096x2048 .f32) (y : FVec Ideal S2048x5632 .f32) (i : S4096x5632.Idx) :
    (Host.dotGeneral dot_S4096x2048_S2048x5632_S4096x5632_1_0_0_1_n_n none x y : FVec Ideal S4096x5632 .f32) i
      = ∑ k : Fin 2048, (x (ix2 (i 0) k) : EReal) * y (ix2 k (i 1)) := by
  pointwise

end Cert.FfnUpRefIdeal.Product

namespace Cert.FfnUpIdeal.Product

open Cert.FfnUpIdeal Cert.FfnUpIdeal.Gen Idealize.ShloMosaic Idealize.ShloMosaic.TcCoe Idealize.SL.Sem Cert.MmSums

section Any
variable {F : FTy → Type} [FloatOps F]

theorem out_eq (x0 : Vec F S1024x2048 .bf16) (x1 : Vec F S2048x512 .bf16) : out0_2 x0 x1 = k0_pay1 x0 x1 := by
  unfold out0_2
  rw [View.canon_unit_zero hz]
  simp only [View.ld_unit_zero (S := S1024x2048) hz, View.ld_unit_zero (S := S2048x512) hz, View.ld_unit_zero (S := S1024x512) hz]

end Any

variable (m : (ℓ : Loc nD τ sig) → Buf (Elt Ideal) ℓ)

theorem block (x0 : Vec Ideal S1024x2048 .bf16) (x1 : Vec Ideal S2048x512 .bf16) (j : S1024x512.Idx) :
    k0_pay1 x0 x1 j = ∑ k : Fin 2048, (x0 (ix2 (j 0) k) : EReal) * x1 (ix2 k (j 1)) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S2048x5632.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val / 11, 0] := (by decide +kernel : ∀ t : Fin grid0.N, _)

theorem blk_a (c : Dev nD) (t : Fin cfg0.N) (j : S1024x2048.Idx) :
    (iblk m c 0 t j : EReal) = at2 (A m c) (1024 * (t.val / 11) + (j 0).val) (2048 * (0) + (j 1).val) := by
  show V m c main_v0 (((cfg0.win 0).blk t).view.emb j) = _
  rw [V_a]
  exact at2_of (A m c) _ _ _ (off0 (idx_a t) 1024 (j 0).val :) (off1 (idx_a t) 2048 (j 1).val :)

abbrev B (c : Dev nD) : S2048x5632.Idx → EReal := m ((c.tc : Thread nD τ).loc main_arg1)

theorem idx_b : ∀ t : Fin cfg0.N, win0_1.index t = ![0, t.val % 11] := (by decide +kernel : ∀ t : Fin grid0.N, _)

theorem blk_b (c : Dev nD) (t : Fin cfg0.N) (j : S2048x512.Idx) :
    (iblk m c 1 t j : EReal) = at2 (B m c) (2048 * (0) + (j 0).val) (512 * (t.val % 11) + (j 1).val) := by
  show V m c main_v1 (((cfg0.win 1).blk t).view.emb j) = _
  rw [V_b]
  exact at2_of (B m c) _ _ _ (off0 (idx_b t) 2048 (j 0).val :) (off1 (idx_b t) 512 (j 1).val :)

/-- One term of the product at row `r`, column `s` and depth `k`. -/
def term (c : Dev nD) (r s k : ℕ) : EReal := at2 (A m c) r k * at2 (B m c) k s

/-- What a point leaves in the output block. -/
theorem out (c : Dev nD) (t : Fin cfg0.N) (j : S1024x512.Idx) :
    out0_2 (iblk m c 0 t) (iblk m c 1 t) j
      = ∑ k : Fin 2048, term m c (1024 * (t.val / 11) + (j 0).val) (512 * (t.val % 11) + (j 1).val) k.val := by
  rw [out_eq, block]
  refine Finset.sum_congr rfl fun k _ => ?_
  rw [blk_a, blk_b]
  simp [term]

/-- The product, index by index. -/
def G (c : Dev nD) : S4096x5632.Idx → EReal := fun i =>
  ∑ k : Fin 2048, A m c (ix2 (i 0) k) * B m c (ix2 k (i 1))

theorem G_term (c : Dev nD) (i : S4096x5632.Idx) (r s : ℕ) (hr : (i 0).val = r) (hs : (i 1).val = s) :
    G m c i = ∑ k : Fin 2048, term m c r s k.val := by
  subst hr hs
  unfold G
  refine Finset.sum_congr rfl fun k _ => ?_
  rw [at2_ix (A m c) (i 0) k, at2_ix (B m c) k (i 1)]
  rfl

theorem idx_o : ∀ t : Fin cfg0.N, win0_2.index t = ![t.val / 11, t.val % 11] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 512 (j 1).val :)

theorem covered (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have ht : 11 * ((i 0).val / 1024) + (i 1).val / 512 < cfg0.N := lt_of_lt_of_eq (by omega) N_0.symm
  refine ⟨⟨_, ht⟩, flush_o _, ?_⟩
  show i ∈ ((View.whole main_v2).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 512 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x5632.Idx) :
    G m c i = ∑ k : Fin 2048, A m c (ix2 (i 0) k) * B m c (ix2 k (i 1)) := rfl

theorem algebraic : Cert.algebraic_FfnUpIdeal_FfnUpRefIdeal := by
  intro m ρ m' ρ' _ h
  refine ⟨fun c => G m c, (θ_run defs _ _).mono (fun r h c => ⟨(h c).1.trans (final m c), (h c).2⟩) (Value.run_blocks m ρ),
    (θ_run Cert.FfnUpRefIdeal.defs _ _).mono (fun r hr c => ⟨(hr c).1.trans ?_, (hr c).2⟩) (Cert.FfnUpRefIdeal.Value.run m' ρ')⟩
  obtain ⟨h0, h1⟩ := h c
  rw [h0, h1]
  funext i
  refine Eq.trans (Cert.FfnUpRefIdeal.Product.value_at (A m c) (B m c) i) (Eq.trans ?_ (G_at m c i).symm)
  rfl

theorem defs_same : Cert.FfnUp.defs (F := Bits) = defs (F := Bits) := by chain_rfl
theorem main_same : Cert.FfnUp.main (F := Bits) = main (F := Bits) := by chain_rfl

theorem frame_kernel : Cert.quiescent_FfnUp := fun m ρ _ => by rw [defs_same, main_same]; exact Gen.frame (F := Bits) m ρ

theorem frame_ideal : Cert.quiescent_FfnUpIdeal := fun m ρ _ => Gen.frame (F := Ideal) m ρ

theorem frame_reference : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

end Cert.FfnUpIdeal.Product

end
-- ==== Proof.MmDAct.lean ====
/- The value of `d_act`: the product `a · bᵀ`, a block of the result at each point of a grid of row and column blocks. -/
module

public import proofs.«01_k».proof.Defs
public import proofs.«01_k».proof.Proof.Gen.DAct
public import proofs.«01_k».proof.Proof.Gen.DActIdeal.Value
public import proofs.«01_k».proof.Proof.Gen.DActRefIdeal.Run
public import proofs.«01_k».proof.Proof.MmSums

@[expose] public section

noncomputable section

namespace Cert.DActRefIdeal.Product

open Cert.DActRefIdeal Cert.DActRefIdeal.Gen Idealize.ShloMosaic Idealize.ShloMosaic.TcCoe

/-- The reference's result at an index. -/
theorem value_at (x : FVec Ideal S4096x2048 .f32) (y : FVec Ideal S5632x2048 .f32) (i : S4096x5632.Idx) :
    (Host.dotGeneral dot_S4096x2048_S5632x2048_S4096x5632_1_1_0_0_n_n none x y : FVec Ideal S4096x5632 .f32) i
      = ∑ k : Fin 2048, (x (ix2 (i 0) k) : EReal) * y (ix2 (i 1) k) := by
  pointwise

end Cert.DActRefIdeal.Product

namespace Cert.DActIdeal.Product

open Cert.DActIdeal Cert.DActIdeal.Gen Idealize.ShloMosaic Idealize.ShloMosaic.TcCoe Idealize.SL.Sem Cert.MmSums

section Any
variable {F : FTy → Type} [FloatOps F]

theorem out_eq (x0 : Vec F S1024x2048 .f32) (x1 : Vec F S512x2048 .bf16) : out0_2 x0 x1 = k0_pay1 x0 x1 := by
  unfold out0_2
  rw [View.canon_unit_zero hz]
  simp only [View.ld_unit_zero (S := S1024x2048) hz, View.ld_unit_zero (S := S512x2048) hz, View.ld_unit_zero (S := S1024x512) hz]

end Any

variable (m : (ℓ : Loc nD τ sig) → Buf (Elt Ideal) ℓ)

theorem block (x0 : Vec Ideal S1024x2048 .f32) (x1 : Vec Ideal S512x2048 .bf16) (j : S1024x512.Idx) :
    k0_pay1 x0 x1 j = ∑ k : Fin 2048, (x0 (ix2 (j 0) k) : EReal) * x1 (ix2 (j 1) k) := by
  pointwise [k0_pay1]

theorem V_a (c : Dev nD) : (V m c main_arg0 : S4096x2048.Idx → EReal) = m ((c.tc : Thread nD τ).loc main_arg0) := V_main_arg0 m c

theorem V_b (c : Dev nD) : (V m c main_v0 : S5632x2048.Idx → EReal) = m ((c.tc : Thread nD τ).loc main_arg1) := by
  show StableHlo.after hostOps0 (fun b => m (c, b)) main_v0 = _
  after_results
  rfl

abbrev A (c : Dev nD) : S4096x2048.Idx → EReal := m ((c.tc : Thread nD τ).loc main_arg0)

theorem idx_a : ∀ t : Fin cfg0.N, win0_0.index t = ![t.val / 11, 0] := (by decide +kernel : ∀ t : Fin grid0.N, _)

theorem blk_a (c : Dev nD) (t : Fin cfg0.N) (j : S1024x2048.Idx) :
    (iblk m c 0 t j : EReal) = at2 (A m c) (1024 * (t.val / 11) + (j 0).val) (2048 * (0) + (j 1).val) := by
  show V m c main_arg0 (((cfg0.win 0).blk t).view.emb j) = _
  rw [V_a]
  exact at2_of (A m c) _ _ _ (off0 (idx_a t) 1024 (j 0).val :) (off1 (idx_a t) 2048 (j 1).val :)

abbrev B (c : Dev nD) : S5632x2048.Idx → EReal := m ((c.tc : Thread nD τ).loc main_arg1)

theorem idx_b : ∀ t : Fin cfg0.N, win0_1.index t = ![t.val % 11, 0] := (by decide +kernel : ∀ t : Fin grid0.N, _)

theorem blk_b (c : Dev nD) (t : Fin cfg0.N) (j : S512x2048.Idx) :
    (iblk m c 1 t j : EReal) = at2 (B m c) (512 * (t.val % 11) + (j 0).val) (2048 * (0) + (j 1).val) := by
  show V m c main_v0 (((cfg0.win 1).blk t).view.emb j) = _
  rw [V_b]
  exact at2_of (B m c) _ _ _ (off0 (idx_b t) 512 (j 0).val :) (off1 (idx_b t) 2048 (j 1).val :)

/-- One term of the product at row `r`, column `s` and depth `k`. -/
def term (c : Dev nD) (r s k : ℕ) : EReal := at2 (A m c) r k * at2 (B m c) s k

/-- What a point leaves in the output block. -/
theorem out (c : Dev nD) (t : Fin cfg0.N) (j : S1024x512.Idx) :
    out0_2 (iblk m c 0 t) (iblk m c 1 t) j
      = ∑ k : Fin 2048, term m c (1024 * (t.val / 11) + (j 0).val) (512 * (t.val % 11) + (j 1).val) k.val := by
  rw [out_eq, block]
  refine Finset.sum_congr rfl fun k _ => ?_
  rw [blk_a, blk_b]
  simp [term]

/-- The product, index by index. -/
def G (c : Dev nD) : S4096x5632.Idx → EReal := fun i =>
  ∑ k : Fin 2048, A m c (ix2 (i 0) k) * B m c (ix2 (i 1) k)

theorem G_term (c : Dev nD) (i : S4096x5632.Idx) (r s : ℕ) (hr : (i 0).val = r) (hs : (i 1).val = s) :
    G m c i = ∑ k : Fin 2048, term m c r s k.val := by
  subst hr hs
  unfold G
  refine Finset.sum_congr rfl fun k _ => ?_
  rw [at2_ix (A m c) (i 0) k, at2_ix (B m c) (i 1) k]
  rfl

theorem idx_o : ∀ t : Fin cfg0.N, win0_2.index t = ![t.val / 11, t.val % 11] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 512 (j 1).val :)

theorem covered (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have ht : 11 * ((i 0).val / 1024) + (i 1).val / 512 < cfg0.N := lt_of_lt_of_eq (by omega) N_0.symm
  refine ⟨⟨_, ht⟩, flush_o _, ?_⟩
  show i ∈ ((View.whole main_v1).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 512 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x5632.Idx) :
    G m c i = ∑ k : Fin 2048, A m c (ix2 (i 0) k) * B m c (ix2 (i 1) k) := rfl

theorem algebraic : Cert.algebraic_DActIdeal_DActRefIdeal := by
  intro m ρ m' ρ' _ h
  refine ⟨fun c => G m c, (θ_run defs _ _).mono (fun r h c => ⟨(h c).1.trans (final m c), (h c).2⟩) (Value.run_blocks m ρ),
    (θ_run Cert.DActRefIdeal.defs _ _).mono (fun r hr c => ⟨(hr c).1.trans ?_, (hr c).2⟩) (Cert.DActRefIdeal.Value.run m' ρ')⟩
  obtain ⟨h0, h1⟩ := h c
  rw [h0, h1]
  funext i
  refine Eq.trans (Cert.DActRefIdeal.Product.value_at (A m c) (B m c) i) (Eq.trans ?_ (G_at m c i).symm)
  rfl

theorem defs_same : Cert.DAct.defs (F := Bits) = defs (F := Bits) := by chain_rfl
theorem main_same : Cert.DAct.main (F := Bits) = main (F := Bits) := by chain_rfl

theorem frame_kernel : Cert.quiescent_DAct := fun m ρ _ => by rw [defs_same, main_same]; exact Gen.frame (F := Bits) m ρ

theorem frame_ideal : Cert.quiescent_DActIdeal := fun m ρ _ => Gen.frame (F := Ideal) m ρ

theorem frame_reference : Cert.quiescent_DActRefIdeal := fun m ρ _ =>
  (θ_run Cert.DActRefIdeal.defs _ _).mono (fun r h => ⟨fun c => (h c).2, sem_eq_zero_of_no_sems (by decide) r.2⟩)
    (Cert.DActRefIdeal.Value.run (F := Ideal) m ρ)

end Cert.DActIdeal.Product

end
-- ==== Proof.MmDFfnDown.lean ====
/- The value of `d_ffn_down`: the product `aᵀ · b`, block by block over a grid of row, column and depth blocks, an accumulator carried along the depth. -/
module

public import proofs.«01_k».proof.Defs
public import proofs.«01_k».proof.Proof.Gen.DFfnDown
public import proofs.«01_k».proof.Proof.Gen.DFfnDownIdeal.Value
public import proofs.«01_k».proof.Proof.Gen.DFfnDownRefIdeal.Run
public import proofs.«01_k».proof.Proof.MmSums

@[expose] public section

noncomputable section

namespace Cert.DFfnDownRefIdeal.Product

open Cert.DFfnDownRefIdeal Cert.DFfnDownRefIdeal.Gen Idealize.ShloMosaic Idealize.ShloMosaic.TcCoe

/-- The reference's result at an index. -/
theorem value_at (x : FVec Ideal S4096x5632 .f32) (y : FVec Ideal S4096x2048 .f32) (i : S5632x2048.Idx) :
    (truncf .bf16 (transpose S5632x2048 [1, 0] (Host.dotGeneral dot_S4096x2048_S4096x5632_S2048x5632_0_0_1_1_n_n none y x) transposes_S2048x5632_S5632x2048_1_0) bitsLt_bf16_f32 : FVec Ideal S5632x2048 .bf16) i
      = ∑ k : Fin 4096, (y (ix2 k (i 1)) : EReal) * x (ix2 k (i 0)) := by
  pointwise

end Cert.DFfnDownRefIdeal.Product

namespace Cert.DFfnDownIdeal.Product

open Cert.DFfnDownIdeal Cert.DFfnDownIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S2048x512 .bf16) (h3 : a3.IsWhole)
  (a4 : Memref sig .tc .vmem S2048x1024 .f32) (h4 : a4.IsWhole)
  (a5 : Memref sig .tc .vmem S512x1024 .bf16) (h5 : a5.IsWhole)
  (a6 : Memref sig .tc .vmem S512x1024 .f32) (h6 : a6.IsWhole)
  (x0 : Vec F S2048x512 .bf16) (x1 : Vec F S2048x1024 .f32) (s : Vec F S512x1024 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S2048x512) hz, View.ld_unit_zero (S := S2048x1024) hz, View.ld_unit_zero (S := S512x1024) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S512x1024) _ hz]
  unfold k0_pay3
  simp only [View.readAt_eq_ld, h3.read_unread, h4.read_unread, h6.read_unread, View.ld_unit_zero (S := S2048x512) hz, View.ld_unit_zero (S := S2048x1024) hz, View.ld_unit_zero (S := S512x1024) hz, shapeCast_self]

end Any

variable (m : (ℓ : Loc nD τ sig) → Buf (Elt Ideal) ℓ)

theorem block (x0 : Vec Ideal S2048x512 .bf16) (x1 : Vec Ideal S2048x1024 .f32) (j : S512x1024.Idx) :
    k0_pay1 x0 x1 j = ∑ k : Fin 2048, (x0 (ix2 k (j 0)) : EReal) * x1 (ix2 k (j 1)) := by
  pointwise [k0_pay1]

theorem V_a (c : Dev nD) : (V m c main_v0 : S4096x5632.Idx → EReal) = m ((c.tc : Thread nD τ).loc main_arg0) := by
  show StableHlo.after hostOps0 (fun b => m (c, b)) main_v0 = _
  after_results
  rfl

theorem V_b (c : Dev nD) : (V m c main_arg1 : S4096x2048.Idx → EReal) = m ((c.tc : Thread nD τ).loc main_arg1) := V_main_arg1 m c

abbrev A (c : Dev nD) : S4096x5632.Idx → EReal := m ((c.tc : Thread nD τ).loc main_arg0)

theorem idx_a : ∀ t : Fin cfg0.N, win0_0.index t = ![t.val % 2, t.val / 4] := (by decide +kernel : ∀ t : Fin grid0.N, _)

theorem blk_a (c : Dev nD) (t : Fin cfg0.N) (j : S2048x512.Idx) :
    (iblk m c 0 t j : EReal) = at2 (A m c) (2048 * (t.val % 2) + (j 0).val) (512 * (t.val / 4) + (j 1).val) := by
  show V m c main_v0 (((cfg0.win 0).blk t).view.emb j) = _
  rw [V_a]
  exact at2_of (A m c) _ _ _ (off0 (idx_a t) 2048 (j 0).val :) (off1 (idx_a t) 512 (j 1).val :)

abbrev B (c : Dev nD) : S4096x2048.Idx → EReal := m ((c.tc : Thread nD τ).loc main_arg1)

theorem idx_b : ∀ t : Fin cfg0.N, win0_1.index t = ![t.val % 2, t.val / 2 % 2] := (by decide +kernel : ∀ t : Fin grid0.N, _)

theorem blk_b (c : Dev nD) (t : Fin cfg0.N) (j : S2048x1024.Idx) :
    (iblk m c 1 t j : EReal) = at2 (B m c) (2048 * (t.val % 2) + (j 0).val) (1024 * (t.val / 2 % 2) + (j 1).val) := by
  show V m c main_arg1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) k r * at2 (B m c) k s

theorem block_at (c : Dev nD) (t : Fin cfg0.N) (j : S512x1024.Idx) :
    k0_pay1 (iblk m c 0 t) (iblk m c 1 t) j
      = ∑ k : Fin 2048, term m c (512 * (t.val / 4) + (j 0).val) (1024 * (t.val / 2 % 2) + (j 1).val) (2048 * (t.val % 2) + k.val) := by
  rw [block]
  refine Finset.sum_congr rfl fun k _ => ?_
  rw [blk_a, blk_b]
  rfl

/-- The accumulator before the last block of the depth: the sum so far. -/
theorem acc (c : Dev nD) (j : S512x1024.Idx) : ∀ (n : ℕ) (hn : n < cfg0.N), n % 2 ≠ 1 →
    (outsAt0 m c n hn).2 j
      = ∑ k ∈ Finset.range (2048 * (n % 2 + 1)), term m c (512 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S512x1024.Idx) (n : ℕ) (hn : n < cfg0.N) (h5 : n % 2 = 1) :
    (outsAt0 m c n hn).1 j
      = ∑ k ∈ Finset.range 4096, term m c (512 * (n / 4) + (j 0).val) (1024 * (n / 2 % 2) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S5632x2048.Idx) :
    (Value.G2 m c i : EReal) = ∑ k : Fin 4096, A m c (ix2 k (i 0)) * B m c (ix2 k (i 1)) := by
  have hi0 : (i 0).val < 5632 := (i 0).isLt
  have hi1 : (i 1).val < 2048 := (i 1).isLt
  have hp : Value.pt2Of i = 2 * (2 * ((i 0).val / 512) + (i 1).val / 1024) + 1 := by
    show 2 * (2 * ((i 0).val / 512 - 0) + 1 * ((i 1).val / 1024 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 512 * (Value.pt2Of i / 4) + (Value.loc2Of i 0).val = (i 0).val := by
    show 512 * (Value.pt2Of i / 4) + (i 0).val % 512 = _
    omega
  have e1 : 1024 * (Value.pt2Of i / 2 % 2) + (Value.loc2Of i 1).val = (i 1).val := by
    show 1024 * (Value.pt2Of i / 2 % 2) + (i 1).val % 1024 = _
    omega
  rw [e0, e1, ← sum_first] at e
  refine Eq.trans e ?_
  show (∑ k : Fin 4096, term m c (i 0).val (i 1).val k.val : EReal) = ∑ k : Fin 4096, A m c (ix2 k (i 0)) * B m c (ix2 k (i 1))
  refine Finset.sum_congr rfl fun k _ => ?_
  rw [at2_ix (A m c) k (i 0), at2_ix (B m c) k (i 1)]
  rfl

theorem algebraic : Cert.algebraic_DFfnDownIdeal_DFfnDownRefIdeal := by
  intro m ρ m' ρ' _ h
  refine ⟨fun c => Value.G2 m c, Value.run m ρ,
    (θ_run Cert.DFfnDownRefIdeal.defs _ _).mono (fun r hr c => ⟨(hr c).1.trans ?_, (hr c).2⟩) (Cert.DFfnDownRefIdeal.Value.run m' ρ')⟩
  obtain ⟨h0, h1⟩ := h c
  rw [h0, h1]
  funext i
  refine Eq.trans (Cert.DFfnDownRefIdeal.Product.value_at (A m c) (B m c) i) (Eq.trans ?_ (G_at m c i).symm)
  exact Finset.sum_congr rfl fun k _ => mul_comm _ _

theorem defs_same : Cert.DFfnDown.defs (F := Bits) = defs (F := Bits) := by chain_rfl
theorem main_same : Cert.DFfnDown.main (F := Bits) = main (F := Bits) := by chain_rfl

theorem frame_kernel : Cert.quiescent_DFfnDown := fun m ρ _ => by rw [defs_same, main_same]; exact Gen.frame (F := Bits) m ρ

theorem frame_ideal : Cert.quiescent_DFfnDownIdeal := fun m ρ _ => Gen.frame (F := Ideal) m ρ

theorem frame_reference : Cert.quiescent_DFfnDownRefIdeal := fun m ρ _ =>
  (θ_run Cert.DFfnDownRefIdeal.defs _ _).mono (fun r h => ⟨fun c => (h c).2, sem_eq_zero_of_no_sems (by decide) r.2⟩)
    (Cert.DFfnDownRefIdeal.Value.run (F := Ideal) m ρ)

end Cert.DFfnDownIdeal.Product

end
-- ==== Proof.MmFfnDown.lean ====
/- The value of `ffn_down`: the product `a · b` added to a third array, block by block over a grid of row, column and depth blocks, an accumulator carried along the depth. -/
module

public import proofs.«01_k».proof.Defs
public import proofs.«01_k».proof.Proof.Gen.FfnDown
public import proofs.«01_k».proof.Proof.Gen.FfnDownIdeal.Value
public import proofs.«01_k».proof.Proof.Gen.FfnDownRefIdeal.Run
public import proofs.«01_k».proof.Proof.MmSums

@[expose] public section

noncomputable section

namespace Cert.FfnDownRefIdeal.Product

open Cert.FfnDownRefIdeal Cert.FfnDownRefIdeal.Gen Idealize.ShloMosaic Idealize.ShloMosaic.TcCoe

/-- The reference's result at an index. -/
theorem value_at (x : FVec Ideal S4096x5632 .f32) (y : FVec Ideal S5632x2048 .f32) (z : FVec Ideal S4096x2048 .f32) (i : S4096x2048.Idx) :
    (addf z (Host.dotGeneral dot_S4096x5632_S5632x2048_S4096x2048_1_0_0_1_n_n none x y) : FVec Ideal S4096x2048 .f32) i
      = (z i : EReal) + ∑ k : Fin 5632, (x (ix2 (i 0) k) : EReal) * y (ix2 k (i 1)) := by
  pointwise

end Cert.FfnDownRefIdeal.Product

namespace Cert.FfnDownIdeal.Product

open Cert.FfnDownIdeal Cert.FfnDownIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S1024x2816 .bf16) (h3 : a3.IsWhole)
  (a4 : Memref sig .tc .vmem S2816x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x0 : Vec F S1024x2816 .bf16) (x1 : Vec F S2816x1024 .bf16) (x2 : Vec F S1024x1024 .f32) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz]
  unfold k0_pay2
  simp only [View.readAt_eq_ld, h3.read_unread, h4.read_unread, h5.read_unread, h7.read_unread, View.ld_unit_zero (S := S1024x2816) hz, View.ld_unit_zero (S := S2816x1024) hz, View.ld_unit_zero (S := S1024x1024) hz, shapeCast_self]

/-- The last block is added and the sum stored. -/
theorem out_last (hc0 : ¬cond0_0 i) (hc1 : cond0_1 i) (hc2 : cond0_2 i) :
    out0_B_3 c i a3 h3 a4 h4 a5 h5 a6 h6 a7 h7 hc0 hc1 hc2 x0 x1 x2 s = addf (addf s (k0_pay1 x0 x1)) x2 := by
  unfold out0_B_3
  rw [View.read_writes_eq_canon _ _ _ (cover0_B_3 c i a3 h3 a4 h4 a5 h5 a6 h6 a7 h7 hc0 hc1 hc2 x0 x1 x2 s)]
  unfold kernelRun0_B
  dsimp only
  sl_unfold_words
  rw [View.canon_unit_zero hz, View.readCov_unit_zero (S := S1024x1024) _ hz]
  unfold k0_pay4 k0_pay3
  simp only [View.readAt_eq_ld, h3.read_unread, h4.read_unread, h5.read_unread, h7.read_unread, View.ld_unit_zero (S := S1024x2816) hz, View.ld_unit_zero (S := S2816x1024) hz, View.ld_unit_zero (S := S1024x1024) hz, shapeCast_self]

end Any

variable (m : (ℓ : Loc nD τ sig) → Buf (Elt Ideal) ℓ)

theorem block (x0 : Vec Ideal S1024x2816 .bf16) (x1 : Vec Ideal S2816x1024 .bf16) (j : S1024x1024.Idx) :
    k0_pay1 x0 x1 j = ∑ k : Fin 2816, (x0 (ix2 (j 0) k) : EReal) * x1 (ix2 k (j 1)) := by
  pointwise [k0_pay1]

theorem V_a (c : Dev nD) : (V m c main_v0 : S4096x5632.Idx → EReal) = m ((c.tc : Thread nD τ).loc main_arg0) := by
  show StableHlo.after hostOps0 (fun b => m (c, b)) main_v0 = _
  after_results
  rfl

theorem V_b (c : Dev nD) : (V m c main_v1 : S5632x2048.Idx → EReal) = m ((c.tc : Thread nD τ).loc main_arg1) := by
  show StableHlo.after hostOps0 (fun b => m (c, b)) main_v1 = _
  after_results
  rfl

theorem V_c (c : Dev nD) : (V m c main_arg2 : S4096x2048.Idx → EReal) = m ((c.tc : Thread nD τ).loc main_arg2) := V_main_arg2 m c

abbrev A (c : Dev nD) : S4096x5632.Idx → EReal := m ((c.tc : Thread nD τ).loc main_arg0)

theorem idx_a : ∀ t : Fin cfg0.N, win0_0.index t = ![t.val / 4, t.val % 2] := (by decide +kernel : ∀ t : Fin grid0.N, _)

theorem blk_a (c : Dev nD) (t : Fin cfg0.N) (j : S1024x2816.Idx) :
    (iblk m c 0 t j : EReal) = at2 (A m c) (1024 * (t.val / 4) + (j 0).val) (2816 * (t.val % 2) + (j 1).val) := by
  show V m c main_v0 (((cfg0.win 0).blk t).view.emb j) = _
  rw [V_a]
  exact at2_of (A m c) _ _ _ (off0 (idx_a t) 1024 (j 0).val :) (off1 (idx_a t) 2816 (j 1).val :)

abbrev B (c : Dev nD) : S5632x2048.Idx → EReal := m ((c.tc : Thread nD τ).loc main_arg1)

theorem idx_b : ∀ t : Fin cfg0.N, win0_1.index t = ![t.val % 2, t.val / 2 % 2] := (by decide +kernel : ∀ t : Fin grid0.N, _)

theorem blk_b (c : Dev nD) (t : Fin cfg0.N) (j : S2816x1024.Idx) :
    (iblk m c 1 t j : EReal) = at2 (B m c) (2816 * (t.val % 2) + (j 0).val) (1024 * (t.val / 2 % 2) + (j 1).val) := by
  show V m c main_v1 (((cfg0.win 1).blk t).view.emb j) = _
  rw [V_b]
  exact at2_of (B m c) _ _ _ (off0 (idx_b t) 2816 (j 0).val :) (off1 (idx_b t) 1024 (j 1).val :)

abbrev C (c : Dev nD) : S4096x2048.Idx → EReal := m ((c.tc : Thread nD τ).loc main_arg2)

theorem idx_c : ∀ t : Fin cfg0.N, win0_2.index t = ![t.val / 4, t.val / 2 % 2] := (by decide +kernel : ∀ t : Fin grid0.N, _)

theorem blk_c (c : Dev nD) (t : Fin cfg0.N) (j : S1024x1024.Idx) :
    (iblk m c 2 t j : EReal) = at2 (C m c) (1024 * (t.val / 4) + (j 0).val) (1024 * (t.val / 2 % 2) + (j 1).val) := by
  show V m c main_arg2 (((cfg0.win 2).blk t).view.emb j) = _
  rw [V_c]
  exact at2_of (C m c) _ _ _ (off0 (idx_c t) 1024 (j 0).val :) (off1 (idx_c t) 1024 (j 1).val :)

/-- One term of the product at row `r`, column `s` and depth `k`. -/
def term (c : Dev nD) (r s k : ℕ) : EReal := at2 (A m c) r k * at2 (B m c) k s

theorem block_at (c : Dev nD) (t : Fin cfg0.N) (j : S1024x1024.Idx) :
    k0_pay1 (iblk m c 0 t) (iblk m c 1 t) j
      = ∑ k : Fin 2816, term m c (1024 * (t.val / 4) + (j 0).val) (1024 * (t.val / 2 % 2) + (j 1).val) (2816 * (t.val % 2) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 2 ≠ 1 →
    (outsAt0 m c n hn).2 j
      = ∑ k ∈ Finset.range (2816 * (n % 2 + 1)), term m c (1024 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x1024.Idx) (n : ℕ) (hn : n < cfg0.N) (h5 : n % 2 = 1) :
    (outsAt0 m c n hn).1 j
      = ∑ k ∈ Finset.range 5632, term m c (1024 * (n / 4) + (j 0).val) (1024 * (n / 2 % 2) + (j 1).val) k
        + at2 (C m c) (1024 * (n / 4) + (j 0).val) (1024 * (n / 2 % 2) + (j 1).val) := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) + (iblk m c 2 _ j : EReal) = _
  rw [ih, block_at, blk_c]
  dsimp only
  rw [sum_next, h5]

/-- The result at an index: the whole sum over the depth. -/
theorem G_at (c : Dev nD) (i : S4096x2048.Idx) :
    (Value.G3 m c i : EReal) = ∑ k : Fin 5632, A m c (ix2 (i 0) k) * B m c (ix2 k (i 1)) + C m c i := by
  have hi0 : (i 0).val < 4096 := (i 0).isLt
  have hi1 : (i 1).val < 2048 := (i 1).isLt
  have hp : Value.pt3Of i = 2 * (2 * ((i 0).val / 1024) + (i 1).val / 1024) + 1 := by
    show 2 * (2 * ((i 0).val / 1024 - 0) + 1 * ((i 1).val / 1024 - 0)) + 1 = _
    omega
  have hN : Value.pt3Of i < cfg0.N := lt_of_lt_of_eq (by omega) N_0.symm
  unfold Value.G3
  rw [dif_pos hN, ← Value.outsAt0_sweep m c (Value.pt3Of i) hN]
  have e := out m c (Value.loc3Of i) _ hN (by omega)
  have e0 : 1024 * (Value.pt3Of i / 4) + (Value.loc3Of i 0).val = (i 0).val := by
    show 1024 * (Value.pt3Of i / 4) + (i 0).val % 1024 = _
    omega
  have e1 : 1024 * (Value.pt3Of i / 2 % 2) + (Value.loc3Of i 1).val = (i 1).val := by
    show 1024 * (Value.pt3Of i / 2 % 2) + (i 1).val % 1024 = _
    omega
  rw [e0, e1, ← sum_first] at e
  refine Eq.trans e ?_
  refine congrArg₂ (· + ·) (Finset.sum_congr rfl fun k _ => ?_) (at2_of (C m c) i _ _ rfl rfl).symm
  rw [at2_ix (A m c) (i 0) k, at2_ix (B m c) k (i 1)]
  rfl

theorem algebraic : Cert.algebraic_FfnDownIdeal_FfnDownRefIdeal := by
  intro m ρ m' ρ' _ h
  refine ⟨fun c => Value.G3 m c, Value.run m ρ,
    (θ_run Cert.FfnDownRefIdeal.defs _ _).mono (fun r hr c => ⟨(hr c).1.trans ?_, (hr c).2⟩) (Cert.FfnDownRefIdeal.Value.run m' ρ')⟩
  obtain ⟨h0, h1, h2⟩ := h c
  rw [h0, h1, h2]
  funext i
  refine Eq.trans (Cert.FfnDownRefIdeal.Product.value_at (A m c) (B m c) (C m c) i) (Eq.trans ?_ (G_at m c i).symm)
  exact add_comm (C m c i) _

theorem defs_same : Cert.FfnDown.defs (F := Bits) = defs (F := Bits) := by chain_rfl
theorem main_same : Cert.FfnDown.main (F := Bits) = main (F := Bits) := by chain_rfl

theorem frame_kernel : Cert.quiescent_FfnDown := fun m ρ _ => by rw [defs_same, main_same]; exact Gen.frame (F := Bits) m ρ

theorem frame_ideal : Cert.quiescent_FfnDownIdeal := fun m ρ _ => Gen.frame (F := Ideal) m ρ

theorem frame_reference : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

end Cert.FfnDownIdeal.Product

end
-- ==== Proof.MmBranchA.lean ====
/- The value of `branch_a`: the product `a · b`, a block of the result at each point of a grid of row and column blocks. -/
module

public import proofs.«01_k».proof.Defs
public import proofs.«01_k».proof.Proof.Gen.BranchA
public import proofs.«01_k».proof.Proof.Gen.BranchAIdeal.Value
public import proofs.«01_k».proof.Proof.Gen.BranchARefIdeal.Run
public import proofs.«01_k».proof.Proof.MmSums

@[expose] public section

noncomputable section

namespace Cert.BranchARefIdeal.Product

open Cert.BranchARefIdeal Cert.BranchARefIdeal.Gen Idealize.ShloMosaic Idealize.ShloMosaic.TcCoe

/-- The reference's result at an index. -/
theorem value_at (x : FVec Ideal S4096x2048 .f32) (y : FVec Ideal S2048x2048 .f32) (i : S4096x2048.Idx) :
    (Host.dotGeneral dot_S4096x2048_S2048x2048_S4096x2048_1_0_0_1_n_n none x y : FVec Ideal S4096x2048 .f32) i
      = ∑ k : Fin 2048, (x (ix2 (i 0) k) : EReal) * y (ix2 k (i 1)) := by
  pointwise

end Cert.BranchARefIdeal.Product

namespace Cert.BranchAIdeal.Product

open Cert.BranchAIdeal Cert.BranchAIdeal.Gen Idealize.ShloMosaic Idealize.ShloMosaic.TcCoe Idealize.SL.Sem Cert.MmSums

section Any
variable {F : FTy → Type} [FloatOps F]

theorem out_eq (x0 : Vec F S1024x2048 .bf16) (x1 : Vec F S2048x1024 .bf16) : out0_2 x0 x1 = k0_pay1 x0 x1 := by
  unfold out0_2
  rw [View.canon_unit_zero hz]
  simp only [View.ld_unit_zero (S := S1024x2048) hz, View.ld_unit_zero (S := S2048x1024) hz, View.ld_unit_zero (S := S1024x1024) hz]

end Any

variable (m : (ℓ : Loc nD τ sig) → Buf (Elt Ideal) ℓ)

theorem block (x0 : Vec Ideal S1024x2048 .bf16) (x1 : Vec Ideal S2048x1024 .bf16) (j : S1024x1024.Idx) :
    k0_pay1 x0 x1 j = ∑ k : Fin 2048, (x0 (ix2 (j 0) k) : EReal) * x1 (ix2 k (j 1)) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S2048x2048.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val / 2, 0] := (by decide +kernel : ∀ t : Fin grid0.N, _)

theorem blk_a (c : Dev nD) (t : Fin cfg0.N) (j : S1024x2048.Idx) :
    (iblk m c 0 t j : EReal) = at2 (A m c) (1024 * (t.val / 2) + (j 0).val) (2048 * (0) + (j 1).val) := by
  show V m c main_v0 (((cfg0.win 0).blk t).view.emb j) = _
  rw [V_a]
  exact at2_of (A m c) _ _ _ (off0 (idx_a t) 1024 (j 0).val :) (off1 (idx_a t) 2048 (j 1).val :)

abbrev B (c : Dev nD) : S2048x2048.Idx → EReal := m ((c.tc : Thread nD τ).loc main_arg1)

theorem idx_b : ∀ t : Fin cfg0.N, win0_1.index t = ![0, t.val % 2] := (by decide +kernel : ∀ t : Fin grid0.N, _)

theorem blk_b (c : Dev nD) (t : Fin cfg0.N) (j : S2048x1024.Idx) :
    (iblk m c 1 t j : EReal) = at2 (B m c) (2048 * (0) + (j 0).val) (1024 * (t.val % 2) + (j 1).val) := by
  show V m c main_v1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) r k * at2 (B m c) k s

/-- What a point leaves in the output block. -/
theorem out (c : Dev nD) (t : Fin cfg0.N) (j : S1024x1024.Idx) :
    out0_2 (iblk m c 0 t) (iblk m c 1 t) j
      = ∑ k : Fin 2048, term m c (1024 * (t.val / 2) + (j 0).val) (1024 * (t.val % 2) + (j 1).val) k.val := by
  rw [out_eq, block]
  refine Finset.sum_congr rfl fun k _ => ?_
  rw [blk_a, blk_b]
  simp [term]

/-- The product, index by index. -/
def G (c : Dev nD) : S4096x2048.Idx → EReal := fun i =>
  ∑ k : Fin 2048, A m c (ix2 (i 0) k) * B m c (ix2 k (i 1))

theorem G_term (c : Dev nD) (i : S4096x2048.Idx) (r s : ℕ) (hr : (i 0).val = r) (hs : (i 1).val = s) :
    G m c i = ∑ k : Fin 2048, term m c r s k.val := by
  subst hr hs
  unfold G
  refine Finset.sum_congr rfl fun k _ => ?_
  rw [at2_ix (A m c) (i 0) k, at2_ix (B m c) k (i 1)]
  rfl

theorem idx_o : ∀ t : Fin cfg0.N, win0_2.index t = ![t.val / 2, t.val % 2] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 1024 (j 1).val :)

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have ht : 2 * ((i 0).val / 1024) + (i 1).val / 1024 < cfg0.N := lt_of_lt_of_eq (by omega) N_0.symm
  refine ⟨⟨_, ht⟩, flush_o _, ?_⟩
  show i ∈ ((View.whole main_v2).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x2048.Idx) :
    G m c i = ∑ k : Fin 2048, A m c (ix2 (i 0) k) * B m c (ix2 k (i 1)) := rfl

theorem algebraic : Cert.algebraic_BranchAIdeal_BranchARefIdeal := by
  intro m ρ m' ρ' _ h
  refine ⟨fun c => G m c, (θ_run defs _ _).mono (fun r h c => ⟨(h c).1.trans (final m c), (h c).2⟩) (Value.run_blocks m ρ),
    (θ_run Cert.BranchARefIdeal.defs _ _).mono (fun r hr c => ⟨(hr c).1.trans ?_, (hr c).2⟩) (Cert.BranchARefIdeal.Value.run m' ρ')⟩
  obtain ⟨h0, h1⟩ := h c
  rw [h0, h1]
  funext i
  refine Eq.trans (Cert.BranchARefIdeal.Product.value_at (A m c) (B m c) i) (Eq.trans ?_ (G_at m c i).symm)
  rfl

theorem defs_same : Cert.BranchA.defs (F := Bits) = defs (F := Bits) := by chain_rfl
theorem main_same : Cert.BranchA.main (F := Bits) = main (F := Bits) := by chain_rfl

theorem frame_kernel : Cert.quiescent_BranchA := fun m ρ _ => by rw [defs_same, main_same]; exact Gen.frame (F := Bits) m ρ

theorem frame_ideal : Cert.quiescent_BranchAIdeal := fun m ρ _ => Gen.frame (F := Ideal) m ρ

theorem frame_reference : Cert.quiescent_BranchARefIdeal := fun m ρ _ =>
  (θ_run Cert.BranchARefIdeal.defs _ _).mono (fun r h => ⟨fun c => (h c).2, sem_eq_zero_of_no_sems (by decide) r.2⟩)
    (Cert.BranchARefIdeal.Value.run (F := Ideal) m ρ)

end Cert.BranchAIdeal.Product

end
-- ==== Proof.MmOutProj.lean ====
/- The value of `out_proj`: the product `a · b` added to a third array, a block of the result at each point of a grid of row and column blocks. -/
module

public import proofs.«01_k».proof.Defs
public import proofs.«01_k».proof.Proof.Gen.OutProj
public import proofs.«01_k».proof.Proof.Gen.OutProjIdeal.Value
public import proofs.«01_k».proof.Proof.Gen.OutProjRefIdeal.Run
public import proofs.«01_k».proof.Proof.MmSums

@[expose] public section

noncomputable section

namespace Cert.OutProjRefIdeal.Product

open Cert.OutProjRefIdeal Cert.OutProjRefIdeal.Gen Idealize.ShloMosaic Idealize.ShloMosaic.TcCoe

/-- The reference's result at an index. -/
theorem value_at (x : FVec Ideal S4096x2048 .f32) (y : FVec Ideal S2048x2048 .f32) (z : FVec Ideal S4096x2048 .f32) (i : S4096x2048.Idx) :
    (addf z (Host.dotGeneral dot_S4096x2048_S2048x2048_S4096x2048_1_0_0_1_n_n none x y) : FVec Ideal S4096x2048 .f32) i
      = (z i : EReal) + ∑ k : Fin 2048, (x (ix2 (i 0) k) : EReal) * y (ix2 k (i 1)) := by
  pointwise

end Cert.OutProjRefIdeal.Product

namespace Cert.OutProjIdeal.Product

open Cert.OutProjIdeal Cert.OutProjIdeal.Gen Idealize.ShloMosaic Idealize.ShloMosaic.TcCoe Idealize.SL.Sem Cert.MmSums

section Any
variable {F : FTy → Type} [FloatOps F]

theorem out_eq (x0 : Vec F S1024x2048 .bf16) (x1 : Vec F S2048x1024 .bf16) (x2 : Vec F S1024x1024 .f32) : out0_3 x0 x1 x2 = k0_pay1 x0 x1 x2 := by
  unfold out0_3
  rw [View.canon_unit_zero hz]
  simp only [View.ld_unit_zero (S := S1024x2048) hz, View.ld_unit_zero (S := S2048x1024) hz, View.ld_unit_zero (S := S1024x1024) hz]

end Any

variable (m : (ℓ : Loc nD τ sig) → Buf (Elt Ideal) ℓ)

theorem block (x0 : Vec Ideal S1024x2048 .bf16) (x1 : Vec Ideal S2048x1024 .bf16) (x2 : Vec Ideal S1024x1024 .f32) (j : S1024x1024.Idx) :
    k0_pay1 x0 x1 x2 j = ∑ k : Fin 2048, (x0 (ix2 (j 0) k) : EReal) * x1 (ix2 k (j 1)) + x2 j := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S2048x2048.Idx → EReal) = m ((c.tc : Thread nD τ).loc main_arg1) := by
  show StableHlo.after hostOps0 (fun b => m (c, b)) main_v1 = _
  after_results
  rfl

theorem V_c (c : Dev nD) : (V m c main_arg2 : S4096x2048.Idx → EReal) = m ((c.tc : Thread nD τ).loc main_arg2) := V_main_arg2 m c

abbrev A (c : Dev nD) : S4096x2048.Idx → EReal := m ((c.tc : Thread nD τ).loc main_arg0)

theorem idx_a : ∀ t : Fin cfg0.N, win0_0.index t = ![t.val / 2, 0] := (by decide +kernel : ∀ t : Fin grid0.N, _)

theorem blk_a (c : Dev nD) (t : Fin cfg0.N) (j : S1024x2048.Idx) :
    (iblk m c 0 t j : EReal) = at2 (A m c) (1024 * (t.val / 2) + (j 0).val) (2048 * (0) + (j 1).val) := by
  show V m c main_v0 (((cfg0.win 0).blk t).view.emb j) = _
  rw [V_a]
  exact at2_of (A m c) _ _ _ (off0 (idx_a t) 1024 (j 0).val :) (off1 (idx_a t) 2048 (j 1).val :)

abbrev B (c : Dev nD) : S2048x2048.Idx → EReal := m ((c.tc : Thread nD τ).loc main_arg1)

theorem idx_b : ∀ t : Fin cfg0.N, win0_1.index t = ![0, t.val % 2] := (by decide +kernel : ∀ t : Fin grid0.N, _)

theorem blk_b (c : Dev nD) (t : Fin cfg0.N) (j : S2048x1024.Idx) :
    (iblk m c 1 t j : EReal) = at2 (B m c) (2048 * (0) + (j 0).val) (1024 * (t.val % 2) + (j 1).val) := by
  show V m c main_v1 (((cfg0.win 1).blk t).view.emb j) = _
  rw [V_b]
  exact at2_of (B m c) _ _ _ (off0 (idx_b t) 2048 (j 0).val :) (off1 (idx_b t) 1024 (j 1).val :)

abbrev C (c : Dev nD) : S4096x2048.Idx → EReal := m ((c.tc : Thread nD τ).loc main_arg2)

theorem idx_c : ∀ t : Fin cfg0.N, win0_2.index t = ![t.val / 2, t.val % 2] := (by decide +kernel : ∀ t : Fin grid0.N, _)

theorem blk_c (c : Dev nD) (t : Fin cfg0.N) (j : S1024x1024.Idx) :
    (iblk m c 2 t j : EReal) = at2 (C m c) (1024 * (t.val / 2) + (j 0).val) (1024 * (t.val % 2) + (j 1).val) := by
  show V m c main_arg2 (((cfg0.win 2).blk t).view.emb j) = _
  rw [V_c]
  exact at2_of (C m c) _ _ _ (off0 (idx_c t) 1024 (j 0).val :) (off1 (idx_c t) 1024 (j 1).val :)

/-- One term of the product at row `r`, column `s` and depth `k`. -/
def term (c : Dev nD) (r s k : ℕ) : EReal := at2 (A m c) r k * at2 (B m c) k s

/-- What a point leaves in the output block. -/
theorem out (c : Dev nD) (t : Fin cfg0.N) (j : S1024x1024.Idx) :
    out0_3 (iblk m c 0 t) (iblk m c 1 t) (iblk m c 2 t) j
      = ∑ k : Fin 2048, term m c (1024 * (t.val / 2) + (j 0).val) (1024 * (t.val % 2) + (j 1).val) k.val
        + at2 (C m c) (1024 * (t.val / 2) + (j 0).val) (1024 * (t.val % 2) + (j 1).val) := by
  rw [out_eq, block, blk_c]
  refine congrArg (· + _) (Finset.sum_congr rfl fun k _ => ?_)
  rw [blk_a, blk_b]
  simp [term]

/-- The product, index by index. -/
def G (c : Dev nD) : S4096x2048.Idx → EReal := fun i =>
  ∑ k : Fin 2048, A m c (ix2 (i 0) k) * B m c (ix2 k (i 1)) + C m c i

theorem G_term (c : Dev nD) (i : S4096x2048.Idx) (r s : ℕ) (hr : (i 0).val = r) (hs : (i 1).val = s) :
    G m c i = ∑ k : Fin 2048, term m c r s k.val + at2 (C m c) r s := by
  subst hr hs
  unfold G
  refine congrArg₂ (· + ·) (Finset.sum_congr rfl fun k _ => ?_) (at2_of (C m c) i _ _ rfl rfl)
  rw [at2_ix (A m c) (i 0) k, at2_ix (B m c) k (i 1)]
  rfl

theorem idx_o : ∀ t : Fin cfg0.N, win0_3.index t = ![t.val / 2, t.val % 2] := (by decide +kernel : ∀ t : Fin grid0.N, _)
theorem flush_o : ∀ t : Fin cfg0.N, (cfg0.win 3).flush t = true := (by decide +kernel : ∀ t : Fin grid0.N, win0_3.flush t = true)

theorem flushed_eq (c : Dev nD) (t : Fin cfg0.N) :
    (dats m 0 c).flushed 3 t = ((cfg0.win 3).blk t).view.read (Elt Ideal) (G m c) := by
  rw [Value.flushed3]
  funext j
  show out0_3 (iblk m c 0 t) (iblk m c 1 t) (iblk m c 2 t) j = G m c (((cfg0.win 3).blk t).view.emb j)
  rw [out]
  refine (G_term m c _ _ _ ?_ ?_).symm
  · exact (off0 (idx_o t) 1024 (j 0).val :)
  · exact (off1 (idx_o t) 1024 (j 1).val :)

theorem covered (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have ht : 2 * ((i 0).val / 1024) + (i 1).val / 1024 < cfg0.N := lt_of_lt_of_eq (by omega) N_0.symm
  refine ⟨⟨_, ht⟩, flush_o _, ?_⟩
  show i ∈ ((View.whole main_v2).slice (win0_3.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 3 cfg0.N = G m c :=
  (dats m 0 c).arrAt_eq_of_cover 3 _ (fun t _ => flushed_eq m c t) covered

theorem G_at (c : Dev nD) (i : S4096x2048.Idx) :
    G m c i = ∑ k : Fin 2048, A m c (ix2 (i 0) k) * B m c (ix2 k (i 1)) + C m c i := rfl

theorem algebraic : Cert.algebraic_OutProjIdeal_OutProjRefIdeal := by
  intro m ρ m' ρ' _ h
  refine ⟨fun c => G m c, (θ_run defs _ _).mono (fun r h c => ⟨(h c).1.trans (final m c), (h c).2⟩) (Value.run_blocks m ρ),
    (θ_run Cert.OutProjRefIdeal.defs _ _).mono (fun r hr c => ⟨(hr c).1.trans ?_, (hr c).2⟩) (Cert.OutProjRefIdeal.Value.run m' ρ')⟩
  obtain ⟨h0, h1, h2⟩ := h c
  rw [h0, h1, h2]
  funext i
  refine Eq.trans (Cert.OutProjRefIdeal.Product.value_at (A m c) (B m c) (C m c) i) (Eq.trans ?_ (G_at m c i).symm)
  exact add_comm (C m c i) _

theorem defs_same : Cert.OutProj.defs (F := Bits) = defs (F := Bits) := by chain_rfl
theorem main_same : Cert.OutProj.main (F := Bits) = main (F := Bits) := by chain_rfl

theorem frame_kernel : Cert.quiescent_OutProj := fun m ρ _ => by rw [defs_same, main_same]; exact Gen.frame (F := Bits) m ρ

theorem frame_ideal : Cert.quiescent_OutProjIdeal := fun m ρ _ => Gen.frame (F := Ideal) m ρ

theorem frame_reference : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

end Cert.OutProjIdeal.Product

end
-- ==== Proof.MmDOn.lean ====
/- The value of `d_on`: the product `a · bᵀ`, a block of the result at each point of a grid of row and column blocks. -/
module

public import proofs.«01_k».proof.Defs
public import proofs.«01_k».proof.Proof.Gen.DOn
public import proofs.«01_k».proof.Proof.Gen.DOnIdeal.Value
public import proofs.«01_k».proof.Proof.Gen.DOnRefIdeal.Run
public import proofs.«01_k».proof.Proof.MmSums

@[expose] public section

noncomputable section

namespace Cert.DOnRefIdeal.Product

open Cert.DOnRefIdeal Cert.DOnRefIdeal.Gen Idealize.ShloMosaic Idealize.ShloMosaic.TcCoe

/-- The reference's result at an index. -/
theorem value_at (x : FVec Ideal S4096x2048 .f32) (y : FVec Ideal S2048x2048 .f32) (i : S4096x2048.Idx) :
    (Host.dotGeneral dot_S4096x2048_S2048x2048_S4096x2048_1_1_0_0_n_n none x y : FVec Ideal S4096x2048 .f32) i
      = ∑ k : Fin 2048, (x (ix2 (i 0) k) : EReal) * y (ix2 (i 1) k) := by
  pointwise

end Cert.DOnRefIdeal.Product

namespace Cert.DOnIdeal.Product

open Cert.DOnIdeal Cert.DOnIdeal.Gen Idealize.ShloMosaic Idealize.ShloMosaic.TcCoe Idealize.SL.Sem Cert.MmSums

section Any
variable {F : FTy → Type} [FloatOps F]

theorem out_eq (x0 : Vec F S1024x2048 .bf16) (x1 : Vec F S1024x2048 .bf16) : out0_2 x0 x1 = k0_pay1 x0 x1 := by
  unfold out0_2
  rw [View.canon_unit_zero hz]
  simp only [View.ld_unit_zero (S := S1024x2048) hz, View.ld_unit_zero (S := S1024x1024) hz]

end Any

variable (m : (ℓ : Loc nD τ sig) → Buf (Elt Ideal) ℓ)

theorem block (x0 : Vec Ideal S1024x2048 .bf16) (x1 : Vec Ideal S1024x2048 .bf16) (j : S1024x1024.Idx) :
    k0_pay1 x0 x1 j = ∑ k : Fin 2048, (x0 (ix2 (j 0) k) : EReal) * x1 (ix2 (j 1) k) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S2048x2048.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val / 2, 0] := (by decide +kernel : ∀ t : Fin grid0.N, _)

theorem blk_a (c : Dev nD) (t : Fin cfg0.N) (j : S1024x2048.Idx) :
    (iblk m c 0 t j : EReal) = at2 (A m c) (1024 * (t.val / 2) + (j 0).val) (2048 * (0) + (j 1).val) := by
  show V m c main_v0 (((cfg0.win 0).blk t).view.emb j) = _
  rw [V_a]
  exact at2_of (A m c) _ _ _ (off0 (idx_a t) 1024 (j 0).val :) (off1 (idx_a t) 2048 (j 1).val :)

abbrev B (c : Dev nD) : S2048x2048.Idx → EReal := m ((c.tc : Thread nD τ).loc main_arg1)

theorem idx_b : ∀ t : Fin cfg0.N, win0_1.index t = ![t.val % 2, 0] := (by decide +kernel : ∀ t : Fin grid0.N, _)

theorem blk_b (c : Dev nD) (t : Fin cfg0.N) (j : S1024x2048.Idx) :
    (iblk m c 1 t j : EReal) = at2 (B m c) (1024 * (t.val % 2) + (j 0).val) (2048 * (0) + (j 1).val) := by
  show V m c main_v1 (((cfg0.win 1).blk t).view.emb j) = _
  rw [V_b]
  exact at2_of (B m c) _ _ _ (off0 (idx_b t) 1024 (j 0).val :) (off1 (idx_b t) 2048 (j 1).val :)

/-- One term of the product at row `r`, column `s` and depth `k`. -/
def term (c : Dev nD) (r s k : ℕ) : EReal := at2 (A m c) r k * at2 (B m c) s k

/-- What a point leaves in the output block. -/
theorem out (c : Dev nD) (t : Fin cfg0.N) (j : S1024x1024.Idx) :
    out0_2 (iblk m c 0 t) (iblk m c 1 t) j
      = ∑ k : Fin 2048, term m c (1024 * (t.val / 2) + (j 0).val) (1024 * (t.val % 2) + (j 1).val) k.val := by
  rw [out_eq, block]
  refine Finset.sum_congr rfl fun k _ => ?_
  rw [blk_a, blk_b]
  simp [term]

/-- The product, index by index. -/
def G (c : Dev nD) : S4096x2048.Idx → EReal := fun i =>
  ∑ k : Fin 2048, A m c (ix2 (i 0) k) * B m c (ix2 (i 1) k)

theorem G_term (c : Dev nD) (i : S4096x2048.Idx) (r s : ℕ) (hr : (i 0).val = r) (hs : (i 1).val = s) :
    G m c i = ∑ k : Fin 2048, term m c r s k.val := by
  subst hr hs
  unfold G
  refine Finset.sum_congr rfl fun k _ => ?_
  rw [at2_ix (A m c) (i 0) k, at2_ix (B m c) (i 1) k]
  rfl

theorem idx_o : ∀ t : Fin cfg0.N, win0_2.index t = ![t.val / 2, t.val % 2] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 1024 (j 1).val :)

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have ht : 2 * ((i 0).val / 1024) + (i 1).val / 1024 < cfg0.N := lt_of_lt_of_eq (by omega) N_0.symm
  refine ⟨⟨_, ht⟩, flush_o _, ?_⟩
  show i ∈ ((View.whole main_v2).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x2048.Idx) :
    G m c i = ∑ k : Fin 2048, A m c (ix2 (i 0) k) * B m c (ix2 (i 1) k) := rfl

theorem algebraic : Cert.algebraic_DOnIdeal_DOnRefIdeal := by
  intro m ρ m' ρ' _ h
  refine ⟨fun c => G m c, (θ_run defs _ _).mono (fun r h c => ⟨(h c).1.trans (final m c), (h c).2⟩) (Value.run_blocks m ρ),
    (θ_run Cert.DOnRefIdeal.defs _ _).mono (fun r hr c => ⟨(hr c).1.trans ?_, (hr c).2⟩) (Cert.DOnRefIdeal.Value.run m' ρ')⟩
  obtain ⟨h0, h1⟩ := h c
  rw [h0, h1]
  funext i
  refine Eq.trans (Cert.DOnRefIdeal.Product.value_at (A m c) (B m c) i) (Eq.trans ?_ (G_at m c i).symm)
  rfl

theorem defs_same : Cert.DOn.defs (F := Bits) = defs (F := Bits) := by chain_rfl
theorem main_same : Cert.DOn.main (F := Bits) = main (F := Bits) := by chain_rfl

theorem frame_kernel : Cert.quiescent_DOn := fun m ρ _ => by rw [defs_same, main_same]; exact Gen.frame (F := Bits) m ρ

theorem frame_ideal : Cert.quiescent_DOnIdeal := fun m ρ _ => Gen.frame (F := Ideal) m ρ

theorem frame_reference : Cert.quiescent_DOnRefIdeal := fun m ρ _ =>
  (θ_run Cert.DOnRefIdeal.defs _ _).mono (fun r h => ⟨fun c => (h c).2, sem_eq_zero_of_no_sems (by decide) r.2⟩)
    (Cert.DOnRefIdeal.Value.run (F := Ideal) m ρ)

end Cert.DOnIdeal.Product

end
-- ==== Proof.MmDMerged.lean ====
/- The value of `d_merged`: the product `a · bᵀ`, a block of the result at each point of a grid of row and column blocks. -/
module

public import proofs.«01_k».proof.Defs
public import proofs.«01_k».proof.Proof.Gen.DMerged
public import proofs.«01_k».proof.Proof.Gen.DMergedIdeal.Value
public import proofs.«01_k».proof.Proof.Gen.DMergedRefIdeal.Run
public import proofs.«01_k».proof.Proof.MmSums

@[expose] public section

noncomputable section

namespace Cert.DMergedRefIdeal.Product

open Cert.DMergedRefIdeal Cert.DMergedRefIdeal.Gen Idealize.ShloMosaic Idealize.ShloMosaic.TcCoe

/-- The reference's result at an index. -/
theorem value_at (x : FVec Ideal S4096x2048 .f32) (y : FVec Ideal S2048x2048 .f32) (i : S4096x2048.Idx) :
    (Host.dotGeneral dot_S4096x2048_S2048x2048_S4096x2048_1_1_0_0_n_n none x y : FVec Ideal S4096x2048 .f32) i
      = ∑ k : Fin 2048, (x (ix2 (i 0) k) : EReal) * y (ix2 (i 1) k) := by
  pointwise

end Cert.DMergedRefIdeal.Product

namespace Cert.DMergedIdeal.Product

open Cert.DMergedIdeal Cert.DMergedIdeal.Gen Idealize.ShloMosaic Idealize.ShloMosaic.TcCoe Idealize.SL.Sem Cert.MmSums

section Any
variable {F : FTy → Type} [FloatOps F]

theorem out_eq (x0 : Vec F S1024x2048 .f32) (x1 : Vec F S1024x2048 .bf16) : out0_2 x0 x1 = k0_pay1 x0 x1 := by
  unfold out0_2
  rw [View.canon_unit_zero hz]
  simp only [View.ld_unit_zero (S := S1024x2048) hz, View.ld_unit_zero (S := S1024x1024) hz]

end Any

variable (m : (ℓ : Loc nD τ sig) → Buf (Elt Ideal) ℓ)

theorem block (x0 : Vec Ideal S1024x2048 .f32) (x1 : Vec Ideal S1024x2048 .bf16) (j : S1024x1024.Idx) :
    k0_pay1 x0 x1 j = ∑ k : Fin 2048, (x0 (ix2 (j 0) k) : EReal) * x1 (ix2 (j 1) k) := by
  pointwise [k0_pay1]

theorem V_a (c : Dev nD) : (V m c main_arg0 : S4096x2048.Idx → EReal) = m ((c.tc : Thread nD τ).loc main_arg0) := V_main_arg0 m c

theorem V_b (c : Dev nD) : (V m c main_v0 : S2048x2048.Idx → EReal) = m ((c.tc : Thread nD τ).loc main_arg1) := by
  show StableHlo.after hostOps0 (fun b => m (c, b)) main_v0 = _
  after_results
  rfl

abbrev A (c : Dev nD) : S4096x2048.Idx → EReal := m ((c.tc : Thread nD τ).loc main_arg0)

theorem idx_a : ∀ t : Fin cfg0.N, win0_0.index t = ![t.val / 2, 0] := (by decide +kernel : ∀ t : Fin grid0.N, _)

theorem blk_a (c : Dev nD) (t : Fin cfg0.N) (j : S1024x2048.Idx) :
    (iblk m c 0 t j : EReal) = at2 (A m c) (1024 * (t.val / 2) + (j 0).val) (2048 * (0) + (j 1).val) := by
  show V m c main_arg0 (((cfg0.win 0).blk t).view.emb j) = _
  rw [V_a]
  exact at2_of (A m c) _ _ _ (off0 (idx_a t) 1024 (j 0).val :) (off1 (idx_a t) 2048 (j 1).val :)

abbrev B (c : Dev nD) : S2048x2048.Idx → EReal := m ((c.tc : Thread nD τ).loc main_arg1)

theorem idx_b : ∀ t : Fin cfg0.N, win0_1.index t = ![t.val % 2, 0] := (by decide +kernel : ∀ t : Fin grid0.N, _)

theorem blk_b (c : Dev nD) (t : Fin cfg0.N) (j : S1024x2048.Idx) :
    (iblk m c 1 t j : EReal) = at2 (B m c) (1024 * (t.val % 2) + (j 0).val) (2048 * (0) + (j 1).val) := by
  show V m c main_v0 (((cfg0.win 1).blk t).view.emb j) = _
  rw [V_b]
  exact at2_of (B m c) _ _ _ (off0 (idx_b t) 1024 (j 0).val :) (off1 (idx_b t) 2048 (j 1).val :)

/-- One term of the product at row `r`, column `s` and depth `k`. -/
def term (c : Dev nD) (r s k : ℕ) : EReal := at2 (A m c) r k * at2 (B m c) s k

/-- What a point leaves in the output block. -/
theorem out (c : Dev nD) (t : Fin cfg0.N) (j : S1024x1024.Idx) :
    out0_2 (iblk m c 0 t) (iblk m c 1 t) j
      = ∑ k : Fin 2048, term m c (1024 * (t.val / 2) + (j 0).val) (1024 * (t.val % 2) + (j 1).val) k.val := by
  rw [out_eq, block]
  refine Finset.sum_congr rfl fun k _ => ?_
  rw [blk_a, blk_b]
  simp [term]

/-- The product, index by index. -/
def G (c : Dev nD) : S4096x2048.Idx → EReal := fun i =>
  ∑ k : Fin 2048, A m c (ix2 (i 0) k) * B m c (ix2 (i 1) k)

theorem G_term (c : Dev nD) (i : S4096x2048.Idx) (r s : ℕ) (hr : (i 0).val = r) (hs : (i 1).val = s) :
    G m c i = ∑ k : Fin 2048, term m c r s k.val := by
  subst hr hs
  unfold G
  refine Finset.sum_congr rfl fun k _ => ?_
  rw [at2_ix (A m c) (i 0) k, at2_ix (B m c) (i 1) k]
  rfl

theorem idx_o : ∀ t : Fin cfg0.N, win0_2.index t = ![t.val / 2, t.val % 2] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 1024 (j 1).val :)

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have ht : 2 * ((i 0).val / 1024) + (i 1).val / 1024 < cfg0.N := lt_of_lt_of_eq (by omega) N_0.symm
  refine ⟨⟨_, ht⟩, flush_o _, ?_⟩
  show i ∈ ((View.whole main_v1).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x2048.Idx) :
    G m c i = ∑ k : Fin 2048, A m c (ix2 (i 0) k) * B m c (ix2 (i 1) k) := rfl

theorem algebraic : Cert.algebraic_DMergedIdeal_DMergedRefIdeal := by
  intro m ρ m' ρ' _ h
  refine ⟨fun c => G m c, (θ_run defs _ _).mono (fun r h c => ⟨(h c).1.trans (final m c), (h c).2⟩) (Value.run_blocks m ρ),
    (θ_run Cert.DMergedRefIdeal.defs _ _).mono (fun r hr c => ⟨(hr c).1.trans ?_, (hr c).2⟩) (Cert.DMergedRefIdeal.Value.run m' ρ')⟩
  obtain ⟨h0, h1⟩ := h c
  rw [h0, h1]
  funext i
  refine Eq.trans (Cert.DMergedRefIdeal.Product.value_at (A m c) (B m c) i) (Eq.trans ?_ (G_at m c i).symm)
  rfl

theorem defs_same : Cert.DMerged.defs (F := Bits) = defs (F := Bits) := by chain_rfl
theorem main_same : Cert.DMerged.main (F := Bits) = main (F := Bits) := by chain_rfl

theorem frame_kernel : Cert.quiescent_DMerged := fun m ρ _ => by rw [defs_same, main_same]; exact Gen.frame (F := Bits) m ρ

theorem frame_ideal : Cert.quiescent_DMergedIdeal := fun m ρ _ => Gen.frame (F := Ideal) m ρ

theorem frame_reference : Cert.quiescent_DMergedRefIdeal := fun m ρ _ =>
  (θ_run Cert.DMergedRefIdeal.defs _ _).mono (fun r h => ⟨fun c => (h c).2, sem_eq_zero_of_no_sems (by decide) r.2⟩)
    (Cert.DMergedRefIdeal.Value.run (F := Ideal) m ρ)

end Cert.DMergedIdeal.Product

end
-- ==== Proof.MmDBranchA.lean ====
/- The value of `d_branch_a`: the product `aᵀ · b`, block by block over a grid of row, column and depth blocks, an accumulator carried along the depth. -/
module

public import proofs.«01_k».proof.Defs
public import proofs.«01_k».proof.Proof.Gen.DBranchA
public import proofs.«01_k».proof.Proof.Gen.DBranchAIdeal.Value
public import proofs.«01_k».proof.Proof.Gen.DBranchARefIdeal.Run
public import proofs.«01_k».proof.Proof.MmSums

@[expose] public section

noncomputable section

namespace Cert.DBranchARefIdeal.Product

open Cert.DBranchARefIdeal Cert.DBranchARefIdeal.Gen Idealize.ShloMosaic Idealize.ShloMosaic.TcCoe

/-- The reference's result at an index. -/
theorem value_at (x : FVec Ideal S4096x2048 .f32) (y : FVec Ideal S4096x2048 .f32) (i : S2048x2048.Idx) :
    (truncf .bf16 (transpose S2048x2048 [1, 0] (Host.dotGeneral dot_S4096x2048_S4096x2048_S2048x2048_0_0_1_1_n_n none y x) transposes_S2048x2048_S2048x2048_1_0) bitsLt_bf16_f32 : FVec Ideal S2048x2048 .bf16) i
      = ∑ k : Fin 4096, (y (ix2 k (i 1)) : EReal) * x (ix2 k (i 0)) := by
  pointwise

end Cert.DBranchARefIdeal.Product

namespace Cert.DBranchAIdeal.Product

open Cert.DBranchAIdeal Cert.DBranchAIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x0 : Vec F S2048x1024 .bf16) (x1 : Vec F S2048x1024 .bf16) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S2048x1024) hz, View.ld_unit_zero (S := S1024x1024) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz, View.ld_unit_zero (S := S1024x1024) hz, shapeCast_self]

end Any

variable (m : (ℓ : Loc nD τ sig) → Buf (Elt Ideal) ℓ)

theorem block (x0 : Vec Ideal S2048x1024 .bf16) (x1 : Vec Ideal S2048x1024 .bf16) (j : S1024x1024.Idx) :
    k0_pay1 x0 x1 j = ∑ k : Fin 2048, (x0 (ix2 k (j 0)) : EReal) * x1 (ix2 k (j 1)) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S4096x2048.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val % 2, t.val / 4] := (by decide +kernel : ∀ t : Fin grid0.N, _)

theorem blk_a (c : Dev nD) (t : Fin cfg0.N) (j : S2048x1024.Idx) :
    (iblk m c 0 t j : EReal) = at2 (A m c) (2048 * (t.val % 2) + (j 0).val) (1024 * (t.val / 4) + (j 1).val) := by
  show V m c main_v0 (((cfg0.win 0).blk t).view.emb j) = _
  rw [V_a]
  exact at2_of (A m c) _ _ _ (off0 (idx_a t) 2048 (j 0).val :) (off1 (idx_a t) 1024 (j 1).val :)

abbrev B (c : Dev nD) : S4096x2048.Idx → EReal := m ((c.tc : Thread nD τ).loc main_arg1)

theorem idx_b : ∀ t : Fin cfg0.N, win0_1.index t = ![t.val % 2, t.val / 2 % 2] := (by decide +kernel : ∀ t : Fin grid0.N, _)

theorem blk_b (c : Dev nD) (t : Fin cfg0.N) (j : S2048x1024.Idx) :
    (iblk m c 1 t j : EReal) = at2 (B m c) (2048 * (t.val % 2) + (j 0).val) (1024 * (t.val / 2 % 2) + (j 1).val) := by
  show V m c main_v1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) k r * at2 (B m c) k s

theorem block_at (c : Dev nD) (t : Fin cfg0.N) (j : S1024x1024.Idx) :
    k0_pay1 (iblk m c 0 t) (iblk m c 1 t) j
      = ∑ k : Fin 2048, term m c (1024 * (t.val / 4) + (j 0).val) (1024 * (t.val / 2 % 2) + (j 1).val) (2048 * (t.val % 2) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 2 ≠ 1 →
    (outsAt0 m c n hn).2 j
      = ∑ k ∈ Finset.range (2048 * (n % 2 + 1)), term m c (1024 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x1024.Idx) (n : ℕ) (hn : n < cfg0.N) (h5 : n % 2 = 1) :
    (outsAt0 m c n hn).1 j
      = ∑ k ∈ Finset.range 4096, term m c (1024 * (n / 4) + (j 0).val) (1024 * (n / 2 % 2) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S2048x2048.Idx) :
    (Value.G2 m c i : EReal) = ∑ k : Fin 4096, A m c (ix2 k (i 0)) * B m c (ix2 k (i 1)) := by
  have hi0 : (i 0).val < 2048 := (i 0).isLt
  have hi1 : (i 1).val < 2048 := (i 1).isLt
  have hp : Value.pt2Of i = 2 * (2 * ((i 0).val / 1024) + (i 1).val / 1024) + 1 := by
    show 2 * (2 * ((i 0).val / 1024 - 0) + 1 * ((i 1).val / 1024 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 1024 * (Value.pt2Of i / 4) + (Value.loc2Of i 0).val = (i 0).val := by
    show 1024 * (Value.pt2Of i / 4) + (i 0).val % 1024 = _
    omega
  have e1 : 1024 * (Value.pt2Of i / 2 % 2) + (Value.loc2Of i 1).val = (i 1).val := by
    show 1024 * (Value.pt2Of i / 2 % 2) + (i 1).val % 1024 = _
    omega
  rw [e0, e1, ← sum_first] at e
  refine Eq.trans e ?_
  show (∑ k : Fin 4096, term m c (i 0).val (i 1).val k.val : EReal) = ∑ k : Fin 4096, A m c (ix2 k (i 0)) * B m c (ix2 k (i 1))
  refine Finset.sum_congr rfl fun k _ => ?_
  rw [at2_ix (A m c) k (i 0), at2_ix (B m c) k (i 1)]
  rfl

theorem algebraic : Cert.algebraic_DBranchAIdeal_DBranchARefIdeal := by
  intro m ρ m' ρ' _ h
  refine ⟨fun c => Value.G2 m c, Value.run m ρ,
    (θ_run Cert.DBranchARefIdeal.defs _ _).mono (fun r hr c => ⟨(hr c).1.trans ?_, (hr c).2⟩) (Cert.DBranchARefIdeal.Value.run m' ρ')⟩
  obtain ⟨h0, h1⟩ := h c
  rw [h0, h1]
  funext i
  refine Eq.trans (Cert.DBranchARefIdeal.Product.value_at (A m c) (B m c) i) (Eq.trans ?_ (G_at m c i).symm)
  exact Finset.sum_congr rfl fun k _ => mul_comm _ _

theorem defs_same : Cert.DBranchA.defs (F := Bits) = defs (F := Bits) := by chain_rfl
theorem main_same : Cert.DBranchA.main (F := Bits) = main (F := Bits) := by chain_rfl

theorem frame_kernel : Cert.quiescent_DBranchA := fun m ρ _ => by rw [defs_same, main_same]; exact Gen.frame (F := Bits) m ρ

theorem frame_ideal : Cert.quiescent_DBranchAIdeal := fun m ρ _ => Gen.frame (F := Ideal) m ρ

theorem frame_reference : Cert.quiescent_DBranchARefIdeal := fun m ρ _ =>
  (θ_run Cert.DBranchARefIdeal.defs _ _).mono (fun r h => ⟨fun c => (h c).2, sem_eq_zero_of_no_sems (by decide) r.2⟩)
    (Cert.DBranchARefIdeal.Value.run (F := Ideal) m ρ)

end Cert.DBranchAIdeal.Product

end
-- ==== Proof.MmDWOut.lean ====
/- The value of `d_w_out`: the product `aᵀ · b`, block by block over a grid of row, column and depth blocks, an accumulator carried along the depth. -/
module

public import proofs.«01_k».proof.Defs
public import proofs.«01_k».proof.Proof.Gen.DWOut
public import proofs.«01_k».proof.Proof.Gen.DWOutIdeal.Value
public import proofs.«01_k».proof.Proof.Gen.DWOutRefIdeal.Run
public import proofs.«01_k».proof.Proof.MmSums

@[expose] public section

noncomputable section

namespace Cert.DWOutRefIdeal.Product

open Cert.DWOutRefIdeal Cert.DWOutRefIdeal.Gen Idealize.ShloMosaic Idealize.ShloMosaic.TcCoe

/-- The reference's result at an index. -/
theorem value_at (x : FVec Ideal S4096x2048 .f32) (y : FVec Ideal S4096x2048 .f32) (i : S2048x2048.Idx) :
    (truncf .bf16 (transpose S2048x2048 [1, 0] (Host.dotGeneral dot_S4096x2048_S4096x2048_S2048x2048_0_0_1_1_n_n none y x) transposes_S2048x2048_S2048x2048_1_0) bitsLt_bf16_f32 : FVec Ideal S2048x2048 .bf16) i
      = ∑ k : Fin 4096, (y (ix2 k (i 1)) : EReal) * x (ix2 k (i 0)) := by
  pointwise

end Cert.DWOutRefIdeal.Product

namespace Cert.DWOutIdeal.Product

open Cert.DWOutIdeal Cert.DWOutIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S2048x1024 .bf16) (h3 : a3.IsWhole)
  (a4 : Memref sig .tc .vmem S2048x1024 .f32) (h4 : a4.IsWhole)
  (a5 : Memref sig .tc .vmem S1024x1024 .bf16) (h5 : a5.IsWhole)
  (a6 : Memref sig .tc .vmem S1024x1024 .f32) (h6 : a6.IsWhole)
  (x0 : Vec F S2048x1024 .bf16) (x1 : Vec F S2048x1024 .f32) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S2048x1024) hz, View.ld_unit_zero (S := S1024x1024) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz, View.ld_unit_zero (S := S1024x1024) hz, shapeCast_self]

end Any

variable (m : (ℓ : Loc nD τ sig) → Buf (Elt Ideal) ℓ)

theorem block (x0 : Vec Ideal S2048x1024 .bf16) (x1 : Vec Ideal S2048x1024 .f32) (j : S1024x1024.Idx) :
    k0_pay1 x0 x1 j = ∑ k : Fin 2048, (x0 (ix2 k (j 0)) : EReal) * x1 (ix2 k (j 1)) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_arg1 : S4096x2048.Idx → EReal) = m ((c.tc : Thread nD τ).loc main_arg1) := V_main_arg1 m c

abbrev A (c : Dev nD) : S4096x2048.Idx → EReal := m ((c.tc : Thread nD τ).loc main_arg0)

theorem idx_a : ∀ t : Fin cfg0.N, win0_0.index t = ![t.val % 2, t.val / 4] := (by decide +kernel : ∀ t : Fin grid0.N, _)

theorem blk_a (c : Dev nD) (t : Fin cfg0.N) (j : S2048x1024.Idx) :
    (iblk m c 0 t j : EReal) = at2 (A m c) (2048 * (t.val % 2) + (j 0).val) (1024 * (t.val / 4) + (j 1).val) := by
  show V m c main_v0 (((cfg0.win 0).blk t).view.emb j) = _
  rw [V_a]
  exact at2_of (A m c) _ _ _ (off0 (idx_a t) 2048 (j 0).val :) (off1 (idx_a t) 1024 (j 1).val :)

abbrev B (c : Dev nD) : S4096x2048.Idx → EReal := m ((c.tc : Thread nD τ).loc main_arg1)

theorem idx_b : ∀ t : Fin cfg0.N, win0_1.index t = ![t.val % 2, t.val / 2 % 2] := (by decide +kernel : ∀ t : Fin grid0.N, _)

theorem blk_b (c : Dev nD) (t : Fin cfg0.N) (j : S2048x1024.Idx) :
    (iblk m c 1 t j : EReal) = at2 (B m c) (2048 * (t.val % 2) + (j 0).val) (1024 * (t.val / 2 % 2) + (j 1).val) := by
  show V m c main_arg1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) k r * at2 (B m c) k s

theorem block_at (c : Dev nD) (t : Fin cfg0.N) (j : S1024x1024.Idx) :
    k0_pay1 (iblk m c 0 t) (iblk m c 1 t) j
      = ∑ k : Fin 2048, term m c (1024 * (t.val / 4) + (j 0).val) (1024 * (t.val / 2 % 2) + (j 1).val) (2048 * (t.val % 2) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 2 ≠ 1 →
    (outsAt0 m c n hn).2 j
      = ∑ k ∈ Finset.range (2048 * (n % 2 + 1)), term m c (1024 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x1024.Idx) (n : ℕ) (hn : n < cfg0.N) (h5 : n % 2 = 1) :
    (outsAt0 m c n hn).1 j
      = ∑ k ∈ Finset.range 4096, term m c (1024 * (n / 4) + (j 0).val) (1024 * (n / 2 % 2) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S2048x2048.Idx) :
    (Value.G2 m c i : EReal) = ∑ k : Fin 4096, A m c (ix2 k (i 0)) * B m c (ix2 k (i 1)) := by
  have hi0 : (i 0).val < 2048 := (i 0).isLt
  have hi1 : (i 1).val < 2048 := (i 1).isLt
  have hp : Value.pt2Of i = 2 * (2 * ((i 0).val / 1024) + (i 1).val / 1024) + 1 := by
    show 2 * (2 * ((i 0).val / 1024 - 0) + 1 * ((i 1).val / 1024 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 1024 * (Value.pt2Of i / 4) + (Value.loc2Of i 0).val = (i 0).val := by
    show 1024 * (Value.pt2Of i / 4) + (i 0).val % 1024 = _
    omega
  have e1 : 1024 * (Value.pt2Of i / 2 % 2) + (Value.loc2Of i 1).val = (i 1).val := by
    show 1024 * (Value.pt2Of i / 2 % 2) + (i 1).val % 1024 = _
    omega
  rw [e0, e1, ← sum_first] at e
  refine Eq.trans e ?_
  show (∑ k : Fin 4096, term m c (i 0).val (i 1).val k.val : EReal) = ∑ k : Fin 4096, A m c (ix2 k (i 0)) * B m c (ix2 k (i 1))
  refine Finset.sum_congr rfl fun k _ => ?_
  rw [at2_ix (A m c) k (i 0), at2_ix (B m c) k (i 1)]
  rfl

theorem algebraic : Cert.algebraic_DWOutIdeal_DWOutRefIdeal := by
  intro m ρ m' ρ' _ h
  refine ⟨fun c => Value.G2 m c, Value.run m ρ,
    (θ_run Cert.DWOutRefIdeal.defs _ _).mono (fun r hr c => ⟨(hr c).1.trans ?_, (hr c).2⟩) (Cert.DWOutRefIdeal.Value.run m' ρ')⟩
  obtain ⟨h0, h1⟩ := h c
  rw [h0, h1]
  funext i
  refine Eq.trans (Cert.DWOutRefIdeal.Product.value_at (A m c) (B m c) i) (Eq.trans ?_ (G_at m c i).symm)
  exact Finset.sum_congr rfl fun k _ => mul_comm _ _

theorem defs_same : Cert.DWOut.defs (F := Bits) = defs (F := Bits) := by chain_rfl
theorem main_same : Cert.DWOut.main (F := Bits) = main (F := Bits) := by chain_rfl

theorem frame_kernel : Cert.quiescent_DWOut := fun m ρ _ => by rw [defs_same, main_same]; exact Gen.frame (F := Bits) m ρ

theorem frame_ideal : Cert.quiescent_DWOutIdeal := fun m ρ _ => Gen.frame (F := Ideal) m ρ

theorem frame_reference : Cert.quiescent_DWOutRefIdeal := fun m ρ _ =>
  (θ_run Cert.DWOutRefIdeal.defs _ _).mono (fun r h => ⟨fun c => (h c).2, sem_eq_zero_of_no_sems (by decide) r.2⟩)
    (Cert.DWOutRefIdeal.Value.run (F := Ideal) m ρ)

end Cert.DWOutIdeal.Product

end
-- ==== Proof.MmBranchB.lean ====
/- The value of `branch_b`: the product `a · b`, a block of the result at each point of a grid of row and column blocks. -/
module

public import proofs.«01_k».proof.Defs
public import proofs.«01_k».proof.Proof.Gen.BranchB
public import proofs.«01_k».proof.Proof.Gen.BranchBIdeal.Value
public import proofs.«01_k».proof.Proof.Gen.BranchBRefIdeal.Run
public import proofs.«01_k».proof.Proof.MmSums

@[expose] public section

noncomputable section

namespace Cert.BranchBRefIdeal.Product

open Cert.BranchBRefIdeal Cert.BranchBRefIdeal.Gen Idealize.ShloMosaic Idealize.ShloMosaic.TcCoe

/-- The reference's result at an index. -/
theorem value_at (x : FVec Ideal S4096x1024 .f32) (y : FVec Ideal S1024x2048 .f32) (i : S4096x2048.Idx) :
    (Host.dotGeneral dot_S4096x1024_S1024x2048_S4096x2048_1_0_0_1_n_n none x y : FVec Ideal S4096x2048 .f32) i
      = ∑ k : Fin 1024, (x (ix2 (i 0) k) : EReal) * y (ix2 k (i 1)) := by
  pointwise

end Cert.BranchBRefIdeal.Product

namespace Cert.BranchBIdeal.Product

open Cert.BranchBIdeal Cert.BranchBIdeal.Gen Idealize.ShloMosaic Idealize.ShloMosaic.TcCoe Idealize.SL.Sem Cert.MmSums

section Any
variable {F : FTy → Type} [FloatOps F]

theorem out_eq (x0 : Vec F S1024x1024 .bf16) (x1 : Vec F S1024x1024 .bf16) : out0_2 x0 x1 = k0_pay1 x0 x1 := by
  unfold out0_2
  rw [View.canon_unit_zero hz]
  simp only [View.ld_unit_zero (S := S1024x1024) hz]

end Any

variable (m : (ℓ : Loc nD τ sig) → Buf (Elt Ideal) ℓ)

theorem block (x0 : Vec Ideal S1024x1024 .bf16) (x1 : Vec Ideal S1024x1024 .bf16) (j : S1024x1024.Idx) :
    k0_pay1 x0 x1 j = ∑ k : Fin 1024, (x0 (ix2 (j 0) k) : EReal) * x1 (ix2 k (j 1)) := by
  pointwise [k0_pay1]

theorem V_a (c : Dev nD) : (V m c main_v0 : S4096x1024.Idx → EReal) = m ((c.tc : Thread nD τ).loc main_arg0) := by
  show StableHlo.after hostOps0 (fun b => m (c, b)) main_v0 = _
  after_results
  rfl

theorem V_b (c : Dev nD) : (V m c main_v1 : S1024x2048.Idx → EReal) = m ((c.tc : Thread nD τ).loc main_arg1) := by
  show StableHlo.after hostOps0 (fun b => m (c, b)) main_v1 = _
  after_results
  rfl

abbrev A (c : Dev nD) : S4096x1024.Idx → EReal := m ((c.tc : Thread nD τ).loc main_arg0)

theorem idx_a : ∀ t : Fin cfg0.N, win0_0.index t = ![t.val / 2, 0] := (by decide +kernel : ∀ t : Fin grid0.N, _)

theorem blk_a (c : Dev nD) (t : Fin cfg0.N) (j : S1024x1024.Idx) :
    (iblk m c 0 t j : EReal) = at2 (A m c) (1024 * (t.val / 2) + (j 0).val) (1024 * (0) + (j 1).val) := by
  show V m c main_v0 (((cfg0.win 0).blk t).view.emb j) = _
  rw [V_a]
  exact at2_of (A m c) _ _ _ (off0 (idx_a t) 1024 (j 0).val :) (off1 (idx_a t) 1024 (j 1).val :)

abbrev B (c : Dev nD) : S1024x2048.Idx → EReal := m ((c.tc : Thread nD τ).loc main_arg1)

theorem idx_b : ∀ t : Fin cfg0.N, win0_1.index t = ![0, t.val % 2] := (by decide +kernel : ∀ t : Fin grid0.N, _)

theorem blk_b (c : Dev nD) (t : Fin cfg0.N) (j : S1024x1024.Idx) :
    (iblk m c 1 t j : EReal) = at2 (B m c) (1024 * (0) + (j 0).val) (1024 * (t.val % 2) + (j 1).val) := by
  show V m c main_v1 (((cfg0.win 1).blk t).view.emb j) = _
  rw [V_b]
  exact at2_of (B m c) _ _ _ (off0 (idx_b t) 1024 (j 0).val :) (off1 (idx_b t) 1024 (j 1).val :)

/-- One term of the product at row `r`, column `s` and depth `k`. -/
def term (c : Dev nD) (r s k : ℕ) : EReal := at2 (A m c) r k * at2 (B m c) k s

/-- What a point leaves in the output block. -/
theorem out (c : Dev nD) (t : Fin cfg0.N) (j : S1024x1024.Idx) :
    out0_2 (iblk m c 0 t) (iblk m c 1 t) j
      = ∑ k : Fin 1024, term m c (1024 * (t.val / 2) + (j 0).val) (1024 * (t.val % 2) + (j 1).val) k.val := by
  rw [out_eq, block]
  refine Finset.sum_congr rfl fun k _ => ?_
  rw [blk_a, blk_b]
  simp [term]

/-- The product, index by index. -/
def G (c : Dev nD) : S4096x2048.Idx → EReal := fun i =>
  ∑ k : Fin 1024, A m c (ix2 (i 0) k) * B m c (ix2 k (i 1))

theorem G_term (c : Dev nD) (i : S4096x2048.Idx) (r s : ℕ) (hr : (i 0).val = r) (hs : (i 1).val = s) :
    G m c i = ∑ k : Fin 1024, term m c r s k.val := by
  subst hr hs
  unfold G
  refine Finset.sum_congr rfl fun k _ => ?_
  rw [at2_ix (A m c) (i 0) k, at2_ix (B m c) k (i 1)]
  rfl

theorem idx_o : ∀ t : Fin cfg0.N, win0_2.index t = ![t.val / 2, t.val % 2] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 1024 (j 1).val :)

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have ht : 2 * ((i 0).val / 1024) + (i 1).val / 1024 < cfg0.N := lt_of_lt_of_eq (by omega) N_0.symm
  refine ⟨⟨_, ht⟩, flush_o _, ?_⟩
  show i ∈ ((View.whole main_v2).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x2048.Idx) :
    G m c i = ∑ k : Fin 1024, A m c (ix2 (i 0) k) * B m c (ix2 k (i 1)) := rfl

theorem algebraic : Cert.algebraic_BranchBIdeal_BranchBRefIdeal := by
  intro m ρ m' ρ' _ h
  refine ⟨fun c => G m c, (θ_run defs _ _).mono (fun r h c => ⟨(h c).1.trans (final m c), (h c).2⟩) (Value.run_blocks m ρ),
    (θ_run Cert.BranchBRefIdeal.defs _ _).mono (fun r hr c => ⟨(hr c).1.trans ?_, (hr c).2⟩) (Cert.BranchBRefIdeal.Value.run m' ρ')⟩
  obtain ⟨h0, h1⟩ := h c
  rw [h0, h1]
  funext i
  refine Eq.trans (Cert.BranchBRefIdeal.Product.value_at (A m c) (B m c) i) (Eq.trans ?_ (G_at m c i).symm)
  rfl

theorem defs_same : Cert.BranchB.defs (F := Bits) = defs (F := Bits) := by chain_rfl
theorem main_same : Cert.BranchB.main (F := Bits) = main (F := Bits) := by chain_rfl

theorem frame_kernel : Cert.quiescent_BranchB := fun m ρ _ => by rw [defs_same, main_same]; exact Gen.frame (F := Bits) m ρ

theorem frame_ideal : Cert.quiescent_BranchBIdeal := fun m ρ _ => Gen.frame (F := Ideal) m ρ

theorem frame_reference : Cert.quiescent_BranchBRefIdeal := fun m ρ _ =>
  (θ_run Cert.BranchBRefIdeal.defs _ _).mono (fun r h => ⟨fun c => (h c).2, sem_eq_zero_of_no_sems (by decide) r.2⟩)
    (Cert.BranchBRefIdeal.Value.run (F := Ideal) m ρ)

end Cert.BranchBIdeal.Product

end
-- ==== Proof.MmDSgu.lean ====
/- The value of `d_sgu`: the product `a · bᵀ`, a block of the result at each point of a grid of row and column blocks. -/
module

public import proofs.«01_k».proof.Defs
public import proofs.«01_k».proof.Proof.Gen.DSgu
public import proofs.«01_k».proof.Proof.Gen.DSguIdeal.Value
public import proofs.«01_k».proof.Proof.Gen.DSguRefIdeal.Run
public import proofs.«01_k».proof.Proof.MmSums

@[expose] public section

noncomputable section

namespace Cert.DSguRefIdeal.Product

open Cert.DSguRefIdeal Cert.DSguRefIdeal.Gen Idealize.ShloMosaic Idealize.ShloMosaic.TcCoe

/-- The reference's result at an index. -/
theorem value_at (x : FVec Ideal S4096x2048 .f32) (y : FVec Ideal S1024x2048 .f32) (i : S4096x1024.Idx) :
    (Host.dotGeneral dot_S4096x2048_S1024x2048_S4096x1024_1_1_0_0_n_n none x y : FVec Ideal S4096x1024 .f32) i
      = ∑ k : Fin 2048, (x (ix2 (i 0) k) : EReal) * y (ix2 (i 1) k) := by
  pointwise

end Cert.DSguRefIdeal.Product

namespace Cert.DSguIdeal.Product

open Cert.DSguIdeal Cert.DSguIdeal.Gen Idealize.ShloMosaic Idealize.ShloMosaic.TcCoe Idealize.SL.Sem Cert.MmSums

section Any
variable {F : FTy → Type} [FloatOps F]

theorem out_eq (x0 : Vec F S1024x2048 .bf16) (x1 : Vec F S1024x2048 .bf16) : out0_2 x0 x1 = k0_pay1 x0 x1 := by
  unfold out0_2
  rw [View.canon_unit_zero hz]
  simp only [View.ld_unit_zero (S := S1024x2048) hz, View.ld_unit_zero (S := S1024x1024) hz]

end Any

variable (m : (ℓ : Loc nD τ sig) → Buf (Elt Ideal) ℓ)

theorem block (x0 : Vec Ideal S1024x2048 .bf16) (x1 : Vec Ideal S1024x2048 .bf16) (j : S1024x1024.Idx) :
    k0_pay1 x0 x1 j = ∑ k : Fin 2048, (x0 (ix2 (j 0) k) : EReal) * x1 (ix2 (j 1) k) := by
  pointwise [k0_pay1]

theorem V_a (c : Dev nD) : (V m c main_v0 : S4096x2048.Idx → EReal) = m ((c.tc : Thread nD τ).loc main_arg0) := by
  show StableHlo.after hostOps0 (fun b => m (c, b)) main_v0 = _
  after_results
  rfl

theorem V_b (c : Dev nD) : (V m c main_v1 : S1024x2048.Idx → EReal) = m ((c.tc : Thread nD τ).loc main_arg1) := by
  show StableHlo.after hostOps0 (fun b => m (c, b)) main_v1 = _
  after_results
  rfl

abbrev A (c : Dev nD) : S4096x2048.Idx → EReal := m ((c.tc : Thread nD τ).loc main_arg0)

theorem idx_a : ∀ t : Fin cfg0.N, win0_0.index t = ![t.val / 1, 0] := (by decide +kernel : ∀ t : Fin grid0.N, _)

theorem blk_a (c : Dev nD) (t : Fin cfg0.N) (j : S1024x2048.Idx) :
    (iblk m c 0 t j : EReal) = at2 (A m c) (1024 * (t.val / 1) + (j 0).val) (2048 * (0) + (j 1).val) := by
  show V m c main_v0 (((cfg0.win 0).blk t).view.emb j) = _
  rw [V_a]
  exact at2_of (A m c) _ _ _ (off0 (idx_a t) 1024 (j 0).val :) (off1 (idx_a t) 2048 (j 1).val :)

abbrev B (c : Dev nD) : S1024x2048.Idx → EReal := m ((c.tc : Thread nD τ).loc main_arg1)

theorem idx_b : ∀ t : Fin cfg0.N, win0_1.index t = ![t.val % 1, 0] := (by decide +kernel : ∀ t : Fin grid0.N, _)

theorem blk_b (c : Dev nD) (t : Fin cfg0.N) (j : S1024x2048.Idx) :
    (iblk m c 1 t j : EReal) = at2 (B m c) (1024 * (t.val % 1) + (j 0).val) (2048 * (0) + (j 1).val) := by
  show V m c main_v1 (((cfg0.win 1).blk t).view.emb j) = _
  rw [V_b]
  exact at2_of (B m c) _ _ _ (off0 (idx_b t) 1024 (j 0).val :) (off1 (idx_b t) 2048 (j 1).val :)

/-- One term of the product at row `r`, column `s` and depth `k`. -/
def term (c : Dev nD) (r s k : ℕ) : EReal := at2 (A m c) r k * at2 (B m c) s k

/-- What a point leaves in the output block. -/
theorem out (c : Dev nD) (t : Fin cfg0.N) (j : S1024x1024.Idx) :
    out0_2 (iblk m c 0 t) (iblk m c 1 t) j
      = ∑ k : Fin 2048, term m c (1024 * (t.val / 1) + (j 0).val) (1024 * (t.val % 1) + (j 1).val) k.val := by
  rw [out_eq, block]
  refine Finset.sum_congr rfl fun k _ => ?_
  rw [blk_a, blk_b]
  simp [term]

/-- The product, index by index. -/
def G (c : Dev nD) : S4096x1024.Idx → EReal := fun i =>
  ∑ k : Fin 2048, A m c (ix2 (i 0) k) * B m c (ix2 (i 1) k)

theorem G_term (c : Dev nD) (i : S4096x1024.Idx) (r s : ℕ) (hr : (i 0).val = r) (hs : (i 1).val = s) :
    G m c i = ∑ k : Fin 2048, term m c r s k.val := by
  subst hr hs
  unfold G
  refine Finset.sum_congr rfl fun k _ => ?_
  rw [at2_ix (A m c) (i 0) k, at2_ix (B m c) (i 1) k]
  rfl

theorem idx_o : ∀ t : Fin cfg0.N, win0_2.index t = ![t.val / 1, t.val % 1] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 1024 (j 1).val :)

theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : 1 * ((i 0).val / 1024) + (i 1).val / 1024 < cfg0.N := lt_of_lt_of_eq (by omega) N_0.symm
  refine ⟨⟨_, ht⟩, flush_o _, ?_⟩
  show i ∈ ((View.whole main_v2).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x1024.Idx) :
    G m c i = ∑ k : Fin 2048, A m c (ix2 (i 0) k) * B m c (ix2 (i 1) k) := rfl

theorem algebraic : Cert.algebraic_DSguIdeal_DSguRefIdeal := by
  intro m ρ m' ρ' _ h
  refine ⟨fun c => G m c, (θ_run defs _ _).mono (fun r h c => ⟨(h c).1.trans (final m c), (h c).2⟩) (Value.run_blocks m ρ),
    (θ_run Cert.DSguRefIdeal.defs _ _).mono (fun r hr c => ⟨(hr c).1.trans ?_, (hr c).2⟩) (Cert.DSguRefIdeal.Value.run m' ρ')⟩
  obtain ⟨h0, h1⟩ := h c
  rw [h0, h1]
  funext i
  refine Eq.trans (Cert.DSguRefIdeal.Product.value_at (A m c) (B m c) i) (Eq.trans ?_ (G_at m c i).symm)
  rfl

theorem defs_same : Cert.DSgu.defs (F := Bits) = defs (F := Bits) := by chain_rfl
theorem main_same : Cert.DSgu.main (F := Bits) = main (F := Bits) := by chain_rfl

theorem frame_kernel : Cert.quiescent_DSgu := fun m ρ _ => by rw [defs_same, main_same]; exact Gen.frame (F := Bits) m ρ

theorem frame_ideal : Cert.quiescent_DSguIdeal := fun m ρ _ => Gen.frame (F := Ideal) m ρ

theorem frame_reference : Cert.quiescent_DSguRefIdeal := fun m ρ _ =>
  (θ_run Cert.DSguRefIdeal.defs _ _).mono (fun r h => ⟨fun c => (h c).2, sem_eq_zero_of_no_sems (by decide) r.2⟩)
    (Cert.DSguRefIdeal.Value.run (F := Ideal) m ρ)

end Cert.DSguIdeal.Product

end
-- ==== Proof.MmDBranchB.lean ====
/- The value of `d_branch_b`: the product `aᵀ · b`, block by block over a grid of row, column and depth blocks, an accumulator carried along the depth. -/
module

public import proofs.«01_k».proof.Defs
public import proofs.«01_k».proof.Proof.Gen.DBranchB
public import proofs.«01_k».proof.Proof.Gen.DBranchBIdeal.Value
public import proofs.«01_k».proof.Proof.Gen.DBranchBRefIdeal.Run
public import proofs.«01_k».proof.Proof.MmSums

@[expose] public section

noncomputable section

namespace Cert.DBranchBRefIdeal.Product

open Cert.DBranchBRefIdeal Cert.DBranchBRefIdeal.Gen Idealize.ShloMosaic Idealize.ShloMosaic.TcCoe

/-- The reference's result at an index. -/
theorem value_at (x : FVec Ideal S4096x1024 .f32) (y : FVec Ideal S4096x2048 .f32) (i : S1024x2048.Idx) :
    (truncf .bf16 (transpose S1024x2048 [1, 0] (Host.dotGeneral dot_S4096x2048_S4096x1024_S2048x1024_0_0_1_1_n_n none y x) transposes_S2048x1024_S1024x2048_1_0) bitsLt_bf16_f32 : FVec Ideal S1024x2048 .bf16) i
      = ∑ k : Fin 4096, (y (ix2 k (i 1)) : EReal) * x (ix2 k (i 0)) := by
  pointwise

end Cert.DBranchBRefIdeal.Product

namespace Cert.DBranchBIdeal.Product

open Cert.DBranchBIdeal Cert.DBranchBIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x0 : Vec F S2048x1024 .bf16) (x1 : Vec F S2048x1024 .bf16) (s : Vec F S1024x1024 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S2048x1024) hz, View.ld_unit_zero (S := S1024x1024) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz, View.ld_unit_zero (S := S1024x1024) hz, shapeCast_self]

end Any

variable (m : (ℓ : Loc nD τ sig) → Buf (Elt Ideal) ℓ)

theorem block (x0 : Vec Ideal S2048x1024 .bf16) (x1 : Vec Ideal S2048x1024 .bf16) (j : S1024x1024.Idx) :
    k0_pay1 x0 x1 j = ∑ k : Fin 2048, (x0 (ix2 k (j 0)) : EReal) * x1 (ix2 k (j 1)) := by
  pointwise [k0_pay1]

theorem V_a (c : Dev nD) : (V m c main_v0 : S4096x1024.Idx → EReal) = m ((c.tc : Thread nD τ).loc main_arg0) := by
  show StableHlo.after hostOps0 (fun b => m (c, b)) main_v0 = _
  after_results
  rfl

theorem V_b (c : Dev nD) : (V m c main_v1 : S4096x2048.Idx → EReal) = m ((c.tc : Thread nD τ).loc main_arg1) := by
  show StableHlo.after hostOps0 (fun b => m (c, b)) main_v1 = _
  after_results
  rfl

abbrev A (c : Dev nD) : S4096x1024.Idx → EReal := m ((c.tc : Thread nD τ).loc main_arg0)

theorem idx_a : ∀ t : Fin cfg0.N, win0_0.index t = ![t.val % 2, t.val / 4] := (by decide +kernel : ∀ t : Fin grid0.N, _)

theorem blk_a (c : Dev nD) (t : Fin cfg0.N) (j : S2048x1024.Idx) :
    (iblk m c 0 t j : EReal) = at2 (A m c) (2048 * (t.val % 2) + (j 0).val) (1024 * (t.val / 4) + (j 1).val) := by
  show V m c main_v0 (((cfg0.win 0).blk t).view.emb j) = _
  rw [V_a]
  exact at2_of (A m c) _ _ _ (off0 (idx_a t) 2048 (j 0).val :) (off1 (idx_a t) 1024 (j 1).val :)

abbrev B (c : Dev nD) : S4096x2048.Idx → EReal := m ((c.tc : Thread nD τ).loc main_arg1)

theorem idx_b : ∀ t : Fin cfg0.N, win0_1.index t = ![t.val % 2, t.val / 2 % 2] := (by decide +kernel : ∀ t : Fin grid0.N, _)

theorem blk_b (c : Dev nD) (t : Fin cfg0.N) (j : S2048x1024.Idx) :
    (iblk m c 1 t j : EReal) = at2 (B m c) (2048 * (t.val % 2) + (j 0).val) (1024 * (t.val / 2 % 2) + (j 1).val) := by
  show V m c main_v1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) k r * at2 (B m c) k s

theorem block_at (c : Dev nD) (t : Fin cfg0.N) (j : S1024x1024.Idx) :
    k0_pay1 (iblk m c 0 t) (iblk m c 1 t) j
      = ∑ k : Fin 2048, term m c (1024 * (t.val / 4) + (j 0).val) (1024 * (t.val / 2 % 2) + (j 1).val) (2048 * (t.val % 2) + k.val) := by
  rw [block]
  refine Finset.sum_congr rfl fun k _ => ?_
  rw [blk_a, blk_b]
  rfl

/-- The accumulator before the last block of the depth: the sum so far. -/
theorem acc (c : Dev nD) (j : S1024x1024.Idx) : ∀ (n : ℕ) (hn : n < cfg0.N), n % 2 ≠ 1 →
    (outsAt0 m c n hn).2 j
      = ∑ k ∈ Finset.range (2048 * (n % 2 + 1)), term m c (1024 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S1024x1024.Idx) (n : ℕ) (hn : n < cfg0.N) (h5 : n % 2 = 1) :
    (outsAt0 m c n hn).1 j
      = ∑ k ∈ Finset.range 4096, term m c (1024 * (n / 4) + (j 0).val) (1024 * (n / 2 % 2) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S1024x2048.Idx) :
    (Value.G2 m c i : EReal) = ∑ k : Fin 4096, A m c (ix2 k (i 0)) * B m c (ix2 k (i 1)) := by
  have hi0 : (i 0).val < 1024 := (i 0).isLt
  have hi1 : (i 1).val < 2048 := (i 1).isLt
  have hp : Value.pt2Of i = 2 * (2 * ((i 0).val / 1024) + (i 1).val / 1024) + 1 := by
    show 2 * (2 * ((i 0).val / 1024 - 0) + 1 * ((i 1).val / 1024 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 1024 * (Value.pt2Of i / 4) + (Value.loc2Of i 0).val = (i 0).val := by
    show 1024 * (Value.pt2Of i / 4) + (i 0).val % 1024 = _
    omega
  have e1 : 1024 * (Value.pt2Of i / 2 % 2) + (Value.loc2Of i 1).val = (i 1).val := by
    show 1024 * (Value.pt2Of i / 2 % 2) + (i 1).val % 1024 = _
    omega
  rw [e0, e1, ← sum_first] at e
  refine Eq.trans e ?_
  show (∑ k : Fin 4096, term m c (i 0).val (i 1).val k.val : EReal) = ∑ k : Fin 4096, A m c (ix2 k (i 0)) * B m c (ix2 k (i 1))
  refine Finset.sum_congr rfl fun k _ => ?_
  rw [at2_ix (A m c) k (i 0), at2_ix (B m c) k (i 1)]
  rfl

theorem algebraic : Cert.algebraic_DBranchBIdeal_DBranchBRefIdeal := by
  intro m ρ m' ρ' _ h
  refine ⟨fun c => Value.G2 m c, Value.run m ρ,
    (θ_run Cert.DBranchBRefIdeal.defs _ _).mono (fun r hr c => ⟨(hr c).1.trans ?_, (hr c).2⟩) (Cert.DBranchBRefIdeal.Value.run m' ρ')⟩
  obtain ⟨h0, h1⟩ := h c
  rw [h0, h1]
  funext i
  refine Eq.trans (Cert.DBranchBRefIdeal.Product.value_at (A m c) (B m c) i) (Eq.trans ?_ (G_at m c i).symm)
  exact Finset.sum_congr rfl fun k _ => mul_comm _ _

theorem defs_same : Cert.DBranchB.defs (F := Bits) = defs (F := Bits) := by chain_rfl
theorem main_same : Cert.DBranchB.main (F := Bits) = main (F := Bits) := by chain_rfl

theorem frame_kernel : Cert.quiescent_DBranchB := fun m ρ _ => by rw [defs_same, main_same]; exact Gen.frame (F := Bits) m ρ

theorem frame_ideal : Cert.quiescent_DBranchBIdeal := fun m ρ _ => Gen.frame (F := Ideal) m ρ

theorem frame_reference : Cert.quiescent_DBranchBRefIdeal := fun m ρ _ =>
  (θ_run Cert.DBranchBRefIdeal.defs _ _).mono (fun r h => ⟨fun c => (h c).2, sem_eq_zero_of_no_sems (by decide) r.2⟩)
    (Cert.DBranchBRefIdeal.Value.run (F := Ideal) m ρ)

end Cert.DBranchBIdeal.Product

end
-- ==== Proof.MmPleProj.lean ====
/- The value of `ple_proj`: the product `a · b`, a block of the result at each point of a grid of row and column blocks. -/
module

public import proofs.«01_k».proof.Defs
public import proofs.«01_k».proof.Proof.Gen.PleProj
public import proofs.«01_k».proof.Proof.Gen.PleProjIdeal.Value
public import proofs.«01_k».proof.Proof.Gen.PleProjRefIdeal.Run
public import proofs.«01_k».proof.Proof.MmSums

@[expose] public section

noncomputable section

namespace Cert.PleProjRefIdeal.Product

open Cert.PleProjRefIdeal Cert.PleProjRefIdeal.Gen Idealize.ShloMosaic Idealize.ShloMosaic.TcCoe

/-- The reference's result at an index. -/
theorem value_at (x : FVec Ideal S4096x256 .f32) (y : FVec Ideal S256x2048 .f32) (i : S4096x2048.Idx) :
    (Host.dotGeneral dot_S4096x256_S256x2048_S4096x2048_1_0_0_1_n_n none x y : FVec Ideal S4096x2048 .f32) i
      = ∑ k : Fin 256, (x (ix2 (i 0) k) : EReal) * y (ix2 k (i 1)) := by
  pointwise

end Cert.PleProjRefIdeal.Product

namespace Cert.PleProjIdeal.Product

open Cert.PleProjIdeal Cert.PleProjIdeal.Gen Idealize.ShloMosaic Idealize.ShloMosaic.TcCoe Idealize.SL.Sem Cert.MmSums

section Any
variable {F : FTy → Type} [FloatOps F]

theorem out_eq (x0 : Vec F S1024x256 .bf16) (x1 : Vec F S256x1024 .bf16) : out0_2 x0 x1 = k0_pay1 x0 x1 := by
  unfold out0_2
  rw [View.canon_unit_zero hz]
  simp only [View.ld_unit_zero (S := S1024x256) hz, View.ld_unit_zero (S := S256x1024) hz, View.ld_unit_zero (S := S1024x1024) hz]

end Any

variable (m : (ℓ : Loc nD τ sig) → Buf (Elt Ideal) ℓ)

theorem block (x0 : Vec Ideal S1024x256 .bf16) (x1 : Vec Ideal S256x1024 .bf16) (j : S1024x1024.Idx) :
    k0_pay1 x0 x1 j = ∑ k : Fin 256, (x0 (ix2 (j 0) k) : EReal) * x1 (ix2 k (j 1)) := by
  pointwise [k0_pay1]

theorem V_a (c : Dev nD) : (V m c main_v0 : S4096x256.Idx → EReal) = m ((c.tc : Thread nD τ).loc main_arg0) := by
  show StableHlo.after hostOps0 (fun b => m (c, b)) main_v0 = _
  after_results
  rfl

theorem V_b (c : Dev nD) : (V m c main_v1 : S256x2048.Idx → EReal) = m ((c.tc : Thread nD τ).loc main_arg1) := by
  show StableHlo.after hostOps0 (fun b => m (c, b)) main_v1 = _
  after_results
  rfl

abbrev A (c : Dev nD) : S4096x256.Idx → EReal := m ((c.tc : Thread nD τ).loc main_arg0)

theorem idx_a : ∀ t : Fin cfg0.N, win0_0.index t = ![t.val / 2, 0] := (by decide +kernel : ∀ t : Fin grid0.N, _)

theorem blk_a (c : Dev nD) (t : Fin cfg0.N) (j : S1024x256.Idx) :
    (iblk m c 0 t j : EReal) = at2 (A m c) (1024 * (t.val / 2) + (j 0).val) (256 * (0) + (j 1).val) := by
  show V m c main_v0 (((cfg0.win 0).blk t).view.emb j) = _
  rw [V_a]
  exact at2_of (A m c) _ _ _ (off0 (idx_a t) 1024 (j 0).val :) (off1 (idx_a t) 256 (j 1).val :)

abbrev B (c : Dev nD) : S256x2048.Idx → EReal := m ((c.tc : Thread nD τ).loc main_arg1)

theorem idx_b : ∀ t : Fin cfg0.N, win0_1.index t = ![0, t.val % 2] := (by decide +kernel : ∀ t : Fin grid0.N, _)

theorem blk_b (c : Dev nD) (t : Fin cfg0.N) (j : S256x1024.Idx) :
    (iblk m c 1 t j : EReal) = at2 (B m c) (256 * (0) + (j 0).val) (1024 * (t.val % 2) + (j 1).val) := by
  show V m c main_v1 (((cfg0.win 1).blk t).view.emb j) = _
  rw [V_b]
  exact at2_of (B m c) _ _ _ (off0 (idx_b t) 256 (j 0).val :) (off1 (idx_b t) 1024 (j 1).val :)

/-- One term of the product at row `r`, column `s` and depth `k`. -/
def term (c : Dev nD) (r s k : ℕ) : EReal := at2 (A m c) r k * at2 (B m c) k s

/-- What a point leaves in the output block. -/
theorem out (c : Dev nD) (t : Fin cfg0.N) (j : S1024x1024.Idx) :
    out0_2 (iblk m c 0 t) (iblk m c 1 t) j
      = ∑ k : Fin 256, term m c (1024 * (t.val / 2) + (j 0).val) (1024 * (t.val % 2) + (j 1).val) k.val := by
  rw [out_eq, block]
  refine Finset.sum_congr rfl fun k _ => ?_
  rw [blk_a, blk_b]
  simp [term]

/-- The product, index by index. -/
def G (c : Dev nD) : S4096x2048.Idx → EReal := fun i =>
  ∑ k : Fin 256, A m c (ix2 (i 0) k) * B m c (ix2 k (i 1))

theorem G_term (c : Dev nD) (i : S4096x2048.Idx) (r s : ℕ) (hr : (i 0).val = r) (hs : (i 1).val = s) :
    G m c i = ∑ k : Fin 256, term m c r s k.val := by
  subst hr hs
  unfold G
  refine Finset.sum_congr rfl fun k _ => ?_
  rw [at2_ix (A m c) (i 0) k, at2_ix (B m c) k (i 1)]
  rfl

theorem idx_o : ∀ t : Fin cfg0.N, win0_2.index t = ![t.val / 2, t.val % 2] := (by decide +kernel : ∀ t : Fin grid0.N, _)
theorem flush_o : ∀ t : Fin cfg0.N, (cfg0.win 2).flush t = true := (by decide +kernel : ∀ t : Fin grid0.N, win0_2.flush t = true)

theorem flushed_eq (c : Dev nD) (t : Fin cfg0.N) :
    (dats m 0 c).flushed 2 t = ((cfg0.win 2).blk t).view.read (Elt Ideal) (G m c) := by
  rw [Value.flushed2]
  funext j
  show out0_2 (iblk m c 0 t) (iblk m c 1 t) j = G m c (((cfg0.win 2).blk t).view.emb j)
  rw [out]
  refine (G_term m c _ _ _ ?_ ?_).symm
  · exact (off0 (idx_o t) 1024 (j 0).val :)
  · exact (off1 (idx_o t) 1024 (j 1).val :)

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have ht : 2 * ((i 0).val / 1024) + (i 1).val / 1024 < cfg0.N := lt_of_lt_of_eq (by omega) N_0.symm
  refine ⟨⟨_, ht⟩, flush_o _, ?_⟩
  show i ∈ ((View.whole main_v2).slice (win0_2.rect ⟨_, ht⟩)).set
  rw [View.set_slice_whole, Rect.mem_set_unit]
  exact Fin.forall_fin_two.mpr ⟨(tile0 (idx_o ⟨_, ht⟩) 1024 (i 0).val (by dsimp only; omega) :),
    (tile1 (idx_o ⟨_, ht⟩) 1024 (i 1).val (by dsimp only; omega) :)⟩

theorem final (c : Dev nD) : (dats m 0 c).arrAt 2 cfg0.N = G m c :=
  (dats m 0 c).arrAt_eq_of_cover 2 _ (fun t _ => flushed_eq m c t) covered

theorem G_at (c : Dev nD) (i : S4096x2048.Idx) :
    G m c i = ∑ k : Fin 256, A m c (ix2 (i 0) k) * B m c (ix2 k (i 1)) := rfl

theorem algebraic : Cert.algebraic_PleProjIdeal_PleProjRefIdeal := by
  intro m ρ m' ρ' _ h
  refine ⟨fun c => G m c, (θ_run defs _ _).mono (fun r h c => ⟨(h c).1.trans (final m c), (h c).2⟩) (Value.run_blocks m ρ),
    (θ_run Cert.PleProjRefIdeal.defs _ _).mono (fun r hr c => ⟨(hr c).1.trans ?_, (hr c).2⟩) (Cert.PleProjRefIdeal.Value.run m' ρ')⟩
  obtain ⟨h0, h1⟩ := h c
  rw [h0, h1]
  funext i
  refine Eq.trans (Cert.PleProjRefIdeal.Product.value_at (A m c) (B m c) i) (Eq.trans ?_ (G_at m c i).symm)
  rfl

theorem defs_same : Cert.PleProj.defs (F := Bits) = defs (F := Bits) := by chain_rfl
theorem main_same : Cert.PleProj.main (F := Bits) = main (F := Bits) := by chain_rfl

theorem frame_kernel : Cert.quiescent_PleProj := fun m ρ _ => by rw [defs_same, main_same]; exact Gen.frame (F := Bits) m ρ

theorem frame_ideal : Cert.quiescent_PleProjIdeal := fun m ρ _ => Gen.frame (F := Ideal) m ρ

theorem frame_reference : Cert.quiescent_PleProjRefIdeal := fun m ρ _ =>
  (θ_run Cert.PleProjRefIdeal.defs _ _).mono (fun r h => ⟨fun c => (h c).2, sem_eq_zero_of_no_sems (by decide) r.2⟩)
    (Cert.PleProjRefIdeal.Value.run (F := Ideal) m ρ)

end Cert.PleProjIdeal.Product

end
-- ==== Proof.MmDPleProj.lean ====
/- The value of `d_ple_proj`: the product `aᵀ · b`, block by block over a grid of row, column and depth blocks, an accumulator carried along the depth. -/
module

public import proofs.«01_k».proof.Defs
public import proofs.«01_k».proof.Proof.Gen.DPleProj
public import proofs.«01_k».proof.Proof.Gen.DPleProjIdeal.Value
public import proofs.«01_k».proof.Proof.Gen.DPleProjRefIdeal.Run
public import proofs.«01_k».proof.Proof.MmSums

@[expose] public section

noncomputable section

namespace Cert.DPleProjRefIdeal.Product

open Cert.DPleProjRefIdeal Cert.DPleProjRefIdeal.Gen Idealize.ShloMosaic Idealize.ShloMosaic.TcCoe

/-- The reference's result at an index. -/
theorem value_at (x : FVec Ideal S4096x256 .f32) (y : FVec Ideal S4096x2048 .f32) (i : S256x2048.Idx) :
    (truncf .bf16 (transpose S256x2048 [1, 0] (Host.dotGeneral dot_S4096x2048_S4096x256_S2048x256_0_0_1_1_n_n none y x) transposes_S2048x256_S256x2048_1_0) bitsLt_bf16_f32 : FVec Ideal S256x2048 .bf16) i
      = ∑ k : Fin 4096, (y (ix2 k (i 1)) : EReal) * x (ix2 k (i 0)) := by
  pointwise

end Cert.DPleProjRefIdeal.Product

namespace Cert.DPleProjIdeal.Product

open Cert.DPleProjIdeal Cert.DPleProjIdeal.Gen Idealize.ShloMosaic Idealize.ShloMosaic.TcCoe Idealize.SL.Sem Cert.MmSums

section Any
variable {F : FTy → Type} [FloatOps F]
variable (c : Dev nD) (i : grid0.Coords)
  (a3 : Memref sig .tc .vmem S2048x256 .bf16) (h3 : a3.IsWhole)
  (a4 : Memref sig .tc .vmem S2048x1024 .bf16) (h4 : a4.IsWhole)
  (a5 : Memref sig .tc .vmem S256x1024 .bf16) (h5 : a5.IsWhole)
  (a6 : Memref sig .tc .vmem S256x1024 .f32) (h6 : a6.IsWhole)
  (x0 : Vec F S2048x256 .bf16) (x1 : Vec F S2048x1024 .bf16) (s : Vec F S256x1024 .f32)

/-- The first block of the depth starts the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, h6.read_unread, View.ld_unit_zero (S := S2048x256) hz, View.ld_unit_zero (S := S2048x1024) hz, View.ld_unit_zero (S := S256x1024) hz, shapeCast_self]

/-- The last block is added and the sum stored. -/
theorem out_last (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero hz, View.readCov_unit_zero (S := S256x1024) _ hz]
  unfold k0_pay3
  simp only [View.readAt_eq_ld, h3.read_unread, h4.read_unread, h6.read_unread, View.ld_unit_zero (S := S2048x256) hz, View.ld_unit_zero (S := S2048x1024) hz, View.ld_unit_zero (S := S256x1024) hz, shapeCast_self]

end Any

variable (m : (ℓ : Loc nD τ sig) → Buf (Elt Ideal) ℓ)

theorem block (x0 : Vec Ideal S2048x256 .bf16) (x1 : Vec Ideal S2048x1024 .bf16) (j : S256x1024.Idx) :
    k0_pay1 x0 x1 j = ∑ k : Fin 2048, (x0 (ix2 k (j 0)) : EReal) * x1 (ix2 k (j 1)) := by
  pointwise [k0_pay1]

theorem V_a (c : Dev nD) : (V m c main_v0 : S4096x256.Idx → EReal) = m ((c.tc : Thread nD τ).loc main_arg0) := by
  show StableHlo.after hostOps0 (fun b => m (c, b)) main_v0 = _
  after_results
  rfl

theorem V_b (c : Dev nD) : (V m c main_v1 : S4096x2048.Idx → EReal) = m ((c.tc : Thread nD τ).loc main_arg1) := by
  show StableHlo.after hostOps0 (fun b => m (c, b)) main_v1 = _
  after_results
  rfl

abbrev A (c : Dev nD) : S4096x256.Idx → EReal := m ((c.tc : Thread nD τ).loc main_arg0)

theorem idx_a : ∀ t : Fin cfg0.N, win0_0.index t = ![t.val % 2, t.val / 4] := (by decide +kernel : ∀ t : Fin grid0.N, _)

theorem blk_a (c : Dev nD) (t : Fin cfg0.N) (j : S2048x256.Idx) :
    (iblk m c 0 t j : EReal) = at2 (A m c) (2048 * (t.val % 2) + (j 0).val) (256 * (t.val / 4) + (j 1).val) := by
  show V m c main_v0 (((cfg0.win 0).blk t).view.emb j) = _
  rw [V_a]
  exact at2_of (A m c) _ _ _ (off0 (idx_a t) 2048 (j 0).val :) (off1 (idx_a t) 256 (j 1).val :)

abbrev B (c : Dev nD) : S4096x2048.Idx → EReal := m ((c.tc : Thread nD τ).loc main_arg1)

theorem idx_b : ∀ t : Fin cfg0.N, win0_1.index t = ![t.val % 2, t.val / 2 % 2] := (by decide +kernel : ∀ t : Fin grid0.N, _)

theorem blk_b (c : Dev nD) (t : Fin cfg0.N) (j : S2048x1024.Idx) :
    (iblk m c 1 t j : EReal) = at2 (B m c) (2048 * (t.val % 2) + (j 0).val) (1024 * (t.val / 2 % 2) + (j 1).val) := by
  show V m c main_v1 (((cfg0.win 1).blk t).view.emb j) = _
  rw [V_b]
  exact at2_of (B m c) _ _ _ (off0 (idx_b t) 2048 (j 0).val :) (off1 (idx_b t) 1024 (j 1).val :)

/-- One term of the product at row `r`, column `s` and depth `k`. -/
def term (c : Dev nD) (r s k : ℕ) : EReal := at2 (A m c) k r * at2 (B m c) k s

theorem block_at (c : Dev nD) (t : Fin cfg0.N) (j : S256x1024.Idx) :
    k0_pay1 (iblk m c 0 t) (iblk m c 1 t) j
      = ∑ k : Fin 2048, term m c (256 * (t.val / 4) + (j 0).val) (1024 * (t.val / 2 % 2) + (j 1).val) (2048 * (t.val % 2) + k.val) := by
  rw [block]
  refine Finset.sum_congr rfl fun k _ => ?_
  rw [blk_a, blk_b]
  rfl

/-- The accumulator before the last block of the depth: the sum so far. -/
theorem acc (c : Dev nD) (j : S256x1024.Idx) : ∀ (n : ℕ) (hn : n < cfg0.N), n % 2 ≠ 1 →
    (outsAt0 m c n hn).2 j
      = ∑ k ∈ Finset.range (2048 * (n % 2 + 1)), term m c (256 * (n / 4) + (j 0).val) (1024 * (n / 2 % 2) + (j 1).val) k
  | 0, hn, h5 => by
    rw [outsAt0_A m c ⟨0, hn⟩ (by simp) (by simp) (by simp)]
    dsimp only
    rw [acc_first, block_at, ← sum_first]
    simp
  | n + 1, hn, h5 => by
    have h0 : (n + 1) % 2 = 0 := by omega
    rw [outsAt0_A m c ⟨n + 1, hn⟩ h0 (by dsimp only; omega) h5]
    dsimp only
    rw [acc_first, block_at]
    dsimp only
    rw [h0, ← sum_first]
    simp

/-- What the last point along the depth leaves in the output block. -/
theorem out (c : Dev nD) (j : S256x1024.Idx) (n : ℕ) (hn : n < cfg0.N) (h5 : n % 2 = 1) :
    (outsAt0 m c n hn).1 j
      = ∑ k ∈ Finset.range 4096, term m c (256 * (n / 4) + (j 0).val) (1024 * (n / 2 % 2) + (j 1).val) k := by
  obtain ⟨p, rfl⟩ : ∃ p, n = p + 1 := ⟨n - 1, by omega⟩
  rw [outsAt0_B m c ⟨p + 1, hn⟩ (by dsimp only; omega) (by dsimp only; omega) h5]
  dsimp only
  rw [out_last]
  have ih := acc m c j p (Nat.lt_of_succ_lt hn) (by omega)
  have e1 : p % 2 + 1 = (p + 1) % 2 := by omega
  have e2 : p / 4 = (p + 1) / 4 := by omega
  have e3 : p / 2 % 2 = (p + 1) / 2 % 2 := by omega
  rw [e1, e2, e3] at ih
  show ((outsAt0 m c p _).2 j : EReal) + (k0_pay1 (F := Ideal) _ _ j : EReal) = _
  rw [ih, block_at]
  dsimp only
  rw [sum_next, h5]

/-- The result at an index: the whole sum over the depth. -/
theorem G_at (c : Dev nD) (i : S256x2048.Idx) :
    (Value.G2 m c i : EReal) = ∑ k : Fin 4096, A m c (ix2 k (i 0)) * B m c (ix2 k (i 1)) := by
  have hi0 : (i 0).val < 256 := (i 0).isLt
  have hi1 : (i 1).val < 2048 := (i 1).isLt
  have hp : Value.pt2Of i = 2 * (2 * ((i 0).val / 256) + (i 1).val / 1024) + 1 := by
    show 2 * (2 * ((i 0).val / 256 - 0) + 1 * ((i 1).val / 1024 - 0)) + 1 = _
    omega
  have hN : Value.pt2Of i < cfg0.N := lt_of_lt_of_eq (by omega) N_0.symm
  unfold Value.G2
  rw [dif_pos hN, ← Value.outsAt0_sweep m c (Value.pt2Of i) hN]
  have e := out m c (Value.loc2Of i) _ hN (by omega)
  have e0 : 256 * (Value.pt2Of i / 4) + (Value.loc2Of i 0).val = (i 0).val := by
    show 256 * (Value.pt2Of i / 4) + (i 0).val % 256 = _
    omega
  have e1 : 1024 * (Value.pt2Of i / 2 % 2) + (Value.loc2Of i 1).val = (i 1).val := by
    show 1024 * (Value.pt2Of i / 2 % 2) + (i 1).val % 1024 = _
    omega
  rw [e0, e1, ← sum_first] at e
  refine Eq.trans e ?_
  show (∑ k : Fin 4096, term m c (i 0).val (i 1).val k.val : EReal) = ∑ k : Fin 4096, A m c (ix2 k (i 0)) * B m c (ix2 k (i 1))
  refine Finset.sum_congr rfl fun k _ => ?_
  rw [at2_ix (A m c) k (i 0), at2_ix (B m c) k (i 1)]
  rfl

theorem algebraic : Cert.algebraic_DPleProjIdeal_DPleProjRefIdeal := by
  intro m ρ m' ρ' _ h
  refine ⟨fun c => Value.G2 m c, Value.run m ρ,
    (θ_run Cert.DPleProjRefIdeal.defs _ _).mono (fun r hr c => ⟨(hr c).1.trans ?_, (hr c).2⟩) (Cert.DPleProjRefIdeal.Value.run m' ρ')⟩
  obtain ⟨h0, h1⟩ := h c
  rw [h0, h1]
  funext i
  refine Eq.trans (Cert.DPleProjRefIdeal.Product.value_at (A m c) (B m c) i) (Eq.trans ?_ (G_at m c i).symm)
  exact Finset.sum_congr rfl fun k _ => mul_comm _ _

theorem defs_same : Cert.DPleProj.defs (F := Bits) = defs (F := Bits) := by chain_rfl
theorem main_same : Cert.DPleProj.main (F := Bits) = main (F := Bits) := by chain_rfl

theorem frame_kernel : Cert.quiescent_DPleProj := fun m ρ _ => by rw [defs_same, main_same]; exact Gen.frame (F := Bits) m ρ

theorem frame_ideal : Cert.quiescent_DPleProjIdeal := fun m ρ _ => Gen.frame (F := Ideal) m ρ

theorem frame_reference : Cert.quiescent_DPleProjRefIdeal := fun m ρ _ =>
  (θ_run Cert.DPleProjRefIdeal.defs _ _).mono (fun r h => ⟨fun c => (h c).2, sem_eq_zero_of_no_sems (by decide) r.2⟩)
    (Cert.DPleProjRefIdeal.Value.run (F := Ideal) m ρ)

end Cert.DPleProjIdeal.Product

end
-- ==== Proof.lean ====
/- The proof of the claims: the frames of every program, the kernel's values against the reference's, and each product's. -/
module

public import proofs.«01_k».proof.Defs
public import proofs.«01_k».proof.Proof.Gen.Kernel
public import proofs.«01_k».proof.Proof.ScanFrame
public import proofs.«01_k».proof.Proof.RefRun
public import proofs.«01_k».proof.Proof.ScanAlgebra
public import proofs.«01_k».proof.Proof.MmDInMain
public import proofs.«01_k».proof.Proof.MmDhMix
public import proofs.«01_k».proof.Proof.MmProjMain
public import proofs.«01_k».proof.Proof.MmDFfnUp
public import proofs.«01_k».proof.Proof.MmDhFfnG
public import proofs.«01_k».proof.Proof.MmDhFfnV
public import proofs.«01_k».proof.Proof.MmFfnUp
public import proofs.«01_k».proof.Proof.MmDAct
public import proofs.«01_k».proof.Proof.MmDFfnDown
public import proofs.«01_k».proof.Proof.MmFfnDown
public import proofs.«01_k».proof.Proof.MmBranchA
public import proofs.«01_k».proof.Proof.MmOutProj
public import proofs.«01_k».proof.Proof.MmDOn
public import proofs.«01_k».proof.Proof.MmDMerged
public import proofs.«01_k».proof.Proof.MmDBranchA
public import proofs.«01_k».proof.Proof.MmDWOut
public import proofs.«01_k».proof.Proof.MmBranchB
public import proofs.«01_k».proof.Proof.MmDSgu
public import proofs.«01_k».proof.Proof.MmDBranchB
public import proofs.«01_k».proof.Proof.MmPleProj
public import proofs.«01_k».proof.Proof.MmDPleProj
public import Idealize.ShloMosaic.Adequacy
public import Idealize.ShloMosaic.Init

@[expose] public section

noncomputable section

namespace Cert.Proof

open Idealize.ShloMosaic Idealize.SL.Sem Cert.Kernel

theorem main_same : Cert.Kernel.main (F := Bits) = Cert.KernelIdeal.main (F := Bits) := by chain_rfl

theorem defs_same : Cert.Kernel.defs (F := Bits) = Cert.KernelIdeal.defs (F := Bits) := by chain_rfl

theorem frame_kernel : Cert.quiescent_Kernel := fun m ρ _ =>
  Cert.KernelIdeal.Scan.frame_of (F := Bits) m defs_same main_same ρ

theorem frame_kernelIdeal : Cert.quiescent_KernelIdeal := fun m ρ _ => Cert.KernelIdeal.Scan.frame_any (F := Ideal) m ρ

theorem frame_reference : Cert.quiescent_ReferenceIdeal := fun m ρ _ =>
  (θ_run Cert.ReferenceIdeal.defs _ _).mono (fun _ h => ⟨fun c => ⟨(h.1 c Cert.ReferenceIdeal.main_arg0 (by decide)).trans (Cert.ReferenceIdeal.Scan.final_arg0 m c), (h.1 c Cert.ReferenceIdeal.main_arg1 (by decide)).trans (Cert.ReferenceIdeal.Scan.final_arg1 m c), (h.1 c Cert.ReferenceIdeal.main_arg2 (by decide)).trans (Cert.ReferenceIdeal.Scan.final_arg2 m c), (h.1 c Cert.ReferenceIdeal.main_arg3 (by decide)).trans (Cert.ReferenceIdeal.Scan.final_arg3 m c), (h.1 c Cert.ReferenceIdeal.main_arg4 (by decide)).trans (Cert.ReferenceIdeal.Scan.final_arg4 m c), (h.1 c Cert.ReferenceIdeal.main_arg5 (by decide)).trans (Cert.ReferenceIdeal.Scan.final_arg5 m c), (h.1 c Cert.ReferenceIdeal.main_arg6 (by decide)).trans (Cert.ReferenceIdeal.Scan.final_arg6 m c)⟩, h.2⟩)
    (Cert.ReferenceIdeal.Scan.run_main (F := Ideal) m ρ)

theorem claim : Cert.Claim :=
  ⟨Kernel.Gen.facts,
    KernelIdeal.Gen.facts,
    ReferenceIdeal.Gen.facts,
    DInMain.Gen.facts,
    DInMainIdeal.Gen.facts,
    DInMainRefIdeal.Gen.facts,
    DhMix.Gen.facts,
    DhMixIdeal.Gen.facts,
    DhMixRefIdeal.Gen.facts,
    ProjMain.Gen.facts,
    ProjMainIdeal.Gen.facts,
    ProjMainRefIdeal.Gen.facts,
    DFfnUp.Gen.facts,
    DFfnUpIdeal.Gen.facts,
    DFfnUpRefIdeal.Gen.facts,
    DhFfnG.Gen.facts,
    DhFfnGIdeal.Gen.facts,
    DhFfnGRefIdeal.Gen.facts,
    DhFfnV.Gen.facts,
    DhFfnVIdeal.Gen.facts,
    DhFfnVRefIdeal.Gen.facts,
    FfnUp.Gen.facts,
    FfnUpIdeal.Gen.facts,
    FfnUpRefIdeal.Gen.facts,
    DAct.Gen.facts,
    DActIdeal.Gen.facts,
    DActRefIdeal.Gen.facts,
    DFfnDown.Gen.facts,
    DFfnDownIdeal.Gen.facts,
    DFfnDownRefIdeal.Gen.facts,
    FfnDown.Gen.facts,
    FfnDownIdeal.Gen.facts,
    FfnDownRefIdeal.Gen.facts,
    BranchA.Gen.facts,
    BranchAIdeal.Gen.facts,
    BranchARefIdeal.Gen.facts,
    OutProj.Gen.facts,
    OutProjIdeal.Gen.facts,
    OutProjRefIdeal.Gen.facts,
    DOn.Gen.facts,
    DOnIdeal.Gen.facts,
    DOnRefIdeal.Gen.facts,
    DMerged.Gen.facts,
    DMergedIdeal.Gen.facts,
    DMergedRefIdeal.Gen.facts,
    DBranchA.Gen.facts,
    DBranchAIdeal.Gen.facts,
    DBranchARefIdeal.Gen.facts,
    DWOut.Gen.facts,
    DWOutIdeal.Gen.facts,
    DWOutRefIdeal.Gen.facts,
    BranchB.Gen.facts,
    BranchBIdeal.Gen.facts,
    BranchBRefIdeal.Gen.facts,
    DSgu.Gen.facts,
    DSguIdeal.Gen.facts,
    DSguRefIdeal.Gen.facts,
    DBranchB.Gen.facts,
    DBranchBIdeal.Gen.facts,
    DBranchBRefIdeal.Gen.facts,
    PleProj.Gen.facts,
    PleProjIdeal.Gen.facts,
    PleProjRefIdeal.Gen.facts,
    DPleProj.Gen.facts,
    DPleProjIdeal.Gen.facts,
    DPleProjRefIdeal.Gen.facts,
    ScanAlgebra.pre_facts,
    frame_kernel,
    frame_kernelIdeal,
    fun m ρ _ => frame_kernelIdeal m ρ trivial,
    frame_reference,
    fun m ρ _ => frame_reference m ρ trivial,
    DInMainIdeal.Product.frame_kernel,
    DInMainIdeal.Product.frame_ideal,
    DInMainIdeal.Product.frame_reference,
    DhMixIdeal.Product.frame_kernel,
    DhMixIdeal.Product.frame_ideal,
    DhMixIdeal.Product.frame_reference,
    ProjMainIdeal.Product.frame_kernel,
    ProjMainIdeal.Product.frame_ideal,
    ProjMainIdeal.Product.frame_reference,
    DFfnUpIdeal.Product.frame_kernel,
    DFfnUpIdeal.Product.frame_ideal,
    DFfnUpIdeal.Product.frame_reference,
    DhFfnGIdeal.Product.frame_kernel,
    DhFfnGIdeal.Product.frame_ideal,
    DhFfnGIdeal.Product.frame_reference,
    DhFfnVIdeal.Product.frame_kernel,
    DhFfnVIdeal.Product.frame_ideal,
    DhFfnVIdeal.Product.frame_reference,
    FfnUpIdeal.Product.frame_kernel,
    FfnUpIdeal.Product.frame_ideal,
    FfnUpIdeal.Product.frame_reference,
    DActIdeal.Product.frame_kernel,
    DActIdeal.Product.frame_ideal,
    DActIdeal.Product.frame_reference,
    DFfnDownIdeal.Product.frame_kernel,
    DFfnDownIdeal.Product.frame_ideal,
    DFfnDownIdeal.Product.frame_reference,
    FfnDownIdeal.Product.frame_kernel,
    FfnDownIdeal.Product.frame_ideal,
    FfnDownIdeal.Product.frame_reference,
    BranchAIdeal.Product.frame_kernel,
    BranchAIdeal.Product.frame_ideal,
    BranchAIdeal.Product.frame_reference,
    OutProjIdeal.Product.frame_kernel,
    OutProjIdeal.Product.frame_ideal,
    OutProjIdeal.Product.frame_reference,
    DOnIdeal.Product.frame_kernel,
    DOnIdeal.Product.frame_ideal,
    DOnIdeal.Product.frame_reference,
    DMergedIdeal.Product.frame_kernel,
    DMergedIdeal.Product.frame_ideal,
    DMergedIdeal.Product.frame_reference,
    DBranchAIdeal.Product.frame_kernel,
    DBranchAIdeal.Product.frame_ideal,
    DBranchAIdeal.Product.frame_reference,
    DWOutIdeal.Product.frame_kernel,
    DWOutIdeal.Product.frame_ideal,
    DWOutIdeal.Product.frame_reference,
    BranchBIdeal.Product.frame_kernel,
    BranchBIdeal.Product.frame_ideal,
    BranchBIdeal.Product.frame_reference,
    DSguIdeal.Product.frame_kernel,
    DSguIdeal.Product.frame_ideal,
    DSguIdeal.Product.frame_reference,
    DBranchBIdeal.Product.frame_kernel,
    DBranchBIdeal.Product.frame_ideal,
    DBranchBIdeal.Product.frame_reference,
    PleProjIdeal.Product.frame_kernel,
    PleProjIdeal.Product.frame_ideal,
    PleProjIdeal.Product.frame_reference,
    DPleProjIdeal.Product.frame_kernel,
    DPleProjIdeal.Product.frame_ideal,
    DPleProjIdeal.Product.frame_reference,
    trivial,
    ScanAlgebra.algebraic,
    trivial,
    DInMainIdeal.Product.algebraic,
    trivial,
    DhMixIdeal.Product.algebraic,
    trivial,
    ProjMainIdeal.Product.algebraic,
    trivial,
    DFfnUpIdeal.Product.algebraic,
    trivial,
    DhFfnGIdeal.Product.algebraic,
    trivial,
    DhFfnVIdeal.Product.algebraic,
    trivial,
    FfnUpIdeal.Product.algebraic,
    trivial,
    DActIdeal.Product.algebraic,
    trivial,
    DFfnDownIdeal.Product.algebraic,
    trivial,
    FfnDownIdeal.Product.algebraic,
    trivial,
    BranchAIdeal.Product.algebraic,
    trivial,
    OutProjIdeal.Product.algebraic,
    trivial,
    DOnIdeal.Product.algebraic,
    trivial,
    DMergedIdeal.Product.algebraic,
    trivial,
    DBranchAIdeal.Product.algebraic,
    trivial,
    DWOutIdeal.Product.algebraic,
    trivial,
    BranchBIdeal.Product.algebraic,
    trivial,
    DSguIdeal.Product.algebraic,
    trivial,
    DBranchBIdeal.Product.algebraic,
    trivial,
    PleProjIdeal.Product.algebraic,
    trivial,
    DPleProjIdeal.Product.algebraic⟩

end Cert.Proof

end
